-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8))) = (fun _ => 1#1)

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_mixer_finite [hPre_mixer_finite : Cert.Pre_mixer_finite.Facts] (m : (ℓ : Loc Cert.MixerIdeal.nD Cert.MixerIdeal.τ Cert.MixerIdeal.sig) → Buf (Elt Ideal) ℓ) : Prop :=
  ∀ c : Dev Cert.MixerIdeal.nD,
    (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15)) (m ((c.tc : Thread Cert.MixerIdeal.nD Cert.MixerIdeal.τ).loc Cert.MixerIdeal.main_arg16)) (m ((c.tc : Thread Cert.MixerIdeal.nD Cert.MixerIdeal.τ).loc Cert.MixerIdeal.main_arg17)) (m ((c.tc : Thread Cert.MixerIdeal.nD Cert.MixerIdeal.τ).loc Cert.MixerIdeal.main_arg18)) (m ((c.tc : Thread Cert.MixerIdeal.nD Cert.MixerIdeal.τ).loc Cert.MixerIdeal.main_arg19))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_mixer_finite [hPre_mixer_finite : Cert.Pre_mixer_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11)) (m ((c.tc : Thread Cert.MixerRefIdeal.nD Cert.MixerRefIdeal.τ).loc Cert.MixerRefIdeal.main_arg12)) (m ((c.tc : Thread Cert.MixerRefIdeal.nD Cert.MixerRefIdeal.τ).loc Cert.MixerRefIdeal.main_arg13)) (m ((c.tc : Thread Cert.MixerRefIdeal.nD Cert.MixerRefIdeal.τ).loc Cert.MixerRefIdeal.main_arg14)) (m ((c.tc : Thread Cert.MixerRefIdeal.nD Cert.MixerRefIdeal.τ).loc Cert.MixerRefIdeal.main_arg15)) (m ((c.tc : Thread Cert.MixerRefIdeal.nD Cert.MixerRefIdeal.τ).loc Cert.MixerRefIdeal.main_arg16)) (m ((c.tc : Thread Cert.MixerRefIdeal.nD Cert.MixerRefIdeal.τ).loc Cert.MixerRefIdeal.main_arg17)) (m ((c.tc : Thread Cert.MixerRefIdeal.nD Cert.MixerRefIdeal.τ).loc Cert.MixerRefIdeal.main_arg18)) (m ((c.tc : Thread Cert.MixerRefIdeal.nD Cert.MixerRefIdeal.τ).loc Cert.MixerRefIdeal.main_arg19))) = (fun _ => 1#1)

def Pre_Fore (m : (ℓ : Loc Cert.Fore.nD Cert.Fore.τ Cert.Fore.sig) → Buf (Elt Bits) ℓ) : Prop :=
  True

def Pre_ForeIdeal (m : (ℓ : Loc Cert.ForeIdeal.nD Cert.ForeIdeal.τ Cert.ForeIdeal.sig) → Buf (Elt Ideal) ℓ) : Prop :=
  True

def Pre_ForeRefIdeal (m : (ℓ : Loc Cert.ForeRefIdeal.nD Cert.ForeRefIdeal.τ Cert.ForeRefIdeal.sig) → Buf (Elt Ideal) ℓ) : Prop :=
  True

def Pre_Prod (m : (ℓ : Loc Cert.Prod.nD Cert.Prod.τ Cert.Prod.sig) → Buf (Elt Bits) ℓ) : Prop :=
  True

def Pre_ProdIdeal (m : (ℓ : Loc Cert.ProdIdeal.nD Cert.ProdIdeal.τ Cert.ProdIdeal.sig) → Buf (Elt Ideal) ℓ) : Prop :=
  True

def Pre_ProdRefIdeal (m : (ℓ : Loc Cert.ProdRefIdeal.nD Cert.ProdRefIdeal.τ Cert.ProdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15)
      ∧ r.2.mem ((c.tc : Thread Cert.Mixer.nD Cert.Mixer.τ).loc Cert.Mixer.main_arg16) = m ((c.tc : Thread Cert.Mixer.nD Cert.Mixer.τ).loc Cert.Mixer.main_arg16)
      ∧ r.2.mem ((c.tc : Thread Cert.Mixer.nD Cert.Mixer.τ).loc Cert.Mixer.main_arg17) = m ((c.tc : Thread Cert.Mixer.nD Cert.Mixer.τ).loc Cert.Mixer.main_arg17)
      ∧ r.2.mem ((c.tc : Thread Cert.Mixer.nD Cert.Mixer.τ).loc Cert.Mixer.main_arg18) = m ((c.tc : Thread Cert.Mixer.nD Cert.Mixer.τ).loc Cert.Mixer.main_arg18)
      ∧ r.2.mem ((c.tc : Thread Cert.Mixer.nD Cert.Mixer.τ).loc Cert.Mixer.main_arg19) = m ((c.tc : Thread Cert.Mixer.nD Cert.Mixer.τ).loc Cert.Mixer.main_arg19))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
      ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
      ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18)
      ∧ r.2.mem ((c.tc : Thread Cert.MixerIdeal.nD Cert.MixerIdeal.τ).loc Cert.MixerIdeal.main_arg19) = m ((c.tc : Thread Cert.MixerIdeal.nD Cert.MixerIdeal.τ).loc Cert.MixerIdeal.main_arg19))
      ∧ r.2.sem = fun _ => 0)

def quiescent_MixerIdeal_pre_mixer_finite [hMixerIdeal : Cert.MixerIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_mixer_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
      ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
      ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18)
      ∧ r.2.mem ((c.tc : Thread Cert.MixerIdeal.nD Cert.MixerIdeal.τ).loc Cert.MixerIdeal.main_arg19) = m ((c.tc : Thread Cert.MixerIdeal.nD Cert.MixerIdeal.τ).loc Cert.MixerIdeal.main_arg19))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15)
      ∧ r.2.mem ((c.tc : Thread Cert.MixerRefIdeal.nD Cert.MixerRefIdeal.τ).loc Cert.MixerRefIdeal.main_arg16) = m ((c.tc : Thread Cert.MixerRefIdeal.nD Cert.MixerRefIdeal.τ).loc Cert.MixerRefIdeal.main_arg16)
      ∧ r.2.mem ((c.tc : Thread Cert.MixerRefIdeal.nD Cert.MixerRefIdeal.τ).loc Cert.MixerRefIdeal.main_arg17) = m ((c.tc : Thread Cert.MixerRefIdeal.nD Cert.MixerRefIdeal.τ).loc Cert.MixerRefIdeal.main_arg17)
      ∧ r.2.mem ((c.tc : Thread Cert.MixerRefIdeal.nD Cert.MixerRefIdeal.τ).loc Cert.MixerRefIdeal.main_arg18) = m ((c.tc : Thread Cert.MixerRefIdeal.nD Cert.MixerRefIdeal.τ).loc Cert.MixerRefIdeal.main_arg18)
      ∧ r.2.mem ((c.tc : Thread Cert.MixerRefIdeal.nD Cert.MixerRefIdeal.τ).loc Cert.MixerRefIdeal.main_arg19) = m ((c.tc : Thread Cert.MixerRefIdeal.nD Cert.MixerRefIdeal.τ).loc Cert.MixerRefIdeal.main_arg19))
      ∧ r.2.sem = fun _ => 0)

def quiescent_MixerRefIdeal_pre_mixer_finite [hMixerRefIdeal : Cert.MixerRefIdeal.Facts] [hPre_mixer_finite : Cert.Pre_mixer_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_mixer_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15)
      ∧ r.2.mem ((c.tc : Thread Cert.MixerRefIdeal.nD Cert.MixerRefIdeal.τ).loc Cert.MixerRefIdeal.main_arg16) = m ((c.tc : Thread Cert.MixerRefIdeal.nD Cert.MixerRefIdeal.τ).loc Cert.MixerRefIdeal.main_arg16)
      ∧ r.2.mem ((c.tc : Thread Cert.MixerRefIdeal.nD Cert.MixerRefIdeal.τ).loc Cert.MixerRefIdeal.main_arg17) = m ((c.tc : Thread Cert.MixerRefIdeal.nD Cert.MixerRefIdeal.τ).loc Cert.MixerRefIdeal.main_arg17)
      ∧ r.2.mem ((c.tc : Thread Cert.MixerRefIdeal.nD Cert.MixerRefIdeal.τ).loc Cert.MixerRefIdeal.main_arg18) = m ((c.tc : Thread Cert.MixerRefIdeal.nD Cert.MixerRefIdeal.τ).loc Cert.MixerRefIdeal.main_arg18)
      ∧ r.2.mem ((c.tc : Thread Cert.MixerRefIdeal.nD Cert.MixerRefIdeal.τ).loc Cert.MixerRefIdeal.main_arg19) = m ((c.tc : Thread Cert.MixerRefIdeal.nD Cert.MixerRefIdeal.τ).loc Cert.MixerRefIdeal.main_arg19))
      ∧ r.2.sem = fun _ => 0)

def quiescent_Fore [hFore : Cert.Fore.Facts] : Prop :=
  ∀ (m : (ℓ : Loc Cert.Fore.nD Cert.Fore.τ Cert.Fore.sig) → Buf (Elt Bits) ℓ) (g : Dev Cert.Fore.nD → PrngReg), Pre_Fore m →
    θ_run (Cert.Fore.defs (F := Bits)) (onTc (τ := Cert.Fore.τ) (Cert.Fore.main (F := Bits))) ⟨m, fun _ => 0, g⟩ (fun r => (∀ c : Dev Cert.Fore.nD,
      r.2.mem ((c.tc : Thread Cert.Fore.nD Cert.Fore.τ).loc Cert.Fore.main_arg0) = m ((c.tc : Thread Cert.Fore.nD Cert.Fore.τ).loc Cert.Fore.main_arg0)
      ∧ r.2.mem ((c.tc : Thread Cert.Fore.nD Cert.Fore.τ).loc Cert.Fore.main_arg1) = m ((c.tc : Thread Cert.Fore.nD Cert.Fore.τ).loc Cert.Fore.main_arg1)
      ∧ r.2.mem ((c.tc : Thread Cert.Fore.nD Cert.Fore.τ).loc Cert.Fore.main_arg2) = m ((c.tc : Thread Cert.Fore.nD Cert.Fore.τ).loc Cert.Fore.main_arg2)
      ∧ r.2.mem ((c.tc : Thread Cert.Fore.nD Cert.Fore.τ).loc Cert.Fore.main_arg3) = m ((c.tc : Thread Cert.Fore.nD Cert.Fore.τ).loc Cert.Fore.main_arg3)
      ∧ r.2.mem ((c.tc : Thread Cert.Fore.nD Cert.Fore.τ).loc Cert.Fore.main_arg4) = m ((c.tc : Thread Cert.Fore.nD Cert.Fore.τ).loc Cert.Fore.main_arg4)
      ∧ r.2.mem ((c.tc : Thread Cert.Fore.nD Cert.Fore.τ).loc Cert.Fore.main_arg5) = m ((c.tc : Thread Cert.Fore.nD Cert.Fore.τ).loc Cert.Fore.main_arg5)
      ∧ r.2.mem ((c.tc : Thread Cert.Fore.nD Cert.Fore.τ).loc Cert.Fore.main_arg6) = m ((c.tc : Thread Cert.Fore.nD Cert.Fore.τ).loc Cert.Fore.main_arg6)
      ∧ r.2.mem ((c.tc : Thread Cert.Fore.nD Cert.Fore.τ).loc Cert.Fore.main_arg7) = m ((c.tc : Thread Cert.Fore.nD Cert.Fore.τ).loc Cert.Fore.main_arg7)
      ∧ r.2.mem ((c.tc : Thread Cert.Fore.nD Cert.Fore.τ).loc Cert.Fore.main_arg8) = m ((c.tc : Thread Cert.Fore.nD Cert.Fore.τ).loc Cert.Fore.main_arg8)
      ∧ r.2.mem ((c.tc : Thread Cert.Fore.nD Cert.Fore.τ).loc Cert.Fore.main_arg9) = m ((c.tc : Thread Cert.Fore.nD Cert.Fore.τ).loc Cert.Fore.main_arg9)
      ∧ r.2.mem ((c.tc : Thread Cert.Fore.nD Cert.Fore.τ).loc Cert.Fore.main_arg10) = m ((c.tc : Thread Cert.Fore.nD Cert.Fore.τ).loc Cert.Fore.main_arg10)
      ∧ r.2.mem ((c.tc : Thread Cert.Fore.nD Cert.Fore.τ).loc Cert.Fore.main_arg11) = m ((c.tc : Thread Cert.Fore.nD Cert.Fore.τ).loc Cert.Fore.main_arg11)
      ∧ r.2.mem ((c.tc : Thread Cert.Fore.nD Cert.Fore.τ).loc Cert.Fore.main_arg12) = m ((c.tc : Thread Cert.Fore.nD Cert.Fore.τ).loc Cert.Fore.main_arg12)
      ∧ r.2.mem ((c.tc : Thread Cert.Fore.nD Cert.Fore.τ).loc Cert.Fore.main_arg13) = m ((c.tc : Thread Cert.Fore.nD Cert.Fore.τ).loc Cert.Fore.main_arg13)
      ∧ r.2.mem ((c.tc : Thread Cert.Fore.nD Cert.Fore.τ).loc Cert.Fore.main_arg14) = m ((c.tc : Thread Cert.Fore.nD Cert.Fore.τ).loc Cert.Fore.main_arg14)
      ∧ r.2.mem ((c.tc : Thread Cert.Fore.nD Cert.Fore.τ).loc Cert.Fore.main_arg15) = m ((c.tc : Thread Cert.Fore.nD Cert.Fore.τ).loc Cert.Fore.main_arg15))
      ∧ r.2.sem = fun _ => 0)

def quiescent_ForeIdeal [hForeIdeal : Cert.ForeIdeal.Facts] : Prop :=
  ∀ (m : (ℓ : Loc Cert.ForeIdeal.nD Cert.ForeIdeal.τ Cert.ForeIdeal.sig) → Buf (Elt Ideal) ℓ) (g : Dev Cert.ForeIdeal.nD → PrngReg), Pre_ForeIdeal m →
    θ_run (Cert.ForeIdeal.defs (F := Ideal)) (onTc (τ := Cert.ForeIdeal.τ) (Cert.ForeIdeal.main (F := Ideal))) ⟨m, fun _ => 0, g⟩ (fun r => (∀ c : Dev Cert.ForeIdeal.nD,
      r.2.mem ((c.tc : Thread Cert.ForeIdeal.nD Cert.ForeIdeal.τ).loc Cert.ForeIdeal.main_arg0) = m ((c.tc : Thread Cert.ForeIdeal.nD Cert.ForeIdeal.τ).loc Cert.ForeIdeal.main_arg0)
      ∧ r.2.mem ((c.tc : Thread Cert.ForeIdeal.nD Cert.ForeIdeal.τ).loc Cert.ForeIdeal.main_arg1) = m ((c.tc : Thread Cert.ForeIdeal.nD Cert.ForeIdeal.τ).loc Cert.ForeIdeal.main_arg1)
      ∧ r.2.mem ((c.tc : Thread Cert.ForeIdeal.nD Cert.ForeIdeal.τ).loc Cert.ForeIdeal.main_arg2) = m ((c.tc : Thread Cert.ForeIdeal.nD Cert.ForeIdeal.τ).loc Cert.ForeIdeal.main_arg2)
      ∧ r.2.mem ((c.tc : Thread Cert.ForeIdeal.nD Cert.ForeIdeal.τ).loc Cert.ForeIdeal.main_arg3) = m ((c.tc : Thread Cert.ForeIdeal.nD Cert.ForeIdeal.τ).loc Cert.ForeIdeal.main_arg3)
      ∧ r.2.mem ((c.tc : Thread Cert.ForeIdeal.nD Cert.ForeIdeal.τ).loc Cert.ForeIdeal.main_arg4) = m ((c.tc : Thread Cert.ForeIdeal.nD Cert.ForeIdeal.τ).loc Cert.ForeIdeal.main_arg4)
      ∧ r.2.mem ((c.tc : Thread Cert.ForeIdeal.nD Cert.ForeIdeal.τ).loc Cert.ForeIdeal.main_arg5) = m ((c.tc : Thread Cert.ForeIdeal.nD Cert.ForeIdeal.τ).loc Cert.ForeIdeal.main_arg5)
      ∧ r.2.mem ((c.tc : Thread Cert.ForeIdeal.nD Cert.ForeIdeal.τ).loc Cert.ForeIdeal.main_arg6) = m ((c.tc : Thread Cert.ForeIdeal.nD Cert.ForeIdeal.τ).loc Cert.ForeIdeal.main_arg6)
      ∧ r.2.mem ((c.tc : Thread Cert.ForeIdeal.nD Cert.ForeIdeal.τ).loc Cert.ForeIdeal.main_arg7) = m ((c.tc : Thread Cert.ForeIdeal.nD Cert.ForeIdeal.τ).loc Cert.ForeIdeal.main_arg7)
      ∧ r.2.mem ((c.tc : Thread Cert.ForeIdeal.nD Cert.ForeIdeal.τ).loc Cert.ForeIdeal.main_arg8) = m ((c.tc : Thread Cert.ForeIdeal.nD Cert.ForeIdeal.τ).loc Cert.ForeIdeal.main_arg8)
      ∧ r.2.mem ((c.tc : Thread Cert.ForeIdeal.nD Cert.ForeIdeal.τ).loc Cert.ForeIdeal.main_arg9) = m ((c.tc : Thread Cert.ForeIdeal.nD Cert.ForeIdeal.τ).loc Cert.ForeIdeal.main_arg9)
      ∧ r.2.mem ((c.tc : Thread Cert.ForeIdeal.nD Cert.ForeIdeal.τ).loc Cert.ForeIdeal.main_arg10) = m ((c.tc : Thread Cert.ForeIdeal.nD Cert.ForeIdeal.τ).loc Cert.ForeIdeal.main_arg10)
      ∧ r.2.mem ((c.tc : Thread Cert.ForeIdeal.nD Cert.ForeIdeal.τ).loc Cert.ForeIdeal.main_arg11) = m ((c.tc : Thread Cert.ForeIdeal.nD Cert.ForeIdeal.τ).loc Cert.ForeIdeal.main_arg11)
      ∧ r.2.mem ((c.tc : Thread Cert.ForeIdeal.nD Cert.ForeIdeal.τ).loc Cert.ForeIdeal.main_arg12) = m ((c.tc : Thread Cert.ForeIdeal.nD Cert.ForeIdeal.τ).loc Cert.ForeIdeal.main_arg12)
      ∧ r.2.mem ((c.tc : Thread Cert.ForeIdeal.nD Cert.ForeIdeal.τ).loc Cert.ForeIdeal.main_arg13) = m ((c.tc : Thread Cert.ForeIdeal.nD Cert.ForeIdeal.τ).loc Cert.ForeIdeal.main_arg13)
      ∧ r.2.mem ((c.tc : Thread Cert.ForeIdeal.nD Cert.ForeIdeal.τ).loc Cert.ForeIdeal.main_arg14) = m ((c.tc : Thread Cert.ForeIdeal.nD Cert.ForeIdeal.τ).loc Cert.ForeIdeal.main_arg14)
      ∧ r.2.mem ((c.tc : Thread Cert.ForeIdeal.nD Cert.ForeIdeal.τ).loc Cert.ForeIdeal.main_arg15) = m ((c.tc : Thread Cert.ForeIdeal.nD Cert.ForeIdeal.τ).loc Cert.ForeIdeal.main_arg15))
      ∧ r.2.sem = fun _ => 0)

def quiescent_ForeRefIdeal [hForeRefIdeal : Cert.ForeRefIdeal.Facts] : Prop :=
  ∀ (m : (ℓ : Loc Cert.ForeRefIdeal.nD Cert.ForeRefIdeal.τ Cert.ForeRefIdeal.sig) → Buf (Elt Ideal) ℓ) (g : Dev Cert.ForeRefIdeal.nD → PrngReg), Pre_ForeRefIdeal m →
    θ_run (Cert.ForeRefIdeal.defs (F := Ideal)) (onTc (τ := Cert.ForeRefIdeal.τ) (Cert.ForeRefIdeal.main (F := Ideal))) ⟨m, fun _ => 0, g⟩ (fun r => (∀ c : Dev Cert.ForeRefIdeal.nD,
      r.2.mem ((c.tc : Thread Cert.ForeRefIdeal.nD Cert.ForeRefIdeal.τ).loc Cert.ForeRefIdeal.main_arg0) = m ((c.tc : Thread Cert.ForeRefIdeal.nD Cert.ForeRefIdeal.τ).loc Cert.ForeRefIdeal.main_arg0)
      ∧ r.2.mem ((c.tc : Thread Cert.ForeRefIdeal.nD Cert.ForeRefIdeal.τ).loc Cert.ForeRefIdeal.main_arg1) = m ((c.tc : Thread Cert.ForeRefIdeal.nD Cert.ForeRefIdeal.τ).loc Cert.ForeRefIdeal.main_arg1)
      ∧ r.2.mem ((c.tc : Thread Cert.ForeRefIdeal.nD Cert.ForeRefIdeal.τ).loc Cert.ForeRefIdeal.main_arg2) = m ((c.tc : Thread Cert.ForeRefIdeal.nD Cert.ForeRefIdeal.τ).loc Cert.ForeRefIdeal.main_arg2)
      ∧ r.2.mem ((c.tc : Thread Cert.ForeRefIdeal.nD Cert.ForeRefIdeal.τ).loc Cert.ForeRefIdeal.main_arg3) = m ((c.tc : Thread Cert.ForeRefIdeal.nD Cert.ForeRefIdeal.τ).loc Cert.ForeRefIdeal.main_arg3)
      ∧ r.2.mem ((c.tc : Thread Cert.ForeRefIdeal.nD Cert.ForeRefIdeal.τ).loc Cert.ForeRefIdeal.main_arg4) = m ((c.tc : Thread Cert.ForeRefIdeal.nD Cert.ForeRefIdeal.τ).loc Cert.ForeRefIdeal.main_arg4)
      ∧ r.2.mem ((c.tc : Thread Cert.ForeRefIdeal.nD Cert.ForeRefIdeal.τ).loc Cert.ForeRefIdeal.main_arg5) = m ((c.tc : Thread Cert.ForeRefIdeal.nD Cert.ForeRefIdeal.τ).loc Cert.ForeRefIdeal.main_arg5)
      ∧ r.2.mem ((c.tc : Thread Cert.ForeRefIdeal.nD Cert.ForeRefIdeal.τ).loc Cert.ForeRefIdeal.main_arg6) = m ((c.tc : Thread Cert.ForeRefIdeal.nD Cert.ForeRefIdeal.τ).loc Cert.ForeRefIdeal.main_arg6)
      ∧ r.2.mem ((c.tc : Thread Cert.ForeRefIdeal.nD Cert.ForeRefIdeal.τ).loc Cert.ForeRefIdeal.main_arg7) = m ((c.tc : Thread Cert.ForeRefIdeal.nD Cert.ForeRefIdeal.τ).loc Cert.ForeRefIdeal.main_arg7)
      ∧ r.2.mem ((c.tc : Thread Cert.ForeRefIdeal.nD Cert.ForeRefIdeal.τ).loc Cert.ForeRefIdeal.main_arg8) = m ((c.tc : Thread Cert.ForeRefIdeal.nD Cert.ForeRefIdeal.τ).loc Cert.ForeRefIdeal.main_arg8)
      ∧ r.2.mem ((c.tc : Thread Cert.ForeRefIdeal.nD Cert.ForeRefIdeal.τ).loc Cert.ForeRefIdeal.main_arg9) = m ((c.tc : Thread Cert.ForeRefIdeal.nD Cert.ForeRefIdeal.τ).loc Cert.ForeRefIdeal.main_arg9)
      ∧ r.2.mem ((c.tc : Thread Cert.ForeRefIdeal.nD Cert.ForeRefIdeal.τ).loc Cert.ForeRefIdeal.main_arg10) = m ((c.tc : Thread Cert.ForeRefIdeal.nD Cert.ForeRefIdeal.τ).loc Cert.ForeRefIdeal.main_arg10)
      ∧ r.2.mem ((c.tc : Thread Cert.ForeRefIdeal.nD Cert.ForeRefIdeal.τ).loc Cert.ForeRefIdeal.main_arg11) = m ((c.tc : Thread Cert.ForeRefIdeal.nD Cert.ForeRefIdeal.τ).loc Cert.ForeRefIdeal.main_arg11)
      ∧ r.2.mem ((c.tc : Thread Cert.ForeRefIdeal.nD Cert.ForeRefIdeal.τ).loc Cert.ForeRefIdeal.main_arg12) = m ((c.tc : Thread Cert.ForeRefIdeal.nD Cert.ForeRefIdeal.τ).loc Cert.ForeRefIdeal.main_arg12)
      ∧ r.2.mem ((c.tc : Thread Cert.ForeRefIdeal.nD Cert.ForeRefIdeal.τ).loc Cert.ForeRefIdeal.main_arg13) = m ((c.tc : Thread Cert.ForeRefIdeal.nD Cert.ForeRefIdeal.τ).loc Cert.ForeRefIdeal.main_arg13)
      ∧ r.2.mem ((c.tc : Thread Cert.ForeRefIdeal.nD Cert.ForeRefIdeal.τ).loc Cert.ForeRefIdeal.main_arg14) = m ((c.tc : Thread Cert.ForeRefIdeal.nD Cert.ForeRefIdeal.τ).loc Cert.ForeRefIdeal.main_arg14)
      ∧ r.2.mem ((c.tc : Thread Cert.ForeRefIdeal.nD Cert.ForeRefIdeal.τ).loc Cert.ForeRefIdeal.main_arg15) = m ((c.tc : Thread Cert.ForeRefIdeal.nD Cert.ForeRefIdeal.τ).loc Cert.ForeRefIdeal.main_arg15))
      ∧ r.2.sem = fun _ => 0)

def quiescent_Prod [hProd : Cert.Prod.Facts] : Prop :=
  ∀ (m : (ℓ : Loc Cert.Prod.nD Cert.Prod.τ Cert.Prod.sig) → Buf (Elt Bits) ℓ) (g : Dev Cert.Prod.nD → PrngReg), Pre_Prod m →
    θ_run (Cert.Prod.defs (F := Bits)) (onTc (τ := Cert.Prod.τ) (Cert.Prod.main (F := Bits))) ⟨m, fun _ => 0, g⟩ (fun r => (∀ c : Dev Cert.Prod.nD,
      r.2.mem ((c.tc : Thread Cert.Prod.nD Cert.Prod.τ).loc Cert.Prod.main_arg0) = m ((c.tc : Thread Cert.Prod.nD Cert.Prod.τ).loc Cert.Prod.main_arg0)
      ∧ r.2.mem ((c.tc : Thread Cert.Prod.nD Cert.Prod.τ).loc Cert.Prod.main_arg1) = m ((c.tc : Thread Cert.Prod.nD Cert.Prod.τ).loc Cert.Prod.main_arg1)
      ∧ r.2.mem ((c.tc : Thread Cert.Prod.nD Cert.Prod.τ).loc Cert.Prod.main_arg2) = m ((c.tc : Thread Cert.Prod.nD Cert.Prod.τ).loc Cert.Prod.main_arg2))
      ∧ r.2.sem = fun _ => 0)

def quiescent_ProdIdeal [hProdIdeal : Cert.ProdIdeal.Facts] : Prop :=
  ∀ (m : (ℓ : Loc Cert.ProdIdeal.nD Cert.ProdIdeal.τ Cert.ProdIdeal.sig) → Buf (Elt Ideal) ℓ) (g : Dev Cert.ProdIdeal.nD → PrngReg), Pre_ProdIdeal m →
    θ_run (Cert.ProdIdeal.defs (F := Ideal)) (onTc (τ := Cert.ProdIdeal.τ) (Cert.ProdIdeal.main (F := Ideal))) ⟨m, fun _ => 0, g⟩ (fun r => (∀ c : Dev Cert.ProdIdeal.nD,
      r.2.mem ((c.tc : Thread Cert.ProdIdeal.nD Cert.ProdIdeal.τ).loc Cert.ProdIdeal.main_arg0) = m ((c.tc : Thread Cert.ProdIdeal.nD Cert.ProdIdeal.τ).loc Cert.ProdIdeal.main_arg0)
      ∧ r.2.mem ((c.tc : Thread Cert.ProdIdeal.nD Cert.ProdIdeal.τ).loc Cert.ProdIdeal.main_arg1) = m ((c.tc : Thread Cert.ProdIdeal.nD Cert.ProdIdeal.τ).loc Cert.ProdIdeal.main_arg1)
      ∧ r.2.mem ((c.tc : Thread Cert.ProdIdeal.nD Cert.ProdIdeal.τ).loc Cert.ProdIdeal.main_arg2) = m ((c.tc : Thread Cert.ProdIdeal.nD Cert.ProdIdeal.τ).loc Cert.ProdIdeal.main_arg2))
      ∧ r.2.sem = fun _ => 0)

def quiescent_ProdRefIdeal [hProdRefIdeal : Cert.ProdRefIdeal.Facts] : Prop :=
  ∀ (m : (ℓ : Loc Cert.ProdRefIdeal.nD Cert.ProdRefIdeal.τ Cert.ProdRefIdeal.sig) → Buf (Elt Ideal) ℓ) (g : Dev Cert.ProdRefIdeal.nD → PrngReg), Pre_ProdRefIdeal m →
    θ_run (Cert.ProdRefIdeal.defs (F := Ideal)) (onTc (τ := Cert.ProdRefIdeal.τ) (Cert.ProdRefIdeal.main (F := Ideal))) ⟨m, fun _ => 0, g⟩ (fun r => (∀ c : Dev Cert.ProdRefIdeal.nD,
      r.2.mem ((c.tc : Thread Cert.ProdRefIdeal.nD Cert.ProdRefIdeal.τ).loc Cert.ProdRefIdeal.main_arg0) = m ((c.tc : Thread Cert.ProdRefIdeal.nD Cert.ProdRefIdeal.τ).loc Cert.ProdRefIdeal.main_arg0)
      ∧ r.2.mem ((c.tc : Thread Cert.ProdRefIdeal.nD Cert.ProdRefIdeal.τ).loc Cert.ProdRefIdeal.main_arg1) = m ((c.tc : Thread Cert.ProdRefIdeal.nD Cert.ProdRefIdeal.τ).loc Cert.ProdRefIdeal.main_arg1)
      ∧ r.2.mem ((c.tc : Thread Cert.ProdRefIdeal.nD Cert.ProdRefIdeal.τ).loc Cert.ProdRefIdeal.main_arg2) = m ((c.tc : Thread Cert.ProdRefIdeal.nD Cert.ProdRefIdeal.τ).loc Cert.ProdRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v21)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v21) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v19) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Mlp_MlpIdeal : Prop :=
  True

def algebraic_MlpIdeal_MlpRefIdeal_pre_mlp_finite [hMlpIdeal : Cert.MlpIdeal.Facts] [hMlpRefIdeal : Cert.MlpRefIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)) →
    ∃ (v0 : (c : Dev Cert.MlpIdeal.nD) → Buf (Elt Ideal) ((c.tc : Thread Cert.MlpIdeal.nD Cert.MlpIdeal.τ).loc Cert.MlpIdeal.main_v15_0)) (v1 : (c : Dev Cert.MlpIdeal.nD) → Buf (Elt Ideal) ((c.tc : Thread Cert.MlpIdeal.nD Cert.MlpIdeal.τ).loc Cert.MlpIdeal.main_v15_1)) (v2 : (c : Dev Cert.MlpIdeal.nD) → Buf (Elt Ideal) ((c.tc : Thread Cert.MlpIdeal.nD Cert.MlpIdeal.τ).loc Cert.MlpIdeal.main_v15_2)) (v3 : (c : Dev Cert.MlpIdeal.nD) → Buf (Elt Ideal) ((c.tc : Thread Cert.MlpIdeal.nD Cert.MlpIdeal.τ).loc Cert.MlpIdeal.main_v15_3)) (v4 : (c : Dev Cert.MlpIdeal.nD) → Buf (Elt Ideal) ((c.tc : Thread Cert.MlpIdeal.nD Cert.MlpIdeal.τ).loc Cert.MlpIdeal.main_v15_4)) (v5 : (c : Dev Cert.MlpIdeal.nD) → Buf (Elt Ideal) ((c.tc : Thread Cert.MlpIdeal.nD Cert.MlpIdeal.τ).loc Cert.MlpIdeal.main_v15_5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v15_0) = v0 c
          ∧ r.2.mem ((c.tc : Thread Cert.MlpIdeal.nD Cert.MlpIdeal.τ).loc Cert.MlpIdeal.main_v15_1) = v1 c
          ∧ r.2.mem ((c.tc : Thread Cert.MlpIdeal.nD Cert.MlpIdeal.τ).loc Cert.MlpIdeal.main_v15_2) = v2 c
          ∧ r.2.mem ((c.tc : Thread Cert.MlpIdeal.nD Cert.MlpIdeal.τ).loc Cert.MlpIdeal.main_v15_3) = v3 c
          ∧ r.2.mem ((c.tc : Thread Cert.MlpIdeal.nD Cert.MlpIdeal.τ).loc Cert.MlpIdeal.main_v15_4) = v4 c
          ∧ r.2.mem ((c.tc : Thread Cert.MlpIdeal.nD Cert.MlpIdeal.τ).loc Cert.MlpIdeal.main_v15_5) = v5 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v105) = v0 c
          ∧ r.2.mem ((c.tc : Thread Cert.MlpRefIdeal.nD Cert.MlpRefIdeal.τ).loc Cert.MlpRefIdeal.main_v106) = v1 c
          ∧ r.2.mem ((c.tc : Thread Cert.MlpRefIdeal.nD Cert.MlpRefIdeal.τ).loc Cert.MlpRefIdeal.main_v107) = v2 c
          ∧ r.2.mem ((c.tc : Thread Cert.MlpRefIdeal.nD Cert.MlpRefIdeal.τ).loc Cert.MlpRefIdeal.main_v109) = v3 c
          ∧ r.2.mem ((c.tc : Thread Cert.MlpRefIdeal.nD Cert.MlpRefIdeal.τ).loc Cert.MlpRefIdeal.main_v102) = v4 c
          ∧ r.2.mem ((c.tc : Thread Cert.MlpRefIdeal.nD Cert.MlpRefIdeal.τ).loc Cert.MlpRefIdeal.main_v110) = v5 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)) →
    ∃ (v0 : (c : Dev Cert.OddIdeal.nD) → Buf (Elt Ideal) ((c.tc : Thread Cert.OddIdeal.nD Cert.OddIdeal.τ).loc Cert.OddIdeal.main_v18_0)) (v1 : (c : Dev Cert.OddIdeal.nD) → Buf (Elt Ideal) ((c.tc : Thread Cert.OddIdeal.nD Cert.OddIdeal.τ).loc Cert.OddIdeal.main_v18_1)) (v2 : (c : Dev Cert.OddIdeal.nD) → Buf (Elt Ideal) ((c.tc : Thread Cert.OddIdeal.nD Cert.OddIdeal.τ).loc Cert.OddIdeal.main_v18_2)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v18_0) = v0 c
          ∧ r.2.mem ((c.tc : Thread Cert.OddIdeal.nD Cert.OddIdeal.τ).loc Cert.OddIdeal.main_v18_1) = v1 c
          ∧ r.2.mem ((c.tc : Thread Cert.OddIdeal.nD Cert.OddIdeal.τ).loc Cert.OddIdeal.main_v18_2) = v2 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v29) = v0 c
          ∧ r.2.mem ((c.tc : Thread Cert.OddRefIdeal.nD Cert.OddRefIdeal.τ).loc Cert.OddRefIdeal.main_v31) = v1 c
          ∧ r.2.mem ((c.tc : Thread Cert.OddRefIdeal.nD Cert.OddRefIdeal.τ).loc Cert.OddRefIdeal.main_v32) = v2 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3))

def preserves_Even_EvenIdeal : Prop :=
  True

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)
      ∧ m' ((c.tc : Thread Cert.EvenRefIdeal.nD Cert.EvenRefIdeal.τ).loc Cert.EvenRefIdeal.main_arg3) = m ((c.tc : Thread Cert.EvenIdeal.nD Cert.EvenIdeal.τ).loc Cert.EvenIdeal.main_arg3)
      ∧ m' ((c.tc : Thread Cert.EvenRefIdeal.nD Cert.EvenRefIdeal.τ).loc Cert.EvenRefIdeal.main_arg4) = m ((c.tc : Thread Cert.EvenIdeal.nD Cert.EvenIdeal.τ).loc Cert.EvenIdeal.main_arg4)) →
    ∃ (v0 : (c : Dev Cert.EvenIdeal.nD) → Buf (Elt Ideal) ((c.tc : Thread Cert.EvenIdeal.nD Cert.EvenIdeal.τ).loc Cert.EvenIdeal.main_v19_0)) (v1 : (c : Dev Cert.EvenIdeal.nD) → Buf (Elt Ideal) ((c.tc : Thread Cert.EvenIdeal.nD Cert.EvenIdeal.τ).loc Cert.EvenIdeal.main_v19_1)) (v2 : (c : Dev Cert.EvenIdeal.nD) → Buf (Elt Ideal) ((c.tc : Thread Cert.EvenIdeal.nD Cert.EvenIdeal.τ).loc Cert.EvenIdeal.main_v19_2)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v19_0) = v0 c
          ∧ r.2.mem ((c.tc : Thread Cert.EvenIdeal.nD Cert.EvenIdeal.τ).loc Cert.EvenIdeal.main_v19_1) = v1 c
          ∧ r.2.mem ((c.tc : Thread Cert.EvenIdeal.nD Cert.EvenIdeal.τ).loc Cert.EvenIdeal.main_v19_2) = v2 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v33) = v0 c
          ∧ r.2.mem ((c.tc : Thread Cert.EvenRefIdeal.nD Cert.EvenRefIdeal.τ).loc Cert.EvenRefIdeal.main_v31) = v1 c
          ∧ r.2.mem ((c.tc : Thread Cert.EvenRefIdeal.nD Cert.EvenRefIdeal.τ).loc Cert.EvenRefIdeal.main_v32) = v2 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3)
          ∧ r.2.mem ((c.tc : Thread Cert.EvenRefIdeal.nD Cert.EvenRefIdeal.τ).loc Cert.EvenRefIdeal.main_arg4) = m' ((c.tc : Thread Cert.EvenRefIdeal.nD Cert.EvenRefIdeal.τ).loc Cert.EvenRefIdeal.main_arg4))

def preserves_Mixer_MixerIdeal : Prop :=
  True

def algebraic_MixerIdeal_MixerRefIdeal_pre_mixer_finite [hMixerIdeal : Cert.MixerIdeal.Facts] [hMixerRefIdeal : Cert.MixerRefIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_mixer_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)
      ∧ m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)
      ∧ m' ((c.tc : Thread Cert.MixerRefIdeal.nD Cert.MixerRefIdeal.τ).loc Cert.MixerRefIdeal.main_arg13) = m ((c.tc : Thread Cert.MixerIdeal.nD Cert.MixerIdeal.τ).loc Cert.MixerIdeal.main_arg13)
      ∧ m' ((c.tc : Thread Cert.MixerRefIdeal.nD Cert.MixerRefIdeal.τ).loc Cert.MixerRefIdeal.main_arg14) = m ((c.tc : Thread Cert.MixerIdeal.nD Cert.MixerIdeal.τ).loc Cert.MixerIdeal.main_arg14)
      ∧ m' ((c.tc : Thread Cert.MixerRefIdeal.nD Cert.MixerRefIdeal.τ).loc Cert.MixerRefIdeal.main_arg15) = m ((c.tc : Thread Cert.MixerIdeal.nD Cert.MixerIdeal.τ).loc Cert.MixerIdeal.main_arg15)
      ∧ m' ((c.tc : Thread Cert.MixerRefIdeal.nD Cert.MixerRefIdeal.τ).loc Cert.MixerRefIdeal.main_arg16) = m ((c.tc : Thread Cert.MixerIdeal.nD Cert.MixerIdeal.τ).loc Cert.MixerIdeal.main_arg16)
      ∧ m' ((c.tc : Thread Cert.MixerRefIdeal.nD Cert.MixerRefIdeal.τ).loc Cert.MixerRefIdeal.main_arg17) = m ((c.tc : Thread Cert.MixerIdeal.nD Cert.MixerIdeal.τ).loc Cert.MixerIdeal.main_arg17)
      ∧ m' ((c.tc : Thread Cert.MixerRefIdeal.nD Cert.MixerRefIdeal.τ).loc Cert.MixerRefIdeal.main_arg18) = m ((c.tc : Thread Cert.MixerIdeal.nD Cert.MixerIdeal.τ).loc Cert.MixerIdeal.main_arg18)
      ∧ m' ((c.tc : Thread Cert.MixerRefIdeal.nD Cert.MixerRefIdeal.τ).loc Cert.MixerRefIdeal.main_arg19) = m ((c.tc : Thread Cert.MixerIdeal.nD Cert.MixerIdeal.τ).loc Cert.MixerIdeal.main_arg19)) →
    ∃ (v0 : (c : Dev Cert.MixerIdeal.nD) → Buf (Elt Ideal) ((c.tc : Thread Cert.MixerIdeal.nD Cert.MixerIdeal.τ).loc Cert.MixerIdeal.main_v352_4)) (v1 : (c : Dev Cert.MixerIdeal.nD) → Buf (Elt Ideal) ((c.tc : Thread Cert.MixerIdeal.nD Cert.MixerIdeal.τ).loc Cert.MixerIdeal.main_v353)) (v2 : (c : Dev Cert.MixerIdeal.nD) → Buf (Elt Ideal) ((c.tc : Thread Cert.MixerIdeal.nD Cert.MixerIdeal.τ).loc Cert.MixerIdeal.main_v354)) (v3 : (c : Dev Cert.MixerIdeal.nD) → Buf (Elt Ideal) ((c.tc : Thread Cert.MixerIdeal.nD Cert.MixerIdeal.τ).loc Cert.MixerIdeal.main_v352_2)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v352_4) = v0 c
          ∧ r.2.mem ((c.tc : Thread Cert.MixerIdeal.nD Cert.MixerIdeal.τ).loc Cert.MixerIdeal.main_v353) = v1 c
          ∧ r.2.mem ((c.tc : Thread Cert.MixerIdeal.nD Cert.MixerIdeal.τ).loc Cert.MixerIdeal.main_v354) = v2 c
          ∧ r.2.mem ((c.tc : Thread Cert.MixerIdeal.nD Cert.MixerIdeal.τ).loc Cert.MixerIdeal.main_v352_2) = v3 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
          ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
          ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
          ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
          ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
          ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18)
          ∧ r.2.mem ((c.tc : Thread Cert.MixerIdeal.nD Cert.MixerIdeal.τ).loc Cert.MixerIdeal.main_arg19) = m ((c.tc : Thread Cert.MixerIdeal.nD Cert.MixerIdeal.τ).loc Cert.MixerIdeal.main_arg19))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v97) = v0 c
          ∧ r.2.mem ((c.tc : Thread Cert.MixerRefIdeal.nD Cert.MixerRefIdeal.τ).loc Cert.MixerRefIdeal.main_v75) = v1 c
          ∧ r.2.mem ((c.tc : Thread Cert.MixerRefIdeal.nD Cert.MixerRefIdeal.τ).loc Cert.MixerRefIdeal.main_v66) = v2 c
          ∧ r.2.mem ((c.tc : Thread Cert.MixerRefIdeal.nD Cert.MixerRefIdeal.τ).loc Cert.MixerRefIdeal.main_v99) = v3 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12)
          ∧ r.2.mem ((c.tc : Thread Cert.MixerRefIdeal.nD Cert.MixerRefIdeal.τ).loc Cert.MixerRefIdeal.main_arg13) = m' ((c.tc : Thread Cert.MixerRefIdeal.nD Cert.MixerRefIdeal.τ).loc Cert.MixerRefIdeal.main_arg13)
          ∧ r.2.mem ((c.tc : Thread Cert.MixerRefIdeal.nD Cert.MixerRefIdeal.τ).loc Cert.MixerRefIdeal.main_arg14) = m' ((c.tc : Thread Cert.MixerRefIdeal.nD Cert.MixerRefIdeal.τ).loc Cert.MixerRefIdeal.main_arg14)
          ∧ r.2.mem ((c.tc : Thread Cert.MixerRefIdeal.nD Cert.MixerRefIdeal.τ).loc Cert.MixerRefIdeal.main_arg15) = m' ((c.tc : Thread Cert.MixerRefIdeal.nD Cert.MixerRefIdeal.τ).loc Cert.MixerRefIdeal.main_arg15)
          ∧ r.2.mem ((c.tc : Thread Cert.MixerRefIdeal.nD Cert.MixerRefIdeal.τ).loc Cert.MixerRefIdeal.main_arg16) = m' ((c.tc : Thread Cert.MixerRefIdeal.nD Cert.MixerRefIdeal.τ).loc Cert.MixerRefIdeal.main_arg16)
          ∧ r.2.mem ((c.tc : Thread Cert.MixerRefIdeal.nD Cert.MixerRefIdeal.τ).loc Cert.MixerRefIdeal.main_arg17) = m' ((c.tc : Thread Cert.MixerRefIdeal.nD Cert.MixerRefIdeal.τ).loc Cert.MixerRefIdeal.main_arg17)
          ∧ r.2.mem ((c.tc : Thread Cert.MixerRefIdeal.nD Cert.MixerRefIdeal.τ).loc Cert.MixerRefIdeal.main_arg18) = m' ((c.tc : Thread Cert.MixerRefIdeal.nD Cert.MixerRefIdeal.τ).loc Cert.MixerRefIdeal.main_arg18)
          ∧ r.2.mem ((c.tc : Thread Cert.MixerRefIdeal.nD Cert.MixerRefIdeal.τ).loc Cert.MixerRefIdeal.main_arg19) = m' ((c.tc : Thread Cert.MixerRefIdeal.nD Cert.MixerRefIdeal.τ).loc Cert.MixerRefIdeal.main_arg19))

def preserves_Fore_ForeIdeal : Prop :=
  True

def algebraic_ForeIdeal_ForeRefIdeal [hForeIdeal : Cert.ForeIdeal.Facts] [hForeRefIdeal : Cert.ForeRefIdeal.Facts] : Prop :=
  ∀ (m : (ℓ : Loc Cert.ForeIdeal.nD Cert.ForeIdeal.τ Cert.ForeIdeal.sig) → Buf (Elt Ideal) ℓ) (g : Dev Cert.ForeIdeal.nD → PrngReg)
    (m' : (ℓ : Loc Cert.ForeRefIdeal.nD Cert.ForeRefIdeal.τ Cert.ForeRefIdeal.sig) → Buf (Elt Ideal) ℓ) (g' : Dev Cert.ForeRefIdeal.nD → PrngReg), Pre_ForeIdeal m →
    (∀ c : Dev Cert.ForeIdeal.nD,
      m' ((c.tc : Thread Cert.ForeRefIdeal.nD Cert.ForeRefIdeal.τ).loc Cert.ForeRefIdeal.main_arg0) = m ((c.tc : Thread Cert.ForeIdeal.nD Cert.ForeIdeal.τ).loc Cert.ForeIdeal.main_arg0)
      ∧ m' ((c.tc : Thread Cert.ForeRefIdeal.nD Cert.ForeRefIdeal.τ).loc Cert.ForeRefIdeal.main_arg1) = m ((c.tc : Thread Cert.ForeIdeal.nD Cert.ForeIdeal.τ).loc Cert.ForeIdeal.main_arg1)
      ∧ m' ((c.tc : Thread Cert.ForeRefIdeal.nD Cert.ForeRefIdeal.τ).loc Cert.ForeRefIdeal.main_arg2) = m ((c.tc : Thread Cert.ForeIdeal.nD Cert.ForeIdeal.τ).loc Cert.ForeIdeal.main_arg2)
      ∧ m' ((c.tc : Thread Cert.ForeRefIdeal.nD Cert.ForeRefIdeal.τ).loc Cert.ForeRefIdeal.main_arg3) = m ((c.tc : Thread Cert.ForeIdeal.nD Cert.ForeIdeal.τ).loc Cert.ForeIdeal.main_arg3)
      ∧ m' ((c.tc : Thread Cert.ForeRefIdeal.nD Cert.ForeRefIdeal.τ).loc Cert.ForeRefIdeal.main_arg4) = m ((c.tc : Thread Cert.ForeIdeal.nD Cert.ForeIdeal.τ).loc Cert.ForeIdeal.main_arg4)
      ∧ m' ((c.tc : Thread Cert.ForeRefIdeal.nD Cert.ForeRefIdeal.τ).loc Cert.ForeRefIdeal.main_arg5) = m ((c.tc : Thread Cert.ForeIdeal.nD Cert.ForeIdeal.τ).loc Cert.ForeIdeal.main_arg5)
      ∧ m' ((c.tc : Thread Cert.ForeRefIdeal.nD Cert.ForeRefIdeal.τ).loc Cert.ForeRefIdeal.main_arg6) = m ((c.tc : Thread Cert.ForeIdeal.nD Cert.ForeIdeal.τ).loc Cert.ForeIdeal.main_arg6)
      ∧ m' ((c.tc : Thread Cert.ForeRefIdeal.nD Cert.ForeRefIdeal.τ).loc Cert.ForeRefIdeal.main_arg7) = m ((c.tc : Thread Cert.ForeIdeal.nD Cert.ForeIdeal.τ).loc Cert.ForeIdeal.main_arg7)
      ∧ m' ((c.tc : Thread Cert.ForeRefIdeal.nD Cert.ForeRefIdeal.τ).loc Cert.ForeRefIdeal.main_arg8) = m ((c.tc : Thread Cert.ForeIdeal.nD Cert.ForeIdeal.τ).loc Cert.ForeIdeal.main_arg8)
      ∧ m' ((c.tc : Thread Cert.ForeRefIdeal.nD Cert.ForeRefIdeal.τ).loc Cert.ForeRefIdeal.main_arg9) = m ((c.tc : Thread Cert.ForeIdeal.nD Cert.ForeIdeal.τ).loc Cert.ForeIdeal.main_arg9)
      ∧ m' ((c.tc : Thread Cert.ForeRefIdeal.nD Cert.ForeRefIdeal.τ).loc Cert.ForeRefIdeal.main_arg10) = m ((c.tc : Thread Cert.ForeIdeal.nD Cert.ForeIdeal.τ).loc Cert.ForeIdeal.main_arg10)
      ∧ m' ((c.tc : Thread Cert.ForeRefIdeal.nD Cert.ForeRefIdeal.τ).loc Cert.ForeRefIdeal.main_arg11) = m ((c.tc : Thread Cert.ForeIdeal.nD Cert.ForeIdeal.τ).loc Cert.ForeIdeal.main_arg11)
      ∧ m' ((c.tc : Thread Cert.ForeRefIdeal.nD Cert.ForeRefIdeal.τ).loc Cert.ForeRefIdeal.main_arg12) = m ((c.tc : Thread Cert.ForeIdeal.nD Cert.ForeIdeal.τ).loc Cert.ForeIdeal.main_arg12)
      ∧ m' ((c.tc : Thread Cert.ForeRefIdeal.nD Cert.ForeRefIdeal.τ).loc Cert.ForeRefIdeal.main_arg13) = m ((c.tc : Thread Cert.ForeIdeal.nD Cert.ForeIdeal.τ).loc Cert.ForeIdeal.main_arg13)
      ∧ m' ((c.tc : Thread Cert.ForeRefIdeal.nD Cert.ForeRefIdeal.τ).loc Cert.ForeRefIdeal.main_arg14) = m ((c.tc : Thread Cert.ForeIdeal.nD Cert.ForeIdeal.τ).loc Cert.ForeIdeal.main_arg14)
      ∧ m' ((c.tc : Thread Cert.ForeRefIdeal.nD Cert.ForeRefIdeal.τ).loc Cert.ForeRefIdeal.main_arg15) = m ((c.tc : Thread Cert.ForeIdeal.nD Cert.ForeIdeal.τ).loc Cert.ForeIdeal.main_arg15)) →
    ∃ (v0 : (c : Dev Cert.ForeIdeal.nD) → Buf (Elt Ideal) ((c.tc : Thread Cert.ForeIdeal.nD Cert.ForeIdeal.τ).loc Cert.ForeIdeal.main_v58_0)),
      θ_run (Cert.ForeIdeal.defs (F := Ideal)) (onTc (τ := Cert.ForeIdeal.τ) (Cert.ForeIdeal.main (F := Ideal))) ⟨m, fun _ => 0, g⟩ (fun r => ∀ c : Dev Cert.ForeIdeal.nD,
          r.2.mem ((c.tc : Thread Cert.ForeIdeal.nD Cert.ForeIdeal.τ).loc Cert.ForeIdeal.main_v58_0) = v0 c
          ∧ r.2.mem ((c.tc : Thread Cert.ForeIdeal.nD Cert.ForeIdeal.τ).loc Cert.ForeIdeal.main_arg0) = m ((c.tc : Thread Cert.ForeIdeal.nD Cert.ForeIdeal.τ).loc Cert.ForeIdeal.main_arg0)
          ∧ r.2.mem ((c.tc : Thread Cert.ForeIdeal.nD Cert.ForeIdeal.τ).loc Cert.ForeIdeal.main_arg1) = m ((c.tc : Thread Cert.ForeIdeal.nD Cert.ForeIdeal.τ).loc Cert.ForeIdeal.main_arg1)
          ∧ r.2.mem ((c.tc : Thread Cert.ForeIdeal.nD Cert.ForeIdeal.τ).loc Cert.ForeIdeal.main_arg2) = m ((c.tc : Thread Cert.ForeIdeal.nD Cert.ForeIdeal.τ).loc Cert.ForeIdeal.main_arg2)
          ∧ r.2.mem ((c.tc : Thread Cert.ForeIdeal.nD Cert.ForeIdeal.τ).loc Cert.ForeIdeal.main_arg3) = m ((c.tc : Thread Cert.ForeIdeal.nD Cert.ForeIdeal.τ).loc Cert.ForeIdeal.main_arg3)
          ∧ r.2.mem ((c.tc : Thread Cert.ForeIdeal.nD Cert.ForeIdeal.τ).loc Cert.ForeIdeal.main_arg4) = m ((c.tc : Thread Cert.ForeIdeal.nD Cert.ForeIdeal.τ).loc Cert.ForeIdeal.main_arg4)
          ∧ r.2.mem ((c.tc : Thread Cert.ForeIdeal.nD Cert.ForeIdeal.τ).loc Cert.ForeIdeal.main_arg5) = m ((c.tc : Thread Cert.ForeIdeal.nD Cert.ForeIdeal.τ).loc Cert.ForeIdeal.main_arg5)
          ∧ r.2.mem ((c.tc : Thread Cert.ForeIdeal.nD Cert.ForeIdeal.τ).loc Cert.ForeIdeal.main_arg6) = m ((c.tc : Thread Cert.ForeIdeal.nD Cert.ForeIdeal.τ).loc Cert.ForeIdeal.main_arg6)
          ∧ r.2.mem ((c.tc : Thread Cert.ForeIdeal.nD Cert.ForeIdeal.τ).loc Cert.ForeIdeal.main_arg7) = m ((c.tc : Thread Cert.ForeIdeal.nD Cert.ForeIdeal.τ).loc Cert.ForeIdeal.main_arg7)
          ∧ r.2.mem ((c.tc : Thread Cert.ForeIdeal.nD Cert.ForeIdeal.τ).loc Cert.ForeIdeal.main_arg8) = m ((c.tc : Thread Cert.ForeIdeal.nD Cert.ForeIdeal.τ).loc Cert.ForeIdeal.main_arg8)
          ∧ r.2.mem ((c.tc : Thread Cert.ForeIdeal.nD Cert.ForeIdeal.τ).loc Cert.ForeIdeal.main_arg9) = m ((c.tc : Thread Cert.ForeIdeal.nD Cert.ForeIdeal.τ).loc Cert.ForeIdeal.main_arg9)
          ∧ r.2.mem ((c.tc : Thread Cert.ForeIdeal.nD Cert.ForeIdeal.τ).loc Cert.ForeIdeal.main_arg10) = m ((c.tc : Thread Cert.ForeIdeal.nD Cert.ForeIdeal.τ).loc Cert.ForeIdeal.main_arg10)
          ∧ r.2.mem ((c.tc : Thread Cert.ForeIdeal.nD Cert.ForeIdeal.τ).loc Cert.ForeIdeal.main_arg11) = m ((c.tc : Thread Cert.ForeIdeal.nD Cert.ForeIdeal.τ).loc Cert.ForeIdeal.main_arg11)
          ∧ r.2.mem ((c.tc : Thread Cert.ForeIdeal.nD Cert.ForeIdeal.τ).loc Cert.ForeIdeal.main_arg12) = m ((c.tc : Thread Cert.ForeIdeal.nD Cert.ForeIdeal.τ).loc Cert.ForeIdeal.main_arg12)
          ∧ r.2.mem ((c.tc : Thread Cert.ForeIdeal.nD Cert.ForeIdeal.τ).loc Cert.ForeIdeal.main_arg13) = m ((c.tc : Thread Cert.ForeIdeal.nD Cert.ForeIdeal.τ).loc Cert.ForeIdeal.main_arg13)
          ∧ r.2.mem ((c.tc : Thread Cert.ForeIdeal.nD Cert.ForeIdeal.τ).loc Cert.ForeIdeal.main_arg14) = m ((c.tc : Thread Cert.ForeIdeal.nD Cert.ForeIdeal.τ).loc Cert.ForeIdeal.main_arg14)
          ∧ r.2.mem ((c.tc : Thread Cert.ForeIdeal.nD Cert.ForeIdeal.τ).loc Cert.ForeIdeal.main_arg15) = m ((c.tc : Thread Cert.ForeIdeal.nD Cert.ForeIdeal.τ).loc Cert.ForeIdeal.main_arg15))
      ∧ θ_run (Cert.ForeRefIdeal.defs (F := Ideal)) (onTc (τ := Cert.ForeRefIdeal.τ) (Cert.ForeRefIdeal.main (F := Ideal))) ⟨m', fun _ => 0, g'⟩ (fun r => ∀ c : Dev Cert.ForeRefIdeal.nD,
          r.2.mem ((c.tc : Thread Cert.ForeRefIdeal.nD Cert.ForeRefIdeal.τ).loc Cert.ForeRefIdeal.main_v32) = v0 c
          ∧ r.2.mem ((c.tc : Thread Cert.ForeRefIdeal.nD Cert.ForeRefIdeal.τ).loc Cert.ForeRefIdeal.main_arg0) = m' ((c.tc : Thread Cert.ForeRefIdeal.nD Cert.ForeRefIdeal.τ).loc Cert.ForeRefIdeal.main_arg0)
          ∧ r.2.mem ((c.tc : Thread Cert.ForeRefIdeal.nD Cert.ForeRefIdeal.τ).loc Cert.ForeRefIdeal.main_arg1) = m' ((c.tc : Thread Cert.ForeRefIdeal.nD Cert.ForeRefIdeal.τ).loc Cert.ForeRefIdeal.main_arg1)
          ∧ r.2.mem ((c.tc : Thread Cert.ForeRefIdeal.nD Cert.ForeRefIdeal.τ).loc Cert.ForeRefIdeal.main_arg2) = m' ((c.tc : Thread Cert.ForeRefIdeal.nD Cert.ForeRefIdeal.τ).loc Cert.ForeRefIdeal.main_arg2)
          ∧ r.2.mem ((c.tc : Thread Cert.ForeRefIdeal.nD Cert.ForeRefIdeal.τ).loc Cert.ForeRefIdeal.main_arg3) = m' ((c.tc : Thread Cert.ForeRefIdeal.nD Cert.ForeRefIdeal.τ).loc Cert.ForeRefIdeal.main_arg3)
          ∧ r.2.mem ((c.tc : Thread Cert.ForeRefIdeal.nD Cert.ForeRefIdeal.τ).loc Cert.ForeRefIdeal.main_arg4) = m' ((c.tc : Thread Cert.ForeRefIdeal.nD Cert.ForeRefIdeal.τ).loc Cert.ForeRefIdeal.main_arg4)
          ∧ r.2.mem ((c.tc : Thread Cert.ForeRefIdeal.nD Cert.ForeRefIdeal.τ).loc Cert.ForeRefIdeal.main_arg5) = m' ((c.tc : Thread Cert.ForeRefIdeal.nD Cert.ForeRefIdeal.τ).loc Cert.ForeRefIdeal.main_arg5)
          ∧ r.2.mem ((c.tc : Thread Cert.ForeRefIdeal.nD Cert.ForeRefIdeal.τ).loc Cert.ForeRefIdeal.main_arg6) = m' ((c.tc : Thread Cert.ForeRefIdeal.nD Cert.ForeRefIdeal.τ).loc Cert.ForeRefIdeal.main_arg6)
          ∧ r.2.mem ((c.tc : Thread Cert.ForeRefIdeal.nD Cert.ForeRefIdeal.τ).loc Cert.ForeRefIdeal.main_arg7) = m' ((c.tc : Thread Cert.ForeRefIdeal.nD Cert.ForeRefIdeal.τ).loc Cert.ForeRefIdeal.main_arg7)
          ∧ r.2.mem ((c.tc : Thread Cert.ForeRefIdeal.nD Cert.ForeRefIdeal.τ).loc Cert.ForeRefIdeal.main_arg8) = m' ((c.tc : Thread Cert.ForeRefIdeal.nD Cert.ForeRefIdeal.τ).loc Cert.ForeRefIdeal.main_arg8)
          ∧ r.2.mem ((c.tc : Thread Cert.ForeRefIdeal.nD Cert.ForeRefIdeal.τ).loc Cert.ForeRefIdeal.main_arg9) = m' ((c.tc : Thread Cert.ForeRefIdeal.nD Cert.ForeRefIdeal.τ).loc Cert.ForeRefIdeal.main_arg9)
          ∧ r.2.mem ((c.tc : Thread Cert.ForeRefIdeal.nD Cert.ForeRefIdeal.τ).loc Cert.ForeRefIdeal.main_arg10) = m' ((c.tc : Thread Cert.ForeRefIdeal.nD Cert.ForeRefIdeal.τ).loc Cert.ForeRefIdeal.main_arg10)
          ∧ r.2.mem ((c.tc : Thread Cert.ForeRefIdeal.nD Cert.ForeRefIdeal.τ).loc Cert.ForeRefIdeal.main_arg11) = m' ((c.tc : Thread Cert.ForeRefIdeal.nD Cert.ForeRefIdeal.τ).loc Cert.ForeRefIdeal.main_arg11)
          ∧ r.2.mem ((c.tc : Thread Cert.ForeRefIdeal.nD Cert.ForeRefIdeal.τ).loc Cert.ForeRefIdeal.main_arg12) = m' ((c.tc : Thread Cert.ForeRefIdeal.nD Cert.ForeRefIdeal.τ).loc Cert.ForeRefIdeal.main_arg12)
          ∧ r.2.mem ((c.tc : Thread Cert.ForeRefIdeal.nD Cert.ForeRefIdeal.τ).loc Cert.ForeRefIdeal.main_arg13) = m' ((c.tc : Thread Cert.ForeRefIdeal.nD Cert.ForeRefIdeal.τ).loc Cert.ForeRefIdeal.main_arg13)
          ∧ r.2.mem ((c.tc : Thread Cert.ForeRefIdeal.nD Cert.ForeRefIdeal.τ).loc Cert.ForeRefIdeal.main_arg14) = m' ((c.tc : Thread Cert.ForeRefIdeal.nD Cert.ForeRefIdeal.τ).loc Cert.ForeRefIdeal.main_arg14)
          ∧ r.2.mem ((c.tc : Thread Cert.ForeRefIdeal.nD Cert.ForeRefIdeal.τ).loc Cert.ForeRefIdeal.main_arg15) = m' ((c.tc : Thread Cert.ForeRefIdeal.nD Cert.ForeRefIdeal.τ).loc Cert.ForeRefIdeal.main_arg15))

def preserves_Prod_ProdIdeal : Prop :=
  True

def algebraic_ProdIdeal_ProdRefIdeal [hProdIdeal : Cert.ProdIdeal.Facts] [hProdRefIdeal : Cert.ProdRefIdeal.Facts] : Prop :=
  ∀ (m : (ℓ : Loc Cert.ProdIdeal.nD Cert.ProdIdeal.τ Cert.ProdIdeal.sig) → Buf (Elt Ideal) ℓ) (g : Dev Cert.ProdIdeal.nD → PrngReg)
    (m' : (ℓ : Loc Cert.ProdRefIdeal.nD Cert.ProdRefIdeal.τ Cert.ProdRefIdeal.sig) → Buf (Elt Ideal) ℓ) (g' : Dev Cert.ProdRefIdeal.nD → PrngReg), Pre_ProdIdeal m →
    (∀ c : Dev Cert.ProdIdeal.nD,
      m' ((c.tc : Thread Cert.ProdRefIdeal.nD Cert.ProdRefIdeal.τ).loc Cert.ProdRefIdeal.main_arg0) = m ((c.tc : Thread Cert.ProdIdeal.nD Cert.ProdIdeal.τ).loc Cert.ProdIdeal.main_arg0)
      ∧ m' ((c.tc : Thread Cert.ProdRefIdeal.nD Cert.ProdRefIdeal.τ).loc Cert.ProdRefIdeal.main_arg1) = m ((c.tc : Thread Cert.ProdIdeal.nD Cert.ProdIdeal.τ).loc Cert.ProdIdeal.main_arg1)
      ∧ m' ((c.tc : Thread Cert.ProdRefIdeal.nD Cert.ProdRefIdeal.τ).loc Cert.ProdRefIdeal.main_arg2) = m ((c.tc : Thread Cert.ProdIdeal.nD Cert.ProdIdeal.τ).loc Cert.ProdIdeal.main_arg2)) →
    ∃ (v0 : (c : Dev Cert.ProdIdeal.nD) → Buf (Elt Ideal) ((c.tc : Thread Cert.ProdIdeal.nD Cert.ProdIdeal.τ).loc Cert.ProdIdeal.main_v5)),
      θ_run (Cert.ProdIdeal.defs (F := Ideal)) (onTc (τ := Cert.ProdIdeal.τ) (Cert.ProdIdeal.main (F := Ideal))) ⟨m, fun _ => 0, g⟩ (fun r => ∀ c : Dev Cert.ProdIdeal.nD,
          r.2.mem ((c.tc : Thread Cert.ProdIdeal.nD Cert.ProdIdeal.τ).loc Cert.ProdIdeal.main_v5) = v0 c
          ∧ r.2.mem ((c.tc : Thread Cert.ProdIdeal.nD Cert.ProdIdeal.τ).loc Cert.ProdIdeal.main_arg0) = m ((c.tc : Thread Cert.ProdIdeal.nD Cert.ProdIdeal.τ).loc Cert.ProdIdeal.main_arg0)
          ∧ r.2.mem ((c.tc : Thread Cert.ProdIdeal.nD Cert.ProdIdeal.τ).loc Cert.ProdIdeal.main_arg1) = m ((c.tc : Thread Cert.ProdIdeal.nD Cert.ProdIdeal.τ).loc Cert.ProdIdeal.main_arg1)
          ∧ r.2.mem ((c.tc : Thread Cert.ProdIdeal.nD Cert.ProdIdeal.τ).loc Cert.ProdIdeal.main_arg2) = m ((c.tc : Thread Cert.ProdIdeal.nD Cert.ProdIdeal.τ).loc Cert.ProdIdeal.main_arg2))
      ∧ θ_run (Cert.ProdRefIdeal.defs (F := Ideal)) (onTc (τ := Cert.ProdRefIdeal.τ) (Cert.ProdRefIdeal.main (F := Ideal))) ⟨m', fun _ => 0, g'⟩ (fun r => ∀ c : Dev Cert.ProdRefIdeal.nD,
          r.2.mem ((c.tc : Thread Cert.ProdRefIdeal.nD Cert.ProdRefIdeal.τ).loc Cert.ProdRefIdeal.main_v6) = v0 c
          ∧ r.2.mem ((c.tc : Thread Cert.ProdRefIdeal.nD Cert.ProdRefIdeal.τ).loc Cert.ProdRefIdeal.main_arg0) = m' ((c.tc : Thread Cert.ProdRefIdeal.nD Cert.ProdRefIdeal.τ).loc Cert.ProdRefIdeal.main_arg0)
          ∧ r.2.mem ((c.tc : Thread Cert.ProdRefIdeal.nD Cert.ProdRefIdeal.τ).loc Cert.ProdRefIdeal.main_arg1) = m' ((c.tc : Thread Cert.ProdRefIdeal.nD Cert.ProdRefIdeal.τ).loc Cert.ProdRefIdeal.main_arg1)
          ∧ r.2.mem ((c.tc : Thread Cert.ProdRefIdeal.nD Cert.ProdRefIdeal.τ).loc Cert.ProdRefIdeal.main_arg2) = m' ((c.tc : Thread Cert.ProdRefIdeal.nD Cert.ProdRefIdeal.τ).loc Cert.ProdRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v3_0)) (v1 : (c : Dev Cert.AdamIdeal.nD) → Buf (Elt Ideal) ((c.tc : Thread Cert.AdamIdeal.nD Cert.AdamIdeal.τ).loc Cert.AdamIdeal.main_v3_1)) (v2 : (c : Dev Cert.AdamIdeal.nD) → Buf (Elt Ideal) ((c.tc : Thread Cert.AdamIdeal.nD Cert.AdamIdeal.τ).loc Cert.AdamIdeal.main_v3_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v3_0) = v0 c
          ∧ r.2.mem ((c.tc : Thread Cert.AdamIdeal.nD Cert.AdamIdeal.τ).loc Cert.AdamIdeal.main_v3_1) = v1 c
          ∧ r.2.mem ((c.tc : Thread Cert.AdamIdeal.nD Cert.AdamIdeal.τ).loc Cert.AdamIdeal.main_v3_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v26) = v0 c
          ∧ r.2.mem ((c.tc : Thread Cert.AdamRefIdeal.nD Cert.AdamRefIdeal.τ).loc Cert.AdamRefIdeal.main_v5) = v1 c
          ∧ r.2.mem ((c.tc : Thread Cert.AdamRefIdeal.nD Cert.AdamRefIdeal.τ).loc Cert.AdamRefIdeal.main_v12) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hGate : Cert.Gate.Facts) (hGateIdeal : Cert.GateIdeal.Facts) (hGateRefIdeal : Cert.GateRefIdeal.Facts) (hMlp : Cert.Mlp.Facts) (hMlpIdeal : Cert.MlpIdeal.Facts) (hMlpRefIdeal : Cert.MlpRefIdeal.Facts) (hOdd : Cert.Odd.Facts) (hOddIdeal : Cert.OddIdeal.Facts) (hOddRefIdeal : Cert.OddRefIdeal.Facts) (hEven : Cert.Even.Facts) (hEvenIdeal : Cert.EvenIdeal.Facts) (hEvenRefIdeal : Cert.EvenRefIdeal.Facts) (hMixer : Cert.Mixer.Facts) (hMixerIdeal : Cert.MixerIdeal.Facts) (hMixerRefIdeal : Cert.MixerRefIdeal.Facts) (hFore : Cert.Fore.Facts) (hForeIdeal : Cert.ForeIdeal.Facts) (hForeRefIdeal : Cert.ForeRefIdeal.Facts) (hProd : Cert.Prod.Facts) (hProdIdeal : Cert.ProdIdeal.Facts) (hProdRefIdeal : Cert.ProdRefIdeal.Facts) (hAdam : Cert.Adam.Facts) (hAdamIdeal : Cert.AdamIdeal.Facts) (hAdamRefIdeal : Cert.AdamRefIdeal.Facts) (hPre_gate_finite : Cert.Pre_gate_finite.Facts) (hPre_mlp_finite : Cert.Pre_mlp_finite.Facts) (hPre_mixer_finite : Cert.Pre_mixer_finite.Facts),
    quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_Odd (hOdd := hOdd)
    ∧ quiescent_OddIdeal (hOddIdeal := hOddIdeal)
    ∧ quiescent_OddRefIdeal (hOddRefIdeal := hOddRefIdeal)
    ∧ quiescent_Even (hEven := hEven)
    ∧ quiescent_EvenIdeal (hEvenIdeal := hEvenIdeal)
    ∧ quiescent_EvenRefIdeal (hEvenRefIdeal := hEvenRefIdeal)
    ∧ quiescent_Mixer (hMixer := hMixer)
    ∧ quiescent_MixerIdeal (hMixerIdeal := hMixerIdeal)
    ∧ quiescent_MixerIdeal_pre_mixer_finite (hMixerIdeal := hMixerIdeal) (hPre_mixer_finite := hPre_mixer_finite)
    ∧ quiescent_MixerRefIdeal (hMixerRefIdeal := hMixerRefIdeal)
    ∧ quiescent_MixerRefIdeal_pre_mixer_finite (hMixerRefIdeal := hMixerRefIdeal) (hPre_mixer_finite := hPre_mixer_finite)
    ∧ quiescent_Fore (hFore := hFore)
    ∧ quiescent_ForeIdeal (hForeIdeal := hForeIdeal)
    ∧ quiescent_ForeRefIdeal (hForeRefIdeal := hForeRefIdeal)
    ∧ quiescent_Prod (hProd := hProd)
    ∧ quiescent_ProdIdeal (hProdIdeal := hProdIdeal)
    ∧ quiescent_ProdRefIdeal (hProdRefIdeal := hProdRefIdeal)
    ∧ quiescent_Adam (hAdam := hAdam)
    ∧ quiescent_AdamIdeal (hAdamIdeal := hAdamIdeal)
    ∧ quiescent_AdamRefIdeal (hAdamRefIdeal := hAdamRefIdeal)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Mlp_MlpIdeal
    ∧ algebraic_MlpIdeal_MlpRefIdeal_pre_mlp_finite (hMlpIdeal := hMlpIdeal) (hMlpRefIdeal := hMlpRefIdeal) (hPre_mlp_finite := hPre_mlp_finite)
    ∧ preserves_Odd_OddIdeal
    ∧ algebraic_OddIdeal_OddRefIdeal (hOddIdeal := hOddIdeal) (hOddRefIdeal := hOddRefIdeal)
    ∧ preserves_Even_EvenIdeal
    ∧ algebraic_EvenIdeal_EvenRefIdeal (hEvenIdeal := hEvenIdeal) (hEvenRefIdeal := hEvenRefIdeal)
    ∧ preserves_Mixer_MixerIdeal
    ∧ algebraic_MixerIdeal_MixerRefIdeal_pre_mixer_finite (hMixerIdeal := hMixerIdeal) (hMixerRefIdeal := hMixerRefIdeal) (hPre_mixer_finite := hPre_mixer_finite)
    ∧ preserves_Fore_ForeIdeal
    ∧ algebraic_ForeIdeal_ForeRefIdeal (hForeIdeal := hForeIdeal) (hForeRefIdeal := hForeRefIdeal)
    ∧ preserves_Prod_ProdIdeal
    ∧ algebraic_ProdIdeal_ProdRefIdeal (hProdIdeal := hProdIdeal) (hProdRefIdeal := hProdRefIdeal)
    ∧ preserves_Adam_AdamIdeal
    ∧ algebraic_AdamIdeal_AdamRefIdeal (hAdamIdeal := hAdamIdeal) (hAdamRefIdeal := hAdamRefIdeal)
-- ==== Pre_gate_finite.lean ====
abbrev S1x2048x512 : Shape := ⟨3, ![1, 2048, 512]⟩
abbrev S8x64x64 : Shape := ⟨3, ![8, 64, 64]⟩
abbrev S_ : Shape := ⟨0, ![]⟩

class Facts : Prop where
  bcast_S_S1x2048x512 : S_.BroadcastsInDim S1x2048x512 (![] : Fin 0 → Fin S1x2048x512.rank)
  reducesTo_S1x2048x512_S_d0_1_2 : S1x2048x512.ReducesTo [0, 1, 2] S_
  h_S_ : 0 < S_.numel

variable [Facts]

def fn {F : FTy → Type} [FloatOps F] (main_arg0 : FVec F S1x2048x512 .f32) (main_arg1 : FVec F S8x64x64 .f32) (main_arg2 : FVec F S8x64x64 .f32) (main_arg3 : FVec F S1x2048x512 .f32) (main_arg4 : FVec F S1x2048x512 .f32) : IVec S_ 1 :=
  let main_v0 : FVec F S1x2048x512 .f32 := Host.absf main_arg0
  let main_cst : FVec F S_ .f32 := constant S_ .f32 0x7F800000#32
  let main_v1 : FVec F S1x2048x512 .f32 := broadcastInDim S1x2048x512 ![] bcast_S_S1x2048x512 main_cst
  let main_v2 : IVec S1x2048x512 1 := cmpf .olt main_v0 main_v1
  let main_c : IVec S_ 1 := constantI S_ 1 1#1
  let main_v3 : IVec S_ 1 := (fun x v => Host.reduce IntOp.andi x v reducesTo_S1x2048x512_S_d0_1_2 h_S_) main_v2 main_c
  let main_c_0 : IVec S_ 1 := constantI S_ 1 1#1
  let main_v4 : IVec S_ 1 := andi main_c_0 main_v3
  let main_v5 : FVec F S1x2048x512 .f32 := Host.absf main_arg3
  let main_cst_1 : FVec F S_ .f32 := constant S_ .f32 0x7F800000#32
  let main_v6 : FVec F S1x2048x512 .f32 := broadcastInDim S1x2048x512 ![] bcast_S_S1x2048x512 main_cst_1
  let main_v7 : IVec S1x2048x512 1 := cmpf .olt main_v5 main_v6
  let main_c_2 : IVec S_ 1 := constantI S_ 1 1#1
  let main_v8 : IVec S_ 1 := (fun x v => Host.reduce IntOp.andi x v reducesTo_S1x2048x512_S_d0_1_2 h_S_) main_v7 main_c_2
  let main_v9 : IVec S_ 1 := andi main_v4 main_v8
  let main_v10 : FVec F S1x2048x512 .f32 := Host.absf main_arg4
  let main_cst_3 : FVec F S_ .f32 := constant S_ .f32 0x7F800000#32
  let main_v11 : FVec F S1x2048x512 .f32 := broadcastInDim S1x2048x512 ![] bcast_S_S1x2048x512 main_cst_3
  let main_v12 : IVec S1x2048x512 1 := cmpf .olt main_v10 main_v11
  let main_c_4 : IVec S_ 1 := constantI S_ 1 1#1
  let main_v13 : IVec S_ 1 := (fun x v => Host.reduce IntOp.andi x v reducesTo_S1x2048x512_S_d0_1_2 h_S_) main_v12 main_c_4
  let main_v14 : IVec S_ 1 := andi main_v9 main_v13
  main_v14
-- ==== Pre_mixer_finite.lean ====
abbrev S1x2048x1024 : Shape := ⟨3, ![1, 2048, 1024]⟩
abbrev S1x6144 : Shape := ⟨2, ![1, 6144]⟩
abbrev S1x1024 : Shape := ⟨2, ![1, 1024]⟩
abbrev S1x1024x2560 : Shape := ⟨3, ![1, 1024, 2560]⟩
abbrev S1x4x512 : Shape := ⟨3, ![1, 4, 512]⟩
abbrev S1x512 : Shape := ⟨2, ![1, 512]⟩
abbrev S1x8x64x64 : Shape := ⟨4, ![1, 8, 64, 64]⟩
abbrev S1x3x512 : Shape := ⟨3, ![1, 3, 512]⟩
abbrev S1x1024x1024 : Shape := ⟨3, ![1, 1024, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1x6144 : S_.BroadcastsInDim S1x6144 (![] : Fin 0 → Fin S1x6144.rank)
  reducesTo_S1x6144_S_d0_1 : S1x6144.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x6144 .f32) (main_arg7 : FVec F S1x1024 .f32) (main_v14 : IVec S_ 1) (main_v15 : FVec F S1x6144 .f32) (main_cst_5 : FVec F S_ .f32) : IVec S_ 1 :=
  let main_v16 : FVec F S1x6144 .f32 := broadcastInDim S1x6144 ![] bcast_S_S1x6144 main_cst_5
  let main_v17 : IVec S1x6144 1 := cmpf .olt main_v15 main_v16
  let main_c_6 : IVec S_ 1 := constantI S_ 1 1#1
  let main_v18 : IVec S_ 1 := (fun x v => Host.reduce IntOp.andi x v reducesTo_S1x6144_S_d0_1 h_S_) main_v17 main_c_6
  let main_v19 : IVec S_ 1 := andi main_v14 main_v18
  let main_v20 : FVec F S1x6144 .f32 := Host.absf main_arg5
  let main_cst_7 : FVec F S_ .f32 := constant S_ .f32 0x7F800000#32
  let main_v21 : FVec F S1x6144 .f32 := broadcastInDim S1x6144 ![] bcast_S_S1x6144 main_cst_7
  let main_v22 : IVec S1x6144 1 := cmpf .olt main_v20 main_v21
  let main_c_8 : IVec S_ 1 := constantI S_ 1 1#1
  let main_v23 : IVec S_ 1 := (fun x v => Host.reduce IntOp.andi x v reducesTo_S1x6144_S_d0_1 h_S_) main_v22 main_c_8
  let main_v24 : IVec S_ 1 := andi main_v19 main_v23
  let main_v25 : FVec F S1x1024 .f32 := Host.absf main_arg7
  let main_cst_9 : FVec F S_ .f32 := constant S_ .f32 0x7F800000#32
  let main_v26 : FVec F S1x1024 .f32 := broadcastInDim S1x1024 ![] bcast_S_S1x1024 main_cst_9
  let main_v27 : IVec S1x1024 1 := cmpf .olt main_v25 main_v26
  let main_c_10 : IVec S_ 1 := constantI S_ 1 1#1
  let main_v28 : IVec S_ 1 := (fun x v => Host.reduce IntOp.andi x v reducesTo_S1x1024_S_d0_1 h_S_) main_v27 main_c_10
  let main_v29 : IVec S_ 1 := andi main_v24 main_v28
  main_v29

def fn {F : FTy → Type} [FloatOps F] (main_arg0 : FVec F S1x2048x1024 .f32) (main_arg1 : FVec F S1x2048x1024 .f32) (main_arg2 : FVec F S1x2048x1024 .f32) (main_arg3 : FVec F S1x2048x1024 .f32) (main_arg4 : FVec F S1x6144 .f32) (main_arg5 : FVec F S1x6144 .f32) (main_arg6 : FVec F S1x1024 .f32) (main_arg7 : FVec F S1x1024 .f32) (main_arg8 : FVec F S1x1024x2560 .f32) (main_arg9 : FVec F S1x4x512 .f32) (main_arg10 : FVec F S1x512 .f32) (main_arg11 : FVec F S1x8x64x64 .f32) (main_arg12 : FVec F S1x512 .f32) (main_arg13 : FVec F S1x8x64x64 .f32) (main_arg14 : FVec F S1x512 .f32) (main_arg15 : FVec F S1x512 .f32) (main_arg16 : FVec F S1x3x512 .f32) (main_arg17 : FVec F S1x512 .f32) (main_arg18 : FVec F S1x512 .f32) (main_arg19 : FVec F S1x1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_c_0 : IVec S_ 1 := constantI S_ 1 1#1
  let main_v4 : IVec S_ 1 := andi main_c_0 main_v3
  let main_v5 : FVec F S1x2048x1024 .f32 := Host.absf main_arg1
  let main_cst_1 : FVec F S_ .f32 := constant S_ .f32 0x7F800000#32
  let main_v6 : FVec F S1x2048x1024 .f32 := broadcastInDim S1x2048x1024 ![] bcast_S_S1x2048x1024 main_cst_1
  let main_v7 : IVec S1x2048x1024 1 := cmpf .olt main_v5 main_v6
  let main_c_2 : IVec S_ 1 := constantI S_ 1 1#1
  let main_v8 : IVec S_ 1 := (fun x v => Host.reduce IntOp.andi x v reducesTo_S1x2048x1024_S_d0_1_2 h_S_) main_v7 main_c_2
  let main_v9 : IVec S_ 1 := andi main_v4 main_v8
  let main_v10 : FVec F S1x2048x1024 .f32 := Host.absf main_arg3
  let main_cst_3 : FVec F S_ .f32 := constant S_ .f32 0x7F800000#32
  let main_v11 : FVec F S1x2048x1024 .f32 := broadcastInDim S1x2048x1024 ![] bcast_S_S1x2048x1024 main_cst_3
  let main_v12 : IVec S1x2048x1024 1 := cmpf .olt main_v10 main_v11
  let main_c_4 : IVec S_ 1 := constantI S_ 1 1#1
  let main_v13 : IVec S_ 1 := (fun x v => Host.reduce IntOp.andi x v reducesTo_S1x2048x1024_S_d0_1_2 h_S_) main_v12 main_c_4
  let main_v14 : IVec S_ 1 := andi main_v9 main_v13
  let main_v15 : FVec F S1x6144 .f32 := Host.absf main_arg4
  let main_cst_5 : FVec F S_ .f32 := constant S_ .f32 0x7F800000#32
  fn_part1 (F := F) main_arg5 main_arg7 main_v14 main_v15 main_cst_5
-- ==== Pre_mlp_finite.lean ====
abbrev S1x2048x1024 : Shape := ⟨3, ![1, 2048, 1024]⟩
abbrev S1x6144 : Shape := ⟨2, ![1, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1x6144 : S_.BroadcastsInDim S1x6144 (![] : Fin 0 → Fin S1x6144.rank)
  reducesTo_S1x6144_S_d0_1 : S1x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1x4096x1024 .f32) (main_arg8 : FVec F S1024 .f32) (main_v29 : IVec S_ 1) (main_v32 : IVec S1x1024x4096 1) (main_c_12 : IVec S_ 1) : IVec S_ 1 :=
  let main_v33 : IVec S_ 1 := (fun x v => Host.reduce IntOp.andi x v reducesTo_S1x1024x4096_S_d0_1_2 h_S_) main_v32 main_c_12
  let main_v34 : IVec S_ 1 := andi main_v29 main_v33
  let main_v35 : FVec F S1x4096x1024 .f32 := Host.absf main_arg7
  let main_cst_13 : FVec F S_ .f32 := constant S_ .f32 0x7F800000#32
  let main_v36 : FVec F S1x4096x1024 .f32 := broadcastInDim S1x4096x1024 ![] bcast_S_S1x4096x1024 main_cst_13
  let main_v37 : IVec S1x4096x1024 1 := cmpf .olt main_v35 main_v36
  let main_c_14 : IVec S_ 1 := constantI S_ 1 1#1
  let main_v38 : IVec S_ 1 := (fun x v => Host.reduce IntOp.andi x v reducesTo_S1x4096x1024_S_d0_1_2 h_S_) main_v37 main_c_14
  let main_v39 : IVec S_ 1 := andi main_v34 main_v38
  let main_v40 : FVec F S1024 .f32 := Host.absf main_arg8
  let main_cst_15 : FVec F S_ .f32 := constant S_ .f32 0x7F800000#32
  let main_v41 : FVec F S1024 .f32 := broadcastInDim S1024 ![] bcast_S_S1024 main_cst_15
  let main_v42 : IVec S1024 1 := cmpf .olt main_v40 main_v41
  let main_c_16 : IVec S_ 1 := constantI S_ 1 1#1
  let main_v43 : IVec S_ 1 := (fun x v => Host.reduce IntOp.andi x v reducesTo_S1024_S_d0 h_S_) main_v42 main_c_16
  let main_v44 : IVec S_ 1 := andi main_v39 main_v43
  main_v44

def fn_part1 {F : FTy → Type} [FloatOps F] (main_arg4 : FVec F S1x6144 .f32) (main_arg5 : FVec F S1x1024 .f32) (main_arg6 : FVec F S1x1024x4096 .f32) (main_arg7 : FVec F S1x4096x1024 .f32) (main_arg8 : FVec F S1024 .f32) (main_v14 : IVec S_ 1) (main_v15 : FVec F S1x6144 .f32) (main_cst_5 : FVec F S_ .f32) : IVec S_ 1 :=
  let main_v16 : FVec F S1x6144 .f32 := broadcastInDim S1x6144 ![] bcast_S_S1x6144 main_cst_5
  let main_v17 : IVec S1x6144 1 := cmpf .olt main_v15 main_v16
  let main_c_6 : IVec S_ 1 := constantI S_ 1 1#1
  let main_v18 : IVec S_ 1 := (fun x v => Host.reduce IntOp.andi x v reducesTo_S1x6144_S_d0_1 h_S_) main_v17 main_c_6
  let main_v19 : IVec S_ 1 := andi main_v14 main_v18
  let main_v20 : FVec F S1x6144 .f32 := Host.absf main_arg4
  let main_cst_7 : FVec F S_ .f32 := constant S_ .f32 0x7F800000#32
  let main_v21 : FVec F S1x6144 .f32 := broadcastInDim S1x6144 ![] bcast_S_S1x6144 main_cst_7
  let main_v22 : IVec S1x6144 1 := cmpf .olt main_v20 main_v21
  let main_c_8 : IVec S_ 1 := constantI S_ 1 1#1
  let main_v23 : IVec S_ 1 := (fun x v => Host.reduce IntOp.andi x v reducesTo_S1x6144_S_d0_1 h_S_) main_v22 main_c_8
  let main_v24 : IVec S_ 1 := andi main_v19 main_v23
  let main_v25 : FVec F S1x1024 .f32 := Host.absf main_arg5
  let main_cst_9 : FVec F S_ .f32 := constant S_ .f32 0x7F800000#32
  let main_v26 : FVec F S1x1024 .f32 := broadcastInDim S1x1024 ![] bcast_S_S1x1024 main_cst_9
  let main_v27 : IVec S1x1024 1 := cmpf .olt main_v25 main_v26
  let main_c_10 : IVec S_ 1 := constantI S_ 1 1#1
  let main_v28 : IVec S_ 1 := (fun x v => Host.reduce IntOp.andi x v reducesTo_S1x1024_S_d0_1 h_S_) main_v27 main_c_10
  let main_v29 : IVec S_ 1 := andi main_v24 main_v28
  let main_v30 : FVec F S1x1024x4096 .f32 := Host.absf main_arg6
  let main_cst_11 : FVec F S_ .f32 := constant S_ .f32 0x7F800000#32
  let main_v31 : FVec F S1x1024x4096 .f32 := broadcastInDim S1x1024x4096 ![] bcast_S_S1x1024x4096 main_cst_11
  let main_v32 : IVec S1x1024x4096 1 := cmpf .olt main_v30 main_v31
  let main_c_12 : IVec S_ 1 := constantI S_ 1 1#1
  fn_part2 (F := F) main_arg7 main_arg8 main_v29 main_v32 main_c_12

def fn {F : FTy → Type} [FloatOps F] (main_arg0 : FVec F S1x2048x1024 .f32) (main_arg1 : FVec F S1x2048x1024 .f32) (main_arg2 : FVec F S1x2048x1024 .f32) (main_arg3 : FVec F S1x6144 .f32) (main_arg4 : FVec F S1x6144 .f32) (main_arg5 : FVec F S1x1024 .f32) (main_arg6 : FVec F S1x1024x4096 .f32) (main_arg7 : FVec F S1x4096x1024 .f32) (main_arg8 : FVec F S1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_c_0 : IVec S_ 1 := constantI S_ 1 1#1
  let main_v4 : IVec S_ 1 := andi main_c_0 main_v3
  let main_v5 : FVec F S1x2048x1024 .f32 := Host.absf main_arg1
  let main_cst_1 : FVec F S_ .f32 := constant S_ .f32 0x7F800000#32
  let main_v6 : FVec F S1x2048x1024 .f32 := broadcastInDim S1x2048x1024 ![] bcast_S_S1x2048x1024 main_cst_1
  let main_v7 : IVec S1x2048x1024 1 := cmpf .olt main_v5 main_v6
  let main_c_2 : IVec S_ 1 := constantI S_ 1 1#1
  let main_v8 : IVec S_ 1 := (fun x v => Host.reduce IntOp.andi x v reducesTo_S1x2048x1024_S_d0_1_2 h_S_) main_v7 main_c_2
  let main_v9 : IVec S_ 1 := andi main_v4 main_v8
  let main_v10 : FVec F S1x2048x1024 .f32 := Host.absf main_arg2
  let main_cst_3 : FVec F S_ .f32 := constant S_ .f32 0x7F800000#32
  let main_v11 : FVec F S1x2048x1024 .f32 := broadcastInDim S1x2048x1024 ![] bcast_S_S1x2048x1024 main_cst_3
  let main_v12 : IVec S1x2048x1024 1 := cmpf .olt main_v10 main_v11
  let main_c_4 : IVec S_ 1 := constantI S_ 1 1#1
  let main_v13 : IVec S_ 1 := (fun x v => Host.reduce IntOp.andi x v reducesTo_S1x2048x1024_S_d0_1_2 h_S_) main_v12 main_c_4
  let main_v14 : IVec S_ 1 := andi main_v9 main_v13
  let main_v15 : FVec F S1x6144 .f32 := Host.absf main_arg3
  let main_cst_5 : FVec F S_ .f32 := constant S_ .f32 0x7F800000#32
  fn_part1 (F := F) main_arg4 main_arg5 main_arg6 main_arg7 main_arg8 main_v14 main_v15 main_cst_5
-- ==== Gate.lean ====
abbrev S1x2048x512 : Shape := ⟨3, ![1, 2048, 512]⟩
abbrev S8x64x64 : Shape := ⟨3, ![8, 64, 64]⟩
abbrev S2048x512 : Shape := ⟨2, ![2048, 512]⟩
abbrev S512x2048 : Shape := ⟨2, ![512, 2048]⟩
abbrev S2048x1024 : Shape := ⟨2, ![2048, 1024]⟩
abbrev S_ : Shape := ⟨0, ![]⟩
abbrev S8x8 : Shape := ⟨2, ![8, 8]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S2x512x64 : Shape := ⟨3, ![2, 512, 64]⟩
abbrev S512x1024 : Shape := ⟨2, ![512, 1024]⟩
abbrev S512x64 : Shape := ⟨2, ![512, 64]⟩
abbrev S1x512x64 : Shape := ⟨3, ![1, 512, 64]⟩

abbrev nBuf : Space → Nat
  | .hbm => 29
  | .vmem => 4
  | .smem => 0
  | _ => 0

abbrev bufTy : (tb : Table) → Fin (tcTables nBuf tb) → BufTy
  | .hbm, ⟨0, _⟩ => ⟨S1x2048x512, .f32⟩
  | .hbm, ⟨1, _⟩ => ⟨S8x64x64, .f32⟩
  | .hbm, ⟨2, _⟩ => ⟨S8x64x64, .f32⟩
  | .hbm, ⟨3, _⟩ => ⟨S1x2048x512, .f32⟩
  | .hbm, ⟨4, _⟩ => ⟨S1x2048x512, .f32⟩
  | .hbm, ⟨5, _⟩ => ⟨S2048x512, .f32⟩
  | .hbm, ⟨6, _⟩ => ⟨S512x2048, .f32⟩
  | .hbm, ⟨7, _⟩ => ⟨S512x2048, .bf16⟩
  | .hbm, ⟨8, _⟩ => ⟨S2048x512, .f32⟩
  | .hbm, ⟨9, _⟩ => ⟨S2048x512, .f32⟩
  | .hbm, ⟨10, _⟩ => ⟨S2048x1024, .f32⟩
  | .hbm, ⟨11, _⟩ => ⟨S2048x1024, .bf16⟩
  | .hbm, ⟨12, _⟩ => ⟨S_, .f32⟩
  | .hbm, ⟨13, _⟩ => ⟨S8x64x64, .f32⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S8x8, .f32⟩
  | .hbm, ⟨21, _⟩ => ⟨S8x64x1x64, .f32⟩
  | .hbm, ⟨22, _⟩ => ⟨S8x1x8x1, .f32⟩
  | .hbm, ⟨23, _⟩ => ⟨S8x64x8x64, .f32⟩
  | .hbm, ⟨24, _⟩ => ⟨S8x64x8x64, .f32⟩
  | .hbm, ⟨25, _⟩ => ⟨S8x64x8x64, .f32⟩
  | .hbm, ⟨26, _⟩ => ⟨S512x512, .f32⟩
  | .hbm, ⟨27, _⟩ => ⟨S512x512, .bf16⟩
  | .hbm, ⟨28, _⟩ => ⟨S2x512x64, .f32⟩
  | .local _ .vmem, ⟨0, _⟩ => ⟨S512x2048, .bf16⟩
  | .local _ .vmem, ⟨1, _⟩ => ⟨S2048x1024, .bf16⟩
  | .local _ .vmem, ⟨2, _⟩ => ⟨S512x512, .bf16⟩
  | .local _ .vmem, ⟨3, _⟩ => ⟨S2x512x64, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== GateRefIdeal.lean ====
abbrev S1x2048x512 : Shape := ⟨3, ![1, 2048, 512]⟩
abbrev S8x64x64 : Shape := ⟨3, ![8, 64, 64]⟩
abbrev S1x2048x8x64 : Shape := ⟨4, ![1, 2048, 8, 64]⟩
abbrev S8x64x1x2048 : Shape := ⟨4, ![8, 64, 1, 2048]⟩
abbrev S512x64 : Shape := ⟨2, ![512, 64]⟩
abbrev S1x512x64 : Shape := ⟨3, ![1, 512, 64]⟩
abbrev S2x512x64 : Shape := ⟨3, ![2, 512, 64]⟩

abbrev nBuf : Space → Nat
  | .hbm => 25
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S8x64x64, .f32⟩
  | .hbm, ⟨2, _⟩ => ⟨S8x64x64, .f32⟩
  | .hbm, ⟨3, _⟩ => ⟨S1x2048x512, .f32⟩
  | .hbm, ⟨4, _⟩ => ⟨S1x2048x512, .f32⟩
  | .hbm, ⟨5, _⟩ => ⟨S1x2048x8x64, .f32⟩
  | .hbm, ⟨6, _⟩ => ⟨S8x64x1x2048, .f32⟩
  | .hbm, ⟨7, _⟩ => ⟨S1x2048x8x64, .f32⟩
  | .hbm, ⟨8, _⟩ => ⟨S1x2048x512, .f32⟩
  | .hbm, ⟨9, _⟩ => ⟨S8x64x1x2048, .f32⟩
  | .hbm, ⟨10, _⟩ => ⟨S1x2048x8x64, .f32⟩
  | .hbm, ⟨11, _⟩ => ⟨S1x2048x512, .f32⟩
  | .hbm, ⟨12, _⟩ => ⟨S1x2048x8x64, .f32⟩
  | .hbm, ⟨13, _⟩ => ⟨S8x64x1x2048, .f32⟩
  | .hbm, ⟨14, _⟩ => ⟨S8x64x64, .f32⟩
  | .hbm, ⟨15, _⟩ => ⟨S8x64x64, .f32⟩
  | .hbm, ⟨16, _⟩ => ⟨S1x2048x8x64, .f32⟩
  | .hbm, ⟨17, _⟩ => ⟨S8x64x1x2048, .f32⟩
  | .hbm, ⟨18, _⟩ => ⟨S8x64x64, .f32⟩
  | .hbm, ⟨19, _⟩ => ⟨S8x64x64, .f32⟩
  | .hbm, ⟨20, _⟩ => ⟨S512x64, .f32⟩
  | .hbm, ⟨21, _⟩ => ⟨S512x64, .f32⟩
  | .hbm, ⟨22, _⟩ => ⟨S1x512x64, .f32⟩
  | .hbm, ⟨23, _⟩ => ⟨S1x512x64, .f32⟩
  | .hbm, ⟨24, _⟩ => ⟨S2x512x64, .f32⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Mlp.lean ====
abbrev S1x2048x1024 : Shape := ⟨3, ![1, 2048, 1024]⟩
abbrev S1x6144 : Shape := ⟨2, ![1, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S6x1024 : Shape := ⟨2, ![6, 1024]⟩
abbrev S_ : Shape := ⟨0, ![]⟩
abbrev S8x1024 : Shape := ⟨2, ![8, 1024]⟩
abbrev S1024x4096 : Shape := ⟨2, ![1024, 4096]⟩
abbrev S4096x1024 : Shape := ⟨2, ![4096, 1024]⟩
abbrev S8x512x1024 : Shape := ⟨3, ![8, 512, 1024]⟩
abbrev S8x1024x1024 : Shape := ⟨3, ![8, 1024, 1024]⟩
abbrev S2048x1024 : Shape := ⟨2, ![2048, 1024]⟩
abbrev S1024x2048 : Shape := ⟨2, ![1024, 2048]⟩
abbrev S2048x4096 : Shape := ⟨2, ![2048, 4096]⟩
abbrev S8x128 : Shape := ⟨2, ![8, 128]⟩
abbrev S256x1024 : Shape := ⟨2, ![256, 1024]⟩
abbrev S1024x256 : Shape := ⟨2, ![1024, 256]⟩
abbrev S256x4096 : Shape := ⟨2, ![256, 4096]⟩
abbrev S2 : Shape := ⟨1, ![2]⟩
abbrev S1 : Shape := ⟨1, ![1]⟩
abbrev S512x1024 : Shape := ⟨2, ![512, 1024]⟩
abbrev S1x512x1024 : Shape := ⟨3, ![1, 512, 1024]⟩
abbrev S256 : Shape := ⟨1, ![256]⟩
abbrev S256x1 : Shape := ⟨2, ![256, 1]⟩
abbrev S256x512 : Shape := ⟨2, ![256, 512]⟩
abbrev S1x1 : Shape := ⟨2, ![1, 1]⟩

abbrev nBuf : Space → Nat
  | .hbm => 34
  | .vmem => 22
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x6144, .f32⟩
  | .hbm, ⟨4, _⟩ => ⟨S1x6144, .f32⟩
  | .hbm, ⟨5, _⟩ => ⟨S1x1024, .f32⟩
  | .hbm, ⟨6, _⟩ => ⟨S1x1024x4096, .f32⟩
  | .hbm, ⟨7, _⟩ => ⟨S1x4096x1024, .f32⟩
  | .hbm, ⟨8, _⟩ => ⟨S1024, .f32⟩
  | .hbm, ⟨9, _⟩ => ⟨S6x1024, .f32⟩
  | .hbm, ⟨10, _⟩ => ⟨S_, .i32⟩
  | .hbm, ⟨11, _⟩ => ⟨S_, .f32⟩
  | .hbm, ⟨12, _⟩ => ⟨S8x1024, .f32⟩
  | .hbm, ⟨13, _⟩ => ⟨S6x1024, .f32⟩
  | .hbm, ⟨14, _⟩ => ⟨S_, .i32⟩
  | .hbm, ⟨15, _⟩ => ⟨S_, .f32⟩
  | .hbm, ⟨16, _⟩ => ⟨S8x1024, .f32⟩
  | .hbm, ⟨17, _⟩ => ⟨S1x1024, .f32⟩
  | .hbm, ⟨18, _⟩ => ⟨S1024x4096, .f32⟩
  | .hbm, ⟨19, _⟩ => ⟨S4096x1024, .f32⟩
  | .hbm, ⟨20, _⟩ => ⟨S8x512x1024, .f32⟩
  | .hbm, ⟨21, _⟩ => ⟨S4096x1024, .f32⟩
  | .hbm, ⟨22, _⟩ => ⟨S8x512x1024, .f32⟩
  | .hbm, ⟨23, _⟩ => ⟨S8x1024x1024, .f32⟩
  | .hbm, ⟨24, _⟩ => ⟨S8x1024x1024, .bf16⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1024x2048, .bf16⟩
  | .hbm, ⟨29, _⟩ => ⟨S2048x4096, .f32⟩
  | .hbm, ⟨30, _⟩ => ⟨S2048x1024, .f32⟩
  | .hbm, ⟨31, _⟩ => ⟨S2048x1024, .bf16⟩
  | .hbm, ⟨32, _⟩ => ⟨S8x1024, .f32⟩
  | .hbm, ⟨33, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S1x1024, .f32⟩
  | .local _ .vmem, ⟨10, _⟩ => ⟨S1024x256, .bf16⟩
  | .local _ .vmem, ⟨11, _⟩ => ⟨S1024x256, .bf16⟩
  | .local _ .vmem, ⟨12, _⟩ => ⟨S256x4096, .f32⟩
  | .local _ .vmem, ⟨13, _⟩ => ⟨S256x4096, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S8x1024, .f32⟩
  | .local _ .vmem, ⟨19, _⟩ => ⟨S8x128, .f32⟩
  | .local _ .vmem, ⟨20, _⟩ => ⟨S4096x1024, .bf16⟩
  | .local _ .vmem, ⟨21, _⟩ => ⟨S4096x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev main_v15_4 : Ref sig .tc := ⟨.hbm, 32, rfl⟩
abbrev main_v15_5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MlpRefIdeal.lean ====
abbrev S1x2048x1024 : Shape := ⟨3, ![1, 2048, 1024]⟩
abbrev S1x6144 : Shape := ⟨2, ![1, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S6144 : Shape := ⟨1, ![6144]⟩
abbrev S1x1x6144 : Shape := ⟨3, ![1, 1, 6144]⟩
abbrev S1x1x1024 : Shape := ⟨3, ![1, 1, 1024]⟩
abbrev S_ : Shape := ⟨0, ![]⟩
abbrev S1x2048 : Shape := ⟨2, ![1, 2048]⟩
abbrev S1x2048x1 : Shape := ⟨3, ![1, 2048, 1]⟩
abbrev S1024x4096 : Shape := ⟨2, ![1024, 4096]⟩
abbrev S1x2048x4096 : Shape := ⟨3, ![1, 2048, 4096]⟩
abbrev S4096x1024 : Shape := ⟨2, ![4096, 1024]⟩
abbrev S2048 : Shape := ⟨1, ![2048]⟩
abbrev S6x1024 : Shape := ⟨2, ![6, 1024]⟩
abbrev S8x1024 : Shape := ⟨2, ![8, 1024]⟩
abbrev S2048x1024 : Shape := ⟨2, ![2048, 1024]⟩
abbrev S1024x2048 : Shape := ⟨2, ![1024, 2048]⟩
abbrev S2048x4096 : Shape := ⟨2, ![2048, 4096]⟩
abbrev S8x128 : Shape := ⟨2, ![8, 128]⟩

abbrev nBuf : Space → Nat
  | .hbm => 145
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1x2048x1024, .f32⟩
  | 3 => ⟨S1x6144, .f32⟩
  | 4 => ⟨S1x6144, .f32⟩
  | 5 => ⟨S1x1024, .f32⟩
  | 6 => ⟨S1x1024x4096, .f32⟩
  | 7 => ⟨S1x4096x1024, .f32⟩
  | 8 => ⟨S1024, .f32⟩
  | 9 => ⟨S6144, .f32⟩
  | 10 => ⟨S1x6144, .f32⟩
  | 11 => ⟨S1x6144, .f32⟩
  | 12 => ⟨S1x1x6144, .f32⟩
  | 13 => ⟨S1x1x1024, .f32⟩
  | 14 => ⟨S1x1x1024, .f32⟩
  | 15 => ⟨S1x1x1024, .f32⟩
  | 16 => ⟨S1x1x1024, .f32⟩
  | 17 => ⟨S1x1x1024, .f32⟩
  | 18 => ⟨S1x1x1024, .f32⟩
  | 19 => ⟨S1x2048x1024, .f32⟩
  | 20 => ⟨S1x2048x1024, .f32⟩
  | 21 => ⟨S1x2048x1024, .f32⟩
  | 22 => ⟨S1024, .f32⟩
  | 23 => ⟨S1x2048x1024, .f32⟩
  | 24 => ⟨S_, .f32⟩
  | 25 => ⟨S1x2048, .f32⟩
  | 26 => ⟨S1x2048x1, .f32⟩
  | 27 => ⟨S_, .f32⟩
  | 28 => ⟨S1x2048x1, .f32⟩
  | 29 => ⟨S1x2048x1, .f32⟩
  | 30 => ⟨S_, .f32⟩
  | 31 => ⟨S1x2048x1, .f32⟩
  | 32 => ⟨S1x2048x1, .f32⟩
  | 33 => ⟨S1x2048x1, .f32⟩
  | 34 => ⟨S1x2048x1024, .f32⟩
  | 35 => ⟨S1x2048x1024, .f32⟩
  | 36 => ⟨S1x1x1024, .f32⟩
  | 37 => ⟨S1x2048x1024, .f32⟩
  | 38 => ⟨S1x2048x1024, .f32⟩
  | 39 => ⟨S_, .f32⟩
  | 40 => ⟨S1x1x1024, .f32⟩
  | 41 => ⟨S1x1x1024, .f32⟩
  | 42 => ⟨S1x2048x1024, .f32⟩
  | 43 => ⟨S1x2048x1024, .f32⟩
  | 44 => ⟨S1x2048x1024, .f32⟩
  | 45 => ⟨S1x2048x1024, .f32⟩
  | 46 => ⟨S1024x4096, .f32⟩
  | 47 => ⟨S1x2048x4096, .f32⟩
  | 48 => ⟨S_, .f32⟩
  | 49 => ⟨S1x2048x4096, .f32⟩
  | 50 => ⟨S1x2048x4096, .f32⟩
  | 51 => ⟨S1x2048x4096, .f32⟩
  | 52 => ⟨S4096x1024, .f32⟩
  | 53 => ⟨S1x2048x1024, .f32⟩
  | 54 => ⟨S1x2048x1024, .f32⟩
  | 55 => ⟨S1x2048x1024, .f32⟩
  | 56 => ⟨S1x2048x1024, .f32⟩
  | 57 => ⟨S1x2048x1024, .f32⟩
  | 58 => ⟨S_, .f32⟩
  | 59 => ⟨S1x2048, .f32⟩
  | 60 => ⟨S1x2048x1, .f32⟩
  | 61 => ⟨S_, .f32⟩
  | 62 => ⟨S1x2048x1, .f32⟩
  | 63 => ⟨S1x2048x1, .f32⟩
  | 64 => ⟨S_, .f32⟩
  | 65 => ⟨S1x2048x1, .f32⟩
  | 66 => ⟨S1x2048x1, .f32⟩
  | 67 => ⟨S1x2048x1, .f32⟩
  | 68 => ⟨S1x2048x1, .f32⟩
  | 69 => ⟨S_, .f32⟩
  | 70 => ⟨S1x2048x1, .f32⟩
  | 71 => ⟨S1x2048x1, .f32⟩
  | 72 => ⟨S1x2048x1024, .f32⟩
  | 73 => ⟨S1x2048x1024, .f32⟩
  | 74 => ⟨S1x1x1024, .f32⟩
  | 75 => ⟨S1x2048x1024, .f32⟩
  | 76 => ⟨S1x2048x1024, .f32⟩
  | 77 => ⟨S1x2048x1024, .f32⟩
  | 78 => ⟨S1x2048x1024, .f32⟩
  | 79 => ⟨S_, .f32⟩
  | 80 => ⟨S1x2048x1024, .f32⟩
  | 81 => ⟨S1x2048x1024, .f32⟩
  | 82 => ⟨S_, .f32⟩
  | 83 => ⟨S1x2048, .f32⟩
  | 84 => ⟨S_, .f32⟩
  | 85 => ⟨S1x2048, .f32⟩
  | 86 => ⟨S1x2048, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S1x2048, .f32⟩
  | 95 => ⟨S_, .f32⟩
  | 96 => ⟨S1x2048, .f32⟩
  | 97 => ⟨S1x2048, .f32⟩
  | 98 => ⟨S1x2048x1024, .f32⟩
  | 99 => ⟨S1x2048x1024, .f32⟩
  | 100 => ⟨S1x2048x1024, .f32⟩
  | 101 => ⟨S_, .f32⟩
  | 102 => ⟨S1x1024, .f32⟩
  | 103 => ⟨S1x1x1024, .f32⟩
  | 104 => ⟨S1x2048x1024, .f32⟩
  | 105 => ⟨S1x2048x1024, .f32⟩
  | 106 => ⟨S_, .f32⟩
  | 107 => ⟨S1024, .f32⟩
  | 108 => ⟨S1x2048x1024, .f32⟩
  | 109 => ⟨S_, .f32⟩
  | 110 => ⟨S1x2048, .f32⟩
  | 111 => ⟨S1x2048x1, .f32⟩
  | 112 => ⟨S1x2048x1024, .f32⟩
  | 113 => ⟨S1x2048x1024, .f32⟩
  | 114 => ⟨S1x2048x1, .f32⟩
  | 115 => ⟨S_, .f32⟩
  | 116 => ⟨S1x2048x1, .f32⟩
  | 117 => ⟨S1x2048x1, .f32⟩
  | 118 => ⟨S_, .f32⟩
  | 119 => ⟨S2048, .f32⟩
  | 120 => ⟨S1x2048, .f32⟩
  | 121 => ⟨S1x2048x1024, .f32⟩
  | 122 => ⟨S1x2048x1024, .f32⟩
  | 123 => ⟨S1x2048x1024, .f32⟩
  | 124 => ⟨S1x2048x1024, .f32⟩
  | 125 => ⟨S1x2048x1024, .f32⟩
  | 126 => ⟨S1x2048x1024, .f32⟩
  | 127 => ⟨S1x2048x1024, .f32⟩
  | _ => ⟨S1x2048x1024, .f32⟩

abbrev hbmTy0_1 (i : Nat) : BufTy := match i % 128 with
  | 0 => ⟨S1x2048x1024, .f32⟩
  | 1 => ⟨S_, .f32⟩
  | 2 => ⟨S1x1024, .f32⟩
  | 3 => ⟨S1x1x1024, .f32⟩
  | 4 => ⟨S1x1024, .f32⟩
  | 5 => ⟨S1x1024, .f32⟩
  | 6 => ⟨S_, .f32⟩
  | 7 => ⟨S6x1024, .f32⟩
  | 8 => ⟨S8x1024, .f32⟩
  | 9 => ⟨S2048x1024, .f32⟩
  | 10 => ⟨S1024x2048, .f32⟩
  | 11 => ⟨S1024x2048, .bf16⟩
  | 12 => ⟨S2048x4096, .f32⟩
  | 13 => ⟨S2048x1024, .f32⟩
  | 14 => ⟨S2048x1024, .f32⟩
  | 15 => ⟨S2048x1024, .bf16⟩
  | 16 => ⟨S8x128, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call0_cst : Ref sig .tc := ⟨.hbm, 48, rfl⟩
abbrev main_call0_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_cst_12 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_18 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_20 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_21 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩

abbrev nD : Nat := 1
abbrev τ : Topo := Topo.v7x

variable {F : FTy → Type} [FloatOps F]
-- ==== Odd.lean ====
abbrev S1x2048x1024 : Shape := ⟨3, ![1, 2048, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S4096x1024 : Shape := ⟨2, ![4096, 1024]⟩
abbrev S8x512x1024 : Shape := ⟨3, ![8, 512, 1024]⟩
abbrev S8x1024x1024 : Shape := ⟨3, ![8, 1024, 1024]⟩
abbrev S2048x1024 : Shape := ⟨2, ![2048, 1024]⟩
abbrev S2048x4096 : Shape := ⟨2, ![2048, 4096]⟩
abbrev S_ : Shape := ⟨0, ![]⟩
abbrev S2 : Shape := ⟨1, ![2]⟩
abbrev S1024x2048 : Shape := ⟨2, ![1024, 2048]⟩
abbrev S4x1024x512 : Shape := ⟨3, ![4, 1024, 512]⟩
abbrev S4x512x1024 : Shape := ⟨3, ![4, 512, 1024]⟩
abbrev S1024x512 : Shape := ⟨2, ![1024, 512]⟩
abbrev S512x512 : Shape := ⟨2, ![512, 512]⟩
abbrev S1 : Shape := ⟨1, ![1]⟩
abbrev S512x1024 : Shape := ⟨2, ![512, 1024]⟩
abbrev S1x512x1024 : Shape := ⟨3, ![1, 512, 1024]⟩
abbrev S1x1024x512 : Shape := ⟨3, ![1, 1024, 512]⟩

abbrev nBuf : Space → Nat
  | .hbm => 25
  | .vmem => 15
  | .smem => 1
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024x4096, .f32⟩
  | .hbm, ⟨3, _⟩ => ⟨S1x4096x1024, .f32⟩
  | .hbm, ⟨4, _⟩ => ⟨S1024x4096, .f32⟩
  | .hbm, ⟨5, _⟩ => ⟨S4096x1024, .f32⟩
  | .hbm, ⟨6, _⟩ => ⟨S8x512x1024, .f32⟩
  | .hbm, ⟨7, _⟩ => ⟨S4096x1024, .f32⟩
  | .hbm, ⟨8, _⟩ => ⟨S8x512x1024, .f32⟩
  | .hbm, ⟨9, _⟩ => ⟨S8x1024x1024, .f32⟩
  | .hbm, ⟨10, _⟩ => ⟨S8x1024x1024, .bf16⟩
  | .hbm, ⟨11, _⟩ => ⟨S2048x1024, .f32⟩
  | .hbm, ⟨12, _⟩ => ⟨S2048x1024, .bf16⟩
  | .hbm, ⟨13, _⟩ => ⟨S1024x4096, .f32⟩
  | .hbm, ⟨14, _⟩ => ⟨S1024x4096, .bf16⟩
  | .hbm, ⟨15, _⟩ => ⟨S2048x4096, .f32⟩
  | .hbm, ⟨16, _⟩ => ⟨S_, .i32⟩
  | .hbm, ⟨17, _⟩ => ⟨S2048x1024, .f32⟩
  | .hbm, ⟨18, _⟩ => ⟨S1024x2048, .f32⟩
  | .hbm, ⟨19, _⟩ => ⟨S1024x2048, .bf16⟩
  | .hbm, ⟨20, _⟩ => ⟨S2048x1024, .f32⟩
  | .hbm, ⟨21, _⟩ => ⟨S2048x1024, .bf16⟩
  | .hbm, ⟨22, _⟩ => ⟨S2048x1024, .f32⟩
  | .hbm, ⟨23, _⟩ => ⟨S4x1024x512, .f32⟩
  | .hbm, ⟨24, _⟩ => ⟨S4x512x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S2048x1024, .f32⟩
  | .local _ .vmem, ⟨11, _⟩ => ⟨S1x1024x512, .f32⟩
  | .local _ .vmem, ⟨12, _⟩ => ⟨S1x1024x512, .f32⟩
  | .local _ .vmem, ⟨13, _⟩ => ⟨S1x512x1024, .f32⟩
  | .local _ .vmem, ⟨14, _⟩ => ⟨S1x512x1024, .f32⟩
  | .local _ .smem, ⟨0, _⟩ => ⟨S2, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_v18_2 : Ref sig .tc := ⟨.hbm, 24, rfl⟩
abbrev main_v12 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v12.idx], fun | 0 => main_v12.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond3 (i : grid0.Coords) : BitVec 1 :=
  let arg0 : BitVec 32 := BitVec.ofNat 32 (i 0).val
  let c0_i32_19 : BitVec 32 := 0#32
  let v30 : BitVec 1 := Scalar.cmpi .eq arg0 c0_i32_19
  let v31 : BitVec 32 := Scalar.extui v30
  let c0_i32_20 : BitVec 32 := 0#32
  let v32 : BitVec 1 := Scalar.cmpi .ne v31 c0_i32_20
  v32

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v36 : Index := Scalar.indexCast v1
  let c0_23 : Index := 0#32
  ![v36.toNat, 0]
def k0_cond4 (i : grid0.Coords) : BitVec 1 :=
  let arg0 : BitVec 32 := BitVec.ofNat 32 (i 0).val
  let c0_i32_21 : BitVec 32 := 0#32
  let v33 : BitVec 1 := Scalar.cmpi .ne arg0 c0_i32_21
  let v34 : BitVec 32 := Scalar.extui v33
  let c0_i32_22 : BitVec 32 := 0#32
  let v35 : BitVec 1 := Scalar.cmpi .ne v34 c0_i32_22
  v35

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v36 : Index := Scalar.indexCast v1
  let c0_23 : Index := 0#32
  ![v36.toNat, 0]
def k0_cond1 (i : grid0.Coords) : BitVec 1 :=
  let arg1 : BitVec 32 := BitVec.ofNat 32 (i 1).val
  let c0_i32 : BitVec 32 := 0#32
  let v24 : BitVec 1 := Scalar.cmpi .eq arg1 c0_i32
  let v25 : BitVec 32 := Scalar.extui v24
  let c0_i32_16 : BitVec 32 := 0#32
  let v26 : BitVec 1 := Scalar.cmpi .ne v25 c0_i32_16
  v26

def k0_cond2 (i : grid0.Coords) : BitVec 1 :=
  let arg1 : BitVec 32 := BitVec.ofNat 32 (i 1).val
  let c0_i32_17 : BitVec 32 := 0#32
  let v27 : BitVec 1 := Scalar.cmpi .ne arg1 c0_i32_17
  let v28 : BitVec 32 := Scalar.extui v27
  let c0_i32_18 : BitVec 32 := 0#32
  let v29 : BitVec 1 := Scalar.cmpi .ne v28 c0_i32_18
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S2) ![0] S1.size inb_S2_S1_0) numel1_S1
  let c1_i32 : BitVec 32 := 1#32
  let v2 : BitVec 32 := Scalar.xori v1 c1_i32
  let v3 : BitVec 32 := Scalar.addi v0 v2
  let c0_i32 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S2) ![0] S1.size inb_S2_S1_0) numel1_S1
  let c1_i32 : BitVec 32 := 1#32
  let v2 : BitVec 32 := Scalar.xori v1 c1_i32
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_4 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S2) ![0] S1.size inb_S2_S1_0) numel1_S1
  let c1_i32 : BitVec 32 := 1#32
  let v2 : BitVec 32 := Scalar.xori v1 c1_i32
  let v3 : BitVec 32 := Scalar.addi v0 v2
  let c1_i32_0 : BitVec 32 := 1#32
  let c0_i32 : BitVec 32 := 0#32
  let c0_i32_1 : BitVec 32 := 0#32
  ![v3.toNat, c1_i32_0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== OddRefIdeal.lean ====
abbrev S1x2048x1024 : Shape := ⟨3, ![1, 2048, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x4x2x512 : Shape := ⟨4, ![1024, 4, 2, 512]⟩
abbrev S1024x4x1x512 : Shape := ⟨4, ![1024, 4, 1, 512]⟩
abbrev S1024x4x512 : Shape := ⟨3, ![1024, 4, 512]⟩
abbrev S1024x2048 : Shape := ⟨2, ![1024, 2048]⟩
abbrev S4096x1024 : Shape := ⟨2, ![4096, 1024]⟩
abbrev S4x2x512x1024 : Shape := ⟨4, ![4, 2, 512, 1024]⟩
abbrev S4x1x512x1024 : Shape := ⟨4, ![4, 1, 512, 1024]⟩
abbrev S4x512x1024 : Shape := ⟨3, ![4, 512, 1024]⟩
abbrev S2048x1024 : Shape := ⟨2, ![2048, 1024]⟩
abbrev S2048x2048 : Shape := ⟨2, ![2048, 2048]⟩
abbrev S_ : Shape := ⟨0, ![]⟩
abbrev S4x1024x512 : Shape := ⟨3, ![4, 1024, 512]⟩

abbrev nBuf : Space → Nat
  | .hbm => 43
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024x4096, .f32⟩
  | .hbm, ⟨3, _⟩ => ⟨S1x4096x1024, .f32⟩
  | .hbm, ⟨4, _⟩ => ⟨S1024x4096, .f32⟩
  | .hbm, ⟨5, _⟩ => ⟨S1024x4x2x512, .f32⟩
  | .hbm, ⟨6, _⟩ => ⟨S1024x4x1x512, .f32⟩
  | .hbm, ⟨7, _⟩ => ⟨S1024x4x512, .f32⟩
  | .hbm, ⟨8, _⟩ => ⟨S1024x2048, .f32⟩
  | .hbm, ⟨9, _⟩ => ⟨S4096x1024, .f32⟩
  | .hbm, ⟨10, _⟩ => ⟨S4x2x512x1024, .f32⟩
  | .hbm, ⟨11, _⟩ => ⟨S4x1x512x1024, .f32⟩
  | .hbm, ⟨12, _⟩ => ⟨S4x512x1024, .f32⟩
  | .hbm, ⟨13, _⟩ => ⟨S2048x1024, .f32⟩
  | .hbm, ⟨14, _⟩ => ⟨S2048x1024, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .i1⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x1024, .f32⟩
  | .hbm, ⟨29, _⟩ => ⟨S2048x1024, .f32⟩
  | .hbm, ⟨30, _⟩ => ⟨S1024x2048, .f32⟩
  | .hbm, ⟨31, _⟩ => ⟨S2048x1024, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x1024, .f32⟩
  | .hbm, ⟨38, _⟩ => ⟨S1024x2048, .f32⟩
  | .hbm, ⟨39, _⟩ => ⟨S2048x1024, .f32⟩
  | .hbm, ⟨40, _⟩ => ⟨S1024x4x512, .f32⟩
  | .hbm, ⟨41, _⟩ => ⟨S4x1024x512, .f32⟩
  | .hbm, ⟨42, _⟩ => ⟨S4x512x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Even.lean ====
abbrev S2048x1024 : Shape := ⟨2, ![2048, 1024]⟩
abbrev S1x2048x1024 : Shape := ⟨3, ![1, 2048, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S4096x1024 : Shape := ⟨2, ![4096, 1024]⟩
abbrev S8x512x1024 : Shape := ⟨3, ![8, 512, 1024]⟩
abbrev S8x1024x1024 : Shape := ⟨3, ![8, 1024, 1024]⟩
abbrev S2048x4096 : Shape := ⟨2, ![2048, 4096]⟩
abbrev S_ : Shape := ⟨0, ![]⟩
abbrev S2 : Shape := ⟨1, ![2]⟩
abbrev S1024x2048 : Shape := ⟨2, ![1024, 2048]⟩
abbrev S8x128 : Shape := ⟨2, ![8, 128]⟩
abbrev S4x1024x512 : Shape := ⟨3, ![4, 1024, 512]⟩
abbrev S4x512x1024 : Shape := ⟨3, ![4, 512, 1024]⟩
abbrev S1024x512 : Shape := ⟨2, ![1024, 512]⟩
abbrev S512x512 : Shape := ⟨2, ![512, 512]⟩
abbrev S1 : Shape := ⟨1, ![1]⟩
abbrev S512x1024 : Shape := ⟨2, ![512, 1024]⟩
abbrev S1x512x1024 : Shape := ⟨3, ![1, 512, 1024]⟩
abbrev S1x1024x512 : Shape := ⟨3, ![1, 1024, 512]⟩

abbrev nBuf : Space → Nat
  | .hbm => 28
  | .vmem => 18
  | .smem => 1
  | _ => 0

abbrev bufTy : (tb : Table) → Fin (tcTables nBuf tb) → BufTy
  | .hbm, ⟨0, _⟩ => ⟨S2048x1024, .f32⟩
  | .hbm, ⟨1, _⟩ => ⟨S1x2048x1024, .f32⟩
  | .hbm, ⟨2, _⟩ => ⟨S1x2048x1024, .f32⟩
  | .hbm, ⟨3, _⟩ => ⟨S1x1024x4096, .f32⟩
  | .hbm, ⟨4, _⟩ => ⟨S1x4096x1024, .f32⟩
  | .hbm, ⟨5, _⟩ => ⟨S1024x4096, .f32⟩
  | .hbm, ⟨6, _⟩ => ⟨S4096x1024, .f32⟩
  | .hbm, ⟨7, _⟩ => ⟨S8x512x1024, .f32⟩
  | .hbm, ⟨8, _⟩ => ⟨S4096x1024, .f32⟩
  | .hbm, ⟨9, _⟩ => ⟨S8x512x1024, .f32⟩
  | .hbm, ⟨10, _⟩ => ⟨S8x1024x1024, .f32⟩
  | .hbm, ⟨11, _⟩ => ⟨S8x1024x1024, .bf16⟩
  | .hbm, ⟨12, _⟩ => ⟨S2048x1024, .f32⟩
  | .hbm, ⟨13, _⟩ => ⟨S2048x1024, .bf16⟩
  | .hbm, ⟨14, _⟩ => ⟨S1024x4096, .f32⟩
  | .hbm, ⟨15, _⟩ => ⟨S1024x4096, .bf16⟩
  | .hbm, ⟨16, _⟩ => ⟨S2048x4096, .f32⟩
  | .hbm, ⟨17, _⟩ => ⟨S_, .i32⟩
  | .hbm, ⟨18, _⟩ => ⟨S2048x1024, .f32⟩
  | .hbm, ⟨19, _⟩ => ⟨S1024x2048, .f32⟩
  | .hbm, ⟨20, _⟩ => ⟨S1024x2048, .bf16⟩
  | .hbm, ⟨21, _⟩ => ⟨S_, .f32⟩
  | .hbm, ⟨22, _⟩ => ⟨S8x128, .f32⟩
  | .hbm, ⟨23, _⟩ => ⟨S2048x1024, .f32⟩
  | .hbm, ⟨24, _⟩ => ⟨S2048x1024, .bf16⟩
  | .hbm, ⟨25, _⟩ => ⟨S2048x1024, .f32⟩
  | .hbm, ⟨26, _⟩ => ⟨S4x1024x512, .f32⟩
  | .hbm, ⟨27, _⟩ => ⟨S4x512x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | .local _ .vmem, ⟨13, _⟩ => ⟨S2048x1024, .f32⟩
  | .local _ .vmem, ⟨14, _⟩ => ⟨S1x1024x512, .f32⟩
  | .local _ .vmem, ⟨15, _⟩ => ⟨S1x1024x512, .f32⟩
  | .local _ .vmem, ⟨16, _⟩ => ⟨S1x512x1024, .f32⟩
  | .local _ .vmem, ⟨17, _⟩ => ⟨S1x512x1024, .f32⟩
  | .local _ .smem, ⟨0, _⟩ => ⟨S2, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v19_2 : Ref sig .tc := ⟨.hbm, 27, rfl⟩
abbrev main_v12 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v12.idx], fun | 0 => main_v12.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond3 (i : grid0.Coords) : BitVec 1 :=
  let arg0 : BitVec 32 := BitVec.ofNat 32 (i 0).val
  let c0_i32_19 : BitVec 32 := 0#32
  let v30 : BitVec 1 := Scalar.cmpi .eq arg0 c0_i32_19
  let v31 : BitVec 32 := Scalar.extui v30
  let c0_i32_20 : BitVec 32 := 0#32
  let v32 : BitVec 1 := Scalar.cmpi .ne v31 c0_i32_20
  v32

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_25 : Index := 0#32
  ![v38.toNat, 0]
def k0_cond4 (i : grid0.Coords) : BitVec 1 :=
  let arg0 : BitVec 32 := BitVec.ofNat 32 (i 0).val
  let c0_i32_21 : BitVec 32 := 0#32
  let v33 : BitVec 1 := Scalar.cmpi .ne arg0 c0_i32_21
  let v34 : BitVec 32 := Scalar.extui v33
  let c0_i32_22 : BitVec 32 := 0#32
  let v35 : BitVec 1 := Scalar.cmpi .ne v34 c0_i32_22
  v35

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v36 : Index := Scalar.indexCast v1
  let c0_23 : Index := 0#32
  ![v36.toNat, 0]
def k0_cond1 (i : grid0.Coords) : BitVec 1 :=
  let arg1 : BitVec 32 := BitVec.ofNat 32 (i 1).val
  let c0_i32 : BitVec 32 := 0#32
  let v24 : BitVec 1 := Scalar.cmpi .eq arg1 c0_i32
  let v25 : BitVec 32 := Scalar.extui v24
  let c0_i32_16 : BitVec 32 := 0#32
  let v26 : BitVec 1 := Scalar.cmpi .ne v25 c0_i32_16
  v26

def k0_cond2 (i : grid0.Coords) : BitVec 1 :=
  let arg1 : BitVec 32 := BitVec.ofNat 32 (i 1).val
  let c0_i32_17 : BitVec 32 := 0#32
  let v27 : BitVec 1 := Scalar.cmpi .ne arg1 c0_i32_17
  let v28 : BitVec 32 := Scalar.extui v27
  let c0_i32_18 : BitVec 32 := 0#32
  let v29 : BitVec 1 := Scalar.cmpi .ne v28 c0_i32_18
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S2) ![0] S1.size inb_S2_S1_0) numel1_S1
  let c0_i32 : BitVec 32 := 0#32
  let v2 : BitVec 32 := Scalar.xori v1 c0_i32
  let v3 : BitVec 32 := Scalar.addi v0 v2
  let c0_i32_0 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S2) ![0] S1.size inb_S2_S1_0) numel1_S1
  let c0_i32 : BitVec 32 := 0#32
  let v2 : BitVec 32 := Scalar.xori v1 c0_i32
  let v3 : BitVec 32 := Scalar.addi v0 v2
  let c0_i32_0 : BitVec 32 := 0#32
  let c0_i32_1 : BitVec 32 := 0#32
  let c0_i32_2 : BitVec 32 := 0#32
  ![v3.toNat, c0_i32_0.toNat, c0_i32_1.toNat]

def cc0_transform_4 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S2) ![0] S1.size inb_S2_S1_0) numel1_S1
  let c0_i32 : BitVec 32 := 0#32
  let v2 : BitVec 32 := Scalar.xori v1 c0_i32
  let v3 : BitVec 32 := Scalar.addi v0 v2
  let c1_i32 : BitVec 32 := 1#32
  let c0_i32_0 : BitVec 32 := 0#32
  let c0_i32_1 : BitVec 32 := 0#32
  ![v3.toNat, c1_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== EvenRefIdeal.lean ====
abbrev S2048x1024 : Shape := ⟨2, ![2048, 1024]⟩
abbrev S1x2048x1024 : Shape := ⟨3, ![1, 2048, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x4x2x512 : Shape := ⟨4, ![1024, 4, 2, 512]⟩
abbrev S1024x4x1x512 : Shape := ⟨4, ![1024, 4, 1, 512]⟩
abbrev S1024x4x512 : Shape := ⟨3, ![1024, 4, 512]⟩
abbrev S1024x2048 : Shape := ⟨2, ![1024, 2048]⟩
abbrev S4096x1024 : Shape := ⟨2, ![4096, 1024]⟩
abbrev S4x2x512x1024 : Shape := ⟨4, ![4, 2, 512, 1024]⟩
abbrev S4x1x512x1024 : Shape := ⟨4, ![4, 1, 512, 1024]⟩
abbrev S4x512x1024 : Shape := ⟨3, ![4, 512, 1024]⟩
abbrev S2048x2048 : Shape := ⟨2, ![2048, 2048]⟩
abbrev S_ : Shape := ⟨0, ![]⟩
abbrev S4x1024x512 : Shape := ⟨3, ![4, 1024, 512]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x2048x1024, .f32⟩
  | .hbm, ⟨2, _⟩ => ⟨S1x2048x1024, .f32⟩
  | .hbm, ⟨3, _⟩ => ⟨S1x1024x4096, .f32⟩
  | .hbm, ⟨4, _⟩ => ⟨S1x4096x1024, .f32⟩
  | .hbm, ⟨5, _⟩ => ⟨S1024x4096, .f32⟩
  | .hbm, ⟨6, _⟩ => ⟨S1024x4x2x512, .f32⟩
  | .hbm, ⟨7, _⟩ => ⟨S1024x4x1x512, .f32⟩
  | .hbm, ⟨8, _⟩ => ⟨S1024x4x512, .f32⟩
  | .hbm, ⟨9, _⟩ => ⟨S1024x2048, .f32⟩
  | .hbm, ⟨10, _⟩ => ⟨S4096x1024, .f32⟩
  | .hbm, ⟨11, _⟩ => ⟨S4x2x512x1024, .f32⟩
  | .hbm, ⟨12, _⟩ => ⟨S4x1x512x1024, .f32⟩
  | .hbm, ⟨13, _⟩ => ⟨S4x512x1024, .f32⟩
  | .hbm, ⟨14, _⟩ => ⟨S2048x1024, .f32⟩
  | .hbm, ⟨15, _⟩ => ⟨S2048x1024, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .i1⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x1024, .f32⟩
  | .hbm, ⟨30, _⟩ => ⟨S2048x1024, .f32⟩
  | .hbm, ⟨31, _⟩ => ⟨S1024x2048, .f32⟩
  | .hbm, ⟨32, _⟩ => ⟨S2048x1024, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x1024, .f32⟩
  | .hbm, ⟨39, _⟩ => ⟨S1024x2048, .f32⟩
  | .hbm, ⟨40, _⟩ => ⟨S2048x1024, .f32⟩
  | .hbm, ⟨41, _⟩ => ⟨S1024x4x512, .f32⟩
  | .hbm, ⟨42, _⟩ => ⟨S4x1024x512, .f32⟩
  | .hbm, ⟨43, _⟩ => ⟨S4x512x1024, .f32⟩
  | .hbm, ⟨44, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Mixer.lean ====
abbrev S1x2048x1024 : Shape := ⟨3, ![1, 2048, 1024]⟩
abbrev S1x6144 : Shape := ⟨2, ![1, 6144]⟩
abbrev S1x1024 : Shape := ⟨2, ![1, 1024]⟩
abbrev S1x1024x2560 : Shape := ⟨3, ![1, 1024, 2560]⟩
abbrev S1x4x512 : Shape := ⟨3, ![1, 4, 512]⟩
abbrev S1x512 : Shape := ⟨2, ![1, 512]⟩
abbrev S1x8x64x64 : Shape := ⟨4, ![1, 8, 64, 64]⟩
abbrev S1x3x512 : Shape := ⟨3, ![1, 3, 512]⟩
abbrev S1x1024x1024 : Shape := ⟨3, ![1, 1024, 1024]⟩
abbrev S6144 : Shape := ⟨1, ![6144]⟩
abbrev S1x1x6144 : Shape := ⟨3, ![1, 1, 6144]⟩
abbrev S1x1x1024 : Shape := ⟨3, ![1, 1, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1024x2560 : Shape := ⟨2, ![1024, 2560]⟩
abbrev S1x2048x2560 : Shape := ⟨3, ![1, 2048, 2560]⟩
abbrev S1x2048x512 : Shape := ⟨3, ![1, 2048, 512]⟩
abbrev S4x512 : Shape := ⟨2, ![4, 512]⟩
abbrev S1x2051x512 : Shape := ⟨3, ![1, 2051, 512]⟩
abbrev S512 : Shape := ⟨1, ![512]⟩
abbrev S1x1x512 : Shape := ⟨3, ![1, 1, 512]⟩
abbrev S8x64x64 : Shape := ⟨3, ![8, 64, 64]⟩
abbrev S8x8 : Shape := ⟨2, ![8, 8]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S2048x512 : Shape := ⟨2, ![2048, 512]⟩
abbrev S2048 : Shape := ⟨1, ![2048]⟩
abbrev S1x2047x512 : Shape := ⟨3, ![1, 2047, 512]⟩
abbrev S1x2x512 : Shape := ⟨3, ![1, 2, 512]⟩
abbrev S1x2046x512 : Shape := ⟨3, ![1, 2046, 512]⟩
abbrev S1x2044x512 : Shape := ⟨3, ![1, 2044, 512]⟩
abbrev S1x8x512 : Shape := ⟨3, ![1, 8, 512]⟩
abbrev S1x2040x512 : Shape := ⟨3, ![1, 2040, 512]⟩
abbrev S1x16x512 : Shape := ⟨3, ![1, 16, 512]⟩
abbrev S1x2032x512 : Shape := ⟨3, ![1, 2032, 512]⟩
abbrev S1x32x512 : Shape := ⟨3, ![1, 32, 512]⟩
abbrev S1x2016x512 : Shape := ⟨3, ![1, 2016, 512]⟩
abbrev S1x64x512 : Shape := ⟨3, ![1, 64, 512]⟩
abbrev S1x1984x512 : Shape := ⟨3, ![1, 1984, 512]⟩
abbrev S1x128x512 : Shape := ⟨3, ![1, 128, 512]⟩
abbrev S1x1920x512 : Shape := ⟨3, ![1, 1920, 512]⟩
abbrev S1x256x512 : Shape := ⟨3, ![1, 256, 512]⟩
abbrev S1x1792x512 : Shape := ⟨3, ![1, 1792, 512]⟩
abbrev S1x512x512 : Shape := ⟨3, ![1, 512, 512]⟩
abbrev S1x1536x512 : Shape := ⟨3, ![1, 1536, 512]⟩
abbrev S1x1024x512 : Shape := ⟨3, ![1, 1024, 512]⟩
abbrev S1x2048x8x64 : Shape := ⟨4, ![1, 2048, 8, 64]⟩
abbrev S1x2048x8 : Shape := ⟨3, ![1, 2048, 8]⟩
abbrev S1x2048x8x1 : Shape := ⟨4, ![1, 2048, 8, 1]⟩
abbrev S3x512 : Shape := ⟨2, ![3, 512]⟩
abbrev S1x2050x512 : Shape := ⟨3, ![1, 2050, 512]⟩
abbrev S1x2048x3072 : Shape := ⟨3, ![1, 2048, 3072]⟩
abbrev S6x1024 : Shape := ⟨2, ![6, 1024]⟩
abbrev S8x1024 : Shape := ⟨2, ![8, 1024]⟩
abbrev S8x512 : Shape := ⟨2, ![8, 512]⟩
abbrev S1024x1024 : Shape := ⟨2, ![1024, 1024]⟩
abbrev S8x128x1024 : Shape := ⟨3, ![8, 128, 1024]⟩
abbrev S2560x1024 : Shape := ⟨2, ![2560, 1024]⟩
abbrev S8x320x1024 : Shape := ⟨3, ![8, 320, 1024]⟩
abbrev S8x448x1024 : Shape := ⟨3, ![8, 448, 1024]⟩
abbrev S2048x1024 : Shape := ⟨2, ![2048, 1024]⟩
abbrev S2048x2560 : Shape := ⟨2, ![2048, 2560]⟩
abbrev S2048x3072 : Shape := ⟨2, ![2048, 3072]⟩
abbrev S16x1024 : Shape := ⟨2, ![16, 1024]⟩
abbrev S2560x2048 : Shape := ⟨2, ![2560, 2048]⟩
abbrev S1024x2048 : Shape := ⟨2, ![1024, 2048]⟩
abbrev S512x2048 : Shape := ⟨2, ![512, 2048]⟩
abbrev S256x1024 : Shape := ⟨2, ![256, 1024]⟩
abbrev S256x2560 : Shape := ⟨2, ![256, 2560]⟩
abbrev S8x2560 : Shape := ⟨2, ![8, 2560]⟩
abbrev S256x512 : Shape := ⟨2, ![256, 512]⟩
abbrev S256x3072 : Shape := ⟨2, ![256, 3072]⟩
abbrev S2560x256 : Shape := ⟨2, ![2560, 256]⟩
abbrev S1024x256 : Shape := ⟨2, ![1024, 256]⟩
abbrev S512x256 : Shape := ⟨2, ![512, 256]⟩
abbrev S2 : Shape := ⟨1, ![2]⟩
abbrev S264x512 : Shape := ⟨2, ![264, 512]⟩
abbrev S1 : Shape := ⟨1, ![1]⟩
abbrev S320x1024 : Shape := ⟨2, ![320, 1024]⟩
abbrev S1x320x1024 : Shape := ⟨3, ![1, 320, 1024]⟩
abbrev S128x1024 : Shape := ⟨2, ![128, 1024]⟩
abbrev S1x128x1024 : Shape := ⟨3, ![1, 128, 1024]⟩
abbrev S256 : Shape := ⟨1, ![256]⟩
abbrev S256x1 : Shape := ⟨2, ![256, 1]⟩
abbrev S512x1024 : Shape := ⟨2, ![512, 1024]⟩
abbrev S3x1024 : Shape := ⟨2, ![3, 1024]⟩

abbrev nBuf : Space → Nat
  | .hbm => 457
  | .vmem => 60
  | .smem => 0
  | _ => 0

abbrev hbmTy0_0 (i : Nat) : BufTy := match i % 128 with
  | 0 => ⟨S1x2048x1024, .f32⟩
  | 1 => ⟨S1x2048x1024, .f32⟩
  | 2 => ⟨S1x2048x1024, .f32⟩
  | 3 => ⟨S1x2048x1024, .f32⟩
  | 4 => ⟨S1x6144, .f32⟩
  | 5 => ⟨S1x6144, .f32⟩
  | 6 => ⟨S1x1024, .f32⟩
  | 7 => ⟨S1x1024, .f32⟩
  | 8 => ⟨S1x1024x2560, .f32⟩
  | 9 => ⟨S1x4x512, .f32⟩
  | 10 => ⟨S1x512, .f32⟩
  | 11 => ⟨S1x8x64x64, .f32⟩
  | 12 => ⟨S1x512, .f32⟩
  | 13 => ⟨S1x8x64x64, .f32⟩
  | 14 => ⟨S1x512, .f32⟩
  | 15 => ⟨S1x512, .f32⟩
  | 16 => ⟨S1x3x512, .f32⟩
  | 17 => ⟨S1x512, .f32⟩
  | 18 => ⟨S1x512, .f32⟩
  | 19 => ⟨S1x1024x1024, .f32⟩
  | 20 => ⟨S6144, .f32⟩
  | 21 => ⟨S1x6144, .f32⟩
  | 22 => ⟨S1x6144, .f32⟩
  | 23 => ⟨S1x1x6144, .f32⟩
  | 24 => ⟨S1x1x1024, .f32⟩
  | 25 => ⟨S1x1x1024, .f32⟩
  | 26 => ⟨S1x1x1024, .f32⟩
  | 27 => ⟨S1x1x1024, .f32⟩
  | 28 => ⟨S1x1x1024, .f32⟩
  | 29 => ⟨S1x1x1024, .f32⟩
  | 30 => ⟨S1024, .f32⟩
  | 31 => ⟨S1x2048x1024, .f32⟩
  | 32 => ⟨S_, .f32⟩
  | 33 => ⟨S1x2048, .f32⟩
  | 34 => ⟨S1x2048x1, .f32⟩
  | 35 => ⟨S_, .f32⟩
  | 36 => ⟨S1x2048x1, .f32⟩
  | 37 => ⟨S1x2048x1, .f32⟩
  | 38 => ⟨S_, .f32⟩
  | 39 => ⟨S1x2048x1, .f32⟩
  | 40 => ⟨S1x2048x1, .f32⟩
  | 41 => ⟨S1x2048x1, .f32⟩
  | 42 => ⟨S1x2048x1024, .f32⟩
  | 43 => ⟨S1x2048x1024, .f32⟩
  | 44 => ⟨S1x1x1024, .f32⟩
  | 45 => ⟨S1x2048x1024, .f32⟩
  | 46 => ⟨S1x2048x1024, .f32⟩
  | 47 => ⟨S_, .f32⟩
  | 48 => ⟨S1x1x1024, .f32⟩
  | 49 => ⟨S1x1x1024, .f32⟩
  | 50 => ⟨S1x2048x1024, .f32⟩
  | 51 => ⟨S1x2048x1024, .f32⟩
  | 52 => ⟨S1x2048x1024, .f32⟩
  | 53 => ⟨S1x2048x1024, .f32⟩
  | 54 => ⟨S1024x2560, .f32⟩
  | 55 => ⟨S1x2048x2560, .f32⟩
  | 56 => ⟨S1x2048x512, .f32⟩
  | 57 => ⟨S1x2048x512, .f32⟩
  | 58 => ⟨S1x2048x512, .f32⟩
  | 59 => ⟨S1x2048x512, .f32⟩
  | 60 => ⟨S1x2048x512, .f32⟩
  | 61 => ⟨S4x512, .f32⟩
  | 62 => ⟨S_, .f32⟩
  | 63 => ⟨S1x3x512, .f32⟩
  | 64 => ⟨S1x2051x512, .f32⟩
  | 65 => ⟨S1x512, .f32⟩
  | 66 => ⟨S512, .f32⟩
  | 67 => ⟨S1x2048x512, .f32⟩
  | 68 => ⟨S1x1x512, .f32⟩
  | 69 => ⟨S1x2048x512, .f32⟩
  | 70 => ⟨S1x2048x512, .f32⟩
  | 71 => ⟨S_, .f32⟩
  | 72 => ⟨S1x2048x512, .f32⟩
  | 73 => ⟨S1x2048x512, .f32⟩
  | 74 => ⟨S1x512, .f32⟩
  | 75 => ⟨S512, .f32⟩
  | 76 => ⟨S1x2048x512, .f32⟩
  | 77 => ⟨S1x1x512, .f32⟩
  | 78 => ⟨S1x2048x512, .f32⟩
  | 79 => ⟨S1x2048x512, .f32⟩
  | 80 => ⟨S1x2048x512, .f32⟩
  | 81 => ⟨S1x512, .f32⟩
  | 82 => ⟨S512, .f32⟩
  | 83 => ⟨S1x2048x512, .f32⟩
  | 84 => ⟨S1x1x512, .f32⟩
  | 85 => ⟨S1x2048x512, .f32⟩
  | 86 => ⟨S1x2048x512, .f32⟩
  | 87 => ⟨S1x2048x512, .f32⟩
  | 88 => ⟨S1x512, .f32⟩
  | 89 => ⟨S512, .f32⟩
  | 90 => ⟨S1x2048x512, .f32⟩
  | 91 => ⟨S1x1x512, .f32⟩
  | 92 => ⟨S1x2048x512, .f32⟩
  | 93 => ⟨S1x2048x512, .f32⟩
  | 94 => ⟨S1x2048x512, .f32⟩
  | 95 => ⟨S512, .f32⟩
  | 96 => ⟨S1x1x512, .f32⟩
  | 97 => ⟨S1x2048x512, .f32⟩
  | 98 => ⟨S1x2048x512, .f32⟩
  | 99 => ⟨S8x64x64, .f32⟩
  | 100 => ⟨S8x64x64, .bf16⟩
  | 101 => ⟨S8x8, .i32⟩
  | 102 => ⟨S8x8, .i32⟩
  | 103 => ⟨S_, .i32⟩
  | 104 => ⟨S8x8, .i32⟩
  | 105 => ⟨S8x8, .i32⟩
  | 106 => ⟨S8x8, .i1⟩
  | 107 => ⟨S8x8, .bf16⟩
  | 108 => ⟨S8x64x1x64, .bf16⟩
  | 109 => ⟨S8x1x8x1, .bf16⟩
  | 110 => ⟨S8x64x8x64, .bf16⟩
  | 111 => ⟨S8x64x8x64, .bf16⟩
  | 112 => ⟨S8x64x8x64, .bf16⟩
  | 113 => ⟨S512x512, .bf16⟩
  | 114 => ⟨S8x64x64, .f32⟩
  | 115 => ⟨S8x64x64, .bf16⟩
  | 116 => ⟨S8x8, .i32⟩
  | 117 => ⟨S8x8, .i32⟩
  | 118 => ⟨S_, .i32⟩
  | 119 => ⟨S8x8, .i32⟩
  | 120 => ⟨S8x8, .i32⟩
  | 121 => ⟨S8x8, .i1⟩
  | 122 => ⟨S8x8, .bf16⟩
  | 123 => ⟨S8x64x1x64, .bf16⟩
  | 124 => ⟨S8x1x8x1, .bf16⟩
  | 125 => ⟨S8x64x8x64, .bf16⟩
  | 126 => ⟨S8x64x8x64, .bf16⟩
  | 127 => ⟨S8x64x8x64, .bf16⟩
  | _ => ⟨S1x2048x1024, .f32⟩

abbrev hbmTy0_1 (i : Nat) : BufTy := match i % 128 with
  | 0 => ⟨S512x512, .bf16⟩
  | 1 => ⟨S2048x512, .f32⟩
  | 2 => ⟨S2048x512, .bf16⟩
  | 3 => ⟨S2048x512, .f32⟩
  | 4 => ⟨S1x2048x512, .f32⟩
  | 5 => ⟨S1x1x512, .f32⟩
  | 6 => ⟨S1x2048x512, .f32⟩
  | 7 => ⟨S1x2048x512, .f32⟩
  | 8 => ⟨S2048x512, .f32⟩
  | 9 => ⟨S2048x512, .bf16⟩
  | 10 => ⟨S2048x512, .f32⟩
  | 11 => ⟨S1x2048x512, .f32⟩
  | 12 => ⟨S1x1x512, .f32⟩
  | 13 => ⟨S1x2048x512, .f32⟩
  | 14 => ⟨S1x2048x512, .f32⟩
  | 15 => ⟨S512, .f32⟩
  | 16 => ⟨S_, .f32⟩
  | 17 => ⟨S512, .f32⟩
  | 18 => ⟨S512, .f32⟩
  | 19 => ⟨S512, .f32⟩
  | 20 => ⟨S512, .f32⟩
  | 21 => ⟨S512, .i1⟩
  | 22 => ⟨S512, .f32⟩
  | 23 => ⟨S512, .f32⟩
  | 24 => ⟨S512, .f32⟩
  | 25 => ⟨S512, .f32⟩
  | 26 => ⟨S512, .f32⟩
  | 27 => ⟨S512, .f32⟩
  | 28 => ⟨S512, .f32⟩
  | 29 => ⟨S512, .f32⟩
  | 30 => ⟨S1x2048x512, .f32⟩
  | 31 => ⟨S1x2048x512, .f32⟩
  | 32 => ⟨S_, .f32⟩
  | 33 => ⟨S1x2048x512, .f32⟩
  | 34 => ⟨S1x2048x512, .f32⟩
  | 35 => ⟨S_, .f32⟩
  | 36 => ⟨S1x2048x512, .f32⟩
  | 37 => ⟨S1x2048x512, .f32⟩
  | 38 => ⟨S1x2048x512, .f32⟩
  | 39 => ⟨S1x2048x512, .f32⟩
  | 40 => ⟨S_, .f32⟩
  | 41 => ⟨S1x2048x512, .f32⟩
  | 42 => ⟨S1x2048x512, .f32⟩
  | 43 => ⟨S_, .f32⟩
  | 44 => ⟨S1x2048x512, .f32⟩
  | 45 => ⟨S1x2048x512, .f32⟩
  | 46 => ⟨S_, .f32⟩
  | 47 => ⟨S1x2048x512, .f32⟩
  | 48 => ⟨S1x2048x512, .f32⟩
  | 49 => ⟨S1x1x512, .f32⟩
  | 50 => ⟨S1x2048x512, .f32⟩
  | 51 => ⟨S1x2048x512, .f32⟩
  | 52 => ⟨S1x2048x512, .f32⟩
  | 53 => ⟨S_, .f32⟩
  | 54 => ⟨S1x2048x512, .f32⟩
  | 55 => ⟨S1x2048x512, .f32⟩
  | 56 => ⟨S1x2048x512, .f32⟩
  | 57 => ⟨S1x2048x512, .f32⟩
  | 58 => ⟨S1x2048x512, .f32⟩
  | 59 => ⟨S2048, .i32⟩
  | 60 => ⟨S_, .i32⟩
  | 61 => ⟨S2048, .i32⟩
  | 62 => ⟨S2048, .i1⟩
  | 63 => ⟨S1x2048x1, .i1⟩
  | 64 => ⟨S_, .f32⟩
  | 65 => ⟨S1x2048x512, .f32⟩
  | 66 => ⟨S1x2048x512, .i1⟩
  | 67 => ⟨S1x2048x512, .f32⟩
  | 68 => ⟨S1x2048x512, .f32⟩
  | 69 => ⟨S1x2048x512, .f32⟩
  | 70 => ⟨S_, .f32⟩
  | 71 => ⟨S1x1x512, .f32⟩
  | 72 => ⟨S_, .f32⟩
  | 73 => ⟨S1x1x512, .f32⟩
  | 74 => ⟨S1x2047x512, .f32⟩
  | 75 => ⟨S1x2048x512, .f32⟩
  | 76 => ⟨S1x2048x512, .f32⟩
  | 77 => ⟨S1x2048x512, .f32⟩
  | 78 => ⟨S1x2047x512, .f32⟩
  | 79 => ⟨S1x2048x512, .f32⟩
  | 80 => ⟨S1x2048x512, .f32⟩
  | 81 => ⟨S_, .f32⟩
  | 82 => ⟨S1x2x512, .f32⟩
  | 83 => ⟨S_, .f32⟩
  | 84 => ⟨S1x2x512, .f32⟩
  | 85 => ⟨S1x2046x512, .f32⟩
  | 86 => ⟨S1x2048x512, .f32⟩
  | 87 => ⟨S1x2048x512, .f32⟩
  | 88 => ⟨S1x2048x512, .f32⟩
  | 89 => ⟨S1x2046x512, .f32⟩
  | 90 => ⟨S1x2048x512, .f32⟩
  | 91 => ⟨S1x2048x512, .f32⟩
  | 92 => ⟨S_, .f32⟩
  | 93 => ⟨S1x4x512, .f32⟩
  | 94 => ⟨S_, .f32⟩
  | 95 => ⟨S1x4x512, .f32⟩
  | 96 => ⟨S1x2044x512, .f32⟩
  | 97 => ⟨S1x2048x512, .f32⟩
  | 98 => ⟨S1x2048x512, .f32⟩
  | 99 => ⟨S1x2048x512, .f32⟩
  | 100 => ⟨S1x2044x512, .f32⟩
  | 101 => ⟨S1x2048x512, .f32⟩
  | 102 => ⟨S1x2048x512, .f32⟩
  | 103 => ⟨S_, .f32⟩
  | 104 => ⟨S1x8x512, .f32⟩
  | 105 => ⟨S_, .f32⟩
  | 106 => ⟨S1x8x512, .f32⟩
  | 107 => ⟨S1x2040x512, .f32⟩
  | 108 => ⟨S1x2048x512, .f32⟩
  | 109 => ⟨S1x2048x512, .f32⟩
  | 110 => ⟨S1x2048x512, .f32⟩
  | 111 => ⟨S1x2040x512, .f32⟩
  | 112 => ⟨S1x2048x512, .f32⟩
  | 113 => ⟨S1x2048x512, .f32⟩
  | 114 => ⟨S_, .f32⟩
  | 115 => ⟨S1x16x512, .f32⟩
  | 116 => ⟨S_, .f32⟩
  | 117 => ⟨S1x16x512, .f32⟩
  | 118 => ⟨S1x2032x512, .f32⟩
  | 119 => ⟨S1x2048x512, .f32⟩
  | 120 => ⟨S1x2048x512, .f32⟩
  | 121 => ⟨S1x2048x512, .f32⟩
  | 122 => ⟨S1x2032x512, .f32⟩
  | 123 => ⟨S1x2048x512, .f32⟩
  | 124 => ⟨S1x2048x512, .f32⟩
  | 125 => ⟨S_, .f32⟩
  | 126 => ⟨S1x32x512, .f32⟩
  | 127 => ⟨S_, .f32⟩
  | _ => ⟨S1x2048x1024, .f32⟩

abbrev hbmTy0_2 (i : Nat) : BufTy := match i % 128 with
  | 0 => ⟨S1x32x512, .f32⟩
  | 1 => ⟨S1x2016x512, .f32⟩
  | 2 => ⟨S1x2048x512, .f32⟩
  | 3 => ⟨S1x2048x512, .f32⟩
  | 4 => ⟨S1x2048x512, .f32⟩
  | 5 => ⟨S1x2016x512, .f32⟩
  | 6 => ⟨S1x2048x512, .f32⟩
  | 7 => ⟨S1x2048x512, .f32⟩
  | 8 => ⟨S_, .f32⟩
  | 9 => ⟨S1x64x512, .f32⟩
  | 10 => ⟨S_, .f32⟩
  | 11 => ⟨S1x64x512, .f32⟩
  | 12 => ⟨S1x1984x512, .f32⟩
  | 13 => ⟨S1x2048x512, .f32⟩
  | 14 => ⟨S1x2048x512, .f32⟩
  | 15 => ⟨S1x2048x512, .f32⟩
  | 16 => ⟨S1x1984x512, .f32⟩
  | 17 => ⟨S1x2048x512, .f32⟩
  | 18 => ⟨S1x2048x512, .f32⟩
  | 19 => ⟨S_, .f32⟩
  | 20 => ⟨S1x128x512, .f32⟩
  | 21 => ⟨S_, .f32⟩
  | 22 => ⟨S1x128x512, .f32⟩
  | 23 => ⟨S1x1920x512, .f32⟩
  | 24 => ⟨S1x2048x512, .f32⟩
  | 25 => ⟨S1x2048x512, .f32⟩
  | 26 => ⟨S1x2048x512, .f32⟩
  | 27 => ⟨S1x1920x512, .f32⟩
  | 28 => ⟨S1x2048x512, .f32⟩
  | 29 => ⟨S1x2048x512, .f32⟩
  | 30 => ⟨S_, .f32⟩
  | 31 => ⟨S1x256x512, .f32⟩
  | 32 => ⟨S_, .f32⟩
  | 33 => ⟨S1x256x512, .f32⟩
  | 34 => ⟨S1x1792x512, .f32⟩
  | 35 => ⟨S1x2048x512, .f32⟩
  | 36 => ⟨S1x2048x512, .f32⟩
  | 37 => ⟨S1x2048x512, .f32⟩
  | 38 => ⟨S1x1792x512, .f32⟩
  | 39 => ⟨S1x2048x512, .f32⟩
  | 40 => ⟨S1x2048x512, .f32⟩
  | 41 => ⟨S_, .f32⟩
  | 42 => ⟨S1x512x512, .f32⟩
  | 43 => ⟨S_, .f32⟩
  | 44 => ⟨S1x512x512, .f32⟩
  | 45 => ⟨S1x1536x512, .f32⟩
  | 46 => ⟨S1x2048x512, .f32⟩
  | 47 => ⟨S1x2048x512, .f32⟩
  | 48 => ⟨S1x2048x512, .f32⟩
  | 49 => ⟨S1x1536x512, .f32⟩
  | 50 => ⟨S1x2048x512, .f32⟩
  | 51 => ⟨S1x2048x512, .f32⟩
  | 52 => ⟨S_, .f32⟩
  | 53 => ⟨S1x1024x512, .f32⟩
  | 54 => ⟨S_, .f32⟩
  | 55 => ⟨S1x1024x512, .f32⟩
  | 56 => ⟨S1x1024x512, .f32⟩
  | 57 => ⟨S1x2048x512, .f32⟩
  | 58 => ⟨S1x2048x512, .f32⟩
  | 59 => ⟨S1x2048x512, .f32⟩
  | 60 => ⟨S1x1024x512, .f32⟩
  | 61 => ⟨S1x2048x512, .f32⟩
  | 62 => ⟨S1x2048x512, .f32⟩
  | 63 => ⟨S1x2048x512, .f32⟩
  | 64 => ⟨S1x2048x512, .f32⟩
  | 65 => ⟨S_, .f32⟩
  | 66 => ⟨S1x2048x512, .f32⟩
  | 67 => ⟨S1x2048x512, .f32⟩
  | 68 => ⟨S1x2048x512, .f32⟩
  | 69 => ⟨S_, .f32⟩
  | 70 => ⟨S1x2048x512, .f32⟩
  | 71 => ⟨S1x2048x512, .f32⟩
  | 72 => ⟨S1x2048x512, .f32⟩
  | 73 => ⟨S_, .f32⟩
  | 74 => ⟨S1x2048x512, .f32⟩
  | 75 => ⟨S1x2048x512, .f32⟩
  | 76 => ⟨S_, .f32⟩
  | 77 => ⟨S1x2048x512, .f32⟩
  | 78 => ⟨S1x2048x512, .f32⟩
  | 79 => ⟨S1x2048x512, .f32⟩
  | 80 => ⟨S1x2048x512, .f32⟩
  | 81 => ⟨S1x2048x8x64, .f32⟩
  | 82 => ⟨S1x2048x8x64, .f32⟩
  | 83 => ⟨S_, .f32⟩
  | 84 => ⟨S1x2048x8, .f32⟩
  | 85 => ⟨S1x2048x8x1, .f32⟩
  | 86 => ⟨S_, .f32⟩
  | 87 => ⟨S1x2048x8x1, .f32⟩
  | 88 => ⟨S1x2048x8x1, .f32⟩
  | 89 => ⟨S_, .f32⟩
  | 90 => ⟨S1x2048x8x1, .f32⟩
  | 91 => ⟨S1x2048x8x1, .f32⟩
  | 92 => ⟨S1x2048x8x1, .f32⟩
  | 93 => ⟨S1x2048x512, .f32⟩
  | 94 => ⟨S3x512, .f32⟩
  | 95 => ⟨S_, .f32⟩
  | 96 => ⟨S1x2x512, .f32⟩
  | 97 => ⟨S1x2050x512, .f32⟩
  | 98 => ⟨S1x512, .f32⟩
  | 99 => ⟨S512, .f32⟩
  | 100 => ⟨S1x2048x512, .f32⟩
  | 101 => ⟨S1x1x512, .f32⟩
  | 102 => ⟨S1x2048x512, .f32⟩
  | 103 => ⟨S1x2048x512, .f32⟩
  | 104 => ⟨S_, .f32⟩
  | 105 => ⟨S1x2048x512, .f32⟩
  | 106 => ⟨S1x2048x512, .f32⟩
  | 107 => ⟨S1x512, .f32⟩
  | 108 => ⟨S512, .f32⟩
  | 109 => ⟨S1x2048x512, .f32⟩
  | 110 => ⟨S1x1x512, .f32⟩
  | 111 => ⟨S1x2048x512, .f32⟩
  | 112 => ⟨S1x2048x512, .f32⟩
  | 113 => ⟨S1x2048x512, .f32⟩
  | 114 => ⟨S1x512, .f32⟩
  | 115 => ⟨S512, .f32⟩
  | 116 => ⟨S1x2048x512, .f32⟩
  | 117 => ⟨S1x1x512, .f32⟩
  | 118 => ⟨S1x2048x512, .f32⟩
  | 119 => ⟨S1x2048x512, .f32⟩
  | 120 => ⟨S1x2048x512, .f32⟩
  | 121 => ⟨S1x2048x512, .f32⟩
  | 122 => ⟨S1x2048x8x64, .f32⟩
  | 123 => ⟨S1x2048x8x64, .f32⟩
  | 124 => ⟨S_, .f32⟩
  | 125 => ⟨S1x2048x8, .f32⟩
  | 126 => ⟨S1x2048x8x1, .f32⟩
  | 127 => ⟨S_, .f32⟩
  | _ => ⟨S1x2048x1024, .f32⟩

abbrev hbmTy0_3 (i : Nat) : BufTy := match i % 128 with
  | 0 => ⟨S1x2048x8x1, .f32⟩
  | 1 => ⟨S1x2048x8x1, .f32⟩
  | 2 => ⟨S_, .f32⟩
  | 3 => ⟨S1x2048x8x1, .f32⟩
  | 4 => ⟨S1x2048x8x1, .f32⟩
  | 5 => ⟨S1x2048x8x1, .f32⟩
  | 6 => ⟨S_, .f32⟩
  | 7 => ⟨S1x2048x512, .f32⟩
  | 8 => ⟨S1x2048x8x64, .f32⟩
  | 9 => ⟨S1x2048x8x64, .f32⟩
  | 10 => ⟨S1x2048x8x64, .f32⟩
  | 11 => ⟨S1x2048x512, .f32⟩
  | 12 => ⟨S1x2048x8x64, .f32⟩
  | 13 => ⟨S1x2048x8x64, .f32⟩
  | 14 => ⟨S1x2048x8x64, .f32⟩
  | 15 => ⟨S1x2048x512, .f32⟩
  | 16 => ⟨S1x2048x3072, .f32⟩
  | 17 => ⟨S6x1024, .f32⟩
  | 18 => ⟨S_, .i32⟩
  | 19 => ⟨S_, .f32⟩
  | 20 => ⟨S8x1024, .f32⟩
  | 21 => ⟨S6x1024, .f32⟩
  | 22 => ⟨S_, .i32⟩
  | 23 => ⟨S_, .f32⟩
  | 24 => ⟨S8x1024, .f32⟩
  | 25 => ⟨S_, .f32⟩
  | 26 => ⟨S8x64x64, .f32⟩
  | 27 => ⟨S8x8, .i32⟩
  | 28 => ⟨S8x8, .i32⟩
  | 29 => ⟨S_, .i32⟩
  | 30 => ⟨S8x8, .i32⟩
  | 31 => ⟨S8x8, .i32⟩
  | 32 => ⟨S8x8, .i1⟩
  | 33 => ⟨S8x8, .f32⟩
  | 34 => ⟨S8x64x1x64, .f32⟩
  | 35 => ⟨S8x1x8x1, .f32⟩
  | 36 => ⟨S8x64x8x64, .f32⟩
  | 37 => ⟨S8x64x8x64, .f32⟩
  | 38 => ⟨S8x64x8x64, .f32⟩
  | 39 => ⟨S512x512, .f32⟩
  | 40 => ⟨S512x512, .bf16⟩
  | 41 => ⟨S4x512, .f32⟩
  | 42 => ⟨S_, .i32⟩
  | 43 => ⟨S_, .f32⟩
  | 44 => ⟨S8x512, .f32⟩
  | 45 => ⟨S3x512, .f32⟩
  | 46 => ⟨S_, .i32⟩
  | 47 => ⟨S_, .f32⟩
  | 48 => ⟨S8x512, .f32⟩
  | 49 => ⟨S1024x1024, .f32⟩
  | 50 => ⟨S8x128x1024, .f32⟩
  | 51 => ⟨S1024x2560, .f32⟩
  | 52 => ⟨S2560x1024, .f32⟩
  | 53 => ⟨S8x320x1024, .f32⟩
  | 54 => ⟨S8x448x1024, .f32⟩
  | 55 => ⟨S8x448x1024, .bf16⟩
  | 56 => ⟨S2048x1024, .f32⟩
  | 57 => ⟨S2048x1024, .f32⟩
  | 58 => ⟨S2048x1024, .f32⟩
  | 59 => ⟨S2048x1024, .f32⟩
  | 60 => ⟨S2048x2560, .f32⟩
  | 61 => ⟨S2048x512, .f32⟩
  | 62 => ⟨S2048x3072, .f32⟩
  | 63 => ⟨S2048x1024, .f32⟩
  | 64 => ⟨S16x1024, .f32⟩
  | 65 => ⟨S2048x1024, .bf16⟩
  | 66 => ⟨S2560x2048, .bf16⟩
  | 67 => ⟨S2048x1024, .bf16⟩
  | 68 => ⟨S1024x2048, .bf16⟩
  | 69 => ⟨S512x2048, .bf16⟩
  | 70 => ⟨S2048x1024, .bf16⟩
  | 71 => ⟨S3x1024, .f32⟩
  | 72 => ⟨S1x1024, .f32⟩
  | _ => ⟨S1x2048x1024, .f32⟩

abbrev hbmTy (i : Nat) : BufTy := match i / 128 with
  | 0 => hbmTy0_0 i
  | 1 => hbmTy0_1 i
  | 2 => hbmTy0_2 i
  | 3 => hbmTy0_3 i
  | _ => ⟨S1x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x2560, .f32⟩
  | .local _ .vmem, ⟨9, _⟩ => ⟨S256x2560, .f32⟩
  | .local _ .vmem, ⟨10, _⟩ => ⟨S8x2560, .f32⟩
  | .local _ .vmem, ⟨11, _⟩ => ⟨S8x2560, .f32⟩
  | .local _ .vmem, ⟨12, _⟩ => ⟨S256x512, .f32⟩
  | .local _ .vmem, ⟨13, _⟩ => ⟨S256x512, .f32⟩
  | .local _ .vmem, ⟨14, _⟩ => ⟨S8x512, .f32⟩
  | .local _ .vmem, ⟨15, _⟩ => ⟨S8x512, .f32⟩
  | .local _ .vmem, ⟨16, _⟩ => ⟨S256x3072, .f32⟩
  | .local _ .vmem, ⟨17, _⟩ => ⟨S256x3072, .f32⟩
  | .local _ .vmem, ⟨18, _⟩ => ⟨S8x1024, .f32⟩
  | .local _ .vmem, ⟨19, _⟩ => ⟨S8x1024, .f32⟩
  | .local _ .vmem, ⟨20, _⟩ => ⟨S1x1024, .f32⟩
  | .local _ .vmem, ⟨21, _⟩ => ⟨S1x1024, .f32⟩
  | .local _ .vmem, ⟨22, _⟩ => ⟨S8x512, .f32⟩
  | .local _ .vmem, ⟨23, _⟩ => ⟨S1x512, .f32⟩
  | .local _ .vmem, ⟨24, _⟩ => ⟨S512x512, .bf16⟩
  | .local _ .vmem, ⟨25, _⟩ => ⟨S512x512, .bf16⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S8x512, .f32⟩
  | .local _ .vmem, ⟨30, _⟩ => ⟨S1x512, .f32⟩
  | .local _ .vmem, ⟨31, _⟩ => ⟨S1x512, .f32⟩
  | .local _ .vmem, ⟨32, _⟩ => ⟨S512x512, .bf16⟩
  | .local _ .vmem, ⟨33, _⟩ => ⟨S256x1024, .f32⟩
  | .local _ .vmem, ⟨34, _⟩ => ⟨S256x1024, .f32⟩
  | .local _ .vmem, ⟨35, _⟩ => ⟨S16x1024, .f32⟩
  | .local _ .vmem, ⟨36, _⟩ => ⟨S256x1024, .bf16⟩
  | .local _ .vmem, ⟨37, _⟩ => ⟨S256x1024, .bf16⟩
  | .local _ .vmem, ⟨38, _⟩ => ⟨S2560x256, .bf16⟩
  | .local _ .vmem, ⟨39, _⟩ => ⟨S2560x256, .bf16⟩
  | .local _ .vmem, ⟨40, _⟩ => ⟨S256x1024, .bf16⟩
  | .local _ .vmem, ⟨41, _⟩ => ⟨S256x1024, .bf16⟩
  | .local _ .vmem, ⟨42, _⟩ => ⟨S1024x256, .bf16⟩
  | .local _ .vmem, ⟨43, _⟩ => ⟨S1024x256, .bf16⟩
  | .local _ .vmem, ⟨44, _⟩ => ⟨S512x256, .bf16⟩
  | .local _ .vmem, ⟨45, _⟩ => ⟨S512x256, .bf16⟩
  | .local _ .vmem, ⟨46, _⟩ => ⟨S256x1024, .bf16⟩
  | .local _ .vmem, ⟨47, _⟩ => ⟨S256x1024, .bf16⟩
  | .local _ .vmem, ⟨48, _⟩ => ⟨S2560x1024, .bf16⟩
  | .local _ .vmem, ⟨49, _⟩ => ⟨S1024x1024, .bf16⟩
  | .local _ .vmem, ⟨50, _⟩ => ⟨S264x512, .f32⟩
  | .local _ .vmem, ⟨51, _⟩ => ⟨S264x512, .f32⟩
  | .local _ .vmem, ⟨52, _⟩ => ⟨S264x512, .f32⟩
  | .local _ .vmem, ⟨53, _⟩ => ⟨S264x512, .f32⟩
  | .local _ .vmem, ⟨54, _⟩ => ⟨S264x512, .f32⟩
  | .local _ .vmem, ⟨55, _⟩ => ⟨S264x512, .f32⟩
  | .local _ .vmem, ⟨56, _⟩ => ⟨S8x512, .f32⟩
  | .local _ .vmem, ⟨57, _⟩ => ⟨S256x512, .f32⟩
  | .local _ .vmem, ⟨58, _⟩ => ⟨S256x512, .f32⟩
  | .local _ .vmem, ⟨59, _⟩ => ⟨S256x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_3 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_5 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_call0_cst : Ref sig .tc := ⟨.hbm, 144, rfl⟩
abbrev main_call0_v0 : Ref sig .tc := ⟨.hbm, 145, rfl⟩
abbrev main_call0_v1 : Ref sig .tc := ⟨.hbm, 146, rfl⟩
abbrev main_call0_v2 : Ref sig .tc := ⟨.hbm, 147, rfl⟩
abbrev main_call0_v3 : Ref sig .tc := ⟨.hbm, 148, rfl⟩
abbrev main_call0_v4 : Ref sig .tc := ⟨.hbm, 149, rfl⟩
abbrev main_call0_v5 : Ref sig .tc := ⟨.hbm, 150, rfl⟩
abbrev main_call0_v6 : Ref sig .tc := ⟨.hbm, 151, rfl⟩
abbrev main_call0_v7 : Ref sig .tc := ⟨.hbm, 152, rfl⟩
abbrev main_call0_v8 : Ref sig .tc := ⟨.hbm, 153, rfl⟩
abbrev main_call0_v9 : Ref sig .tc := ⟨.hbm, 154, rfl⟩
abbrev main_call0_v10 : Ref sig .tc := ⟨.hbm, 155, rfl⟩
abbrev main_call0_v11 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_6 : Ref sig .tc := ⟨.hbm, 160, rfl⟩
abbrev main_v119 : Ref sig .tc := ⟨.hbm, 161, rfl⟩
abbrev main_v120 : Ref sig .tc := ⟨.hbm, 162, rfl⟩
abbrev main_cst_7 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_8 : Ref sig .tc := ⟨.hbm, 168, rfl⟩
abbrev main_v125 : Ref sig .tc := ⟨.hbm, 169, rfl⟩
abbrev main_v126 : Ref sig .tc := ⟨.hbm, 170, rfl⟩
abbrev main_cst_9 : Ref sig .tc := ⟨.hbm, 171, rfl⟩
abbrev main_v127 : Ref sig .tc := ⟨.hbm, 172, rfl⟩
abbrev main_v128 : Ref sig .tc := ⟨.hbm, 173, rfl⟩
abbrev main_cst_10 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_11 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_c_12 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_13 : Ref sig .tc := ⟨.hbm, 192, rfl⟩
abbrev main_v144 : Ref sig .tc := ⟨.hbm, 193, rfl⟩
abbrev main_call1_v0 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_14 : Ref sig .tc := ⟨.hbm, 198, rfl⟩
abbrev main_v148 : Ref sig .tc := ⟨.hbm, 199, rfl⟩
abbrev main_cst_15 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_16 : Ref sig .tc := ⟨.hbm, 209, rfl⟩
abbrev main_v157 : Ref sig .tc := ⟨.hbm, 210, rfl⟩
abbrev main_cst_17 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_cst_18 : Ref sig .tc := ⟨.hbm, 220, rfl⟩
abbrev main_v166 : Ref sig .tc := ⟨.hbm, 221, rfl⟩
abbrev main_cst_19 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_cst_20 : Ref sig .tc := ⟨.hbm, 231, rfl⟩
abbrev main_v175 : Ref sig .tc := ⟨.hbm, 232, rfl⟩
abbrev main_cst_21 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_cst_22 : Ref sig .tc := ⟨.hbm, 242, rfl⟩
abbrev main_v184 : Ref sig .tc := ⟨.hbm, 243, rfl⟩
abbrev main_cst_23 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_cst_24 : Ref sig .tc := ⟨.hbm, 253, rfl⟩
abbrev main_v193 : Ref sig .tc := ⟨.hbm, 254, rfl⟩
abbrev main_cst_25 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_cst_26 : Ref sig .tc := ⟨.hbm, 264, rfl⟩
abbrev main_v202 : Ref sig .tc := ⟨.hbm, 265, rfl⟩
abbrev main_cst_27 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_cst_28 : Ref sig .tc := ⟨.hbm, 275, rfl⟩
abbrev main_v211 : Ref sig .tc := ⟨.hbm, 276, rfl⟩
abbrev main_cst_29 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_cst_30 : Ref sig .tc := ⟨.hbm, 286, rfl⟩
abbrev main_v220 : Ref sig .tc := ⟨.hbm, 287, rfl⟩
abbrev main_cst_31 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_cst_32 : Ref sig .tc := ⟨.hbm, 297, rfl⟩
abbrev main_v229 : Ref sig .tc := ⟨.hbm, 298, rfl⟩
abbrev main_cst_33 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_cst_34 : Ref sig .tc := ⟨.hbm, 308, rfl⟩
abbrev main_v238 : Ref sig .tc := ⟨.hbm, 309, rfl⟩
abbrev main_cst_35 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_cst_36 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_cst_37 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_cst_38 : Ref sig .tc := ⟨.hbm, 329, rfl⟩
abbrev main_v255 : Ref sig .tc := ⟨.hbm, 330, rfl⟩
abbrev main_v256 : Ref sig .tc := ⟨.hbm, 331, rfl⟩
abbrev main_cst_39 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_cst_40 : Ref sig .tc := ⟨.hbm, 339, rfl⟩
abbrev main_v263 : Ref sig .tc := ⟨.hbm, 340, rfl⟩
abbrev main_v264 : Ref sig .tc := ⟨.hbm, 341, rfl⟩
abbrev main_cst_41 : Ref sig .tc := ⟨.hbm, 342, rfl⟩
abbrev main_v265 : Ref sig .tc := ⟨.hbm, 343, rfl⟩
abbrev main_v266 : Ref sig .tc := ⟨.hbm, 344, rfl⟩
abbrev main_cst_42 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_cst_43 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_cst_44 : Ref sig .tc := ⟨.hbm, 360, rfl⟩
abbrev main_v280 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_v287 : Ref sig .tc := ⟨.hbm, 368, rfl⟩
abbrev main_v288 : Ref sig .tc := ⟨.hbm, 369, rfl⟩
abbrev main_v289 : Ref sig .tc := ⟨.hbm, 370, rfl⟩
abbrev main_v290 : Ref sig .tc := ⟨.hbm, 371, rfl⟩
abbrev main_v291 : Ref sig .tc := ⟨.hbm, 372, rfl⟩
abbrev main_v292 : Ref sig .tc := ⟨.hbm, 373, rfl⟩
abbrev main_v293 : Ref sig .tc := ⟨.hbm, 374, rfl⟩
abbrev main_v294 : Ref sig .tc := ⟨.hbm, 375, rfl⟩
abbrev main_v295 : Ref sig .tc := ⟨.hbm, 376, rfl⟩
abbrev main_v296 : Ref sig .tc := ⟨.hbm, 377, rfl⟩
abbrev main_v297 : Ref sig .tc := ⟨.hbm, 378, rfl⟩
abbrev main_v298 : Ref sig .tc := ⟨.hbm, 379, rfl⟩
abbrev main_cst_45 : Ref sig .tc := ⟨.hbm, 380, rfl⟩
abbrev main_v299 : Ref sig .tc := ⟨.hbm, 381, rfl⟩
abbrev main_v300 : Ref sig .tc := ⟨.hbm, 382, rfl⟩
abbrev main_cst_46 : Ref sig .tc := ⟨.hbm, 383, rfl⟩
abbrev main_v301 : Ref sig .tc := ⟨.hbm, 384, rfl⟩
abbrev main_v302 : Ref sig .tc := ⟨.hbm, 385, rfl⟩
abbrev main_cst_47 : Ref sig .tc := ⟨.hbm, 386, rfl⟩
abbrev main_v303 : Ref sig .tc := ⟨.hbm, 387, rfl⟩
abbrev main_v304 : Ref sig .tc := ⟨.hbm, 388, rfl⟩
abbrev main_v305 : Ref sig .tc := ⟨.hbm, 389, rfl⟩
abbrev main_cst_48 : Ref sig .tc := ⟨.hbm, 390, rfl⟩
abbrev main_v306 : Ref sig .tc := ⟨.hbm, 391, rfl⟩
abbrev main_v307 : Ref sig .tc := ⟨.hbm, 392, rfl⟩
abbrev main_v308 : Ref sig .tc := ⟨.hbm, 393, rfl⟩
abbrev main_v309 : Ref sig .tc := ⟨.hbm, 394, rfl⟩
abbrev main_v310 : Ref sig .tc := ⟨.hbm, 395, rfl⟩
abbrev main_v311 : Ref sig .tc := ⟨.hbm, 396, rfl⟩
abbrev main_v312 : Ref sig .tc := ⟨.hbm, 397, rfl⟩
abbrev main_v313 : Ref sig .tc := ⟨.hbm, 398, rfl⟩
abbrev main_v314 : Ref sig .tc := ⟨.hbm, 399, rfl⟩
abbrev main_v315 : Ref sig .tc := ⟨.hbm, 400, rfl⟩
abbrev main_v316 : Ref sig .tc := ⟨.hbm, 401, rfl⟩
abbrev main_c_49 : Ref sig .tc := ⟨.hbm, 402, rfl⟩
abbrev main_call2_v0 : Ref sig .tc := ⟨.hbm, 403, rfl⟩
abbrev main_v317 : Ref sig .tc := ⟨.hbm, 404, rfl⟩
abbrev main_v318 : Ref sig .tc := ⟨.hbm, 405, rfl⟩
abbrev main_c_50 : Ref sig .tc := ⟨.hbm, 406, rfl⟩
abbrev main_call3_v0 : Ref sig .tc := ⟨.hbm, 407, rfl⟩
abbrev main_v319 : Ref sig .tc := ⟨.hbm, 408, rfl⟩
abbrev main_cst_51 : Ref sig .tc := ⟨.hbm, 409, rfl⟩
abbrev main_v320 : Ref sig .tc := ⟨.hbm, 410, rfl⟩
abbrev main_v321 : Ref sig .tc := ⟨.hbm, 411, rfl⟩
abbrev main_v322 : Ref sig .tc := ⟨.hbm, 412, rfl⟩
abbrev main_c_52 : Ref sig .tc := ⟨.hbm, 413, rfl⟩
abbrev main_v323 : Ref sig .tc := ⟨.hbm, 414, rfl⟩
abbrev main_v324 : Ref sig .tc := ⟨.hbm, 415, rfl⟩
abbrev main_v325 : Ref sig .tc := ⟨.hbm, 416, rfl⟩
abbrev main_v326 : Ref sig .tc := ⟨.hbm, 417, rfl⟩
abbrev main_v327 : Ref sig .tc := ⟨.hbm, 418, rfl⟩
abbrev main_v328 : Ref sig .tc := ⟨.hbm, 419, rfl⟩
abbrev main_v329 : Ref sig .tc := ⟨.hbm, 420, rfl⟩
abbrev main_v330 : Ref sig .tc := ⟨.hbm, 421, rfl⟩
abbrev main_v331 : Ref sig .tc := ⟨.hbm, 422, rfl⟩
abbrev main_v332 : Ref sig .tc := ⟨.hbm, 423, rfl⟩
abbrev main_v333 : Ref sig .tc := ⟨.hbm, 424, rfl⟩
abbrev main_v334 : Ref sig .tc := ⟨.hbm, 425, rfl⟩
abbrev main_c_53 : Ref sig .tc := ⟨.hbm, 426, rfl⟩
abbrev main_call4_v0 : Ref sig .tc := ⟨.hbm, 427, rfl⟩
abbrev main_v335 : Ref sig .tc := ⟨.hbm, 428, rfl⟩
abbrev main_v336 : Ref sig .tc := ⟨.hbm, 429, rfl⟩
abbrev main_c_54 : Ref sig .tc := ⟨.hbm, 430, rfl⟩
abbrev main_call5_v0 : Ref sig .tc := ⟨.hbm, 431, rfl⟩
abbrev main_v337 : Ref sig .tc := ⟨.hbm, 432, rfl⟩
abbrev main_v338 : Ref sig .tc := ⟨.hbm, 433, rfl⟩
abbrev main_v339 : Ref sig .tc := ⟨.hbm, 434, rfl⟩
abbrev main_v340 : Ref sig .tc := ⟨.hbm, 435, rfl⟩
abbrev main_v341 : Ref sig .tc := ⟨.hbm, 436, rfl⟩
abbrev main_v342 : Ref sig .tc := ⟨.hbm, 437, rfl⟩
abbrev main_v343 : Ref sig .tc := ⟨.hbm, 438, rfl⟩
abbrev main_v344 : Ref sig .tc := ⟨.hbm, 439, rfl⟩
abbrev main_v345 : Ref sig .tc := ⟨.hbm, 440, rfl⟩
abbrev main_v346 : Ref sig .tc := ⟨.hbm, 441, rfl⟩
abbrev main_v347 : Ref sig .tc := ⟨.hbm, 442, rfl⟩
abbrev main_v348 : Ref sig .tc := ⟨.hbm, 443, rfl⟩
abbrev main_v349 : Ref sig .tc := ⟨.hbm, 444, rfl⟩
abbrev main_v350 : Ref sig .tc := ⟨.hbm, 445, rfl⟩
abbrev main_v351 : Ref sig .tc := ⟨.hbm, 446, rfl⟩
abbrev main_v352_0 : Ref sig .tc := ⟨.hbm, 447, rfl⟩
abbrev main_v352_1 : Ref sig .tc := ⟨.hbm, 448, rfl⟩
abbrev main_v352_2 : Ref sig .tc := ⟨.hbm, 449, rfl⟩
abbrev main_v352_3 : Ref sig .tc := ⟨.hbm, 450, rfl⟩
abbrev main_v352_4 : Ref sig .tc := ⟨.hbm, 451, rfl⟩
abbrev main_v352_5 : Ref sig .tc := ⟨.hbm, 452, rfl⟩
abbrev main_v352_6 : Ref sig .tc := ⟨.hbm, 453, rfl⟩
abbrev main_v352_7 : Ref sig .tc := ⟨.hbm, 454, rfl⟩
abbrev main_v353 : Ref sig .tc := ⟨.hbm, 455, rfl⟩
abbrev main_v354 : Ref sig .tc := ⟨.hbm, 456, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg26_0 : Ref sig .tc := ⟨.vmem, 36, rfl⟩
abbrev cc0_stg26_1 : Ref sig .tc := ⟨.vmem, 37, rfl⟩
abbrev cc0_stg27_0 : Ref sig .tc := ⟨.vmem, 38, rfl⟩
abbrev cc0_stg27_1 : Ref sig .tc := ⟨.vmem, 39, rfl⟩
abbrev cc0_stg28_0 : Ref sig .tc := ⟨.vmem, 40, rfl⟩
abbrev cc0_stg28_1 : Ref sig .tc := ⟨.vmem, 41, rfl⟩
abbrev cc0_stg29_0 : Ref sig .tc := ⟨.vmem, 42, rfl⟩
abbrev cc0_stg29_1 : Ref sig .tc := ⟨.vmem, 43, rfl⟩
abbrev cc0_stg30_0 : Ref sig .tc := ⟨.vmem, 44, rfl⟩
abbrev cc0_stg30_1 : Ref sig .tc := ⟨.vmem, 45, rfl⟩
abbrev cc0_stg31_0 : Ref sig .tc := ⟨.vmem, 46, rfl⟩
abbrev cc0_stg31_1 : Ref sig .tc := ⟨.vmem, 47, rfl⟩
abbrev cc0_scratch0 : Ref sig .tc := ⟨.vmem, 48, rfl⟩
abbrev cc0_scratch1 : Ref sig .tc := ⟨.vmem, 49, rfl⟩
abbrev cc0_scratch3 : Ref sig .tc := ⟨.vmem, 50, rfl⟩
abbrev cc0_scratch4 : Ref sig .tc := ⟨.vmem, 51, rfl⟩
abbrev cc0_scratch5 : Ref sig .tc := ⟨.vmem, 52, rfl⟩
abbrev cc0_scratch6 : Ref sig .tc := ⟨.vmem, 53, rfl⟩
abbrev cc0_scratch7 : Ref sig .tc := ⟨.vmem, 54, rfl⟩
abbrev cc0_scratch8 : Ref sig .tc := ⟨.vmem, 55, rfl⟩
abbrev cc0_scratch9 : Ref sig .tc := ⟨.vmem, 56, rfl⟩
abbrev cc0_scratch10 : Ref sig .tc := ⟨.vmem, 57, rfl⟩
abbrev cc0_scratch11 : Ref sig .tc := ⟨.vmem, 58, rfl⟩
abbrev cc0_scratch12 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem24_0 : DmaSem sig := 33
abbrev cc0_sem24_1 : DmaSem sig := 34
abbrev cc0_sem25_0 : DmaSem sig := 35
abbrev cc0_sem26_0 : DmaSem sig := 36
abbrev cc0_sem26_1 : DmaSem sig := 37
abbrev cc0_sem27_0 : DmaSem sig := 38
abbrev cc0_sem27_1 : DmaSem sig := 39
abbrev cc0_sem28_0 : DmaSem sig := 40
abbrev cc0_sem28_1 : DmaSem sig := 41
abbrev cc0_sem29_0 : DmaSem sig := 42
abbrev cc0_sem29_1 : DmaSem sig := 43
abbrev cc0_sem30_0 : DmaSem sig := 44
abbrev cc0_sem30_1 : DmaSem sig := 45
abbrev cc0_sem31_0 : DmaSem sig := 46
abbrev cc0_sem31_1 : DmaSem sig := 47

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_144 : BitVec 32 := 0#32
  let c32_i32 : BitVec 32 := 32#32
  let v318 : BitVec 32 := Scalar.addi c0_i32_144 c32_i32
  let c1_i32 : BitVec 32 := 1#32
  ⟨c0_i32_144, v318, c1_i32⟩
def k0_mult1 (k0_t1 : Fin k0_t1_loop.trips) : BitVec 32 :=
  let c31_i32 : BitVec 32 := 31#32
  let c0_i32_144 : BitVec 32 := 0#32
  let c1_i32 : BitVec 32 := 1#32
  let arg47 : BitVec 32 := Scf.iv c0_i32_144 c1_i32 k0_t1
  let v579 : BitVec 32 := Scalar.subi c31_i32 arg47
  let c8_i32 : BitVec 32 := 8#32
  let v580 : BitVec 32 := Scalar.muli v579 c8_i32
  v580
def k0_off1 (k0_t1 : Fin k0_t1_loop.trips) : Fin 2 → Nat :=
  let c31_i32 : BitVec 32 := 31#32
  let c0_i32_144 : BitVec 32 := 0#32
  let c1_i32 : BitVec 32 := 1#32
  let arg47 : BitVec 32 := Scf.iv c0_i32_144 c1_i32 k0_t1
  let v579 : BitVec 32 := Scalar.subi c31_i32 arg47
  let c8_i32 : BitVec 32 := 8#32
  let v580 : BitVec 32 := Scalar.muli v579 c8_i32
  let v581 : BitVec 32 := v580
  let v582 : Index := Scalar.indexCast v581
  let c0_297 : Index := 0#32
  ![v582.toNat, 0]
def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_28 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![c0_i32.toNat, v0.toNat]

def cc0_transform_29 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_30 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![c0_i32.toNat, v0.toNat]

def cc0_transform_31 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![c0_i32.toNat, v0.toNat]

def cc0_transform_32 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x512 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S16x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S256x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S2560x256 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1024x256 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S512x256 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S256x1024 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]
-- ==== MixerRefIdeal.lean ====
abbrev S1x2048x1024 : Shape := ⟨3, ![1, 2048, 1024]⟩
abbrev S1x6144 : Shape := ⟨2, ![1, 6144]⟩
abbrev S1x1024 : Shape := ⟨2, ![1, 1024]⟩
abbrev S1x1024x2560 : Shape := ⟨3, ![1, 1024, 2560]⟩
abbrev S1x4x512 : Shape := ⟨3, ![1, 4, 512]⟩
abbrev S1x512 : Shape := ⟨2, ![1, 512]⟩
abbrev S1x8x64x64 : Shape := ⟨4, ![1, 8, 64, 64]⟩
abbrev S1x3x512 : Shape := ⟨3, ![1, 3, 512]⟩
abbrev S1x1024x1024 : Shape := ⟨3, ![1, 1024, 1024]⟩
abbrev S6144 : Shape := ⟨1, ![6144]⟩
abbrev S1x1x6144 : Shape := ⟨3, ![1, 1, 6144]⟩
abbrev S1x1x1024 : Shape := ⟨3, ![1, 1, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S2048 : Shape := ⟨1, ![2048]⟩
abbrev S3x1024 : Shape := ⟨2, ![3, 1024]⟩
abbrev S2048x1024 : Shape := ⟨2, ![2048, 1024]⟩

abbrev nBuf : Space → Nat
  | .hbm => 137
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1x2048x1024, .f32⟩
  | 3 => ⟨S1x2048x1024, .f32⟩
  | 4 => ⟨S1x6144, .f32⟩
  | 5 => ⟨S1x6144, .f32⟩
  | 6 => ⟨S1x1024, .f32⟩
  | 7 => ⟨S1x1024, .f32⟩
  | 8 => ⟨S1x1024x2560, .f32⟩
  | 9 => ⟨S1x4x512, .f32⟩
  | 10 => ⟨S1x512, .f32⟩
  | 11 => ⟨S1x8x64x64, .f32⟩
  | 12 => ⟨S1x512, .f32⟩
  | 13 => ⟨S1x8x64x64, .f32⟩
  | 14 => ⟨S1x512, .f32⟩
  | 15 => ⟨S1x512, .f32⟩
  | 16 => ⟨S1x3x512, .f32⟩
  | 17 => ⟨S1x512, .f32⟩
  | 18 => ⟨S1x512, .f32⟩
  | 19 => ⟨S1x1024x1024, .f32⟩
  | 20 => ⟨S6144, .f32⟩
  | 21 => ⟨S1x6144, .f32⟩
  | 22 => ⟨S1x6144, .f32⟩
  | 23 => ⟨S1x1x6144, .f32⟩
  | 24 => ⟨S1x1x1024, .f32⟩
  | 25 => ⟨S1x1x1024, .f32⟩
  | 26 => ⟨S1x1x1024, .f32⟩
  | 27 => ⟨S1x1x1024, .f32⟩
  | 28 => ⟨S1x1x1024, .f32⟩
  | 29 => ⟨S1x1x1024, .f32⟩
  | 30 => ⟨S1x2048x1024, .f32⟩
  | 31 => ⟨S1x2048x1024, .f32⟩
  | 32 => ⟨S1x2048x1024, .f32⟩
  | 33 => ⟨S1024, .f32⟩
  | 34 => ⟨S1x2048x1024, .f32⟩
  | 35 => ⟨S_, .f32⟩
  | 36 => ⟨S1x2048, .f32⟩
  | 37 => ⟨S1x2048x1, .f32⟩
  | 38 => ⟨S_, .f32⟩
  | 39 => ⟨S1x2048x1, .f32⟩
  | 40 => ⟨S1x2048x1, .f32⟩
  | 41 => ⟨S_, .f32⟩
  | 42 => ⟨S1x2048x1, .f32⟩
  | 43 => ⟨S1x2048x1, .f32⟩
  | 44 => ⟨S1x2048x1, .f32⟩
  | 45 => ⟨S1x2048x1, .f32⟩
  | 46 => ⟨S_, .f32⟩
  | 47 => ⟨S1x2048x1, .f32⟩
  | 48 => ⟨S1x2048x1, .f32⟩
  | 49 => ⟨S1x2048x1024, .f32⟩
  | 50 => ⟨S1x2048x1024, .f32⟩
  | 51 => ⟨S1x1x1024, .f32⟩
  | 52 => ⟨S1x2048x1024, .f32⟩
  | 53 => ⟨S1x2048x1024, .f32⟩
  | 54 => ⟨S_, .f32⟩
  | 55 => ⟨S1x1x1024, .f32⟩
  | 56 => ⟨S1x1x1024, .f32⟩
  | 57 => ⟨S1x2048x1024, .f32⟩
  | 58 => ⟨S1x2048x1024, .f32⟩
  | 59 => ⟨S1x2048x1024, .f32⟩
  | 60 => ⟨S1x2048x1024, .f32⟩
  | 61 => ⟨S1x2048x1024, .f32⟩
  | 62 => ⟨S_, .f32⟩
  | 63 => ⟨S1x1024, .f32⟩
  | 64 => ⟨S1x1x1024, .f32⟩
  | 65 => ⟨S1x2048x1024, .f32⟩
  | 66 => ⟨S_, .f32⟩
  | 67 => ⟨S1x1024, .f32⟩
  | 68 => ⟨S1x1x1024, .f32⟩
  | 69 => ⟨S1x2048x1024, .f32⟩
  | 70 => ⟨S1x2048x1024, .f32⟩
  | 71 => ⟨S1x2048x1024, .f32⟩
  | 72 => ⟨S_, .f32⟩
  | 73 => ⟨S1x1024, .f32⟩
  | 74 => ⟨S1x1x1024, .f32⟩
  | 75 => ⟨S1x2048x1024, .f32⟩
  | 76 => ⟨S1x2048x1024, .f32⟩
  | 77 => ⟨S_, .f32⟩
  | 78 => ⟨S1024, .f32⟩
  | 79 => ⟨S1x2048x1024, .f32⟩
  | 80 => ⟨S_, .f32⟩
  | 81 => ⟨S1x2048, .f32⟩
  | 82 => ⟨S1x2048x1, .f32⟩
  | 83 => ⟨S1x2048x1024, .f32⟩
  | 84 => ⟨S1x2048x1024, .f32⟩
  | 85 => ⟨S1x2048x1024, .f32⟩
  | 86 => ⟨S1x2048x1, .f32⟩
  | 87 => ⟨S_, .f32⟩
  | 88 => ⟨S1x2048x1, .f32⟩
  | 89 => ⟨S1x2048x1, .f32⟩
  | 90 => ⟨S_, .f32⟩
  | 91 => ⟨S2048, .f32⟩
  | 92 => ⟨S1x2048, .f32⟩
  | 93 => ⟨S1x2048x1024, .f32⟩
  | 94 => ⟨S1x2048x1024, .f32⟩
  | 95 => ⟨S1x2048x1024, .f32⟩
  | 96 => ⟨S1x2048x1024, .f32⟩
  | 97 => ⟨S1x2048x1024, .f32⟩
  | 98 => ⟨S1x1024, .f32⟩
  | 99 => ⟨S1x2048x1024, .f32⟩
  | 100 => ⟨S1x2048x1024, .f32⟩
  | 101 => ⟨S1x2048x1024, .f32⟩
  | 102 => ⟨S_, .f32⟩
  | 103 => ⟨S1x1024, .f32⟩
  | 104 => ⟨S1x1x1024, .f32⟩
  | 105 => ⟨S1x1024, .f32⟩
  | 106 => ⟨S1x1024, .f32⟩
  | 107 => ⟨S1x1024, .f32⟩
  | 108 => ⟨S3x1024, .f32⟩
  | 109 => ⟨S1024, .f32⟩
  | 110 => ⟨S1x2048x1024, .f32⟩
  | 111 => ⟨S_, .f32⟩
  | 112 => ⟨S1x2048, .f32⟩
  | 113 => ⟨S1x2048x1, .f32⟩
  | 114 => ⟨S_, .f32⟩
  | 115 => ⟨S1x2048x1, .f32⟩
  | 116 => ⟨S1x2048x1, .f32⟩
  | 117 => ⟨S_, .f32⟩
  | 118 => ⟨S1x2048x1, .f32⟩
  | 119 => ⟨S1x2048x1, .f32⟩
  | 120 => ⟨S1x2048x1, .f32⟩
  | 121 => ⟨S1x2048x1024, .f32⟩
  | 122 => ⟨S1x2048x1024, .f32⟩
  | 123 => ⟨S1x1x1024, .f32⟩
  | 124 => ⟨S1x2048x1024, .f32⟩
  | 125 => ⟨S1x2048x1024, .f32⟩
  | 126 => ⟨S_, .f32⟩
  | 127 => ⟨S1x1x1024, .f32⟩
  | _ => ⟨S1x2048x1024, .f32⟩

abbrev hbmTy0_1 (i : Nat) : BufTy := match i % 128 with
  | 0 => ⟨S1x1x1024, .f32⟩
  | 1 => ⟨S1x2048x1024, .f32⟩
  | 2 => ⟨S1x2048x1024, .f32⟩
  | 3 => ⟨S1x2048x1024, .f32⟩
  | 4 => ⟨S1x2048x1024, .f32⟩
  | 5 => ⟨S2048x1024, .f32⟩
  | 6 => ⟨S2048x1024, .bf16⟩
  | 7 => ⟨S2048x1024, .f32⟩
  | 8 => ⟨S2048x1024, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_cst_0 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_11 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_12 : Ref sig .tc := ⟨.hbm, 111, rfl⟩
abbrev main_v78 : Ref sig .tc := ⟨.hbm, 112, rfl⟩
abbrev main_v79 : Ref sig .tc := ⟨.hbm, 113, rfl⟩
abbrev main_cst_13 : Ref sig .tc := ⟨.hbm, 114, rfl⟩
abbrev main_v80 : Ref sig .tc := ⟨.hbm, 115, rfl⟩
abbrev main_v81 : Ref sig .tc := ⟨.hbm, 116, rfl⟩
abbrev main_cst_14 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_15 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩

abbrev nD : Nat := 1
abbrev τ : Topo := Topo.v7x

variable {F : FTy → Type} [FloatOps F]
-- ==== Fore.lean ====
abbrev S1x2048x1024 : Shape := ⟨3, ![1, 2048, 1024]⟩
abbrev S1x6144 : Shape := ⟨2, ![1, 6144]⟩
abbrev S1x1024 : Shape := ⟨2, ![1, 1024]⟩
abbrev S1x1024x2560 : Shape := ⟨3, ![1, 1024, 2560]⟩
abbrev S1x4x512 : Shape := ⟨3, ![1, 4, 512]⟩
abbrev S1x512 : Shape := ⟨2, ![1, 512]⟩
abbrev S1x8x64x64 : Shape := ⟨4, ![1, 8, 64, 64]⟩
abbrev S1x3x512 : Shape := ⟨3, ![1, 3, 512]⟩
abbrev S1x1024x1024 : Shape := ⟨3, ![1, 1024, 1024]⟩
abbrev S6x1024 : Shape := ⟨2, ![6, 1024]⟩
abbrev S_ : Shape := ⟨0, ![]⟩
abbrev S8x1024 : Shape := ⟨2, ![8, 1024]⟩
abbrev S8x64x64 : Shape := ⟨3, ![8, 64, 64]⟩
abbrev S8x8 : Shape := ⟨2, ![8, 8]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S4x512 : Shape := ⟨2, ![4, 512]⟩
abbrev S8x512 : Shape := ⟨2, ![8, 512]⟩
abbrev S3x512 : Shape := ⟨2, ![3, 512]⟩
abbrev S1024x1024 : Shape := ⟨2, ![1024, 1024]⟩
abbrev S8x128x1024 : Shape := ⟨3, ![8, 128, 1024]⟩
abbrev S1024x2560 : Shape := ⟨2, ![1024, 2560]⟩
abbrev S2560x1024 : Shape := ⟨2, ![2560, 1024]⟩
abbrev S8x320x1024 : Shape := ⟨3, ![8, 320, 1024]⟩
abbrev S8x448x1024 : Shape := ⟨3, ![8, 448, 1024]⟩
abbrev S2048x1024 : Shape := ⟨2, ![2048, 1024]⟩
abbrev S2048x2560 : Shape := ⟨2, ![2048, 2560]⟩
abbrev S2048x512 : Shape := ⟨2, ![2048, 512]⟩
abbrev S2048x3072 : Shape := ⟨2, ![2048, 3072]⟩
abbrev S256x1024 : Shape := ⟨2, ![256, 1024]⟩
abbrev S256x2560 : Shape := ⟨2, ![256, 2560]⟩
abbrev S256x512 : Shape := ⟨2, ![256, 512]⟩
abbrev S256x3072 : Shape := ⟨2, ![256, 3072]⟩
abbrev S2 : Shape := ⟨1, ![2]⟩
abbrev S264x512 : Shape := ⟨2, ![264, 512]⟩
abbrev S1 : Shape := ⟨1, ![1]⟩
abbrev S320x1024 : Shape := ⟨2, ![320, 1024]⟩
abbrev S1x320x1024 : Shape := ⟨3, ![1, 320, 1024]⟩
abbrev S128x1024 : Shape := ⟨2, ![128, 1024]⟩
abbrev S1x128x1024 : Shape := ⟨3, ![1, 128, 1024]⟩
abbrev S256 : Shape := ⟨1, ![256]⟩
abbrev S256x1 : Shape := ⟨2, ![256, 1]⟩
abbrev S512x1024 : Shape := ⟨2, ![512, 1024]⟩

abbrev nBuf : Space → Nat
  | .hbm => 90
  | .vmem => 31
  | .smem => 0
  | _ => 0

abbrev bufTy : (tb : Table) → Fin (tcTables nBuf tb) → BufTy
  | .hbm, ⟨0, _⟩ => ⟨S1x2048x1024, .f32⟩
  | .hbm, ⟨1, _⟩ => ⟨S1x6144, .f32⟩
  | .hbm, ⟨2, _⟩ => ⟨S1x6144, .f32⟩
  | .hbm, ⟨3, _⟩ => ⟨S1x1024, .f32⟩
  | .hbm, ⟨4, _⟩ => ⟨S1x1024x2560, .f32⟩
  | .hbm, ⟨5, _⟩ => ⟨S1x4x512, .f32⟩
  | .hbm, ⟨6, _⟩ => ⟨S1x512, .f32⟩
  | .hbm, ⟨7, _⟩ => ⟨S1x8x64x64, .f32⟩
  | .hbm, ⟨8, _⟩ => ⟨S1x512, .f32⟩
  | .hbm, ⟨9, _⟩ => ⟨S1x8x64x64, .f32⟩
  | .hbm, ⟨10, _⟩ => ⟨S1x512, .f32⟩
  | .hbm, ⟨11, _⟩ => ⟨S1x512, .f32⟩
  | .hbm, ⟨12, _⟩ => ⟨S1x3x512, .f32⟩
  | .hbm, ⟨13, _⟩ => ⟨S1x512, .f32⟩
  | .hbm, ⟨14, _⟩ => ⟨S1x512, .f32⟩
  | .hbm, ⟨15, _⟩ => ⟨S1x1024x1024, .f32⟩
  | .hbm, ⟨16, _⟩ => ⟨S6x1024, .f32⟩
  | .hbm, ⟨17, _⟩ => ⟨S_, .i32⟩
  | .hbm, ⟨18, _⟩ => ⟨S_, .f32⟩
  | .hbm, ⟨19, _⟩ => ⟨S8x1024, .f32⟩
  | .hbm, ⟨20, _⟩ => ⟨S6x1024, .f32⟩
  | .hbm, ⟨21, _⟩ => ⟨S_, .i32⟩
  | .hbm, ⟨22, _⟩ => ⟨S_, .f32⟩
  | .hbm, ⟨23, _⟩ => ⟨S8x1024, .f32⟩
  | .hbm, ⟨24, _⟩ => ⟨S8x64x64, .f32⟩
  | .hbm, ⟨25, _⟩ => ⟨S8x64x64, .bf16⟩
  | .hbm, ⟨26, _⟩ => ⟨S8x8, .i32⟩
  | .hbm, ⟨27, _⟩ => ⟨S8x8, .i32⟩
  | .hbm, ⟨28, _⟩ => ⟨S_, .i32⟩
  | .hbm, ⟨29, _⟩ => ⟨S8x8, .i32⟩
  | .hbm, ⟨30, _⟩ => ⟨S8x8, .i32⟩
  | .hbm, ⟨31, _⟩ => ⟨S8x8, .i1⟩
  | .hbm, ⟨32, _⟩ => ⟨S8x8, .bf16⟩
  | .hbm, ⟨33, _⟩ => ⟨S8x64x1x64, .bf16⟩
  | .hbm, ⟨34, _⟩ => ⟨S8x1x8x1, .bf16⟩
  | .hbm, ⟨35, _⟩ => ⟨S8x64x8x64, .bf16⟩
  | .hbm, ⟨36, _⟩ => ⟨S8x64x8x64, .bf16⟩
  | .hbm, ⟨37, _⟩ => ⟨S8x64x8x64, .bf16⟩
  | .hbm, ⟨38, _⟩ => ⟨S512x512, .bf16⟩
  | .hbm, ⟨39, _⟩ => ⟨S8x64x64, .f32⟩
  | .hbm, ⟨40, _⟩ => ⟨S8x64x64, .bf16⟩
  | .hbm, ⟨41, _⟩ => ⟨S8x8, .i32⟩
  | .hbm, ⟨42, _⟩ => ⟨S8x8, .i32⟩
  | .hbm, ⟨43, _⟩ => ⟨S_, .i32⟩
  | .hbm, ⟨44, _⟩ => ⟨S8x8, .i32⟩
  | .hbm, ⟨45, _⟩ => ⟨S8x8, .i32⟩
  | .hbm, ⟨46, _⟩ => ⟨S8x8, .i1⟩
  | .hbm, ⟨47, _⟩ => ⟨S8x8, .bf16⟩
  | .hbm, ⟨48, _⟩ => ⟨S8x64x1x64, .bf16⟩
  | .hbm, ⟨49, _⟩ => ⟨S8x1x8x1, .bf16⟩
  | .hbm, ⟨50, _⟩ => ⟨S8x64x8x64, .bf16⟩
  | .hbm, ⟨51, _⟩ => ⟨S8x64x8x64, .bf16⟩
  | .hbm, ⟨52, _⟩ => ⟨S8x64x8x64, .bf16⟩
  | .hbm, ⟨53, _⟩ => ⟨S512x512, .bf16⟩
  | .hbm, ⟨54, _⟩ => ⟨S_, .f32⟩
  | .hbm, ⟨55, _⟩ => ⟨S8x64x64, .f32⟩
  | .hbm, ⟨56, _⟩ => ⟨S8x8, .i32⟩
  | .hbm, ⟨57, _⟩ => ⟨S8x8, .i32⟩
  | .hbm, ⟨58, _⟩ => ⟨S_, .i32⟩
  | .hbm, ⟨59, _⟩ => ⟨S8x8, .i32⟩
  | .hbm, ⟨60, _⟩ => ⟨S8x8, .i32⟩
  | .hbm, ⟨61, _⟩ => ⟨S8x8, .i1⟩
  | .hbm, ⟨62, _⟩ => ⟨S8x8, .f32⟩
  | .hbm, ⟨63, _⟩ => ⟨S8x64x1x64, .f32⟩
  | .hbm, ⟨64, _⟩ => ⟨S8x1x8x1, .f32⟩
  | .hbm, ⟨65, _⟩ => ⟨S8x64x8x64, .f32⟩
  | .hbm, ⟨66, _⟩ => ⟨S8x64x8x64, .f32⟩
  | .hbm, ⟨67, _⟩ => ⟨S8x64x8x64, .f32⟩
  | .hbm, ⟨68, _⟩ => ⟨S512x512, .f32⟩
  | .hbm, ⟨69, _⟩ => ⟨S512x512, .bf16⟩
  | .hbm, ⟨70, _⟩ => ⟨S4x512, .f32⟩
  | .hbm, ⟨71, _⟩ => ⟨S_, .i32⟩
  | .hbm, ⟨72, _⟩ => ⟨S_, .f32⟩
  | .hbm, ⟨73, _⟩ => ⟨S8x512, .f32⟩
  | .hbm, ⟨74, _⟩ => ⟨S3x512, .f32⟩
  | .hbm, ⟨75, _⟩ => ⟨S_, .i32⟩
  | .hbm, ⟨76, _⟩ => ⟨S_, .f32⟩
  | .hbm, ⟨77, _⟩ => ⟨S8x512, .f32⟩
  | .hbm, ⟨78, _⟩ => ⟨S1024x1024, .f32⟩
  | .hbm, ⟨79, _⟩ => ⟨S8x128x1024, .f32⟩
  | .hbm, ⟨80, _⟩ => ⟨S1024x2560, .f32⟩
  | .hbm, ⟨81, _⟩ => ⟨S2560x1024, .f32⟩
  | .hbm, ⟨82, _⟩ => ⟨S8x320x1024, .f32⟩
  | .hbm, ⟨83, _⟩ => ⟨S8x448x1024, .f32⟩
  | .hbm, ⟨84, _⟩ => ⟨S8x448x1024, .bf16⟩
  | .hbm, ⟨85, _⟩ => ⟨S2048x1024, .f32⟩
  | .hbm, ⟨86, _⟩ => ⟨S2048x2560, .f32⟩
  | .hbm, ⟨87, _⟩ => ⟨S2048x512, .f32⟩
  | .hbm, ⟨88, _⟩ => ⟨S2048x1024, .f32⟩
  | .hbm, ⟨89, _⟩ => ⟨S2048x3072, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S8x512, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S8x512, .f32⟩
  | .local _ .vmem, ⟨13, _⟩ => ⟨S1x512, .f32⟩
  | .local _ .vmem, ⟨14, _⟩ => ⟨S1x512, .f32⟩
  | .local _ .vmem, ⟨15, _⟩ => ⟨S512x512, .bf16⟩
  | .local _ .vmem, ⟨16, _⟩ => ⟨S256x2560, .f32⟩
  | .local _ .vmem, ⟨17, _⟩ => ⟨S256x2560, .f32⟩
  | .local _ .vmem, ⟨18, _⟩ => ⟨S256x512, .f32⟩
  | .local _ .vmem, ⟨19, _⟩ => ⟨S256x512, .f32⟩
  | .local _ .vmem, ⟨20, _⟩ => ⟨S256x1024, .f32⟩
  | .local _ .vmem, ⟨21, _⟩ => ⟨S256x1024, .f32⟩
  | .local _ .vmem, ⟨22, _⟩ => ⟨S256x3072, .f32⟩
  | .local _ .vmem, ⟨23, _⟩ => ⟨S256x3072, .f32⟩
  | .local _ .vmem, ⟨24, _⟩ => ⟨S2560x1024, .bf16⟩
  | .local _ .vmem, ⟨25, _⟩ => ⟨S1024x1024, .bf16⟩
  | .local _ .vmem, ⟨26, _⟩ => ⟨S264x512, .f32⟩
  | .local _ .vmem, ⟨27, _⟩ => ⟨S264x512, .f32⟩
  | .local _ .vmem, ⟨28, _⟩ => ⟨S8x512, .f32⟩
  | .local _ .vmem, ⟨29, _⟩ => ⟨S256x512, .f32⟩
  | .local _ .vmem, ⟨30, _⟩ => ⟨S256x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_3 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_4 : Ref sig .tc := ⟨.hbm, 71, rfl⟩
abbrev main_call2_v0 : Ref sig .tc := ⟨.hbm, 72, rfl⟩
abbrev main_v47 : Ref sig .tc := ⟨.hbm, 73, rfl⟩
abbrev main_v48 : Ref sig .tc := ⟨.hbm, 74, rfl⟩
abbrev main_c_5 : Ref sig .tc := ⟨.hbm, 75, rfl⟩
abbrev main_call3_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58_0 : Ref sig .tc := ⟨.hbm, 86, rfl⟩
abbrev main_v58_1 : Ref sig .tc := ⟨.hbm, 87, rfl⟩
abbrev main_v58_2 : Ref sig .tc := ⟨.hbm, 88, rfl⟩
abbrev main_v58_3 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_66 : BitVec 32 := 0#32
  let c32_i32 : BitVec 32 := 32#32
  let v152 : BitVec 32 := Scalar.addi c0_i32_66 c32_i32
  let c1_i32 : BitVec 32 := 1#32
  ⟨c0_i32_66, v152, c1_i32⟩
def k0_mult1 (k0_t1 : Fin k0_t1_loop.trips) : BitVec 32 :=
  let c0_i32_66 : BitVec 32 := 0#32
  let c1_i32 : BitVec 32 := 1#32
  let arg29 : BitVec 32 := Scf.iv c0_i32_66 c1_i32 k0_t1
  let c8_i32 : BitVec 32 := 8#32
  let v246 : BitVec 32 := Scalar.muli arg29 c8_i32
  v246
def k0_off1 (k0_t1 : Fin k0_t1_loop.trips) : Fin 2 → Nat :=
  let c0_i32_66 : BitVec 32 := 0#32
  let c1_i32 : BitVec 32 := 1#32
  let arg29 : BitVec 32 := Scf.iv c0_i32_66 c1_i32 k0_t1
  let c8_i32 : BitVec 32 := 8#32
  let v246 : BitVec 32 := Scalar.muli arg29 c8_i32
  let v247 : BitVec 32 := v246
  let v248 : Index := Scalar.indexCast v247
  let c0_121 : Index := 0#32
  ![v248.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2560 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x3072 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ForeRefIdeal.lean ====
abbrev S1x2048x1024 : Shape := ⟨3, ![1, 2048, 1024]⟩
abbrev S1x6144 : Shape := ⟨2, ![1, 6144]⟩
abbrev S1x1024 : Shape := ⟨2, ![1, 1024]⟩
abbrev S1x1024x2560 : Shape := ⟨3, ![1, 1024, 2560]⟩
abbrev S1x4x512 : Shape := ⟨3, ![1, 4, 512]⟩
abbrev S1x512 : Shape := ⟨2, ![1, 512]⟩
abbrev S1x8x64x64 : Shape := ⟨4, ![1, 8, 64, 64]⟩
abbrev S1x3x512 : Shape := ⟨3, ![1, 3, 512]⟩
abbrev S1x1024x1024 : Shape := ⟨3, ![1, 1024, 1024]⟩
abbrev S6144 : Shape := ⟨1, ![6144]⟩
abbrev S1x1x6144 : Shape := ⟨3, ![1, 1, 6144]⟩
abbrev S1x1x1024 : Shape := ⟨3, ![1, 1, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1024x2560 : Shape := ⟨2, ![1024, 2560]⟩
abbrev S1x2048x2560 : Shape := ⟨3, ![1, 2048, 2560]⟩
abbrev S2048x2560 : Shape := ⟨2, ![2048, 2560]⟩

abbrev nBuf : Space → Nat
  | .hbm => 53
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x6144, .f32⟩
  | .hbm, ⟨2, _⟩ => ⟨S1x6144, .f32⟩
  | .hbm, ⟨3, _⟩ => ⟨S1x1024, .f32⟩
  | .hbm, ⟨4, _⟩ => ⟨S1x1024x2560, .f32⟩
  | .hbm, ⟨5, _⟩ => ⟨S1x4x512, .f32⟩
  | .hbm, ⟨6, _⟩ => ⟨S1x512, .f32⟩
  | .hbm, ⟨7, _⟩ => ⟨S1x8x64x64, .f32⟩
  | .hbm, ⟨8, _⟩ => ⟨S1x512, .f32⟩
  | .hbm, ⟨9, _⟩ => ⟨S1x8x64x64, .f32⟩
  | .hbm, ⟨10, _⟩ => ⟨S1x512, .f32⟩
  | .hbm, ⟨11, _⟩ => ⟨S1x512, .f32⟩
  | .hbm, ⟨12, _⟩ => ⟨S1x3x512, .f32⟩
  | .hbm, ⟨13, _⟩ => ⟨S1x512, .f32⟩
  | .hbm, ⟨14, _⟩ => ⟨S1x512, .f32⟩
  | .hbm, ⟨15, _⟩ => ⟨S1x1024x1024, .f32⟩
  | .hbm, ⟨16, _⟩ => ⟨S6144, .f32⟩
  | .hbm, ⟨17, _⟩ => ⟨S1x6144, .f32⟩
  | .hbm, ⟨18, _⟩ => ⟨S1x6144, .f32⟩
  | .hbm, ⟨19, _⟩ => ⟨S1x1x6144, .f32⟩
  | .hbm, ⟨20, _⟩ => ⟨S1x1x1024, .f32⟩
  | .hbm, ⟨21, _⟩ => ⟨S1x1x1024, .f32⟩
  | .hbm, ⟨22, _⟩ => ⟨S1x1x1024, .f32⟩
  | .hbm, ⟨23, _⟩ => ⟨S1x1x1024, .f32⟩
  | .hbm, ⟨24, _⟩ => ⟨S1x1x1024, .f32⟩
  | .hbm, ⟨25, _⟩ => ⟨S1x1x1024, .f32⟩
  | .hbm, ⟨26, _⟩ => ⟨S1024, .f32⟩
  | .hbm, ⟨27, _⟩ => ⟨S1x2048x1024, .f32⟩
  | .hbm, ⟨28, _⟩ => ⟨S_, .f32⟩
  | .hbm, ⟨29, _⟩ => ⟨S1x2048, .f32⟩
  | .hbm, ⟨30, _⟩ => ⟨S1x2048x1, .f32⟩
  | .hbm, ⟨31, _⟩ => ⟨S_, .f32⟩
  | .hbm, ⟨32, _⟩ => ⟨S1x2048x1, .f32⟩
  | .hbm, ⟨33, _⟩ => ⟨S1x2048x1, .f32⟩
  | .hbm, ⟨34, _⟩ => ⟨S_, .f32⟩
  | .hbm, ⟨35, _⟩ => ⟨S1x2048x1, .f32⟩
  | .hbm, ⟨36, _⟩ => ⟨S1x2048x1, .f32⟩
  | .hbm, ⟨37, _⟩ => ⟨S1x2048x1, .f32⟩
  | .hbm, ⟨38, _⟩ => ⟨S1x2048x1024, .f32⟩
  | .hbm, ⟨39, _⟩ => ⟨S1x2048x1024, .f32⟩
  | .hbm, ⟨40, _⟩ => ⟨S1x1x1024, .f32⟩
  | .hbm, ⟨41, _⟩ => ⟨S1x2048x1024, .f32⟩
  | .hbm, ⟨42, _⟩ => ⟨S1x2048x1024, .f32⟩
  | .hbm, ⟨43, _⟩ => ⟨S_, .f32⟩
  | .hbm, ⟨44, _⟩ => ⟨S1x1x1024, .f32⟩
  | .hbm, ⟨45, _⟩ => ⟨S1x1x1024, .f32⟩
  | .hbm, ⟨46, _⟩ => ⟨S1x2048x1024, .f32⟩
  | .hbm, ⟨47, _⟩ => ⟨S1x2048x1024, .f32⟩
  | .hbm, ⟨48, _⟩ => ⟨S1x2048x1024, .f32⟩
  | .hbm, ⟨49, _⟩ => ⟨S1x2048x1024, .f32⟩
  | .hbm, ⟨50, _⟩ => ⟨S1024x2560, .f32⟩
  | .hbm, ⟨51, _⟩ => ⟨S1x2048x2560, .f32⟩
  | .hbm, ⟨52, _⟩ => ⟨S2048x2560, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Prod.lean ====
abbrev S1x2048x1024 : Shape := ⟨3, ![1, 2048, 1024]⟩
abbrev S1x1024x2560 : Shape := ⟨3, ![1, 1024, 2560]⟩
abbrev S1x2048x2560 : Shape := ⟨3, ![1, 2048, 2560]⟩
abbrev S2048x2560 : Shape := ⟨2, ![2048, 2560]⟩
abbrev S2560x2048 : Shape := ⟨2, ![2560, 2048]⟩
abbrev S2048x1024 : Shape := ⟨2, ![2048, 1024]⟩
abbrev S2560x1024 : Shape := ⟨2, ![2560, 1024]⟩
abbrev S512x2048 : Shape := ⟨2, ![512, 2048]⟩
abbrev S512x1024 : Shape := ⟨2, ![512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S1x2048x1024, .f32⟩
  | .hbm, ⟨1, _⟩ => ⟨S1x1024x2560, .f32⟩
  | .hbm, ⟨2, _⟩ => ⟨S1x2048x2560, .f32⟩
  | .hbm, ⟨3, _⟩ => ⟨S2048x2560, .f32⟩
  | .hbm, ⟨4, _⟩ => ⟨S2560x2048, .f32⟩
  | .hbm, ⟨5, _⟩ => ⟨S2560x2048, .bf16⟩
  | .hbm, ⟨6, _⟩ => ⟨S2048x1024, .f32⟩
  | .hbm, ⟨7, _⟩ => ⟨S2048x1024, .bf16⟩
  | .hbm, ⟨8, _⟩ => ⟨S2560x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProdRefIdeal.lean ====
abbrev S1x2048x1024 : Shape := ⟨3, ![1, 2048, 1024]⟩
abbrev S1x1024x2560 : Shape := ⟨3, ![1, 1024, 2560]⟩
abbrev S1x2048x2560 : Shape := ⟨3, ![1, 2048, 2560]⟩
abbrev S1024x2560 : Shape := ⟨2, ![1024, 2560]⟩
abbrev S2560x1024 : Shape := ⟨2, ![2560, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024x2560, .f32⟩
  | .hbm, ⟨2, _⟩ => ⟨S1x2048x2560, .f32⟩
  | .hbm, ⟨3, _⟩ => ⟨S1024x2560, .f32⟩
  | .hbm, ⟨4, _⟩ => ⟨S1x2048x2560, .f32⟩
  | .hbm, ⟨5, _⟩ => ⟨S2560x1024, .f32⟩
  | .hbm, ⟨6, _⟩ => ⟨S1024x2560, .f32⟩
  | .hbm, ⟨7, _⟩ => ⟨S1x1024x2560, .f32⟩
  | .hbm, ⟨8, _⟩ => ⟨S1024x2560, .f32⟩
  | .hbm, ⟨9, _⟩ => ⟨S2560x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Adam.lean ====
abbrev S1x1024x320 : Shape := ⟨3, ![1, 1024, 320]⟩
abbrev S1024x320 : Shape := ⟨2, ![1024, 320]⟩
abbrev S256x320 : Shape := ⟨2, ![256, 320]⟩

abbrev nBuf : Space → Nat
  | .hbm => 10
  | .vmem => 14
  | .smem => 0
  | _ => 0

abbrev bufTy : (tb : Table) → Fin (tcTables nBuf tb) → BufTy
  | .hbm, ⟨0, _⟩ => ⟨S1x1024x320, .f32⟩
  | .hbm, ⟨1, _⟩ => ⟨S1024x320, .f32⟩
  | .hbm, ⟨2, _⟩ => ⟨S1x1024x320, .f32⟩
  | .hbm, ⟨3, _⟩ => ⟨S1x1024x320, .f32⟩
  | .hbm, ⟨4, _⟩ => ⟨S1024x320, .f32⟩
  | .hbm, ⟨5, _⟩ => ⟨S1024x320, .f32⟩
  | .hbm, ⟨6, _⟩ => ⟨S1024x320, .f32⟩
  | .hbm, ⟨7, _⟩ => ⟨S1024x320, .f32⟩
  | .hbm, ⟨8, _⟩ => ⟨S1024x320, .f32⟩
  | .hbm, ⟨9, _⟩ => ⟨S1024x320, .f32⟩
  | .local _ .vmem, ⟨0, _⟩ => ⟨S256x320, .f32⟩
  | .local _ .vmem, ⟨1, _⟩ => ⟨S256x320, .f32⟩
  | .local _ .vmem, ⟨2, _⟩ => ⟨S256x320, .f32⟩
  | .local _ .vmem, ⟨3, _⟩ => ⟨S256x320, .f32⟩
  | .local _ .vmem, ⟨4, _⟩ => ⟨S256x320, .f32⟩
  | .local _ .vmem, ⟨5, _⟩ => ⟨S256x320, .f32⟩
  | .local _ .vmem, ⟨6, _⟩ => ⟨S256x320, .f32⟩
  | .local _ .vmem, ⟨7, _⟩ => ⟨S256x320, .f32⟩
  | .local _ .vmem, ⟨8, _⟩ => ⟨S256x320, .f32⟩
  | .local _ .vmem, ⟨9, _⟩ => ⟨S256x320, .f32⟩
  | .local _ .vmem, ⟨10, _⟩ => ⟨S256x320, .f32⟩
  | .local _ .vmem, ⟨11, _⟩ => ⟨S256x320, .f32⟩
  | .local _ .vmem, ⟨12, _⟩ => ⟨S256x320, .f32⟩
  | .local _ .vmem, ⟨13, _⟩ => ⟨S256x320, .f32⟩
  | _, _ => ⟨S1x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S1x1024x320 : Shape := ⟨3, ![1, 1024, 320]⟩
abbrev S1024x320 : Shape := ⟨2, ![1024, 320]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x320, .f32⟩
  | .hbm, ⟨1, _⟩ => ⟨S1024x320, .f32⟩
  | .hbm, ⟨2, _⟩ => ⟨S1x1024x320, .f32⟩
  | .hbm, ⟨3, _⟩ => ⟨S1x1024x320, .f32⟩
  | .hbm, ⟨4, _⟩ => ⟨S1024x320, .f32⟩
  | .hbm, ⟨5, _⟩ => ⟨S_, .f32⟩
  | .hbm, ⟨6, _⟩ => ⟨S1024x320, .f32⟩
  | .hbm, ⟨7, _⟩ => ⟨S1024x320, .f32⟩
  | .hbm, ⟨8, _⟩ => ⟨S_, .f32⟩
  | .hbm, ⟨9, _⟩ => ⟨S1024x320, .f32⟩
  | .hbm, ⟨10, _⟩ => ⟨S1024x320, .f32⟩
  | .hbm, ⟨11, _⟩ => ⟨S1024x320, .f32⟩
  | .hbm, ⟨12, _⟩ => ⟨S1024x320, .f32⟩
  | .hbm, ⟨13, _⟩ => ⟨S_, .f32⟩
  | .hbm, ⟨14, _⟩ => ⟨S1024x320, .f32⟩
  | .hbm, ⟨15, _⟩ => ⟨S1024x320, .f32⟩
  | .hbm, ⟨16, _⟩ => ⟨S1024x320, .f32⟩
  | .hbm, ⟨17, _⟩ => ⟨S_, .f32⟩
  | .hbm, ⟨18, _⟩ => ⟨S1024x320, .f32⟩
  | .hbm, ⟨19, _⟩ => ⟨S1024x320, .f32⟩
  | .hbm, ⟨20, _⟩ => ⟨S1024x320, .f32⟩
  | .hbm, ⟨21, _⟩ => ⟨S_, .f32⟩
  | .hbm, ⟨22, _⟩ => ⟨S1024x320, .f32⟩
  | .hbm, ⟨23, _⟩ => ⟨S1024x320, .f32⟩
  | .hbm, ⟨24, _⟩ => ⟨S_, .f32⟩
  | .hbm, ⟨25, _⟩ => ⟨S1024x320, .f32⟩
  | .hbm, ⟨26, _⟩ => ⟨S1024x320, .f32⟩
  | .hbm, ⟨27, _⟩ => ⟨S1024x320, .f32⟩
  | .hbm, ⟨28, _⟩ => ⟨S_, .f32⟩
  | .hbm, ⟨29, _⟩ => ⟨S1024x320, .f32⟩
  | .hbm, ⟨30, _⟩ => ⟨S1024x320, .f32⟩
  | .hbm, ⟨31, _⟩ => ⟨S1024x320, .f32⟩
  | .hbm, ⟨32, _⟩ => ⟨S1024x320, .f32⟩
  | .hbm, ⟨33, _⟩ => ⟨S_, .f32⟩
  | .hbm, ⟨34, _⟩ => ⟨S1024x320, .f32⟩
  | .hbm, ⟨35, _⟩ => ⟨S1024x320, .f32⟩
  | .hbm, ⟨36, _⟩ => ⟨S1024x320, .f32⟩
  | .hbm, ⟨37, _⟩ => ⟨S_, .f32⟩
  | .hbm, ⟨38, _⟩ => ⟨S1024x320, .f32⟩
  | .hbm, ⟨39, _⟩ => ⟨S1024x320, .f32⟩
  | _, _ => ⟨S1x1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Reals.lean ====
/- Extended reals that are real: closure under the operations a program applies, and what a finiteness
   predicate (every element's absolute value below infinity) gives of an array. -/
module

public import Idealize.ShloMosaic.Lib.ValueIdx
public import Idealize.ShloMosaic.Lib.ValueLayout
public import Idealize.ShloMosaic.Lib.IdealHost
public import Idealize.ShloMosaic.Lib.ReduceAll
public import Idealize.ShloMosaic.Lib.MatmulPlain
public import Idealize.ShloMosaic.Lib.TwoAxisContraction
public import Idealize.ShloMosaic.Lib.Affine

@[expose] public section

set_option maxRecDepth 16384

noncomputable section

namespace Cert.Reals

open Idealize.ShloMosaic Idealize.ShloMosaic.ValueIdx
open scoped BigOperators

/-- What holds at every pair of coordinates holds at every index of a matrix. -/
theorem forall_ix2 {n0 n1 : Nat} {P : (⟨2, ![n0, n1]⟩ : Shape).Idx → Prop} (h : ∀ a b, P (ix2 a b)) (i) : P i := by
  rw [eq_ix2 i]; exact h _ _
/-- What holds at every triple of coordinates holds at every index of a rank-3 array. -/
theorem forall_ix3 {n0 n1 n2 : Nat} {P : (⟨3, ![n0, n1, n2]⟩ : Shape).Idx → Prop} (h : ∀ a b c, P (ix3 a b c)) (i) : P i := by
  rw [eq_ix3 i]; exact h _ _ _

/-- An extended real that is a real. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ k ∈ s, IsReal (f k)) : IsReal (∑ k ∈ s, f k) := by
  classical
  induction s using Finset.induction_on with
  | empty => simpa using IsReal.zero
  | insert a s ha ih =>
    rw [Finset.sum_insert ha]
    exact (h a (Finset.mem_insert_self ..)).add (ih fun k hk => h k (Finset.mem_insert_of_mem hk))

theorem IsReal.sub_self {x : EReal} : IsReal x → x - x = 0
  | ⟨a, ha⟩ => by rw [ha, ← EReal.coe_sub, _root_.sub_self, EReal.coe_zero]

theorem isReal_of_abs_lt {x : EReal} (h : max x (-x) < ⊤) : IsReal x := by
  induction x with
  | bot => simp at h
  | top => simp at h
  | coe r => exact ⟨r, rfl⟩

theorem ofBits_inf : Ideal.ofBits .f32 0x7F800000#32 = ⊤ := by
  simp [Ideal.ofBits, Ideal.ieee]

theorem ofBits_zero : Ideal.ofBits .f32 0x00000000#32 = 0 := by
  simp [Ideal.ofBits, Ideal.ieee]

/-- What `all(abs(x) < inf)` gives: every element of `x` is real. -/
theorem real_of_all {s t u v : Shape} {axes : List (Fin s.rank)} [Subsingleton t.Idx] (x : FVec Ideal s .f32)
    {dims : Fin v.rank → Fin s.rank} (hb : v.BroadcastsInDim s dims) (init : u.Idx → BitVec 1) (h : s.ReducesTo axes t)
    (hu : 0 < u.numel) (j : t.Idx)
    (e : Host.reduce IntOp.andi (cmpf .olt (Host.absf x) (broadcastInDim s dims hb (constant v .f32 0x7F800000#32))) init h hu j
      = 1#1) (i : s.Idx) : IsReal (x i) := by
  have h1 := Host.reduce_andi_all _ _ h hu j e i
  refine isReal_of_abs_lt ?_
  have h2 : Ideal.cmp .olt (max (x i) (-(x i))) (Ideal.ofBits .f32 0x7F800000#32) = 1#1 := h1
  rw [ofBits_inf] at h2
  unfold Ideal.cmp at h2
  by_contra hc
  simp [hc] at h2

end Cert.Reals

end
-- ==== Proof.GateValue.lean ====
/- The value of the gate weights' gradient: the two masked and folded products of the kernel are, over the reals,
   the per-head products of the reference. -/
module

public import proofs.«01_k».proof.Defs
public import proofs.«01_k».proof.Proof.Reals
public import proofs.«01_k».proof.Proof.Gen.GateIdeal.Value
public import proofs.«01_k».proof.Proof.Gen.GateRefIdeal.Run
public import proofs.«01_k».proof.Proof.Gen.GateRefIdeal.Read
public import proofs.«01_k».proof.Proof.Gen.Pre_gate_finite

@[expose] public section

set_option maxRecDepth 16384

noncomputable section

namespace Cert.GateValue

open Idealize.ShloMosaic Idealize.ShloMosaic.ValueIdx Idealize.ShloMosaic.TcCoe Cert.Reals
open scoped BigOperators

/-! ## The reference -/

section Ref
open Cert.GateRefIdeal Cert.GateRefIdeal.Gen Cert.GateRefIdeal.Read

/-- The per-head product of the reference read at a head, an output column and an input column. -/
theorem dot_apply (L : FVec Ideal S8x64x1x2048 .f32) (R : FVec Ideal S1x2048x8x64 .f32) (h : Fin 8) (j i : Fin 64) :
    Host.dotGeneral dot_S8x64x1x2048_S1x2048x8x64_S8x64x64_23_01_1_3_0_2 none L R (ix3 h j i)
      = ∑ s : Fin 2048, L (ix4 h j 0 s) * R (ix4 0 s h i) := by
  simp only [Host.dotGeneral]
  rw [Ideal.dotGeneral_apply, sum_contr2 _ 1 2048 rfl rfl rfl]
  rw [Fin.sum_univ_one]
  refine Finset.sum_congr rfl fun s _ => ?_
  have h0 := contrEquiv2_symm_val0 dot_S8x64x1x2048_S1x2048x8x64_S8x64x64_23_01_1_3_0_2 1 2048 rfl rfl rfl (0, s)
  have h1 := contrEquiv2_symm_val1 dot_S8x64x1x2048_S1x2048x8x64_S8x64x64_23_01_1_3_0_2 1 2048 rfl rfl rfl (0, s)
  generalize (contrEquiv2 dot_S8x64x1x2048_S1x2048x8x64_S8x64x64_23_01_1_3_0_2 1 2048 rfl rfl rfl).symm (0, s) = q at h0 h1 ⊢
  congr 1
  · refine congrArg L (funext fun a => Fin.ext ?_)
    match a with
    | ⟨0, _⟩ => rfl
    | ⟨1, _⟩ => rfl
    | ⟨2, _⟩ => exact h0
    | ⟨3, _⟩ => exact h1
  · refine congrArg R (funext fun a => Fin.ext ?_)
    match a with
    | ⟨0, _⟩ => exact h0
    | ⟨1, _⟩ => exact h1
    | ⟨2, _⟩ => rfl
    | ⟨3, _⟩ => rfl

/-- The gradient of one gate's weights as the reference computes it: its per-head products, heads stacked by rows. -/
theorem head_apply (x0 d : FVec Ideal S1x2048x512 .f32) (r : Fin 512) (c : Fin 64) :
    val_main_v15 (F := Ideal) x0 d (ix2 r c)
      = ∑ s : Fin 2048, x0 (ix3 0 s r) * d (ix3 0 s ⟨r.val / 64 * 64 + c.val, by omega⟩) := by
  rw [val_main_v15_apply, val_main_v14_apply]
  unfold val_main_v13
  rw [show idx_main_v14 (idx_main_v15 (ix2 r c)) = ix3 (⟨r.val / 64, by omega⟩ : Fin 8) c (⟨r.val % 64, by omega⟩ : Fin 64) from
    funext fun a => Fin.ext (by
      match a with
      | ⟨0, _⟩ => show (r.val * 64 + c.val) / 4096 = r.val / 64; omega
      | ⟨1, _⟩ => show (r.val * 64 + c.val) % 64 = c.val; omega
      | ⟨2, _⟩ => show (r.val * 64 + c.val) / 64 % 64 = r.val % 64; omega), dot_apply]
  refine Finset.sum_congr rfl fun s _ => ?_
  rw [val_main_v12_apply, val_main_v11_apply, val_main_v0_apply, mul_comm]
  congr 1
  · refine congrArg x0 (funext fun a => Fin.ext ?_)
    match a with
    | ⟨0, _⟩ => rfl
    | ⟨1, _⟩ => show ((((0 * 2048 + s.val) * 8 + r.val / 64) * 64 + r.val % 64) / 512) % 2048 = s.val; omega
    | ⟨2, _⟩ => show (((0 * 2048 + s.val) * 8 + r.val / 64) * 64 + r.val % 64) % 512 = r.val; omega
  · refine congrArg d (funext fun a => Fin.ext ?_)
    match a with
    | ⟨0, _⟩ => rfl
    | ⟨1, _⟩ => show ((((0 * 2048 + s.val) * 8 + r.val / 64) * 64 + c.val) / 512) % 2048 = s.val; omega
    | ⟨2, _⟩ => show (((0 * 2048 + s.val) * 8 + r.val / 64) * 64 + c.val) % 512 = r.val / 64 * 64 + c.val; omega

/-- The reference's result at gate `g`, row `r` (head `r / 64`, input column `r % 64`) and output column `c`. -/
theorem ref_apply (x0 x3 x4 : FVec Ideal S1x2048x512 .f32) (g : Fin 2) (r : Fin 512) (c : Fin 64) :
    val_main_v19 (F := Ideal) x0 x3 x4 (ix3 g r c)
      = ∑ s : Fin 2048, x0 (ix3 0 s r) * (if g = 0 then x3 else x4) (ix3 0 s ⟨r.val / 64 * 64 + c.val, by omega⟩) := by
  match g with
  | ⟨0, _⟩ =>
    unfold val_main_v19
    rw [concatenate_pair_apply_left (t := S2x512x64) (s₁ := S1x512x64) 0 _ _ _ _ rfl (ix3 0 r c)
      (fun b => by match b with | ⟨0, _⟩ => rfl | ⟨1, _⟩ => rfl | ⟨2, _⟩ => rfl)]
    rw [val_main_v17_apply]
    exact head_apply x0 x3 r c
  | ⟨1, _⟩ =>
    unfold val_main_v19
    rw [concatenate_pair_apply_right (t := S2x512x64) (s₁ := S1x512x64) (s₂ := S1x512x64) 0 _ _ _ _ rfl rfl (ix3 0 r c)
      (fun b hb => by match b, hb with | ⟨0, _⟩, hb => exact absurd rfl hb | ⟨1, _⟩, _ => rfl | ⟨2, _⟩, _ => rfl) rfl]
    rw [val_main_v18_apply]
    exact head_apply x0 x4 r c

end Ref

/-! ## The kernel -/

section Kernel
open Cert.GateIdeal Cert.GateIdeal.Gen Idealize.SL.Sem

variable (m : (ℓ : Loc nD τ sig) → Buf (Elt Ideal) ℓ)

theorem V_v2 (c : Dev nD) : V m c main_v2 = truncf (F := Ideal) (φ := .f32) .bf16 (transpose S512x2048 [1, 0]
    (shapeCast S2048x512 (m ((c.tc : Thread nD τ).loc main_arg0) : FVec Ideal S1x2048x512 .f32) shapeCasts_S1x2048x512_S2048x512)
    transposes_S2048x512_S512x2048_1_0) bitsLt_bf16_f32 := by
  show StableHlo.after hostOps0 _ _ = _
  after_results <;> rfl

theorem V_v6 (c : Dev nD) : V m c main_v6 = truncf (F := Ideal) (φ := .f32) .bf16 (concatenate S2048x1024 1
    [⟨S2048x512, shapeCast S2048x512 (m ((c.tc : Thread nD τ).loc main_arg3) : FVec Ideal S1x2048x512 .f32) shapeCasts_S1x2048x512_S2048x512⟩,
     ⟨S2048x512, shapeCast S2048x512 (m ((c.tc : Thread nD τ).loc main_arg4) : FVec Ideal S1x2048x512 .f32) shapeCasts_S1x2048x512_S2048x512⟩]
    concatenates_S2048x512_S2048x512_S2048x1024_d1) bitsLt_bf16_f32 := by
  show StableHlo.after hostOps0 _ _ = _
  after_results <;> rfl

/-- One head's indicator over the block-diagonal pattern. -/
theorem V_v20 (c : Dev nD) (i j : Fin 512) : (V m c main_v20 : FVec Ideal S512x512 .bf16) (ix2 i j)
    = ((1 / 64 : ℝ) : EReal) * (if i.val / 64 = j.val / 64 then 1 else 0) := by
  have h : V m c main_v20 = truncf .bf16 (shapeCast S512x512 (mulf
      (broadcastInDim S8x64x8x64 ![0, 1, 2, 3] bcast_S8x64x1x64_S8x64x8x64_0_1_2_3
        (broadcastInDim S8x64x1x64 ![0, 1, 3] bcast_S8x64x64_S8x64x1x64_0_1_3
          (broadcastInDim S8x64x64 ![] bcast_S_S8x64x64 (constant (F := Ideal) S_ .f32 0x3C800000#32))))
      (broadcastInDim S8x64x8x64 ![0, 1, 2, 3] bcast_S8x1x8x1_S8x64x8x64_0_1_2_3
        (broadcastInDim S8x1x8x1 ![0, 2] bcast_S8x8_S8x1x8x1_0_2
          (uitofp (F := Ideal) .f32 (cmpi .eq (addi (iotaInDim S8x8 32 0) (broadcastInDim S8x8 ![] bcast_S_S8x8 (constantI S_ 32 0#32)))
            (iotaInDim S8x8 32 1))))))
      shapeCasts_S8x64x8x64_S512x512) bitsLt_bf16_f32 := by
    show StableHlo.after hostOps0 _ _ = _
    after_results <;> rfl
  rw [h]
  rw [truncf_apply, shapeCast_apply _ shapeCasts_S8x64x8x64_S512x512 (ix2 i j)
    (ix4 (⟨i.val / 64, by omega⟩ : Fin 8) (⟨i.val % 64, by omega⟩ : Fin 64) (⟨j.val / 64, by omega⟩ : Fin 8) (⟨j.val % 64, by omega⟩ : Fin 64))
    (by rw [Shape.rowMajor_val_two, Shape.rowMajor_val_four]
        show (((i.val / 64) * 64 + i.val % 64) * 8 + j.val / 64) * 64 + j.val % 64 = i.val * 512 + j.val
        omega)]
  rw [mulf_apply]
  refine congrArg₂ (· * ·) ?_ ?_
  · show Ideal.ofBits .f32 0x3C800000#32 = _
    simp [Ideal.ofBits, Ideal.ieee, -EReal.coe_mul]
    norm_num
  · have hi : i.val / 64 < 8 := by omega
    have hj : j.val / 64 < 8 := by omega
    show (((IntOp.cmpi .eq (IntOp.addi (BitVec.ofNat 32 (i.val / 64)) 0#32) (BitVec.ofNat 32 (j.val / 64))).toNat : ℝ) : EReal) = _
    generalize i.val / 64 = a at hi ⊢
    generalize j.val / 64 = b at hj ⊢
    have e : IntOp.cmpi .eq (IntOp.addi (BitVec.ofNat 32 a) 0#32) (BitVec.ofNat 32 b) = if a = b then 1#1 else 0#1 := by
      interval_cases a <;> interval_cases b <;> rfl
    rw [e]
    split_ifs <;> simp

/-- The mask of the kernel: rows and columns of one head. -/
theorem keep_apply (A : FVec Ideal S512x512 .bf16) (i j : Fin 512)
    (h : A (ix2 i j) = ((1 / 64 : ℝ) : EReal) * (if i.val / 64 = j.val / 64 then 1 else 0)) :
    k0_pay4 (F := Ideal) A (ix2 i j) = if i.val / 64 = j.val / 64 then 1#1 else 0#1 := by
  show Ideal.cmp .one (shapeCast S512x512 A shapeCasts_S512x512_S512x512 (ix2 i j)) (Ideal.ofBits .bf16 0x0000#16) = _
  rw [shapeCast_self, h, show Ideal.ofBits .bf16 0x0000#16 = 0 from by simp [Ideal.ofBits, Ideal.ieee]]
  unfold Ideal.cmp
  split_ifs <;> simp

/-- The folding matrix: one where the row's position in its head is the column. -/
theorem fold_apply (j : Fin 512) (c : Fin 64) :
    k0_pay3 (F := Ideal) (ix2 j c) = if j.val % 64 = c.val then 1 else 0 := by
  unfold k0_pay3
  simp only [truncf_apply, sitofp_apply, extui_apply]
  show FloatOps.sitofp (F := Ideal) .f32 (BitVec.setWidth 32 (IntOp.cmpi .eq
    (IntOp.andi (iota .tc S512x64 32 [0] iota_S512x64_d0_w32 (ix2 j c)) 63#32)
    (iota .tc S512x64 32 [1] iota_S512x64_d1_w32 (ix2 j c)))) = _
  rw [iota_single_apply, iota_single_apply]
  have e : IntOp.cmpi .eq (IntOp.andi (BitVec.ofNat 32 j.val) 63#32) (BitVec.ofNat 32 c.val)
      = if j.val % 64 = c.val then 1#1 else 0#1 := by
    have e1 : IntOp.andi (BitVec.ofNat 32 j.val) 63#32 = BitVec.ofNat 32 (j.val % 64) := by
      apply BitVec.eq_of_toNat_eq
      show ((BitVec.ofNat 32 j.val) &&& 63#32).toNat = _
      rw [BitVec.toNat_and, BitVec.toNat_ofNat, BitVec.toNat_ofNat, Nat.mod_eq_of_lt (by omega : j.val < 2 ^ 32)]
      rw [show 63 % 2 ^ 32 = 2 ^ 6 - 1 from rfl, Nat.and_two_pow_sub_one_eq_mod, BitVec.toNat_ofNat]
      omega
    rw [e1]
    unfold IntOp.cmpi
    by_cases h : j.val % 64 = c.val
    · rw [if_pos h, h]; simp
    · rw [if_neg h]
      have : BitVec.ofNat 32 (j.val % 64) ≠ BitVec.ofNat 32 c.val := fun h' => h (by
        have := congrArg BitVec.toNat h'
        rw [BitVec.toNat_ofNat, BitVec.toNat_ofNat] at this
        omega)
      rw [beq_eq_false_iff_ne.2 this]; rfl
  refine (congrArg (fun b : BitVec 1 => FloatOps.sitofp (F := Ideal) .f32 (BitVec.setWidth 32 b)) e).trans ?_
  split_ifs
  · show ((((1#1).setWidth 32).toInt : ℝ) : EReal) = 1
    simp
  · show ((((0#1).setWidth 32).toInt : ℝ) : EReal) = 0
    simp

/-- The whole product of the kernel. -/
theorem full_apply (X : FVec Ideal S512x2048 .bf16) (D : FVec Ideal S2048x1024 .bf16) (r : Fin 512) (q : Fin 1024) :
    k0_pay2 (F := Ideal) X D (ix2 r q) = ∑ s : Fin 2048, X (ix2 r s) * D (ix2 s q) := by
  unfold k0_pay2
  simp only [shapeCast_self]
  have := Ideal.matmul_plain_apply (M := 512) (K := 2048) (N := 1024) none X D (constant (F := Ideal) S512x1024 .f32 0x00000000#32) r q
  refine Eq.trans this ?_
  rw [constant_apply, ofBits_zero, zero_add]

/-- A small product with the folding matrix at an index. -/
theorem small_apply (A : FVec Ideal S512x512 .bf16) (P : FVec Ideal S512x64 .bf16) (r : Fin 512) (c : Fin 64) :
    matmul dot_S512x512_S512x64_S512x64_1_0_0_1_n_n none A P (constant (F := Ideal) S512x64 .f32 0x00000000#32) (ix2 r c)
      = ∑ j : Fin 512, A (ix2 r j) * P (ix2 j c) := by
  have := Ideal.matmul_plain_apply (M := 512) (K := 512) (N := 64) none A P (constant (F := Ideal) S512x64 .f32 0x00000000#32) r c
  refine Eq.trans this ?_
  rw [constant_apply, ofBits_zero, zero_add]

/-- Three products of a matrix split in a rounded part and two rests: over the reals the rests are zero. -/
theorem split_sum (M : FVec Ideal S512x512 .f32) (P : FVec Ideal S512x64 .bf16) (hM : ∀ i, IsReal (M i)) (r : Fin 512) (c : Fin 64) :
    (∑ j : Fin 512, M (ix2 r j) * P (ix2 j c)) + (∑ j : Fin 512, (M (ix2 r j) - M (ix2 r j)) * P (ix2 j c))
      + (∑ j : Fin 512, (M (ix2 r j) - M (ix2 r j) - (M (ix2 r j) - M (ix2 r j))) * P (ix2 j c))
      = ∑ j : Fin 512, M (ix2 r j) * P (ix2 j c) := by
  have h0 : ∀ j : Fin 512, M (ix2 r j) - M (ix2 r j) = 0 := fun j => (hM _).sub_self
  have h1 : ∀ j : Fin 512, M (ix2 r j) - M (ix2 r j) - (M (ix2 r j) - M (ix2 r j)) = 0 := fun j => by rw [h0]; simp
  simp only [h0, zero_mul, Finset.sum_const_zero, add_zero, sub_zero]

/-- A sum over the rows of one head against the folding matrix keeps one term. -/
theorem fold_sum (f : Fin 512 → EReal) (r : Fin 512) (c : Fin 64) :
    ∑ j : Fin 512, (if r.val / 64 = j.val / 64 then f j else 0) * (if j.val % 64 = c.val then (1 : EReal) else 0)
      = f ⟨r.val / 64 * 64 + c.val, by omega⟩ := by
  rw [Finset.sum_eq_single (⟨r.val / 64 * 64 + c.val, by omega⟩ : Fin 512)]
  · rw [if_pos (by show r.val / 64 = (r.val / 64 * 64 + c.val) / 64; omega),
      if_pos (by show (r.val / 64 * 64 + c.val) % 64 = c.val; omega), mul_one]
  · intro j _ hj
    by_cases h1 : r.val / 64 = j.val / 64
    · have h2 : ¬ j.val % 64 = c.val := fun h2 => hj (Fin.ext (by show j.val = r.val / 64 * 64 + c.val; omega))
      rw [if_neg h2, mul_zero]
    · rw [if_neg h1, zero_mul]
  · exact fun h => absurd (Finset.mem_univ _) h

variable (X : FVec Ideal S512x2048 .bf16) (D : FVec Ideal S2048x1024 .bf16) (A : FVec Ideal S512x512 .bf16)
  (hA : ∀ i j : Fin 512, A (ix2 i j) = ((1 / 64 : ℝ) : EReal) * (if i.val / 64 = j.val / 64 then 1 else 0))
  (hX : ∀ i, IsReal (X i)) (hD : ∀ i, IsReal (D i))

include hX hD in
theorem full_real : ∀ i, IsReal (k0_pay2 (F := Ideal) X D i) := by
  refine forall_ix2 fun r q => ?_
  rw [full_apply]
  exact IsReal.sum _ _ fun s _ => (hX _).mul (hD _)

/-- The entries of one head of a matrix, the others zero. -/
def masked (B : FVec Ideal S512x512 .f32) : FVec Ideal S512x512 .f32 :=
  select (k0_pay4 (F := Ideal) A) B (broadcast S512x512 (Scalar.ofBits (F := Ideal) .f32 0x00000000#32))

include hA in
theorem masked_apply (B : FVec Ideal S512x512 .f32) (r j : Fin 512) :
    masked A B (ix2 r j) = if r.val / 64 = j.val / 64 then B (ix2 r j) else 0 := by
  unfold masked
  rw [select_apply, keep_apply A r j (hA r j)]
  split_ifs
  · rfl
  · exact ofBits_zero

include hA in
theorem masked_real (B : FVec Ideal S512x512 .f32) (hB : ∀ i, IsReal (B i)) : ∀ i, IsReal (masked A B i) := by
  refine forall_ix2 fun r j => ?_
  rw [masked_apply A hA]
  split_ifs
  exacts [hB _, IsReal.zero]

/-- The columns of the whole product that belong to gate `g`. -/
def half (g : Fin 2) : FVec Ideal S512x512 .f32 := fun i => k0_pay2 (F := Ideal) X D (ix2 (i 0) ⟨g.val * 512 + (i 1).val, by
  have := g.isLt; have h : (i 1).val < 512 := (i 1).isLt; omega⟩)

/-- One gate's stored block: its masked half folded by three products. -/
def folded (M : FVec Ideal S512x512 .f32) : FVec Ideal S512x64 .f32 := fun i =>
  (∑ j : Fin 512, M (ix2 (i 0) j) * k0_pay3 (F := Ideal) (ix2 j (i 1)))
    + (∑ j : Fin 512, (M (ix2 (i 0) j) - M (ix2 (i 0) j)) * k0_pay3 (F := Ideal) (ix2 j (i 1)))
    + (∑ j : Fin 512, (M (ix2 (i 0) j) - M (ix2 (i 0) j) - (M (ix2 (i 0) j) - M (ix2 (i 0) j))) * k0_pay3 (F := Ideal) (ix2 j (i 1)))

theorem pay5_apply (r : Fin 512) (c : Fin 64) :
    k0_pay5 (F := Ideal) X D A (ix3 0 r c) = folded (masked A (half X D 0)) (ix2 r c) := by
  unfold k0_pay5
  have e : extractStridedSlice S512x512 ![0, 0] (k0_pay2 (F := Ideal) X D) slices_S512x1024_o0_0_S512x512 = half X D 0 := by
    funext i
    revert i
    refine forall_ix2 fun r j => ?_
    exact slice2_axis1_apply 0 _ _ r j ⟨0 * 512 + j.val, by omega⟩ (by simp)
  simp only [e]
  rw [shapeCast_ab_1ab_apply, addf_apply, addf_apply, small_apply, small_apply, small_apply]
  rfl

theorem pay1_apply (r : Fin 512) (c : Fin 64) :
    k0_pay1 (F := Ideal) (k0_pay3 (F := Ideal)) (k0_pay7 X D A) (k0_pay8 X D A) (k0_pay9 X D A) (ix3 0 r c)
      = folded (masked A (half X D 1)) (ix2 r c) := by
  have e : extractStridedSlice S512x512 ![0, 512] (k0_pay2 (F := Ideal) X D) slices_S512x1024_o0_512_S512x512 = half X D 1 := by
    funext i
    revert i
    refine forall_ix2 fun r j => ?_
    exact slice2_axis1_apply 512 _ _ r j ⟨1 * 512 + j.val, by omega⟩ (by simp)
  have e6 : k0_pay6 (F := Ideal) X D A = masked A (half X D 1) := by
    unfold k0_pay6; rw [e]; rfl
  unfold k0_pay1 k0_pay9 k0_pay8 k0_pay7
  rw [e6]
  simp only []
  rw [shapeCast_ab_1ab_apply, addf_apply, addf_apply, small_apply, small_apply, small_apply]
  rfl

include hA hX hD in
theorem folded_apply (g : Fin 2) (r : Fin 512) (c : Fin 64) :
    folded (masked A (half X D g)) (ix2 r c)
      = ∑ s : Fin 2048, X (ix2 r s) * D (ix2 s ⟨g.val * 512 + (r.val / 64 * 64 + c.val), by omega⟩) := by
  have hh : ∀ i, IsReal (half X D g i) := fun i => full_real X D hX hD _
  refine (split_sum (masked A (half X D g)) (k0_pay3 (F := Ideal)) (masked_real A hA _ hh) r c).trans ?_
  simp only [masked_apply A hA, fold_apply]
  rw [fold_sum (fun j => half X D g (ix2 r j))]
  exact full_apply X D r _

/-- The kernel's stored output at gate `g`. -/
theorem out_apply (g : Fin 2) (r : Fin 512) (c : Fin 64) :
    out0_3 (F := Ideal) X D A (ix3 g r c) = folded (masked A (half X D g)) (ix2 r c) := by
  unfold out0_3
  have z : (![0, 0] : Fin 2 → Nat) = fun _ => 0 := by funext a; match a with | ⟨0, _⟩ => rfl | ⟨1, _⟩ => rfl
  rw [View.ld_unit_zero z, View.ld_unit_zero z, View.ld_unit_zero z]
  match g with
  | ⟨0, _⟩ =>
    have e : (ix3 (0 : Fin 2) r c : S2x512x64.Idx) = r0_3.emb (ix3 (0 : Fin 1) r c) := funext fun a => Fin.ext (by
      match a with
      | ⟨0, _⟩ => rfl
      | ⟨1, _⟩ => show r.val = 0 + 1 * r.val; omega
      | ⟨2, _⟩ => show c.val = 0 + 1 * c.val; omega)
    refine (View.canon_cons_of_not_mem _ _ ?_).trans ?_
    · show (ix3 (0 : Fin 2) r c : S2x512x64.Idx) ∉ r0_4.set
      rw [Rect.mem_set_unit]
      intro h
      exact absurd (h 0).1 (by show ¬ 1 ≤ 0; omega)
    · show View.canon _ (ix3 (0 : Fin 2) r c : S2x512x64.Idx) = _
      rw [e, View.canon_cons_emb]
      exact pay5_apply X D A r c
  | ⟨1, _⟩ =>
    have e : (ix3 (1 : Fin 2) r c : S2x512x64.Idx) = r0_4.emb (ix3 (0 : Fin 1) r c) := funext fun a => Fin.ext (by
      match a with
      | ⟨0, _⟩ => rfl
      | ⟨1, _⟩ => show r.val = 0 + 1 * r.val; omega
      | ⟨2, _⟩ => show c.val = 0 + 1 * c.val; omega)
    show View.canon _ (ix3 (1 : Fin 2) r c : S2x512x64.Idx) = _
    rw [e, View.canon_cons_emb]
    exact pay1_apply X D A r c

/-- The one point's block of a window over a whole array is the array: operand 0. -/
theorem iblk0_eq (c : Dev nD) (t : Fin cfg0.N) : iblk m c 0 t = V m c main_v2 :=
  Memref.read_access_unit_zero (Elt Ideal) main_v2
    (show (fun a => (win0_0.index t) a * main_v2.ty.shape.size a) = fun _ => 0 from
      funext fun a => by revert t; fin_cases a <;> decide) (fun a => by revert t; fin_cases a <;> decide) _

/-- Operand 1. -/
theorem iblk1_eq (c : Dev nD) (t : Fin cfg0.N) : iblk m c 1 t = V m c main_v6 :=
  Memref.read_access_unit_zero (Elt Ideal) main_v6
    (show (fun a => (win0_1.index t) a * main_v6.ty.shape.size a) = fun _ => 0 from
      funext fun a => by revert t; fin_cases a <;> decide) (fun a => by revert t; fin_cases a <;> decide) _

/-- Operand 2. -/
theorem iblk2_eq (c : Dev nD) (t : Fin cfg0.N) : iblk m c 2 t = V m c main_v20 :=
  Memref.read_access_unit_zero (Elt Ideal) main_v20
    (show (fun a => (win0_2.index t) a * main_v20.ty.shape.size a) = fun _ => 0 from
      funext fun a => by revert t; fin_cases a <;> decide) (fun a => by revert t; fin_cases a <;> decide) _

/-- The result's array after the run is what the one point computes from the three operands. -/
theorem final_eq (c : Dev nD) :
    (dats m 0 c).arrAt 3 cfg0.N = out0_3 (F := Ideal) (V m c main_v2) (V m c main_v6) (V m c main_v20) := by
  have h := Cert.GateIdeal.Value.blocks3 m c t0_0 (by decide)
  have e : ((cfg0.win 3).blk t0_0).view.read (Elt Ideal) ((dats m 0 c).arrAt 3 cfg0.N) = (dats m 0 c).arrAt 3 cfg0.N :=
    Memref.read_access_unit_zero (Elt Ideal) main_v21
      (show (fun a => (win0_3.index t0_0) a * main_v21.ty.shape.size a) = fun _ => 0 from
        funext fun a => by fin_cases a <;> decide) (fun a => by fin_cases a <;> decide) _
  refine e.symm.trans (h.trans ?_)
  rw [Cert.GateIdeal.Value.flushed3, iblk0_eq, iblk1_eq, iblk2_eq]
  rfl

/-- The first operand: the gates' input, transposed. -/
theorem X_apply (c : Dev nD) (r : Fin 512) (s : Fin 2048) :
    V m c main_v2 (ix2 r s) = m ((c : Thread nD τ).loc main_arg0) (ix3 0 s r) := by
  rw [V_v2, truncf_apply]
  refine (transpose_ix2_apply (a := 2048) (b := 512) _ _ r s).trans ?_
  exact shapeCast_1ab_ab_apply (a := 2048) (b := 512) _ _ s r

/-- The second operand: the two cotangents, beside each other. -/
theorem D_apply (c : Dev nD) (s : Fin 2048) (g : Fin 2) (q : Fin 512) :
    V m c main_v6 (ix2 s ⟨g.val * 512 + q.val, by omega⟩)
      = (if g = 0 then m ((c : Thread nD τ).loc main_arg3) else m ((c : Thread nD τ).loc main_arg4)) (ix3 0 s q) := by
  rw [V_v6, truncf_apply]
  match g with
  | ⟨0, _⟩ =>
    refine (concatenate_pair_apply_left (t := S2048x1024) (s₁ := S2048x512) 1 _ _ _ _ rfl (ix2 s q)
      (fun b => match b with | ⟨0, _⟩ => rfl | ⟨1, _⟩ => by show q.val = 0 * 512 + q.val; omega)).trans ?_
    exact shapeCast_1ab_ab_apply (a := 2048) (b := 512) _ _ s q
  | ⟨1, _⟩ =>
    refine (concatenate_pair_apply_right (t := S2048x1024) (s₁ := S2048x512) (s₂ := S2048x512) 1 _ _ _ _ rfl rfl (ix2 s q)
      (fun b hb => match b with | ⟨0, _⟩ => rfl | ⟨1, _⟩ => absurd rfl hb) (by show q.val + 512 = 1 * 512 + q.val; omega)).trans ?_
    exact shapeCast_1ab_ab_apply (a := 2048) (b := 512) _ _ s q

/-- The first operand's entries are real where the argument's are. -/
theorem X_real (c : Dev nD) (h : ∀ i, IsReal ((m ((c : Thread nD τ).loc main_arg0) : FVec Ideal S1x2048x512 .f32) i))
    (i : S512x2048.Idx) : IsReal ((V m c main_v2 : FVec Ideal S512x2048 .bf16) i) := by
  revert i
  refine forall_ix2 fun r s => ?_
  rw [X_apply]
  exact h _

/-- The second operand's entries are real where both cotangents' are. -/
theorem D_real (c : Dev nD) (h3 : ∀ i, IsReal ((m ((c : Thread nD τ).loc main_arg3) : FVec Ideal S1x2048x512 .f32) i))
    (h4 : ∀ i, IsReal ((m ((c : Thread nD τ).loc main_arg4) : FVec Ideal S1x2048x512 .f32) i))
    (i : S2048x1024.Idx) : IsReal ((V m c main_v6 : FVec Ideal S2048x1024 .bf16) i) := by
  revert i
  refine forall_ix2 fun s j => ?_
  have hj := D_apply m c s ⟨j.val / 512, by omega⟩ ⟨j.val % 512, by omega⟩
  have e : (⟨j.val / 512 * 512 + j.val % 512, by omega⟩ : Fin 1024) = j := Fin.ext (by show _ * 512 + _ = _; omega)
  rw [e] at hj
  rw [hj]
  split <;> [exact h3 _; exact h4 _]

end Kernel

/-! ## The claim -/

/-- The kernel's blocks and the reference's are equal, index by index. -/
theorem gate_value : Cert.algebraic_GateIdeal_GateRefIdeal_pre_gate_finite := by
  intro m g m' g' hpre hagree
  refine ⟨fun c => (Cert.GateIdeal.Gen.dats m 0 c).arrAt 3 Cert.GateIdeal.cfg0.N, Cert.GateIdeal.Value.run_blocks m g, ?_⟩
  refine (θ_run _ _ _).mono (fun r h c => ?_) (Cert.GateRefIdeal.Value.run (F := Ideal) m' g')
  obtain ⟨e0, e1, e2, e3, e4⟩ := hagree c
  refine ⟨(h c).1.trans ?_, (h c).2⟩
  rw [Cert.GateRefIdeal.Read.val_main_v19_eq, e0, e3, e4]
  have hp : andi (andi (andi _ _) _) _ = fun _ => 1#1 := hpre c
  have hp := congrFun hp ix0
  obtain ⟨hp, h4⟩ := IntOp.andi_eq_one.1 hp
  obtain ⟨hp, h3⟩ := IntOp.andi_eq_one.1 hp
  obtain ⟨-, h0⟩ := IntOp.andi_eq_one.1 hp
  have r0 := real_of_all _ _ _ _ _ _ h0
  have r3 := real_of_all _ _ _ _ _ _ h3
  have r4 := real_of_all _ _ _ _ _ _ h4
  refine Eq.trans ?_ (final_eq m c).symm
  funext i
  revert i
  refine forall_ix3 fun g r q => ?_
  rw [ref_apply, out_apply, folded_apply _ _ _ (fun i j => V_v20 m c i j) (X_real m c r0) (D_real m c r3 r4)]
  refine Finset.sum_congr rfl fun s _ => ?_
  rw [X_apply]
  exact congrArg _ (D_apply m c s g ⟨r.val / 64 * 64 + q.val, by omega⟩).symm

end Cert.GateValue

end
-- ==== Proof.MlpRun.lean ====
/- The body of the kernel `_mlp_fwd` run once at a grid point: the weights copied out of their pack at the first
   point, then the feed-forward layer, the loss and the gradients of its last two lines on one block of rows. -/
module

public import proofs.«01_k».proof.Proof.Reals
public import proofs.«01_k».proof.Proof.Gen.MlpIdeal.Launch
public import proofs.«01_k».proof.Proof.Gen.MlpIdeal.Skeleton
public import proofs.«01_k».proof.Proof.Gen.MlpIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import Idealize.ShloMosaic.Lib.VecWindow
public import Idealize.ShloMosaic.Lib.ValueLayout
public import Idealize.ShloMosaic.Lib.Pipeline.ValueKit.Tiles

@[expose] public section

noncomputable section

namespace Cert.MlpRun

open Cert.MlpIdeal Cert.MlpIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The two resident weights and the pack of both in HBM. -/
abbrev w1M : Memref sig .tc .vmem S4096x1024 .bf16 := Memref.whole cc0_scratch0
abbrev w2M : Memref sig .tc .vmem S4096x1024 .bf16 := Memref.whole cc0_scratch1
abbrev wpM : Memref sig .tc .hbm S8x1024x1024 .bf16 := Memref.whole main_v11

/-- What a memref's buffer holds on a core, and the buffer held whole, at all of it or at a part. -/
abbrev BufOf (c : Dev nD) {sp : Space} {S : Shape} {e : EltTy} (M : Memref sig .tc sp S e) : Type :=
  Buf (Elt F) (M.view.loc (c : Thread nD τ))
abbrev heldW (c : Dev nD) {sp : Space} {S : Shape} {e : EltTy} (M : Memref sig .tc sp S e) (f : BufOf (F := F) c M) : sProp 𝕄 :=
  M.view.loc (c : Thread nD τ) ↦{fullShare} f
abbrev heldP (c : Dev nD) (q : PosShare TreeShare) {sp : Space} {S : Shape} {e : EltTy} (M : Memref sig .tc sp S e) (f : BufOf (F := F) c M) : sProp 𝕄 :=
  M.view.loc (c : Thread nD τ) ↦{q} f

/-! ## The values of one block of rows -/

/-- What the layer reads at one grid point: a block of rows of `x`, of the mixer's output and of the target, the two
    modulation tables, the two norms' gains, the two weights as they lie in the resident buffers. -/
structure Ins (F : FTy → Type) where
  x : Vec F S256x1024 .f32
  mixed : Vec F S256x1024 .f32
  tgt : Vec F S256x1024 .f32
  mod : Vec F S8x1024 .f32
  ada : Vec F S8x1024 .f32
  g2 : Vec F S1x1024 .f32
  gf : Vec F S1x1024 .f32
  w1 : Vec F S4096x1024 .bf16
  w2 : Vec F S4096x1024 .bf16

abbrev rX : Rect S256x1024 := Rect.unit (s := S256x1024) ![0, 0] S256x1024.size inb_S256x1024_S256x1024_0_0
abbrev rM : Rect S8x1024 := Rect.unit (s := S8x1024) ![0, 0] S8x1024.size inb_S8x1024_S8x1024_0_0
abbrev rG : Rect S1x1024 := Rect.unit (s := S1x1024) ![0, 0] S1x1024.size inb_S1x1024_S1x1024_0_0
abbrev rL : Rect S8x128 := Rect.unit (s := S8x128) ![0, 0] S8x128.size inb_S8x128_S8x128_0_0
abbrev rV0 : Rect S8x1024 := Rect.unit (s := S8x1024) ![0, 0] S1x1024.size inb_S8x1024_S1x1024_0_0
abbrev rV1 : Rect S8x1024 := Rect.unit (s := S8x1024) ![1, 0] S1x1024.size inb_S8x1024_S1x1024_1_0
/-- Rows `512·k` on of a resident weight, and columns `512·k` on of the hidden layer. -/
theorem inbW (k : Fin 8) : ∀ a, (![512 * k.val, 0] : Fin 2 → ℕ) a + S512x1024.size a ≤ S4096x1024.size a := by
  revert k; decide
theorem inbF (k : Fin 8) : ∀ a, (![0, 512 * k.val] : Fin 2 → ℕ) a + S256x512.size a ≤ S256x4096.size a := by
  revert k; decide
abbrev rW (k : Fin 8) : Rect S4096x1024 := Rect.unit (s := S4096x1024) ![512 * k.val, 0] S512x1024.size (inbW k)
abbrev rF (k : Fin 8) : Rect S256x4096 := Rect.unit (s := S256x4096) ![0, 512 * k.val] S256x512.size (inbF k)

namespace Ins
variable (B : Ins F)

/-- The gate of the second residual, the first residual, the modulated norm and its transpose. -/
def gate2 : FVec F S1x1024 .f32 := k0_pay7 (View.ld B.mod rM) (View.ld B.ada rM)
def x1 : FVec F S256x1024 .f32 := k0_pay8 (View.ld B.mod rM) (View.ld B.ada rM) (View.ld B.x rX) (View.ld B.mixed rX)
def h : FVec F S256x1024 .bf16 := k0_pay10 (View.ld B.mod rM) (View.ld B.ada rM) (View.ld B.x rX) (View.ld B.mixed rX) (View.ld B.g2 rG)
def hT : FVec F S1024x256 .bf16 := k0_pay11 (View.ld B.mod rM) (View.ld B.ada rM) (View.ld B.x rX) (View.ld B.mixed rX) (View.ld B.g2 rG)
/-- A block of rows of each weight. -/
abbrev u (k : Fin 8) : Vec F S512x1024 .bf16 := View.ld B.w1 (rW k)
abbrev v (k : Fin 8) : Vec F S512x1024 .bf16 := View.ld B.w2 (rW k)
/-- The hidden layer, the last block first. -/
def f : Vec F S256x4096 .f32 :=
  View.canon [⟨rF 7, k0_pay23 B.h (B.u 7)⟩, ⟨rF 6, k0_pay22 B.h (B.u 6)⟩, ⟨rF 5, k0_pay20 B.h (B.u 5)⟩, ⟨rF 4, k0_pay18 B.h (B.u 4)⟩,
    ⟨rF 3, k0_pay17 B.h (B.u 3)⟩, ⟨rF 2, k0_pay15 B.h (B.u 2)⟩, ⟨rF 1, k0_pay13 B.h (B.u 1)⟩, ⟨rF 0, k0_pay12 B.h (B.u 0)⟩]
/-- The layer's output after two and after five blocks, and the activations kept between. -/
def z2 : FVec F S256x1024 .f32 := k0_pay14 B.h (B.u 0) (B.v 0) (B.u 1) (B.v 1)
def s2 : FVec F S256x512 .bf16 := k0_pay16 B.h (B.u 2)
def z5 : FVec F S256x1024 .f32 := k0_pay19 B.h B.z2 B.s2 (B.v 2) (B.u 3) (B.v 3) (B.u 4) (B.v 4)
def s5 : FVec F S256x512 .bf16 := k0_pay21 B.h (B.u 5)
/-- The output, the second residual, its mean square and its norm. -/
def z : FVec F S256x1024 .f32 := k0_pay24 B.h B.z5 B.s5 (B.v 5) (B.u 6) (B.v 6) (B.u 7) (B.v 7)
def x2 : FVec F S256x1024 .f32 := k0_pay25 B.gate2 B.x1 B.h B.z5 B.s5 (B.v 5) (B.u 6) (B.v 6) (B.u 7) (B.v 7)
def r2 : FVec F S256x1 .f32 := k0_pay26 B.gate2 B.x1 B.h B.z5 B.s5 (B.v 5) (B.u 6) (B.v 6) (B.u 7) (B.v 7)
def s : FVec F S256x1024 .f32 := k0_pay27 B.gate2 B.x1 B.h B.z5 B.s5 (B.v 5) (B.u 6) (B.v 6) (B.u 7) (B.v 7)
/-- The gradients of the block. -/
def dx2 : FVec F S256x1024 .f32 := k0_pay32 B.x2 B.r2 B.s (View.ld B.gf rG) (View.ld B.tgt rX) (View.ld B.gf rG)
def dz : FVec F S256x1024 .bf16 := k0_pay1 (k0_pay33 B.gate2 B.x2 B.r2 B.s (View.ld B.gf rG) (View.ld B.tgt rX) (View.ld B.gf rG))
/-- The two rows of summed gradients and the loss, each on top of what the points before left. -/
def vec (V : Vec F S8x1024 .f32) : Vec F S8x1024 .f32 :=
  VecWindow.put (VecWindow.put V ![0, 0] S1x1024.size (k0_pay2 B.z B.dx2 (View.ld V rV0))) ![1, 0] S1x1024.size
    (k0_pay3 (k0_pay28 B.x2 B.s) (k0_pay31 B.x2 B.s (View.ld B.gf rG) (View.ld B.tgt rX)) (View.ld V rV1))
def loss (L : Vec F S8x128 .f32) : Vec F S8x128 .f32 := k0_pay30 B.x2 B.s (View.ld B.gf rG) (View.ld B.tgt rX) (View.ld L rL)
end Ins

/-- The resident weights out of their pack: rows 512·k on are the first or the second half of the pack's `k`-th matrix. -/
def w1Of (pk : Vec F S8x1024x1024 .bf16) : Vec F S4096x1024 .bf16 := fun y =>
  pk (ix3 ⟨(y 0).val / 512, by have := (y 0).isLt; simp at this; omega⟩ ⟨(y 0).val % 512, by omega⟩ ⟨(y 1).val, (y 1).isLt⟩)
def w2Of (pk : Vec F S8x1024x1024 .bf16) : Vec F S4096x1024 .bf16 := fun y =>
  pk (ix3 ⟨(y 0).val / 512, by have := (y 0).isLt; simp at this; omega⟩ ⟨512 + (y 0).val % 512, by omega⟩ ⟨(y 1).val, (y 1).isLt⟩)

/-! ## The resident weights filled from their pack -/

/-- One matrix of the pack's rows `o` to `o + 511`, read through the window a copy takes. -/
theorem pack_read (pk : Vec F S8x1024x1024 .bf16) (k o : ℕ) (hk : k < 8) (ho : o + 512 ≤ 1024)
    (inb : ∀ a, (![k, o, 0] : Fin 3 → ℕ) a + (![1, 512, 1024] : Fin 3 → ℕ) a ≤ S8x1024x1024.size a) (hr hq)
    (x : S512x1024.Idx) :
    View.read (Elt F) ((wpM.slice (Rect.unit (s := S8x1024x1024) ![k, o, 0] ![1, 512, 1024] inb) hr).squeeze S512x1024 hq).view pk x
      = pk (ix3 ⟨k, hk⟩ ⟨o + (x 0).val, by have := (x 0).isLt; simp at this; omega⟩ ⟨(x 1).val, (x 1).isLt⟩) := by
  rw [Memref.read_squeeze_slice wpM _ hr hq (show (⟨3, ![1, 512, 1024]⟩ : Shape).ShapeCasts S512x1024 by decide) pk]
  revert x
  refine Cert.Reals.forall_ix2 fun i j => ?_
  rw [shapeCast_1ab_ab_apply]
  refine congrArg pk (funext fun a => Fin.ext ?_)
  fin_cases a
  · show k + 1 * 0 = k; omega
  · show o + 1 * i.val = o + i.val; omega
  · show 0 + 1 * j.val = j.val; omega

abbrev piece (k : ℕ) (inb : ∀ a, (![k, 0] : Fin 2 → ℕ) a + (![512, 1024] : Fin 2 → ℕ) a ≤ S4096x1024.size a) (w : Vec F S512x1024 .bf16) :
    View.Piece (Elt F) S4096x1024 .bf16 := ⟨Rect.unit (s := S4096x1024) ![k, 0] ![512, 1024] inb, w⟩

/-- One of the eight blocks of rows holds what the whole has there. -/
theorem tile_of (T : Vec F S4096x1024 .bf16) (y : S4096x1024.Idx) (k : ℕ) (w : Vec F S512x1024 .bf16)
    (h : ∀ (y : S4096x1024.Idx) (x : S512x1024.Idx), (y 0).val = k + (x 0).val → (y 1).val = (x 1).val → w x = T y) :
    View.TileAt y ![k, 0] ![512, 1024] w (T y) := fun x hx =>
  h y x (hx 0) ((hx 1).trans (Nat.zero_add _))

theorem fill_canon (T : Vec F S4096x1024 .bf16) (p0 p1 p2 p3 p4 p5 p6 p7 : Vec F S512x1024 .bf16) (b7 b6 b5 b4 b3 b2 b1 b0)
    (h0 : ∀ (y : S4096x1024.Idx) (x : S512x1024.Idx), (y 0).val = 0 + (x 0).val → (y 1).val = (x 1).val → p0 x = T y)
    (h1 : ∀ (y : S4096x1024.Idx) (x : S512x1024.Idx), (y 0).val = 512 + (x 0).val → (y 1).val = (x 1).val → p1 x = T y)
    (h2 : ∀ (y : S4096x1024.Idx) (x : S512x1024.Idx), (y 0).val = 1024 + (x 0).val → (y 1).val = (x 1).val → p2 x = T y)
    (h3 : ∀ (y : S4096x1024.Idx) (x : S512x1024.Idx), (y 0).val = 1536 + (x 0).val → (y 1).val = (x 1).val → p3 x = T y)
    (h4 : ∀ (y : S4096x1024.Idx) (x : S512x1024.Idx), (y 0).val = 2048 + (x 0).val → (y 1).val = (x 1).val → p4 x = T y)
    (h5 : ∀ (y : S4096x1024.Idx) (x : S512x1024.Idx), (y 0).val = 2560 + (x 0).val → (y 1).val = (x 1).val → p5 x = T y)
    (h6 : ∀ (y : S4096x1024.Idx) (x : S512x1024.Idx), (y 0).val = 3072 + (x 0).val → (y 1).val = (x 1).val → p6 x = T y)
    (h7 : ∀ (y : S4096x1024.Idx) (x : S512x1024.Idx), (y 0).val = 3584 + (x 0).val → (y 1).val = (x 1).val → p7 x = T y)
    : View.canon [piece 3584 b7 p7, piece 3072 b6 p6, piece 2560 b5 p5, piece 2048 b4 p4, piece 1536 b3 p3, piece 1024 b2 p2, piece 512 b1 p1, piece 0 b0 p0] = T := by
  funext y
  refine View.canon_eq_of_allAt _ y _ (View.cover_of_tiled _ ![512, 1024] (by rfl) y) ?_
  refine View.allAt_cons_unit _ _ _ _ _ (tile_of T y _ _ h7) ?_
  refine View.allAt_cons_unit _ _ _ _ _ (tile_of T y _ _ h6) ?_
  refine View.allAt_cons_unit _ _ _ _ _ (tile_of T y _ _ h5) ?_
  refine View.allAt_cons_unit _ _ _ _ _ (tile_of T y _ _ h4) ?_
  refine View.allAt_cons_unit _ _ _ _ _ (tile_of T y _ _ h3) ?_
  refine View.allAt_cons_unit _ _ _ _ _ (tile_of T y _ _ h2) ?_
  refine View.allAt_cons_unit _ _ _ _ _ (tile_of T y _ _ h1) ?_
  refine View.allAt_cons_unit _ _ _ _ _ (tile_of T y _ _ h0) ?_
  exact View.allAt_nil _ _

/-- A window of the pack is the resident weight's block of rows. -/
theorem pack_w1 (pk : Vec F S8x1024x1024 .bf16) (k : ℕ) (hk : k < 8) (inb) (hr hq) (y : S4096x1024.Idx) (x : S512x1024.Idx)
    (h0 : (y 0).val = 512 * k + (x 0).val) (h1 : (y 1).val = (x 1).val) :
    View.read (Elt F) ((wpM.slice (Rect.unit (s := S8x1024x1024) ![k, 0, 0] ![1, 512, 1024] inb) hr).squeeze S512x1024 hq).view pk x = w1Of pk y := by
  have hx : (x 0).val < 512 := (x 0).isLt
  rw [pack_read pk k 0 hk (by decide) inb hr hq x]
  unfold w1Of
  refine congrArg pk (congr (congr (congrArg ix3 (Fin.ext ?_)) (Fin.ext ?_)) (Fin.ext h1.symm))
  · show k = (y 0).val / 512; omega
  · show 0 + (x 0).val = (y 0).val % 512; omega
theorem pack_w2 (pk : Vec F S8x1024x1024 .bf16) (k : ℕ) (hk : k < 8) (inb) (hr hq) (y : S4096x1024.Idx) (x : S512x1024.Idx)
    (h0 : (y 0).val = 512 * k + (x 0).val) (h1 : (y 1).val = (x 1).val) :
    View.read (Elt F) ((wpM.slice (Rect.unit (s := S8x1024x1024) ![k, 512, 0] ![1, 512, 1024] inb) hr).squeeze S512x1024 hq).view pk x = w2Of pk y := by
  have hx : (x 0).val < 512 := (x 0).isLt
  rw [pack_read pk k 512 hk (by decide) inb hr hq x]
  unfold w2Of
  refine congrArg pk (congr (congr (congrArg ix3 (Fin.ext ?_)) (Fin.ext ?_)) (Fin.ext h1.symm))
  · show k = (y 0).val / 512; omega
  · show 512 + (x 0).val = 512 + (y 0).val % 512; omega

theorem held_at (c : Dev nD) {sp : Space} {S : Shape} {e : EltTy} (M : Memref sig .tc sp S e) {f g : BufOf (F := F) c M} (h : f = g) :
    heldW c M f ⊢ heldW c M g := h ▸ .rfl

/-- A postcondition read at an equal result. -/
theorem post_at {α : Type} {P : sProp 𝕄} {K : α → sProp 𝕄} {a b : α} (h : a = b) (hb : Entails' P (K b)) : Entails' P (K a) := h ▸ hb

section Body
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1024 .f32) (harg7 : arg7.IsWhole) (arg9 : Memref sig .tc .vmem S1024x256 .bf16) (harg9 : arg9.IsWhole) (arg10 : Memref sig .tc .vmem S256x4096 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole)

abbrev part7P : Prog (TpuEff nD τ sig (Elt F) Λ₀ .tc) (Σ' (v11 : FVec F S1x1024 .f32) (v18 : FVec F S256x1024 .f32) (v38 : FVec F S256x1024 .bf16), FVec F S1024x256 .bf16) :=
  k0_part7 (F := F) i arg1 harg1 arg2 harg2 arg3 harg3 arg4 harg4 arg5 harg5 arg6 harg6 arg7 harg7 wpM (Memref.isWhole_whole _) arg9 harg9 arg10 harg10 arg11 harg11 arg12 harg12 arg13 harg13 arg14 harg14 w1M (Memref.isWhole_whole _) w2M (Memref.isWhole_whole _) cc0_scratch2
abbrev bodyP : Prog (TpuEff nD τ sig (Elt F) Λ₀ .tc) PUnit :=
  cc0_mlp_fwd (F := F) i arg1 harg1 arg2 harg2 arg3 harg3 arg4 harg4 arg5 harg5 arg6 harg6 arg7 harg7 wpM (Memref.isWhole_whole _) arg9 harg9 arg10 harg10 arg11 harg11 arg12 harg12 arg13 harg13 arg14 harg14 w1M (Memref.isWhole_whole _) w2M (Memref.isWhole_whole _) cc0_scratch2

/-- What the loads at the head of the body return. -/
abbrev heads (B : Ins F) : Σ' (v11 : FVec F S1x1024 .f32) (v18 : FVec F S256x1024 .f32) (v38 : FVec F S256x1024 .bf16), FVec F S1024x256 .bf16 :=
  ⟨B.gate2, B.x1, B.h, B.hT⟩

/-- The weights' pack, the resident weights and the two counters of the copies, nothing in flight. -/
abbrev weights (pk : Vec F S8x1024x1024 .bf16) (W1 W2 : Vec F S4096x1024 .bf16) : sProp 𝕄 :=
  iprop(heldP c fullShare.left wpM pk ∗ heldP c fullShare.right wpM pk ∗ heldW c w1M W1 ∗ heldW c w2M W2
    ∗ semVal ((c : Thread nD τ), SemLoc.dma 20) 0 ∗ semVal ((c : Thread nD τ), SemLoc.dma 21) 0)

/-- What the head of the body reads. -/
abbrev headIns (B : Ins F) : sProp 𝕄 :=
  iprop(owns (c : Thread nD τ) arg1 fullShare B.x ∗ owns (c : Thread nD τ) arg2 fullShare B.mixed ∗ owns (c : Thread nD τ) arg4 fullShare B.mod ∗ owns (c : Thread nD τ) arg5 fullShare B.ada ∗ owns (c : Thread nD τ) arg6 fullShare B.g2)

set_option maxHeartbeats 1000000 in
/-- The head at the first point: the weights copied in, the sums cleared. -/
theorem head_first (hi : Scalar.cmpi .ne (Scalar.extui (Scalar.cmpi .eq (BitVec.ofNat 32 (i 0).val) 0#32) : BitVec 32) 0#32 = 1#1)
    (B : Ins F) (pk : Vec F S8x1024x1024 .bf16) (g1 g2 : Vec F S4096x1024 .bf16) (W : Waits sig Unit)
    (K : (Σ' (v11 : FVec F S1x1024 .f32) (v18 : FVec F S256x1024 .f32) (v38 : FVec F S256x1024 .bf16), FVec F S1024x256 .bf16) → sProp 𝕄) :
    iprop(headIns c arg1 arg2 arg4 arg5 arg6 B ∗ (∃ d, owns (c : Thread nD τ) arg13 fullShare d) ∗ (∃ d, owns (c : Thread nD τ) arg14 fullShare d)
        ∗ weights c pk g1 g2 ∗ owes (c : Thread nD τ) 0 W
        ∗ (iprop(headIns c arg1 arg2 arg4 arg5 arg6 B ∗ owns (c : Thread nD τ) arg13 fullShare (k0_pay4 (F := F)) ∗ owns (c : Thread nD τ) arg14 fullShare (k0_pay5 (F := F))
            ∗ weights c pk (w1Of pk) (w2Of pk) ∗ (∃ W', owes (c : Thread nD τ) 0 W')) -∗ K (heads B)))
      ⊢ wp frame (wpE (defs₀ (F := F)) Variants.none c none) Set.univ (part7P i arg1 harg1 arg2 harg2 arg3 harg3 arg4 harg4 arg5 harg5 arg6 harg6 arg7 harg7 arg9 harg9 arg10 harg10 arg11 harg11 arg12 harg12 arg13 harg13 arg14 harg14) K := by
  have _plan1 : Transfers.BatchOf (c : Thread nD τ) (SemLoc.dma (sig := sig) 20) 8 (windows := true) := trivial
  have _plan2 : Transfers.BatchOf (c : Thread nD τ) (SemLoc.dma (sig := sig) 21) 8 (windows := true) := trivial
  rcases B with ⟨bx, bm, bt, bmod, bada, bg2, bgf, bw1, bw2⟩
  unfold part7P headIns weights owns
  dsimp only
  iintro ⟨⟨⟨%f1, %h1, H1⟩, ⟨%f2, %h2, H2⟩, ⟨%f4, %h4, H4⟩, ⟨%f5, %h5, H5⟩, ⟨%f6, %h6, H6⟩⟩, ⟨%d13, %f13, -, H13⟩, ⟨%d14, %f14, -, H14⟩, ⟨HP, HP', HA, HB, Hc0, Hc1⟩, HW, Hk⟩
  subst h1 h2 h4 h5 h6
  simp only [k0_part7_eq_skeleton, k0_part7_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel]
  sl_exec
  sl_step
  refine post_at (b := heads ⟨arg1.view.read (Elt F) f1, arg2.view.read (Elt F) f2, bt, arg4.view.read (Elt F) f4, arg5.view.read (Elt F) f5, arg6.view.read (Elt F) f6, bgf, bw1, bw2⟩) rfl ?_
  iapply Hk
  isplitl [H1 H2 H4 H5 H6]
  · isplitl [H1]; · iexists f1; isplitr; · ipureintro; rfl
                    iexact H1
    isplitl [H2]; · iexists f2; isplitr; · ipureintro; rfl
                    iexact H2
    isplitl [H4]; · iexists f4; isplitr; · ipureintro; rfl
                    iexact H4
    isplitl [H5]; · iexists f5; isplitr; · ipureintro; rfl
                    iexact H5
    iexists f6; isplitr; · ipureintro; rfl
    iexact H6
  isplitl [H13]
  · iexists _; isplitr; swap; · iexact H13
    ipureintro; exact View.read_writes_full _ _ _ _ _
  isplitl [H14]
  · iexists _; isplitr; swap; · iexact H14
    ipureintro; exact View.read_writes_full _ _ _ _ _
  isplitr [HW]
  · isplitl [HP]; · iexact HP
    isplitl [HP']; · iexact HP'
    isplitl [HA]
    · iapply (held_at c w1M ((View.read_writes_eq_canon w1M.view g1 _ (View.cover_of_tiled _ ![512, 1024] (by rfl))).trans (fill_canon (w1Of pk) _ _ _ _ _ _ _ _ _ _ _ _ _ _ _ _
        (pack_w1 pk 0 (by decide) _ _ _) (pack_w1 pk 1 (by decide) _ _ _) (pack_w1 pk 2 (by decide) _ _ _) (pack_w1 pk 3 (by decide) _ _ _)
        (pack_w1 pk 4 (by decide) _ _ _) (pack_w1 pk 5 (by decide) _ _ _) (pack_w1 pk 6 (by decide) _ _ _) (pack_w1 pk 7 (by decide) _ _ _))))
      iexact HA
    isplitl [HB]
    · iapply (held_at c w2M ((View.read_writes_eq_canon w2M.view g2 _ (View.cover_of_tiled _ ![512, 1024] (by rfl))).trans (fill_canon (w2Of pk) _ _ _ _ _ _ _ _ _ _ _ _ _ _ _ _
        (pack_w2 pk 0 (by decide) _ _ _) (pack_w2 pk 1 (by decide) _ _ _) (pack_w2 pk 2 (by decide) _ _ _) (pack_w2 pk 3 (by decide) _ _ _)
        (pack_w2 pk 4 (by decide) _ _ _) (pack_w2 pk 5 (by decide) _ _ _) (pack_w2 pk 6 (by decide) _ _ _) (pack_w2 pk 7 (by decide) _ _ _))))
      iexact HB
    isplitl [Hc0]; · iexact Hc0
    iexact Hc1
  iexists _; iexact HW

/-- The head at a later point: the loads alone. -/
theorem head_later (hi : ¬ Scalar.cmpi .ne (Scalar.extui (Scalar.cmpi .eq (BitVec.ofNat 32 (i 0).val) 0#32) : BitVec 32) 0#32 = 1#1)
    (B : Ins F) (pk : Vec F S8x1024x1024 .bf16) (W1 W2 : Vec F S4096x1024 .bf16) (V0 : Vec F S8x1024 .f32) (L0 : Vec F S8x128 .f32) (W : Waits sig Unit)
    (K : (Σ' (v11 : FVec F S1x1024 .f32) (v18 : FVec F S256x1024 .f32) (v38 : FVec F S256x1024 .bf16), FVec F S1024x256 .bf16) → sProp 𝕄) :
    iprop(headIns c arg1 arg2 arg4 arg5 arg6 B ∗ owns (c : Thread nD τ) arg13 fullShare V0 ∗ owns (c : Thread nD τ) arg14 fullShare L0
        ∗ weights c pk W1 W2 ∗ owes (c : Thread nD τ) 0 W
        ∗ (iprop(headIns c arg1 arg2 arg4 arg5 arg6 B ∗ owns (c : Thread nD τ) arg13 fullShare V0 ∗ owns (c : Thread nD τ) arg14 fullShare L0
            ∗ weights c pk W1 W2 ∗ (∃ W', owes (c : Thread nD τ) 0 W')) -∗ K (heads B)))
      ⊢ wp frame (wpE (defs₀ (F := F)) Variants.none c none) Set.univ (part7P i arg1 harg1 arg2 harg2 arg3 harg3 arg4 harg4 arg5 harg5 arg6 harg6 arg7 harg7 arg9 harg9 arg10 harg10 arg11 harg11 arg12 harg12 arg13 harg13 arg14 harg14) K := by
  rcases B with ⟨bx, bm, bt, bmod, bada, bg2, bgf, bw1, bw2⟩
  unfold part7P headIns weights owns
  dsimp only
  iintro ⟨⟨⟨%f1, %h1, H1⟩, ⟨%f2, %h2, H2⟩, ⟨%f4, %h4, H4⟩, ⟨%f5, %h5, H5⟩, ⟨%f6, %h6, H6⟩⟩, H13, H14, ⟨HP, HP', HA, HB, Hc0, Hc1⟩, HW, Hk⟩
  subst h1 h2 h4 h5 h6
  simp only [k0_part7_eq_skeleton, k0_part7_skel]
  sl_exec
  sl_step
  refine post_at (b := heads ⟨arg1.view.read (Elt F) f1, arg2.view.read (Elt F) f2, bt, arg4.view.read (Elt F) f4, arg5.view.read (Elt F) f5, arg6.view.read (Elt F) f6, bgf, bw1, bw2⟩) rfl ?_
  iapply Hk
  isplitl [H1 H2 H4 H5 H6]
  · isplitl [H1]; · iexists f1; isplitr; · ipureintro; rfl
                    iexact H1
    isplitl [H2]; · iexists f2; isplitr; · ipureintro; rfl
                    iexact H2
    isplitl [H4]; · iexists f4; isplitr; · ipureintro; rfl
                    iexact H4
    isplitl [H5]; · iexists f5; isplitr; · ipureintro; rfl
                    iexact H5
    iexists f6; isplitr; · ipureintro; rfl
    iexact H6
  isplitl [H13]; · iexact H13
  isplitl [H14]; · iexact H14
  isplitr [HW]
  · isplitl [HP]; · iexact HP
    isplitl [HP']; · iexact HP'
    isplitl [HA]; · iexact HA
    isplitl [HB]; · iexact HB
    isplitl [Hc0]; · iexact Hc0
    iexact Hc1
  iexists _; iexact HW

/-- What the rest of the body reads and writes. -/
abbrev restIns (B : Ins F) : sProp 𝕄 := iprop(owns (c : Thread nD τ) arg3 fullShare B.tgt ∗ owns (c : Thread nD τ) arg7 fullShare B.gf)
abbrev outsAny : sProp 𝕄 := iprop((∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d))
abbrev outsOf (B : Ins F) : sProp 𝕄 := iprop(owns (c : Thread nD τ) arg9 fullShare B.hT ∗ owns (c : Thread nD τ) arg10 fullShare B.f ∗ owns (c : Thread nD τ) arg11 fullShare B.dx2 ∗ owns (c : Thread nD τ) arg12 fullShare B.dz)

/-- The body, its head specified: from the head's own resources `R` and the rest's, to every output written. -/
theorem body_run (R : sProp 𝕄) (B : Ins F) (pk : Vec F S8x1024x1024 .bf16) (V0 : Vec F S8x1024 .f32) (L0 : Vec F S8x128 .f32)
    (hcut : ∀ K : (Σ' (v11 : FVec F S1x1024 .f32) (v18 : FVec F S256x1024 .f32) (v38 : FVec F S256x1024 .bf16), FVec F S1024x256 .bf16) → sProp 𝕄,
      iprop(R ∗ (iprop(headIns c arg1 arg2 arg4 arg5 arg6 B ∗ owns (c : Thread nD τ) arg13 fullShare V0 ∗ owns (c : Thread nD τ) arg14 fullShare L0
            ∗ weights c pk B.w1 B.w2 ∗ (∃ W', owes (c : Thread nD τ) 0 W')) -∗ K (heads B)))
      ⊢ wp frame (wpE (defs₀ (F := F)) Variants.none c none) Set.univ (part7P i arg1 harg1 arg2 harg2 arg3 harg3 arg4 harg4 arg5 harg5 arg6 harg6 arg7 harg7 arg9 harg9 arg10 harg10 arg11 harg11 arg12 harg12 arg13 harg13 arg14 harg14) K)
    (K : PUnit → sProp 𝕄) :
    iprop(R ∗ restIns c arg3 arg7 B ∗ outsAny c arg9 arg10 arg11 arg12
        ∗ (iprop(headIns c arg1 arg2 arg4 arg5 arg6 B ∗ restIns c arg3 arg7 B ∗ outsOf c arg9 arg10 arg11 arg12 B
            ∗ owns (c : Thread nD τ) arg13 fullShare (B.vec V0) ∗ owns (c : Thread nD τ) arg14 fullShare (B.loss L0)
            ∗ weights c pk B.w1 B.w2 ∗ (∃ W', owes (c : Thread nD τ) 0 W')) -∗ K ⟨⟩))
      ⊢ wp frame (wpE (defs₀ (F := F)) Variants.none c none) Set.univ (bodyP i arg1 harg1 arg2 harg2 arg3 harg3 arg4 harg4 arg5 harg5 arg6 harg6 arg7 harg7 arg9 harg9 arg10 harg10 arg11 harg11 arg12 harg12 arg13 harg13 arg14 harg14) K := by
  rcases B with ⟨bx, bm, bt, bmod, bada, bg2, bgf, bw1, bw2⟩
  unfold bodyP
  simp only [cc0_mlp_fwd_eq_skeleton]; unfold cc0_mlp_fwd_skel
  rw [wp_bind]
  iintro ⟨HR, ⟨H3, H7⟩, ⟨H9, H10, H11, H12⟩, Hk⟩
  iapply hcut
  isplitl [HR]; · iexact HR
  unfold headIns weights restIns outsOf owns
  iintro ⟨Hh, ⟨%f13, %h13, H13⟩, ⟨%f14, %h14, H14⟩, ⟨HP, HP', HA, HB, Hc0, Hc1⟩, ⟨%W', HW⟩⟩
  icases H3 with ⟨%f3, %h3, H3⟩
  icases H7 with ⟨%f7, %h7, H7⟩
  icases H9 with ⟨%d9, %f9, -, H9⟩
  icases H10 with ⟨%d10, %f10, -, H10⟩
  icases H11 with ⟨%d11, %f11, -, H11⟩
  icases H12 with ⟨%d12, %f12, -, H12⟩
  dsimp only at h3 h7
  subst h3 h7 h13 h14
  simp only [k0_part8_eq_skeleton, k0_part8_skel, k0_part9_eq_skeleton, k0_part9_skel, k0_part10_eq_skeleton, k0_part10_skel, k0_part11_eq_skeleton, k0_part11_skel]
  sl_exec
  sl_step
  iapply Hk
  isplitl [Hh]; · iexact Hh
  isplitl [H3 H7]
  · isplitl [H3]; · iexists f3; isplitr; · ipureintro; rfl
                    iexact H3
    iexists f7; isplitr; · ipureintro; rfl
    iexact H7
  isplitl [H9 H10 H11 H12]
  · isplitl [H9]
    · iexists _; isplitr; swap; · iexact H9
      ipureintro; exact View.read_writes_full _ _ _ _ _
    isplitl [H10]
    · iexists _; isplitr; swap; · iexact H10
      ipureintro; exact View.read_writes_eq_canon _ _ _ (View.cover_of_tiled _ S256x512.size (by rfl))
    isplitl [H11]
    · iexists _; isplitr; swap; · iexact H11
      ipureintro; exact View.read_writes_full _ _ _ _ _
    iexists _; isplitr; swap; · iexact H12
    ipureintro; exact View.read_writes_full _ _ _ _ _
  isplitl [H13]
  · iexists _; isplitr; swap; · iexact H13
    ipureintro
    refine (View.read_writes_cons_put _ _ _ _ _ rfl).trans ?_
    rw [View.read_writes_cons_put _ _ _ _ _ rfl, View.writes_nil]
    rfl
  isplitl [H14]
  · iexists _; isplitr; swap; · iexact H14
    ipureintro; exact View.read_writes_full _ _ _ _ _
  isplitr [HW]
  · isplitl [HP]; · iexact HP
    isplitl [HP']; · iexact HP'
    isplitl [HA]; · iexact HA
    isplitl [HB]; · iexact HB
    isplitl [Hc0]; · iexact Hc0
    iexact Hc1
  iexists _; iexact HW

end Body

end Cert.MlpRun
-- ==== Proof.MlpFrame.lean ====
/- `_mlp_fwd` over its grid: the frame of the run, and every result as the blocks of the runs of its body. -/
module

public import proofs.«01_k».proof.Proof.MlpRun
public import proofs.«01_k».proof.Proof.Gen.MlpIdeal.Frame

@[expose] public section

noncomputable section

namespace Cert.MlpFrame

open Cert.MlpIdeal Cert.MlpIdeal.Gen Cert.MlpRun
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host lines, and what the body holds beside its windows -/

set_option maxHeartbeats 800000 in
theorem host_lines (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The two counters of the weights' copies, and the pack they read. -/
abbrev osem0 : Fin 2 → SemLoc sig := fun j => (![SemLoc.dma 20, SemLoc.dma 21] : Fin 2 → SemLoc sig) j
theorem ownSemFacts0 : Pipeline.OwnSemFacts spec0 osem0 := by decide
def H0 : Finset (Ref sig .tc) := {main_v11}
theorem H0_sub : H0 ⊆ Pipeline.restRefs sig spec0 := by decide

theorem counters_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 20) 0 ∗ semVal ((c : Thread nD τ), SemLoc.dma 21) 0) := by
  rw [Pipeline.ownSems0_eq_of_list c osem0 [0, 1] (by decide) (by decide)]; rfl

theorem pack_eq (c : Dev nD) :
    (bigSep H0 (fun b => ((c : Thread nD τ).loc b) ↦{fullShare} V m c b) : sProp 𝕄) = heldW c wpM (V m c main_v11) := by
  rw [BI.bigSep_eq_bigSepL_of_eq [main_v11] (by decide) (by decide)]; rfl

theorem rest_eq (c : Dev nD) :
    (Pipeline.ΦD osem0 spec0 H0 (V m) c : sProp 𝕄)
      = iprop(iprop((∃ f, heldW c w1M f) ∗ (∃ f, heldW c w2M f)) ∗ (∃ r, prngReg c r)
          ∗ iprop(semVal ((c : Thread nD τ), SemLoc.dma 20) 0 ∗ semVal ((c : Thread nD τ), SemLoc.dma 21) 0)
          ∗ heldW c wpM (V m c main_v11)) := by
  rw [Pipeline.ΦD_eq, scopedRest0_eq, counters_eq, pack_eq]

/-! ## The blocks and the running sums -/

/-- What the body reads at a point. -/
def insAt (c : Dev nD) (t : Fin cfg0.N) : Ins F :=
  ⟨iblk m c 0 t, iblk m c 1 t, iblk m c 2 t, iblk m c 3 t, iblk m c 4 t, iblk m c 5 t, iblk m c 6 t,
    w1Of (V m c main_v11), w2Of (V m c main_v11)⟩

/-- The summed gradients and the loss after the first `n` blocks of rows. -/
def vecAt (c : Dev nD) : ℕ → Vec F S8x1024 .f32
  | 0 => k0_pay4
  | n + 1 => if h : n < cfg0.N then (insAt m c ⟨n, h⟩).vec (vecAt c n) else vecAt c n
def lossAt (c : Dev nD) : ℕ → Vec F S8x128 .f32
  | 0 => k0_pay5
  | n + 1 => if h : n < cfg0.N then (insAt m c ⟨n, h⟩).loss (lossAt c n) else lossAt c n

theorem vecAt_succ (c : Dev nD) (t : Fin cfg0.N) : vecAt m c (t.val + 1) = (insAt m c t).vec (vecAt m c t.val) := dif_pos t.isLt
theorem lossAt_succ (c : Dev nD) (t : Fin cfg0.N) : lossAt m c (t.val + 1) = (insAt m c t).loss (lossAt m c t.val) := dif_pos t.isLt

/-- Between two points: from the second on, the resident weights hold the pack's rows. -/
def between (c : Dev nD) (t : Fin (cfg0.N + 1)) : sProp 𝕄 :=
  iprop(∃ g1 g2, ⌜t.val ≠ 0 → g1 = w1Of (V m c main_v11) ∧ g2 = w2Of (V m c main_v11)⌝ ∗ weights c (V m c main_v11) g1 g2 ∗ (∃ r, prngReg c r))

/-- What each window holds after the body at a point: an input its block, an output the body's value. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t | ⟨4, _⟩ => iblk m c 4 t | ⟨5, _⟩ => iblk m c 5 t | ⟨6, _⟩ => iblk m c 6 t
    | ⟨7, _⟩ => (insAt m c t).hT | ⟨8, _⟩ => (insAt m c t).f | ⟨9, _⟩ => (insAt m c t).dx2 | ⟨10, _⟩ => (insAt m c t).dz
    | ⟨11, _⟩ => vecAt m c (t.val + 1) | ⟨12, _⟩ => lossAt m c (t.val + 1)
  Φ t := between m c t
  q _ := fullShare
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun t => rfl) t d).trans rfl
theorem before0_5 (c : Dev nD) (t : Fin cfg0.N) (d) : (dats m 0 c).before 5 t d = iblk m c 5 t :=
  ((dats m 0 c).before_in_eq_fetched 5 rfl (fun _ => rfl) (fun _ _ _ => rfl) (fun t => rfl) t d).trans rfl
theorem before0_6 (c : Dev nD) (t : Fin cfg0.N) (d) : (dats m 0 c).before 6 t d = iblk m c 6 t :=
  ((dats m 0 c).before_in_eq_fetched 6 rfl (fun _ => rfl) (fun _ _ _ => rfl) (fun t => rfl) t d).trans rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (insAt m c t).hT := by dsimp only [dats]
theorem after0_8 (c : Dev nD) (t : Fin cfg0.N) : (dats m 0 c).after 8 t = (insAt m c t).f := by dsimp only [dats]
theorem after0_9 (c : Dev nD) (t : Fin cfg0.N) : (dats m 0 c).after 9 t = (insAt m c t).dx2 := by dsimp only [dats]
theorem after0_10 (c : Dev nD) (t : Fin cfg0.N) : (dats m 0 c).after 10 t = (insAt m c t).dz := by dsimp only [dats]
theorem after0_11 (c : Dev nD) (t : Fin cfg0.N) : (dats m 0 c).after 11 t = vecAt m c (t.val + 1) := by dsimp only [dats]
theorem after0_12 (c : Dev nD) (t : Fin cfg0.N) : (dats m 0 c).after 12 t = lossAt m c (t.val + 1) := by dsimp only [dats]

theorem before_sum (c : Dev nD) (t : Fin cfg0.N) (ht : t.val ≠ 0) (d) : (dats m 0 c).before 11 t d = vecAt m c t.val := by
  have e : t.val - 1 + 1 = t.val := by omega
  have hN : t.val < 8 := lt_of_lt_of_eq t.isLt N_0
  refine ((dats m 0 c).before_out_kept 11 rfl t ht (Bool.eq_false_iff.2 fun h => ?_) (fun _ => rfl) (fun _ _ => rfl) d).trans ?_
  · have := (flush0_11 _).1 h; simp only at this; omega
  · show vecAt m c (t.val - 1 + 1) = _; rw [e]
theorem before_loss (c : Dev nD) (t : Fin cfg0.N) (ht : t.val ≠ 0) (d) : (dats m 0 c).before 12 t d = lossAt m c t.val := by
  have e : t.val - 1 + 1 = t.val := by omega
  have hN : t.val < 8 := lt_of_lt_of_eq t.isLt N_0
  refine ((dats m 0 c).before_out_kept 12 rfl t ht (Bool.eq_false_iff.2 fun h => ?_) (fun _ => rfl) (fun _ _ => rfl) d).trans ?_
  · have := (flush0_12 _).1 h; simp only at this; omega
  · show lossAt m c (t.val - 1 + 1) = _; rw [e]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The first point is the one the body tests for. -/
theorem first_iff : ∀ t : Fin cfg0.N, (Scalar.cmpi .ne (Scalar.extui (Scalar.cmpi .eq (BitVec.ofNat 32 ((grid0.coords t) 0).val) 0#32) : BitVec 32) 0#32 = 1#1) ↔ t.val = 0 :=
  (by decide : ∀ t : Fin grid0.N, (Scalar.cmpi .ne (Scalar.extui (Scalar.cmpi .eq (BitVec.ofNat 32 ((grid0.coords t) 0).val) 0#32) : BitVec 32) 0#32 = 1#1) ↔ t.val = 0)

/-- The head of the body at a point, whichever: from what the points before left to the resident weights filled. -/
abbrev headRes (c : Dev nD) (t : Fin cfg0.N) (W : Waits sig Unit) : sProp 𝕄 :=
  iprop(headIns c (st0_0 t) (st0_1 t) (st0_3 t) (st0_4 t) (st0_5 t) (insAt m c t)
    ∗ (∃ d, owns (c : Thread nD τ) (st0_11 t) fullShare ((dats m 0 c).before 11 t d)) ∗ (∃ d, owns (c : Thread nD τ) (st0_12 t) fullShare ((dats m 0 c).before 12 t d))
    ∗ (∃ g1 g2, ⌜t.val ≠ 0 → g1 = w1Of (V m c main_v11) ∧ g2 = w2Of (V m c main_v11)⌝ ∗ weights c (V m c main_v11) g1 g2)
    ∗ owes (c : Thread nD τ) 0 W)

theorem head_any (c : Dev nD) (t : Fin cfg0.N) (W : Waits sig Unit)
    (K : (Σ' (v11 : FVec F S1x1024 .f32) (v18 : FVec F S256x1024 .f32) (v38 : FVec F S256x1024 .bf16), FVec F S1024x256 .bf16) → sProp 𝕄) :
    iprop(headRes m c t W
        ∗ (iprop(headIns c (st0_0 t) (st0_1 t) (st0_3 t) (st0_4 t) (st0_5 t) (insAt m c t) ∗ owns (c : Thread nD τ) (st0_11 t) fullShare (vecAt m c t.val) ∗ owns (c : Thread nD τ) (st0_12 t) fullShare (lossAt m c t.val)
            ∗ weights c (V m c main_v11) (insAt m c t).w1 (insAt m c t).w2 ∗ (∃ W', owes (c : Thread nD τ) 0 W')) -∗ K (heads (insAt m c t))))
      ⊢ wp frame (wpE (defs₀ (F := F)) Variants.none c none) Set.univ (part7P (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12))) K := by
  iintro ⟨⟨HI, ⟨%d11, H11⟩, ⟨%d12, H12⟩, ⟨%g1, %g2, %hg, HWs⟩, HW⟩, Hk⟩
  by_cases ht : t.val = 0
  · iapply (head_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) ((first_iff t).2 ht) (insAt m c t) (V m c main_v11) g1 g2 W K)
    isplitl [HI]; · iexact HI
    isplitl [H11]; · iexists _; iexact H11
    isplitl [H12]; · iexists _; iexact H12
    isplitl [HWs]; · iexact HWs
    isplitl [HW]; · iexact HW
    rw [show vecAt m c t.val = k0_pay4 by rw [ht]; rfl, show lossAt m c t.val = k0_pay5 by rw [ht]; rfl]
    iexact Hk
  · obtain ⟨rfl, rfl⟩ := hg ht
    rw [before_sum m c t ht, before_loss m c t ht]
    iapply (head_later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (fun h => ht ((first_iff t).1 h)) (insAt m c t) (V m c main_v11) (insAt m c t).w1 (insAt m c t).w2 (vecAt m c t.val) (lossAt m c t.val) W K)
    isplitl [HI]; · iexact HI
    isplitl [H11]; · iexact H11
    isplitl [H12]; · iexact H12
    isplitl [HWs]; · iexact HWs
    isplitl [HW]; · iexact HW
    iexact Hk

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = between m c t.succ from rfl, show (dats m 0 c).Φ t.castSucc = between m c t.castSucc from rfl]
  unfold Dat.owesAt Pipeline.owesWithin between
  rw [show (dats m 0 c).owed t.castSucc = 0 from rfl, show (dats m 0 c).owed t.succ = 0 from rfl]
  simp only [before0_0, before0_1, before0_2, before0_3, before0_4, before0_5, before0_6]
  iintro ⟨⟨%g1, %g2, %hg, HWs, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (headRes m c t W) (insAt m c t) (V m c main_v11) (vecAt m c t.val) (lossAt m c t.val) (head_any m c t W) _)
  isplitl [HWs HW H0 H1 H3 H4 H5 H11 H12]
  · isplitl [H0 H1 H3 H4 H5]
    · isplitl [H0]; · iexact H0
      isplitl [H1]; · iexact H1
      isplitl [H3]; · iexact H3
      isplitl [H4]; · iexact H4
      iexact H5
    isplitl [H11]; · iexists d11; iexact H11
    isplitl [H12]; · iexists d12; iexact H12
    isplitr [HW]
    · iexists g1, g2
      isplitr; · ipureintro; exact hg
      iexact HWs
    iexact HW
  isplitl [H2 H6]
  · isplitl [H2]; · iexact H2
    iexact H6
  isplitl [H7 H8 H9 H10]
  · isplitl [H7]; · iexists _; iexact H7
    isplitl [H8]; · iexists _; iexact H8
    isplitl [H9]; · iexists _; iexact H9
    iexists _; iexact H10
  iintro ⟨⟨H0, H1, H3, H4, H5⟩, ⟨H2, H6⟩, ⟨H7, H8, H9, H10⟩, H11, H12, HWs, ⟨%W', HW'⟩⟩
  isplitl [HWs Hg]
  · iexists (insAt m c t).w1, (insAt m c t).w2
    isplitr; · ipureintro; exact fun _ => ⟨rfl, rfl⟩
    isplitl [HWs]; · iexact HWs
    iexact Hg
  isplitl [HW']
  · iexists W'; isplitr; · ipureintro; exact fun _ _ => Or.inl trivial
    iexact HW'
  rw [after0_0, after0_1, after0_2, after0_3, after0_4, after0_5, after0_6, after0_7, after0_8, after0_9, after0_10, after0_11, after0_12, vecAt_succ, lossAt_succ]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem enter (c : Dev nD) : (Pipeline.ΦD osem0 spec0 H0 (V m) c : sProp 𝕄) ⊢ (dats m 0 c).Φ 0 := by
  rw [rest_eq, show (dats m 0 c).Φ 0 = between m c 0 from rfl]; unfold between
  iintro ⟨⟨⟨%f1, H1⟩, ⟨%f2, H2⟩⟩, Hg, ⟨Hc0, Hc1⟩, HP⟩
  ihave HP := (pointsTo_share (PosShare.mem_left_op_right fullShare)).1 $$ HP
  icases HP with ⟨HP, HP'⟩
  iexists f1, f2
  isplitr; · ipureintro; exact fun h => absurd rfl h
  isplitr [Hg]
  · isplitl [HP]; · iexact HP
    isplitl [HP']; · iexact HP'
    isplitl [H1]; · iexact H1
    isplitl [H2]; · iexact H2
    isplitl [Hc0]; · iexact Hc0
    iexact Hc1
  iexact Hg

theorem leave (c : Dev nD) : (dats m 0 c).Φ (Fin.last cfg0.N) ⊢ (Pipeline.ΦD osem0 spec0 H0 (V m) c : sProp 𝕄) := by
  rw [rest_eq, show (dats m 0 c).Φ (Fin.last cfg0.N) = between m c (Fin.last cfg0.N) from rfl]; unfold between
  iintro ⟨%f1, %f2, -, ⟨HP, HP', H1, H2, Hc0, Hc1⟩, Hg⟩
  isplitl [H1 H2]
  · isplitl [H1]; · iexists f1; iexact H1
    iexists f2; iexact H2
  isplitl [Hg]; · iexact Hg
  isplitl [Hc0 Hc1]
  · isplitl [Hc0]; · iexact Hc0
    iexact Hc1
  iapply (pointsTo_share (PosShare.mem_left_op_right fullShare)).2
  isplitl [HP]; · iexact HP
  iexact HP'

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := host_lines m Variants.none) (hA := A_eq m)
    (hin := fun c => enter m c) (hout := fun c => leave m c)

/-- The arguments end as they were. -/
theorem args_kept (r : PUnit × MemSt nD τ sig (Elt F)) (h : Pipeline.FramePost cfgs (dats m) 0 (V m) r ∧ r.2.sem = fun _ => 0) (c : Dev nD) :
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) :=
  ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 5).trans (((dats m 0 c).arrAt_in 5 rfl _).trans ((A_eq m c 5).trans (V_main_arg5 m c))),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩

/-- THE FRAME, at any floats: it ends without a fault, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8))
      ∧ r.2.sem = fun _ => 0) :=
  (θ_run defs _ _).mono (fun r h => ⟨args_kept m r h, h.2⟩) (run_main m ρ)

end Cert.MlpFrame

end
-- ==== Proof.MlpSpec.lean ====
/- The feed-forward half of a layer, the loss of a row block and their gradients as plain functions of rows and
   columns over the extended reals, and the two identities between the forms a program may take: the gradient of a
   root-mean-square norm, and the mean of squares. -/
module

public import proofs.«01_k».proof.Proof.Reals

@[expose] public section

set_option maxRecDepth 16384

noncomputable section

namespace Cert.MlpSpec

open Idealize.ShloMosaic Idealize.ShloMosaic.ValueIdx Cert.Reals
open scoped BigOperators

/-! ## Literals -/

theorem bits_1024 : Ideal.ofBits .f32 0x44800000#32 = ((1024 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-1 / 2 : ℝ) : EReal) := by
  simp [Ideal.ofBits, Ideal.ieee, -EReal.coe_mul]; norm_num
theorem bits_inv_1024 : Ideal.ofBits .f32 0x3A800000#32 = ((1 / 1024 : ℝ) : EReal) := by
  simp [Ideal.ofBits, Ideal.ieee, -EReal.coe_mul]; norm_num
theorem bits_inv_2048 : Ideal.ofBits .f32 0x3A000000#32 = ((1 / 2048 : ℝ) : EReal) := by
  simp [Ideal.ofBits, Ideal.ieee, -EReal.coe_mul]; norm_num
/-- The norms' ε. -/
def eps : EReal := Ideal.ofBits .f32 0x358637BD#32
theorem eps_pos : ∃ e : ℝ, 0 < e ∧ eps = (e : EReal) := by
  refine ⟨_, ?_, by unfold eps; simp only [Ideal.ofBits, Ideal.ieee]; rw [if_neg (by decide), if_neg (by decide)]⟩
  simp

/-! ## The functions -/

/-- What the two programs read: the layer's input, the mixer's output and the target by row and column; the modulation's
    rows with the layer's own table added; the two norms' gains; the two weights, input index first. -/
structure Args where
  x : Fin 2048 → Fin 1024 → EReal
  mixed : Fin 2048 → Fin 1024 → EReal
  tgt : Fin 2048 → Fin 1024 → EReal
  md : Fin 6 → Fin 1024 → EReal
  g2 : Fin 1024 → EReal
  gf : Fin 1024 → EReal
  w1 : Fin 1024 → Fin 4096 → EReal
  w2 : Fin 4096 → Fin 1024 → EReal

/-- The reciprocal root mean square of a row, and the mean square under the root. -/
def ms (v : Fin 1024 → EReal) : EReal := Ideal.div (∑ k, v k * v k) ((1024 : ℝ) : EReal) + eps
def rs (v : Fin 1024 → EReal) : EReal := Ideal.rsqrt (ms v)

namespace Args
variable (A : Args)

def x1 (s : Fin 2048) (j : Fin 1024) : EReal := A.x s j + A.md 2 j * A.mixed s j
def h (s : Fin 2048) (j : Fin 1024) : EReal := A.x1 s j * rs (A.x1 s) * A.g2 j * (((1 : ℝ) : EReal) + A.md 4 j) + A.md 3 j
def f (s : Fin 2048) (k : Fin 4096) : EReal := ∑ j, A.h s j * A.w1 j k
def act (s : Fin 2048) (k : Fin 4096) : EReal := max (A.f s k) 0 * max (A.f s k) 0
def z (s : Fin 2048) (j : Fin 1024) : EReal := ∑ k, A.act s k * A.w2 k j
def x2 (s : Fin 2048) (j : Fin 1024) : EReal := A.x1 s j + A.md 5 j * A.z s j
def n (s : Fin 2048) (j : Fin 1024) : EReal := A.x2 s j * rs (A.x2 s)
def err (s : Fin 2048) (j : Fin 1024) : EReal := A.n s j * A.gf j - A.tgt s j
/-- The loss's derivative by the final norm's output, and that times the final norm's gain. -/
def d (s : Fin 2048) (j : Fin 1024) : EReal := A.err s j * ((1 / 1024 : ℝ) : EReal)
def a (s : Fin 2048) (j : Fin 1024) : EReal := A.d s j * A.gf j
/-- The norm's gradient in the form that subtracts the projection on the normed row. -/
def dx2 (s : Fin 2048) (j : Fin 1024) : EReal :=
  rs (A.x2 s) * (A.a s j - A.n s j * Ideal.div (∑ k, A.a s k * A.n s k) ((1024 : ℝ) : EReal))
def dz (s : Fin 2048) (j : Fin 1024) : EReal := A.md 5 j * A.dx2 s j
def sq (s : Fin 2048) : EReal := ∑ j, A.err s j * A.err s j

/-- The two summed rows of gradients, by the gate of the second residual and by the final norm's gain, above six rows of
    zeros; and the loss. -/
def vec (r : Fin 8) (j : Fin 1024) : EReal :=
  if r.val = 0 then ∑ s, A.dx2 s j * A.z s j else if r.val = 1 then ∑ s, A.d s j * A.n s j else 0
def loss : EReal := ∑ s, A.sq s * ((1 / 2048 : ℝ) : EReal)

/-- Every entry is a real. -/
structure Real : Prop where
  x : ∀ s j, IsReal (A.x s j)
  mixed : ∀ s j, IsReal (A.mixed s j)
  tgt : ∀ s j, IsReal (A.tgt s j)
  md : ∀ s j, IsReal (A.md s j)
  g2 : ∀ j, IsReal (A.g2 j)
  gf : ∀ j, IsReal (A.gf j)
  w1 : ∀ s j, IsReal (A.w1 s j)
  w2 : ∀ s j, IsReal (A.w2 s j)
end Args

/-! ## Reals -/

theorem isReal_max {x y : EReal} (hx : IsReal x) (hy : IsReal y) : IsReal (max x y) := by
  rcases max_choice x y with h | h <;> rw [h] <;> assumption

/-- The mean square with ε of a row of reals is a positive real. -/
theorem ms_pos (v : Fin 1024 → EReal) (hv : ∀ k, IsReal (v k)) : ∃ q : ℝ, 0 < q ∧ ms v = (q : EReal) := by
  choose w hw using hv
  obtain ⟨e, he, hE⟩ := eps_pos
  refine ⟨(∑ k, w k * w k) * (1 / 1024) + e, ?_, ?_⟩
  · have : 0 ≤ ∑ k, w k * w k := Finset.sum_nonneg fun k _ => mul_self_nonneg _
    positivity
  · unfold ms
    rw [hE, Ideal.div_coe (by norm_num : (1024 : ℝ) ≠ 0), EReal.coe_add, EReal.coe_mul, ← coe_sum]
    simp only [hw, EReal.coe_mul]

/-- So its reciprocal root is a real whose square is the mean square's inverse. -/
theorem rs_real (v : Fin 1024 → EReal) (hv : ∀ k, IsReal (v k)) :
    ∃ q r : ℝ, 0 < q ∧ ms v = (q : EReal) ∧ rs v = (r : EReal) ∧ r * r = q⁻¹ := by
  obtain ⟨q, hq, hm⟩ := ms_pos v hv
  refine ⟨q, (Real.sqrt q)⁻¹, hq, hm, ?_, ?_⟩
  · unfold rs
    rw [hm, Ideal.rsqrt_coe, if_neg (not_lt.2 hq.le), if_neg hq.ne']
  · rw [← mul_inv, Real.mul_self_sqrt hq.le]

theorem rs_isReal (v : Fin 1024 → EReal) (hv : ∀ k, IsReal (v k)) : IsReal (rs v) := by
  obtain ⟨_, r, _, _, h, _⟩ := rs_real v hv
  exact ⟨r, h⟩

namespace Args
variable {A : Args} (R : A.Real)
include R

theorem x1_real (s j) : IsReal (A.x1 s j) := (R.x s j).add ((R.md 2 j).mul (R.mixed s j))
theorem h_real (s j) : IsReal (A.h s j) :=
  (((((x1_real R s j).mul (rs_isReal _ (x1_real R s))).mul (R.g2 j)).mul ((IsReal.coe 1).add (R.md 4 j)))).add (R.md 3 j)
theorem f_real (s k) : IsReal (A.f s k) := IsReal.sum _ _ fun j _ => (h_real R s j).mul (R.w1 j k)
theorem act_real (s k) : IsReal (A.act s k) :=
  (isReal_max (f_real R s k) .zero).mul (isReal_max (f_real R s k) .zero)
theorem z_real (s j) : IsReal (A.z s j) := IsReal.sum _ _ fun k _ => (act_real R s k).mul (R.w2 k j)
theorem x2_real (s j) : IsReal (A.x2 s j) := (x1_real R s j).add ((R.md 5 j).mul (z_real R s j))
theorem n_real (s j) : IsReal (A.n s j) := (x2_real R s j).mul (rs_isReal _ (x2_real R s))
theorem err_real (s j) : IsReal (A.err s j) := ((n_real R s j).mul (R.gf j)).sub (R.tgt s j)
theorem d_real (s j) : IsReal (A.d s j) := (err_real R s j).mul (.coe _)
theorem a_real (s j) : IsReal (A.a s j) := (d_real R s j).mul (R.gf j)
theorem sq_real (s) : IsReal (A.sq s) := IsReal.sum _ _ fun j _ => (err_real R s j).mul (err_real R s j)

/-- The norm's gradient as the product and quotient rules give it: the row's own term, and twice the row times the
    derivative by the mean square. -/
theorem dx2_eq (s j) :
    A.a s j * rs (A.x2 s)
        + A.x2 s j * Ideal.div ((∑ k, A.x2 s k * A.a s k) * (((-1 / 2 : ℝ) : EReal) * Ideal.div (rs (A.x2 s)) (ms (A.x2 s)))) ((1024 : ℝ) : EReal)
        + Ideal.div ((∑ k, A.x2 s k * A.a s k) * (((-1 / 2 : ℝ) : EReal) * Ideal.div (rs (A.x2 s)) (ms (A.x2 s)))) ((1024 : ℝ) : EReal) * A.x2 s j
      = A.dx2 s j := by
  obtain ⟨q, r, hq, hm, hr, hrr⟩ := rs_real _ (x2_real R s)
  choose x hx using x2_real R s
  choose y hy using a_real R s
  unfold dx2 n
  rw [hm, hr]
  simp only [hx, hy, Ideal.div_coe hq.ne', Ideal.div_coe (by norm_num : (1024 : ℝ) ≠ 0), ← EReal.coe_mul, coe_sum, ← EReal.coe_add, ← EReal.coe_sub]
  congr 1
  have e : ∑ k, y k * (x k * r) = (∑ k, x k * y k) * r := by
    rw [Finset.sum_mul]; exact Finset.sum_congr rfl fun k _ => by ring
  rw [e, one_div q, ← hrr]
  ring

omit R in
/-- The loss's derivative as the chain rule gives it. -/
theorem d_eq (s j) :
    Ideal.div (((1 / 2 : ℝ) : EReal) * ((1 : ℝ) : EReal)) ((1024 : ℝ) : EReal) * (((2 : ℝ) : EReal) * A.err s j) = A.d s j := by
  unfold d
  rw [Ideal.div_coe (by norm_num), ← EReal.coe_mul, ← EReal.coe_mul, ← mul_assoc, ← EReal.coe_mul, mul_comm]
  norm_num

/-- Half the sum of the rows' mean squares is the sum of all squares by twice the number of columns. -/
theorem loss_eq : ((1 / 2 : ℝ) : EReal) * (∑ s, Ideal.div (A.sq s) ((1024 : ℝ) : EReal)) = ∑ s, A.sq s * ((1 / 2048 : ℝ) : EReal) := by
  choose e he using sq_real R
  simp only [he, Ideal.div_coe (by norm_num : (1024 : ℝ) ≠ 0), ← EReal.coe_mul, coe_sum]
  congr 1
  rw [Finset.mul_sum]
  exact Finset.sum_congr rfl fun k _ => by ring
end Args

end Cert.MlpSpec

end
-- ==== Proof.MlpBlock.lean ====
/- One block of rows of the kernel `_mlp_fwd` read at an index: what the body computes from the rows it reads is the
   function of rows and columns that `MlpSpec` names. -/
module

public import proofs.«01_k».proof.Proof.MlpSpec
public import proofs.«01_k».proof.Proof.MlpRun
public import Idealize.ShloMosaic.Lib.ValueLayoutCasts

@[expose] public section

set_option maxRecDepth 16384

noncomputable section

namespace Cert.MlpBlock

open Idealize.ShloMosaic Idealize.ShloMosaic.ValueIdx Idealize.ShloMosaic.TcCoe Cert.Reals Cert.MlpSpec
open Cert.MlpIdeal Cert.MlpIdeal.Gen Cert.MlpRun
open scoped BigOperators

/-! ## Operations read at an index -/

theorem zz : (![0, 0] : Fin 2 → Nat) = fun _ => 0 := by funext a; match a with | ⟨0, _⟩ => rfl | ⟨1, _⟩ => rfl

/-- The sum of each row, and of each column, of a block. -/
theorem row_sum (X : FVec Ideal S256x1024 .f32) (r : Fin 256) (u : Fin 1) :
    shapeCast S256x1 (multiReduction .add [1] S256 X 0x00000000#32 reduces_S256x1024_S256 (.inl rfl) rfl) shapeCasts_S256_S256x1 (ix2 r u)
      = ∑ k : Fin 1024, X (ix2 r k) := by
  rw [shapeCast_a_a1_apply]
  refine (Ideal.multiReduction_add_single _ _ _ _ _ _).trans ?_
  refine Finset.sum_congr rfl fun k _ => congrArg X (funext fun a => Fin.ext ?_)
  match a with
  | ⟨0, _⟩ => rfl
  | ⟨1, _⟩ => rfl

theorem col_sum (X : FVec Ideal S256x1024 .f32) (u : Fin 1) (j : Fin 1024) :
    shapeCast S1x1024 (multiReduction .add [0] S1024 X 0x00000000#32 reduces_S256x1024_S1024 (.inl rfl) rfl) shapeCasts_S1024_S1x1024 (ix2 u j)
      = ∑ r : Fin 256, X (ix2 r j) := by
  obtain rfl : u = 0 := Fin.ext (by omega)
  rw [shapeCast_a_1a_apply]
  refine (Ideal.multiReduction_add_single _ _ _ _ _ _).trans ?_
  refine Finset.sum_congr rfl fun k _ => congrArg X (funext fun a => Fin.ext ?_)
  match a with
  | ⟨0, _⟩ => rfl
  | ⟨1, _⟩ => rfl

/-- A row summed to one element. -/
theorem one_sum (X : FVec Ideal S1x1024 .f32) (u v : Fin 1) :
    shapeCast S1x1 (multiReduction .add [1] S1 X 0x00000000#32 reduces_S1x1024_S1 (.inl rfl) rfl) shapeCasts_S1_S1x1 (ix2 u v)
      = ∑ k : Fin 1024, X (ix2 0 k) := by
  obtain rfl : u = 0 := Fin.ext (by omega)
  rw [shapeCast_a_a1_apply]
  refine (Ideal.multiReduction_add_single _ _ _ _ _ _).trans ?_
  refine Finset.sum_congr rfl fun k _ => congrArg X (funext fun a => Fin.ext ?_)
  match a with
  | ⟨0, _⟩ => rfl
  | ⟨1, _⟩ => rfl

/-- A column broadcast over the columns of a block. -/
theorem bcol (X : FVec Ideal S256x1 .f32) (r : Fin 256) (j : Fin 1024) :
    broadcastTo S256x1024 X broadcasts_S256x1_S256x1024 (ix2 r j) = X (ix2 r 0) :=
  broadcastTo_apply X _ _ _ fun a => match a with | ⟨0, _⟩ => rfl | ⟨1, _⟩ => rfl

/-- A row broadcast over the rows of a block. -/
theorem brow (X : FVec Ideal S1x1024 .f32) (r : Fin 256) (j : Fin 1024) :
    broadcastTo S256x1024 X broadcasts_S1x1024_S256x1024 (ix2 r j) = X (ix2 0 j) :=
  broadcastTo_1b_ab_apply (a := 256) (b := 1024) X _ r j

/-- A block of the hidden layer, and a block's part of the output. -/
theorem dot1 (H : FVec Ideal S256x1024 .bf16) (U : FVec Ideal S512x1024 .bf16) (r : Fin 256) (q : Fin 512) :
    matmul dot_S256x1024_S512x1024_S256x512_1_1_0_0_n_n none H U (constant (F := Ideal) S256x512 .f32 0x00000000#32) (ix2 r q)
      = ∑ j : Fin 1024, H (ix2 r j) * U (ix2 q j) := by
  refine Eq.trans (Ideal.matmul_transposedRhs_apply (M := 256) (K := 1024) (N := 512) none H U (constant (F := Ideal) S256x512 .f32 0x00000000#32) r q) ?_
  rw [constant_apply, ofBits_zero, zero_add]
theorem dot2 (G : FVec Ideal S256x512 .bf16) (V : FVec Ideal S512x1024 .bf16) (r : Fin 256) (j : Fin 1024) :
    matmul dot_S256x512_S512x1024_S256x1024_1_0_0_1_n_n none G V (constant (F := Ideal) S256x1024 .f32 0x00000000#32) (ix2 r j)
      = ∑ q : Fin 512, G (ix2 r q) * V (ix2 q j) := by
  refine Eq.trans (Ideal.matmul_plain_apply (M := 256) (K := 512) (N := 1024) none G V (constant (F := Ideal) S256x1024 .f32 0x00000000#32) r j) ?_
  rw [constant_apply, ofBits_zero, zero_add]

/-- The mean square with ε of each row. -/
theorem ms_row (X : FVec Ideal S256x1024 .f32) (r : Fin 256) (u : Fin 1) :
    addf (divf (shapeCast S256x1 (multiReduction .add [1] S256 (mulf X X) 0x00000000#32 reduces_S256x1024_S256 (.inl rfl) rfl) shapeCasts_S256_S256x1)
      (broadcast S256x1 (Scalar.ofBits (F := Ideal) .f32 0x44800000#32))) (broadcast S256x1 (Scalar.ofBits (F := Ideal) .f32 0x358637BD#32)) (ix2 r u)
      = ms fun k => X (ix2 r k) := by
  rw [addf_apply, divf_apply, row_sum]
  show Ideal.div _ (Ideal.ofBits .f32 0x44800000#32) + Ideal.ofBits .f32 0x358637BD#32 = _
  rw [bits_1024]
  rfl

/-- A row of the 4096 hidden columns, summed block by block. -/
theorem sum_blocks (g : Fin 4096 → EReal) : ∑ k, g k = ∑ b : Fin 8, ∑ q : Fin 512, g ⟨512 * b.val + q.val, by omega⟩ := by
  rw [← Finset.sum_product']
  symm
  refine Fintype.sum_equiv (ι := Fin 8 × Fin 512) (κ := Fin 4096) ⟨fun p => ⟨512 * p.1.val + p.2.val, by omega⟩,
    fun k => (⟨k.val / 512, by omega⟩, ⟨k.val % 512, by omega⟩), fun p => Prod.ext (Fin.ext (by show (512 * p.1.val + p.2.val) / 512 = p.1.val; omega))
      (Fin.ext (by show (512 * p.1.val + p.2.val) % 512 = p.2.val; omega)), fun k => Fin.ext (by show 512 * (k.val / 512) + k.val % 512 = k.val; omega)⟩
    _ _ fun p => rfl

/-- A row put into the block of eight rows, read inside and outside it. -/
theorem put_in (X : Vec Ideal S8x1024 .f32) {off : Fin 2 → ℕ} (w : FVec Ideal S1x1024 .f32) {i : S8x1024.Idx} (x : S1x1024.Idx)
    (h : ∀ a : Fin 2, (i a).val = off a + (x a).val) : VecWindow.put (s := S8x1024) X off S1x1024.size w i = w x := by
  have hx : ∀ a : Fin 2, off a ≤ (i a).val ∧ (i a).val < off a + S1x1024.size a := fun a => by
    have := h a
    have := (x a).isLt
    omega
  refine (dif_pos hx).trans (congrArg w (funext fun a => Fin.ext ?_))
  show (i a).val - off a = (x a).val
  rw [h a]; omega

theorem put_out (X : Vec Ideal S8x1024 .f32) (off : Fin 2 → ℕ) (size : Fin 2 → ℕ) (w : ((a : Fin 2) → Fin (size a)) → Elt Ideal .f32) {i : S8x1024.Idx} (a : Fin 2)
    (h : (i a).val < off a ∨ off a + size a ≤ (i a).val) : VecWindow.put (s := S8x1024) X off size w i = X i :=
  dif_neg fun hx => by have := hx a; omega

/-! ## The block -/

/-- The block's operands are the rows `ρ r` of the arguments. -/
structure Matches (B : Ins Ideal) (A : Args) (ρ : Fin 256 → Fin 2048) : Prop where
  x : ∀ (r : Fin 256) (j : Fin 1024), B.x (ix2 r j) = A.x (ρ r) j
  mixed : ∀ (r : Fin 256) (j : Fin 1024), B.mixed (ix2 r j) = A.mixed (ρ r) j
  tgt : ∀ (r : Fin 256) (j : Fin 1024), B.tgt (ix2 r j) = A.tgt (ρ r) j
  md : ∀ (k : Fin 6) (j : Fin 1024), B.mod (ix2 ⟨k.val, by omega⟩ j) + B.ada (ix2 ⟨k.val, by omega⟩ j) = A.md k j
  g2 : ∀ j : Fin 1024, B.g2 (ix2 0 j) = A.g2 j
  gf : ∀ j : Fin 1024, B.gf (ix2 0 j) = A.gf j
  w1 : ∀ (k : Fin 4096) (j : Fin 1024), B.w1 (ix2 k j) = A.w1 j k
  w2 : ∀ (k : Fin 4096) (j : Fin 1024), B.w2 (ix2 k j) = A.w2 k j

variable {B : Ins Ideal} {A : Args} {ρ : Fin 256 → Fin 2048} (M : Matches B A ρ)
include M

theorem md_row (o : ℕ) (ho : o < 6) (h) (u : Fin 1) (j : Fin 1024) :
    extractStridedSlice S1x1024 ![o, 0] (k0_pay6 (View.ld B.mod rM) (View.ld B.ada rM)) h (ix2 u j) = A.md ⟨o, ho⟩ j := by
  rw [slice2_axis0_apply o _ h u j ⟨o, by omega⟩ (by show o = o + u.val; omega), View.ld_unit_zero zz, View.ld_unit_zero zz]
  unfold k0_pay6
  simp only [shapeCast_self]
  exact M.md ⟨o, ho⟩ j

theorem gate2_apply (u : Fin 1) (j : Fin 1024) : B.gate2 (ix2 u j) = A.md 5 j := by
  unfold Ins.gate2 k0_pay7
  exact md_row M 5 (by decide) _ u j

theorem x1_apply (r : Fin 256) (j : Fin 1024) : B.x1 (ix2 r j) = A.x1 (ρ r) j := by
  unfold Ins.x1 k0_pay8
  simp only [shapeCast_self]
  rw [addf_apply, mulf_apply, brow, md_row M 2 (by decide), View.ld_unit_zero zz, View.ld_unit_zero zz, M.x, M.mixed]
  rfl

/-- The norm before rounding. -/
theorem norm_apply (r : Fin 256) (j : Fin 1024) :
    k0_pay9 (View.ld B.mod rM) (View.ld B.ada rM) (View.ld B.x rX) (View.ld B.mixed rX) (View.ld B.g2 rG) (ix2 r j) = A.h (ρ r) j := by
  have e : ∀ k, k0_pay8 (View.ld B.mod rM) (View.ld B.ada rM) (View.ld B.x rX) (View.ld B.mixed rX) (ix2 r k) = A.x1 (ρ r) k := x1_apply M r
  unfold k0_pay9
  simp only []
  rw [addf_apply, mulf_apply, mulf_apply, mulf_apply, brow, brow, brow, bcol, md_row M 3 (by decide), addf_apply, md_row M 4 (by decide), View.ld_unit_zero zz (X := B.g2), M.g2]
  refine (congrArg₂ (fun a q => a * Ideal.rsqrt q * A.g2 j * (Ideal.ofBits .f32 0x3F800000#32 + A.md 4 j) + A.md 3 j) (e j)
    (ms_row (k0_pay8 (View.ld B.mod rM) (View.ld B.ada rM) (View.ld B.x rX) (View.ld B.mixed rX)) r 0)).trans ?_
  rw [bits_one]
  simp only [e]
  rfl

theorem h_apply (r : Fin 256) (j : Fin 1024) : B.h (ix2 r j) = A.h (ρ r) j := norm_apply M r j

theorem hT_apply (j : Fin 1024) (r : Fin 256) : B.hT (ix2 j r) = A.h (ρ r) j := by
  unfold Ins.hT k0_pay11
  simp only []
  rw [truncf_apply]
  refine (transpose_ix2_apply (a := 256) (b := 1024) _ _ j r).trans ?_
  exact norm_apply M r j

theorem u_apply (b : Fin 8) (q : Fin 512) (j : Fin 1024) : B.u b (ix2 q j) = A.w1 j ⟨512 * b.val + q.val, by omega⟩ := by
  refine Eq.trans (congrArg B.w1 (funext fun a => Fin.ext ?_)) (M.w1 ⟨512 * b.val + q.val, by omega⟩ j)
  match a with
  | ⟨0, _⟩ => show 512 * b.val + 1 * q.val = 512 * b.val + q.val; omega
  | ⟨1, _⟩ => show 0 + 1 * j.val = j.val; omega
theorem v_apply (b : Fin 8) (q : Fin 512) (j : Fin 1024) : B.v b (ix2 q j) = A.w2 ⟨512 * b.val + q.val, by omega⟩ j := by
  refine Eq.trans (congrArg B.w2 (funext fun a => Fin.ext ?_)) (M.w2 ⟨512 * b.val + q.val, by omega⟩ j)
  match a with
  | ⟨0, _⟩ => show 512 * b.val + 1 * q.val = 512 * b.val + q.val; omega
  | ⟨1, _⟩ => show 0 + 1 * j.val = j.val; omega

/-- A block of the hidden layer. -/
theorem hid (b : Fin 8) (r : Fin 256) (q : Fin 512) :
    matmul (φ₂ := .bf16) dot_S256x1024_S512x1024_S256x512_1_1_0_0_n_n none B.h (B.u b) (constant (F := Ideal) S256x512 .f32 0x00000000#32) (ix2 r q)
      = A.f (ρ r) ⟨512 * b.val + q.val, by omega⟩ := by
  rw [dot1]
  exact Finset.sum_congr rfl fun j _ => by rw [h_apply M, u_apply M]

/-- What a block of the hidden layer adds to the output. -/
theorem part (b : Fin 8) (r : Fin 256) (j : Fin 1024) :
    matmul (φ₂ := .bf16) dot_S256x512_S512x1024_S256x1024_1_0_0_1_n_n none
      (truncf .bf16 (mulf
        (maximumf (matmul (φ₂ := .bf16) dot_S256x1024_S512x1024_S256x512_1_1_0_0_n_n none B.h (B.u b) (constant (F := Ideal) S256x512 .f32 0x00000000#32))
          (broadcast S256x512 (Scalar.ofBits (F := Ideal) .f32 0x00000000#32)))
        (maximumf (matmul (φ₂ := .bf16) dot_S256x1024_S512x1024_S256x512_1_1_0_0_n_n none B.h (B.u b) (constant (F := Ideal) S256x512 .f32 0x00000000#32))
          (broadcast S256x512 (Scalar.ofBits (F := Ideal) .f32 0x00000000#32)))) bitsLt_bf16_f32)
      (B.v b) (constant (F := Ideal) S256x1024 .f32 0x00000000#32) (ix2 r j)
      = ∑ q : Fin 512, A.act (ρ r) ⟨512 * b.val + q.val, by omega⟩ * A.w2 ⟨512 * b.val + q.val, by omega⟩ j := by
  rw [dot2]
  refine Finset.sum_congr rfl fun q _ => ?_
  rw [v_apply M, truncf_apply, mulf_apply, maximumf_apply, hid M]
  show max _ (Ideal.ofBits .f32 0x00000000#32) * max _ (Ideal.ofBits .f32 0x00000000#32) * _ = _
  rw [ofBits_zero]
  rfl

theorem z_apply (r : Fin 256) (j : Fin 1024) : B.z (ix2 r j) = A.z (ρ r) j := by
  unfold Args.z
  rw [sum_blocks, Fin.sum_univ_eight]
  unfold Ins.z Ins.z5 Ins.z2 Ins.s2 Ins.s5 k0_pay24 k0_pay19 k0_pay14 k0_pay16 k0_pay21 k0_pay12 k0_pay13 k0_pay15 k0_pay17 k0_pay18
    k0_pay20 k0_pay22 k0_pay23
  simp only [addf_apply]
  rw [part M 0, part M 1, part M 2, part M 3, part M 4, part M 5, part M 6, part M 7]
  show Ideal.ofBits .f32 0x00000000#32 + _ + _ + _ + _ + _ + _ + _ + _ = _
  rw [ofBits_zero, zero_add]

theorem f_apply (r : Fin 256) (k : Fin 4096) : B.f (ix2 r k) = A.f (ρ r) k := by
  have tile : ∀ (b : Fin 8) (P : FVec Ideal S256x512 .f32), (∀ (r : Fin 256) (q : Fin 512), P (ix2 r q) = A.f (ρ r) ⟨512 * b.val + q.val, by omega⟩) →
      ∀ y : S256x4096.Idx, ∀ x : S256x512.Idx, (y 0).val = 0 + (x 0).val → (y 1).val = 512 * b.val + (x 1).val →
        P x = A.f (ρ (y 0)) (y 1) := by
    intro b P hP y x h0 h1
    rw [eq_ix2 x]
    refine (hP (x 0) (x 1)).trans ?_
    refine congrArg₂ A.f (congrArg ρ (Fin.ext ?_)) (Fin.ext h1.symm)
    show (x 0).val = (y 0).val
    omega
  refine congrFun (a := ix2 r k) (?_ : B.f = fun y => A.f (ρ (y 0)) (y 1))
  unfold Ins.f
  funext y
  refine View.canon_eq_of_allAt _ y _ (View.cover_of_tiled _ ![256, 512] (by rfl) y) ?_
  refine View.allAt_cons_unit _ _ _ _ _ (fun x hx => tile 7 _ (by intro r q; unfold k0_pay23; exact hid M 7 r q) y x (hx 0) (hx 1)) ?_
  refine View.allAt_cons_unit _ _ _ _ _ (fun x hx => tile 6 _ (by intro r q; unfold k0_pay22; exact hid M 6 r q) y x (hx 0) (hx 1)) ?_
  refine View.allAt_cons_unit _ _ _ _ _ (fun x hx => tile 5 _ (by intro r q; unfold k0_pay20; exact hid M 5 r q) y x (hx 0) (hx 1)) ?_
  refine View.allAt_cons_unit _ _ _ _ _ (fun x hx => tile 4 _ (by intro r q; unfold k0_pay18; exact hid M 4 r q) y x (hx 0) (hx 1)) ?_
  refine View.allAt_cons_unit _ _ _ _ _ (fun x hx => tile 3 _ (by intro r q; unfold k0_pay17; exact hid M 3 r q) y x (hx 0) (hx 1)) ?_
  refine View.allAt_cons_unit _ _ _ _ _ (fun x hx => tile 2 _ (by intro r q; unfold k0_pay15; exact hid M 2 r q) y x (hx 0) (hx 1)) ?_
  refine View.allAt_cons_unit _ _ _ _ _ (fun x hx => tile 1 _ (by intro r q; unfold k0_pay13; exact hid M 1 r q) y x (hx 0) (hx 1)) ?_
  refine View.allAt_cons_unit _ _ _ _ _ (fun x hx => tile 0 _ (by intro r q; unfold k0_pay12; exact hid M 0 r q) y x (hx 0) (hx 1)) ?_
  exact View.allAt_nil _ _

theorem x2_apply (r : Fin 256) (j : Fin 1024) : B.x2 (ix2 r j) = A.x2 (ρ r) j := by
  have e : k0_pay24 B.h B.z5 B.s5 (B.v 5) (B.u 6) (B.v 6) (B.u 7) (B.v 7) (ix2 r j) = A.z (ρ r) j := z_apply M r j
  unfold Ins.x2 k0_pay25
  rw [addf_apply, mulf_apply, brow, e, x1_apply M, gate2_apply M]
  rfl

theorem r2_apply (r : Fin 256) (u : Fin 1) : B.r2 (ix2 r u) = rs (A.x2 (ρ r)) := by
  unfold Ins.r2 k0_pay26
  refine (congrArg Ideal.rsqrt (ms_row B.x2 r u)).trans ?_
  simp only [x2_apply M]
  rfl

theorem s_apply (r : Fin 256) (j : Fin 1024) : B.s (ix2 r j) = rs (A.x2 (ρ r)) := by
  unfold Ins.s k0_pay27
  rw [bcol]
  exact r2_apply M r 0

theorem n_apply (r : Fin 256) (j : Fin 1024) : k0_pay28 B.x2 B.s (ix2 r j) = A.n (ρ r) j := by
  unfold k0_pay28
  rw [mulf_apply, x2_apply M, s_apply M]
  rfl

theorem err_apply (r : Fin 256) (j : Fin 1024) : k0_pay29 B.x2 B.s (View.ld B.gf rG) (View.ld B.tgt rX) (ix2 r j) = A.err (ρ r) j := by
  unfold k0_pay29
  simp only [shapeCast_self]
  rw [subf_apply, mulf_apply, brow, n_apply M, View.ld_unit_zero zz, View.ld_unit_zero zz, M.gf, M.tgt]
  rfl

theorem d_apply (r : Fin 256) (j : Fin 1024) : k0_pay31 B.x2 B.s (View.ld B.gf rG) (View.ld B.tgt rX) (ix2 r j) = A.d (ρ r) j := by
  unfold k0_pay31
  rw [mulf_apply, err_apply M]
  show _ * Ideal.ofBits .f32 0x3A800000#32 = _
  rw [bits_inv_1024]
  rfl

theorem dx2_apply (r : Fin 256) (j : Fin 1024) : B.dx2 (ix2 r j) = A.dx2 (ρ r) j := by
  unfold Ins.dx2 k0_pay32
  simp only [shapeCast_self]
  have ed : ∀ k, k0_pay31 B.x2 B.s B.gf (View.ld B.tgt rX) (ix2 r k) = A.d (ρ r) k := fun k => by
    rw [← d_apply M, View.ld_unit_zero zz (X := B.gf)]
  rw [mulf_apply, bcol, r2_apply M, subf_apply, mulf_apply, mulf_apply, bcol, divf_apply, row_sum, d_apply M, n_apply M, brow,
    View.ld_unit_zero zz (X := B.gf), M.gf]
  simp only [mulf_apply, brow, ed, n_apply M, View.ld_unit_zero zz (X := B.gf), M.gf]
  show _ * (_ - _ * Ideal.div _ (Ideal.ofBits .f32 0x44800000#32)) = _
  rw [bits_1024]
  rfl

theorem dz_apply (r : Fin 256) (j : Fin 1024) : B.dz (ix2 r j) = A.dz (ρ r) j := by
  have e : k0_pay32 B.x2 B.r2 B.s (View.ld B.gf rG) (View.ld B.tgt rX) (View.ld B.gf rG) (ix2 r j) = A.dx2 (ρ r) j := dx2_apply M r j
  unfold Ins.dz k0_pay1 k0_pay33
  simp only []
  rw [truncf_apply, mulf_apply, brow, gate2_apply M, e]
  rfl

/-- The loss after the block. -/
theorem loss_apply (L : Vec Ideal S8x128 .f32) (i : Fin 8) (l : Fin 128) :
    B.loss L (ix2 i l) = L (ix2 i l) + (∑ j, ∑ r, A.err (ρ r) j * A.err (ρ r) j) * ((1 / 2048 : ℝ) : EReal) := by
  unfold Ins.loss k0_pay30
  simp only [shapeCast_self]
  have eL : View.ld L rL = L := View.ld_unit_zero (Val := Elt Ideal) (e := .f32) zz _ _
  rw [addf_apply, eL]
  refine congrArg (L (ix2 i l) + ·) ?_
  refine (broadcastTo_apply _ _ _ (ix2 (0 : Fin 1) (0 : Fin 1)) fun a => match a with | ⟨0, _⟩ => rfl | ⟨1, _⟩ => rfl).trans ?_
  refine (congrArg (· * Ideal.ofBits .f32 0x3A000000#32) ((one_sum _ 0 0).trans (Finset.sum_congr rfl fun j _ => col_sum _ 0 j))).trans ?_
  simp only [mulf_apply, err_apply M]
  rw [bits_inv_2048]

/-- The summed rows after the block. -/
theorem vec_apply (V : Vec Ideal S8x1024 .f32) (i : Fin 8) (j : Fin 1024) :
    B.vec V (ix2 i j) = V (ix2 i j) + (if i.val = 0 then ∑ r, A.dx2 (ρ r) j * A.z (ρ r) j
      else if i.val = 1 then ∑ r, A.d (ρ r) j * A.n (ρ r) j else 0) := by
  have e0 : ∀ u : Fin 1, k0_pay2 B.z B.dx2 (View.ld V rV0) (ix2 u j) = V (ix2 0 j) + ∑ r, A.dx2 (ρ r) j * A.z (ρ r) j := fun u => by
    unfold k0_pay2
    simp only [shapeCast_self]
    refine (congrArg₂ (· + ·) (?_ : View.ld V rV0 (ix2 u j) = V (ix2 0 j)) (col_sum _ u j)).trans ?_
    · refine congrArg V (funext fun a => Fin.ext ?_)
      match a with
      | ⟨0, _⟩ => show 0 + 1 * u.val = 0; omega
      | ⟨1, _⟩ => show 0 + 1 * j.val = j.val; omega
    · simp only [mulf_apply, dx2_apply M, z_apply M]
  have e1 : ∀ u : Fin 1, k0_pay3 (k0_pay28 B.x2 B.s) (k0_pay31 B.x2 B.s (View.ld B.gf rG) (View.ld B.tgt rX)) (View.ld V rV1) (ix2 u j)
      = V (ix2 1 j) + ∑ r, A.d (ρ r) j * A.n (ρ r) j := fun u => by
    unfold k0_pay3
    simp only [shapeCast_self]
    refine (congrArg₂ (· + ·) (?_ : View.ld V rV1 (ix2 u j) = V (ix2 1 j)) (col_sum _ u j)).trans ?_
    · refine congrArg V (funext fun a => Fin.ext ?_)
      match a with
      | ⟨0, _⟩ => show 1 + 1 * u.val = 1; omega
      | ⟨1, _⟩ => show 0 + 1 * j.val = j.val; omega
    · simp only [mulf_apply, d_apply M, n_apply M]
  have hj : j.val < 1024 := j.isLt
  unfold Ins.vec
  by_cases h0 : i.val = 0
  · rw [if_pos h0, put_out _ _ _ _ (i := ix2 i j) 0 (Or.inl (by show i.val < 1; omega)), put_in _ _ (i := ix2 i j) (ix2 0 j) (by
      intro a
      match a with
      | ⟨0, _⟩ => show i.val = 0 + 0; omega
      | ⟨1, _⟩ => show j.val = 0 + j.val; omega), e0]
    exact congrArg (fun q => V (ix2 q j) + _) (Fin.ext h0.symm)
  · rw [if_neg h0]
    by_cases h1 : i.val = 1
    · rw [if_pos h1, put_in _ _ (i := ix2 i j) (ix2 0 j) (by
        intro a
        match a with
        | ⟨0, _⟩ => show i.val = 1 + 0; omega
        | ⟨1, _⟩ => show j.val = 0 + j.val; omega), e1]
      exact congrArg (fun q => V (ix2 q j) + _) (Fin.ext h1.symm)
    · rw [if_neg h1, put_out _ _ _ _ (i := ix2 i j) 0 (Or.inr (by show 1 + 1 ≤ i.val; omega)),
        put_out _ _ _ _ (i := ix2 i j) 0 (Or.inr (by show 0 + 1 ≤ i.val; omega)), add_zero]

end Cert.MlpBlock

end
-- ==== Proof.MlpRef.lean ====
/- The reference of the feed-forward half of a layer, read at an index: each of its six results is the function of rows
   and columns that `MlpSpec` names. -/
module

public import proofs.«01_k».proof.Proof.MlpSpec
public import proofs.«01_k».proof.Proof.Gen.MlpRefIdeal.Run
public import proofs.«01_k».proof.Proof.Gen.MlpRefIdeal.Read

@[expose] public section

set_option maxRecDepth 16384

noncomputable section

namespace Cert.MlpRef

open Idealize.ShloMosaic Idealize.ShloMosaic.ValueIdx Idealize.ShloMosaic.TcCoe Cert.Reals Cert.MlpSpec
open Cert.MlpRefIdeal Cert.MlpRefIdeal.Gen Cert.MlpRefIdeal.Read
open scoped BigOperators

/-- A sum over axes of size one keeps the one element its result's index names. -/
theorem reduce_unit {s t u : Shape} {axes : List (Fin s.rank)} (x : FVec Ideal s .f32) (init : FVec Ideal u .f32) (h : s.ReducesTo axes t)
    (hu : 0 < u.numel) (j : t.Idx) (e : s.Idx) (he : h.drop e = j) (hj : ∀ i, h.drop i = j → i = e) :
    Host.reduceAdd x init h hu j = init (Shape.Idx.first hu) + x e := by
  simp only [Host.reduceAdd, Ideal.hostReduceAdd_def]
  unfold Ideal.hostReduceAdd
  refine congrArg (_ + ·) (Finset.sum_eq_single e (fun i hi hne => absurd (hj i (Finset.mem_filter.1 hi).2) hne) (fun hn => ?_))
  exact absurd (Finset.mem_filter.2 ⟨Finset.mem_univ e, he⟩) hn

variable (x0 x1 x2 : FVec Ideal S1x2048x1024 .f32) (x3 x4 : FVec Ideal S1x6144 .f32) (x5 : FVec Ideal S1x1024 .f32)
  (x6 : FVec Ideal S1x1024x4096 .f32) (x7 : FVec Ideal S1x4096x1024 .f32) (x8 : FVec Ideal S1024 .f32)

/-- The arguments by row and column. -/
def args : Args where
  x s j := x0 (ix3 0 s j)
  mixed s j := x1 (ix3 0 s j)
  tgt s j := x2 (ix3 0 s j)
  md k j := x3 (ix2 0 ⟨k.val * 1024 + j.val, by omega⟩) + x4 (ix2 0 ⟨k.val * 1024 + j.val, by omega⟩)
  g2 j := x5 (ix2 0 j)
  gf j := x8 (ix1 j)
  w1 i k := x6 (ix3 0 i k)
  w2 k j := x7 (ix3 0 k j)

local notation "𝔸" => args x0 x1 x2 x3 x4 x5 x6 x7 x8

/-- An index of an array whose first axis is a unit one. -/
theorem at3 {n1 n2 : Nat} (X : (⟨3, ![1, n1, n2]⟩ : Shape).Idx → EReal) (i : (⟨3, ![1, n1, n2]⟩ : Shape).Idx) : X i = X (ix3 0 (i 1) (i 2)) :=
  congrArg X (funext fun a => Fin.ext (by
    have h0 : (i 0).val < 1 := (i 0).isLt
    match a with
    | ⟨0, _⟩ => show (i 0).val = 0; omega
    | ⟨1, _⟩ => rfl
    | ⟨2, _⟩ => rfl))

theorem r6 (i : S1x1x1024.Idx) : val_main_v6 (F := Ideal) x3 x4 i = (𝔸).md 2 (i 2) := by
  have h2 : (i 2).val < 1024 := (i 2).isLt
  rw [val_main_v6_apply, val_main_v3_apply, val_main_v2_apply, val_main_v1_apply, val_main_v0_apply]
  refine congrArg₂ (· + ·) (congrArg x3 (funext fun a => Fin.ext ?_)) (congrArg x4 (funext fun a => Fin.ext ?_))
  · match a with
    | ⟨0, _⟩ => rfl
    | ⟨1, _⟩ => show 2048 + (i 2).val = 2 * 1024 + (i 2).val; omega
  · match a with
    | ⟨0, _⟩ => rfl
    | ⟨1, _⟩ => show (2048 + (i 2).val) % 6144 = 2 * 1024 + (i 2).val; omega

theorem r7 (i : S1x1x1024.Idx) : val_main_v7 (F := Ideal) x3 x4 i = (𝔸).md 3 (i 2) := by
  have h2 : (i 2).val < 1024 := (i 2).isLt
  rw [val_main_v7_apply, val_main_v3_apply, val_main_v2_apply, val_main_v1_apply, val_main_v0_apply]
  refine congrArg₂ (· + ·) (congrArg x3 (funext fun a => Fin.ext ?_)) (congrArg x4 (funext fun a => Fin.ext ?_))
  · match a with
    | ⟨0, _⟩ => rfl
    | ⟨1, _⟩ => show 3072 + (i 2).val = 3 * 1024 + (i 2).val; omega
  · match a with
    | ⟨0, _⟩ => rfl
    | ⟨1, _⟩ => show (3072 + (i 2).val) % 6144 = 3 * 1024 + (i 2).val; omega

theorem r8 (i : S1x1x1024.Idx) : val_main_v8 (F := Ideal) x3 x4 i = (𝔸).md 4 (i 2) := by
  have h2 : (i 2).val < 1024 := (i 2).isLt
  rw [val_main_v8_apply, val_main_v3_apply, val_main_v2_apply, val_main_v1_apply, val_main_v0_apply]
  refine congrArg₂ (· + ·) (congrArg x3 (funext fun a => Fin.ext ?_)) (congrArg x4 (funext fun a => Fin.ext ?_))
  · match a with
    | ⟨0, _⟩ => rfl
    | ⟨1, _⟩ => show 4096 + (i 2).val = 4 * 1024 + (i 2).val; omega
  · match a with
    | ⟨0, _⟩ => rfl
    | ⟨1, _⟩ => show (4096 + (i 2).val) % 6144 = 4 * 1024 + (i 2).val; omega

theorem r9 (i : S1x1x1024.Idx) : val_main_v9 (F := Ideal) x3 x4 i = (𝔸).md 5 (i 2) := by
  have h2 : (i 2).val < 1024 := (i 2).isLt
  rw [val_main_v9_apply, val_main_v3_apply, val_main_v2_apply, val_main_v1_apply, val_main_v0_apply]
  refine congrArg₂ (· + ·) (congrArg x3 (funext fun a => Fin.ext ?_)) (congrArg x4 (funext fun a => Fin.ext ?_))
  · match a with
    | ⟨0, _⟩ => rfl
    | ⟨1, _⟩ => show 5120 + (i 2).val = 5 * 1024 + (i 2).val; omega
  · match a with
    | ⟨0, _⟩ => rfl
    | ⟨1, _⟩ => show (5120 + (i 2).val) % 6144 = 5 * 1024 + (i 2).val; omega

theorem r12 (i : S1x2048x1024.Idx) : val_main_v12 (F := Ideal) x0 x1 x3 x4 i = (𝔸).x1 (i 1) (i 2) := by
  rw [val_main_v12_apply, val_main_v11_apply, val_main_v10_apply, r6 x0 x1 x2 x3 x4 x5 x6 x7 x8]
  show x0 i + (𝔸).md 2 (i 2) * x1 i = _
  rw [at3 x0 i, at3 x1 i]
  rfl

theorem r20 (i : S1x2048x1.Idx) : val_main_v20 (F := Ideal) x0 x1 x3 x4 i = ms ((𝔸).x1 (i 1)) := by
  rw [val_main_v20_apply, val_main_v18_apply, val_main_v17_apply, val_main_v19_apply, val_main_v16_apply, val_main_v15_apply]
  simp only [val_main_v14_apply, r12 x0 x1 x2 x3 x4 x5 x6 x7 x8]
  show Ideal.div (Ideal.ofBits .f32 0x00000000#32 + _) (Ideal.ofBits .f32 0x44800000#32) + Ideal.ofBits .f32 0x358637BD#32 = _
  rw [ofBits_zero, zero_add, bits_1024]
  rfl

theorem r32 (i : S1x2048x1024.Idx) : val_main_v32 (F := Ideal) x0 x1 x3 x4 x5 i = (𝔸).h (i 1) (i 2) := by
  rw [val_main_v32_apply, val_main_v30_apply, val_main_v31_apply, val_main_v26_apply, val_main_v29_apply, val_main_v28_apply,
    val_main_v27_apply, val_main_v25_apply, val_main_v24_apply, val_main_v13_apply, val_main_v23_apply, val_main_v22_apply,
    val_main_v21_apply, r12 x0 x1 x2 x3 x4 x5 x6 x7 x8, r20 x0 x1 x2 x3 x4 x5 x6 x7 x8, r7 x0 x1 x2 x3 x4 x5 x6 x7 x8,
    r8 x0 x1 x2 x3 x4 x5 x6 x7 x8]
  have h2 : (i 2).val < 1024 := (i 2).isLt
  have e : x5 (idx_main_v13 (idx_main_v24 (idx_main_v25 i))) = (𝔸).g2 (i 2) := congrArg x5 (funext fun a => Fin.ext (by
    match a with
    | ⟨0, _⟩ => rfl
    | ⟨1, _⟩ => show (i 2).val % 1024 = (i 2).val; omega))
  rw [e]
  show (𝔸).x1 (i 1) (i 2) * Ideal.rsqrt _ * _ * (Ideal.ofBits .f32 0x3F800000#32 + _) + _ = _
  rw [bits_one]
  rfl

theorem r34 (i : S1x2048x4096.Idx) : val_main_v34 (F := Ideal) x0 x1 x3 x4 x5 x6 i = (𝔸).f (i 1) (i 2) := by
  rw [val_main_v34_apply]
  refine Finset.sum_congr rfl fun k _ => ?_
  rw [r32 x0 x1 x2 x3 x4 x5 x6 x7 x8, val_main_v33_apply]
  have hk : k.val < 1024 := k.isLt
  have h2 : (i 2).val < 4096 := (i 2).isLt
  refine congrArg₂ (· * ·) rfl (congrArg x6 (funext fun a => Fin.ext ?_))
  match a with
  | ⟨0, _⟩ => rfl
  | ⟨1, _⟩ => show (k.val * 4096 + (i 2).val) / 4096 % 1024 = k.val; omega
  | ⟨2, _⟩ => show (k.val * 4096 + (i 2).val) % 4096 = (i 2).val; omega

theorem r36 (i : S1x2048x4096.Idx) : val_main_v36 (F := Ideal) x0 x1 x3 x4 x5 x6 i = (𝔸).act (i 1) (i 2) := by
  rw [val_main_v36_apply, val_main_v35_apply, val_main_call0_v0_apply, r34 x0 x1 x2 x3 x4 x5 x6 x7 x8]
  show max _ (Ideal.ofBits .f32 0x00000000#32) * max _ (Ideal.ofBits .f32 0x00000000#32) = _
  rw [ofBits_zero]
  rfl

theorem r38 (i : S1x2048x1024.Idx) : val_main_v38 (F := Ideal) x0 x1 x3 x4 x5 x6 x7 i = (𝔸).z (i 1) (i 2) := by
  rw [val_main_v38_apply]
  refine Finset.sum_congr rfl fun k _ => ?_
  rw [r36 x0 x1 x2 x3 x4 x5 x6 x7 x8, val_main_v37_apply]
  have hk : k.val < 4096 := k.isLt
  have h2 : (i 2).val < 1024 := (i 2).isLt
  refine congrArg₂ (· * ·) rfl (congrArg x7 (funext fun a => Fin.ext ?_))
  match a with
  | ⟨0, _⟩ => rfl
  | ⟨1, _⟩ => show (k.val * 1024 + (i 2).val) / 1024 % 4096 = k.val; omega
  | ⟨2, _⟩ => show (k.val * 1024 + (i 2).val) % 1024 = (i 2).val; omega

theorem r41 (i : S1x2048x1024.Idx) : val_main_v41 (F := Ideal) x0 x1 x3 x4 x5 x6 x7 i = (𝔸).x2 (i 1) (i 2) := by
  rw [val_main_v41_apply, val_main_v40_apply, val_main_v39_apply, r12 x0 x1 x2 x3 x4 x5 x6 x7 x8, r9 x0 x1 x2 x3 x4 x5 x6 x7 x8,
    r38 x0 x1 x2 x3 x4 x5 x6 x7 x8]
  rfl

theorem r48 (i : S1x2048x1.Idx) : val_main_v48 (F := Ideal) x0 x1 x3 x4 x5 x6 x7 i = ms ((𝔸).x2 (i 1)) := by
  rw [val_main_v48_apply, val_main_v46_apply, val_main_v45_apply, val_main_v47_apply, val_main_v44_apply, val_main_v43_apply]
  simp only [val_main_v42_apply, r41 x0 x1 x2 x3 x4 x5 x6 x7 x8]
  show Ideal.div (Ideal.ofBits .f32 0x00000000#32 + _) (Ideal.ofBits .f32 0x44800000#32) + Ideal.ofBits .f32 0x358637BD#32 = _
  rw [ofBits_zero, zero_add, bits_1024]
  rfl

theorem r49 (i : S1x2048x1.Idx) : val_main_v49 (F := Ideal) x0 x1 x3 x4 x5 x6 x7 i = rs ((𝔸).x2 (i 1)) := by
  rw [val_main_v49_apply, r48 x0 x1 x2 x3 x4 x5 x6 x7 x8]
  rfl

theorem r54 (i : S1x2048x1024.Idx) : val_main_v54 (F := Ideal) x0 x1 x3 x4 x5 x6 x7 i = (𝔸).n (i 1) (i 2) := by
  rw [val_main_v54_apply, val_main_v53_apply, r41 x0 x1 x2 x3 x4 x5 x6 x7 x8, r49 x0 x1 x2 x3 x4 x5 x6 x7 x8]
  rfl

/-- The final norm's gain on every row, in its two occurrences. -/
theorem r55 (i : S1x1x1024.Idx) : val_main_v55 (F := Ideal) x8 i = (𝔸).gf (i 2) := by
  rw [val_main_v55_apply]
  exact congrArg x8 (funext fun a => Fin.ext (by match a with | ⟨0, _⟩ => rfl))

theorem r58 (i : S1x2048x1024.Idx) : val_main_v58 (F := Ideal) x0 x1 x2 x3 x4 x5 x6 x7 x8 i = (𝔸).err (i 1) (i 2) := by
  rw [val_main_v58_apply, val_main_v57_apply, val_main_v56_apply, r54 x0 x1 x2 x3 x4 x5 x6 x7 x8, r55 x0 x1 x2 x3 x4 x5 x6 x7 x8]
  show (𝔸).n (i 1) (i 2) * (𝔸).gf (i 2) - x2 i = _
  rw [at3 x2 i]
  rfl

theorem r72 (i : S1x2048x1024.Idx) : val_main_v72 (F := Ideal) x0 x1 x2 x3 x4 x5 x6 x7 x8 i = (𝔸).d (i 1) (i 2) := by
  rw [val_main_v72_apply, val_main_v71_apply, val_main_v70_apply, val_main_v69_apply, val_main_v68_apply, val_main_v67_apply,
    val_main_v61_apply, val_main_v60_apply, r58 x0 x1 x2 x3 x4 x5 x6 x7 x8, ← Args.d_eq (A := args x0 x1 x2 x3 x4 x5 x6 x7 x8) (i 1) (i 2)]
  show Ideal.div (Ideal.ofBits .f32 0x3F000000#32 * Ideal.ofBits .f32 0x3F800000#32) (Ideal.ofBits .f32 0x44800000#32)
    * (Ideal.ofBits .f32 0x40000000#32 * _) = _
  rw [bits_half, bits_one, bits_1024, bits_two]

theorem r77 (i : S1x2048x1024.Idx) : val_main_v77 (F := Ideal) x0 x1 x2 x3 x4 x5 x6 x7 x8 i = (𝔸).a (i 1) (i 2) := by
  rw [val_main_v77_apply, val_main_v76_apply, r72 x0 x1 x2 x3 x4 x5 x6 x7 x8, r55 x0 x1 x2 x3 x4 x5 x6 x7 x8]
  rfl

/-- The derivative by a row's mean square, over the number of columns. -/
theorem r89 (i : S1x2048x1024.Idx) : val_main_v89 (F := Ideal) x0 x1 x2 x3 x4 x5 x6 x7 x8 i
    = Ideal.div ((∑ k, (𝔸).x2 (i 1) k * (𝔸).a (i 1) k) * (((-1 / 2 : ℝ) : EReal) * Ideal.div (rs ((𝔸).x2 (i 1))) (ms ((𝔸).x2 (i 1)))))
        ((1024 : ℝ) : EReal) := by
  rw [val_main_v89_apply, val_main_v88_apply]
  unfold val_main_v87
  have hi : (i 1).val < 2048 := (i 1).isLt
  rw [reduce_unit _ _ reducesTo_S1x2048x1_S2048_d0_2 h_S_ _ (ix3 (0 : Fin 1) (i 1 : Fin 2048) (0 : Fin 1)) (funext fun b => by
      match b with
      | ⟨0, _⟩ => rfl) (fun q hq => funext fun a => Fin.ext (by
      have h0 : (q 0).val < 1 := (q 0).isLt
      have h2 : (q 2).val < 1 := (q 2).isLt
      match a with
      | ⟨0, _⟩ => show (q 0).val = 0; omega
      | ⟨1, _⟩ => exact congrArg Fin.val (congrFun hq 0)
      | ⟨2, _⟩ => show (q 2).val = 0; omega))]
  rw [val_main_v86_apply, val_main_v85_apply, val_main_v84_apply, val_main_v52_apply, val_main_v51_apply, val_main_v50_apply,
    r49 x0 x1 x2 x3 x4 x5 x6 x7 x8, r48 x0 x1 x2 x3 x4 x5 x6 x7 x8, val_main_v81_apply, val_main_v80_apply]
  simp only [val_main_v79_apply, r41 x0 x1 x2 x3 x4 x5 x6 x7 x8, r77 x0 x1 x2 x3 x4 x5 x6 x7 x8]
  have e : ∀ k, idx_main_v80 (idx_main_v81 (ix3 (0 : Fin 1) (i 1 : Fin 2048) (0 : Fin 1))) k 1 = (i 1 : Fin 2048) := fun k => Fin.ext (by
    show ((0 * 2048 + (i 1).val) * 1 + 0) % 2048 = (i 1).val; omega)
  simp only [e]
  show Ideal.ofBits .f32 0x00000000#32 + Ideal.div ((Ideal.ofBits .f32 0x00000000#32 + _) * (Ideal.ofBits .f32 0xBF000000#32 * Ideal.div _ _))
    (Ideal.ofBits .f32 0x44800000#32) = _
  rw [ofBits_zero, zero_add, zero_add, bits_neg_half, bits_1024]
  rfl

variable (R : (args x0 x1 x2 x3 x4 x5 x6 x7 x8).Real)
include R

theorem r93 (i : S1x2048x1024.Idx) : val_main_v93 (F := Ideal) x0 x1 x2 x3 x4 x5 x6 x7 x8 i = (𝔸).dx2 (i 1) (i 2) := by
  rw [val_main_v93_apply, val_main_v91_apply, val_main_v92_apply, val_main_v90_apply, val_main_v83_apply, val_main_v82_apply,
    r89 x0 x1 x2 x3 x4 x5 x6 x7 x8, r77 x0 x1 x2 x3 x4 x5 x6 x7 x8, r41 x0 x1 x2 x3 x4 x5 x6 x7 x8, r49 x0 x1 x2 x3 x4 x5 x6 x7 x8,
    ← Args.dx2_eq R (i 1) (i 2)]
  rfl

theorem r97 (i : S1x1024.Idx) : val_main_v97 (F := Ideal) x0 x1 x2 x3 x4 x5 x6 x7 x8 i = ∑ s, (𝔸).dx2 s (i 1) * (𝔸).z s (i 1) := by
  rw [val_main_v97_apply]
  simp only [val_main_v96_apply, r93 x0 x1 x2 x3 x4 x5 x6 x7 x8 R, r38 x0 x1 x2 x3 x4 x5 x6 x7 x8]
  show Ideal.ofBits .f32 0x00000000#32 + _ = _
  rw [ofBits_zero, zero_add]
  rfl

omit R in
theorem r78 (i : S1024.Idx) : val_main_v78 (F := Ideal) x0 x1 x2 x3 x4 x5 x6 x7 x8 i = ∑ s, (𝔸).d s (i 0) * (𝔸).n s (i 0) := by
  unfold val_main_v78
  have hi : (i 0).val < 1024 := (i 0).isLt
  rw [reduce_unit _ _ reducesTo_S1x1x1024_S1024_d0_1 h_S_ _ (ix3 (0 : Fin 1) (0 : Fin 1) (i 0 : Fin 1024)) (funext fun b => by
      match b with
      | ⟨0, _⟩ => rfl) (fun q hq => funext fun a => Fin.ext (by
      have h0 : (q 0).val < 1 := (q 0).isLt
      have h1 : (q 1).val < 1 := (q 1).isLt
      match a with
      | ⟨0, _⟩ => show (q 0).val = 0; omega
      | ⟨1, _⟩ => show (q 1).val = 0; omega
      | ⟨2, _⟩ => exact congrArg Fin.val (congrFun hq 0)))]
  rw [val_main_v75_apply, val_main_v74_apply]
  simp only [val_main_v73_apply, r54 x0 x1 x2 x3 x4 x5 x6 x7 x8, r72 x0 x1 x2 x3 x4 x5 x6 x7 x8]
  have e : ∀ k, idx_main_v74 (idx_main_v75 (ix3 (0 : Fin 1) (0 : Fin 1) (i 0 : Fin 1024))) k 2 = (i 0 : Fin 1024) := fun k => Fin.ext (by
    show ((0 * 1 + 0) * 1024 + (i 0).val) % 1024 = (i 0).val; omega)
  simp only [e]
  show Ideal.ofBits .f32 0x00000000#32 + (Ideal.ofBits .f32 0x00000000#32 + _) = _
  rw [ofBits_zero, zero_add, zero_add]
  exact Finset.sum_congr rfl fun s _ => mul_comm _ _

/-! ## The six results -/

omit R in
theorem v105_eq : val_main_v105 (F := Ideal) x0 x1 x3 x4 x5 = fun i => (𝔸).h (i 1) (i 0) := by
  funext i
  have h0 : (i 0).val < 1024 := (i 0).isLt
  have h1 : (i 1).val < 2048 := (i 1).isLt
  rw [val_main_v105_apply, val_main_v104_apply, val_main_v103_apply, r32 x0 x1 x2 x3 x4 x5 x6 x7 x8]
  refine congrArg₂ (𝔸).h (Fin.ext ?_) (Fin.ext ?_)
  · show ((i 1).val * 1024 + (i 0).val) / 1024 % 2048 = (i 1).val; omega
  · show ((i 1).val * 1024 + (i 0).val) % 1024 = (i 0).val; omega

omit R in
theorem v106_eq : val_main_v106 (F := Ideal) x0 x1 x3 x4 x5 x6 = fun i => (𝔸).f (i 0) (i 1) := by
  funext i
  have h0 : (i 0).val < 2048 := (i 0).isLt
  have h1 : (i 1).val < 4096 := (i 1).isLt
  rw [val_main_v106_apply, r34 x0 x1 x2 x3 x4 x5 x6 x7 x8]
  refine congrArg₂ (𝔸).f (Fin.ext ?_) (Fin.ext ?_)
  · show ((i 0).val * 4096 + (i 1).val) / 4096 % 2048 = (i 0).val; omega
  · show ((i 0).val * 4096 + (i 1).val) % 4096 = (i 1).val; omega

theorem v107_eq : val_main_v107 (F := Ideal) x0 x1 x2 x3 x4 x5 x6 x7 x8 = fun i => (𝔸).dx2 (i 0) (i 1) := by
  funext i
  have h0 : (i 0).val < 2048 := (i 0).isLt
  have h1 : (i 1).val < 1024 := (i 1).isLt
  rw [val_main_v107_apply, r93 x0 x1 x2 x3 x4 x5 x6 x7 x8 R]
  refine congrArg₂ (𝔸).dx2 (Fin.ext ?_) (Fin.ext ?_)
  · show ((i 0).val * 1024 + (i 1).val) / 1024 % 2048 = (i 0).val; omega
  · show ((i 0).val * 1024 + (i 1).val) % 1024 = (i 1).val; omega

theorem v109_eq : val_main_v109 (F := Ideal) x0 x1 x2 x3 x4 x5 x6 x7 x8 = fun i => (𝔸).dz (i 0) (i 1) := by
  funext i
  have h0 : (i 0).val < 2048 := (i 0).isLt
  have h1 : (i 1).val < 1024 := (i 1).isLt
  rw [val_main_v109_apply, val_main_v108_apply, val_main_v95_apply, val_main_v94_apply, r93 x0 x1 x2 x3 x4 x5 x6 x7 x8 R,
    r9 x0 x1 x2 x3 x4 x5 x6 x7 x8]
  refine congrArg₂ (𝔸).dz (Fin.ext ?_) (Fin.ext ?_)
  · show ((i 0).val * 1024 + (i 1).val) / 1024 % 2048 = (i 0).val; omega
  · show ((i 0).val * 1024 + (i 1).val) % 1024 = (i 1).val; omega

theorem v110_eq : val_main_v110 (F := Ideal) x0 x1 x2 x3 x4 x5 x6 x7 x8 = fun _ => (𝔸).loss := by
  funext i
  rw [val_main_v110_apply, val_main_v66_apply, val_main_v65_apply]
  simp only [val_main_v64_apply, val_main_v63_apply, val_main_v62_apply, val_main_v59_apply, r58 x0 x1 x2 x3 x4 x5 x6 x7 x8]
  unfold Args.loss
  rw [← Args.loss_eq R]
  show Ideal.ofBits .f32 0x3F000000#32 * (Ideal.ofBits .f32 0x00000000#32 + ∑ j : S1x2048.Idx,
    Ideal.div (Ideal.ofBits .f32 0x00000000#32 + (𝔸).sq (j 1)) (Ideal.ofBits .f32 0x44800000#32)) = _
  rw [bits_half, ofBits_zero, bits_1024, zero_add]
  simp only [zero_add]
  congr 1

theorem v102_eq : val_main_v102 (F := Ideal) x0 x1 x2 x3 x4 x5 x6 x7 x8 = fun i => (𝔸).vec (i 0) (i 1) := by
  funext i
  revert i
  refine forall_ix2 fun r j => ?_
  show val_main_v102 (F := Ideal) x0 x1 x2 x3 x4 x5 x6 x7 x8 (ix2 r j) = (𝔸).vec r j
  unfold val_main_v102 Args.vec
  have hj : j.val < 1024 := j.isLt
  split_ifs with h0 h1
  · refine (concatenate_apply_piece (t := S8x1024) 0 _ _ (ix2 r j) 0 (by show 0 < 3; omega) S1x1024 _ rfl rfl 0 rfl (ix2 (0 : Fin 1) j)
      (fun b hb => match b, hb with | ⟨0, _⟩, hb => absurd rfl hb | ⟨1, _⟩, _ => rfl) (by show 0 + 0 = r.val; omega)).trans ?_
    rw [val_main_v99_apply, val_main_v98_apply, r97 x0 x1 x2 x3 x4 x5 x6 x7 x8 R]
    have e : idx_main_v98 (idx_main_v99 (ix2 (0 : Fin 1) j)) 1 = j := Fin.ext (by
      show ((0 * 1 + 0) * 1024 + (0 * 1024 + j.val) % 1024) % 1024 = j.val; omega)
    rw [e]
  · refine (concatenate_apply_piece (t := S8x1024) 0 _ _ (ix2 r j) 1 (by show 1 < 3; omega) S1x1024 _ rfl rfl 1 rfl (ix2 (0 : Fin 1) j)
      (fun b hb => match b, hb with | ⟨0, _⟩, hb => absurd rfl hb | ⟨1, _⟩, _ => rfl) (by show 1 + 0 = r.val; omega)).trans ?_
    rw [val_main_v100_apply, r78 x0 x1 x2 x3 x4 x5 x6 x7 x8]
    rfl
  · have hr : r.val < 8 := r.isLt
    refine (concatenate_apply_piece (t := S8x1024) 0 _ _ (ix2 r j) 2 (by show 2 < 3; omega) S6x1024 _ rfl rfl 2 rfl
      (ix2 (⟨r.val - 2, by omega⟩ : Fin 6) j)
      (fun b hb => match b, hb with | ⟨0, _⟩, hb => absurd rfl hb | ⟨1, _⟩, _ => rfl) (by show 2 + (r.val - 2) = r.val; omega)).trans ?_
    rw [val_main_v101_apply]
    exact ofBits_zero

end Cert.MlpRef

end
-- ==== Proof.MlpValue.lean ====
/- The value of `_mlp_fwd`: what its run leaves in the six result arrays is what the reference computes. -/
module

public import proofs.«01_k».proof.Defs
public import proofs.«01_k».proof.Proof.MlpBlock
public import proofs.«01_k».proof.Proof.MlpRef
public import proofs.«01_k».proof.Proof.MlpFrame
public import Idealize.ShloMosaic.Lib.Pipeline.Value
public import Idealize.ShloMosaic.Lib.Pipeline.ValueKit.Geometry
public import proofs.«01_k».proof.Proof.Gen.Pre_mlp_finite
public import Idealize.ShloMosaic.Lib.KernelVsHost

@[expose] public section

set_option maxRecDepth 16384

noncomputable section

namespace Cert.MlpValue

open Idealize.ShloMosaic Idealize.ShloMosaic.ValueIdx Idealize.ShloMosaic.TcCoe Idealize.SL.Sem Cert.Reals Cert.MlpSpec
open Cert.MlpIdeal Cert.MlpIdeal.Gen Cert.MlpRun Cert.MlpFrame
open Idealize.ShloMosaic.Pipeline (Dat)
open scoped BigOperators

variable (m : (ℓ : Loc nD τ sig) → Buf (Elt Ideal) ℓ) (c : Dev nD)

/-! ## The host lines before the region -/

theorem V_v1 : V m c main_v1 = pad S8x1024 ![0, 0] ![2, 0] ![0, 0]
    (shapeCast S6x1024 (m ((c.tc : Thread nD τ).loc main_arg3) : FVec Ideal S1x6144 .f32) shapeCasts_S1x6144_S6x1024)
    (sitofp (F := Ideal) .f32 (constantI S_ 32 0#32)) pads_S6x1024_S8x1024_020_000 h_S_ := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append]
  after_results <;> rfl

theorem V_v3 : V m c main_v3 = pad S8x1024 ![0, 0] ![2, 0] ![0, 0]
    (shapeCast S6x1024 (m ((c.tc : Thread nD τ).loc main_arg4) : FVec Ideal S1x6144 .f32) shapeCasts_S1x6144_S6x1024)
    (sitofp (F := Ideal) .f32 (constantI S_ 32 0#32)) pads_S6x1024_S8x1024_020_000 h_S_ := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append]
  after_results <;> rfl

theorem V_v12 : V m c main_v12 = shapeCast S2048x1024 (m ((c.tc : Thread nD τ).loc main_arg0) : FVec Ideal S1x2048x1024 .f32) shapeCasts_S1x2048x1024_S2048x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append]
  after_results <;> rfl

theorem V_v13 : V m c main_v13 = shapeCast S2048x1024 (m ((c.tc : Thread nD τ).loc main_arg1) : FVec Ideal S1x2048x1024 .f32) shapeCasts_S1x2048x1024_S2048x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append]
  after_results <;> rfl

theorem V_v14 : V m c main_v14 = shapeCast S2048x1024 (m ((c.tc : Thread nD τ).loc main_arg2) : FVec Ideal S1x2048x1024 .f32) shapeCasts_S1x2048x1024_S2048x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append]
  after_results <;> rfl

theorem V_v4 : V m c main_v4 = shapeCast S1x1024 (m ((c.tc : Thread nD τ).loc main_arg8) : FVec Ideal S1024 .f32) shapeCasts_S1024_S1x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append]
  after_results <;> rfl

theorem V_v11 : V m c main_v11 = truncf (F := Ideal) (φ := .f32) .bf16 (concatenate S8x1024x1024 1
    [⟨S8x512x1024, shapeCast S8x512x1024 (transpose S4096x1024 [1, 0]
        (shapeCast S1024x4096 (m ((c.tc : Thread nD τ).loc main_arg6) : FVec Ideal S1x1024x4096 .f32) shapeCasts_S1x1024x4096_S1024x4096)
        transposes_S1024x4096_S4096x1024_1_0) shapeCasts_S4096x1024_S8x512x1024⟩,
     ⟨S8x512x1024, shapeCast S8x512x1024 (shapeCast S4096x1024 (m ((c.tc : Thread nD τ).loc main_arg7) : FVec Ideal S1x4096x1024 .f32)
        shapeCasts_S1x4096x1024_S4096x1024) shapeCasts_S4096x1024_S8x512x1024⟩]
    concatenates_S8x512x1024_S8x512x1024_S8x1024x1024_d1) bitsLt_bf16_f32 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append]
  after_results <;> rfl

/-! ## What a point reads -/

/-- The point's row `r` of the whole. -/
def row (t : Fin cfg0.N) (r : Fin 256) : Fin 2048 := ⟨256 * t.val + r.val, by have := lt_of_lt_of_eq t.isLt N_0; omega⟩

theorem idx0_0 : ∀ t : Fin cfg0.N, win0_0.index t 0 = t.val ∧ win0_0.index t 1 = 0 :=
  (by decide +kernel : ∀ t : Fin grid0.N, win0_0.index t 0 = t.val ∧ win0_0.index t 1 = 0)
theorem iblk0 (t : Fin cfg0.N) (r : Fin 256) (j : Fin 1024) : iblk m c 0 t (ix2 r j) = V m c main_v12 (ix2 (row t r) j) := by
  show V m c main_v12 ((win0_0.rect t).emb (ix2 r j)) = _
  refine congrArg (V m c main_v12) (funext fun a => Fin.ext ?_)
  rw [Pipeline.Window.rect_emb_val win0_0]
  match a with
  | ⟨0, _⟩ =>
    show win0_0.index t 0 * 256 + r.val = 256 * t.val + r.val
    rw [(idx0_0 t).1]; omega
  | ⟨1, _⟩ =>
    show win0_0.index t 1 * 1024 + j.val = j.val
    rw [(idx0_0 t).2]; omega

theorem idx0_1 : ∀ t : Fin cfg0.N, win0_1.index t 0 = t.val ∧ win0_1.index t 1 = 0 :=
  (by decide +kernel : ∀ t : Fin grid0.N, win0_1.index t 0 = t.val ∧ win0_1.index t 1 = 0)
theorem iblk1 (t : Fin cfg0.N) (r : Fin 256) (j : Fin 1024) : iblk m c 1 t (ix2 r j) = V m c main_v13 (ix2 (row t r) j) := by
  show V m c main_v13 ((win0_1.rect t).emb (ix2 r j)) = _
  refine congrArg (V m c main_v13) (funext fun a => Fin.ext ?_)
  rw [Pipeline.Window.rect_emb_val win0_1]
  match a with
  | ⟨0, _⟩ =>
    show win0_1.index t 0 * 256 + r.val = 256 * t.val + r.val
    rw [(idx0_1 t).1]; omega
  | ⟨1, _⟩ =>
    show win0_1.index t 1 * 1024 + j.val = j.val
    rw [(idx0_1 t).2]; omega

theorem idx0_2 : ∀ t : Fin cfg0.N, win0_2.index t 0 = t.val ∧ win0_2.index t 1 = 0 :=
  (by decide +kernel : ∀ t : Fin grid0.N, win0_2.index t 0 = t.val ∧ win0_2.index t 1 = 0)
theorem iblk2 (t : Fin cfg0.N) (r : Fin 256) (j : Fin 1024) : iblk m c 2 t (ix2 r j) = V m c main_v14 (ix2 (row t r) j) := by
  show V m c main_v14 ((win0_2.rect t).emb (ix2 r j)) = _
  refine congrArg (V m c main_v14) (funext fun a => Fin.ext ?_)
  rw [Pipeline.Window.rect_emb_val win0_2]
  match a with
  | ⟨0, _⟩ =>
    show win0_2.index t 0 * 256 + r.val = 256 * t.val + r.val
    rw [(idx0_2 t).1]; omega
  | ⟨1, _⟩ =>
    show win0_2.index t 1 * 1024 + j.val = j.val
    rw [(idx0_2 t).2]; omega

theorem iblk3 (t : Fin cfg0.N) : iblk m c 3 t = V m c main_v1 :=
  Memref.read_access_unit_zero (Elt Ideal) main_v1
    (show (fun a => (win0_3.index t) a * main_v1.ty.shape.size a) = fun _ => 0 from
      funext fun a => by revert t; fin_cases a <;> decide) (fun a => by revert t; fin_cases a <;> decide) _
theorem iblk4 (t : Fin cfg0.N) : iblk m c 4 t = V m c main_v3 :=
  Memref.read_access_unit_zero (Elt Ideal) main_v3
    (show (fun a => (win0_4.index t) a * main_v3.ty.shape.size a) = fun _ => 0 from
      funext fun a => by revert t; fin_cases a <;> decide) (fun a => by revert t; fin_cases a <;> decide) _
theorem iblk5 (t : Fin cfg0.N) : iblk m c 5 t = V m c main_arg5 :=
  Memref.read_access_unit_zero (Elt Ideal) main_arg5
    (show (fun a => (win0_5.index t) a * main_arg5.ty.shape.size a) = fun _ => 0 from
      funext fun a => by revert t; fin_cases a <;> decide) (fun a => by revert t; fin_cases a <;> decide) _
theorem iblk6 (t : Fin cfg0.N) : iblk m c 6 t = V m c main_v4 :=
  Memref.read_access_unit_zero (Elt Ideal) main_v4
    (show (fun a => (win0_6.index t) a * main_v4.ty.shape.size a) = fun _ => 0 from
      funext fun a => by revert t; fin_cases a <;> decide) (fun a => by revert t; fin_cases a <;> decide) _

/-- The arguments of the run, as the specification takes them. -/
def argsOf : Args := Cert.MlpRef.args (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
  (m ((c.tc : Thread nD τ).loc main_arg8))

/-- A row of the six modulation rows, padded to eight. -/
theorem pad_row (X : FVec Ideal S1x6144 .f32) (v : FVec Ideal S_ .f32) (k : Fin 6) (j : Fin 1024) :
    pad S8x1024 ![0, 0] ![2, 0] ![0, 0] (shapeCast S6x1024 X shapeCasts_S1x6144_S6x1024) v pads_S6x1024_S8x1024_020_000 h_S_ (ix2 ⟨k.val, by omega⟩ j)
      = X (ix2 0 ⟨k.val * 1024 + j.val, by omega⟩) := by
  refine (pad_apply_of_inside _ _ _ _ _ _ _ _ (ix2 k j) fun a => ?_).trans ?_
  · match a with
    | ⟨0, _⟩ => show k.val = 0 + k.val * (0 + 1); omega
    | ⟨1, _⟩ => show j.val = 0 + j.val * (0 + 1); omega
  · refine shapeCast_apply _ _ _ _ ?_
    rw [Shape.rowMajor_val_two, Shape.rowMajor_val_two]
    show 0 * 6144 + (k.val * 1024 + j.val) = k.val * 1024 + j.val
    omega

/-- The pack's two halves: the first weight transposed, and the second. -/
theorem w1_apply (k : Fin 4096) (j : Fin 1024) : w1Of (V m c main_v11) (ix2 k j) = (argsOf m c).w1 j k := by
  show V m c main_v11 (ix3 ⟨k.val / 512, _⟩ ⟨k.val % 512, _⟩ j) = _
  rw [V_v11, truncf_apply]
  refine (concatenate_pair_apply_left (t := S8x1024x1024) (s₁ := S8x512x1024) 1 _ _ _ _ rfl (ix3 ⟨k.val / 512, by omega⟩ ⟨k.val % 512, by omega⟩ j)
    (fun b => match b with | ⟨0, _⟩ => rfl | ⟨1, _⟩ => rfl | ⟨2, _⟩ => rfl)).trans ?_
  refine (shapeCast_apply _ _ _ (ix2 k j) ?_).trans ?_
  · rw [Shape.rowMajor_val_two, Shape.rowMajor_val_three]
    show k.val * 1024 + j.val = ((k.val / 512) * 512 + k.val % 512) * 1024 + j.val
    omega
  · refine (transpose_ix2_apply (a := 1024) (b := 4096) _ _ k j).trans ?_
    exact shapeCast_1ab_ab_apply (a := 1024) (b := 4096) _ _ j k
theorem w2_apply (k : Fin 4096) (j : Fin 1024) : w2Of (V m c main_v11) (ix2 k j) = (argsOf m c).w2 k j := by
  show V m c main_v11 (ix3 ⟨k.val / 512, _⟩ ⟨512 + k.val % 512, _⟩ j) = _
  rw [V_v11, truncf_apply]
  refine (concatenate_pair_apply_right (t := S8x1024x1024) (s₁ := S8x512x1024) (s₂ := S8x512x1024) 1 _ _ _ _ rfl rfl
    (ix3 ⟨k.val / 512, by omega⟩ ⟨k.val % 512, by omega⟩ j)
    (fun b hb => match b, hb with | ⟨0, _⟩, _ => rfl | ⟨1, _⟩, hb => absurd rfl hb | ⟨2, _⟩, _ => rfl)
    (by show k.val % 512 + 512 = 512 + k.val % 512; omega)).trans ?_
  refine (shapeCast_apply _ _ _ (ix2 k j) ?_).trans ?_
  · rw [Shape.rowMajor_val_two, Shape.rowMajor_val_three]
    show k.val * 1024 + j.val = ((k.val / 512) * 512 + k.val % 512) * 1024 + j.val
    omega
  · exact shapeCast_1ab_ab_apply (a := 4096) (b := 1024) _ _ k j

theorem matches_at (t : Fin cfg0.N) : Cert.MlpBlock.Matches (insAt m c t) (argsOf m c) (row t) where
  x r j := by
    refine (iblk0 m c t r j).trans ?_
    rw [V_v12]
    exact shapeCast_1ab_ab_apply (a := 2048) (b := 1024) _ _ (row t r) j
  mixed r j := by
    refine (iblk1 m c t r j).trans ?_
    rw [V_v13]
    exact shapeCast_1ab_ab_apply (a := 2048) (b := 1024) _ _ (row t r) j
  tgt r j := by
    refine (iblk2 m c t r j).trans ?_
    rw [V_v14]
    exact shapeCast_1ab_ab_apply (a := 2048) (b := 1024) _ _ (row t r) j
  md k j := by
    refine congrArg₂ (· + ·) ((congrFun (iblk3 m c t) _).trans ?_) ((congrFun (iblk4 m c t) _).trans ?_)
    · rw [V_v1]; exact pad_row _ _ k j
    · rw [V_v3]; exact pad_row _ _ k j
  g2 j := (congrFun (iblk5 m c t) _).trans (congrFun (V_main_arg5 m c) _)
  gf j := by
    refine (congrFun (iblk6 m c t) _).trans ?_
    rw [V_v4]
    exact shapeCast_a_1a_apply _ _ 0 j
  w1 k j := w1_apply m c k j
  w2 k j := w2_apply m c k j

/-! ## The sums over the blocks of rows -/

/-- A function of the rows, summed over the first `n` blocks. -/
def upto (g : Fin 2048 → EReal) (n : ℕ) : EReal := ∑ b ∈ Finset.range n, ∑ r : Fin 256, if h : 256 * b + r.val < 2048 then g ⟨256 * b + r.val, h⟩ else 0

theorem upto_succ (g : Fin 2048 → EReal) (t : Fin cfg0.N) : upto g (t.val + 1) = upto g t.val + ∑ r, g (row t r) := by
  unfold upto
  rw [Finset.sum_range_succ]
  refine congrArg (_ + ·) (Finset.sum_congr rfl fun r _ => ?_)
  have := lt_of_lt_of_eq t.isLt N_0
  rw [dif_pos (by omega)]
  rfl

theorem upto_eight (g : Fin 2048 → EReal) : upto g 8 = ∑ s, g s := by
  unfold upto
  rw [← Fin.sum_univ_eq_sum_range (fun b => ∑ r : Fin 256, if h : 256 * b + r.val < 2048 then g ⟨256 * b + r.val, h⟩ else 0) 8, ← Finset.sum_product']
  refine Fintype.sum_equiv (ι := Fin 8 × Fin 256) (κ := Fin 2048) ⟨fun p => ⟨256 * p.1.val + p.2.val, by omega⟩,
    fun k => (⟨k.val / 256, by omega⟩, ⟨k.val % 256, by omega⟩), fun p => Prod.ext (Fin.ext (by show (256 * p.1.val + p.2.val) / 256 = p.1.val; omega))
      (Fin.ext (by show (256 * p.1.val + p.2.val) % 256 = p.2.val; omega)), fun k => Fin.ext (by show 256 * (k.val / 256) + k.val % 256 = k.val; omega)⟩
    _ _ fun p => dif_pos (by omega)

theorem vec_upto (n : ℕ) (hn : n ≤ 8) (i : Fin 8) (j : Fin 1024) : vecAt m c n (ix2 i j)
    = if i.val = 0 then upto (fun s => (argsOf m c).dx2 s j * (argsOf m c).z s j) n
      else if i.val = 1 then upto (fun s => (argsOf m c).d s j * (argsOf m c).n s j) n else 0 := by
  induction n with
  | zero =>
    have e : vecAt m c 0 (ix2 i j) = 0 := ofBits_zero
    rw [e]
    unfold upto
    simp
  | succ n ih =>
    have hN : n < cfg0.N := lt_of_lt_of_eq (by omega) N_0.symm
    have e := vecAt_succ m c ⟨n, hN⟩
    rw [show vecAt m c (n + 1) = _ from e, Cert.MlpBlock.vec_apply (matches_at m c ⟨n, hN⟩), ih (by omega)]
    have u := fun g => upto_succ g ⟨n, hN⟩
    simp only at u
    split_ifs
    · rw [u]
    · rw [u]
    · rw [add_zero]

/-- A product with a real, inside a sum of reals. -/
theorem sum_mul_real {ι : Type} [Fintype ι] (f : ι → EReal) (h : ∀ k, IsReal (f k)) (a : ℝ) : (∑ k, f k) * (a : EReal) = ∑ k, f k * (a : EReal) := by
  choose g hg using h
  simp only [hg, ← EReal.coe_mul]
  rw [coe_sum, coe_sum, ← EReal.coe_mul, Finset.sum_mul]

theorem loss_upto (R : (argsOf m c).Real) (n : ℕ) (hn : n ≤ 8) (i : Fin 8) (l : Fin 128) :
    lossAt m c n (ix2 i l) = upto (fun s => (argsOf m c).sq s * ((1 / 2048 : ℝ) : EReal)) n := by
  induction n with
  | zero =>
    have e : lossAt m c 0 (ix2 i l) = 0 := ofBits_zero
    rw [e]
    unfold upto
    simp
  | succ n ih =>
    have hN : n < cfg0.N := lt_of_lt_of_eq (by omega) N_0.symm
    have e := lossAt_succ m c ⟨n, hN⟩
    rw [show lossAt m c (n + 1) = _ from e, Cert.MlpBlock.loss_apply (matches_at m c ⟨n, hN⟩), ih (by omega)]
    refine Eq.trans (congrArg (_ + ·) ?_) (upto_succ _ ⟨n, hN⟩).symm
    rw [Finset.sum_comm, sum_mul_real _ fun r => IsReal.sum _ _ fun j _ => (Args.err_real R _ j).mul (Args.err_real R _ j)]
    rfl

/-! ## The result arrays after the run -/

theorem idx0_7 : ∀ t : Fin cfg0.N, win0_7.index t 0 = 0 ∧ win0_7.index t 1 = t.val :=
  (by decide +kernel : ∀ t : Fin grid0.N, win0_7.index t 0 = 0 ∧ win0_7.index t 1 = t.val)
theorem array7 : (dats m 0 c).arrAt 7 cfg0.N = fun i : S1024x2048.Idx => (argsOf m c).h (i 1) (i 0) := by
  refine (dats m 0 c).arrAt_eq_of_cover 7 _ (fun t _ => ?_) fun i => ?_
  · funext x
    revert x
    refine forall_ix2 fun r j => ?_
    refine (congrFun (after0_7 m c t) (ix2 r j)).trans ((Cert.MlpBlock.hT_apply (matches_at m c t) r j).trans ?_)
    show _ = (fun i : S1024x2048.Idx => (argsOf m c).h (i 1) (i 0)) ((win0_7.rect t).emb (ix2 r j))
    refine congrArg₂ (argsOf m c).h (Fin.ext ?_) (Fin.ext ?_)
    · rw [Pipeline.Window.rect_emb_val win0_7]
      show 256 * t.val + j.val = win0_7.index t 1 * 256 + j.val; rw [(idx0_7 t).2]; omega
    · rw [Pipeline.Window.rect_emb_val win0_7]
      show r.val = win0_7.index t 0 * 1024 + r.val; rw [(idx0_7 t).1]; omega
  · have h0 : (i 0).val < 1024 := (i 0).isLt
    have h1 : (i 1).val < 2048 := (i 1).isLt
    let t : Fin cfg0.N := ⟨(i 1).val / 256, lt_of_lt_of_eq (by omega) N_0.symm⟩
    refine ⟨t, flush0_7 t, ?_⟩
    refine (ValueKit.mem_set_slice_whole_iff main_v15_0 (win0_7.rect t) i (Pipeline.Window.mem_rect_iff win0_7 t i)).2 fun a => ?_
    match a with
    | ⟨0, _⟩ =>
      show win0_7.index t 0 * 1024 ≤ (i 0).val ∧ (i 0).val < win0_7.index t 0 * 1024 + 1024
      rw [(idx0_7 t).1]
      omega
    | ⟨1, _⟩ =>
      show win0_7.index t 1 * 256 ≤ (i 1).val ∧ (i 1).val < win0_7.index t 1 * 256 + 256
      rw [(idx0_7 t).2]
      show (i 1).val / 256 * 256 ≤ _ ∧ _ < (i 1).val / 256 * 256 + 256
      omega

theorem idx0_8 : ∀ t : Fin cfg0.N, win0_8.index t 0 = t.val ∧ win0_8.index t 1 = 0 :=
  (by decide +kernel : ∀ t : Fin grid0.N, win0_8.index t 0 = t.val ∧ win0_8.index t 1 = 0)
theorem array8 : (dats m 0 c).arrAt 8 cfg0.N = fun i : S2048x4096.Idx => (argsOf m c).f (i 0) (i 1) := by
  refine (dats m 0 c).arrAt_eq_of_cover 8 _ (fun t _ => ?_) fun i => ?_
  · funext x
    revert x
    refine forall_ix2 fun r j => ?_
    refine (congrFun (after0_8 m c t) (ix2 r j)).trans ((Cert.MlpBlock.f_apply (matches_at m c t) r j).trans ?_)
    show _ = (fun i : S2048x4096.Idx => (argsOf m c).f (i 0) (i 1)) ((win0_8.rect t).emb (ix2 r j))
    refine congrArg₂ (argsOf m c).f (Fin.ext ?_) (Fin.ext ?_)
    · rw [Pipeline.Window.rect_emb_val win0_8]
      show 256 * t.val + r.val = win0_8.index t 0 * 256 + r.val; rw [(idx0_8 t).1]; omega
    · rw [Pipeline.Window.rect_emb_val win0_8]
      show j.val = win0_8.index t 1 * 4096 + j.val; rw [(idx0_8 t).2]; omega
  · have h0 : (i 0).val < 2048 := (i 0).isLt
    have h1 : (i 1).val < 4096 := (i 1).isLt
    let t : Fin cfg0.N := ⟨(i 0).val / 256, lt_of_lt_of_eq (by omega) N_0.symm⟩
    refine ⟨t, flush0_8 t, ?_⟩
    refine (ValueKit.mem_set_slice_whole_iff main_v15_1 (win0_8.rect t) i (Pipeline.Window.mem_rect_iff win0_8 t i)).2 fun a => ?_
    match a with
    | ⟨0, _⟩ =>
      show win0_8.index t 0 * 256 ≤ (i 0).val ∧ (i 0).val < win0_8.index t 0 * 256 + 256
      rw [(idx0_8 t).1]
      show (i 0).val / 256 * 256 ≤ _ ∧ _ < (i 0).val / 256 * 256 + 256
      omega
    | ⟨1, _⟩ =>
      show win0_8.index t 1 * 4096 ≤ (i 1).val ∧ (i 1).val < win0_8.index t 1 * 4096 + 4096
      rw [(idx0_8 t).2]
      omega

theorem idx0_9 : ∀ t : Fin cfg0.N, win0_9.index t 0 = t.val ∧ win0_9.index t 1 = 0 :=
  (by decide +kernel : ∀ t : Fin grid0.N, win0_9.index t 0 = t.val ∧ win0_9.index t 1 = 0)
theorem array9 : (dats m 0 c).arrAt 9 cfg0.N = fun i : S2048x1024.Idx => (argsOf m c).dx2 (i 0) (i 1) := by
  refine (dats m 0 c).arrAt_eq_of_cover 9 _ (fun t _ => ?_) fun i => ?_
  · funext x
    revert x
    refine forall_ix2 fun r j => ?_
    refine (congrFun (after0_9 m c t) (ix2 r j)).trans ((Cert.MlpBlock.dx2_apply (matches_at m c t) r j).trans ?_)
    show _ = (fun i : S2048x1024.Idx => (argsOf m c).dx2 (i 0) (i 1)) ((win0_9.rect t).emb (ix2 r j))
    refine congrArg₂ (argsOf m c).dx2 (Fin.ext ?_) (Fin.ext ?_)
    · rw [Pipeline.Window.rect_emb_val win0_9]
      show 256 * t.val + r.val = win0_9.index t 0 * 256 + r.val; rw [(idx0_9 t).1]; omega
    · rw [Pipeline.Window.rect_emb_val win0_9]
      show j.val = win0_9.index t 1 * 1024 + j.val; rw [(idx0_9 t).2]; omega
  · have h0 : (i 0).val < 2048 := (i 0).isLt
    have h1 : (i 1).val < 1024 := (i 1).isLt
    let t : Fin cfg0.N := ⟨(i 0).val / 256, lt_of_lt_of_eq (by omega) N_0.symm⟩
    refine ⟨t, flush0_9 t, ?_⟩
    refine (ValueKit.mem_set_slice_whole_iff main_v15_2 (win0_9.rect t) i (Pipeline.Window.mem_rect_iff win0_9 t i)).2 fun a => ?_
    match a with
    | ⟨0, _⟩ =>
      show win0_9.index t 0 * 256 ≤ (i 0).val ∧ (i 0).val < win0_9.index t 0 * 256 + 256
      rw [(idx0_9 t).1]
      show (i 0).val / 256 * 256 ≤ _ ∧ _ < (i 0).val / 256 * 256 + 256
      omega
    | ⟨1, _⟩ =>
      show win0_9.index t 1 * 1024 ≤ (i 1).val ∧ (i 1).val < win0_9.index t 1 * 1024 + 1024
      rw [(idx0_9 t).2]
      omega

theorem idx0_10 : ∀ t : Fin cfg0.N, win0_10.index t 0 = t.val ∧ win0_10.index t 1 = 0 :=
  (by decide +kernel : ∀ t : Fin grid0.N, win0_10.index t 0 = t.val ∧ win0_10.index t 1 = 0)
theorem array10 : (dats m 0 c).arrAt 10 cfg0.N = fun i : S2048x1024.Idx => (argsOf m c).dz (i 0) (i 1) := by
  refine (dats m 0 c).arrAt_eq_of_cover 10 _ (fun t _ => ?_) fun i => ?_
  · funext x
    revert x
    refine forall_ix2 fun r j => ?_
    refine (congrFun (after0_10 m c t) (ix2 r j)).trans ((Cert.MlpBlock.dz_apply (matches_at m c t) r j).trans ?_)
    show _ = (fun i : S2048x1024.Idx => (argsOf m c).dz (i 0) (i 1)) ((win0_10.rect t).emb (ix2 r j))
    refine congrArg₂ (argsOf m c).dz (Fin.ext ?_) (Fin.ext ?_)
    · rw [Pipeline.Window.rect_emb_val win0_10]
      show 256 * t.val + r.val = win0_10.index t 0 * 256 + r.val; rw [(idx0_10 t).1]; omega
    · rw [Pipeline.Window.rect_emb_val win0_10]
      show j.val = win0_10.index t 1 * 1024 + j.val; rw [(idx0_10 t).2]; omega
  · have h0 : (i 0).val < 2048 := (i 0).isLt
    have h1 : (i 1).val < 1024 := (i 1).isLt
    let t : Fin cfg0.N := ⟨(i 0).val / 256, lt_of_lt_of_eq (by omega) N_0.symm⟩
    refine ⟨t, flush0_10 t, ?_⟩
    refine (ValueKit.mem_set_slice_whole_iff main_v15_3 (win0_10.rect t) i (Pipeline.Window.mem_rect_iff win0_10 t i)).2 fun a => ?_
    match a with
    | ⟨0, _⟩ =>
      show win0_10.index t 0 * 256 ≤ (i 0).val ∧ (i 0).val < win0_10.index t 0 * 256 + 256
      rw [(idx0_10 t).1]
      show (i 0).val / 256 * 256 ≤ _ ∧ _ < (i 0).val / 256 * 256 + 256
      omega
    | ⟨1, _⟩ =>
      show win0_10.index t 1 * 1024 ≤ (i 1).val ∧ (i 1).val < win0_10.index t 1 * 1024 + 1024
      rw [(idx0_10 t).2]
      omega

theorem array11 : (dats m 0 c).arrAt 11 cfg0.N = fun i : S8x1024.Idx => (argsOf m c).vec (i 0) (i 1) := by
  have idx : ∀ t : Fin cfg0.N, win0_11.index t = fun _ => 0 :=
    (by decide +kernel : ∀ t : Fin grid0.N, win0_11.index t = fun _ => 0)
  refine (dats m 0 c).arrAt_eq_of_cover 11 _ (fun t ht => ?_) fun i => ?_
  · have h7 := (flush0_11 t).1 ht
    have hN := lt_of_lt_of_eq t.isLt N_0
    have e7 : t.val + 1 = 8 := by omega
    funext x
    revert x
    refine forall_ix2 fun r j => ?_
    refine (congrFun (after0_11 m c t) (ix2 r j)).trans ?_
    rw [e7]
    show _ = (fun i : S8x1024.Idx => (argsOf m c).vec (i 0) (i 1)) ((win0_11.rect t).emb (ix2 r j))
    have e : (win0_11.rect t).emb (ix2 r j) = (ix2 r j : S8x1024.Idx) := funext fun a => Fin.ext (by
      rw [Pipeline.Window.rect_emb_val win0_11, idx t]
      match a with
      | ⟨0, _⟩ => show 0 * 8 + r.val = r.val; omega
      | ⟨1, _⟩ => show 0 * 1024 + j.val = j.val; omega)
    rw [e]
    rw [vec_upto m c 8 le_rfl, upto_eight, upto_eight]
    rfl
  · have h0 : (i 0).val < 8 := (i 0).isLt
    have h1 : (i 1).val < 1024 := (i 1).isLt
    let t : Fin cfg0.N := ⟨7, lt_of_lt_of_eq (by omega) N_0.symm⟩
    refine ⟨t, (flush0_11 t).2 rfl, ?_⟩
    refine (ValueKit.mem_set_slice_whole_iff main_v15_4 (win0_11.rect t) i (Pipeline.Window.mem_rect_iff win0_11 t i)).2 fun a => ?_
    rw [idx t]
    match a with
    | ⟨0, _⟩ => show 0 * 8 ≤ (i 0).val ∧ (i 0).val < 0 * 8 + 8; omega
    | ⟨1, _⟩ => show 0 * 1024 ≤ (i 1).val ∧ (i 1).val < 0 * 1024 + 1024; omega

theorem array12 (R : (argsOf m c).Real) : (dats m 0 c).arrAt 12 cfg0.N = fun i : S8x128.Idx => (argsOf m c).loss := by
  have idx : ∀ t : Fin cfg0.N, win0_12.index t = fun _ => 0 :=
    (by decide +kernel : ∀ t : Fin grid0.N, win0_12.index t = fun _ => 0)
  refine (dats m 0 c).arrAt_eq_of_cover 12 _ (fun t ht => ?_) fun i => ?_
  · have h7 := (flush0_12 t).1 ht
    have hN := lt_of_lt_of_eq t.isLt N_0
    have e7 : t.val + 1 = 8 := by omega
    funext x
    revert x
    refine forall_ix2 fun r j => ?_
    refine (congrFun (after0_12 m c t) (ix2 r j)).trans ?_
    rw [e7]
    show _ = (fun i : S8x128.Idx => (argsOf m c).loss) ((win0_12.rect t).emb (ix2 r j))
    have e : (win0_12.rect t).emb (ix2 r j) = (ix2 r j : S8x128.Idx) := funext fun a => Fin.ext (by
      rw [Pipeline.Window.rect_emb_val win0_12, idx t]
      match a with
      | ⟨0, _⟩ => show 0 * 8 + r.val = r.val; omega
      | ⟨1, _⟩ => show 0 * 128 + j.val = j.val; omega)
    rw [e]
    rw [loss_upto m c R 8 le_rfl, upto_eight]
    rfl
  · have h0 : (i 0).val < 8 := (i 0).isLt
    have h1 : (i 1).val < 128 := (i 1).isLt
    let t : Fin cfg0.N := ⟨7, lt_of_lt_of_eq (by omega) N_0.symm⟩
    refine ⟨t, (flush0_12 t).2 rfl, ?_⟩
    refine (ValueKit.mem_set_slice_whole_iff main_v15_5 (win0_12.rect t) i (Pipeline.Window.mem_rect_iff win0_12 t i)).2 fun a => ?_
    rw [idx t]
    match a with
    | ⟨0, _⟩ => show 0 * 8 ≤ (i 0).val ∧ (i 0).val < 0 * 8 + 8; omega
    | ⟨1, _⟩ => show 0 * 128 ≤ (i 1).val ∧ (i 1).val < 0 * 128 + 128; omega

/-! ## The claim -/

theorem mlp_value : Cert.algebraic_MlpIdeal_MlpRefIdeal_pre_mlp_finite := by
  intro m g m' g' hpre hagree
  have R : ∀ c, (argsOf m c).Real := fun c => by
    have hp : andi (andi (andi (andi (andi (andi (andi (andi (andi _ _) _) _) _) _) _) _) _) _ = fun _ => 1#1 := hpre c
    have hp := congrFun hp ix0
    obtain ⟨hp, h8⟩ := IntOp.andi_eq_one.1 hp
    obtain ⟨hp, h7⟩ := IntOp.andi_eq_one.1 hp
    obtain ⟨hp, h6⟩ := IntOp.andi_eq_one.1 hp
    obtain ⟨hp, h5⟩ := IntOp.andi_eq_one.1 hp
    obtain ⟨hp, h4⟩ := IntOp.andi_eq_one.1 hp
    obtain ⟨hp, h3⟩ := IntOp.andi_eq_one.1 hp
    obtain ⟨hp, h2⟩ := IntOp.andi_eq_one.1 hp
    obtain ⟨hp, h1⟩ := IntOp.andi_eq_one.1 hp
    obtain ⟨-, h0⟩ := IntOp.andi_eq_one.1 hp
    have r0 := real_of_all _ _ _ _ _ _ h0
    have r1 := real_of_all _ _ _ _ _ _ h1
    have r2 := real_of_all _ _ _ _ _ _ h2
    have r3 := real_of_all _ _ _ _ _ _ h3
    have r4 := real_of_all _ _ _ _ _ _ h4
    have r5 := real_of_all _ _ _ _ _ _ h5
    have r6 := real_of_all _ _ _ _ _ _ h6
    have r7 := real_of_all _ _ _ _ _ _ h7
    have r8 := real_of_all _ _ _ _ _ _ h8
    exact ⟨fun s j => r0 _, fun s j => r1 _, fun s j => r2 _, fun k j => (r3 _).add (r4 _), fun j => r5 _, fun j => r8 _, fun i k => r6 _, fun k j => r7 _⟩
  refine ⟨fun c i => (argsOf m c).h (i 1) (i 0), fun c i => (argsOf m c).f (i 0) (i 1), fun c i => (argsOf m c).dx2 (i 0) (i 1),
    fun c i => (argsOf m c).dz (i 0) (i 1), fun c i => (argsOf m c).vec (i 0) (i 1), fun c _ => (argsOf m c).loss, ?_, ?_⟩
  · refine (θ_run _ _ _).mono (fun r h c => ⟨((h.1 c).1 7).trans (array7 m c), ((h.1 c).1 8).trans (array8 m c), ((h.1 c).1 9).trans (array9 m c),
      ((h.1 c).1 10).trans (array10 m c), ((h.1 c).1 11).trans (array11 m c), ((h.1 c).1 12).trans (array12 m c (R c)), args_kept m r h c⟩)
      (run_main (F := Ideal) m g)
  · refine (θ_run _ _ _).mono (fun r h c => ?_) (Cert.MlpRefIdeal.Value.run (F := Ideal) m' g')
    obtain ⟨e0, e1, e2, e3, e4, e5, e6, e7, e8⟩ := hagree c
    have E : argsOf m c = Cert.MlpRef.args
        (m' ((c.tc : Thread Cert.MlpRefIdeal.nD Cert.MlpRefIdeal.τ).loc Cert.MlpRefIdeal.main_arg0))
        (m' ((c.tc : Thread Cert.MlpRefIdeal.nD Cert.MlpRefIdeal.τ).loc Cert.MlpRefIdeal.main_arg1))
        (m' ((c.tc : Thread Cert.MlpRefIdeal.nD Cert.MlpRefIdeal.τ).loc Cert.MlpRefIdeal.main_arg2))
        (m' ((c.tc : Thread Cert.MlpRefIdeal.nD Cert.MlpRefIdeal.τ).loc Cert.MlpRefIdeal.main_arg3))
        (m' ((c.tc : Thread Cert.MlpRefIdeal.nD Cert.MlpRefIdeal.τ).loc Cert.MlpRefIdeal.main_arg4))
        (m' ((c.tc : Thread Cert.MlpRefIdeal.nD Cert.MlpRefIdeal.τ).loc Cert.MlpRefIdeal.main_arg5))
        (m' ((c.tc : Thread Cert.MlpRefIdeal.nD Cert.MlpRefIdeal.τ).loc Cert.MlpRefIdeal.main_arg6))
        (m' ((c.tc : Thread Cert.MlpRefIdeal.nD Cert.MlpRefIdeal.τ).loc Cert.MlpRefIdeal.main_arg7))
        (m' ((c.tc : Thread Cert.MlpRefIdeal.nD Cert.MlpRefIdeal.τ).loc Cert.MlpRefIdeal.main_arg8)) := by
      rw [e0, e1, e2, e3, e4, e5, e6, e7, e8]; rfl
    have RE := E ▸ R c
    obtain ⟨v0, v1, v2, v3, v4, v5, kept⟩ := h c
    clear e0 e1 e2 e3 e4 e5 e6 e7 e8
    refine ⟨v0.trans ?_, v1.trans ?_, v2.trans ?_, v3.trans ?_, v4.trans ?_, v5.trans ?_, kept⟩
    · exact (Cert.MlpRefIdeal.Read.val_main_v105_eq _).trans (Cert.MlpRef.v105_eq _ _ _ _ _ _ _ _ _ |>.trans (congrArg (fun (A : Args) (i : S1024x2048.Idx) => A.h (i 1) (i 0)) E.symm))
    · exact (Cert.MlpRefIdeal.Read.val_main_v106_eq _).trans (Cert.MlpRef.v106_eq _ _ _ _ _ _ _ _ _ |>.trans (congrArg (fun (A : Args) (i : S2048x4096.Idx) => A.f (i 0) (i 1)) E.symm))
    · exact (Cert.MlpRefIdeal.Read.val_main_v107_eq _).trans (Cert.MlpRef.v107_eq _ _ _ _ _ _ _ _ _ RE |>.trans (congrArg (fun (A : Args) (i : S2048x1024.Idx) => A.dx2 (i 0) (i 1)) E.symm))
    · exact (Cert.MlpRefIdeal.Read.val_main_v109_eq _).trans (Cert.MlpRef.v109_eq _ _ _ _ _ _ _ _ _ RE |>.trans (congrArg (fun (A : Args) (i : S2048x1024.Idx) => A.dz (i 0) (i 1)) E.symm))
    · exact (Cert.MlpRefIdeal.Read.val_main_v102_eq _).trans (Cert.MlpRef.v102_eq _ _ _ _ _ _ _ _ _ RE |>.trans (congrArg (fun (A : Args) (i : S8x1024.Idx) => A.vec (i 0) (i 1)) E.symm))
    · exact (Cert.MlpRefIdeal.Read.val_main_v110_eq _).trans (Cert.MlpRef.v110_eq _ _ _ _ _ _ _ _ _ RE |>.trans (congrArg (fun (A : Args) (i : S8x128.Idx) => A.loss) E.symm))

end Cert.MlpValue

end
-- ==== Proof.HalfSpec.lean ====
/- One half of the hidden columns of a layer's feed-forward part, and the gradients through it, as plain functions of
   rows and columns over the extended reals. The hidden columns lie in eight blocks of 512; a half takes every second
   block, and column `q` of block `k` of the half `o` is column `512 (2 k + o) + q` of the whole. -/
module

public import proofs.«01_k».proof.Proof.MlpSpec
public import Idealize.ShloMosaic.Lib.Pipeline.ArrRel

@[expose] public section

set_option maxRecDepth 16384

noncomputable section

namespace Cert.HalfSpec

open Idealize.ShloMosaic Idealize.ShloMosaic.ValueIdx Cert.Reals
open scoped BigOperators

/-- What the two programs read by row and column: the layer's normed input, the gradient of its output, the two
    weights, and the gradient that another half has already given. -/
structure Args where
  h : Fin 2048 → Fin 1024 → EReal
  dz : Fin 2048 → Fin 1024 → EReal
  w1 : Fin 1024 → Fin 4096 → EReal
  w2 : Fin 4096 → Fin 1024 → EReal
  prior : Fin 2048 → Fin 1024 → EReal

/-- The whole's column of a column of a block of the half `o`. -/
def col (o : Fin 2) (k : Fin 4) (q : Fin 512) : Fin 4096 := ⟨512 * (2 * k.val + o.val) + q.val, by omega⟩
/-- The half's columns in one line: column `j` is column `j % 512` of block `j / 512`. -/
def colOf (o : Fin 2) (j : Fin 2048) : Fin 4096 := col o ⟨j.val / 512, by omega⟩ ⟨j.val % 512, by omega⟩
/-- Row `r` of the block `b` of rows. -/
def row (b : Fin 4) (r : Fin 512) : Fin 2048 := ⟨512 * b.val + r.val, by omega⟩

/-- A sum over 2048 in blocks of 512. -/
theorem sum_2048 (g : Fin 2048 → EReal) : ∑ j, g j = ∑ b : Fin 4, ∑ q : Fin 512, g (row b q) := by
  rw [← Finset.sum_product']
  symm
  refine Fintype.sum_equiv (ι := Fin 4 × Fin 512) (κ := Fin 2048) ⟨fun p => row p.1 p.2,
    fun k => (⟨k.val / 512, by omega⟩, ⟨k.val % 512, by omega⟩), fun p => Prod.ext (Fin.ext (by show (512 * p.1.val + p.2.val) / 512 = p.1.val; omega))
      (Fin.ext (by show (512 * p.1.val + p.2.val) % 512 = p.2.val; omega)), fun k => Fin.ext (by show 512 * (k.val / 512) + k.val % 512 = k.val; omega)⟩
    _ _ fun p => rfl

theorem colOf_row (o : Fin 2) (k : Fin 4) (q : Fin 512) : colOf o (row k q) = col o k q := by
  unfold colOf row col
  refine Fin.ext ?_
  show 512 * (2 * ((512 * k.val + q.val) / 512) + o.val) + (512 * k.val + q.val) % 512 = 512 * (2 * k.val + o.val) + q.val
  omega

namespace Args
variable (A : Args) (o : Fin 2)

/-- The hidden layer, and the gradient that reaches it through the square of its positive part. -/
def f (s : Fin 2048) (j : Fin 4096) : EReal := ∑ d, A.h s d * A.w1 d j
def df (s : Fin 2048) (j : Fin 4096) : EReal := (∑ d, A.dz s d * A.w2 j d) * (((2 : ℝ) : EReal) * max (A.f s j) 0)

/-- The gradient of the layer's input through one block of hidden columns, and through the first `n`. -/
def dh (k : Fin 4) (s : Fin 2048) (d : Fin 1024) : EReal := ∑ q, A.df s (col o k q) * A.w1 d (col o k q)
def dhUpto (n : ℕ) (s : Fin 2048) (d : Fin 1024) : EReal := A.prior s d + ∑ k : Fin 4 with k.val < n, A.dh o k s d
def dhAll (s : Fin 2048) (d : Fin 1024) : EReal := A.prior s d + ∑ j, A.df s (colOf o j) * A.w1 d (colOf o j)

/-- The gradients of the two weights over one block of rows, over the first `n`, and over all rows. -/
def g1 (k b : Fin 4) (d : Fin 1024) (q : Fin 512) : EReal := ∑ r, A.h (row b r) d * A.df (row b r) (col o k q)
def g2 (k b : Fin 4) (q : Fin 512) (d : Fin 1024) : EReal :=
  ∑ r, (max (A.f (row b r) (col o k q)) 0 * max (A.f (row b r) (col o k q)) 0) * A.dz (row b r) d
def g1Upto (n : ℕ) (k : Fin 4) (d : Fin 1024) (q : Fin 512) : EReal := ∑ b : Fin 4 with b.val < n, A.g1 o k b d q
def g2Upto (n : ℕ) (k : Fin 4) (q : Fin 512) (d : Fin 1024) : EReal := ∑ b : Fin 4 with b.val < n, A.g2 o k b q d
def g1All (k : Fin 4) (d : Fin 1024) (q : Fin 512) : EReal := ∑ s, A.h s d * A.df s (col o k q)
def g2All (k : Fin 4) (q : Fin 512) (d : Fin 1024) : EReal := ∑ s, (max (A.f s (col o k q)) 0 * max (A.f s (col o k q)) 0) * A.dz s d

end Args

/-- A sum over the first `n` of four, one further. -/
theorem upto_succ (g : Fin 4 → EReal) (n : ℕ) (h : n < 4) :
    ∑ b : Fin 4 with b.val < n + 1, g b = (∑ b : Fin 4 with b.val < n, g b) + g ⟨n, h⟩ := by
  have e : (Finset.univ.filter fun b : Fin 4 => b.val < n + 1) = insert ⟨n, h⟩ (Finset.univ.filter fun b : Fin 4 => b.val < n) := by
    ext b; simp only [Finset.mem_filter, Finset.mem_univ, true_and, Finset.mem_insert, Fin.ext_iff]; omega
  rw [e, Finset.sum_insert (by simp), add_comm]
theorem upto_one (g : Fin 4 → EReal) : ∑ b : Fin 4 with b.val < 1, g b = g 0 := by
  rw [upto_succ g 0 (by omega), Finset.filter_false_of_mem (by intros; omega), Finset.sum_empty, zero_add]; rfl
theorem upto_four (g : Fin 4 → EReal) : ∑ b : Fin 4 with b.val < 4, g b = ∑ b, g b := by
  rw [Finset.filter_true_of_mem (fun b _ => b.isLt)]

theorem Args.dhUpto_four (A : Args) (o : Fin 2) (s d) : A.dhUpto o 4 s d = A.dhAll o s d := by
  unfold Args.dhUpto Args.dhAll Args.dh
  rw [upto_four, sum_2048]
  simp only [colOf_row]
theorem Args.g1Upto_four (A : Args) (o : Fin 2) (k d q) : A.g1Upto o 4 k d q = A.g1All o k d q := by
  unfold Args.g1Upto Args.g1All Args.g1
  rw [upto_four, sum_2048]
theorem Args.g2Upto_four (A : Args) (o : Fin 2) (k q d) : A.g2Upto o 4 k q d = A.g2All o k q d := by
  unfold Args.g2Upto Args.g2All Args.g2
  rw [upto_four, sum_2048]

/-- The gradient through the square of the positive part, as a choice by sign: where the hidden value is not positive its
    positive part is zero, and so is the product. -/
theorem df_select (g x : EReal) : (if (0 : EReal) < x then g * (((2 : ℝ) : EReal) * max x 0) else 0) = g * (((2 : ℝ) : EReal) * max x 0) := by
  split
  · rfl
  · next h => rw [max_eq_right (not_lt.1 h), mul_zero, mul_zero]

end Cert.HalfSpec

/-! ## What a window that is never fetched into holds, by induction over the points -/

namespace Cert.HalfSpec

open Idealize.ShloMosaic Idealize.ShloMosaic.Pipeline Idealize.SL Idealize.SL.RA

variable {nD : ℕ} {τ : Topo} {sig : RefSig} {Val : EltTy → Type} {Λ₀ : Idealize.SL.Sem.Labels}
variable {Ix : Type} [DecidableEq Ix] {Name : Type} [DecidableEq Name] {U : Type} [URA U] {Lvl : Type}
variable {cfg : Cfg sig Λ₀} {c : Dev nD} (rd : RDat τ Val Ix Name U Lvl cfg c)

/-- What the body may leave in such a window satisfies `P`, if `P` follows from any contents at the first point and just
    after a write-back, and from `P` at the point before elsewhere. -/
theorem leaves_ind (w : Fin cfg.W) (hf : ∀ t, (cfg.win w).fetch t = false) (P : Fin cfg.N → ((cfg.win w).block.Idx → Val (cfg.win w).elt) → Prop)
    (step : ∀ (t : Fin cfg.N) Y X, rd.after w t Y X →
      (t.val = 0 ∨ (cfg.win w).flush ⟨t.val - 1, Nat.lt_of_le_of_lt (Nat.sub_le _ _) t.isLt⟩ = true
        ∨ P ⟨t.val - 1, Nat.lt_of_le_of_lt (Nat.sub_le _ _) t.isLt⟩ Y) → P t X) :
    ∀ t X, rd.Leaves w t X → P t X := by
  suffices H : ∀ n (hn : n < cfg.N) X, rd.Leaves w ⟨n, hn⟩ X → P ⟨n, hn⟩ X from fun t => H t.val t.isLt
  intro n
  induction n with
  | zero =>
    rintro hn X ⟨Y, -, hX⟩
    exact step _ Y X hX (.inl rfl)
  | succ n ih =>
    rintro hn X ⟨Y, hY, hX⟩
    refine step _ Y X hX (.inr ?_)
    rcases (rd.finds_of_pos (hf _) (Nat.succ_ne_zero n) Y).1 hY with h | h
    · exact .inl h
    · exact .inr (ih _ Y h)

end Cert.HalfSpec

/-! ## The rows of the input's gradient, point by point -/

namespace Cert.HalfSpec

open Idealize.ShloMosaic Idealize.ShloMosaic.ValueIdx Cert.Reals
open scoped BigOperators

variable (A : Args) (o : Fin 2)

/-- After point `t` the rows of block `b` hold the gradient through the hidden blocks that have been over them. -/
def Upto (t : ℕ) (X : (⟨2, ![2048, 1024]⟩ : Shape).Idx → EReal) : Prop :=
  ∀ (b : Fin 4) (r : Fin 512) (d : Fin 1024), 0 < (t + 4 - b.val) / 4 → X (ix2 (row b r) d) = A.dhUpto o ((t + 4 - b.val) / 4) (row b r) d

theorem upto_step (k b : Fin 4) (Y X : (⟨2, ![2048, 1024]⟩ : Shape).Idx → EReal)
    (hin : ∀ r d, X (ix2 (row b r) d) = if k = 0 then A.prior (row b r) d + A.dh o 0 (row b r) d else Y (ix2 (row b r) d) + A.dh o k (row b r) d)
    (hout : ∀ b', b' ≠ b → ∀ r d, X (ix2 (row b' r) d) = Y (ix2 (row b' r) d))
    (hY : 4 * k.val + b.val = 0 ∨ Upto A o (4 * k.val + b.val - 1) Y) : Upto A o (4 * k.val + b.val) X := by
  intro b' r d hp
  by_cases hb : b' = b
  · subst hb
    rw [show (4 * k.val + b'.val + 4 - b'.val) / 4 = k.val + 1 by omega, hin]
    by_cases hk : k = 0
    · subst hk
      rw [if_pos rfl]
      exact congrArg (A.prior _ _ + ·) (upto_one (fun k => A.dh o k (row b' r) d)).symm
    · have hk' : k.val ≠ 0 := fun h => hk (Fin.ext h)
      have h := (hY.resolve_left (by omega)) b' r d (by omega)
      rw [show (4 * k.val + b'.val - 1 + 4 - b'.val) / 4 = k.val by omega] at h
      rw [if_neg hk, h]
      unfold Args.dhUpto
      rw [upto_succ _ k.val k.isLt, add_assoc]
  · have hv : b'.val ≠ b.val := fun h => hb (Fin.ext h)
    have h0 : 4 * k.val + b.val ≠ 0 := by omega
    have h := (hY.resolve_left h0) b' r d (by omega)
    rw [show (4 * k.val + b.val - 1 + 4 - b'.val) / 4 = (4 * k.val + b.val + 4 - b'.val) / 4 by omega] at h
    rw [hout b' hb, h]

theorem upto_last (X : (⟨2, ![2048, 1024]⟩ : Shape).Idx → EReal) (h : Upto A o 15 X) (s : Fin 2048) (d : Fin 1024) : X (ix2 s d) = A.dhAll o s d := by
  have e : s = row ⟨s.val / 512, by omega⟩ ⟨s.val % 512, by omega⟩ := Fin.ext (by show s.val = 512 * (s.val / 512) + s.val % 512; omega)
  have h' := h ⟨s.val / 512, by omega⟩ ⟨s.val % 512, by omega⟩ d (by show 0 < (15 + 4 - s.val / 512) / 4; omega)
  rw [← e, show (15 + 4 - (⟨s.val / 512, by omega⟩ : Fin 4).val) / 4 = 4 by show (15 + 4 - s.val / 512) / 4 = 4; omega, Args.dhUpto_four] at h'
  exact h'

end Cert.HalfSpec

end
-- ==== Proof.Overlay.lean ====
/- A block of rows of a buffer overwritten, as a relation between the buffer before and after. -/
module

public import Idealize.ShloMosaic.Lib.Writes

@[expose] public section

noncomputable section

namespace Cert.Overlay

open Idealize.ShloMosaic

variable {Val : EltTy → Type} {S : Shape} {e : EltTy}

/-- `X` is `Y` with `w` written through the rectangle `r`. -/
def Over (r : Rect S) (w : r.shape.Idx → Val e) (Y X : S.Idx → Val e) : Prop :=
  (∀ x, X (r.emb x) = w x) ∧ ∀ y, y ∉ r.set → X y = Y y

theorem over_writes {sig : RefSig} {κ : Kind} {sp : Space} (v : View sig κ sp S e) (f : v.ty.Contents Val) (r : Rect S) (w : r.shape.Idx → Val e) :
    Over r w (v.read Val f) (v.read Val (v.writes Val f [⟨r, w⟩])) :=
  ⟨fun x => View.read_writes_cons_emb v f r w [] x,
    fun y hy => View.read_writes_apply_of_forall_not_mem v f y _ fun p hp => by
      obtain rfl := List.mem_singleton.1 hp; exact hy⟩

end Cert.Overlay

end
-- ==== Proof.OddRun.lean ====
/- The body of `_mlp_bwd_half` for the odd blocks of the hidden columns, run once at a grid point. -/
module

public import proofs.«01_k».proof.Proof.Overlay
public import proofs.«01_k».proof.Proof.Gen.OddIdeal.Launch
public import proofs.«01_k».proof.Proof.Gen.OddIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

noncomputable section

namespace Cert.OddRun

open Cert.OddIdeal Cert.OddIdeal.Gen Cert.Overlay
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body reads at a point. -/
structure Ins (F : FTy → Type) where
  h : Vec F S1024x512 .bf16
  f : Vec F S512x512 .f32
  dz : Vec F S512x1024 .bf16
  w1 : Vec F S1x512x1024 .bf16
  w2 : Vec F S1x512x1024 .bf16

/-- The gradient of the layer's input over one block of rows, through one block of hidden columns. -/
def Ins.dh (B : Ins F) : Vec F S512x1024 .f32 := k0_pay5 B.w1 B.w2 B.dz B.f

/-- What the body leaves of the two weights' gradients. -/
def Ins.d1 (i : grid0.Coords) (B : Ins F) (Y : Vec F S1x1024x512 .f32) : Vec F S1x1024x512 .f32 :=
  if k0_cond1 i = 1#1 then k0_pay9 B.w2 B.dz B.f B.h else k0_pay11 B.w2 B.dz B.f B.h Y
def Ins.d2 (i : grid0.Coords) (B : Ins F) (Y : Vec F S1x512x1024 .f32) : Vec F S1x512x1024 .f32 :=
  if k0_cond1 i = 1#1 then k0_pay8 B.dz B.f else k0_pay10 B.dz B.f Y

/-- What it leaves of the input's gradient: the rows of the point's block written or added to, the others as they were. -/
def Ins.Rows (i : grid0.Coords) (B : Ins F) (Y X : Vec F S2048x1024 .f32) : Prop :=
  (∀ h : k0_cond3 i = 1#1, Over (Val := Elt F) (e := .f32) (Rect.unit (s := S2048x1024) (k0_off1 i) S512x1024.size (k0_off1_inb i h)) B.dh Y X)
    ∧ ∀ h : k0_cond4 i = 1#1, Over (Val := Elt F) (e := .f32) (Rect.unit (s := S2048x1024) (k0_off2 i) S512x1024.size (k0_off2_inb i h))
        (k0_pay1 B.dh (View.ld Y (Rect.unit (s := S2048x1024) (k0_off2 i) S512x1024.size (k0_off2_inb i h)))) Y X

theorem cond2_iff : ∀ i : grid0.Coords, k0_cond2 i = 1#1 ↔ ¬ k0_cond1 i = 1#1 := by decide +kernel
theorem cond4_iff : ∀ i : grid0.Coords, k0_cond4 i = 1#1 ↔ ¬ k0_cond3 i = 1#1 := by decide +kernel

section Body
variable (c : Dev nD) (i : grid0.Coords) (arg2 : Memref sig .tc .smem S2 .i32) (harg2 : arg2.IsWhole) (arg3 : Memref sig .tc .vmem S1024x512 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S2048x1024 .f32) (harg8 : arg8.IsWhole) (arg9 : Memref sig .tc .vmem S1x1024x512 .f32) (harg9 : arg9.IsWhole) (arg10 : Memref sig .tc .vmem S1x512x1024 .f32) (harg10 : arg10.IsWhole)

/-- The blocks the body reads. -/
abbrev insOwned (B : Ins F) : sProp 𝕄 :=
  iprop(owns (c : Thread nD τ) arg3 fullShare B.h ∗ owns (c : Thread nD τ) arg4 fullShare B.f ∗ owns (c : Thread nD τ) arg5 fullShare B.dz ∗ owns (c : Thread nD τ) arg6 fullShare B.w1 ∗ owns (c : Thread nD τ) arg7 fullShare B.w2)

set_option maxHeartbeats 800000 in
theorem body_run (B : Ins F) (Y1 : Vec F S2048x1024 .f32) (Y2 : Vec F S1x1024x512 .f32) (Y3 : Vec F S1x512x1024 .f32) (K : PUnit → sProp 𝕄) :
    iprop(insOwned c arg3 arg4 arg5 arg6 arg7 B
        ∗ owns (c : Thread nD τ) arg8 fullShare Y1 ∗ owns (c : Thread nD τ) arg9 fullShare Y2 ∗ owns (c : Thread nD τ) arg10 fullShare Y3
        ∗ (iprop(insOwned c arg3 arg4 arg5 arg6 arg7 B
            ∗ (∃ X, ⌜B.Rows i Y1 X⌝ ∗ owns (c : Thread nD τ) arg8 fullShare X)
            ∗ owns (c : Thread nD τ) arg9 fullShare (B.d1 i Y2) ∗ owns (c : Thread nD τ) arg10 fullShare (B.d2 i Y3)) -∗ K ⟨⟩))
      ⊢ wp frame (wpE (defs₀ (F := F)) Variants.none c none) Set.univ (cc0_mlp_bwd_first (F := F) i arg2 harg2 arg3 harg3 arg4 harg4 arg5 harg5 arg6 harg6 arg7 harg7 arg8 harg8 arg9 harg9 arg10 harg10) K := by
  rcases B with ⟨bh, bf, bdz, bw1, bw2⟩
  unfold insOwned owns
  dsimp only
  iintro ⟨⟨⟨%f3, %h3, H3⟩, ⟨%f4, %h4, H4⟩, ⟨%f5, %h5, H5⟩, ⟨%f6, %h6, H6⟩, ⟨%f7, %h7, H7⟩⟩, ⟨%f8, %h8, H8⟩, ⟨%f9, %h9, H9⟩, ⟨%f10, %h10, H10⟩, Hk⟩
  subst h3 h4 h5 h6 h7 h8 h9 h10
  have e2 := cond2_iff i
  have e4 := cond4_iff i
  rw [cc0_mlp_bwd_first_eq_skeleton]; unfold cc0_mlp_bwd_first_skel
  rw [k0_part1_eq_skeleton]; unfold k0_part1_skel
  by_cases k1 : k0_cond1 i = 1#1
  all_goals by_cases k3 : k0_cond3 i = 1#1
  all_goals first | have k2 := e2.2 k1 | have k2 := fun h => e2.1 h k1
  all_goals first | have k4 := e4.2 k3 | have k4 := fun h => e4.1 h k3
  all_goals
    sl_exec
    sl_step
    rw [View.readAt_full arg6.view f6, View.readAt_full arg7.view f7, View.readAt_full arg5.view f5, View.readAt_full arg4.view f4, View.readAt_full arg3.view f3]
    try rw [View.readAt_full arg9.view f9]
    try rw [View.readAt_full arg10.view f10]

    iapply Hk
    isplitl [H3 H4 H5 H6 H7]
    · isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      iexists f7; isplitr; · ipureintro; rfl
      iexact H7
    isplitl [H8]
    · iexists _; isplitr; swap
      · iexists _; isplitr; swap; · iexact H8
        ipureintro; rfl
      ipureintro
      refine ⟨fun h => ?_, fun h => ?_⟩
      all_goals first | (exfalso; first | exact k3 h | exact k4 h; done) | (dsimp only [Ins.dh]; exact over_writes (Val := Elt F) (e := .f32) arg8.view f8 _ _)
    isplitl [H9]
    · iexists _; isplitr; swap; · iexact H9
      ipureintro
      unfold Ins.d1
      first | rw [if_pos k1] | rw [if_neg k1]
      exact View.read_writes_full _ _ _ _ _
    iexists _; isplitr; swap; · iexact H10
    ipureintro
    unfold Ins.d2
    first | rw [if_pos k1] | rw [if_neg k1]
    exact View.read_writes_full _ _ _ _ _

end Body

end Cert.OddRun

end
-- ==== Proof.HalfBlock.lean ====
/- One grid point of `_mlp_bwd_half`: what the body computes of its five blocks, by row and column. -/
module

public import proofs.«01_k».proof.Proof.HalfSpec
public import proofs.«01_k».proof.Proof.OddRun
public import Idealize.ShloMosaic.Lib.MatmulPlain
public import Idealize.ShloMosaic.Lib.Pointwise.Contract
public import Idealize.ShloMosaic.Lib.ValueLayoutCasts

@[expose] public section

set_option maxRecDepth 16384

noncomputable section

namespace Cert.HalfBlock

open Idealize.ShloMosaic hiding ix2 ix3
open Idealize.ShloMosaic.ValueIdx Idealize.ShloMosaic.TcCoe Cert.Reals Cert.HalfSpec
open Cert.OddIdeal Cert.OddIdeal.Gen
open scoped BigOperators

theorem dot_nt (L R : FVec Ideal S512x1024 .bf16) (r q : Fin 512) :
    matmul dot_S512x1024_S512x1024_S512x512_1_1_0_0_n_n none L R (constant (F := Ideal) S512x512 .f32 0x00000000#32) (ix2 r q)
      = ∑ d : Fin 1024, L (ix2 r d) * R (ix2 q d) := by
  refine Eq.trans (Ideal.matmul_transposedRhs_apply (M := 512) (K := 1024) (N := 512) none L R (constant (F := Ideal) S512x512 .f32 0x00000000#32) r q) ?_
  rw [constant_apply, ofBits_zero, zero_add]
theorem dot_nn (L : FVec Ideal S512x512 .bf16) (R : FVec Ideal S512x1024 .bf16) (r : Fin 512) (d : Fin 1024) :
    matmul dot_S512x512_S512x1024_S512x1024_1_0_0_1_n_n none L R (constant (F := Ideal) S512x1024 .f32 0x00000000#32) (ix2 r d)
      = ∑ q : Fin 512, L (ix2 r q) * R (ix2 q d) := by
  refine Eq.trans (Ideal.matmul_plain_apply (M := 512) (K := 512) (N := 1024) none L R (constant (F := Ideal) S512x1024 .f32 0x00000000#32) r d) ?_
  rw [constant_apply, ofBits_zero, zero_add]
theorem dot_nn' (L : FVec Ideal S1024x512 .bf16) (R : FVec Ideal S512x512 .bf16) (d : Fin 1024) (q : Fin 512) :
    matmul dot_S1024x512_S512x512_S1024x512_1_0_0_1_n_n none L R (constant (F := Ideal) S1024x512 .f32 0x00000000#32) (ix2 d q)
      = ∑ r : Fin 512, L (ix2 d r) * R (ix2 r q) := by
  refine Eq.trans (Ideal.matmul_plain_apply (M := 1024) (K := 512) (N := 512) none L R (constant (F := Ideal) S1024x512 .f32 0x00000000#32) d q) ?_
  rw [constant_apply, ofBits_zero, zero_add]
theorem dot_tn (L : FVec Ideal S512x512 .bf16) (R : FVec Ideal S512x1024 .bf16) (q : Fin 512) (d : Fin 1024) :
    matmul dot_S512x512_S512x1024_S512x1024_0_0_1_1_n_n none L R (constant (F := Ideal) S512x1024 .f32 0x00000000#32) (ix2 q d)
      = ∑ r : Fin 512, L (ix2 r q) * R (ix2 r d) := by
  refine Eq.trans (Ideal.matmul_apply₁_of dot_S512x512_S512x1024_S512x1024_0_0_1_1_n_n (a := 0) rfl (K := 512) rfl L R
    (constant (F := Ideal) S512x1024 .f32 0x00000000#32) (ix2 q d) (fun r => ix2 r q) (fun r => ix2 r d) (fun r => ?_) (fun r => ?_)) ?_
  · funext a; match a with | ⟨0, _⟩ => rfl | ⟨1, _⟩ => rfl
  · funext a; match a with | ⟨0, _⟩ => rfl | ⟨1, _⟩ => rfl
  · rw [constant_apply, ofBits_zero, zero_add]

/-- The blocks are block `b` of the rows and block `k` of the half's columns of the arguments. -/
structure Matches (h : Vec Ideal S1024x512 .bf16) (f : Vec Ideal S512x512 .f32) (dz : Vec Ideal S512x1024 .bf16) (w1 w2 : Vec Ideal S1x512x1024 .bf16)
    (A : Args) (o : Fin 2) (k b : Fin 4) : Prop where
  h : ∀ (d : Fin 1024) (r : Fin 512), h (ix2 d r) = A.h (row b r) d
  f : ∀ r q : Fin 512, f (ix2 r q) = A.f (row b r) (col o k q)
  dz : ∀ (r : Fin 512) (d : Fin 1024), dz (ix2 r d) = A.dz (row b r) d
  w1 : ∀ (q : Fin 512) (d : Fin 1024), w1 (ix3 0 q d) = A.w1 d (col o k q)
  w2 : ∀ (q : Fin 512) (d : Fin 1024), w2 (ix3 0 q d) = A.w2 (col o k q) d

variable {h : Vec Ideal S1024x512 .bf16} {f : Vec Ideal S512x512 .f32} {dz : Vec Ideal S512x1024 .bf16} {w1 w2 : Vec Ideal S1x512x1024 .bf16}
  {A : Args} {o : Fin 2} {k b : Fin 4} (M : Matches h f dz w1 w2 A o k b)
include M

theorem rf_apply (r q : Fin 512) : k0_pay3 (F := Ideal) f (ix2 r q) = max (A.f (row b r) (col o k q)) 0 := by
  unfold k0_pay3
  simp only [shapeCast_self]
  show max (f (ix2 r q)) (Ideal.ofBits .f32 0x00000000#32) = _
  rw [M.f, ofBits_zero]

theorem df_apply (r q : Fin 512) : k0_pay4 (F := Ideal) w2 dz f (ix2 r q) = A.df (row b r) (col o k q) := by
  unfold k0_pay4 k0_pay2
  simp only [shapeCast_self]
  rw [truncf_apply, mulf_apply, dot_nt, mulf_apply, rf_apply M]
  show _ * (Ideal.ofBits .f32 0x40000000#32 * _) = _
  rw [Cert.MlpSpec.bits_two]
  unfold Args.df
  refine congrArg (· * _) (Finset.sum_congr rfl fun d _ => ?_)
  rw [M.dz, shapeCast_1ab_ab_apply (a := 512) (b := 1024), M.w2]

theorem dh_apply (r : Fin 512) (d : Fin 1024) : k0_pay5 (F := Ideal) w1 w2 dz f (ix2 r d) = A.dh o k (row b r) d := by
  unfold k0_pay5
  rw [dot_nn]
  unfold Args.dh
  refine Finset.sum_congr rfl fun q _ => ?_
  rw [df_apply M, shapeCast_1ab_ab_apply (a := 512) (b := 1024), M.w1]

theorem g1_apply (d : Fin 1024) (q : Fin 512) : k0_pay6 (F := Ideal) w2 dz f h (ix2 d q) = A.g1 o k b d q := by
  unfold k0_pay6
  simp only [shapeCast_self]
  rw [dot_nn']
  unfold Args.g1
  refine Finset.sum_congr rfl fun r _ => ?_
  rw [df_apply M, M.h]

theorem g2_apply (q : Fin 512) (d : Fin 1024) : k0_pay7 (F := Ideal) dz f (ix2 q d) = A.g2 o k b q d := by
  unfold k0_pay7 k0_pay2
  simp only [shapeCast_self]
  rw [dot_tn]
  unfold Args.g2
  refine Finset.sum_congr rfl fun r _ => ?_
  rw [truncf_apply, mulf_apply, rf_apply M, M.dz]

/-- The first block of rows starts the sums of the weights' gradients, each later one adds to them. -/
theorem d1_first (d : Fin 1024) (q : Fin 512) : k0_pay9 (F := Ideal) w2 dz f h (ix3 0 d q) = A.g1 o k b d q := by
  unfold k0_pay9
  exact (shapeCast_ab_1ab_apply (a := 1024) (b := 512) _ _ 0 d q).trans (g1_apply M d q)
theorem d1_next (Y : Vec Ideal S1x1024x512 .f32) (d : Fin 1024) (q : Fin 512) :
    k0_pay11 (F := Ideal) w2 dz f h Y (ix3 0 d q) = Y (ix3 0 d q) + A.g1 o k b d q := by
  unfold k0_pay11
  refine (shapeCast_ab_1ab_apply (a := 1024) (b := 512) _ _ 0 d q).trans ?_
  rw [addf_apply, g1_apply M, shapeCast_1ab_ab_apply (a := 1024) (b := 512)]
theorem d2_first (q : Fin 512) (d : Fin 1024) : k0_pay8 (F := Ideal) dz f (ix3 0 q d) = A.g2 o k b q d := by
  unfold k0_pay8
  exact (shapeCast_ab_1ab_apply (a := 512) (b := 1024) _ _ 0 q d).trans (g2_apply M q d)
theorem d2_next (Y : Vec Ideal S1x512x1024 .f32) (q : Fin 512) (d : Fin 1024) :
    k0_pay10 (F := Ideal) dz f Y (ix3 0 q d) = Y (ix3 0 q d) + A.g2 o k b q d := by
  unfold k0_pay10
  refine (shapeCast_ab_1ab_apply (a := 512) (b := 1024) _ _ 0 q d).trans ?_
  rw [addf_apply, g2_apply M, shapeCast_1ab_ab_apply (a := 512) (b := 1024)]

end Cert.HalfBlock

end
-- ==== Proof.OddGrid.lean ====
/- `_mlp_bwd_half` for the odd blocks: its grid at the table it prefetches, which holds zeros. -/
module

public import proofs.«01_k».proof.Proof.Gen.OddIdeal.Launch
public import Idealize.ShloMosaic.Lib.Pipeline.FrameBody
public import Idealize.ShloMosaic.Lib.Pipeline.ArrRel
public import Idealize.ShloMosaic.Lib.Ring
public import Idealize.ShloMosaic.Lib.Tactic
public import Idealize.ShloMosaic.Lib.Affine

@[expose] public section

noncomputable section

namespace Cert.OddGrid

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window)

variable {F : FTy → Type} [FloatOps F]

/-! ## The prefetched table -/

/-- The table: the device's place on each of two axes, zero on the one device. -/
def table : pre0.Contents (Elt F) := fun
  | 0 => fun _ => (0#32 : BitVec 32)
  | ⟨_ + 1, h⟩ => absurd h (Nat.not_lt.2 (Nat.le_add_left _ _))

/-- The block of the hidden columns a grid point is on. -/
def word (i : grid0.Coords) : BitVec 32 :=
  Scalar.addi (Scalar.muli 2#32 (BitVec.ofNat 32 (i 0).val)) (Scalar.xori 0#32 1#32)
theorem word_eq : ∀ i : grid0.Coords, (word i).toNat = 2 * (i 0).val + 1 := by decide +kernel
theorem row_eq : ∀ i : grid0.Coords, (BitVec.ofNat 32 (i 1).val).toNat = (i 1).val := by decide +kernel

theorem map_1 (i : grid0.Coords) : cc0_transform_1 inb_S2_S1_0 numel1_S1 (table (F := F)) i = ![(i 1).val, 2 * (i 0).val + 1] := by
  rw [show cc0_transform_1 inb_S2_S1_0 numel1_S1 (table (F := F)) i = ![(BitVec.ofNat 32 (i 1).val).toNat, (word i).toNat] from rfl,
    word_eq, row_eq]
theorem map_3 (i : grid0.Coords) : cc0_transform_3 inb_S2_S1_0 numel1_S1 (table (F := F)) i = ![2 * (i 0).val + 1, 0, 0] := by
  rw [show cc0_transform_3 inb_S2_S1_0 numel1_S1 (table (F := F)) i = ![(word i).toNat, 0, 0] from rfl, word_eq]
theorem map_4 (i : grid0.Coords) : cc0_transform_4 inb_S2_S1_0 numel1_S1 (table (F := F)) i = ![2 * (i 0).val + 1, 1, 0] := by
  rw [show cc0_transform_4 inb_S2_S1_0 numel1_S1 (table (F := F)) i = ![(word i).toNat, 1, 0] from rfl, word_eq]

/-- At the table every window's block lies inside its array. -/
theorem table_ok : ok0 (table (F := F)) := by
  refine ⟨fun i => ⟨?_, .inl rfl⟩, fun i => ⟨?_, .inr (Affine.block_words_dvd (s := S8x1024x1024) (p := EltTy.packing .bf16) (by decide) (by decide))⟩,
    fun i => ⟨?_, .inr (Affine.block_words_dvd (s := S8x1024x1024) (p := EltTy.packing .bf16) (by decide) (by decide))⟩⟩
  · rw [map_1]; revert i; decide +kernel
  · rw [map_3]; revert i; decide +kernel
  · rw [map_4]; revert i; decide +kernel

/-- The table as admissible contents, and the pipeline at it. -/
def adm : (pcfg0 (F := F)).Adm := ⟨table, table_ok⟩
abbrev cfgA : Cfg sig Λ₀ := cfg0 (F := F) adm
abbrev winA (w : Fin 8) : Window sig grid0 := (cfgA (F := F)).win w

/-! ## When the outputs are written back -/

theorem flush_5 : ∀ t : Fin (cfgA (F := F)).N, ((cfgA (F := F)).win 5).flush t = true ↔ t.val % 16 = 15 :=
  (fun t => Window.flush_const (winA (F := F) 5) rfl (fun _ _ => rfl) (n := 16) (by decide) rfl t : ∀ t : Fin grid0.N, (winA (F := F) 5).flush t = true ↔ t.val % 16 = 15)
theorem flush_6 : ∀ t : Fin (cfgA (F := F)).N, ((cfgA (F := F)).win 6).flush t = true ↔ t.val % 4 = 3 :=
  (fun t => Window.flush_reads (winA (F := F) 6) rfl 0 (by decide) (show grid0.fixedAfter reads0_6 0 = true by decide) (Window.sep_of_coord cc0_transform_6 0 0 (fun _ => rfl) (by decide)) (P := 4) (m := 3) (by decide) rfl t : ∀ t : Fin grid0.N, (winA (F := F) 6).flush t = true ↔ t.val % 4 = 3)
theorem flush_7 : ∀ t : Fin (cfgA (F := F)).N, ((cfgA (F := F)).win 7).flush t = true ↔ t.val % 4 = 3 :=
  (fun t => Window.flush_reads (winA (F := F) 7) rfl 0 (by decide) (show grid0.fixedAfter reads0_7 0 = true by decide) (Window.sep_of_coord cc0_transform_7 0 0 (fun _ => rfl) (by decide)) (P := 4) (m := 3) (by decide) rfl t : ∀ t : Fin grid0.N, (winA (F := F) 7).flush t = true ↔ t.val % 4 = 3)

/-! ## The staging buffers and the body at a point -/

abbrev st_0 (t : Fin (cfgA (F := F)).N) := ((cfgA (F := F)).win 0).stage ((cfgA (F := F)).slots t 0)
abbrev st_1 (t : Fin (cfgA (F := F)).N) := ((cfgA (F := F)).win 1).stage ((cfgA (F := F)).slots t 1)
abbrev st_2 (t : Fin (cfgA (F := F)).N) := ((cfgA (F := F)).win 2).stage ((cfgA (F := F)).slots t 2)
abbrev st_3 (t : Fin (cfgA (F := F)).N) := ((cfgA (F := F)).win 3).stage ((cfgA (F := F)).slots t 3)
abbrev st_4 (t : Fin (cfgA (F := F)).N) := ((cfgA (F := F)).win 4).stage ((cfgA (F := F)).slots t 4)
abbrev st_5 (t : Fin (cfgA (F := F)).N) := ((cfgA (F := F)).win 5).stage ((cfgA (F := F)).slots t 5)
abbrev st_6 (t : Fin (cfgA (F := F)).N) := ((cfgA (F := F)).win 6).stage ((cfgA (F := F)).slots t 6)
abbrev st_7 (t : Fin (cfgA (F := F)).N) := ((cfgA (F := F)).win 7).stage ((cfgA (F := F)).slots t 7)

/-- The body at a point. -/
abbrev bodyAt (t : Fin (cfgA (F := F)).N) : Prog (TpuEff nD τ sig (Elt F) Λ₀ .tc) PUnit :=
  cc0_mlp_bwd_first (grid0.coords t) (Memref.whole main_v12) (Memref.isWhole_whole _) (st_0 (F := F) t) (hstage0_0 (((cfgA (F := F)).slots t 0).cast nbuf0_0)) (st_1 (F := F) t) (hstage0_1 (((cfgA (F := F)).slots t 1).cast nbuf0_1)) (st_2 (F := F) t) (hstage0_2 (((cfgA (F := F)).slots t 2).cast nbuf0_2)) (st_3 (F := F) t) (hstage0_3 (((cfgA (F := F)).slots t 3).cast nbuf0_3)) (st_4 (F := F) t) (hstage0_4 (((cfgA (F := F)).slots t 4).cast nbuf0_4)) (st_5 (F := F) t) (hstage0_5 (((cfgA (F := F)).slots t 5).cast nbuf0_5)) (st_6 (F := F) t) (hstage0_6 (((cfgA (F := F)).slots t 6).cast nbuf0_6)) (st_7 (F := F) t) (hstage0_7 (((cfgA (F := F)).slots t 7).cast nbuf0_7))

/-! ## The host lines before the call -/

variable (m : (ℓ : Loc nD τ sig) → Buf (Elt F) ℓ)

/-- The buffers as the call finds them. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program runs its host lines, then the call. -/
theorem main_host : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main hostOps0 hostOps0_sub host_fresh main_chain

/-- What the host lines write. -/
abbrev written : List (Ref sig .tc) := [main_v0, main_v1, main_v2, main_v3, main_v4, main_v5, main_v6, main_v7, main_v8, main_v9, main_v10, main_v11, main_c, main_v12, main_v13, main_v14, main_v15, main_v16, main_v17]
theorem host_writes : ((hostOps0 (F := F)) : List (HloOp τ sig (Elt F))).Forall fun op => op.writes ⊆ (written.map (Proc.devRef (τ := τ) .tc)).toFinset :=
  StableHlo.forall_writes_sub_of_map rfl

theorem V_main_arg0 (c : Dev nD) : V m c main_arg0 = m ((c : Thread nD τ).loc main_arg0) :=
  StableHlo.after_of_writes_sub (hostOps0 (F := F)) _ host_writes (by decide)
theorem V_main_arg1 (c : Dev nD) : V m c main_arg1 = m ((c : Thread nD τ).loc main_arg1) :=
  StableHlo.after_of_writes_sub (hostOps0 (F := F)) _ host_writes (by decide)
theorem V_main_arg2 (c : Dev nD) : V m c main_arg2 = m ((c : Thread nD τ).loc main_arg2) :=
  StableHlo.after_of_writes_sub (hostOps0 (F := F)) _ host_writes (by decide)
theorem V_main_arg3 (c : Dev nD) : V m c main_arg3 = m ((c : Thread nD τ).loc main_arg3) :=
  StableHlo.after_of_writes_sub (hostOps0 (F := F)) _ host_writes (by decide)

/-- The host lines fill the table with zeros. -/
theorem V_table (c : Dev nD) (k : Fin (pcfgs (F := F) 0).pre.K) : V m c ((pcfgs (F := F) 0).pre.ref k) = (adm (F := F)).1 k := by
  fin_cases k
  show StableHlo.after hostOps0 _ (main_v12 : Ref sig .tc) = _
  simp only [hostOps0]
  after_results <;> rfl

/-- A window's block at a point, of its array as the call finds it. -/
def iblk (c : Dev nD) (w : Fin (cfgA (F := F)).W) (t : Fin (cfgA (F := F)).N) : (((cfgA (F := F)).win w).xblock (grid0.coords t)).Idx → Elt F ((cfgA (F := F)).win w).elt :=
  (((cfgA (F := F)).win w).blk t).view.read (Elt F) (V m c (Pipeline.arrRef spec0 w))

end Cert.OddGrid

end
-- ==== Proof.OddFrame.lean ====
/- `_mlp_bwd_half` for the odd blocks over its grid: the frame of the run. -/
module

public import proofs.«01_k».proof.Proof.OddRun
public import proofs.«01_k».proof.Proof.OddGrid

@[expose] public section

noncomputable section

namespace Cert.OddFrame

open Cert.OddIdeal Cert.OddIdeal.Gen Cert.OddRun Cert.OddGrid
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body reads at a point. -/
def insAt (c : Dev nD) (t : Fin (cfgA (F := F)).N) : Ins F :=
  ⟨iblk m c 0 t, iblk m c 1 t, iblk m c 2 t, iblk m c 3 t, iblk m c 4 t⟩

/-- What the body may leave in each window at a point, of what it found there. -/
def rdat (c : Dev nD) : RDat τ (Elt F) Unit ℕ (UR sig nD τ) ℕ (cfgA (F := F)) c where
  A w := V m c (Pipeline.arrRef spec0 w)
  after w t := match w with
    | ⟨0, _⟩ => fun Y X => X = Y | ⟨1, _⟩ => fun Y X => X = Y | ⟨2, _⟩ => fun Y X => X = Y | ⟨3, _⟩ => fun Y X => X = Y | ⟨4, _⟩ => fun Y X => X = Y
    | ⟨5, _⟩ => fun Y X => (insAt m c t).Rows (grid0.coords t) Y X
    | ⟨6, _⟩ => fun Y X => X = (insAt m c t).d1 (grid0.coords t) Y
    | ⟨7, _⟩ => fun Y X => X = (insAt m c t).d2 (grid0.coords t) Y
  Φ _ := Pipeline.ΦA spec0 c
  q := Pipeline.shareOf spec0
  owed _ := 0

theorem A_eq (c : Dev nD) (w : Fin (cfgA (F := F)).W) : (rdat m c).A w = V m c (Pipeline.arrRef spec0 w) := by
  dsimp only [rdat]

theorem finds_0 (c : Dev nD) (t : Fin (cfgA (F := F)).N) (Y) (h : (rdat m c).Finds 0 t Y) : Y = iblk m c 0 t :=
  let ⟨_, e⟩ := (rdat m c).finds_in_eq_fetched 0 rfl (fun _ _ _ => rfl) (fun _ _ _ h => h) t Y h
  e.trans rfl
theorem finds_1 (c : Dev nD) (t : Fin (cfgA (F := F)).N) (Y) (h : (rdat m c).Finds 1 t Y) : Y = iblk m c 1 t :=
  let ⟨_, e⟩ := (rdat m c).finds_in_eq_fetched 1 rfl (fun _ _ _ => rfl) (fun _ _ _ h => h) t Y h
  e.trans rfl
theorem finds_2 (c : Dev nD) (t : Fin (cfgA (F := F)).N) (Y) (h : (rdat m c).Finds 2 t Y) : Y = iblk m c 2 t :=
  let ⟨_, e⟩ := (rdat m c).finds_in_eq_fetched 2 rfl (fun _ _ _ => rfl) (fun _ _ _ h => h) t Y h
  e.trans rfl
theorem finds_3 (c : Dev nD) (t : Fin (cfgA (F := F)).N) (Y) (h : (rdat m c).Finds 3 t Y) : Y = iblk m c 3 t :=
  let ⟨_, e⟩ := (rdat m c).finds_in_eq_fetched 3 rfl (fun _ _ _ => rfl) (fun _ _ _ h => h) t Y h
  e.trans rfl
theorem finds_4 (c : Dev nD) (t : Fin (cfgA (F := F)).N) (Y) (h : (rdat m c).Finds 4 t Y) : Y = iblk m c 4 t :=
  let ⟨_, e⟩ := (rdat m c).finds_in_eq_fetched 4 rfl (fun _ _ _ => rfl) (fun _ _ _ h => h) t Y h
  e.trans rfl

/-! ## The body at a point -/

def bodyPre (c : Dev nD) (t : Fin (cfgA (F := F)).N) (Y : (w : Fin (cfgA (F := F)).W) → ((cfgA (F := F)).win w).block.Idx → Elt F ((cfgA (F := F)).win w).elt) : sProp 𝕄 :=
  iprop((rdat m c).Φ t.castSucc ∗ (rdat m c).owesAt () t.castSucc
    ∗ owns (c : Thread nD τ) (st_0 t) fullShare (Y 0)
    ∗ owns (c : Thread nD τ) (st_1 t) fullShare (Y 1)
    ∗ owns (c : Thread nD τ) (st_2 t) fullShare (Y 2)
    ∗ owns (c : Thread nD τ) (st_3 t) fullShare (Y 3)
    ∗ owns (c : Thread nD τ) (st_4 t) fullShare (Y 4)
    ∗ owns (c : Thread nD τ) (st_5 t) fullShare (Y 5)
    ∗ owns (c : Thread nD τ) (st_6 t) fullShare (Y 6)
    ∗ owns (c : Thread nD τ) (st_7 t) fullShare (Y 7))
def bodyPost (c : Dev nD) (t : Fin (cfgA (F := F)).N) (Y : (w : Fin (cfgA (F := F)).W) → ((cfgA (F := F)).win w).block.Idx → Elt F ((cfgA (F := F)).win w).elt) : sProp 𝕄 :=
  iprop((rdat m c).Φ t.succ ∗ (rdat m c).owesAt () t.succ
    ∗ (∃ X, ⌜(rdat m c).after 0 t (Y 0) X⌝ ∗ owns (c : Thread nD τ) (st_0 t) fullShare X)
    ∗ (∃ X, ⌜(rdat m c).after 1 t (Y 1) X⌝ ∗ owns (c : Thread nD τ) (st_1 t) fullShare X)
    ∗ (∃ X, ⌜(rdat m c).after 2 t (Y 2) X⌝ ∗ owns (c : Thread nD τ) (st_2 t) fullShare X)
    ∗ (∃ X, ⌜(rdat m c).after 3 t (Y 3) X⌝ ∗ owns (c : Thread nD τ) (st_3 t) fullShare X)
    ∗ (∃ X, ⌜(rdat m c).after 4 t (Y 4) X⌝ ∗ owns (c : Thread nD τ) (st_4 t) fullShare X)
    ∗ (∃ X, ⌜(rdat m c).after 5 t (Y 5) X⌝ ∗ owns (c : Thread nD τ) (st_5 t) fullShare X)
    ∗ (∃ X, ⌜(rdat m c).after 6 t (Y 6) X⌝ ∗ owns (c : Thread nD τ) (st_6 t) fullShare X)
    ∗ (∃ X, ⌜(rdat m c).after 7 t (Y 7) X⌝ ∗ owns (c : Thread nD τ) (st_7 t) fullShare X))

theorem sound_body (c : Dev nD) (t : Fin (cfgA (F := F)).N) (Y : (w : Fin (cfgA (F := F)).W) → ((cfgA (F := F)).win w).block.Idx → Elt F ((cfgA (F := F)).win w).elt) (hY : ∀ w, (rdat m c).Finds w t (Y w)) :
    bodyPre m c t Y ⊢ wp frame (wpE (defs₀ (F := F)) Variants.none c none) Set.univ (bodyAt t) (fun _ => bodyPost m c t Y) := by
  unfold bodyPre bodyPost
  rw [show (rdat m c).Φ t.succ = Pipeline.ΦA spec0 c from rfl, show (rdat m c).Φ t.castSucc = Pipeline.ΦA spec0 c from rfl]
  unfold RDat.owesAt Pipeline.owesWithin
  rw [show (rdat m c).owed t.castSucc = 0 from rfl, show (rdat m c).owed t.succ = 0 from rfl]
  rw [finds_0 m c t _ (hY 0), finds_1 m c t _ (hY 1), finds_2 m c t _ (hY 2), finds_3 m c t _ (hY 3), finds_4 m c t _ (hY 4)]
  iintro ⟨HA, HW, H0, H1, H2, H3, H4, H5, H6, H7⟩
  iapply (body_run c (grid0.coords t) (Memref.whole main_v12) (Memref.isWhole_whole _) (st_0 t) (hstage0_0 (((cfgA (F := F)).slots t 0).cast nbuf0_0)) (st_1 t) (hstage0_1 (((cfgA (F := F)).slots t 1).cast nbuf0_1)) (st_2 t) (hstage0_2 (((cfgA (F := F)).slots t 2).cast nbuf0_2)) (st_3 t) (hstage0_3 (((cfgA (F := F)).slots t 3).cast nbuf0_3)) (st_4 t) (hstage0_4 (((cfgA (F := F)).slots t 4).cast nbuf0_4)) (st_5 t) (hstage0_5 (((cfgA (F := F)).slots t 5).cast nbuf0_5)) (st_6 t) (hstage0_6 (((cfgA (F := F)).slots t 6).cast nbuf0_6)) (st_7 t) (hstage0_7 (((cfgA (F := F)).slots t 7).cast nbuf0_7)) (insAt m c t) (Y 5) (Y 6) (Y 7) _)
  isplitl [H0 H1 H2 H3 H4]
  · isplitl [H0]; · iexact H0
    isplitl [H1]; · iexact H1
    isplitl [H2]; · iexact H2
    isplitl [H3]; · iexact H3
    iexact H4
  isplitl [H5]; · iexact H5
  isplitl [H6]; · iexact H6
  isplitl [H7]; · iexact H7
  iintro ⟨⟨H0, H1, H2, H3, H4⟩, ⟨%X, %hX, H5⟩, H6, H7⟩
  isplitl [HA]; · iexact HA
  isplitl [HW]
  · icases HW with ⟨%W, %hW, HW⟩
    iexists W; isplitr; · ipureintro; exact fun _ _ => Or.inl trivial
    iexact HW
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists X; isplitr; · ipureintro; exact hX
    iexact H5
  isplitl [H6]
  · iexists _; isplitr; swap; · iexact H6
    ipureintro; exact rfl
  iexists _; isplitr; swap; · iexact H7
  ipureintro; exact rfl

theorem defs₀_row (t : Fin (cfgA (F := F)).N) :
    defs₀ (F := F) .tc (cfgA (F := F)).body ((cfgA (F := F)).bodyArgs t ((cfgA (F := F)).slots t)) = bodyAt t := by
  unfold defs₀; rw [Defs.onTc_tc]; rfl

theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-! ## The run and the frame -/

theorem table_dropped (A B : sProp 𝕄) : iprop(A ∗ B) ⊢ A := by
  iintro ⟨H, -⟩
  iexact H

theorem run_main : θ_run defs (onTc (τ := τ) (main (F := F))) (s₀ m ρ) (fun r => RDat.FramePost (cfgA (F := F)) (rdat m) (V m) r ∧ r.2.sem = fun _ => 0) :=
  RDat.θ_run_frameP_track_shared (pcfgs (F := F)) (fun _ => adm) (0 : Fin 1) launch₀0 defs₀ Variants.none (rdat m) m ρ main
    (fun c => body_obligation m c) (fun _ _ _ => rfl) (fun _ _ => rfl) (V m) (main_host m) (A_eq m) (V_table m)
    (fun _ => table_dropped _ _) (fun _ => .rfl) _ (fun _ h => h)

/-- The arguments end as they were. -/
theorem args_kept (r : PUnit × MemSt nD τ sig (Elt F)) (h : RDat.FramePost (cfgA (F := F)) (rdat m) (V m) r) (c : Dev nD) :
    r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) :=
  ⟨((h c).2 main_arg0 (Pipeline.mem_restRefs_of main_arg0 (by decide) (show ∀ w : Fin 8, (spec0 w).arr.view.ref ≠ main_arg0 by decide))).trans (V_main_arg0 m c),
      ((h c).2 main_arg1 (Pipeline.mem_restRefs_of main_arg1 (by decide) (show ∀ w : Fin 8, (spec0 w).arr.view.ref ≠ main_arg1 by decide))).trans (V_main_arg1 m c),
      ((h c).2 main_arg2 (Pipeline.mem_restRefs_of main_arg2 (by decide) (show ∀ w : Fin 8, (spec0 w).arr.view.ref ≠ main_arg2 by decide))).trans (V_main_arg2 m c),
      ((h c).2 main_arg3 (Pipeline.mem_restRefs_of main_arg3 (by decide) (show ∀ w : Fin 8, (spec0 w).arr.view.ref ≠ main_arg3 by decide))).trans (V_main_arg3 m c)⟩

/-- THE FRAME, at any floats: it ends without a fault, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3))
      ∧ r.2.sem = fun _ => 0) :=
  (θ_run defs _ _).mono (fun r h => ⟨args_kept m r h.1, h.2⟩) (run_main m ρ)

end Cert.OddFrame

end
-- ==== Proof.OddRef.lean ====
/- The reference of the gradients through the half of the hidden columns made of the odd blocks, read at an index:
   each of its three results is the function of rows and columns that `HalfSpec` names. -/
module

public import proofs.«01_k».proof.Proof.HalfSpec
public import proofs.«01_k».proof.Proof.Gen.OddRefIdeal.Run
public import proofs.«01_k».proof.Proof.Gen.OddRefIdeal.Read

@[expose] public section

set_option maxRecDepth 16384

noncomputable section

namespace Cert.OddRef

open Idealize.ShloMosaic Idealize.ShloMosaic.ValueIdx Idealize.ShloMosaic.TcCoe Cert.Reals Cert.HalfSpec
open Cert.OddRefIdeal Cert.OddRefIdeal.Gen Cert.OddRefIdeal.Read
open scoped BigOperators

variable (x0 x1 : FVec Ideal S1x2048x1024 .f32) (x2 : FVec Ideal S1x1024x4096 .f32) (x3 : FVec Ideal S1x4096x1024 .f32)

/-- The arguments by row and column. -/
def args : Args where
  h s d := x0 (ix3 0 s d)
  dz s d := x1 (ix3 0 s d)
  w1 d j := x2 (ix3 0 d j)
  w2 j d := x3 (ix3 0 j d)
  prior s d := 0

local notation "𝔸" => args x0 x1 x2 x3

/-! ## The two inputs and the half of each weight -/

theorem r10 (i : S2048x1024.Idx) : val_main_v10 (F := Ideal) x0 i = (𝔸).h (i 0) (i 1) := by
  have h0 : (i 0).val < 2048 := (i 0).isLt
  have h1 : (i 1).val < 1024 := (i 1).isLt
  rw [val_main_v10_apply]
  refine congrArg x0 (funext fun a => Fin.ext ?_)
  match a with
  | ⟨0, _⟩ => rfl
  | ⟨1, _⟩ => show ((i 0).val * 1024 + (i 1).val) / 1024 % 2048 = (i 0).val; omega
  | ⟨2, _⟩ => show ((i 0).val * 1024 + (i 1).val) % 1024 = (i 1).val; omega

theorem r20 (i : S2048x1024.Idx) : val_main_v20 (F := Ideal) x1 i = (𝔸).dz (i 0) (i 1) := by
  have h0 : (i 0).val < 2048 := (i 0).isLt
  have h1 : (i 1).val < 1024 := (i 1).isLt
  rw [val_main_v20_apply]
  refine congrArg x1 (funext fun a => Fin.ext ?_)
  match a with
  | ⟨0, _⟩ => rfl
  | ⟨1, _⟩ => show ((i 0).val * 1024 + (i 1).val) / 1024 % 2048 = (i 0).val; omega
  | ⟨2, _⟩ => show ((i 0).val * 1024 + (i 1).val) % 1024 = (i 1).val; omega

theorem r0 (i : S1024x4096.Idx) : val_main_v0 (F := Ideal) x2 i = x2 (ix3 0 (i 0) (i 1)) := by
  have h0 : (i 0).val < 1024 := (i 0).isLt
  have h1 : (i 1).val < 4096 := (i 1).isLt
  rw [val_main_v0_apply]
  refine congrArg x2 (funext fun a => Fin.ext ?_)
  match a with
  | ⟨0, _⟩ => rfl
  | ⟨1, _⟩ => show ((i 0).val * 4096 + (i 1).val) / 4096 % 1024 = (i 0).val; omega
  | ⟨2, _⟩ => show ((i 0).val * 4096 + (i 1).val) % 4096 = (i 1).val; omega

theorem r2 (i : S1024x4x1x512.Idx) : val_main_v2 (F := Ideal) x2 i = x2 (ix3 0 (i 0) (col 1 (i 1) (i 3))) := by
  have h0 : (i 0).val < 1024 := (i 0).isLt
  have h1 : (i 1).val < 4 := (i 1).isLt
  have h2 : (i 2).val < 1 := (i 2).isLt
  have h3 : (i 3).val < 512 := (i 3).isLt
  rw [val_main_v2_apply, val_main_v1_apply, r0]
  refine congrArg x2 (funext fun a => Fin.ext ?_)
  match a with
  | ⟨0, _⟩ => rfl
  | ⟨1, _⟩ => show ((((i 0).val * 4 + (i 1).val) * 2 + (1 + (i 2).val)) * 512 + (i 3).val) / 4096 = (i 0).val; omega
  | ⟨2, _⟩ => show ((((i 0).val * 4 + (i 1).val) * 2 + (1 + (i 2).val)) * 512 + (i 3).val) % 4096 = 512 * (2 * (i 1).val + 1) + (i 3).val; omega

theorem r3 (i : S1024x4x512.Idx) : val_main_v3 (F := Ideal) x2 i = x2 (ix3 0 (i 0) (col 1 (i 1) (i 2))) := by
  have h0 : (i 0).val < 1024 := (i 0).isLt
  have h1 : (i 1).val < 4 := (i 1).isLt
  have h2 : (i 2).val < 512 := (i 2).isLt
  rw [val_main_v3_apply, r2]
  refine congrArg x2 (funext fun a => Fin.ext ?_)
  match a with
  | ⟨0, _⟩ => rfl
  | ⟨1, _⟩ => show (((i 0).val * 4 + (i 1).val) * 512 + (i 2).val) / 2048 = (i 0).val; omega
  | ⟨2, _⟩ =>
    show 512 * (2 * ((((i 0).val * 4 + (i 1).val) * 512 + (i 2).val) / 512 % 4) + 1) + (((i 0).val * 4 + (i 1).val) * 512 + (i 2).val) % 512
      = 512 * (2 * (i 1).val + 1) + (i 2).val
    omega

theorem r4 (i : S1024x2048.Idx) : val_main_v4 (F := Ideal) x2 i = (𝔸).w1 (i 0) (colOf 1 (i 1)) := by
  have h0 : (i 0).val < 1024 := (i 0).isLt
  have h1 : (i 1).val < 2048 := (i 1).isLt
  rw [val_main_v4_apply, r3]
  refine congrArg x2 (funext fun a => Fin.ext ?_)
  match a with
  | ⟨0, _⟩ => rfl
  | ⟨1, _⟩ => show ((i 0).val * 2048 + (i 1).val) / 2048 = (i 0).val; omega
  | ⟨2, _⟩ =>
    show 512 * (2 * (((i 0).val * 2048 + (i 1).val) / 512 % 4) + 1) + ((i 0).val * 2048 + (i 1).val) % 512
      = 512 * (2 * ((i 1).val / 512) + 1) + (i 1).val % 512
    omega

theorem r5 (i : S4096x1024.Idx) : val_main_v5 (F := Ideal) x3 i = x3 (ix3 0 (i 0) (i 1)) := by
  have h0 : (i 0).val < 4096 := (i 0).isLt
  have h1 : (i 1).val < 1024 := (i 1).isLt
  rw [val_main_v5_apply]
  refine congrArg x3 (funext fun a => Fin.ext ?_)
  match a with
  | ⟨0, _⟩ => rfl
  | ⟨1, _⟩ => show ((i 0).val * 1024 + (i 1).val) / 1024 % 4096 = (i 0).val; omega
  | ⟨2, _⟩ => show ((i 0).val * 1024 + (i 1).val) % 1024 = (i 1).val; omega

theorem r7 (i : S4x1x512x1024.Idx) : val_main_v7 (F := Ideal) x3 i = x3 (ix3 0 (col 1 (i 0) (i 2)) (i 3)) := by
  have h0 : (i 0).val < 4 := (i 0).isLt
  have h1 : (i 1).val < 1 := (i 1).isLt
  have h2 : (i 2).val < 512 := (i 2).isLt
  have h3 : (i 3).val < 1024 := (i 3).isLt
  rw [val_main_v7_apply, val_main_v6_apply, r5]
  refine congrArg x3 (funext fun a => Fin.ext ?_)
  match a with
  | ⟨0, _⟩ => rfl
  | ⟨1, _⟩ =>
    show ((((i 0).val * 2 + (1 + (i 1).val)) * 512 + (i 2).val) * 1024 + (i 3).val) / 1024 = 512 * (2 * (i 0).val + 1) + (i 2).val
    omega
  | ⟨2, _⟩ => show ((((i 0).val * 2 + (1 + (i 1).val)) * 512 + (i 2).val) * 1024 + (i 3).val) % 1024 = (i 3).val; omega

theorem r8 (i : S4x512x1024.Idx) : val_main_v8 (F := Ideal) x3 i = x3 (ix3 0 (col 1 (i 0) (i 1)) (i 2)) := by
  have h0 : (i 0).val < 4 := (i 0).isLt
  have h1 : (i 1).val < 512 := (i 1).isLt
  have h2 : (i 2).val < 1024 := (i 2).isLt
  rw [val_main_v8_apply, r7]
  refine congrArg x3 (funext fun a => Fin.ext ?_)
  match a with
  | ⟨0, _⟩ => rfl
  | ⟨1, _⟩ =>
    show 512 * (2 * ((((i 0).val * 512 + (i 1).val) * 1024 + (i 2).val) / 524288) + 1) + (((i 0).val * 512 + (i 1).val) * 1024 + (i 2).val) / 1024 % 512
      = 512 * (2 * (i 0).val + 1) + (i 1).val
    omega
  | ⟨2, _⟩ => show (((i 0).val * 512 + (i 1).val) * 1024 + (i 2).val) % 1024 = (i 2).val; omega

theorem r9 (i : S2048x1024.Idx) : val_main_v9 (F := Ideal) x3 i = (𝔸).w2 (colOf 1 (i 0)) (i 1) := by
  have h0 : (i 0).val < 2048 := (i 0).isLt
  have h1 : (i 1).val < 1024 := (i 1).isLt
  rw [val_main_v9_apply, r8]
  refine congrArg x3 (funext fun a => Fin.ext ?_)
  match a with
  | ⟨0, _⟩ => rfl
  | ⟨1, _⟩ =>
    show 512 * (2 * (((i 0).val * 1024 + (i 1).val) / 524288) + 1) + ((i 0).val * 1024 + (i 1).val) / 1024 % 512
      = 512 * (2 * ((i 0).val / 512) + 1) + (i 0).val % 512
    omega
  | ⟨2, _⟩ => show ((i 0).val * 1024 + (i 1).val) % 1024 = (i 1).val; omega

/-! ## The hidden layer and the gradient that reaches it -/

theorem r11 (i : S2048x2048.Idx) : val_main_v11 (F := Ideal) x0 x2 i = (𝔸).f (i 0) (colOf 1 (i 1)) := by
  rw [val_main_v11_apply]
  exact Finset.sum_congr rfl fun k _ => congrArg₂ (· * ·) (r10 x0 x1 x2 x3 _) (r4 x0 x1 x2 x3 _)

theorem r12 (i : S2048x2048.Idx) : val_main_v12 (F := Ideal) x0 x2 i = max ((𝔸).f (i 0) (colOf 1 (i 1))) 0 := by
  rw [val_main_v12_apply, r11 x0 x1 x2 x3, val_main_call0_v0_apply, val_main_call0_cst_apply]
  exact congrArg (max _) ofBits_zero

theorem r24 (i : S2048x2048.Idx) : val_main_v24 (F := Ideal) x0 x1 x2 x3 i = (𝔸).df (i 0) (colOf 1 (i 1)) := by
  rw [val_main_v24_apply, val_main_v23_apply, val_main_v18_apply, val_main_v17_apply, val_main_cst_1_apply, r12 x0 x1 x2 x3]
  exact congrArg₂ (· * ·) (Finset.sum_congr rfl fun k _ => congrArg₂ (· * ·) (r20 x0 x1 x2 x3 _) (r9 x0 x1 x2 x3 _)) (congrArg (· * _) MlpSpec.bits_two)

theorem r26 (i : S2048x2048.Idx) : val_main_v26 (F := Ideal) x0 x1 x2 x3 i = (𝔸).df (i 0) (colOf 1 (i 1)) := by
  rw [val_main_v26_apply, val_main_v14_apply, r24 x0 x1 x2 x3, r11 x0 x1 x2 x3, val_main_v13_apply, val_main_cst_apply, val_main_v25_apply, val_main_cst_2_apply]
  have z : FloatOps.ofBits (F := Ideal) .f32 0x00000000#32 = (0 : EReal) := ofBits_zero
  rw [z]
  refine Eq.trans ?_ (df_select _ _)
  show (if Ideal.cmp .ogt _ _ = 1#1 then _ else _) = _
  by_cases h : (0 : EReal) < (𝔸).f (i 0) (colOf 1 (i 1))
  · rw [if_pos h, if_pos (by show BitVec.ofBool (decide _) = 1#1; rw [decide_eq_true h]; rfl)]; rfl
  · rw [if_neg h, if_neg (by show ¬ BitVec.ofBool (decide _) = 1#1; rw [decide_eq_false h]; decide)]

/-! ## The three results -/

theorem r29 (i : S2048x1024.Idx) : val_main_v29 (F := Ideal) x0 x1 x2 x3 i
    = ∑ j, (𝔸).df (i 0) (colOf 1 j) * (𝔸).w1 (i 1) (colOf 1 j) := by
  rw [val_main_v29_apply]
  exact Finset.sum_congr rfl fun k _ => congrArg₂ (· * ·) (r26 x0 x1 x2 x3 _) (r4 x0 x1 x2 x3 _)

theorem v29_eq : val_main_v29 (F := Ideal) x0 x1 x2 x3 = fun i : S2048x1024.Idx => (𝔸).dhAll 1 (i 0) (i 1) := by
  funext i
  rw [r29]
  exact (zero_add _).symm

theorem v31_eq : val_main_v31 (F := Ideal) x0 x1 x2 x3 = fun i : S4x1024x512.Idx => (𝔸).g1All 1 (i 0) (i 1) (i 2) := by
  funext i
  have h0 : (i 0).val < 4 := (i 0).isLt
  have h1 : (i 1).val < 1024 := (i 1).isLt
  have h2 : (i 2).val < 512 := (i 2).isLt
  rw [val_main_v31_apply, val_main_v30_apply, val_main_v28_apply, val_main_v27_apply]
  refine Finset.sum_congr rfl fun k _ => ?_
  rw [r26 x0 x1 x2 x3, r10 x0 x1 x2 x3]
  refine (mul_comm _ _).trans (congrArg₂ (· * ·) (congrArg ((𝔸).h k) (Fin.ext ?_)) (congrArg ((𝔸).df k) (Fin.ext ?_)))
  · show (((i 1).val * 4 + (i 0).val) * 512 + (i 2).val) / 2048 = (i 1).val
    omega
  · show 512 * (2 * ((((i 1).val * 4 + (i 0).val) * 512 + (i 2).val) % 2048 / 512) + 1) + (((i 1).val * 4 + (i 0).val) * 512 + (i 2).val) % 2048 % 512
      = 512 * (2 * (i 0).val + 1) + (i 2).val
    omega

theorem v32_eq : val_main_v32 (F := Ideal) x0 x1 x2 = fun i : S4x512x1024.Idx => (𝔸).g2All 1 (i 0) (i 1) (i 2) := by
  funext i
  have h0 : (i 0).val < 4 := (i 0).isLt
  have h1 : (i 1).val < 512 := (i 1).isLt
  have h2 : (i 2).val < 1024 := (i 2).isLt
  rw [val_main_v32_apply, val_main_v22_apply, val_main_v21_apply]
  refine Finset.sum_congr rfl fun k _ => ?_
  rw [r20 x0 x1 x2 x3, val_main_v16_apply, r12 x0 x1 x2 x3]
  have e : colOf 1 (⟨(((i 0).val * 512 + (i 1).val) * 1024 + (i 2).val) / 1024, by omega⟩ : Fin 2048) = col 1 (i 0) (i 1) := by
    refine Fin.ext ?_
    show 512 * (2 * ((((i 0).val * 512 + (i 1).val) * 1024 + (i 2).val) / 1024 / 512) + 1) + (((i 0).val * 512 + (i 1).val) * 1024 + (i 2).val) / 1024 % 512
      = 512 * (2 * (i 0).val + 1) + (i 1).val
    omega
  refine (mul_comm _ _).trans (congrArg₂ (· * ·) ?_ (congrArg ((𝔸).dz k) (Fin.ext ?_)))
  · exact congrArg (fun j => max ((𝔸).f k j) 0 * max ((𝔸).f k j) 0) e
  · show (((i 0).val * 512 + (i 1).val) * 1024 + (i 2).val) % 1024 = (i 2).val
    omega

end Cert.OddRef
-- ==== Proof.OddValue.lean ====
/- The value of `_mlp_bwd_half` for the odd blocks: what its run leaves in the three result arrays is what the reference
   computes. -/
module

public import proofs.«01_k».proof.Defs
public import proofs.«01_k».proof.Proof.HalfBlock
public import proofs.«01_k».proof.Proof.OddFrame
public import proofs.«01_k».proof.Proof.OddRef
public import Idealize.ShloMosaic.Lib.StackMember
public import Idealize.ShloMosaic.Lib.Pipeline.Value
public import Idealize.ShloMosaic.Lib.Pipeline.ValueKit.Geometry

@[expose] public section

set_option maxRecDepth 16384

noncomputable section

namespace Cert.OddValue

open Idealize.ShloMosaic hiding ix2 ix3
open Idealize.ShloMosaic.ValueIdx Idealize.ShloMosaic.TcCoe Idealize.SL.Sem Cert.Reals Cert.HalfSpec Cert.HalfBlock
open Cert.OddIdeal Cert.OddIdeal.Gen Cert.OddRun Cert.OddGrid Cert.OddFrame
open Idealize.ShloMosaic.Pipeline (RDat Window)
open scoped BigOperators

variable (m : (ℓ : Loc nD τ sig) → Buf (Elt Ideal) ℓ) (c : Dev nD)

/-- The arguments by row and column. -/
def argsOf : Args where
  h s d := (m ((c.tc : Thread nD τ).loc main_arg0) : FVec Ideal S1x2048x1024 .f32) (ix3 0 s d)
  dz s d := (m ((c.tc : Thread nD τ).loc main_arg1) : FVec Ideal S1x2048x1024 .f32) (ix3 0 s d)
  w1 d j := (m ((c.tc : Thread nD τ).loc main_arg2) : FVec Ideal S1x1024x4096 .f32) (ix3 0 d j)
  w2 j d := (m ((c.tc : Thread nD τ).loc main_arg3) : FVec Ideal S1x4096x1024 .f32) (ix3 0 j d)
  prior s d := 0

/-! ## The host lines before the call -/

theorem V_h (d : Fin 1024) (s : Fin 2048) : (V m c main_v15 : FVec Ideal S1024x2048 .bf16) (ix2 d s) = (argsOf m c).h s d := by
  have e : V m c main_v15 = truncf (F := Ideal) (φ := .f32) .bf16 (transpose S1024x2048 [1, 0]
      (shapeCast S2048x1024 (m ((c.tc : Thread nD τ).loc main_arg0) : FVec Ideal S1x2048x1024 .f32) shapeCasts_S1x2048x1024_S2048x1024)
      transposes_S2048x1024_S1024x2048_1_0) bitsLt_bf16_f32 := by
    show StableHlo.after hostOps0 _ (main_v15 : Ref sig .tc) = _
    simp only [hostOps0]
    after_results <;> rfl
  rw [e, truncf_apply]
  exact (transpose_ix2_apply (a := 2048) (b := 1024) _ _ d s).trans (shapeCast_1ab_ab_apply (a := 2048) (b := 1024) _ _ s d)

theorem V_dz (s : Fin 2048) (d : Fin 1024) : (V m c main_v17 : FVec Ideal S2048x1024 .bf16) (ix2 s d) = (argsOf m c).dz s d := by
  have e : V m c main_v17 = truncf (F := Ideal) (φ := .f32) .bf16
      (shapeCast S2048x1024 (m ((c.tc : Thread nD τ).loc main_arg1) : FVec Ideal S1x2048x1024 .f32) shapeCasts_S1x2048x1024_S2048x1024) bitsLt_bf16_f32 := by
    show StableHlo.after hostOps0 _ (main_v17 : Ref sig .tc) = _
    simp only [hostOps0]
    after_results <;> rfl
  rw [e, truncf_apply]
  exact shapeCast_1ab_ab_apply (a := 2048) (b := 1024) _ _ s d

theorem V_f (s : Fin 2048) (j : Fin 4096) : (V m c main_v11 : FVec Ideal S2048x4096 .f32) (ix2 s j) = (argsOf m c).f s j := by
  have e : V m c main_v11 = Host.dotGeneral (F := Ideal) (φ₁ := .bf16) (φ₂ := .bf16) dot_S2048x1024_S1024x4096_S2048x4096_1_0_0_1_n_n none
      (truncf (F := Ideal) (φ := .f32) .bf16 (shapeCast S2048x1024 (m ((c.tc : Thread nD τ).loc main_arg0) : FVec Ideal S1x2048x1024 .f32) shapeCasts_S1x2048x1024_S2048x1024) bitsLt_bf16_f32)
      (truncf (F := Ideal) (φ := .f32) .bf16 (shapeCast S1024x4096 (m ((c.tc : Thread nD τ).loc main_arg2) : FVec Ideal S1x1024x4096 .f32) shapeCasts_S1x1024x4096_S1024x4096) bitsLt_bf16_f32) := by
    show StableHlo.after hostOps0 _ (main_v11 : Ref sig .tc) = _
    simp only [hostOps0]
    after_results <;> rfl
  rw [e]
  refine (StackMember.dotGeneral_plain_apply (m := 2048) (k := 1024) (n := 4096) none _ _ s j).trans ?_
  refine Finset.sum_congr rfl fun d _ => congrArg₂ (· * ·) ?_ ?_
  · exact shapeCast_1ab_ab_apply (a := 2048) (b := 1024) _ _ s d
  · exact shapeCast_1ab_ab_apply (a := 1024) (b := 4096) _ _ d j

/-- The pack of the two weights: in each block of 512 hidden columns the first weight transposed, then the second. -/
theorem V_pack : V m c main_v6 = truncf (F := Ideal) (φ := .f32) .bf16 (concatenate S8x1024x1024 1
    [⟨S8x512x1024, shapeCast S8x512x1024 (transpose S4096x1024 [1, 0]
        (shapeCast S1024x4096 (m ((c.tc : Thread nD τ).loc main_arg2) : FVec Ideal S1x1024x4096 .f32) shapeCasts_S1x1024x4096_S1024x4096)
        transposes_S1024x4096_S4096x1024_1_0) shapeCasts_S4096x1024_S8x512x1024⟩,
     ⟨S8x512x1024, shapeCast S8x512x1024 (shapeCast S4096x1024 (m ((c.tc : Thread nD τ).loc main_arg3) : FVec Ideal S1x4096x1024 .f32)
        shapeCasts_S1x4096x1024_S4096x1024) shapeCasts_S4096x1024_S8x512x1024⟩]
    concatenates_S8x512x1024_S8x512x1024_S8x1024x1024_d1) bitsLt_bf16_f32 := by
  show StableHlo.after hostOps0 _ (main_v6 : Ref sig .tc) = _
  simp only [hostOps0]
  after_results <;> rfl

theorem V_w1 (k : Fin 4) (q : Fin 512) (d : Fin 1024) :
    (V m c main_v6 : FVec Ideal S8x1024x1024 .bf16) (ix3 ⟨2 * k.val + 1, by omega⟩ ⟨q.val, by omega⟩ d) = (argsOf m c).w1 d (col 1 k q) := by
  rw [V_pack, truncf_apply]
  refine (concatenate_pair_apply_left (t := S8x1024x1024) (s₁ := S8x512x1024) 1 _ _ _ _ rfl (ix3 ⟨2 * k.val + 1, by omega⟩ q d)
    (fun b => match b with | ⟨0, _⟩ => rfl | ⟨1, _⟩ => rfl | ⟨2, _⟩ => rfl)).trans ?_
  refine (shapeCast_apply _ _ _ (ix2 (col 1 k q) d) ?_).trans ?_
  · rw [Shape.rowMajor_val_two, Shape.rowMajor_val_three]
    show (512 * (2 * k.val + 1) + q.val) * 1024 + d.val = ((2 * k.val + 1) * 512 + q.val) * 1024 + d.val
    omega
  · refine (transpose_ix2_apply (a := 1024) (b := 4096) _ _ (col 1 k q) d).trans ?_
    exact shapeCast_1ab_ab_apply (a := 1024) (b := 4096) _ _ d (col 1 k q)

theorem V_w2 (k : Fin 4) (q : Fin 512) (d : Fin 1024) :
    (V m c main_v6 : FVec Ideal S8x1024x1024 .bf16) (ix3 ⟨2 * k.val + 1, by omega⟩ ⟨512 + q.val, by omega⟩ d) = (argsOf m c).w2 (col 1 k q) d := by
  rw [V_pack, truncf_apply]
  refine (concatenate_pair_apply_right (t := S8x1024x1024) (s₁ := S8x512x1024) (s₂ := S8x512x1024) 1 _ _ _ _ rfl rfl
    (ix3 ⟨2 * k.val + 1, by omega⟩ q d)
    (fun b hb => match b, hb with | ⟨0, _⟩, _ => rfl | ⟨1, _⟩, hb => absurd rfl hb | ⟨2, _⟩, _ => rfl)
    (by show q.val + 512 = 512 + q.val; omega)).trans ?_
  refine (shapeCast_apply _ _ _ (ix2 (col 1 k q) d) ?_).trans ?_
  · rw [Shape.rowMajor_val_two, Shape.rowMajor_val_three]
    show (512 * (2 * k.val + 1) + q.val) * 1024 + d.val = ((2 * k.val + 1) * 512 + q.val) * 1024 + d.val
    omega
  · exact shapeCast_1ab_ab_apply (a := 4096) (b := 1024) _ _ (col 1 k q) d

/-! ## What a point reads -/

/-- The point's block of hidden columns and its block of rows. -/
def kk (t : Fin (cfgA (F := Ideal)).N) : Fin 4 := ⟨t.val / 4, by have := lt_of_lt_of_eq t.isLt N_0; omega⟩
def bb (t : Fin (cfgA (F := Ideal)).N) : Fin 4 := ⟨t.val % 4, by omega⟩
theorem at_kb (t : Fin (cfgA (F := Ideal)).N) : t.val = 4 * (kk t).val + (bb t).val := by
  show t.val = 4 * (t.val / 4) + t.val % 4; omega
theorem coords_0 : ∀ t : Fin (cfgA (F := Ideal)).N, ((grid0.coords t) 0).val = (kk t).val :=
  (by decide +kernel : ∀ t : Fin grid0.N, ((grid0.coords t) 0).val = t.val / 4)
theorem coords_1 : ∀ t : Fin (cfgA (F := Ideal)).N, ((grid0.coords t) 1).val = (bb t).val :=
  (by decide +kernel : ∀ t : Fin grid0.N, ((grid0.coords t) 1).val = t.val % 4)

theorem idx_0 : ∀ t : Fin (cfgA (F := Ideal)).N, cc0_transform_0 (grid0.coords t) 0 = 0 ∧ cc0_transform_0 (grid0.coords t) 1 = (bb t).val :=
  (by decide +kernel : ∀ t : Fin grid0.N, cc0_transform_0 (grid0.coords t) 0 = 0 ∧ cc0_transform_0 (grid0.coords t) 1 = t.val % 4)
theorem iblk_h (t : Fin (cfgA (F := Ideal)).N) (d : Fin 1024) (r : Fin 512) : iblk m c 0 t (ix2 d r) = V m c main_v15 (ix2 d (row (bb t) r)) := by
  show V m c main_v15 (((winA (F := Ideal) 0).rect t).emb (ix2 d r)) = _
  refine congrArg (V m c main_v15) (funext fun a => Fin.ext ?_)
  rw [Window.rect_emb_val (winA (F := Ideal) 0)]
  match a with
  | ⟨0, _⟩ =>
    show cc0_transform_0 (grid0.coords t) 0 * 1024 + d.val = d.val
    rw [(idx_0 t).1]; omega
  | ⟨1, _⟩ =>
    show cc0_transform_0 (grid0.coords t) 1 * 512 + r.val = 512 * (bb t).val + r.val
    rw [(idx_0 t).2]; omega

theorem iblk_f (t : Fin (cfgA (F := Ideal)).N) (r q : Fin 512) : iblk m c 1 t (ix2 r q) = V m c main_v11 (ix2 (row (bb t) r) (col 1 (kk t) q)) := by
  show V m c main_v11 (((winA (F := Ideal) 1).rect t).emb (ix2 r q)) = _
  refine congrArg (V m c main_v11) (funext fun a => Fin.ext ?_)
  rw [Window.rect_emb_val (winA (F := Ideal) 1)]
  have e := map_1 (F := Ideal) (grid0.coords t)
  match a with
  | ⟨0, _⟩ =>
    show cc0_transform_1 inb_S2_S1_0 numel1_S1 (table (F := Ideal)) (grid0.coords t) 0 * 512 + r.val = 512 * (bb t).val + r.val
    rw [e]
    show ((grid0.coords t) 1).val * 512 + r.val = _
    rw [coords_1]; omega
  | ⟨1, _⟩ =>
    show cc0_transform_1 inb_S2_S1_0 numel1_S1 (table (F := Ideal)) (grid0.coords t) 1 * 512 + q.val = 512 * (2 * (kk t).val + 1) + q.val
    rw [e]
    show (2 * ((grid0.coords t) 0).val + 1) * 512 + q.val = _
    rw [coords_0]; omega

theorem idx_2 : ∀ t : Fin (cfgA (F := Ideal)).N, cc0_transform_2 (grid0.coords t) 0 = (bb t).val ∧ cc0_transform_2 (grid0.coords t) 1 = 0 :=
  (by decide +kernel : ∀ t : Fin grid0.N, cc0_transform_2 (grid0.coords t) 0 = t.val % 4 ∧ cc0_transform_2 (grid0.coords t) 1 = 0)
theorem iblk_dz (t : Fin (cfgA (F := Ideal)).N) (r : Fin 512) (d : Fin 1024) : iblk m c 2 t (ix2 r d) = V m c main_v17 (ix2 (row (bb t) r) d) := by
  show V m c main_v17 (((winA (F := Ideal) 2).rect t).emb (ix2 r d)) = _
  refine congrArg (V m c main_v17) (funext fun a => Fin.ext ?_)
  rw [Window.rect_emb_val (winA (F := Ideal) 2)]
  match a with
  | ⟨0, _⟩ =>
    show cc0_transform_2 (grid0.coords t) 0 * 512 + r.val = 512 * (bb t).val + r.val
    rw [(idx_2 t).1]; omega
  | ⟨1, _⟩ =>
    show cc0_transform_2 (grid0.coords t) 1 * 1024 + d.val = d.val
    rw [(idx_2 t).2]; omega

theorem iblk_w1 (t : Fin (cfgA (F := Ideal)).N) (q : Fin 512) (d : Fin 1024) :
    iblk m c 3 t (ix3 0 q d) = V m c main_v6 (ix3 ⟨2 * (kk t).val + 1, by have := (kk t).isLt; omega⟩ ⟨q.val, by omega⟩ d) := by
  show V m c main_v6 (((winA (F := Ideal) 3).rect t).emb (ix3 0 q d)) = _
  refine congrArg (V m c main_v6) (funext fun a => Fin.ext ?_)
  rw [Window.rect_emb_val (winA (F := Ideal) 3)]
  have e := map_3 (F := Ideal) (grid0.coords t)
  match a with
  | ⟨0, _⟩ =>
    show cc0_transform_3 inb_S2_S1_0 numel1_S1 (table (F := Ideal)) (grid0.coords t) 0 * 1 + 0 = 2 * (kk t).val + 1
    rw [e]
    show (2 * ((grid0.coords t) 0).val + 1) * 1 + 0 = _
    rw [coords_0]; omega
  | ⟨1, _⟩ =>
    show cc0_transform_3 inb_S2_S1_0 numel1_S1 (table (F := Ideal)) (grid0.coords t) 1 * 512 + q.val = q.val
    rw [e]
    show 0 * 512 + q.val = _
    omega
  | ⟨2, _⟩ =>
    show cc0_transform_3 inb_S2_S1_0 numel1_S1 (table (F := Ideal)) (grid0.coords t) 2 * 1024 + d.val = d.val
    rw [e]
    show 0 * 1024 + d.val = _
    omega

theorem iblk_w2 (t : Fin (cfgA (F := Ideal)).N) (q : Fin 512) (d : Fin 1024) :
    iblk m c 4 t (ix3 0 q d) = V m c main_v6 (ix3 ⟨2 * (kk t).val + 1, by have := (kk t).isLt; omega⟩ ⟨512 + q.val, by omega⟩ d) := by
  show V m c main_v6 (((winA (F := Ideal) 4).rect t).emb (ix3 0 q d)) = _
  refine congrArg (V m c main_v6) (funext fun a => Fin.ext ?_)
  rw [Window.rect_emb_val (winA (F := Ideal) 4)]
  have e := map_4 (F := Ideal) (grid0.coords t)
  match a with
  | ⟨0, _⟩ =>
    show cc0_transform_4 inb_S2_S1_0 numel1_S1 (table (F := Ideal)) (grid0.coords t) 0 * 1 + 0 = 2 * (kk t).val + 1
    rw [e]
    show (2 * ((grid0.coords t) 0).val + 1) * 1 + 0 = _
    rw [coords_0]; omega
  | ⟨1, _⟩ =>
    show cc0_transform_4 inb_S2_S1_0 numel1_S1 (table (F := Ideal)) (grid0.coords t) 1 * 512 + q.val = 512 + q.val
    rw [e]
    show 1 * 512 + q.val = _
    omega
  | ⟨2, _⟩ =>
    show cc0_transform_4 inb_S2_S1_0 numel1_S1 (table (F := Ideal)) (grid0.coords t) 2 * 1024 + d.val = d.val
    rw [e]
    show 0 * 1024 + d.val = _
    omega

theorem matches_at (t : Fin (cfgA (F := Ideal)).N) :
    Matches (insAt m c t).h (insAt m c t).f (insAt m c t).dz (insAt m c t).w1 (insAt m c t).w2 (argsOf m c) 1 (kk t) (bb t) where
  h d r := (iblk_h m c t d r).trans (V_h m c d _)
  f r q := (iblk_f m c t r q).trans (V_f m c _ _)
  dz r d := (iblk_dz m c t r d).trans (V_dz m c _ d)
  w1 q d := (iblk_w1 m c t q d).trans (V_w1 m c (kk t) q d)
  w2 q d := (iblk_w2 m c t q d).trans (V_w2 m c (kk t) q d)

/-! ## What the body leaves -/

theorem cond1_iff : ∀ i : grid0.Coords, k0_cond1 i = 1#1 ↔ (i 1).val = 0 := by decide +kernel
theorem cond3_iff : ∀ i : grid0.Coords, k0_cond3 i = 1#1 ↔ (i 0).val = 0 := by decide +kernel

/-- The rows of block `b` inside the buffer that holds all rows, and those of another block outside it. -/
theorem emb_rows (off : Fin 2 → ℕ) (b : Fin 4) (e : off = ![512 * b.val, 0]) (inb) (r : Fin 512) (d : Fin 1024) :
    (Rect.unit (s := S2048x1024) off S512x1024.size inb).emb (ix2 r d) = ix2 (row b r) d := by
  subst e
  refine funext fun a => Fin.ext ?_
  rw [ValueKit.rect_emb_unit_val]
  match a with
  | ⟨0, _⟩ => rfl
  | ⟨1, _⟩ => show 0 + d.val = d.val; omega
theorem not_mem_rows (off : Fin 2 → ℕ) (b b' : Fin 4) (hb : b' ≠ b) (e : off = ![512 * b.val, 0]) (inb) (r : Fin 512) (d : Fin 1024) :
    ix2 (row b' r) d ∉ (Rect.unit (s := S2048x1024) off S512x1024.size inb).set := by
  subst e
  intro h
  have h := Rect.mem_set_unit.1 h 0
  have hv : b'.val ≠ b.val := fun h => hb (Fin.ext h)
  have h : 512 * b.val ≤ 512 * b'.val + r.val ∧ 512 * b'.val + r.val < 512 * b.val + 512 := h
  omega

theorem off1_at (t : Fin (cfgA (F := Ideal)).N) : k0_off1 (grid0.coords t) = ![512 * (bb t).val, 0] := by rw [k0_off1_eq, coords_1]
theorem off2_at (t : Fin (cfgA (F := Ideal)).N) : k0_off2 (grid0.coords t) = ![512 * (bb t).val, 0] := by rw [k0_off2_eq, coords_1]

theorem leaves_5 : ∀ t X, (rdat m c).Leaves 5 t X → Upto (argsOf m c) 1 t.val X := by
  refine leaves_ind (rdat m c) 5 (fun _ => rfl) (fun t X => Upto (argsOf m c) 1 t.val X) ?_
  intro t Y X hX hY
  have hX : (insAt m c t).Rows (grid0.coords t) Y X := hX
  have ht := lt_of_lt_of_eq t.isLt N_0
  have hY : t.val = 0 ∨ Upto (argsOf m c) 1 (t.val - 1) Y := by
    rcases hY with h | h | h
    · exact .inl h
    · have h := (flush_5 _).1 h
      have h : (t.val - 1) % 16 = 15 := h
      exact absurd h (by omega)
    · exact .inr h
  have M := matches_at m c t
  have e := at_kb t
  show Upto (argsOf m c) 1 t.val X
  rw [e] at hY ⊢
  refine upto_step _ _ (kk t) (bb t) Y X ?_ ?_ hY
  · intro r d
    by_cases hk : (kk t).val = 0
    · have h3 : k0_cond3 (grid0.coords t) = 1#1 := (cond3_iff _).2 ((coords_0 t).trans hk)
      have hx := (hX.1 h3).1 (ix2 r d)
      rw [emb_rows _ (bb t) (off1_at t)] at hx
      have h0 : kk t = 0 := Fin.ext hk
      rw [if_pos h0, hx]
      rw [← h0]
      show (insAt m c t).dh (ix2 r d) = 0 + _
      rw [zero_add]
      exact dh_apply M r d
    · have h3 : ¬ k0_cond3 (grid0.coords t) = 1#1 := fun h => hk ((coords_0 t).symm.trans ((cond3_iff _).1 h))
      have hx := (hX.2 ((cond4_iff _).2 h3)).1 (ix2 r d)
      rw [emb_rows _ (bb t) (off2_at t)] at hx
      rw [if_neg (fun h => hk (congrArg Fin.val h)), hx]
      unfold k0_pay1
      simp only [shapeCast_self]
      rw [addf_apply]
      refine congrArg₂ (· + ·) (congrArg Y (emb_rows _ (bb t) (off2_at t) _ r d)) (dh_apply M r d)
  · intro b' hb r d
    by_cases h3 : k0_cond3 (grid0.coords t) = 1#1
    · exact (hX.1 h3).2 _ (not_mem_rows _ (bb t) b' hb (off1_at t) _ r d)
    · exact (hX.2 ((cond4_iff _).2 h3)).2 _ (not_mem_rows _ (bb t) b' hb (off2_at t) _ r d)

theorem leaves_6 : ∀ t X, (rdat m c).Leaves 6 t X → ∀ (d : Fin 1024) (q : Fin 512), X (ix3 0 d q) = (argsOf m c).g1Upto 1 ((bb t).val + 1) (kk t) d q := by
  refine leaves_ind (rdat m c) 6 (fun _ => rfl) (fun t X => ∀ (d : Fin 1024) (q : Fin 512), X (ix3 0 d q) = (argsOf m c).g1Upto 1 ((bb t).val + 1) (kk t) d q) ?_
  intro t Y X hX hY d q
  have hX : X = (insAt m c t).d1 (grid0.coords t) Y := hX
  have M := matches_at m c t
  rw [hX]
  unfold Ins.d1 Args.g1Upto
  by_cases hb : (bb t).val = 0
  · rw [if_pos ((cond1_iff _).2 ((coords_1 t).trans hb)), hb, upto_one]
    refine (d1_first M d q).trans ?_
    rw [show bb t = 0 from Fin.ext hb]
  · rw [if_neg (fun h => hb ((coords_1 t).symm.trans ((cond1_iff _).1 h))), upto_succ _ _ (bb t).isLt]
    refine (d1_next M Y d q).trans (congrArg (· + _) ?_)
    have hb' : t.val % 4 ≠ 0 := hb
    rcases hY with h | h | h
    · exact absurd h (by omega)
    · have h := (flush_6 _).1 h
      have h : (t.val - 1) % 4 = 3 := h
      exact absurd h (by omega)
    · refine (h d q).trans ?_
      have e1 : (bb ⟨t.val - 1, Nat.lt_of_le_of_lt (Nat.sub_le _ _) t.isLt⟩).val + 1 = (bb t).val := by
        show (t.val - 1) % 4 + 1 = t.val % 4; omega
      have e2 : kk ⟨t.val - 1, Nat.lt_of_le_of_lt (Nat.sub_le _ _) t.isLt⟩ = kk t := Fin.ext (by show (t.val - 1) / 4 = t.val / 4; omega)
      rw [e1, e2]
      rfl

theorem leaves_7 : ∀ t X, (rdat m c).Leaves 7 t X → ∀ (q : Fin 512) (d : Fin 1024), X (ix3 0 q d) = (argsOf m c).g2Upto 1 ((bb t).val + 1) (kk t) q d := by
  refine leaves_ind (rdat m c) 7 (fun _ => rfl) (fun t X => ∀ (q : Fin 512) (d : Fin 1024), X (ix3 0 q d) = (argsOf m c).g2Upto 1 ((bb t).val + 1) (kk t) q d) ?_
  intro t Y X hX hY q d
  have hX : X = (insAt m c t).d2 (grid0.coords t) Y := hX
  have M := matches_at m c t
  rw [hX]
  unfold Ins.d2 Args.g2Upto
  by_cases hb : (bb t).val = 0
  · rw [if_pos ((cond1_iff _).2 ((coords_1 t).trans hb)), hb, upto_one]
    refine (d2_first M q d).trans ?_
    rw [show bb t = 0 from Fin.ext hb]
  · rw [if_neg (fun h => hb ((coords_1 t).symm.trans ((cond1_iff _).1 h))), upto_succ _ _ (bb t).isLt]
    refine (d2_next M Y q d).trans (congrArg (· + _) ?_)
    have hb' : t.val % 4 ≠ 0 := hb
    rcases hY with h | h | h
    · exact absurd h (by omega)
    · have h := (flush_7 _).1 h
      have h : (t.val - 1) % 4 = 3 := h
      exact absurd h (by omega)
    · refine (h q d).trans ?_
      have e1 : (bb ⟨t.val - 1, Nat.lt_of_le_of_lt (Nat.sub_le _ _) t.isLt⟩).val + 1 = (bb t).val := by
        show (t.val - 1) % 4 + 1 = t.val % 4; omega
      have e2 : kk ⟨t.val - 1, Nat.lt_of_le_of_lt (Nat.sub_le _ _) t.isLt⟩ = kk t := Fin.ext (by show (t.val - 1) / 4 = t.val / 4; omega)
      rw [e1, e2]
      rfl

/-! ## The result arrays -/

theorem idx_5 : cc0_transform_5 (grid0.coords t0_15) 0 = 0 ∧ cc0_transform_5 (grid0.coords t0_15) 1 = 0 := by decide +kernel
theorem idx_6 : ∀ t : Fin (cfgA (F := Ideal)).N, cc0_transform_6 (grid0.coords t) 0 = (kk t).val ∧ cc0_transform_6 (grid0.coords t) 1 = 0 ∧ cc0_transform_6 (grid0.coords t) 2 = 0 :=
  (by decide +kernel : ∀ t : Fin grid0.N, cc0_transform_6 (grid0.coords t) 0 = t.val / 4 ∧ cc0_transform_6 (grid0.coords t) 1 = 0 ∧ cc0_transform_6 (grid0.coords t) 2 = 0)
theorem idx_7 : ∀ t : Fin (cfgA (F := Ideal)).N, cc0_transform_7 (grid0.coords t) 0 = (kk t).val ∧ cc0_transform_7 (grid0.coords t) 1 = 0 ∧ cc0_transform_7 (grid0.coords t) 2 = 0 :=
  (by decide +kernel : ∀ t : Fin grid0.N, cc0_transform_7 (grid0.coords t) 0 = t.val / 4 ∧ cc0_transform_7 (grid0.coords t) 1 = 0 ∧ cc0_transform_7 (grid0.coords t) 2 = 0)

section Arrays
variable {m}
variable (after : (w : Fin (cfgA (F := Ideal)).W) → Fin (cfgA (F := Ideal)).N → ((cfgA (F := Ideal)).win w).block.Idx → Elt Ideal ((cfgA (F := Ideal)).win w).elt)
  (h : ∀ (w : Fin (cfgA (F := Ideal)).W) (u : Fin (cfgA (F := Ideal)).N), ((cfgA (F := Ideal)).win w).flush u = true → (rdat m c).Leaves w u (after w u))
include h

theorem array_dh : ((rdat m c).withAfter after).arrAt 5 (cfgA (F := Ideal)).N = fun i : S2048x1024.Idx => (argsOf m c).dhAll 1 (i 0) (i 1) := by
  refine ((rdat m c).withAfter after).arrAt_eq_of_cover 5 _ (fun t ht => ?_) fun i => ?_
  · have e : t = t0_15 := Fin.ext (by
      have h1 := lt_of_lt_of_eq t.isLt N_0
      have h2 := (flush_5 t).1 ht
      show t.val = 15
      omega)
    funext x
    revert x
    refine forall_ix2 fun s d => ?_
    have hl := leaves_5 m c t _ (h 5 t ht)
    rw [show t.val = 15 from congrArg Fin.val e] at hl
    refine (upto_last _ _ _ hl s d).trans ?_
    subst e
    show _ = (fun i : S2048x1024.Idx => (argsOf m c).dhAll 1 (i 0) (i 1)) (((winA (F := Ideal) 5).rect t0_15).emb (ix2 s d))
    refine congrArg₂ ((argsOf m c).dhAll 1) (Fin.ext ?_) (Fin.ext ?_)
    · rw [Window.rect_emb_val (winA (F := Ideal) 5)]
      show s.val = cc0_transform_5 (grid0.coords t0_15) 0 * 2048 + s.val; rw [idx_5.1]; omega
    · rw [Window.rect_emb_val (winA (F := Ideal) 5)]
      show d.val = cc0_transform_5 (grid0.coords t0_15) 1 * 1024 + d.val; rw [idx_5.2]; omega
  · have h0 : (i 0).val < 2048 := (i 0).isLt
    have h1 : (i 1).val < 1024 := (i 1).isLt
    refine ⟨t0_15, (flush_5 t0_15).2 rfl, ?_⟩
    refine (ValueKit.mem_set_slice_whole_iff main_v18_0 ((winA (F := Ideal) 5).rect t0_15) i (Window.mem_rect_iff (winA (F := Ideal) 5) t0_15 i)).2 fun a => ?_
    match a with
    | ⟨0, _⟩ =>
      show cc0_transform_5 (grid0.coords t0_15) 0 * 2048 ≤ (i 0).val ∧ (i 0).val < cc0_transform_5 (grid0.coords t0_15) 0 * 2048 + 2048
      rw [idx_5.1]; omega
    | ⟨1, _⟩ =>
      show cc0_transform_5 (grid0.coords t0_15) 1 * 1024 ≤ (i 1).val ∧ (i 1).val < cc0_transform_5 (grid0.coords t0_15) 1 * 1024 + 1024
      rw [idx_5.2]; omega

theorem array_d1 : ((rdat m c).withAfter after).arrAt 6 (cfgA (F := Ideal)).N = fun i : S4x1024x512.Idx => (argsOf m c).g1All 1 (i 0) (i 1) (i 2) := by
  refine ((rdat m c).withAfter after).arrAt_eq_of_cover 6 _ (fun t ht => ?_) fun i => ?_
  · funext x
    revert x
    refine forall_ix3 fun u d q => ?_
    have e3 : (bb t).val + 1 = 4 := by rw [show (bb t).val = 3 from (flush_6 t).1 ht]
    have hl := leaves_6 m c t _ (h 6 t ht) d q
    rw [e3, Args.g1Upto_four] at hl
    rw [show u = 0 from Subsingleton.elim _ _]
    refine Eq.trans hl ?_
    show _ = (fun i : S4x1024x512.Idx => (argsOf m c).g1All 1 (i 0) (i 1) (i 2)) (((winA (F := Ideal) 6).rect t).emb (ix3 0 d q))
    have e0 : ((((winA (F := Ideal) 6).rect t).emb (ix3 0 d q)) 0 : Fin 4) = kk t := Fin.ext (by
      rw [Window.rect_emb_val (winA (F := Ideal) 6)]
      show cc0_transform_6 (grid0.coords t) 0 * 1 + 0 = (kk t).val; rw [(idx_6 t).1]; omega)
    have e1 : ((((winA (F := Ideal) 6).rect t).emb (ix3 0 d q)) 1 : Fin 1024) = d := Fin.ext (by
      rw [Window.rect_emb_val (winA (F := Ideal) 6)]
      show cc0_transform_6 (grid0.coords t) 1 * 1024 + d.val = d.val; rw [(idx_6 t).2.1]; omega)
    have e2 : ((((winA (F := Ideal) 6).rect t).emb (ix3 0 d q)) 2 : Fin 512) = q := Fin.ext (by
      rw [Window.rect_emb_val (winA (F := Ideal) 6)]
      show cc0_transform_6 (grid0.coords t) 2 * 512 + q.val = q.val; rw [(idx_6 t).2.2]; omega)
    exact (congr (congr (congrArg ((argsOf m c).g1All 1) e0) e1) e2).symm
  · have h0 : (i 0).val < 4 := (i 0).isLt
    have h1 : (i 1).val < 1024 := (i 1).isLt
    have h2 : (i 2).val < 512 := (i 2).isLt
    let t : Fin (cfgA (F := Ideal)).N := ⟨4 * (i 0).val + 3, lt_of_lt_of_eq (by omega) N_0.symm⟩
    refine ⟨t, (flush_6 t).2 (by show (4 * (i 0).val + 3) % 4 = 3; omega), ?_⟩
    refine (ValueKit.mem_set_slice_whole_iff main_v18_1 ((winA (F := Ideal) 6).rect t) i (Window.mem_rect_iff (winA (F := Ideal) 6) t i)).2 fun a => ?_
    match a with
    | ⟨0, _⟩ =>
      show cc0_transform_6 (grid0.coords t) 0 * 1 ≤ (i 0).val ∧ (i 0).val < cc0_transform_6 (grid0.coords t) 0 * 1 + 1
      rw [(idx_6 t).1]
      show (4 * (i 0).val + 3) / 4 * 1 ≤ (i 0).val ∧ (i 0).val < (4 * (i 0).val + 3) / 4 * 1 + 1
      omega
    | ⟨1, _⟩ =>
      show cc0_transform_6 (grid0.coords t) 1 * 1024 ≤ (i 1).val ∧ (i 1).val < cc0_transform_6 (grid0.coords t) 1 * 1024 + 1024
      rw [(idx_6 t).2.1]; omega
    | ⟨2, _⟩ =>
      show cc0_transform_6 (grid0.coords t) 2 * 512 ≤ (i 2).val ∧ (i 2).val < cc0_transform_6 (grid0.coords t) 2 * 512 + 512
      rw [(idx_6 t).2.2]; omega

theorem array_d2 : ((rdat m c).withAfter after).arrAt 7 (cfgA (F := Ideal)).N = fun i : S4x512x1024.Idx => (argsOf m c).g2All 1 (i 0) (i 1) (i 2) := by
  refine ((rdat m c).withAfter after).arrAt_eq_of_cover 7 _ (fun t ht => ?_) fun i => ?_
  · funext x
    revert x
    refine forall_ix3 fun u q d => ?_
    have e3 : (bb t).val + 1 = 4 := by rw [show (bb t).val = 3 from (flush_7 t).1 ht]
    have hl := leaves_7 m c t _ (h 7 t ht) q d
    rw [e3, Args.g2Upto_four] at hl
    rw [show u = 0 from Subsingleton.elim _ _]
    refine Eq.trans hl ?_
    show _ = (fun i : S4x512x1024.Idx => (argsOf m c).g2All 1 (i 0) (i 1) (i 2)) (((winA (F := Ideal) 7).rect t).emb (ix3 0 q d))
    have e0 : ((((winA (F := Ideal) 7).rect t).emb (ix3 0 q d)) 0 : Fin 4) = kk t := Fin.ext (by
      rw [Window.rect_emb_val (winA (F := Ideal) 7)]
      show cc0_transform_7 (grid0.coords t) 0 * 1 + 0 = (kk t).val; rw [(idx_7 t).1]; omega)
    have e1 : ((((winA (F := Ideal) 7).rect t).emb (ix3 0 q d)) 1 : Fin 512) = q := Fin.ext (by
      rw [Window.rect_emb_val (winA (F := Ideal) 7)]
      show cc0_transform_7 (grid0.coords t) 1 * 512 + q.val = q.val; rw [(idx_7 t).2.1]; omega)
    have e2 : ((((winA (F := Ideal) 7).rect t).emb (ix3 0 q d)) 2 : Fin 1024) = d := Fin.ext (by
      rw [Window.rect_emb_val (winA (F := Ideal) 7)]
      show cc0_transform_7 (grid0.coords t) 2 * 1024 + d.val = d.val; rw [(idx_7 t).2.2]; omega)
    exact (congr (congr (congrArg ((argsOf m c).g2All 1) e0) e1) e2).symm
  · have h0 : (i 0).val < 4 := (i 0).isLt
    have h1 : (i 1).val < 512 := (i 1).isLt
    have h2 : (i 2).val < 1024 := (i 2).isLt
    let t : Fin (cfgA (F := Ideal)).N := ⟨4 * (i 0).val + 3, lt_of_lt_of_eq (by omega) N_0.symm⟩
    refine ⟨t, (flush_7 t).2 (by show (4 * (i 0).val + 3) % 4 = 3; omega), ?_⟩
    refine (ValueKit.mem_set_slice_whole_iff main_v18_2 ((winA (F := Ideal) 7).rect t) i (Window.mem_rect_iff (winA (F := Ideal) 7) t i)).2 fun a => ?_
    match a with
    | ⟨0, _⟩ =>
      show cc0_transform_7 (grid0.coords t) 0 * 1 ≤ (i 0).val ∧ (i 0).val < cc0_transform_7 (grid0.coords t) 0 * 1 + 1
      rw [(idx_7 t).1]
      show (4 * (i 0).val + 3) / 4 * 1 ≤ (i 0).val ∧ (i 0).val < (4 * (i 0).val + 3) / 4 * 1 + 1
      omega
    | ⟨1, _⟩ =>
      show cc0_transform_7 (grid0.coords t) 1 * 512 ≤ (i 1).val ∧ (i 1).val < cc0_transform_7 (grid0.coords t) 1 * 512 + 512
      rw [(idx_7 t).2.1]; omega
    | ⟨2, _⟩ =>
      show cc0_transform_7 (grid0.coords t) 2 * 1024 ≤ (i 2).val ∧ (i 2).val < cc0_transform_7 (grid0.coords t) 2 * 1024 + 1024
      rw [(idx_7 t).2.2]; omega

end Arrays

theorem odd_value : Cert.algebraic_OddIdeal_OddRefIdeal := by
  intro m g m' g' hpre hagree
  refine ⟨fun c i => (argsOf m c).dhAll 1 (i 0) (i 1), fun c i => (argsOf m c).g1All 1 (i 0) (i 1) (i 2),
    fun c i => (argsOf m c).g2All 1 (i 0) (i 1) (i 2), ?_, ?_⟩
  · refine (θ_run _ _ _).mono (fun r h c => ?_) (run_main (F := Ideal) m g)
    obtain ⟨after, hL, hA⟩ := RDat.FramePost.exists_exact h.1 c
    exact ⟨(hA 5).trans (array_dh c after hL), (hA 6).trans (array_d1 c after hL), (hA 7).trans (array_d2 c after hL), args_kept m r h.1 c⟩
  · refine (θ_run _ _ _).mono (fun r h c => ?_) (Cert.OddRefIdeal.Value.run (F := Ideal) m' g')
    obtain ⟨e0, e1, e2, e3⟩ := hagree c
    have E : argsOf m c = Cert.OddRef.args
        (m' ((c.tc : Thread Cert.OddRefIdeal.nD Cert.OddRefIdeal.τ).loc Cert.OddRefIdeal.main_arg0))
        (m' ((c.tc : Thread Cert.OddRefIdeal.nD Cert.OddRefIdeal.τ).loc Cert.OddRefIdeal.main_arg1))
        (m' ((c.tc : Thread Cert.OddRefIdeal.nD Cert.OddRefIdeal.τ).loc Cert.OddRefIdeal.main_arg2))
        (m' ((c.tc : Thread Cert.OddRefIdeal.nD Cert.OddRefIdeal.τ).loc Cert.OddRefIdeal.main_arg3)) := by
      rw [e0, e1, e2, e3]; rfl
    obtain ⟨v0, v1, v2, kept⟩ := h c
    clear e0 e1 e2 e3
    refine ⟨v0.trans ?_, v1.trans ?_, v2.trans ?_, kept⟩
    · exact (Cert.OddRefIdeal.Read.val_main_v29_eq _ _ _ _ ).trans (Cert.OddRef.v29_eq _ _ _ _ |>.trans (congrArg (fun (A : Args) (i : S2048x1024.Idx) => A.dhAll 1 (i 0) (i 1)) E.symm))
    · exact (Cert.OddRefIdeal.Read.val_main_v31_eq _ _ _ _).trans (Cert.OddRef.v31_eq _ _ _ _ |>.trans (congrArg (fun (A : Args) (i : S4x1024x512.Idx) => A.g1All 1 (i 0) (i 1) (i 2)) E.symm))
    · exact (Cert.OddRefIdeal.Read.val_main_v32_eq _ _ _).trans (Cert.OddRef.v32_eq _ _ _ _ |>.trans (congrArg (fun (A : Args) (i : S4x512x1024.Idx) => A.g2All 1 (i 0) (i 1) (i 2)) E.symm))

end Cert.OddValue

end
-- ==== Proof.EvenRun.lean ====
/- The body of `_mlp_bwd_half` for the even blocks of the hidden columns, added to what the odd blocks left, run once at a grid point. -/
module

public import proofs.«01_k».proof.Proof.Overlay
public import proofs.«01_k».proof.Proof.Gen.EvenIdeal.Launch
public import proofs.«01_k».proof.Proof.Gen.EvenIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

noncomputable section

namespace Cert.EvenRun

open Cert.EvenIdeal Cert.EvenIdeal.Gen Cert.Overlay
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body reads at a point. -/
structure Ins (F : FTy → Type) where
  h : Vec F S1024x512 .bf16
  f : Vec F S512x512 .f32
  dz : Vec F S512x1024 .bf16
  w1 : Vec F S1x512x1024 .bf16
  w2 : Vec F S1x512x1024 .bf16
  prior : Vec F S512x1024 .f32

/-- The gradient of the layer's input over one block of rows, through one block of hidden columns. -/
def Ins.dh (B : Ins F) : Vec F S512x1024 .f32 := k0_pay6 B.w1 B.w2 B.dz B.f

/-- What the body leaves of the two weights' gradients. -/
def Ins.d1 (i : grid0.Coords) (B : Ins F) (Y : Vec F S1x1024x512 .f32) : Vec F S1x1024x512 .f32 :=
  if k0_cond1 i = 1#1 then k0_pay10 B.w2 B.dz B.f B.h else k0_pay12 B.w2 B.dz B.f B.h Y
def Ins.d2 (i : grid0.Coords) (B : Ins F) (Y : Vec F S1x512x1024 .f32) : Vec F S1x512x1024 .f32 :=
  if k0_cond1 i = 1#1 then k0_pay9 B.dz B.f else k0_pay11 B.dz B.f Y

/-- What it leaves of the input's gradient: the rows of the point's block written or added to, the others as they were. -/
def Ins.Rows (i : grid0.Coords) (B : Ins F) (Y X : Vec F S2048x1024 .f32) : Prop :=
  (∀ h : k0_cond3 i = 1#1, Over (Val := Elt F) (e := .f32) (Rect.unit (s := S2048x1024) (k0_off1 i) S512x1024.size (k0_off1_inb i h)) (k0_pay1 B.dh B.prior) Y X)
    ∧ ∀ h : k0_cond4 i = 1#1, Over (Val := Elt F) (e := .f32) (Rect.unit (s := S2048x1024) (k0_off2 i) S512x1024.size (k0_off2_inb i h))
        (k0_pay2 B.dh (View.ld Y (Rect.unit (s := S2048x1024) (k0_off2 i) S512x1024.size (k0_off2_inb i h)))) Y X

theorem cond2_iff : ∀ i : grid0.Coords, k0_cond2 i = 1#1 ↔ ¬ k0_cond1 i = 1#1 := by decide +kernel
theorem cond4_iff : ∀ i : grid0.Coords, k0_cond4 i = 1#1 ↔ ¬ k0_cond3 i = 1#1 := by decide +kernel

section Body
variable (c : Dev nD) (i : grid0.Coords) (arg2 : Memref sig .tc .smem S2 .i32) (harg2 : arg2.IsWhole) (arg3 : Memref sig .tc .vmem S1024x512 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S8x128 .f32) (harg9 : arg9.IsWhole) (arg10 : Memref sig .tc .vmem S2048x1024 .f32) (harg10 : arg10.IsWhole) (arg11 : Memref sig .tc .vmem S1x1024x512 .f32) (harg11 : arg11.IsWhole) (arg12 : Memref sig .tc .vmem S1x512x1024 .f32) (harg12 : arg12.IsWhole)

/-- The blocks the body reads. -/
abbrev insOwned (B : Ins F) : sProp 𝕄 :=
  iprop(owns (c : Thread nD τ) arg3 fullShare B.h ∗ owns (c : Thread nD τ) arg4 fullShare B.f ∗ owns (c : Thread nD τ) arg5 fullShare B.dz ∗ owns (c : Thread nD τ) arg6 fullShare B.w1 ∗ owns (c : Thread nD τ) arg7 fullShare B.w2 ∗ owns (c : Thread nD τ) arg8 fullShare B.prior)

set_option maxHeartbeats 800000 in
theorem body_run (B : Ins F) (Y1 : Vec F S2048x1024 .f32) (Y2 : Vec F S1x1024x512 .f32) (Y3 : Vec F S1x512x1024 .f32) (K : PUnit → sProp 𝕄) :
    iprop(insOwned c arg3 arg4 arg5 arg6 arg7 arg8 B
        ∗ owns (c : Thread nD τ) arg10 fullShare Y1 ∗ owns (c : Thread nD τ) arg11 fullShare Y2 ∗ owns (c : Thread nD τ) arg12 fullShare Y3
        ∗ (iprop(insOwned c arg3 arg4 arg5 arg6 arg7 arg8 B
            ∗ (∃ X, ⌜B.Rows i Y1 X⌝ ∗ owns (c : Thread nD τ) arg10 fullShare X)
            ∗ owns (c : Thread nD τ) arg11 fullShare (B.d1 i Y2) ∗ owns (c : Thread nD τ) arg12 fullShare (B.d2 i Y3)) -∗ K ⟨⟩))
      ⊢ wp frame (wpE (defs₀ (F := F)) Variants.none c none) Set.univ (cc0_mlp_bwd_second (F := F) i arg2 harg2 arg3 harg3 arg4 harg4 arg5 harg5 arg6 harg6 arg7 harg7 arg8 harg8 arg9 harg9 arg10 harg10 arg11 harg11 arg12 harg12) K := by
  rcases B with ⟨bh, bf, bdz, bw1, bw2, bprior⟩
  unfold insOwned owns
  dsimp only
  iintro ⟨⟨⟨%f3, %h3, H3⟩, ⟨%f4, %h4, H4⟩, ⟨%f5, %h5, H5⟩, ⟨%f6, %h6, H6⟩, ⟨%f7, %h7, H7⟩, ⟨%f8, %h8, H8⟩⟩, ⟨%f10, %h10, H10⟩, ⟨%f11, %h11, H11⟩, ⟨%f12, %h12, H12⟩, Hk⟩
  subst h3 h4 h5 h6 h7 h8 h10 h11 h12
  have e2 := cond2_iff i
  have e4 := cond4_iff i
  rw [cc0_mlp_bwd_second_eq_skeleton]; unfold cc0_mlp_bwd_second_skel
  rw [k0_part1_eq_skeleton]; unfold k0_part1_skel
  by_cases k1 : k0_cond1 i = 1#1
  all_goals by_cases k3 : k0_cond3 i = 1#1
  all_goals first | have k2 := e2.2 k1 | have k2 := fun h => e2.1 h k1
  all_goals first | have k4 := e4.2 k3 | have k4 := fun h => e4.1 h k3
  all_goals
    sl_exec
    sl_step
    rw [View.readAt_full arg6.view f6, View.readAt_full arg7.view f7, View.readAt_full arg5.view f5, View.readAt_full arg4.view f4, View.readAt_full arg3.view f3]
    try rw [View.readAt_full arg11.view f11]
    try rw [View.readAt_full arg12.view f12]
    try rw [View.readAt_full arg8.view f8]
    iapply Hk
    isplitl [H3 H4 H5 H6 H7 H8]
    · isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      iexists f8; isplitr; · ipureintro; rfl
      iexact H8
    isplitl [H10]
    · iexists _; isplitr; swap
      · iexists _; isplitr; swap; · iexact H10
        ipureintro; rfl
      ipureintro
      refine ⟨fun h => ?_, fun h => ?_⟩
      all_goals first | (exfalso; first | exact k3 h | exact k4 h; done) | (dsimp only [Ins.dh]; exact over_writes (Val := Elt F) (e := .f32) arg10.view f10 _ _)
    isplitl [H11]
    · iexists _; isplitr; swap; · iexact H11
      ipureintro
      unfold Ins.d1
      first | rw [if_pos k1] | rw [if_neg k1]
      exact View.read_writes_full _ _ _ _ _
    iexists _; isplitr; swap; · iexact H12
    ipureintro
    unfold Ins.d2
    first | rw [if_pos k1] | rw [if_neg k1]
    exact View.read_writes_full _ _ _ _ _

end Body

end Cert.EvenRun

end
-- ==== Proof.EvenGrid.lean ====
/- `_mlp_bwd_half` for the even blocks: its grid at the table it prefetches, which holds zeros. -/
module

public import proofs.«01_k».proof.Proof.Gen.EvenIdeal.Launch
public import Idealize.ShloMosaic.Lib.Pipeline.FrameBody
public import Idealize.ShloMosaic.Lib.Pipeline.ArrRel
public import Idealize.ShloMosaic.Lib.Ring
public import Idealize.ShloMosaic.Lib.Tactic
public import Idealize.ShloMosaic.Lib.Affine

@[expose] public section

noncomputable section

namespace Cert.EvenGrid

open Cert.EvenIdeal Cert.EvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window)

variable {F : FTy → Type} [FloatOps F]

/-! ## The prefetched table -/

/-- The table: the device's place on each of two axes, zero on the one device. -/
def table : pre0.Contents (Elt F) := fun
  | 0 => fun _ => (0#32 : BitVec 32)
  | ⟨_ + 1, h⟩ => absurd h (Nat.not_lt.2 (Nat.le_add_left _ _))

/-- The block of the hidden columns a grid point is on. -/
def word (i : grid0.Coords) : BitVec 32 :=
  Scalar.addi (Scalar.muli 2#32 (BitVec.ofNat 32 (i 0).val)) (Scalar.xori 0#32 0#32)
theorem word_eq : ∀ i : grid0.Coords, (word i).toNat = 2 * (i 0).val := by decide +kernel
theorem row_eq : ∀ i : grid0.Coords, (BitVec.ofNat 32 (i 1).val).toNat = (i 1).val := by decide +kernel

theorem map_1 (i : grid0.Coords) : cc0_transform_1 inb_S2_S1_0 numel1_S1 (table (F := F)) i = ![(i 1).val, 2 * (i 0).val] := by
  rw [show cc0_transform_1 inb_S2_S1_0 numel1_S1 (table (F := F)) i = ![(BitVec.ofNat 32 (i 1).val).toNat, (word i).toNat] from rfl,
    word_eq, row_eq]
theorem map_3 (i : grid0.Coords) : cc0_transform_3 inb_S2_S1_0 numel1_S1 (table (F := F)) i = ![2 * (i 0).val, 0, 0] := by
  rw [show cc0_transform_3 inb_S2_S1_0 numel1_S1 (table (F := F)) i = ![(word i).toNat, 0, 0] from rfl, word_eq]
theorem map_4 (i : grid0.Coords) : cc0_transform_4 inb_S2_S1_0 numel1_S1 (table (F := F)) i = ![2 * (i 0).val, 1, 0] := by
  rw [show cc0_transform_4 inb_S2_S1_0 numel1_S1 (table (F := F)) i = ![(word i).toNat, 1, 0] from rfl, word_eq]

/-- At the table every window's block lies inside its array. -/
theorem table_ok : ok0 (table (F := F)) := by
  refine ⟨fun i => ⟨?_, .inl rfl⟩, fun i => ⟨?_, .inr (Affine.block_words_dvd (s := S8x1024x1024) (p := EltTy.packing .bf16) (by decide) (by decide))⟩,
    fun i => ⟨?_, .inr (Affine.block_words_dvd (s := S8x1024x1024) (p := EltTy.packing .bf16) (by decide) (by decide))⟩⟩
  · rw [map_1]; revert i; decide +kernel
  · rw [map_3]; revert i; decide +kernel
  · rw [map_4]; revert i; decide +kernel

/-- The table as admissible contents, and the pipeline at it. -/
def adm : (pcfg0 (F := F)).Adm := ⟨table, table_ok⟩
abbrev cfgA : Cfg sig Λ₀ := cfg0 (F := F) adm
abbrev winA (w : Fin 10) : Window sig grid0 := (cfgA (F := F)).win w

/-! ## When the outputs are written back -/

theorem flush_7 : ∀ t : Fin (cfgA (F := F)).N, ((cfgA (F := F)).win 7).flush t = true ↔ t.val % 16 = 15 :=
  (fun t => Window.flush_const (winA (F := F) 7) rfl (fun _ _ => rfl) (n := 16) (by decide) rfl t : ∀ t : Fin grid0.N, (winA (F := F) 7).flush t = true ↔ t.val % 16 = 15)
theorem flush_8 : ∀ t : Fin (cfgA (F := F)).N, ((cfgA (F := F)).win 8).flush t = true ↔ t.val % 4 = 3 :=
  (fun t => Window.flush_reads (winA (F := F) 8) rfl 0 (by decide) (show grid0.fixedAfter reads0_8 0 = true by decide) (Window.sep_of_coord cc0_transform_8 0 0 (fun _ => rfl) (by decide)) (P := 4) (m := 3) (by decide) rfl t : ∀ t : Fin grid0.N, (winA (F := F) 8).flush t = true ↔ t.val % 4 = 3)
theorem flush_9 : ∀ t : Fin (cfgA (F := F)).N, ((cfgA (F := F)).win 9).flush t = true ↔ t.val % 4 = 3 :=
  (fun t => Window.flush_reads (winA (F := F) 9) rfl 0 (by decide) (show grid0.fixedAfter reads0_9 0 = true by decide) (Window.sep_of_coord cc0_transform_9 0 0 (fun _ => rfl) (by decide)) (P := 4) (m := 3) (by decide) rfl t : ∀ t : Fin grid0.N, (winA (F := F) 9).flush t = true ↔ t.val % 4 = 3)

/-! ## The staging buffers and the body at a point -/

abbrev st_0 (t : Fin (cfgA (F := F)).N) := ((cfgA (F := F)).win 0).stage ((cfgA (F := F)).slots t 0)
abbrev st_1 (t : Fin (cfgA (F := F)).N) := ((cfgA (F := F)).win 1).stage ((cfgA (F := F)).slots t 1)
abbrev st_2 (t : Fin (cfgA (F := F)).N) := ((cfgA (F := F)).win 2).stage ((cfgA (F := F)).slots t 2)
abbrev st_3 (t : Fin (cfgA (F := F)).N) := ((cfgA (F := F)).win 3).stage ((cfgA (F := F)).slots t 3)
abbrev st_4 (t : Fin (cfgA (F := F)).N) := ((cfgA (F := F)).win 4).stage ((cfgA (F := F)).slots t 4)
abbrev st_5 (t : Fin (cfgA (F := F)).N) := ((cfgA (F := F)).win 5).stage ((cfgA (F := F)).slots t 5)
abbrev st_6 (t : Fin (cfgA (F := F)).N) := ((cfgA (F := F)).win 6).stage ((cfgA (F := F)).slots t 6)
abbrev st_7 (t : Fin (cfgA (F := F)).N) := ((cfgA (F := F)).win 7).stage ((cfgA (F := F)).slots t 7)
abbrev st_8 (t : Fin (cfgA (F := F)).N) := ((cfgA (F := F)).win 8).stage ((cfgA (F := F)).slots t 8)
abbrev st_9 (t : Fin (cfgA (F := F)).N) := ((cfgA (F := F)).win 9).stage ((cfgA (F := F)).slots t 9)

/-- The body at a point. -/
abbrev bodyAt (t : Fin (cfgA (F := F)).N) : Prog (TpuEff nD τ sig (Elt F) Λ₀ .tc) PUnit :=
  cc0_mlp_bwd_second (grid0.coords t) (Memref.whole main_v12) (Memref.isWhole_whole _) (st_0 (F := F) t) (hstage0_0 (((cfgA (F := F)).slots t 0).cast nbuf0_0)) (st_1 (F := F) t) (hstage0_1 (((cfgA (F := F)).slots t 1).cast nbuf0_1)) (st_2 (F := F) t) (hstage0_2 (((cfgA (F := F)).slots t 2).cast nbuf0_2)) (st_3 (F := F) t) (hstage0_3 (((cfgA (F := F)).slots t 3).cast nbuf0_3)) (st_4 (F := F) t) (hstage0_4 (((cfgA (F := F)).slots t 4).cast nbuf0_4)) (st_5 (F := F) t) (hstage0_5 (((cfgA (F := F)).slots t 5).cast nbuf0_5)) (st_6 (F := F) t) (hstage0_6 (((cfgA (F := F)).slots t 6).cast nbuf0_6)) (st_7 (F := F) t) (hstage0_7 (((cfgA (F := F)).slots t 7).cast nbuf0_7)) (st_8 (F := F) t) (hstage0_8 (((cfgA (F := F)).slots t 8).cast nbuf0_8)) (st_9 (F := F) t) (hstage0_9 (((cfgA (F := F)).slots t 9).cast nbuf0_9))

/-! ## The host lines before the call -/

variable (m : (ℓ : Loc nD τ sig) → Buf (Elt F) ℓ)

/-- The buffers as the call finds them. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program runs its host lines, then the call. -/
theorem main_host : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main hostOps0 hostOps0_sub host_fresh main_chain

/-- What the host lines write. -/
abbrev written : List (Ref sig .tc) := [main_v0, main_v1, main_v2, main_v3, main_v4, main_v5, main_v6, main_v7, main_v8, main_v9, main_v10, main_v11, main_c, main_v12, main_v13, main_v14, main_v15, main_cst, main_v16, main_v17, main_v18]
theorem host_writes : ((hostOps0 (F := F)) : List (HloOp τ sig (Elt F))).Forall fun op => op.writes ⊆ (written.map (Proc.devRef (τ := τ) .tc)).toFinset :=
  StableHlo.forall_writes_sub_of_map rfl

theorem V_main_arg0 (c : Dev nD) : V m c main_arg0 = m ((c : Thread nD τ).loc main_arg0) :=
  StableHlo.after_of_writes_sub (hostOps0 (F := F)) _ host_writes (by decide)
theorem V_main_arg1 (c : Dev nD) : V m c main_arg1 = m ((c : Thread nD τ).loc main_arg1) :=
  StableHlo.after_of_writes_sub (hostOps0 (F := F)) _ host_writes (by decide)
theorem V_main_arg2 (c : Dev nD) : V m c main_arg2 = m ((c : Thread nD τ).loc main_arg2) :=
  StableHlo.after_of_writes_sub (hostOps0 (F := F)) _ host_writes (by decide)
theorem V_main_arg3 (c : Dev nD) : V m c main_arg3 = m ((c : Thread nD τ).loc main_arg3) :=
  StableHlo.after_of_writes_sub (hostOps0 (F := F)) _ host_writes (by decide)
theorem V_main_arg4 (c : Dev nD) : V m c main_arg4 = m ((c : Thread nD τ).loc main_arg4) :=
  StableHlo.after_of_writes_sub (hostOps0 (F := F)) _ host_writes (by decide)

/-- The host lines fill the table with zeros. -/
theorem V_table (c : Dev nD) (k : Fin (pcfgs (F := F) 0).pre.K) : V m c ((pcfgs (F := F) 0).pre.ref k) = (adm (F := F)).1 k := by
  fin_cases k
  show StableHlo.after hostOps0 _ (main_v12 : Ref sig .tc) = _
  simp only [hostOps0]
  after_results <;> rfl

/-- A window's block at a point, of its array as the call finds it. -/
def iblk (c : Dev nD) (w : Fin (cfgA (F := F)).W) (t : Fin (cfgA (F := F)).N) : (((cfgA (F := F)).win w).xblock (grid0.coords t)).Idx → Elt F ((cfgA (F := F)).win w).elt :=
  (((cfgA (F := F)).win w).blk t).view.read (Elt F) (V m c (Pipeline.arrRef spec0 w))

end Cert.EvenGrid

end
-- ==== Proof.EvenFrame.lean ====
/- `_mlp_bwd_half` for the even blocks over its grid: the frame of the run. -/
module

public import proofs.«01_k».proof.Proof.EvenRun
public import proofs.«01_k».proof.Proof.EvenGrid

@[expose] public section

noncomputable section

namespace Cert.EvenFrame

open Cert.EvenIdeal Cert.EvenIdeal.Gen Cert.EvenRun Cert.EvenGrid
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body reads at a point. -/
def insAt (c : Dev nD) (t : Fin (cfgA (F := F)).N) : Ins F :=
  ⟨iblk m c 0 t, iblk m c 1 t, iblk m c 2 t, iblk m c 3 t, iblk m c 4 t, iblk m c 5 t⟩

/-- What the body may leave in each window at a point, of what it found there. -/
def rdat (c : Dev nD) : RDat τ (Elt F) Unit ℕ (UR sig nD τ) ℕ (cfgA (F := F)) c where
  A w := V m c (Pipeline.arrRef spec0 w)
  after w t := match w with
    | ⟨0, _⟩ => fun Y X => X = Y | ⟨1, _⟩ => fun Y X => X = Y | ⟨2, _⟩ => fun Y X => X = Y | ⟨3, _⟩ => fun Y X => X = Y | ⟨4, _⟩ => fun Y X => X = Y | ⟨5, _⟩ => fun Y X => X = Y | ⟨6, _⟩ => fun Y X => X = Y
    | ⟨7, _⟩ => fun Y X => (insAt m c t).Rows (grid0.coords t) Y X
    | ⟨8, _⟩ => fun Y X => X = (insAt m c t).d1 (grid0.coords t) Y
    | ⟨9, _⟩ => fun Y X => X = (insAt m c t).d2 (grid0.coords t) Y
  Φ _ := Pipeline.ΦA spec0 c
  q := Pipeline.shareOf spec0
  owed _ := 0

theorem A_eq (c : Dev nD) (w : Fin (cfgA (F := F)).W) : (rdat m c).A w = V m c (Pipeline.arrRef spec0 w) := by
  dsimp only [rdat]

theorem finds_0 (c : Dev nD) (t : Fin (cfgA (F := F)).N) (Y) (h : (rdat m c).Finds 0 t Y) : Y = iblk m c 0 t :=
  let ⟨_, e⟩ := (rdat m c).finds_in_eq_fetched 0 rfl (fun _ _ _ => rfl) (fun _ _ _ h => h) t Y h
  e.trans rfl
theorem finds_1 (c : Dev nD) (t : Fin (cfgA (F := F)).N) (Y) (h : (rdat m c).Finds 1 t Y) : Y = iblk m c 1 t :=
  let ⟨_, e⟩ := (rdat m c).finds_in_eq_fetched 1 rfl (fun _ _ _ => rfl) (fun _ _ _ h => h) t Y h
  e.trans rfl
theorem finds_2 (c : Dev nD) (t : Fin (cfgA (F := F)).N) (Y) (h : (rdat m c).Finds 2 t Y) : Y = iblk m c 2 t :=
  let ⟨_, e⟩ := (rdat m c).finds_in_eq_fetched 2 rfl (fun _ _ _ => rfl) (fun _ _ _ h => h) t Y h
  e.trans rfl
theorem finds_3 (c : Dev nD) (t : Fin (cfgA (F := F)).N) (Y) (h : (rdat m c).Finds 3 t Y) : Y = iblk m c 3 t :=
  let ⟨_, e⟩ := (rdat m c).finds_in_eq_fetched 3 rfl (fun _ _ _ => rfl) (fun _ _ _ h => h) t Y h
  e.trans rfl
theorem finds_4 (c : Dev nD) (t : Fin (cfgA (F := F)).N) (Y) (h : (rdat m c).Finds 4 t Y) : Y = iblk m c 4 t :=
  let ⟨_, e⟩ := (rdat m c).finds_in_eq_fetched 4 rfl (fun _ _ _ => rfl) (fun _ _ _ h => h) t Y h
  e.trans rfl
theorem finds_5 (c : Dev nD) (t : Fin (cfgA (F := F)).N) (Y) (h : (rdat m c).Finds 5 t Y) : Y = iblk m c 5 t :=
  let ⟨_, e⟩ := (rdat m c).finds_in_eq_fetched 5 rfl (fun _ _ _ => rfl) (fun _ _ _ h => h) t Y h
  e.trans rfl
/-! ## The body at a point -/

def bodyPre (c : Dev nD) (t : Fin (cfgA (F := F)).N) (Y : (w : Fin (cfgA (F := F)).W) → ((cfgA (F := F)).win w).block.Idx → Elt F ((cfgA (F := F)).win w).elt) : sProp 𝕄 :=
  iprop((rdat m c).Φ t.castSucc ∗ (rdat m c).owesAt () t.castSucc
    ∗ owns (c : Thread nD τ) (st_0 t) fullShare (Y 0)
    ∗ owns (c : Thread nD τ) (st_1 t) fullShare (Y 1)
    ∗ owns (c : Thread nD τ) (st_2 t) fullShare (Y 2)
    ∗ owns (c : Thread nD τ) (st_3 t) fullShare (Y 3)
    ∗ owns (c : Thread nD τ) (st_4 t) fullShare (Y 4)
    ∗ owns (c : Thread nD τ) (st_5 t) fullShare (Y 5)
    ∗ owns (c : Thread nD τ) (st_6 t) fullShare (Y 6)
    ∗ owns (c : Thread nD τ) (st_7 t) fullShare (Y 7)
    ∗ owns (c : Thread nD τ) (st_8 t) fullShare (Y 8)
    ∗ owns (c : Thread nD τ) (st_9 t) fullShare (Y 9))
def bodyPost (c : Dev nD) (t : Fin (cfgA (F := F)).N) (Y : (w : Fin (cfgA (F := F)).W) → ((cfgA (F := F)).win w).block.Idx → Elt F ((cfgA (F := F)).win w).elt) : sProp 𝕄 :=
  iprop((rdat m c).Φ t.succ ∗ (rdat m c).owesAt () t.succ
    ∗ (∃ X, ⌜(rdat m c).after 0 t (Y 0) X⌝ ∗ owns (c : Thread nD τ) (st_0 t) fullShare X)
    ∗ (∃ X, ⌜(rdat m c).after 1 t (Y 1) X⌝ ∗ owns (c : Thread nD τ) (st_1 t) fullShare X)
    ∗ (∃ X, ⌜(rdat m c).after 2 t (Y 2) X⌝ ∗ owns (c : Thread nD τ) (st_2 t) fullShare X)
    ∗ (∃ X, ⌜(rdat m c).after 3 t (Y 3) X⌝ ∗ owns (c : Thread nD τ) (st_3 t) fullShare X)
    ∗ (∃ X, ⌜(rdat m c).after 4 t (Y 4) X⌝ ∗ owns (c : Thread nD τ) (st_4 t) fullShare X)
    ∗ (∃ X, ⌜(rdat m c).after 5 t (Y 5) X⌝ ∗ owns (c : Thread nD τ) (st_5 t) fullShare X)
    ∗ (∃ X, ⌜(rdat m c).after 6 t (Y 6) X⌝ ∗ owns (c : Thread nD τ) (st_6 t) fullShare X)
    ∗ (∃ X, ⌜(rdat m c).after 7 t (Y 7) X⌝ ∗ owns (c : Thread nD τ) (st_7 t) fullShare X)
    ∗ (∃ X, ⌜(rdat m c).after 8 t (Y 8) X⌝ ∗ owns (c : Thread nD τ) (st_8 t) fullShare X)
    ∗ (∃ X, ⌜(rdat m c).after 9 t (Y 9) X⌝ ∗ owns (c : Thread nD τ) (st_9 t) fullShare X))

theorem sound_body (c : Dev nD) (t : Fin (cfgA (F := F)).N) (Y : (w : Fin (cfgA (F := F)).W) → ((cfgA (F := F)).win w).block.Idx → Elt F ((cfgA (F := F)).win w).elt) (hY : ∀ w, (rdat m c).Finds w t (Y w)) :
    bodyPre m c t Y ⊢ wp frame (wpE (defs₀ (F := F)) Variants.none c none) Set.univ (bodyAt t) (fun _ => bodyPost m c t Y) := by
  unfold bodyPre bodyPost
  rw [show (rdat m c).Φ t.succ = Pipeline.ΦA spec0 c from rfl, show (rdat m c).Φ t.castSucc = Pipeline.ΦA spec0 c from rfl]
  unfold RDat.owesAt Pipeline.owesWithin
  rw [show (rdat m c).owed t.castSucc = 0 from rfl, show (rdat m c).owed t.succ = 0 from rfl]
  rw [finds_0 m c t _ (hY 0), finds_1 m c t _ (hY 1), finds_2 m c t _ (hY 2), finds_3 m c t _ (hY 3), finds_4 m c t _ (hY 4), finds_5 m c t _ (hY 5)]
  iintro ⟨HA, HW, H0, H1, H2, H3, H4, H5, H6, H7, H8, H9⟩
  iapply (body_run c (grid0.coords t) (Memref.whole main_v12) (Memref.isWhole_whole _) (st_0 t) (hstage0_0 (((cfgA (F := F)).slots t 0).cast nbuf0_0)) (st_1 t) (hstage0_1 (((cfgA (F := F)).slots t 1).cast nbuf0_1)) (st_2 t) (hstage0_2 (((cfgA (F := F)).slots t 2).cast nbuf0_2)) (st_3 t) (hstage0_3 (((cfgA (F := F)).slots t 3).cast nbuf0_3)) (st_4 t) (hstage0_4 (((cfgA (F := F)).slots t 4).cast nbuf0_4)) (st_5 t) (hstage0_5 (((cfgA (F := F)).slots t 5).cast nbuf0_5)) (st_6 t) (hstage0_6 (((cfgA (F := F)).slots t 6).cast nbuf0_6)) (st_7 t) (hstage0_7 (((cfgA (F := F)).slots t 7).cast nbuf0_7)) (st_8 t) (hstage0_8 (((cfgA (F := F)).slots t 8).cast nbuf0_8)) (st_9 t) (hstage0_9 (((cfgA (F := F)).slots t 9).cast nbuf0_9)) (insAt m c t) (Y 7) (Y 8) (Y 9) _)
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H7]; · iexact H7
  isplitl [H8]; · iexact H8
  isplitl [H9]; · iexact H9
  iintro ⟨⟨H0, H1, H2, H3, H4, H5⟩, ⟨%X, %hX, H7⟩, H8, H9⟩
  isplitl [HA]; · iexact HA
  isplitl [HW]
  · icases HW with ⟨%W, %hW, HW⟩
    iexists W; isplitr; · ipureintro; exact fun _ _ => Or.inl trivial
    iexact HW
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists X; isplitr; · ipureintro; exact hX
    iexact H7
  isplitl [H8]
  · iexists _; isplitr; swap; · iexact H8
    ipureintro; exact rfl
  iexists _; isplitr; swap; · iexact H9
  ipureintro; exact rfl

theorem defs₀_row (t : Fin (cfgA (F := F)).N) :
    defs₀ (F := F) .tc (cfgA (F := F)).body ((cfgA (F := F)).bodyArgs t ((cfgA (F := F)).slots t)) = bodyAt t := by
  unfold defs₀; rw [Defs.onTc_tc]; rfl

theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-! ## The run and the frame -/

theorem table_dropped (A B : sProp 𝕄) : iprop(A ∗ B) ⊢ A := by
  iintro ⟨H, -⟩
  iexact H

theorem run_main : θ_run defs (onTc (τ := τ) (main (F := F))) (s₀ m ρ) (fun r => RDat.FramePost (cfgA (F := F)) (rdat m) (V m) r ∧ r.2.sem = fun _ => 0) :=
  RDat.θ_run_frameP_track_shared (pcfgs (F := F)) (fun _ => adm) (0 : Fin 1) launch₀0 defs₀ Variants.none (rdat m) m ρ main
    (fun c => body_obligation m c) (fun _ _ _ => rfl) (fun _ _ => rfl) (V m) (main_host m) (A_eq m) (V_table m)
    (fun _ => table_dropped _ _) (fun _ => .rfl) _ (fun _ h => h)

/-- The arguments end as they were. -/
theorem args_kept (r : PUnit × MemSt nD τ sig (Elt F)) (h : RDat.FramePost (cfgA (F := F)) (rdat m) (V m) r) (c : Dev nD) :
    r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) :=
  ⟨((RDat.FramePost.arr_in h c 5 rfl).trans ((A_eq m c 5).trans (V_main_arg0 m c))),
      ((h c).2 main_arg1 (Pipeline.mem_restRefs_of main_arg1 (by decide) (show ∀ w : Fin 10, (spec0 w).arr.view.ref ≠ main_arg1 by decide))).trans (V_main_arg1 m c),
      ((h c).2 main_arg2 (Pipeline.mem_restRefs_of main_arg2 (by decide) (show ∀ w : Fin 10, (spec0 w).arr.view.ref ≠ main_arg2 by decide))).trans (V_main_arg2 m c),
      ((h c).2 main_arg3 (Pipeline.mem_restRefs_of main_arg3 (by decide) (show ∀ w : Fin 10, (spec0 w).arr.view.ref ≠ main_arg3 by decide))).trans (V_main_arg3 m c),
      ((h c).2 main_arg4 (Pipeline.mem_restRefs_of main_arg4 (by decide) (show ∀ w : Fin 10, (spec0 w).arr.view.ref ≠ main_arg4 by decide))).trans (V_main_arg4 m c)⟩

/-- THE FRAME, at any floats: it ends without a fault, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4))
      ∧ r.2.sem = fun _ => 0) :=
  (θ_run defs _ _).mono (fun r h => ⟨args_kept m r h.1, h.2⟩) (run_main m ρ)

end Cert.EvenFrame

end
-- ==== Proof.EvenRef.lean ====
/- The reference of the gradients through the half of the hidden columns made of the even blocks, read at an index:
   each of its three results is the function of rows and columns that `HalfSpec` names. -/
module

public import proofs.«01_k».proof.Proof.HalfSpec
public import proofs.«01_k».proof.Proof.Gen.EvenRefIdeal.Run
public import proofs.«01_k».proof.Proof.Gen.EvenRefIdeal.Read

@[expose] public section

set_option maxRecDepth 16384

noncomputable section

namespace Cert.EvenRef

open Idealize.ShloMosaic Idealize.ShloMosaic.ValueIdx Idealize.ShloMosaic.TcCoe Cert.Reals Cert.HalfSpec
open Cert.EvenRefIdeal Cert.EvenRefIdeal.Gen Cert.EvenRefIdeal.Read
open scoped BigOperators

variable (x0 : FVec Ideal S2048x1024 .f32) (x1 x2 : FVec Ideal S1x2048x1024 .f32) (x3 : FVec Ideal S1x1024x4096 .f32) (x4 : FVec Ideal S1x4096x1024 .f32)

/-- The arguments by row and column. -/
def args : Args where
  h s d := x1 (ix3 0 s d)
  dz s d := x2 (ix3 0 s d)
  w1 d j := x3 (ix3 0 d j)
  w2 j d := x4 (ix3 0 j d)
  prior s d := x0 (ix2 s d)

local notation "𝔸" => args x0 x1 x2 x3 x4

/-! ## The two inputs and the half of each weight -/

theorem r10 (i : S2048x1024.Idx) : val_main_v10 (F := Ideal) x1 i = (𝔸).h (i 0) (i 1) := by
  have h0 : (i 0).val < 2048 := (i 0).isLt
  have h1 : (i 1).val < 1024 := (i 1).isLt
  rw [val_main_v10_apply]
  refine congrArg x1 (funext fun a => Fin.ext ?_)
  match a with
  | ⟨0, _⟩ => rfl
  | ⟨1, _⟩ => show ((i 0).val * 1024 + (i 1).val) / 1024 % 2048 = (i 0).val; omega
  | ⟨2, _⟩ => show ((i 0).val * 1024 + (i 1).val) % 1024 = (i 1).val; omega

theorem r20 (i : S2048x1024.Idx) : val_main_v20 (F := Ideal) x2 i = (𝔸).dz (i 0) (i 1) := by
  have h0 : (i 0).val < 2048 := (i 0).isLt
  have h1 : (i 1).val < 1024 := (i 1).isLt
  rw [val_main_v20_apply]
  refine congrArg x2 (funext fun a => Fin.ext ?_)
  match a with
  | ⟨0, _⟩ => rfl
  | ⟨1, _⟩ => show ((i 0).val * 1024 + (i 1).val) / 1024 % 2048 = (i 0).val; omega
  | ⟨2, _⟩ => show ((i 0).val * 1024 + (i 1).val) % 1024 = (i 1).val; omega

theorem r0 (i : S1024x4096.Idx) : val_main_v0 (F := Ideal) x3 i = x3 (ix3 0 (i 0) (i 1)) := by
  have h0 : (i 0).val < 1024 := (i 0).isLt
  have h1 : (i 1).val < 4096 := (i 1).isLt
  rw [val_main_v0_apply]
  refine congrArg x3 (funext fun a => Fin.ext ?_)
  match a with
  | ⟨0, _⟩ => rfl
  | ⟨1, _⟩ => show ((i 0).val * 4096 + (i 1).val) / 4096 % 1024 = (i 0).val; omega
  | ⟨2, _⟩ => show ((i 0).val * 4096 + (i 1).val) % 4096 = (i 1).val; omega

theorem r2 (i : S1024x4x1x512.Idx) : val_main_v2 (F := Ideal) x3 i = x3 (ix3 0 (i 0) (col 0 (i 1) (i 3))) := by
  have h0 : (i 0).val < 1024 := (i 0).isLt
  have h1 : (i 1).val < 4 := (i 1).isLt
  have h2 : (i 2).val < 1 := (i 2).isLt
  have h3 : (i 3).val < 512 := (i 3).isLt
  rw [val_main_v2_apply, val_main_v1_apply, r0]
  refine congrArg x3 (funext fun a => Fin.ext ?_)
  match a with
  | ⟨0, _⟩ => rfl
  | ⟨1, _⟩ => show ((((i 0).val * 4 + (i 1).val) * 2 + ((i 2).val)) * 512 + (i 3).val) / 4096 = (i 0).val; omega
  | ⟨2, _⟩ => show ((((i 0).val * 4 + (i 1).val) * 2 + ((i 2).val)) * 512 + (i 3).val) % 4096 = 512 * (2 * (i 1).val + 0) + (i 3).val; omega

theorem r3 (i : S1024x4x512.Idx) : val_main_v3 (F := Ideal) x3 i = x3 (ix3 0 (i 0) (col 0 (i 1) (i 2))) := by
  have h0 : (i 0).val < 1024 := (i 0).isLt
  have h1 : (i 1).val < 4 := (i 1).isLt
  have h2 : (i 2).val < 512 := (i 2).isLt
  rw [val_main_v3_apply, r2]
  refine congrArg x3 (funext fun a => Fin.ext ?_)
  match a with
  | ⟨0, _⟩ => rfl
  | ⟨1, _⟩ => show (((i 0).val * 4 + (i 1).val) * 512 + (i 2).val) / 2048 = (i 0).val; omega
  | ⟨2, _⟩ =>
    show 512 * (2 * ((((i 0).val * 4 + (i 1).val) * 512 + (i 2).val) / 512 % 4) + 0) + (((i 0).val * 4 + (i 1).val) * 512 + (i 2).val) % 512
      = 512 * (2 * (i 1).val + 0) + (i 2).val
    omega

theorem r4 (i : S1024x2048.Idx) : val_main_v4 (F := Ideal) x3 i = (𝔸).w1 (i 0) (colOf 0 (i 1)) := by
  have h0 : (i 0).val < 1024 := (i 0).isLt
  have h1 : (i 1).val < 2048 := (i 1).isLt
  rw [val_main_v4_apply, r3]
  refine congrArg x3 (funext fun a => Fin.ext ?_)
  match a with
  | ⟨0, _⟩ => rfl
  | ⟨1, _⟩ => show ((i 0).val * 2048 + (i 1).val) / 2048 = (i 0).val; omega
  | ⟨2, _⟩ =>
    show 512 * (2 * (((i 0).val * 2048 + (i 1).val) / 512 % 4) + 0) + ((i 0).val * 2048 + (i 1).val) % 512
      = 512 * (2 * ((i 1).val / 512) + 0) + (i 1).val % 512
    omega

theorem r5 (i : S4096x1024.Idx) : val_main_v5 (F := Ideal) x4 i = x4 (ix3 0 (i 0) (i 1)) := by
  have h0 : (i 0).val < 4096 := (i 0).isLt
  have h1 : (i 1).val < 1024 := (i 1).isLt
  rw [val_main_v5_apply]
  refine congrArg x4 (funext fun a => Fin.ext ?_)
  match a with
  | ⟨0, _⟩ => rfl
  | ⟨1, _⟩ => show ((i 0).val * 1024 + (i 1).val) / 1024 % 4096 = (i 0).val; omega
  | ⟨2, _⟩ => show ((i 0).val * 1024 + (i 1).val) % 1024 = (i 1).val; omega

theorem r7 (i : S4x1x512x1024.Idx) : val_main_v7 (F := Ideal) x4 i = x4 (ix3 0 (col 0 (i 0) (i 2)) (i 3)) := by
  have h0 : (i 0).val < 4 := (i 0).isLt
  have h1 : (i 1).val < 1 := (i 1).isLt
  have h2 : (i 2).val < 512 := (i 2).isLt
  have h3 : (i 3).val < 1024 := (i 3).isLt
  rw [val_main_v7_apply, val_main_v6_apply, r5]
  refine congrArg x4 (funext fun a => Fin.ext ?_)
  match a with
  | ⟨0, _⟩ => rfl
  | ⟨1, _⟩ =>
    show ((((i 0).val * 2 + ((i 1).val)) * 512 + (i 2).val) * 1024 + (i 3).val) / 1024 = 512 * (2 * (i 0).val + 0) + (i 2).val
    omega
  | ⟨2, _⟩ => show ((((i 0).val * 2 + ((i 1).val)) * 512 + (i 2).val) * 1024 + (i 3).val) % 1024 = (i 3).val; omega

theorem r8 (i : S4x512x1024.Idx) : val_main_v8 (F := Ideal) x4 i = x4 (ix3 0 (col 0 (i 0) (i 1)) (i 2)) := by
  have h0 : (i 0).val < 4 := (i 0).isLt
  have h1 : (i 1).val < 512 := (i 1).isLt
  have h2 : (i 2).val < 1024 := (i 2).isLt
  rw [val_main_v8_apply, r7]
  refine congrArg x4 (funext fun a => Fin.ext ?_)
  match a with
  | ⟨0, _⟩ => rfl
  | ⟨1, _⟩ =>
    show 512 * (2 * ((((i 0).val * 512 + (i 1).val) * 1024 + (i 2).val) / 524288) + 0) + (((i 0).val * 512 + (i 1).val) * 1024 + (i 2).val) / 1024 % 512
      = 512 * (2 * (i 0).val + 0) + (i 1).val
    omega
  | ⟨2, _⟩ => show (((i 0).val * 512 + (i 1).val) * 1024 + (i 2).val) % 1024 = (i 2).val; omega

theorem r9 (i : S2048x1024.Idx) : val_main_v9 (F := Ideal) x4 i = (𝔸).w2 (colOf 0 (i 0)) (i 1) := by
  have h0 : (i 0).val < 2048 := (i 0).isLt
  have h1 : (i 1).val < 1024 := (i 1).isLt
  rw [val_main_v9_apply, r8]
  refine congrArg x4 (funext fun a => Fin.ext ?_)
  match a with
  | ⟨0, _⟩ => rfl
  | ⟨1, _⟩ =>
    show 512 * (2 * (((i 0).val * 1024 + (i 1).val) / 524288) + 0) + ((i 0).val * 1024 + (i 1).val) / 1024 % 512
      = 512 * (2 * ((i 0).val / 512) + 0) + (i 0).val % 512
    omega
  | ⟨2, _⟩ => show ((i 0).val * 1024 + (i 1).val) % 1024 = (i 1).val; omega

/-! ## The hidden layer and the gradient that reaches it -/

theorem r11 (i : S2048x2048.Idx) : val_main_v11 (F := Ideal) x1 x3 i = (𝔸).f (i 0) (colOf 0 (i 1)) := by
  rw [val_main_v11_apply]
  exact Finset.sum_congr rfl fun k _ => congrArg₂ (· * ·) (r10 x0 x1 x2 x3 x4 _) (r4 x0 x1 x2 x3 x4 _)

theorem r12 (i : S2048x2048.Idx) : val_main_v12 (F := Ideal) x1 x3 i = max ((𝔸).f (i 0) (colOf 0 (i 1))) 0 := by
  rw [val_main_v12_apply, r11 x0 x1 x2 x3 x4, val_main_call0_v0_apply, val_main_call0_cst_apply]
  exact congrArg (max _) ofBits_zero

theorem r24 (i : S2048x2048.Idx) : val_main_v24 (F := Ideal) x1 x2 x3 x4 i = (𝔸).df (i 0) (colOf 0 (i 1)) := by
  rw [val_main_v24_apply, val_main_v23_apply, val_main_v18_apply, val_main_v17_apply, val_main_cst_1_apply, r12 x0 x1 x2 x3 x4]
  exact congrArg₂ (· * ·) (Finset.sum_congr rfl fun k _ => congrArg₂ (· * ·) (r20 x0 x1 x2 x3 x4 _) (r9 x0 x1 x2 x3 x4 _)) (congrArg (· * _) MlpSpec.bits_two)

theorem r26 (i : S2048x2048.Idx) : val_main_v26 (F := Ideal) x1 x2 x3 x4 i = (𝔸).df (i 0) (colOf 0 (i 1)) := by
  rw [val_main_v26_apply, val_main_v14_apply, r24 x0 x1 x2 x3 x4, r11 x0 x1 x2 x3 x4, val_main_v13_apply, val_main_cst_apply, val_main_v25_apply, val_main_cst_2_apply]
  have z : FloatOps.ofBits (F := Ideal) .f32 0x00000000#32 = (0 : EReal) := ofBits_zero
  rw [z]
  refine Eq.trans ?_ (df_select _ _)
  show (if Ideal.cmp .ogt _ _ = 1#1 then _ else _) = _
  by_cases h : (0 : EReal) < (𝔸).f (i 0) (colOf 0 (i 1))
  · rw [if_pos h, if_pos (by show BitVec.ofBool (decide _) = 1#1; rw [decide_eq_true h]; rfl)]; rfl
  · rw [if_neg h, if_neg (by show ¬ BitVec.ofBool (decide _) = 1#1; rw [decide_eq_false h]; decide)]

/-! ## The three results -/

theorem r29 (i : S2048x1024.Idx) : val_main_v29 (F := Ideal) x1 x2 x3 x4 i
    = ∑ j, (𝔸).df (i 0) (colOf 0 j) * (𝔸).w1 (i 1) (colOf 0 j) := by
  rw [val_main_v29_apply]
  exact Finset.sum_congr rfl fun k _ => congrArg₂ (· * ·) (r26 x0 x1 x2 x3 x4 _) (r4 x0 x1 x2 x3 x4 _)

theorem v33_eq : val_main_v33 (F := Ideal) x0 x1 x2 x3 x4 = fun i : S2048x1024.Idx => (𝔸).dhAll 0 (i 0) (i 1) := by
  funext i
  rw [val_main_v33_apply, r29 x0]
  exact congrArg (· + _) (congrArg x0 (eq_ix2 i))

theorem v31_eq : val_main_v31 (F := Ideal) x1 x2 x3 x4 = fun i : S4x1024x512.Idx => (𝔸).g1All 0 (i 0) (i 1) (i 2) := by
  funext i
  have h0 : (i 0).val < 4 := (i 0).isLt
  have h1 : (i 1).val < 1024 := (i 1).isLt
  have h2 : (i 2).val < 512 := (i 2).isLt
  rw [val_main_v31_apply, val_main_v30_apply, val_main_v28_apply, val_main_v27_apply]
  refine Finset.sum_congr rfl fun k _ => ?_
  rw [r26 x0 x1 x2 x3 x4, r10 x0 x1 x2 x3 x4]
  refine (mul_comm _ _).trans (congrArg₂ (· * ·) (congrArg ((𝔸).h k) (Fin.ext ?_)) (congrArg ((𝔸).df k) (Fin.ext ?_)))
  · show (((i 1).val * 4 + (i 0).val) * 512 + (i 2).val) / 2048 = (i 1).val
    omega
  · show 512 * (2 * ((((i 1).val * 4 + (i 0).val) * 512 + (i 2).val) % 2048 / 512) + 0) + (((i 1).val * 4 + (i 0).val) * 512 + (i 2).val) % 2048 % 512
      = 512 * (2 * (i 0).val + 0) + (i 2).val
    omega

theorem v32_eq : val_main_v32 (F := Ideal) x1 x2 x3 = fun i : S4x512x1024.Idx => (𝔸).g2All 0 (i 0) (i 1) (i 2) := by
  funext i
  have h0 : (i 0).val < 4 := (i 0).isLt
  have h1 : (i 1).val < 512 := (i 1).isLt
  have h2 : (i 2).val < 1024 := (i 2).isLt
  rw [val_main_v32_apply, val_main_v22_apply, val_main_v21_apply]
  refine Finset.sum_congr rfl fun k _ => ?_
  rw [r20 x0 x1 x2 x3 x4, val_main_v16_apply, r12 x0 x1 x2 x3 x4]
  have e : colOf 0 (⟨(((i 0).val * 512 + (i 1).val) * 1024 + (i 2).val) / 1024, by omega⟩ : Fin 2048) = col 0 (i 0) (i 1) := by
    refine Fin.ext ?_
    show 512 * (2 * ((((i 0).val * 512 + (i 1).val) * 1024 + (i 2).val) / 1024 / 512) + 0) + (((i 0).val * 512 + (i 1).val) * 1024 + (i 2).val) / 1024 % 512
      = 512 * (2 * (i 0).val + 0) + (i 1).val
    omega
  refine (mul_comm _ _).trans (congrArg₂ (· * ·) ?_ (congrArg ((𝔸).dz k) (Fin.ext ?_)))
  · exact congrArg (fun j => max ((𝔸).f k j) 0 * max ((𝔸).f k j) 0) e
  · show (((i 0).val * 512 + (i 1).val) * 1024 + (i 2).val) % 1024 = (i 2).val
    omega

end Cert.EvenRef
-- ==== Proof.EvenValue.lean ====
/- The value of `_mlp_bwd_half` for the even blocks: what its run leaves in the three result arrays is what the reference
   computes. -/
module

public import proofs.«01_k».proof.Defs
public import proofs.«01_k».proof.Proof.HalfBlock
public import proofs.«01_k».proof.Proof.EvenFrame
public import proofs.«01_k».proof.Proof.EvenRef
public import Idealize.ShloMosaic.Lib.StackMember
public import Idealize.ShloMosaic.Lib.Pipeline.Value
public import Idealize.ShloMosaic.Lib.Pipeline.ValueKit.Geometry

@[expose] public section

set_option maxRecDepth 16384

noncomputable section

namespace Cert.EvenValue

open Idealize.ShloMosaic hiding ix2 ix3
open Idealize.ShloMosaic.ValueIdx Idealize.ShloMosaic.TcCoe Idealize.SL.Sem Cert.Reals Cert.HalfSpec Cert.HalfBlock
open Cert.EvenIdeal Cert.EvenIdeal.Gen Cert.EvenRun Cert.EvenGrid Cert.EvenFrame
open Idealize.ShloMosaic.Pipeline (RDat Window)
open scoped BigOperators

variable (m : (ℓ : Loc nD τ sig) → Buf (Elt Ideal) ℓ) (c : Dev nD)

/-- The arguments by row and column. -/
def argsOf : Args where
  h s d := (m ((c.tc : Thread nD τ).loc main_arg1) : FVec Ideal S1x2048x1024 .f32) (ix3 0 s d)
  dz s d := (m ((c.tc : Thread nD τ).loc main_arg2) : FVec Ideal S1x2048x1024 .f32) (ix3 0 s d)
  w1 d j := (m ((c.tc : Thread nD τ).loc main_arg3) : FVec Ideal S1x1024x4096 .f32) (ix3 0 d j)
  w2 j d := (m ((c.tc : Thread nD τ).loc main_arg4) : FVec Ideal S1x4096x1024 .f32) (ix3 0 j d)
  prior s d := (m ((c.tc : Thread nD τ).loc main_arg0) : FVec Ideal S2048x1024 .f32) (ix2 s d)

/-! ## The host lines before the call -/

theorem V_h (d : Fin 1024) (s : Fin 2048) : (V m c main_v15 : FVec Ideal S1024x2048 .bf16) (ix2 d s) = (argsOf m c).h s d := by
  have e : V m c main_v15 = truncf (F := Ideal) (φ := .f32) .bf16 (transpose S1024x2048 [1, 0]
      (shapeCast S2048x1024 (m ((c.tc : Thread nD τ).loc main_arg1) : FVec Ideal S1x2048x1024 .f32) shapeCasts_S1x2048x1024_S2048x1024)
      transposes_S2048x1024_S1024x2048_1_0) bitsLt_bf16_f32 := by
    show StableHlo.after hostOps0 _ (main_v15 : Ref sig .tc) = _
    simp only [hostOps0]
    after_results <;> rfl
  rw [e, truncf_apply]
  exact (transpose_ix2_apply (a := 2048) (b := 1024) _ _ d s).trans (shapeCast_1ab_ab_apply (a := 2048) (b := 1024) _ _ s d)

theorem V_dz (s : Fin 2048) (d : Fin 1024) : (V m c main_v18 : FVec Ideal S2048x1024 .bf16) (ix2 s d) = (argsOf m c).dz s d := by
  have e : V m c main_v18 = truncf (F := Ideal) (φ := .f32) .bf16
      (shapeCast S2048x1024 (m ((c.tc : Thread nD τ).loc main_arg2) : FVec Ideal S1x2048x1024 .f32) shapeCasts_S1x2048x1024_S2048x1024) bitsLt_bf16_f32 := by
    show StableHlo.after hostOps0 _ (main_v18 : Ref sig .tc) = _
    simp only [hostOps0]
    after_results <;> rfl
  rw [e, truncf_apply]
  exact shapeCast_1ab_ab_apply (a := 2048) (b := 1024) _ _ s d

theorem V_f (s : Fin 2048) (j : Fin 4096) : (V m c main_v11 : FVec Ideal S2048x4096 .f32) (ix2 s j) = (argsOf m c).f s j := by
  have e : V m c main_v11 = Host.dotGeneral (F := Ideal) (φ₁ := .bf16) (φ₂ := .bf16) dot_S2048x1024_S1024x4096_S2048x4096_1_0_0_1_n_n none
      (truncf (F := Ideal) (φ := .f32) .bf16 (shapeCast S2048x1024 (m ((c.tc : Thread nD τ).loc main_arg1) : FVec Ideal S1x2048x1024 .f32) shapeCasts_S1x2048x1024_S2048x1024) bitsLt_bf16_f32)
      (truncf (F := Ideal) (φ := .f32) .bf16 (shapeCast S1024x4096 (m ((c.tc : Thread nD τ).loc main_arg3) : FVec Ideal S1x1024x4096 .f32) shapeCasts_S1x1024x4096_S1024x4096) bitsLt_bf16_f32) := by
    show StableHlo.after hostOps0 _ (main_v11 : Ref sig .tc) = _
    simp only [hostOps0]
    after_results <;> rfl
  rw [e]
  refine (StackMember.dotGeneral_plain_apply (m := 2048) (k := 1024) (n := 4096) none _ _ s j).trans ?_
  refine Finset.sum_congr rfl fun d _ => congrArg₂ (· * ·) ?_ ?_
  · exact shapeCast_1ab_ab_apply (a := 2048) (b := 1024) _ _ s d
  · exact shapeCast_1ab_ab_apply (a := 1024) (b := 4096) _ _ d j

/-- The pack of the two weights: in each block of 512 hidden columns the first weight transposed, then the second. -/
theorem V_pack : V m c main_v6 = truncf (F := Ideal) (φ := .f32) .bf16 (concatenate S8x1024x1024 1
    [⟨S8x512x1024, shapeCast S8x512x1024 (transpose S4096x1024 [1, 0]
        (shapeCast S1024x4096 (m ((c.tc : Thread nD τ).loc main_arg3) : FVec Ideal S1x1024x4096 .f32) shapeCasts_S1x1024x4096_S1024x4096)
        transposes_S1024x4096_S4096x1024_1_0) shapeCasts_S4096x1024_S8x512x1024⟩,
     ⟨S8x512x1024, shapeCast S8x512x1024 (shapeCast S4096x1024 (m ((c.tc : Thread nD τ).loc main_arg4) : FVec Ideal S1x4096x1024 .f32)
        shapeCasts_S1x4096x1024_S4096x1024) shapeCasts_S4096x1024_S8x512x1024⟩]
    concatenates_S8x512x1024_S8x512x1024_S8x1024x1024_d1) bitsLt_bf16_f32 := by
  show StableHlo.after hostOps0 _ (main_v6 : Ref sig .tc) = _
  simp only [hostOps0]
  after_results <;> rfl

theorem V_w1 (k : Fin 4) (q : Fin 512) (d : Fin 1024) :
    (V m c main_v6 : FVec Ideal S8x1024x1024 .bf16) (ix3 ⟨2 * k.val, by omega⟩ ⟨q.val, by omega⟩ d) = (argsOf m c).w1 d (col 0 k q) := by
  rw [V_pack, truncf_apply]
  refine (concatenate_pair_apply_left (t := S8x1024x1024) (s₁ := S8x512x1024) 1 _ _ _ _ rfl (ix3 ⟨2 * k.val, by omega⟩ q d)
    (fun b => match b with | ⟨0, _⟩ => rfl | ⟨1, _⟩ => rfl | ⟨2, _⟩ => rfl)).trans ?_
  refine (shapeCast_apply _ _ _ (ix2 (col 0 k q) d) ?_).trans ?_
  · rw [Shape.rowMajor_val_two, Shape.rowMajor_val_three]
    show (512 * (2 * k.val + 0) + q.val) * 1024 + d.val = ((2 * k.val) * 512 + q.val) * 1024 + d.val
    omega
  · refine (transpose_ix2_apply (a := 1024) (b := 4096) _ _ (col 0 k q) d).trans ?_
    exact shapeCast_1ab_ab_apply (a := 1024) (b := 4096) _ _ d (col 0 k q)

theorem V_w2 (k : Fin 4) (q : Fin 512) (d : Fin 1024) :
    (V m c main_v6 : FVec Ideal S8x1024x1024 .bf16) (ix3 ⟨2 * k.val, by omega⟩ ⟨512 + q.val, by omega⟩ d) = (argsOf m c).w2 (col 0 k q) d := by
  rw [V_pack, truncf_apply]
  refine (concatenate_pair_apply_right (t := S8x1024x1024) (s₁ := S8x512x1024) (s₂ := S8x512x1024) 1 _ _ _ _ rfl rfl
    (ix3 ⟨2 * k.val, by omega⟩ q d)
    (fun b hb => match b, hb with | ⟨0, _⟩, _ => rfl | ⟨1, _⟩, hb => absurd rfl hb | ⟨2, _⟩, _ => rfl)
    (by show q.val + 512 = 512 + q.val; omega)).trans ?_
  refine (shapeCast_apply _ _ _ (ix2 (col 0 k q) d) ?_).trans ?_
  · rw [Shape.rowMajor_val_two, Shape.rowMajor_val_three]
    show (512 * (2 * k.val + 0) + q.val) * 1024 + d.val = ((2 * k.val) * 512 + q.val) * 1024 + d.val
    omega
  · exact shapeCast_1ab_ab_apply (a := 4096) (b := 1024) _ _ (col 0 k q) d

/-! ## What a point reads -/

/-- The point's block of hidden columns and its block of rows. -/
def kk (t : Fin (cfgA (F := Ideal)).N) : Fin 4 := ⟨t.val / 4, by have := lt_of_lt_of_eq t.isLt N_0; omega⟩
def bb (t : Fin (cfgA (F := Ideal)).N) : Fin 4 := ⟨t.val % 4, by omega⟩
theorem at_kb (t : Fin (cfgA (F := Ideal)).N) : t.val = 4 * (kk t).val + (bb t).val := by
  show t.val = 4 * (t.val / 4) + t.val % 4; omega
theorem coords_0 : ∀ t : Fin (cfgA (F := Ideal)).N, ((grid0.coords t) 0).val = (kk t).val :=
  (by decide +kernel : ∀ t : Fin grid0.N, ((grid0.coords t) 0).val = t.val / 4)
theorem coords_1 : ∀ t : Fin (cfgA (F := Ideal)).N, ((grid0.coords t) 1).val = (bb t).val :=
  (by decide +kernel : ∀ t : Fin grid0.N, ((grid0.coords t) 1).val = t.val % 4)

theorem idx_0 : ∀ t : Fin (cfgA (F := Ideal)).N, cc0_transform_0 (grid0.coords t) 0 = 0 ∧ cc0_transform_0 (grid0.coords t) 1 = (bb t).val :=
  (by decide +kernel : ∀ t : Fin grid0.N, cc0_transform_0 (grid0.coords t) 0 = 0 ∧ cc0_transform_0 (grid0.coords t) 1 = t.val % 4)
theorem iblk_h (t : Fin (cfgA (F := Ideal)).N) (d : Fin 1024) (r : Fin 512) : iblk m c 0 t (ix2 d r) = V m c main_v15 (ix2 d (row (bb t) r)) := by
  show V m c main_v15 (((winA (F := Ideal) 0).rect t).emb (ix2 d r)) = _
  refine congrArg (V m c main_v15) (funext fun a => Fin.ext ?_)
  rw [Window.rect_emb_val (winA (F := Ideal) 0)]
  match a with
  | ⟨0, _⟩ =>
    show cc0_transform_0 (grid0.coords t) 0 * 1024 + d.val = d.val
    rw [(idx_0 t).1]; omega
  | ⟨1, _⟩ =>
    show cc0_transform_0 (grid0.coords t) 1 * 512 + r.val = 512 * (bb t).val + r.val
    rw [(idx_0 t).2]; omega

theorem iblk_f (t : Fin (cfgA (F := Ideal)).N) (r q : Fin 512) : iblk m c 1 t (ix2 r q) = V m c main_v11 (ix2 (row (bb t) r) (col 0 (kk t) q)) := by
  show V m c main_v11 (((winA (F := Ideal) 1).rect t).emb (ix2 r q)) = _
  refine congrArg (V m c main_v11) (funext fun a => Fin.ext ?_)
  rw [Window.rect_emb_val (winA (F := Ideal) 1)]
  have e := map_1 (F := Ideal) (grid0.coords t)
  match a with
  | ⟨0, _⟩ =>
    show cc0_transform_1 inb_S2_S1_0 numel1_S1 (table (F := Ideal)) (grid0.coords t) 0 * 512 + r.val = 512 * (bb t).val + r.val
    rw [e]
    show ((grid0.coords t) 1).val * 512 + r.val = _
    rw [coords_1]; omega
  | ⟨1, _⟩ =>
    show cc0_transform_1 inb_S2_S1_0 numel1_S1 (table (F := Ideal)) (grid0.coords t) 1 * 512 + q.val = 512 * (2 * (kk t).val + 0) + q.val
    rw [e]
    show (2 * ((grid0.coords t) 0).val) * 512 + q.val = _
    rw [coords_0]; omega

theorem idx_2 : ∀ t : Fin (cfgA (F := Ideal)).N, cc0_transform_2 (grid0.coords t) 0 = (bb t).val ∧ cc0_transform_2 (grid0.coords t) 1 = 0 :=
  (by decide +kernel : ∀ t : Fin grid0.N, cc0_transform_2 (grid0.coords t) 0 = t.val % 4 ∧ cc0_transform_2 (grid0.coords t) 1 = 0)
theorem iblk_dz (t : Fin (cfgA (F := Ideal)).N) (r : Fin 512) (d : Fin 1024) : iblk m c 2 t (ix2 r d) = V m c main_v18 (ix2 (row (bb t) r) d) := by
  show V m c main_v18 (((winA (F := Ideal) 2).rect t).emb (ix2 r d)) = _
  refine congrArg (V m c main_v18) (funext fun a => Fin.ext ?_)
  rw [Window.rect_emb_val (winA (F := Ideal) 2)]
  match a with
  | ⟨0, _⟩ =>
    show cc0_transform_2 (grid0.coords t) 0 * 512 + r.val = 512 * (bb t).val + r.val
    rw [(idx_2 t).1]; omega
  | ⟨1, _⟩ =>
    show cc0_transform_2 (grid0.coords t) 1 * 1024 + d.val = d.val
    rw [(idx_2 t).2]; omega

theorem iblk_w1 (t : Fin (cfgA (F := Ideal)).N) (q : Fin 512) (d : Fin 1024) :
    iblk m c 3 t (ix3 0 q d) = V m c main_v6 (ix3 ⟨2 * (kk t).val, by have := (kk t).isLt; omega⟩ ⟨q.val, by omega⟩ d) := by
  show V m c main_v6 (((winA (F := Ideal) 3).rect t).emb (ix3 0 q d)) = _
  refine congrArg (V m c main_v6) (funext fun a => Fin.ext ?_)
  rw [Window.rect_emb_val (winA (F := Ideal) 3)]
  have e := map_3 (F := Ideal) (grid0.coords t)
  match a with
  | ⟨0, _⟩ =>
    show cc0_transform_3 inb_S2_S1_0 numel1_S1 (table (F := Ideal)) (grid0.coords t) 0 * 1 + 0 = 2 * (kk t).val
    rw [e]
    show (2 * ((grid0.coords t) 0).val) * 1 + 0 = _
    rw [coords_0]; omega
  | ⟨1, _⟩ =>
    show cc0_transform_3 inb_S2_S1_0 numel1_S1 (table (F := Ideal)) (grid0.coords t) 1 * 512 + q.val = q.val
    rw [e]
    show 0 * 512 + q.val = _
    omega
  | ⟨2, _⟩ =>
    show cc0_transform_3 inb_S2_S1_0 numel1_S1 (table (F := Ideal)) (grid0.coords t) 2 * 1024 + d.val = d.val
    rw [e]
    show 0 * 1024 + d.val = _
    omega

theorem iblk_w2 (t : Fin (cfgA (F := Ideal)).N) (q : Fin 512) (d : Fin 1024) :
    iblk m c 4 t (ix3 0 q d) = V m c main_v6 (ix3 ⟨2 * (kk t).val, by have := (kk t).isLt; omega⟩ ⟨512 + q.val, by omega⟩ d) := by
  show V m c main_v6 (((winA (F := Ideal) 4).rect t).emb (ix3 0 q d)) = _
  refine congrArg (V m c main_v6) (funext fun a => Fin.ext ?_)
  rw [Window.rect_emb_val (winA (F := Ideal) 4)]
  have e := map_4 (F := Ideal) (grid0.coords t)
  match a with
  | ⟨0, _⟩ =>
    show cc0_transform_4 inb_S2_S1_0 numel1_S1 (table (F := Ideal)) (grid0.coords t) 0 * 1 + 0 = 2 * (kk t).val
    rw [e]
    show (2 * ((grid0.coords t) 0).val) * 1 + 0 = _
    rw [coords_0]; omega
  | ⟨1, _⟩ =>
    show cc0_transform_4 inb_S2_S1_0 numel1_S1 (table (F := Ideal)) (grid0.coords t) 1 * 512 + q.val = 512 + q.val
    rw [e]
    show 1 * 512 + q.val = _
    omega
  | ⟨2, _⟩ =>
    show cc0_transform_4 inb_S2_S1_0 numel1_S1 (table (F := Ideal)) (grid0.coords t) 2 * 1024 + d.val = d.val
    rw [e]
    show 0 * 1024 + d.val = _
    omega

theorem idx_5 : ∀ t : Fin (cfgA (F := Ideal)).N, ((kk t).val = 0 → cc0_transform_5 (grid0.coords t) 0 = (bb t).val) ∧ cc0_transform_5 (grid0.coords t) 1 = 0 :=
  (by decide +kernel : ∀ t : Fin grid0.N, (t.val / 4 = 0 → cc0_transform_5 (grid0.coords t) 0 = t.val % 4) ∧ cc0_transform_5 (grid0.coords t) 1 = 0)
/-- Over the first block of hidden columns the point reads the rows' earlier gradient. -/
theorem iblk_prior (t : Fin (cfgA (F := Ideal)).N) (h0 : (kk t).val = 0) (r : Fin 512) (d : Fin 1024) :
    iblk m c 5 t (ix2 r d) = (argsOf m c).prior (row (bb t) r) d := by
  show V m c main_arg0 (((winA (F := Ideal) 5).rect t).emb (ix2 r d)) = _
  rw [V_main_arg0]
  refine congrArg (m ((c.tc : Thread nD τ).loc main_arg0)) (funext fun a => Fin.ext ?_)
  rw [Window.rect_emb_val (winA (F := Ideal) 5)]
  match a with
  | ⟨0, _⟩ =>
    show cc0_transform_5 (grid0.coords t) 0 * 512 + r.val = 512 * (bb t).val + r.val
    rw [(idx_5 t).1 h0]; omega
  | ⟨1, _⟩ =>
    show cc0_transform_5 (grid0.coords t) 1 * 1024 + d.val = d.val
    rw [(idx_5 t).2]; omega

theorem matches_at (t : Fin (cfgA (F := Ideal)).N) :
    Matches (insAt m c t).h (insAt m c t).f (insAt m c t).dz (insAt m c t).w1 (insAt m c t).w2 (argsOf m c) 0 (kk t) (bb t) where
  h d r := (iblk_h m c t d r).trans (V_h m c d _)
  f r q := (iblk_f m c t r q).trans (V_f m c _ _)
  dz r d := (iblk_dz m c t r d).trans (V_dz m c _ d)
  w1 q d := (iblk_w1 m c t q d).trans (V_w1 m c (kk t) q d)
  w2 q d := (iblk_w2 m c t q d).trans (V_w2 m c (kk t) q d)

/-! ## What the body leaves -/

theorem cond1_iff : ∀ i : grid0.Coords, k0_cond1 i = 1#1 ↔ (i 1).val = 0 := by decide +kernel
theorem cond3_iff : ∀ i : grid0.Coords, k0_cond3 i = 1#1 ↔ (i 0).val = 0 := by decide +kernel

/-- The rows of block `b` inside the buffer that holds all rows, and those of another block outside it. -/
theorem emb_rows (off : Fin 2 → ℕ) (b : Fin 4) (e : off = ![512 * b.val, 0]) (inb) (r : Fin 512) (d : Fin 1024) :
    (Rect.unit (s := S2048x1024) off S512x1024.size inb).emb (ix2 r d) = ix2 (row b r) d := by
  subst e
  refine funext fun a => Fin.ext ?_
  rw [ValueKit.rect_emb_unit_val]
  match a with
  | ⟨0, _⟩ => rfl
  | ⟨1, _⟩ => show 0 + d.val = d.val; omega
theorem not_mem_rows (off : Fin 2 → ℕ) (b b' : Fin 4) (hb : b' ≠ b) (e : off = ![512 * b.val, 0]) (inb) (r : Fin 512) (d : Fin 1024) :
    ix2 (row b' r) d ∉ (Rect.unit (s := S2048x1024) off S512x1024.size inb).set := by
  subst e
  intro h
  have h := Rect.mem_set_unit.1 h 0
  have hv : b'.val ≠ b.val := fun h => hb (Fin.ext h)
  have h : 512 * b.val ≤ 512 * b'.val + r.val ∧ 512 * b'.val + r.val < 512 * b.val + 512 := h
  omega

theorem off1_at (t : Fin (cfgA (F := Ideal)).N) : k0_off1 (grid0.coords t) = ![512 * (bb t).val, 0] := by rw [k0_off1_eq, coords_1]
theorem off2_at (t : Fin (cfgA (F := Ideal)).N) : k0_off2 (grid0.coords t) = ![512 * (bb t).val, 0] := by rw [k0_off2_eq, coords_1]

theorem leaves_7 : ∀ t X, (rdat m c).Leaves 7 t X → Upto (argsOf m c) 0 t.val X := by
  refine leaves_ind (rdat m c) 7 (fun _ => rfl) (fun t X => Upto (argsOf m c) 0 t.val X) ?_
  intro t Y X hX hY
  have hX : (insAt m c t).Rows (grid0.coords t) Y X := hX
  have ht := lt_of_lt_of_eq t.isLt N_0
  have hY : t.val = 0 ∨ Upto (argsOf m c) 0 (t.val - 1) Y := by
    rcases hY with h | h | h
    · exact .inl h
    · have h := (flush_7 _).1 h
      have h : (t.val - 1) % 16 = 15 := h
      exact absurd h (by omega)
    · exact .inr h
  have M := matches_at m c t
  have e := at_kb t
  show Upto (argsOf m c) 0 t.val X
  rw [e] at hY ⊢
  refine upto_step _ _ (kk t) (bb t) Y X ?_ ?_ hY
  · intro r d
    by_cases hk : (kk t).val = 0
    · have h3 : k0_cond3 (grid0.coords t) = 1#1 := (cond3_iff _).2 ((coords_0 t).trans hk)
      have hx := (hX.1 h3).1 (ix2 r d)
      rw [emb_rows _ (bb t) (off1_at t)] at hx
      have h0 : kk t = 0 := Fin.ext hk
      rw [if_pos h0, hx]
      rw [← h0]
      show (insAt m c t).prior (ix2 r d) + (insAt m c t).dh (ix2 r d) = _
      exact congrArg₂ (· + ·) (iblk_prior m c t hk r d) (dh_apply M r d)
    · have h3 : ¬ k0_cond3 (grid0.coords t) = 1#1 := fun h => hk ((coords_0 t).symm.trans ((cond3_iff _).1 h))
      have hx := (hX.2 ((cond4_iff _).2 h3)).1 (ix2 r d)
      rw [emb_rows _ (bb t) (off2_at t)] at hx
      rw [if_neg (fun h => hk (congrArg Fin.val h)), hx]
      unfold k0_pay2
      simp only [shapeCast_self]
      rw [addf_apply]
      refine congrArg₂ (· + ·) (congrArg Y (emb_rows _ (bb t) (off2_at t) _ r d)) (dh_apply M r d)
  · intro b' hb r d
    by_cases h3 : k0_cond3 (grid0.coords t) = 1#1
    · exact (hX.1 h3).2 _ (not_mem_rows _ (bb t) b' hb (off1_at t) _ r d)
    · exact (hX.2 ((cond4_iff _).2 h3)).2 _ (not_mem_rows _ (bb t) b' hb (off2_at t) _ r d)

theorem leaves_8 : ∀ t X, (rdat m c).Leaves 8 t X → ∀ (d : Fin 1024) (q : Fin 512), X (ix3 0 d q) = (argsOf m c).g1Upto 0 ((bb t).val + 1) (kk t) d q := by
  refine leaves_ind (rdat m c) 8 (fun _ => rfl) (fun t X => ∀ (d : Fin 1024) (q : Fin 512), X (ix3 0 d q) = (argsOf m c).g1Upto 0 ((bb t).val + 1) (kk t) d q) ?_
  intro t Y X hX hY d q
  have hX : X = (insAt m c t).d1 (grid0.coords t) Y := hX
  have M := matches_at m c t
  rw [hX]
  unfold Ins.d1 Args.g1Upto
  by_cases hb : (bb t).val = 0
  · rw [if_pos ((cond1_iff _).2 ((coords_1 t).trans hb)), hb, upto_one]
    refine (d1_first M d q).trans ?_
    rw [show bb t = 0 from Fin.ext hb]
  · rw [if_neg (fun h => hb ((coords_1 t).symm.trans ((cond1_iff _).1 h))), upto_succ _ _ (bb t).isLt]
    refine (d1_next M Y d q).trans (congrArg (· + _) ?_)
    have hb' : t.val % 4 ≠ 0 := hb
    rcases hY with h | h | h
    · exact absurd h (by omega)
    · have h := (flush_8 _).1 h
      have h : (t.val - 1) % 4 = 3 := h
      exact absurd h (by omega)
    · refine (h d q).trans ?_
      have e1 : (bb ⟨t.val - 1, Nat.lt_of_le_of_lt (Nat.sub_le _ _) t.isLt⟩).val + 1 = (bb t).val := by
        show (t.val - 1) % 4 + 1 = t.val % 4; omega
      have e2 : kk ⟨t.val - 1, Nat.lt_of_le_of_lt (Nat.sub_le _ _) t.isLt⟩ = kk t := Fin.ext (by show (t.val - 1) / 4 = t.val / 4; omega)
      rw [e1, e2]
      rfl

theorem leaves_9 : ∀ t X, (rdat m c).Leaves 9 t X → ∀ (q : Fin 512) (d : Fin 1024), X (ix3 0 q d) = (argsOf m c).g2Upto 0 ((bb t).val + 1) (kk t) q d := by
  refine leaves_ind (rdat m c) 9 (fun _ => rfl) (fun t X => ∀ (q : Fin 512) (d : Fin 1024), X (ix3 0 q d) = (argsOf m c).g2Upto 0 ((bb t).val + 1) (kk t) q d) ?_
  intro t Y X hX hY q d
  have hX : X = (insAt m c t).d2 (grid0.coords t) Y := hX
  have M := matches_at m c t
  rw [hX]
  unfold Ins.d2 Args.g2Upto
  by_cases hb : (bb t).val = 0
  · rw [if_pos ((cond1_iff _).2 ((coords_1 t).trans hb)), hb, upto_one]
    refine (d2_first M q d).trans ?_
    rw [show bb t = 0 from Fin.ext hb]
  · rw [if_neg (fun h => hb ((coords_1 t).symm.trans ((cond1_iff _).1 h))), upto_succ _ _ (bb t).isLt]
    refine (d2_next M Y q d).trans (congrArg (· + _) ?_)
    have hb' : t.val % 4 ≠ 0 := hb
    rcases hY with h | h | h
    · exact absurd h (by omega)
    · have h := (flush_9 _).1 h
      have h : (t.val - 1) % 4 = 3 := h
      exact absurd h (by omega)
    · refine (h q d).trans ?_
      have e1 : (bb ⟨t.val - 1, Nat.lt_of_le_of_lt (Nat.sub_le _ _) t.isLt⟩).val + 1 = (bb t).val := by
        show (t.val - 1) % 4 + 1 = t.val % 4; omega
      have e2 : kk ⟨t.val - 1, Nat.lt_of_le_of_lt (Nat.sub_le _ _) t.isLt⟩ = kk t := Fin.ext (by show (t.val - 1) / 4 = t.val / 4; omega)
      rw [e1, e2]
      rfl

/-! ## The result arrays -/

theorem idx_7 : cc0_transform_7 (grid0.coords t0_15) 0 = 0 ∧ cc0_transform_7 (grid0.coords t0_15) 1 = 0 := by decide +kernel
theorem idx_8 : ∀ t : Fin (cfgA (F := Ideal)).N, cc0_transform_8 (grid0.coords t) 0 = (kk t).val ∧ cc0_transform_8 (grid0.coords t) 1 = 0 ∧ cc0_transform_8 (grid0.coords t) 2 = 0 :=
  (by decide +kernel : ∀ t : Fin grid0.N, cc0_transform_8 (grid0.coords t) 0 = t.val / 4 ∧ cc0_transform_8 (grid0.coords t) 1 = 0 ∧ cc0_transform_8 (grid0.coords t) 2 = 0)
theorem idx_9 : ∀ t : Fin (cfgA (F := Ideal)).N, cc0_transform_9 (grid0.coords t) 0 = (kk t).val ∧ cc0_transform_9 (grid0.coords t) 1 = 0 ∧ cc0_transform_9 (grid0.coords t) 2 = 0 :=
  (by decide +kernel : ∀ t : Fin grid0.N, cc0_transform_9 (grid0.coords t) 0 = t.val / 4 ∧ cc0_transform_9 (grid0.coords t) 1 = 0 ∧ cc0_transform_9 (grid0.coords t) 2 = 0)

section Arrays
variable {m}
variable (after : (w : Fin (cfgA (F := Ideal)).W) → Fin (cfgA (F := Ideal)).N → ((cfgA (F := Ideal)).win w).block.Idx → Elt Ideal ((cfgA (F := Ideal)).win w).elt)
  (h : ∀ (w : Fin (cfgA (F := Ideal)).W) (u : Fin (cfgA (F := Ideal)).N), ((cfgA (F := Ideal)).win w).flush u = true → (rdat m c).Leaves w u (after w u))
include h

theorem array_dh : ((rdat m c).withAfter after).arrAt 7 (cfgA (F := Ideal)).N = fun i : S2048x1024.Idx => (argsOf m c).dhAll 0 (i 0) (i 1) := by
  refine ((rdat m c).withAfter after).arrAt_eq_of_cover 7 _ (fun t ht => ?_) fun i => ?_
  · have e : t = t0_15 := Fin.ext (by
      have h1 := lt_of_lt_of_eq t.isLt N_0
      have h2 := (flush_7 t).1 ht
      show t.val = 15
      omega)
    funext x
    revert x
    refine forall_ix2 fun s d => ?_
    have hl := leaves_7 m c t _ (h 7 t ht)
    rw [show t.val = 15 from congrArg Fin.val e] at hl
    refine (upto_last _ _ _ hl s d).trans ?_
    subst e
    show _ = (fun i : S2048x1024.Idx => (argsOf m c).dhAll 0 (i 0) (i 1)) (((winA (F := Ideal) 7).rect t0_15).emb (ix2 s d))
    refine congrArg₂ ((argsOf m c).dhAll 0) (Fin.ext ?_) (Fin.ext ?_)
    · rw [Window.rect_emb_val (winA (F := Ideal) 7)]
      show s.val = cc0_transform_7 (grid0.coords t0_15) 0 * 2048 + s.val; rw [idx_7.1]; omega
    · rw [Window.rect_emb_val (winA (F := Ideal) 7)]
      show d.val = cc0_transform_7 (grid0.coords t0_15) 1 * 1024 + d.val; rw [idx_7.2]; omega
  · have h0 : (i 0).val < 2048 := (i 0).isLt
    have h1 : (i 1).val < 1024 := (i 1).isLt
    refine ⟨t0_15, (flush_7 t0_15).2 rfl, ?_⟩
    refine (ValueKit.mem_set_slice_whole_iff main_v19_0 ((winA (F := Ideal) 7).rect t0_15) i (Window.mem_rect_iff (winA (F := Ideal) 7) t0_15 i)).2 fun a => ?_
    match a with
    | ⟨0, _⟩ =>
      show cc0_transform_7 (grid0.coords t0_15) 0 * 2048 ≤ (i 0).val ∧ (i 0).val < cc0_transform_7 (grid0.coords t0_15) 0 * 2048 + 2048
      rw [idx_7.1]; omega
    | ⟨1, _⟩ =>
      show cc0_transform_7 (grid0.coords t0_15) 1 * 1024 ≤ (i 1).val ∧ (i 1).val < cc0_transform_7 (grid0.coords t0_15) 1 * 1024 + 1024
      rw [idx_7.2]; omega

theorem array_d1 : ((rdat m c).withAfter after).arrAt 8 (cfgA (F := Ideal)).N = fun i : S4x1024x512.Idx => (argsOf m c).g1All 0 (i 0) (i 1) (i 2) := by
  refine ((rdat m c).withAfter after).arrAt_eq_of_cover 8 _ (fun t ht => ?_) fun i => ?_
  · funext x
    revert x
    refine forall_ix3 fun u d q => ?_
    have e3 : (bb t).val + 1 = 4 := by rw [show (bb t).val = 3 from (flush_8 t).1 ht]
    have hl := leaves_8 m c t _ (h 8 t ht) d q
    rw [e3, Args.g1Upto_four] at hl
    rw [show u = 0 from Subsingleton.elim _ _]
    refine Eq.trans hl ?_
    show _ = (fun i : S4x1024x512.Idx => (argsOf m c).g1All 0 (i 0) (i 1) (i 2)) (((winA (F := Ideal) 8).rect t).emb (ix3 0 d q))
    have e0 : ((((winA (F := Ideal) 8).rect t).emb (ix3 0 d q)) 0 : Fin 4) = kk t := Fin.ext (by
      rw [Window.rect_emb_val (winA (F := Ideal) 8)]
      show cc0_transform_8 (grid0.coords t) 0 * 1 + 0 = (kk t).val; rw [(idx_8 t).1]; omega)
    have e1 : ((((winA (F := Ideal) 8).rect t).emb (ix3 0 d q)) 1 : Fin 1024) = d := Fin.ext (by
      rw [Window.rect_emb_val (winA (F := Ideal) 8)]
      show cc0_transform_8 (grid0.coords t) 1 * 1024 + d.val = d.val; rw [(idx_8 t).2.1]; omega)
    have e2 : ((((winA (F := Ideal) 8).rect t).emb (ix3 0 d q)) 2 : Fin 512) = q := Fin.ext (by
      rw [Window.rect_emb_val (winA (F := Ideal) 8)]
      show cc0_transform_8 (grid0.coords t) 2 * 512 + q.val = q.val; rw [(idx_8 t).2.2]; omega)
    exact (congr (congr (congrArg ((argsOf m c).g1All 0) e0) e1) e2).symm
  · have h0 : (i 0).val < 4 := (i 0).isLt
    have h1 : (i 1).val < 1024 := (i 1).isLt
    have h2 : (i 2).val < 512 := (i 2).isLt
    let t : Fin (cfgA (F := Ideal)).N := ⟨4 * (i 0).val + 3, lt_of_lt_of_eq (by omega) N_0.symm⟩
    refine ⟨t, (flush_8 t).2 (by show (4 * (i 0).val + 3) % 4 = 3; omega), ?_⟩
    refine (ValueKit.mem_set_slice_whole_iff main_v19_1 ((winA (F := Ideal) 8).rect t) i (Window.mem_rect_iff (winA (F := Ideal) 8) t i)).2 fun a => ?_
    match a with
    | ⟨0, _⟩ =>
      show cc0_transform_8 (grid0.coords t) 0 * 1 ≤ (i 0).val ∧ (i 0).val < cc0_transform_8 (grid0.coords t) 0 * 1 + 1
      rw [(idx_8 t).1]
      show (4 * (i 0).val + 3) / 4 * 1 ≤ (i 0).val ∧ (i 0).val < (4 * (i 0).val + 3) / 4 * 1 + 1
      omega
    | ⟨1, _⟩ =>
      show cc0_transform_8 (grid0.coords t) 1 * 1024 ≤ (i 1).val ∧ (i 1).val < cc0_transform_8 (grid0.coords t) 1 * 1024 + 1024
      rw [(idx_8 t).2.1]; omega
    | ⟨2, _⟩ =>
      show cc0_transform_8 (grid0.coords t) 2 * 512 ≤ (i 2).val ∧ (i 2).val < cc0_transform_8 (grid0.coords t) 2 * 512 + 512
      rw [(idx_8 t).2.2]; omega

theorem array_d2 : ((rdat m c).withAfter after).arrAt 9 (cfgA (F := Ideal)).N = fun i : S4x512x1024.Idx => (argsOf m c).g2All 0 (i 0) (i 1) (i 2) := by
  refine ((rdat m c).withAfter after).arrAt_eq_of_cover 9 _ (fun t ht => ?_) fun i => ?_
  · funext x
    revert x
    refine forall_ix3 fun u q d => ?_
    have e3 : (bb t).val + 1 = 4 := by rw [show (bb t).val = 3 from (flush_9 t).1 ht]
    have hl := leaves_9 m c t _ (h 9 t ht) q d
    rw [e3, Args.g2Upto_four] at hl
    rw [show u = 0 from Subsingleton.elim _ _]
    refine Eq.trans hl ?_
    show _ = (fun i : S4x512x1024.Idx => (argsOf m c).g2All 0 (i 0) (i 1) (i 2)) (((winA (F := Ideal) 9).rect t).emb (ix3 0 q d))
    have e0 : ((((winA (F := Ideal) 9).rect t).emb (ix3 0 q d)) 0 : Fin 4) = kk t := Fin.ext (by
      rw [Window.rect_emb_val (winA (F := Ideal) 9)]
      show cc0_transform_9 (grid0.coords t) 0 * 1 + 0 = (kk t).val; rw [(idx_9 t).1]; omega)
    have e1 : ((((winA (F := Ideal) 9).rect t).emb (ix3 0 q d)) 1 : Fin 512) = q := Fin.ext (by
      rw [Window.rect_emb_val (winA (F := Ideal) 9)]
      show cc0_transform_9 (grid0.coords t) 1 * 512 + q.val = q.val; rw [(idx_9 t).2.1]; omega)
    have e2 : ((((winA (F := Ideal) 9).rect t).emb (ix3 0 q d)) 2 : Fin 1024) = d := Fin.ext (by
      rw [Window.rect_emb_val (winA (F := Ideal) 9)]
      show cc0_transform_9 (grid0.coords t) 2 * 1024 + d.val = d.val; rw [(idx_9 t).2.2]; omega)
    exact (congr (congr (congrArg ((argsOf m c).g2All 0) e0) e1) e2).symm
  · have h0 : (i 0).val < 4 := (i 0).isLt
    have h1 : (i 1).val < 512 := (i 1).isLt
    have h2 : (i 2).val < 1024 := (i 2).isLt
    let t : Fin (cfgA (F := Ideal)).N := ⟨4 * (i 0).val + 3, lt_of_lt_of_eq (by omega) N_0.symm⟩
    refine ⟨t, (flush_9 t).2 (by show (4 * (i 0).val + 3) % 4 = 3; omega), ?_⟩
    refine (ValueKit.mem_set_slice_whole_iff main_v19_2 ((winA (F := Ideal) 9).rect t) i (Window.mem_rect_iff (winA (F := Ideal) 9) t i)).2 fun a => ?_
    match a with
    | ⟨0, _⟩ =>
      show cc0_transform_9 (grid0.coords t) 0 * 1 ≤ (i 0).val ∧ (i 0).val < cc0_transform_9 (grid0.coords t) 0 * 1 + 1
      rw [(idx_9 t).1]
      show (4 * (i 0).val + 3) / 4 * 1 ≤ (i 0).val ∧ (i 0).val < (4 * (i 0).val + 3) / 4 * 1 + 1
      omega
    | ⟨1, _⟩ =>
      show cc0_transform_9 (grid0.coords t) 1 * 512 ≤ (i 1).val ∧ (i 1).val < cc0_transform_9 (grid0.coords t) 1 * 512 + 512
      rw [(idx_9 t).2.1]; omega
    | ⟨2, _⟩ =>
      show cc0_transform_9 (grid0.coords t) 2 * 1024 ≤ (i 2).val ∧ (i 2).val < cc0_transform_9 (grid0.coords t) 2 * 1024 + 1024
      rw [(idx_9 t).2.2]; omega

end Arrays

theorem even_value : Cert.algebraic_EvenIdeal_EvenRefIdeal := by
  intro m g m' g' hpre hagree
  refine ⟨fun c i => (argsOf m c).dhAll 0 (i 0) (i 1), fun c i => (argsOf m c).g1All 0 (i 0) (i 1) (i 2),
    fun c i => (argsOf m c).g2All 0 (i 0) (i 1) (i 2), ?_, ?_⟩
  · refine (θ_run _ _ _).mono (fun r h c => ?_) (run_main (F := Ideal) m g)
    obtain ⟨after, hL, hA⟩ := RDat.FramePost.exists_exact h.1 c
    exact ⟨(hA 7).trans (array_dh c after hL), (hA 8).trans (array_d1 c after hL), (hA 9).trans (array_d2 c after hL), args_kept m r h.1 c⟩
  · refine (θ_run _ _ _).mono (fun r h c => ?_) (Cert.EvenRefIdeal.Value.run (F := Ideal) m' g')
    obtain ⟨e0, e1, e2, e3, e4⟩ := hagree c
    have E : argsOf m c = Cert.EvenRef.args
        (m' ((c.tc : Thread Cert.EvenRefIdeal.nD Cert.EvenRefIdeal.τ).loc Cert.EvenRefIdeal.main_arg0))
        (m' ((c.tc : Thread Cert.EvenRefIdeal.nD Cert.EvenRefIdeal.τ).loc Cert.EvenRefIdeal.main_arg1))
        (m' ((c.tc : Thread Cert.EvenRefIdeal.nD Cert.EvenRefIdeal.τ).loc Cert.EvenRefIdeal.main_arg2))
        (m' ((c.tc : Thread Cert.EvenRefIdeal.nD Cert.EvenRefIdeal.τ).loc Cert.EvenRefIdeal.main_arg3))
        (m' ((c.tc : Thread Cert.EvenRefIdeal.nD Cert.EvenRefIdeal.τ).loc Cert.EvenRefIdeal.main_arg4)) := by
      rw [e0, e1, e2, e3, e4]; rfl
    obtain ⟨v0, v1, v2, kept⟩ := h c
    clear e0 e1 e2 e3 e4
    refine ⟨v0.trans ?_, v1.trans ?_, v2.trans ?_, kept⟩
    · exact (Cert.EvenRefIdeal.Read.val_main_v33_eq _ _ _ _ _ ).trans (Cert.EvenRef.v33_eq _ _ _ _ _ |>.trans (congrArg (fun (A : Args) (i : S2048x1024.Idx) => A.dhAll 0 (i 0) (i 1)) E.symm))
    · exact (Cert.EvenRefIdeal.Read.val_main_v31_eq _ _ _ _).trans (Cert.EvenRef.v31_eq _ _ _ _ _ |>.trans (congrArg (fun (A : Args) (i : S4x1024x512.Idx) => A.g1All 0 (i 0) (i 1) (i 2)) E.symm))
    · exact (Cert.EvenRefIdeal.Read.val_main_v32_eq _ _ _).trans (Cert.EvenRef.v32_eq _ _ _ _ _ |>.trans (congrArg (fun (A : Args) (i : S4x512x1024.Idx) => A.g2All 0 (i 0) (i 1) (i 2)) E.symm))

end Cert.EvenValue

end
-- ==== Proof.MixerRun.lean ====
/- The body of the kernel `_mixer_bwd` run once at a grid point: the weights copied out of their pack at the first
   point, then the gradients of the mixer, of which the block of the mixer's output and the normed input are named. -/
module

public import proofs.«01_k».proof.Proof.Reals
public import proofs.«01_k».proof.Proof.Gen.MixerIdeal.Launch
public import proofs.«01_k».proof.Proof.Gen.MixerIdeal.Skeleton
public import proofs.«01_k».proof.Proof.Gen.MixerIdeal.Points
public import proofs.«01_k».proof.Proof.Gen.MixerIdeal.Loops
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit.Tiles

@[expose] public section

noncomputable section

namespace Cert.MixerRun

open Cert.MixerIdeal Cert.MixerIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The two resident weights and the pack of both in HBM. -/
abbrev wiM : Memref sig .tc .vmem S2560x1024 .bf16 := Memref.whole cc0_scratch0
abbrev woM : Memref sig .tc .vmem S1024x1024 .bf16 := Memref.whole cc0_scratch1
abbrev wpM : Memref sig .tc .hbm S8x448x1024 .bf16 := Memref.whole main_v344

/-- What a memref's buffer holds on a core, and the buffer held whole, at all of it or at a part. -/
abbrev BufOf (c : Dev nD) {sp : Space} {S : Shape} {e : EltTy} (M : Memref sig .tc sp S e) : Type :=
  Buf (Elt F) (M.view.loc (c : Thread nD τ))
abbrev heldW (c : Dev nD) {sp : Space} {S : Shape} {e : EltTy} (M : Memref sig .tc sp S e) (f : BufOf (F := F) c M) : sProp 𝕄 :=
  M.view.loc (c : Thread nD τ) ↦{fullShare} f
abbrev heldP (c : Dev nD) (q : PosShare TreeShare) {sp : Space} {S : Shape} {e : EltTy} (M : Memref sig .tc sp S e) (f : BufOf (F := F) c M) : sProp 𝕄 :=
  M.view.loc (c : Thread nD τ) ↦{q} f
/-- A buffer owned at some contents. -/
abbrev anyOf (c : Dev nD) {sp : Space} {S : Shape} {e : EltTy} (M : Memref sig .tc sp S e) : sProp 𝕄 :=
  iprop(∃ d, owns (c : Thread nD τ) M fullShare d)

/-! ## The values of one block of rows -/

/-- What the body reads at one grid point, input by input. -/
structure Ins (F : FTy → Type) where
  x : Vec F S256x1024 .f32
  mixed : Vec F S256x1024 .f32
  dh2 : Vec F S256x1024 .f32
  dx2 : Vec F S256x1024 .f32
  proj : Vec F S256x2560 .f32
  projh : Vec F S8x2560 .f32
  hl : Vec F S256x512 .f32
  hlh : Vec F S8x512 .f32
  kept : Vec F S256x3072 .f32
  mod : Vec F S8x1024 .f32
  ada : Vec F S8x1024 .f32
  g1 : Vec F S1x1024 .f32
  g2 : Vec F S1x1024 .f32
  wl : Vec F S8x512 .f32
  bl : Vec F S1x512 .f32
  bda : Vec F S512x512 .bf16
  bdx : Vec F S512x512 .bf16
  ba : Vec F S1x512 .f32
  bx : Vec F S1x512 .f32
  ap : Vec F S1x512 .f32
  ws : Vec F S8x512 .f32
  gl : Vec F S1x512 .f32
  gc : Vec F S1x512 .f32
  avg : Vec F S512x512 .bf16

abbrev rX : Rect S256x1024 := Rect.unit (s := S256x1024) ![0, 0] S256x1024.size inb_S256x1024_S256x1024_0_0
abbrev rM : Rect S8x1024 := Rect.unit (s := S8x1024) ![0, 0] S8x1024.size inb_S8x1024_S8x1024_0_0
/-- The rows of the sums that end at the second norm and at the residual gate. -/
abbrev rGate : Rect S16x1024 := Rect.unit (s := S16x1024) ![2, 0] S1x1024.size inb_S16x1024_S1x1024_2_0
abbrev rShift : Rect S16x1024 := Rect.unit (s := S16x1024) ![3, 0] S1x1024.size inb_S16x1024_S1x1024_3_0
abbrev rScale : Rect S16x1024 := Rect.unit (s := S16x1024) ![4, 0] S1x1024.size inb_S16x1024_S1x1024_4_0
abbrev rGain : Rect S16x1024 := Rect.unit (s := S16x1024) ![7, 0] S1x1024.size inb_S16x1024_S1x1024_7_0
abbrev rG : Rect S1x1024 := Rect.unit (s := S1x1024) ![0, 0] S1x1024.size inb_S1x1024_S1x1024_0_0

namespace Ins
variable (B : Ins F)

/-- The modulation's rows: the first shift and scale, the first gate, the second scale. -/
def shift1 : FVec F S1x1024 .f32 := k0_pay8 (View.ld B.mod rM) (View.ld B.ada rM)
def scale1 : FVec F S1x1024 .f32 := k0_pay9 (View.ld B.mod rM) (View.ld B.ada rM)
def gate1 : FVec F S1x1024 .f32 := k0_pay10 (View.ld B.mod rM) (View.ld B.ada rM)
def scale2 : FVec F S1x1024 .f32 := k0_pay11 (View.ld B.mod rM) (View.ld B.ada rM)
/-- The block of the input, and the second norm's factor and normed rows. -/
def x1 : FVec F S256x1024 .f32 := k0_pay12 (View.ld B.x rX)
def r2 : FVec F S256x1 .f32 := k0_pay15 (View.ld B.mod rM) (View.ld B.ada rM) (View.ld B.x rX) (View.ld B.mixed rX)
def n2 : FVec F S256x1024 .f32 := k0_pay16 (View.ld B.mod rM) (View.ld B.ada rM) (View.ld B.x rX) (View.ld B.mixed rX)
def ct2 : FVec F S256x1024 .f32 := k0_pay17 (View.ld B.dh2 rX)
/-- The gradient of the mixer's output. -/
def dmixed : FVec F S256x1024 .bf16 :=
  k0_pay26 B.gate1 B.r2 B.n2 (k0_pay21 B.scale2 B.ct2 (View.ld B.g2 rG)) (k0_pay22 (View.ld B.dx2 rX)) (k0_pay23 B.scale2 B.n2 B.ct2 (View.ld B.g2 rG))
/-- The normed and modulated input. -/
def hb : FVec F S256x1024 .bf16 := k0_pay112 B.shift1 B.scale1 B.x1 (k0_pay109 B.x1) (Scalar.ofBits .f32 0x44800000#32) (View.ld B.g1 rG)
/-- The four rows, each on top of what it held. -/
def gateSum (s : Vec F S1x1024 .f32) : FVec F S1x1024 .f32 :=
  k0_pay25 (k0_pay13 (View.ld B.mixed rX)) B.r2 B.n2 (k0_pay21 B.scale2 B.ct2 (View.ld B.g2 rG)) (k0_pay22 (View.ld B.dx2 rX)) (k0_pay23 B.scale2 B.n2 B.ct2 (View.ld B.g2 rG)) s
def shiftSum (s : Vec F S1x1024 .f32) : FVec F S1x1024 .f32 := k0_pay18 (View.ld B.dh2 rX) s
def scaleSum (s : Vec F S1x1024 .f32) : FVec F S1x1024 .f32 := k0_pay19 B.n2 B.ct2 s (View.ld B.g2 rG)
def gainSum (s : Vec F S1x1024 .f32) : FVec F S1x1024 .f32 := k0_pay20 B.scale2 B.n2 B.ct2 s
/-- What a point makes of the four rows of the sums. -/
structure Sums (X Z : Vec F S16x1024 .f32) : Prop where
  gate : View.ld Z rGate = B.gateSum (View.ld X rGate)
  shift : View.ld Z rShift = B.shiftSum (View.ld X rShift)
  scale : View.ld Z rScale = B.scaleSum (View.ld X rScale)
  gain : View.ld Z rGain = B.gainSum (View.ld X rGain)
end Ins

/-- A postcondition read at an equal result. -/
theorem post_at {α : Type} {P : sProp 𝕄} {K : α → sProp 𝕄} {a b : α} (h : a = b) (hb : Entails' P (K b)) : Entails' P (K a) := h ▸ hb

/-- A row of what a buffer reads, after a store to another row and after a store to that row. -/
theorem row_skip {sp : Space} {e : EltTy} (v : View sig .tc sp S16x1024 e) (f : v.ty.Contents (Elt F)) {r k : ℕ} {size : Fin 2 → ℕ} (inb : ∀ a, (![r, 0] : Fin 2 → ℕ) a + size a ≤ S16x1024.size a)
    (w : (Rect.unit (s := S16x1024) ![r, 0] size inb).shape.Idx → Elt F e) (L : List (View.Piece (Elt F) S16x1024 e)) (inb' : ∀ a, (![k, 0] : Fin 2 → ℕ) a + S1x1024.size a ≤ S16x1024.size a)
    (h1 : size 0 = 1) (h : r ≠ k) :
    View.ld (v.read (Elt F) (v.writes (Elt F) f (⟨Rect.unit (s := S16x1024) ![r, 0] size inb, w⟩ :: L))) (Rect.unit (s := S16x1024) ![k, 0] S1x1024.size inb')
      = View.ld (v.read (Elt F) (v.writes (Elt F) f L)) (Rect.unit (s := S16x1024) ![k, 0] S1x1024.size inb') := by
  rw [View.read_writes_cons_put v f inb w L rfl, ← VecWindow.window_eq_ld, ← VecWindow.window_eq_ld]
  refine VecWindow.window_put_of_disjoint _ _ _ _ _ _ _ (0 : Fin 2) ?_
  show k + 1 ≤ r ∨ r + size 0 ≤ k
  omega
theorem row_read {sp : Space} {e : EltTy} (v : View sig .tc sp S16x1024 e) (f : v.ty.Contents (Elt F)) {k : ℕ} (inb : ∀ a, (![k, 0] : Fin 2 → ℕ) a + S1x1024.size a ≤ S16x1024.size a) :
    v.readAt (Elt F) (Rect.unit (s := S16x1024) ![k, 0] S1x1024.size inb).toLoadRect f = View.ld (v.read (Elt F) f) (Rect.unit (s := S16x1024) ![k, 0] S1x1024.size inb) := rfl
theorem row_here {sp : Space} {e : EltTy} (v : View sig .tc sp S16x1024 e) (f : v.ty.Contents (Elt F)) {k : ℕ} (inb : ∀ a, (![k, 0] : Fin 2 → ℕ) a + S1x1024.size a ≤ S16x1024.size a)
    (w : (Rect.unit (s := S16x1024) ![k, 0] S1x1024.size inb).shape.Idx → Elt F e) (L : List (View.Piece (Elt F) S16x1024 e)) :
    View.ld (v.read (Elt F) (v.writes (Elt F) f (⟨Rect.unit (s := S16x1024) ![k, 0] S1x1024.size inb, w⟩ :: L))) (Rect.unit (s := S16x1024) ![k, 0] S1x1024.size inb) = w := by
  rw [View.read_writes_cons_put v f inb w L rfl, ← VecWindow.window_eq_ld]
  exact VecWindow.window_put_same _ _ _ _ _

section Body
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x2560 .f32) (harg5 : arg5.IsWhole) (arg6 : Memref sig .tc .vmem S8x2560 .f32) (harg6 : arg6.IsWhole) (arg7 : Memref sig .tc .vmem S256x512 .f32) (harg7 : arg7.IsWhole) (arg8 : Memref sig .tc .vmem S8x512 .f32) (harg8 : arg8.IsWhole) (arg9 : Memref sig .tc .vmem S256x3072 .f32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x512 .f32) (harg14 : arg14.IsWhole) (arg15 : Memref sig .tc .vmem S1x512 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S8x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S512x512 .bf16) (harg24 : arg24.IsWhole) (arg26 : Memref sig .tc .vmem S256x1024 .f32) (harg26 : arg26.IsWhole) (arg27 : Memref sig .tc .vmem S16x1024 .f32) (harg27 : arg27.IsWhole) (arg28 : Memref sig .tc .vmem S256x1024 .bf16) (harg28 : arg28.IsWhole) (arg29 : Memref sig .tc .vmem S2560x256 .bf16) (harg29 : arg29.IsWhole) (arg30 : Memref sig .tc .vmem S256x1024 .bf16) (harg30 : arg30.IsWhole) (arg31 : Memref sig .tc .vmem S1024x256 .bf16) (harg31 : arg31.IsWhole) (arg32 : Memref sig .tc .vmem S512x256 .bf16) (harg32 : arg32.IsWhole) (arg33 : Memref sig .tc .vmem S256x1024 .bf16) (harg33 : arg33.IsWhole) (arg37 : Memref sig .tc .vmem S264x512 .f32) (harg37 : arg37.IsWhole) (arg38 : Memref sig .tc .vmem S264x512 .f32) (harg38 : arg38.IsWhole) (arg39 : Memref sig .tc .vmem S264x512 .f32) (harg39 : arg39.IsWhole) (arg40 : Memref sig .tc .vmem S264x512 .f32) (harg40 : arg40.IsWhole) (arg41 : Memref sig .tc .vmem S264x512 .f32) (harg41 : arg41.IsWhole) (arg42 : Memref sig .tc .vmem S264x512 .f32) (harg42 : arg42.IsWhole) (arg43 : Memref sig .tc .vmem S8x512 .f32) (harg43 : arg43.IsWhole) (arg44 : Memref sig .tc .vmem S256x512 .f32) (harg44 : arg44.IsWhole) (arg45 : Memref sig .tc .vmem S256x512 .f32) (harg45 : arg45.IsWhole) (arg46 : Memref sig .tc .vmem S256x512 .f32) (harg46 : arg46.IsWhole)

set_option warn.classDefReducibility false in
/-- The scan's loop, of which only what it writes to is kept: two buffers are read, the third holds anything. -/
@[sl_loop] def scanInv (𝒱 : Variants) (bd : Option 𝒱.V) (E : Set ℕ) (v98 : F .f32) (v148 v166 : FVec F S256x512 .f32)
    (X44 : BufTy.Contents (Elt F) arg44.view.ty) (X45 : BufTy.Contents (Elt F) arg45.view.ty) (init : Vec F S8x512 .f32) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 wpM (Memref.isWhole_whole _) arg26 harg26 arg27 harg27 arg28 harg28 arg29 harg29 arg30 harg30 arg31 harg31 arg32 harg32 arg33 harg33 wiM (Memref.isWhole_whole _) woM (Memref.isWhole_whole _) cc0_scratch2 arg37 harg37 arg38 harg38 arg39 harg39 arg40 harg40 arg41 harg41 arg42 harg42 arg43 harg43 arg44 harg44 arg45 harg45 arg46 harg46 v98 v148 v166 init where
  inv k acc := iprop((arg44.view.loc (c : Thread nD τ) ↦[arg44.view.set]{fullShare} X44) ∗ (arg45.view.loc (c : Thread nD τ) ↦[arg45.view.set]{fullShare} X45)
    ∗ (∃ f, (arg46.view.loc (c : Thread nD τ) ↦[arg46.view.set]{fullShare} f)))
  step k acc := by
    have hk : k.val < 32 := Nat.lt_of_lt_of_le k.isLt k0_t1_abs.2.1
    unfold k0_t1_body
    iintro ⟨HA, HB, ⟨%f, HC⟩⟩
    sl_exec
    sl_step
    isplitl [HA]; · iexact HA
    isplitl [HB]; · iexact HB
    iexists _; iexact HC

abbrev part8P : Prog (TpuEff nD τ sig (Elt F) Λ₀ .tc) (Σ' (v0 : BitVec 32) (v9 : FVec F S1x1024 .f32) (v10 : FVec F S1x1024 .f32) (v11 : FVec F S1x1024 .f32) (v12 : FVec F S1x1024 .f32) (v14 : FVec F S256x1024 .f32) (v16 : FVec F S256x1024 .f32) (v27 : FVec F S256x1 .f32) (v29 : FVec F S256x1024 .f32) (v31 : FVec F S256x1024 .f32), FVec F S1x1024 .f32) :=
  k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 wpM (Memref.isWhole_whole _) arg26 harg26 arg27 harg27 arg28 harg28 arg29 harg29 arg30 harg30 arg31 harg31 arg32 harg32 arg33 harg33 wiM (Memref.isWhole_whole _) woM (Memref.isWhole_whole _) cc0_scratch2 arg37 harg37 arg38 harg38 arg39 harg39 arg40 harg40 arg41 harg41 arg42 harg42 arg43 harg43 arg44 harg44 arg45 harg45 arg46 harg46
abbrev bodyP : Prog (TpuEff nD τ sig (Elt F) Λ₀ .tc) PUnit :=
  cc0_mixer_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 wpM (Memref.isWhole_whole _) arg26 harg26 arg27 harg27 arg28 harg28 arg29 harg29 arg30 harg30 arg31 harg31 arg32 harg32 arg33 harg33 wiM (Memref.isWhole_whole _) woM (Memref.isWhole_whole _) cc0_scratch2 arg37 harg37 arg38 harg38 arg39 harg39 arg40 harg40 arg41 harg41 arg42 harg42 arg43 harg43 arg44 harg44 arg45 harg45 arg46 harg46

/-- What the loads at the head of the body return, the gradient of the second shift on top of what the sums hold. -/
abbrev heads (B : Ins F) (s : Vec F S1x1024 .f32) : Σ' (v0 : BitVec 32) (v9 : FVec F S1x1024 .f32) (v10 : FVec F S1x1024 .f32) (v11 : FVec F S1x1024 .f32) (v12 : FVec F S1x1024 .f32) (v14 : FVec F S256x1024 .f32) (v16 : FVec F S256x1024 .f32) (v27 : FVec F S256x1 .f32) (v29 : FVec F S256x1024 .f32) (v31 : FVec F S256x1024 .f32), FVec F S1x1024 .f32 :=
  ⟨Scalar.subi 7#32 (BitVec.ofNat 32 (i 0).val), B.shift1, B.scale1, B.gate1, B.scale2, B.x1, k0_pay13 (View.ld B.mixed rX), B.r2, B.n2, B.ct2, k0_pay18 (View.ld B.dh2 rX) s⟩

/-- The weights' pack, the resident weights and the two counters of the copies, nothing in flight. -/
abbrev weights (pk : Vec F S8x448x1024 .bf16) : sProp 𝕄 :=
  iprop(heldP c fullShare.left wpM pk ∗ heldP c fullShare.right wpM pk ∗ (∃ f, heldW c wiM f) ∗ (∃ f, heldW c woM f)
    ∗ semVal ((c : Thread nD τ), SemLoc.dma 48) 0 ∗ semVal ((c : Thread nD τ), SemLoc.dma 49) 0)

/-- What the head of the body reads and the buffers it clears. -/
abbrev headIns (B : Ins F) : sProp 𝕄 :=
  iprop(owns (c : Thread nD τ) arg1 fullShare B.x ∗ owns (c : Thread nD τ) arg2 fullShare B.mixed ∗ owns (c : Thread nD τ) arg3 fullShare B.dh2 ∗ owns (c : Thread nD τ) arg10 fullShare B.mod ∗ owns (c : Thread nD τ) arg11 fullShare B.ada)
/-- The other inputs. -/
abbrev restIns (B : Ins F) : sProp 𝕄 :=
  iprop(owns (c : Thread nD τ) arg4 fullShare B.dx2 ∗ owns (c : Thread nD τ) arg5 fullShare B.proj ∗ owns (c : Thread nD τ) arg6 fullShare B.projh ∗ owns (c : Thread nD τ) arg7 fullShare B.hl ∗ owns (c : Thread nD τ) arg8 fullShare B.hlh ∗ owns (c : Thread nD τ) arg9 fullShare B.kept ∗ owns (c : Thread nD τ) arg12 fullShare B.g1 ∗ owns (c : Thread nD τ) arg13 fullShare B.g2 ∗ owns (c : Thread nD τ) arg14 fullShare B.wl ∗ owns (c : Thread nD τ) arg15 fullShare B.bl ∗ owns (c : Thread nD τ) arg16 fullShare B.bda ∗ owns (c : Thread nD τ) arg17 fullShare B.bdx ∗ owns (c : Thread nD τ) arg18 fullShare B.ba ∗ owns (c : Thread nD τ) arg19 fullShare B.bx ∗ owns (c : Thread nD τ) arg20 fullShare B.ap ∗ owns (c : Thread nD τ) arg21 fullShare B.ws ∗ owns (c : Thread nD τ) arg22 fullShare B.gl ∗ owns (c : Thread nD τ) arg23 fullShare B.gc ∗ owns (c : Thread nD τ) arg24 fullShare B.avg)
abbrev cleared : sProp 𝕄 :=
  iprop(anyOf c arg40 ∗ anyOf c arg41 ∗ anyOf c arg42 ∗ anyOf c arg43)
/-- The other outputs and scratch, at anything. -/
abbrev restAny : sProp 𝕄 :=
  iprop(anyOf c arg26 ∗ anyOf c arg28 ∗ anyOf c arg29 ∗ anyOf c arg30 ∗ anyOf c arg31 ∗ anyOf c arg32 ∗ anyOf c arg33 ∗ anyOf c arg37 ∗ anyOf c arg38 ∗ anyOf c arg39 ∗ anyOf c arg44 ∗ anyOf c arg45 ∗ anyOf c arg46)
/-- The same after the body: the two blocks named at their values. -/
abbrev restOf (B : Ins F) : sProp 𝕄 :=
  iprop(anyOf c arg26 ∗ owns (c : Thread nD τ) arg28 fullShare B.hb ∗ anyOf c arg29 ∗ owns (c : Thread nD τ) arg30 fullShare B.dmixed ∗ anyOf c arg31 ∗ anyOf c arg32 ∗ anyOf c arg33 ∗ anyOf c arg37 ∗ anyOf c arg38 ∗ anyOf c arg39 ∗ anyOf c arg44 ∗ anyOf c arg45 ∗ anyOf c arg46)

set_option maxHeartbeats 4000000 in
/-- The head at the first point: the weights copied in, the sums and carries cleared. -/
theorem head_first (hi : Scalar.cmpi .ne (Scalar.extui (Scalar.cmpi .eq (BitVec.ofNat 32 (i 0).val) 0#32) : BitVec 32) 0#32 = 1#1)
    (B : Ins F) (pk : Vec F S8x448x1024 .bf16) (X : Vec F S16x1024 .f32) (W : Waits sig Unit)
    (K : (Σ' (v0 : BitVec 32) (v9 : FVec F S1x1024 .f32) (v10 : FVec F S1x1024 .f32) (v11 : FVec F S1x1024 .f32) (v12 : FVec F S1x1024 .f32) (v14 : FVec F S256x1024 .f32) (v16 : FVec F S256x1024 .f32) (v27 : FVec F S256x1 .f32) (v29 : FVec F S256x1024 .f32) (v31 : FVec F S256x1024 .f32), FVec F S1x1024 .f32) → sProp 𝕄) :
    iprop(headIns c arg1 arg2 arg3 arg10 arg11 B ∗ owns (c : Thread nD τ) arg27 fullShare X ∗ cleared c arg40 arg41 arg42 arg43 ∗ weights c pk ∗ owes (c : Thread nD τ) 0 W
        ∗ (iprop(headIns c arg1 arg2 arg3 arg10 arg11 B ∗ owns (c : Thread nD τ) arg27 fullShare k0_pay1 ∗ cleared c arg40 arg41 arg42 arg43 ∗ weights c pk ∗ (∃ W', owes (c : Thread nD τ) 0 W')) -∗ K (heads i B (View.ld (k0_pay1 (F := F)) rShift))))
      ⊢ wp frame (wpE (defs₀ (F := F)) Variants.none c none) Set.univ (part8P i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 harg26 arg27 harg27 arg28 harg28 arg29 harg29 arg30 harg30 arg31 harg31 arg32 harg32 arg33 harg33 arg37 harg37 arg38 harg38 arg39 harg39 arg40 harg40 arg41 harg41 arg42 harg42 arg43 harg43 arg44 harg44 arg45 harg45 arg46 harg46) K := by
  have _plan1 : Transfers.BatchOf (c : Thread nD τ) (SemLoc.dma (sig := sig) 48) 8 (windows := true) := trivial
  have _plan2 : Transfers.BatchOf (c : Thread nD τ) (SemLoc.dma (sig := sig) 49) 8 (windows := true) := trivial
  rcases B with ⟨b1, b2, b3, b4, b5, b6, b7, b8, b9, b10, b11, b12, b13, b14, b15, b16, b17, b18, b19, b20, b21, b22, b23, b24⟩
  unfold part8P headIns cleared weights anyOf owns
  dsimp only
  iintro ⟨⟨⟨%f1, %h1, H1⟩, ⟨%f2, %h2, H2⟩, ⟨%f3, %h3, H3⟩, ⟨%f10, %h10, H10⟩, ⟨%f11, %h11, H11⟩⟩, ⟨%f27, %h27, H27⟩, ⟨⟨%d40, %f40, -, H40⟩, ⟨%d41, %f41, -, H41⟩, ⟨%d42, %f42, -, H42⟩, ⟨%d43, %f43, -, H43⟩⟩, ⟨HP, HP', ⟨%fa, HA⟩, ⟨%fb, HB⟩, Hc0, Hc1⟩, HW, Hk⟩
  subst h1 h2 h3 h10 h11 h27
  simp only [k0_part8_eq_skeleton, k0_part8_skel, k0_part7_eq_skeleton, k0_part7_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel]
  sl_exec
  sl_step
  refine post_at (b := heads i ⟨arg1.view.read (Elt F) f1, arg2.view.read (Elt F) f2, arg3.view.read (Elt F) f3, b4, b5, b6, b7, b8, b9, arg10.view.read (Elt F) f10, arg11.view.read (Elt F) f11, b12, b13, b14, b15, b16, b17, b18, b19, b20, b21, b22, b23, b24⟩ (View.ld (k0_pay1 (F := F)) rShift)) ?_ ?_
  · refine congrArg (heads i ⟨arg1.view.read (Elt F) f1, arg2.view.read (Elt F) f2, arg3.view.read (Elt F) f3, b4, b5, b6, b7, b8, b9, arg10.view.read (Elt F) f10, arg11.view.read (Elt F) f11, b12, b13, b14, b15, b16, b17, b18, b19, b20, b21, b22, b23, b24⟩) (?_ : head_first.sl.v32 (F := F) arg27 = _)
    exact (row_read _ _ _).trans (congrArg (fun Z => View.ld Z rShift) (View.read_writes_full _ _ _ _ _))
  iapply Hk
  isplitl [H1 H2 H3 H10 H11]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H10]
    · iexists f10; isplitr; · ipureintro; rfl
      iexact H10
    iexists f11; isplitr; · ipureintro; rfl
    iexact H11
  isplitl [H27]
  · iexists _; isplitr; swap; · iexact H27
    ipureintro; exact View.read_writes_full _ _ _ _ _
  isplitl [H40 H41 H42 H43]
  · isplitl [H40]
    · iexists _; iexists _; isplitr; swap; · iexact H40
      ipureintro; rfl
    isplitl [H41]
    · iexists _; iexists _; isplitr; swap; · iexact H41
      ipureintro; rfl
    isplitl [H42]
    · iexists _; iexists _; isplitr; swap; · iexact H42
      ipureintro; rfl
    iexists _; iexists _; isplitr; swap; · iexact H43
    ipureintro; rfl
  isplitr [HW]
  · isplitl [HP]; · iexact HP
    isplitl [HP']; · iexact HP'
    isplitl [HA]; · iexists _; iexact HA
    isplitl [HB]; · iexists _; iexact HB
    isplitl [Hc0]; · iexact Hc0
    iexact Hc1
  iexists _; iexact HW

set_option maxHeartbeats 4000000 in
/-- The head at a later point: the loads alone. -/
theorem head_later (hi : ¬ Scalar.cmpi .ne (Scalar.extui (Scalar.cmpi .eq (BitVec.ofNat 32 (i 0).val) 0#32) : BitVec 32) 0#32 = 1#1)
    (B : Ins F) (pk : Vec F S8x448x1024 .bf16) (X : Vec F S16x1024 .f32) (W : Waits sig Unit)
    (K : (Σ' (v0 : BitVec 32) (v9 : FVec F S1x1024 .f32) (v10 : FVec F S1x1024 .f32) (v11 : FVec F S1x1024 .f32) (v12 : FVec F S1x1024 .f32) (v14 : FVec F S256x1024 .f32) (v16 : FVec F S256x1024 .f32) (v27 : FVec F S256x1 .f32) (v29 : FVec F S256x1024 .f32) (v31 : FVec F S256x1024 .f32), FVec F S1x1024 .f32) → sProp 𝕄) :
    iprop(headIns c arg1 arg2 arg3 arg10 arg11 B ∗ owns (c : Thread nD τ) arg27 fullShare X ∗ cleared c arg40 arg41 arg42 arg43 ∗ weights c pk ∗ owes (c : Thread nD τ) 0 W
        ∗ (iprop(headIns c arg1 arg2 arg3 arg10 arg11 B ∗ owns (c : Thread nD τ) arg27 fullShare X ∗ cleared c arg40 arg41 arg42 arg43 ∗ weights c pk ∗ (∃ W', owes (c : Thread nD τ) 0 W')) -∗ K (heads i B (View.ld X rShift))))
      ⊢ wp frame (wpE (defs₀ (F := F)) Variants.none c none) Set.univ (part8P i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 harg26 arg27 harg27 arg28 harg28 arg29 harg29 arg30 harg30 arg31 harg31 arg32 harg32 arg33 harg33 arg37 harg37 arg38 harg38 arg39 harg39 arg40 harg40 arg41 harg41 arg42 harg42 arg43 harg43 arg44 harg44 arg45 harg45 arg46 harg46) K := by
  rcases B with ⟨b1, b2, b3, b4, b5, b6, b7, b8, b9, b10, b11, b12, b13, b14, b15, b16, b17, b18, b19, b20, b21, b22, b23, b24⟩
  unfold part8P headIns cleared weights anyOf owns
  dsimp only
  iintro ⟨⟨⟨%f1, %h1, H1⟩, ⟨%f2, %h2, H2⟩, ⟨%f3, %h3, H3⟩, ⟨%f10, %h10, H10⟩, ⟨%f11, %h11, H11⟩⟩, ⟨%f27, %h27, H27⟩, ⟨⟨%d40, %f40, -, H40⟩, ⟨%d41, %f41, -, H41⟩, ⟨%d42, %f42, -, H42⟩, ⟨%d43, %f43, -, H43⟩⟩, ⟨HP, HP', ⟨%fa, HA⟩, ⟨%fb, HB⟩, Hc0, Hc1⟩, HW, Hk⟩
  subst h1 h2 h3 h10 h11 h27
  simp only [k0_part8_eq_skeleton, k0_part8_skel]
  sl_exec
  sl_step
  refine post_at (b := heads i ⟨arg1.view.read (Elt F) f1, arg2.view.read (Elt F) f2, arg3.view.read (Elt F) f3, b4, b5, b6, b7, b8, b9, arg10.view.read (Elt F) f10, arg11.view.read (Elt F) f11, b12, b13, b14, b15, b16, b17, b18, b19, b20, b21, b22, b23, b24⟩ (View.ld (arg27.view.read (Elt F) f27) rShift)) rfl ?_
  iapply Hk
  isplitl [H1 H2 H3 H10 H11]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H10]
    · iexists f10; isplitr; · ipureintro; rfl
      iexact H10
    iexists f11; isplitr; · ipureintro; rfl
    iexact H11
  isplitl [H27]
  · iexists _; isplitr; swap; · iexact H27
    ipureintro; rfl
  isplitl [H40 H41 H42 H43]
  · isplitl [H40]
    · iexists _; iexists _; isplitr; swap; · iexact H40
      ipureintro; rfl
    isplitl [H41]
    · iexists _; iexists _; isplitr; swap; · iexact H41
      ipureintro; rfl
    isplitl [H42]
    · iexists _; iexists _; isplitr; swap; · iexact H42
      ipureintro; rfl
    iexists _; iexists _; isplitr; swap; · iexact H43
    ipureintro; rfl
  isplitr [HW]
  · isplitl [HP]; · iexact HP
    isplitl [HP']; · iexact HP'
    isplitl [HA]; · iexists _; iexact HA
    isplitl [HB]; · iexists _; iexact HB
    isplitl [Hc0]; · iexact Hc0
    iexact Hc1
  iexists _; iexact HW

set_option maxHeartbeats 16000000 in
/-- The body, its head specified: from the head's own resources `R` and the rest's, to every output written. -/
theorem body_run (R : sProp 𝕄) (B : Ins F) (pk : Vec F S8x448x1024 .bf16) (X : Vec F S16x1024 .f32)
    (hcut : ∀ K : (Σ' (v0 : BitVec 32) (v9 : FVec F S1x1024 .f32) (v10 : FVec F S1x1024 .f32) (v11 : FVec F S1x1024 .f32) (v12 : FVec F S1x1024 .f32) (v14 : FVec F S256x1024 .f32) (v16 : FVec F S256x1024 .f32) (v27 : FVec F S256x1 .f32) (v29 : FVec F S256x1024 .f32) (v31 : FVec F S256x1024 .f32), FVec F S1x1024 .f32) → sProp 𝕄,
      iprop(R ∗ (iprop(headIns c arg1 arg2 arg3 arg10 arg11 B ∗ owns (c : Thread nD τ) arg27 fullShare X ∗ cleared c arg40 arg41 arg42 arg43 ∗ weights c pk ∗ (∃ W', owes (c : Thread nD τ) 0 W')) -∗ K (heads i B (View.ld X rShift))))
      ⊢ wp frame (wpE (defs₀ (F := F)) Variants.none c none) Set.univ (part8P i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 harg26 arg27 harg27 arg28 harg28 arg29 harg29 arg30 harg30 arg31 harg31 arg32 harg32 arg33 harg33 arg37 harg37 arg38 harg38 arg39 harg39 arg40 harg40 arg41 harg41 arg42 harg42 arg43 harg43 arg44 harg44 arg45 harg45 arg46 harg46) K)
    (K : PUnit → sProp 𝕄) :
    iprop(R ∗ restIns c arg4 arg5 arg6 arg7 arg8 arg9 arg12 arg13 arg14 arg15 arg16 arg17 arg18 arg19 arg20 arg21 arg22 arg23 arg24 B ∗ restAny c arg26 arg28 arg29 arg30 arg31 arg32 arg33 arg37 arg38 arg39 arg44 arg45 arg46
        ∗ (iprop(headIns c arg1 arg2 arg3 arg10 arg11 B ∗ restIns c arg4 arg5 arg6 arg7 arg8 arg9 arg12 arg13 arg14 arg15 arg16 arg17 arg18 arg19 arg20 arg21 arg22 arg23 arg24 B ∗ (∃ Z, owns (c : Thread nD τ) arg27 fullShare Z ∗ ⌜B.Sums X Z⌝) ∗ cleared c arg40 arg41 arg42 arg43 ∗ restOf c arg26 arg28 arg29 arg30 arg31 arg32 arg33 arg37 arg38 arg39 arg44 arg45 arg46 B
            ∗ weights c pk ∗ (∃ W', owes (c : Thread nD τ) 0 W')) -∗ K ⟨⟩))
      ⊢ wp frame (wpE (defs₀ (F := F)) Variants.none c none) Set.univ (bodyP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 harg26 arg27 harg27 arg28 harg28 arg29 harg29 arg30 harg30 arg31 harg31 arg32 harg32 arg33 harg33 arg37 harg37 arg38 harg38 arg39 harg39 arg40 harg40 arg41 harg41 arg42 harg42 arg43 harg43 arg44 harg44 arg45 harg45 arg46 harg46) K := by
  rcases B with ⟨b1, b2, b3, b4, b5, b6, b7, b8, b9, b10, b11, b12, b13, b14, b15, b16, b17, b18, b19, b20, b21, b22, b23, b24⟩
  unfold bodyP
  simp only [cc0_mixer_bwd_eq_skeleton]; unfold cc0_mixer_bwd_skel
  rw [wp_bind]
  simp only [k0_part23_eq_skeleton]; unfold k0_part23_skel
  rw [wp_bind]
  iintro ⟨HR, HI, HO, Hk⟩
  iapply hcut
  isplitl [HR]; · iexact HR
  unfold restIns restOf restAny cleared anyOf owns
  iintro ⟨Hh, ⟨%f27, %h27, H27⟩, HC, ⟨HP, HP', ⟨%fa, HA⟩, ⟨%fb, HB⟩, Hc0, Hc1⟩, ⟨%W', HW⟩⟩
  icases HI with ⟨⟨%f4, %h4, H4⟩, ⟨%f5, %h5, H5⟩, ⟨%f6, %h6, H6⟩, ⟨%f7, %h7, H7⟩, ⟨%f8, %h8, H8⟩, ⟨%f9, %h9, H9⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩, ⟨%f22, %h22, H22⟩, ⟨%f23, %h23, H23⟩, ⟨%f24, %h24, H24⟩⟩
  icases HO with ⟨⟨%d26, %f26, -, H26⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d37, %f37, -, H37⟩, ⟨%d38, %f38, -, H38⟩, ⟨%d39, %f39, -, H39⟩, ⟨%d44, %f44, -, H44⟩, ⟨%d45, %f45, -, H45⟩, ⟨%d46, %f46, -, H46⟩⟩
  icases HC with ⟨⟨%d40, %f40, -, H40⟩, ⟨%d41, %f41, -, H41⟩, ⟨%d42, %f42, -, H42⟩, ⟨%d43, %f43, -, H43⟩⟩
  dsimp only at h4 h5 h6 h7 h8 h9 h12 h13 h14 h15 h16 h17 h18 h19 h20 h21 h22 h23 h24
  subst h27
  subst h4 h5 h6 h7 h8 h9 h12 h13 h14 h15 h16 h17 h18 h19 h20 h21 h22 h23 h24
  simp only [k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel]
  sl_exec
  sl_step
  iapply Hk
  isplitl [Hh]; · iexact Hh
  isplitl [H4 H5 H6 H7 H8 H9 H12 H13 H14 H15 H16 H17 H18 H19 H20 H21 H22 H23 H24]
  · isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    isplitl [H15]
    · iexists f15; isplitr; · ipureintro; rfl
      iexact H15
    isplitl [H16]
    · iexists f16; isplitr; · ipureintro; rfl
      iexact H16
    isplitl [H17]
    · iexists f17; isplitr; · ipureintro; rfl
      iexact H17
    isplitl [H18]
    · iexists f18; isplitr; · ipureintro; rfl
      iexact H18
    isplitl [H19]
    · iexists f19; isplitr; · ipureintro; rfl
      iexact H19
    isplitl [H20]
    · iexists f20; isplitr; · ipureintro; rfl
      iexact H20
    isplitl [H21]
    · iexists f21; isplitr; · ipureintro; rfl
      iexact H21
    isplitl [H22]
    · iexists f22; isplitr; · ipureintro; rfl
      iexact H22
    isplitl [H23]
    · iexists f23; isplitr; · ipureintro; rfl
      iexact H23
    iexists f24; isplitr; · ipureintro; rfl
    iexact H24
  isplitl [H27]
  · iexists _; isplitl [H27]
    · iexists _; isplitr; swap; · iexact H27
      ipureintro; rfl
    ipureintro
    clear hcut
    refine ⟨?_, ?_, ?_, ?_⟩
    · refine (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_here _ _ _ _ _).trans (congrArg (Ins.gateSum _) ?_)
      unfold body_run.sl.v79
      exact row_read _ _ _
    · refine (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_here _ _ _ _ _).trans ?_
      rfl
    · refine (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_here _ _ _ _ _).trans (congrArg (Ins.scaleSum _) ?_)
      unfold body_run.sl.v38
      exact row_read _ _ _
    · refine (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_skip _ _ _ _ _ _ rfl (by decide)).trans <| (row_here _ _ _ _ _).trans (congrArg (Ins.gainSum _) ?_)
      unfold body_run.sl.v48
      exact row_read _ _ _
  isplitl [H40 H41 H42 H43]
  · isplitl [H40]
    · iexists _; iexists _; isplitr; swap; · iexact H40
      ipureintro; rfl
    isplitl [H41]
    · iexists _; iexists _; isplitr; swap; · iexact H41
      ipureintro; rfl
    isplitl [H42]
    · iexists _; iexists _; isplitr; swap; · iexact H42
      ipureintro; rfl
    iexists _; iexists _; isplitr; swap; · iexact H43
    ipureintro; rfl
  isplitl [H26 H28 H29 H30 H31 H32 H33 H37 H38 H39 H44 H45 H46]
  · isplitl [H26]
    · iexists _; iexists _; isplitr; swap; · iexact H26
      ipureintro; rfl
    isplitl [H28]
    · iexists _; isplitr; swap; · iexact H28
      ipureintro; exact View.read_writes_full _ _ _ _ _
    isplitl [H29]
    · iexists _; iexists _; isplitr; swap; · iexact H29
      ipureintro; rfl
    isplitl [H30]
    · iexists _; isplitr; swap; · iexact H30
      ipureintro; exact View.read_writes_full _ _ _ _ _
    isplitl [H31]
    · iexists _; iexists _; isplitr; swap; · iexact H31
      ipureintro; rfl
    isplitl [H32]
    · iexists _; iexists _; isplitr; swap; · iexact H32
      ipureintro; rfl
    isplitl [H33]
    · iexists _; iexists _; isplitr; swap; · iexact H33
      ipureintro; rfl
    isplitl [H37]
    · iexists _; iexists _; isplitr; swap; · iexact H37
      ipureintro; rfl
    isplitl [H38]
    · iexists _; iexists _; isplitr; swap; · iexact H38
      ipureintro; rfl
    isplitl [H39]
    · iexists _; iexists _; isplitr; swap; · iexact H39
      ipureintro; rfl
    isplitl [H44]
    · iexists _; iexists _; isplitr; swap; · iexact H44
      ipureintro; rfl
    isplitl [H45]
    · iexists _; iexists _; isplitr; swap; · iexact H45
      ipureintro; rfl
    iexists _; iexists _; isplitr; swap; · iexact H46
    ipureintro; rfl
  isplitr [HW]
  · isplitl [HP]; · iexact HP
    isplitl [HP']; · iexact HP'
    isplitl [HA]; · iexists _; iexact HA
    isplitl [HB]; · iexists _; iexact HB
    isplitl [Hc0]; · iexact Hc0
    iexact Hc1
  iexists _; iexact HW

end Body

end Cert.MixerRun
-- ==== Proof.TailRun.lean ====
/- A pipelined region followed by host lines, for data that says of some windows only which contents they may hold: what the lines
write is the lines' outcome over some contents the windows may hold. -/
module

public import Idealize.ShloMosaic.Lib.Pipeline.FrameSuffixR

@[expose] public section

noncomputable section

namespace Cert.TailRun

open Idealize.ShloMosaic Idealize.ShloMosaic.TcCoe Idealize.ShloMosaic.Pipeline Idealize.ShloMosaic.Rounds
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {Λ₀ : Labels} {P : Type} [Fintype P] [DecidableEq P] [∀ e, Nonempty (Val e)]
variable {K : Type} [Fintype K]

local notation "𝕄" => MT nD τ sig Unit Val ℕ (UD sig nD τ) ℕ

/-- Contents each window's array may hold at the region's end. -/
abbrev Ends {cfg : Cfg sig Λ₀} {c : Dev nD} (rd : RDat τ Val Unit ℕ (UD sig nD τ) ℕ cfg c) :=
  {A : (w : Fin cfg.W) → Buf Val ((cfg.win w).arr.view.loc (c : Thread nD τ)) // ∀ w, rd.ArrAt w cfg.N (A w)}

theorem open_ends {cfg : Cfg sig Λ₀} {c : Dev nD} (rd : RDat τ Val Unit ℕ (UD sig nD τ) ℕ cfg c) :
    (rd.arraysAt cfg.N : sProp 𝕄) ⊢ iprop(∃ A : Ends rd, rd.arrays A.1) := by
  unfold RDat.arraysAt RDat.arrays
  iintro H
  ihave H := (bigSep_exists_pi Finset.univ _) $$ H
  icases H with ⟨%A, H⟩
  ihave H := (bigSep_pure_sep Finset.univ _ _) $$ H
  icases H with ⟨%hA, H⟩
  iexists ⟨A, fun w => hA w (Finset.mem_univ w)⟩
  iexact H

theorem close_ends {cfg : Cfg sig Λ₀} {c : Dev nD} (rd : RDat τ Val Unit ℕ (UD sig nD τ) ℕ cfg c) (A : Ends rd) :
    (rd.arrays A.1 : sProp 𝕄) ⊢ rd.arraysAt cfg.N := by
  unfold RDat.arraysAt RDat.arrays
  refine bigSep_mono fun w _ => ?_
  show (((cfg.win w).arr.view.loc (c : Thread nD τ) ↦[(cfg.win w).arr.view.set]{rd.share w} A.1 w : sProp 𝕄)
    ⊢ iprop(∃ F, ⌜rd.ArrAt w cfg.N F⌝ ∗ (cfg.win w).arr.view.loc (c : Thread nD τ) ↦[(cfg.win w).arr.view.set]{rd.share w} F))
  iintro H
  iexists A.1 w
  isplitr; · ipureintro; exact A.2 w
  iexact H

section Run

variable (cfgs : P → Cfg sig Λ₀) (p : P) (kit : LaunchFacts₀ (nD := nD) (τ := τ) cfgs p)
  (osem : K → SemLoc sig) (defs₀ : Defs nD τ sig Val Λ₀) (𝒱₀ : Variants)

/-- The pipelines, as pipelines that prefetch no table. -/
abbrev bare : P → PCfg sig Λ₀ Val := fun q => (cfgs q).toPCfg

/-- What one core leaves when `opss` follow the region: every array at contents it may hold, and every buffer that is no window's
array at what `opss` make of some such contents. -/
def Left (rd : (c : Dev nD) → RDat τ Val Unit ℕ (UD sig nD τ) ℕ (cfgs p) c) (V : Dev nD → Valuation τ sig Val)
    (opss : List (List (HloOp τ sig Val))) (c : Dev nD) (mem : (ℓ : Loc nD τ sig) → Buf Val ℓ) : Prop :=
  (∀ w, (rd c).ArrAt w (cfgs p).N (mem (((cfgs p).win w).arr.view.loc (c : Thread nD τ))))
    ∧ ∃ A : Ends (rd c), ∀ b ∈ restRefs sig (cfgs p).spec,
        mem ((c : Thread nD τ).loc b) = StableHlo.after opss.flatten (withArrays (cfgs p).spec c (V c) A.1) (Proc.devRef .tc b)

theorem no_table {b : Ref sig .tc} (h : b ∈ restRefs sig (cfgs p).spec) : b ∈ restRefsP sig (bare (Val := Val) cfgs p).pre (cfgs p).spec :=
  Finset.mem_sdiff.mpr ⟨h, fun h => (Finset.mem_image.mp h).elim fun k _ => k.elim0⟩

include kit in
/-- The lines after the region, from the arrays and the other buffers as the region leaves them. -/
theorem lines_run (c : Dev nD) (rd : RDat τ Val Unit ℕ (UD sig nD τ) ℕ (cfgs p) c) (V : Valuation τ sig Val)
    (hq : ∀ w, ((cfgs p).spec w).isOut = false → rd.q w = shareOf (cfgs p).spec w)
    (hA : ∀ w, rd.A w = V (Proc.devRef .tc (arrRef (cfgs p).spec w)))
    (opss : List (List (HloOp τ sig Val)))
    (hsub : ∀ ops ∈ opss, ∀ op ∈ ops, op.bufs ⊆ tailRefs sig (bare (Val := Val) cfgs p).pre (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes) (Q : PUnit → sProp 𝕄) :
    iprop((iprop(boundary (c : Thread nD τ) ∗ rd.arraysAt (cfgs p).N
            ∗ ∃ A : Ends rd, unscopedRestP (bare (Val := Val) cfgs p).pre (cfgs p).spec c
                fun b => StableHlo.after opss.flatten (withArrays (cfgs p).spec c V A.1) (Proc.devRef .tc b)) -∗ Q ⟨⟩)
        ∗ boundary (c : Thread nD τ) ∗ rd.arraysAt (cfgs p).N
        ∗ unscopedRestP (bare (Val := Val) cfgs p).pre (cfgs p).spec c fun b => V (Proc.devRef .tc b))
      ⊢ wp frame (wpE (Pipeline.defs (bare cfgs) defs₀) (Variants.lift 𝒱₀) (c : Thread nD τ) none) Set.univ
          (chain (opss.map StableHlo.seq)) Q := by
  iintro ⟨Hk, Hb, Ha, Hu⟩
  ihave Ha := (open_ends rd) $$ Ha
  icases Ha with ⟨%A, Ha⟩
  have hB : (rd.arrays A.1 : sProp 𝕄)
      = arrBufs (cfgs p).spec c fun b => withArrays (cfgs p).spec c V A.1 (Proc.devRef .tc b) :=
    (rd.arrBufs_eq_arrays kit.sharedIn kit.arr_whole hq _ A.1 fun w =>
      (withArrays_arr_shared (cfgs p).spec c V A.1 (rd.ArrAt_sharedIn kit.sharedIn V hA (cfgs p).N A.1 A.2) w).symm).symm
  have hW := held_tailRefs_bufs (Ix := Unit) (Name := ℕ) (U := UD sig nD τ) (Lvl := ℕ) (bare (Val := Val) cfgs p).pre (cfgs p).spec c
    (withArrays (cfgs p).spec c V A.1)
  rw [unscopedRestP_withArrays, ← hB] at hW
  ihave Hheld := (show iprop(boundary (c : Thread nD τ) ∗ rd.arrays A.1
        ∗ unscopedRestP (bare (Val := Val) cfgs p).pre (cfgs p).spec c fun b => V (Proc.devRef .tc b))
      ⊢ iprop(boundary (c : Thread nD τ) ∗ (StableHlo.held (c : Thread nD τ)
          (tailRefs sig (bare (Val := Val) cfgs p).pre (cfgs p).spec) (withArrays (cfgs p).spec c V A.1) : sProp 𝕄)) from by rw [hW]) $$ [Hb Ha Hu]
  · isplitl [Hb]; · iexact Hb
    isplitl [Ha]; · iexact Ha
    iexact Hu
  rw [← List.append_nil (opss.map StableHlo.seq)]
  iapply (wp_seqs_then (bare cfgs) defs₀ 𝒱₀ c _ [] opss hsub hfresh (withArrays (cfgs p).spec c V A.1)) $$ Hheld
  rw [chain_nil, wp_pure, held_tailRefs_bufs, arrBufs_after (cfgs p).spec c _ opss hkeep, ← hB]
  iintro ⟨Hb, Ha, Hu⟩
  imodintro
  iapply Hk
  isplitl [Hb]; · iexact Hb
  isplitl [Ha]; · iapply (close_ends rd A); iexact Ha
  iexists A
  iexact Hu

include kit in
/-- A region whose body also reads the buffers `H` by transfers of its own, followed by the host lines `opss`. -/
theorem run (rd : (c : Dev nD) → RDat τ Val Unit ℕ (UD sig nD τ) ℕ (cfgs p) c)
    (ho : OwnSemFacts (cfgs p).spec osem) (H : Finset (Ref sig .tc)) (hH : H ⊆ restRefs sig (cfgs p).spec)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rd c).BodyObligation defs₀ 𝒱₀ () Set.univ)
    (hq : ∀ c w, ((cfgs p).spec w).isOut = false → (rd c).q w = shareOf (cfgs p).spec w) (howed : ∀ c t, (rd c).owed t = 0)
    (V : Dev nD → Valuation τ sig Val) (opss : List (List (HloOp τ sig Val)))
    (hsub : ∀ ops ∈ opss, ∀ op ∈ ops, op.bufs ⊆ tailRefs sig (bare (Val := Val) cfgs p).pre (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UD sig nD τ) (Lvl := ℕ) cfgs p defs₀ 𝒱₀ m main
      (fun c b => V c (Proc.devRef .tc b)) (fun _ => chain (opss.map StableHlo.seq)))
    (hA : ∀ c w, (rd c).A w = V c (Proc.devRef .tc (arrRef (cfgs p).spec w)))
    (hin : ∀ c, ΦD osem (cfgs p).spec H (fun c b => V c (Proc.devRef .tc b)) c ⊢ (rd c).Φ 0)
    (hout : ∀ c, (rd c).Φ (Fin.last (cfgs p).N) ⊢ ΦD osem (cfgs p).spec H (fun c b => V c (Proc.devRef .tc b)) c) :
    θ_run (Pipeline.defs (fun q => (cfgs q).toPCfg (Val := Val)) defs₀) (onTc main) (s₀ m g)
      fun r => (∀ c, Left cfgs p rd V opss c r.2.mem) ∧ r.2.sem = fun _ => 0 := by
  classical
  have kit' : PLaunchFacts₀ (nD := nD) (τ := τ) (bare (Val := Val) cfgs) p := kit.toP
  have hHP : H ⊆ restRefsP sig (bare (Val := Val) cfgs p).pre (cfgs p).spec := fun b hb => no_table cfgs p (hH hb)
  let adm : (q : P) → (bare (Val := Val) cfgs q).Adm := fun q => (cfgs q).toPCfg_adm
  exact RDat.θ_run_region_pf_tail'_quiescent (bare cfgs) adm (RDat.familyOf (bare cfgs) adm p rd) () (kit'.cellOf_inj adm) p kit'.win ho kit'.pre embL defs₀ 𝒱₀ m g main
    (fun _ => chain (opss.map StableHlo.seq)) (fun c => by rw [RDat.familyOf_self]; exact hbody c)
    kit'.block_pos kit'.arr_whole kit'.stage_whole (fun c t => by rw [RDat.familyOf_self]; exact howed c t)
    (G := fun _ => iprop(emp))
    (u₀ := (initOf (cells (pin (bare cfgs) adm) (kit'.cellOf_inj adm)) (launchToks (pin (bare cfgs) adm) (kit'.cellOf_inj adm)), 1))
    (hu₀ := by
      iintro Hu
      ihave Hu := (ownU_pair _ _) $$ Hu
      icases Hu with ⟨Hu, -⟩
      imodintro
      isplitl [Hu]; · iexact Hu
      iapply (show (BI.emp : sProp 𝕄) ⊢ bigSep Finset.univ (fun _ : Dev nD => (BI.emp : sProp 𝕄)) from by rw [BI.bigSep_emp_const])
      iempintro)
    (V := fun c b => V c (Proc.devRef .tc b)) (hmain := hmain)
    (hsplit := fun c => by
      rw [RDat.familyOf_self]; exact (rd c).arrays_split_shared kit'.sharedIn kit'.arr_whole (hq c) _ _ (hA c))
    (hpf := fun _ k => k.elim0)
    (X := fun c => iprop((∃ r, prngReg c r) ∗ ownSems0 osem c ∗ bigSep H fun b => (c : Thread nD τ).loc b ↦{fullShare} V c (Proc.devRef .tc b)))
    (Y := fun c => iprop((∃ r, prngReg c r) ∗ bigSep H fun b => (c : Thread nD τ).loc b ↦{fullShare} V c (Proc.devRef .tc b)))
    (Z := fun c => bigSep (restRefsP sig (bare (Val := Val) cfgs p).pre (cfgs p).spec \ H) fun b =>
      (c : Thread nD τ).loc b ↦{fullShare} V c (Proc.devRef .tc b))
    (Y' := fun _ => iprop(emp))
    (Z' := fun c => iprop(∃ A : Ends (rd c), unscopedRestP (bare (Val := Val) cfgs p).pre (cfgs p).spec c
      fun b => StableHlo.after opss.flatten (withArrays (cfgs p).spec c (V c) A.1) (Proc.devRef .tc b)))
    (hX := fun c => by
      rw [show (pin (bare cfgs) adm p).spec = (cfgs p).spec from rfl, unscopedRestP_sdiff _ _ H hHP]
      iintro ⟨⟨HH, HZ⟩, Ho, -, Hp, -⟩
      imodintro
      isplitr [HZ]
      · isplitl [Hp]; · iexists _; iexact Hp
        isplitl [Ho]; · iexact Ho
        iexact HH
      · iexact HZ)
    (hin := fun c => by
      rw [RDat.familyOf_self]
      refine BIBase.Entails.trans ?_ (hin c)
      rw [ΦD_eq]
      iintro ⟨⟨Hp, Ho, HH⟩, -, Hr⟩
      isplitl [Hr]; · iexact Hr
      isplitl [Hp]; · iexact Hp
      isplitl [Ho]; · iexact Ho
      iexact HH)
    (hout := fun c => by
      rw [RDat.familyOf_self]
      refine (hout c).trans ?_
      rw [ΦD_eq]
      iintro ⟨Hr, Hp, Ho, HH⟩
      isplitl [Hp HH]
      · isplitl [Hp]; · iexact Hp
        iexact HH
      isplitl [Ho]; · iexact Ho
      iexact Hr)
    (htail := fun c Q => by
      rw [RDat.familyOf_self]
      refine BIBase.Entails.trans ?_ (lines_run cfgs p kit defs₀ 𝒱₀ c (rd c) (V c) (hq c) (hA c) opss hsub hfresh hkeep Q)
      rw [unscopedRestP_sdiff _ _ H hHP]
      iintro ⟨Hk, Hb, Ha, ⟨-, HH⟩, HZ⟩
      isplitl [Hk]
      · iintro ⟨Hb, Ha, Hu⟩
        iapply Hk
        isplitl [Hb]; · iexact Hb
        isplitl [Ha]; · iexact Ha
        isplitr; · iempintro
        iexact Hu
      isplitl [Hb]; · iexact Hb
      isplitl [Ha]; · iexact Ha
      isplitl [HH]; · iexact HH
      iexact HZ)
    (QY := fun c s => ∃ A : Ends (rd c), ∀ b ∈ restRefs sig (cfgs p).spec,
      s.mem ((c : Thread nD τ).loc b) = StableHlo.after opss.flatten (withArrays (cfgs p).spec c (V c) A.1) (Proc.devRef .tc b))
    (hY := fun c s' => by
      iintro ⟨-, HZ, HSI⟩
      icases HZ with ⟨%A, HZ⟩
      ihave HZ' := (pointsTo_read_all (restRefsP sig (bare (Val := Val) cfgs p).pre (cfgs p).spec) (fun b => (c : Thread nD τ).loc b)
        (fun b => StableHlo.after opss.flatten (withArrays (cfgs p).spec c (V c) A.1) (Proc.devRef .tc b)) s') $$ [HZ HSI]
      · isplitl [HZ]
        · unfold unscopedRestP; iexact HZ
        · iexact HSI
      icases HZ' with ⟨%hZ, HSI⟩
      imodintro
      isplitr
      · ipureintro; exact ⟨A, fun b hb => hZ b (no_table cfgs p hb)⟩
      · iexact HSI)
    (hQ := fun s h hz => ⟨fun c => ⟨fun w => by simpa only [RDat.familyOf_self] using (h c).1 w, (h c).2.2⟩, hz⟩)

end Run

end Cert.TailRun

end
-- ==== Proof.MixerHost.lean ====
/- The host lines of `_mixer_bwd`: the arrays its windows are cut from, and the arguments left as they were. -/
module

public import proofs.«01_k».proof.Proof.MixerRun
public import proofs.«01_k».proof.Proof.TailRun

@[expose] public section

set_option maxRecDepth 16384

noncomputable section

namespace Cert.MixerHost

open Cert.MixerIdeal Cert.MixerIdeal.Gen
open Idealize.ShloMosaic Idealize.ShloMosaic.TcCoe Idealize.ShloMosaic.Tactic
open Idealize.SL.Sem
open Idealize.ShloMosaic.Pipeline (Cfg)

variable {F : FTy → Type} [FloatOps F]
variable (m : (ℓ : Loc nD τ sig) → Buf (Elt F) ℓ)

/-- The host lines before the region, in their printed pieces. -/
abbrev hostLines : List (List (HloOp τ sig (Elt F))) := [hostOps0, hostOps0_1, hostOps0_2, hostOps0_3, hostOps0_4, hostOps0_5, hostOps0_6, hostOps0_7, hostOps0_8, hostOps0_9, hostOps0_10, hostOps0_11, hostOps0_12]
/-- The lines after it: two slices of the rows of sums. -/
abbrev tailLines : List (List (HloOp τ sig (Elt F))) := [hostOps1]
/-- A core's buffers as the region finds them. -/
abbrev start (c : Dev nD) : Valuation τ sig (Elt F) := StableHlo.after (List.flatten hostLines) (fun b => m (c, b))
abbrev V (c : Dev nD) (b : Ref sig .tc) : Buf (Elt F) ((c : Thread nD τ).loc b) :=
  start m c b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

set_option maxHeartbeats 1600000 in
theorem host_lines (𝒱₀ : Variants) : Pipeline.HMainK (Ix := Unit) (Name := ℕ) (U := Pipeline.UD sig nD τ) (Lvl := ℕ) cfgs 0 defs₀ 𝒱₀ m (main (F := F))
    (fun c b => start m c (Proc.devRef .tc b)) (fun _ => Pipeline.chain (List.map StableHlo.seq tailLines)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12] tailLines
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-! ## The arguments -/

def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

theorem not_arg {b v : Ref sig .tc} (hb : b ∈ argRefs) (hv : v ∉ argRefs) : (Proc.devRef .tc b : DevRef τ sig) ≠ Proc.devRef .tc v :=
  StableHlo.devRef_ne_of_ne fun e => hv (e ▸ hb)

set_option maxHeartbeats 1600000 in
theorem hostOps0_keep (b : Ref sig .tc) (hb : b ∈ argRefs) : (hostOps0 : List (HloOp τ sig (Elt F))).Forall fun op => Proc.devRef .tc b ∉ op.writes := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact not_arg hb (by decide)
set_option maxHeartbeats 1600000 in
theorem hostOps0_1_keep (b : Ref sig .tc) (hb : b ∈ argRefs) : (hostOps0_1 : List (HloOp τ sig (Elt F))).Forall fun op => Proc.devRef .tc b ∉ op.writes := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact not_arg hb (by decide)
set_option maxHeartbeats 1600000 in
theorem hostOps0_2_keep (b : Ref sig .tc) (hb : b ∈ argRefs) : (hostOps0_2 : List (HloOp τ sig (Elt F))).Forall fun op => Proc.devRef .tc b ∉ op.writes := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact not_arg hb (by decide)
set_option maxHeartbeats 1600000 in
theorem hostOps0_3_keep (b : Ref sig .tc) (hb : b ∈ argRefs) : (hostOps0_3 : List (HloOp τ sig (Elt F))).Forall fun op => Proc.devRef .tc b ∉ op.writes := by
  simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact not_arg hb (by decide)
set_option maxHeartbeats 1600000 in
theorem hostOps0_4_keep (b : Ref sig .tc) (hb : b ∈ argRefs) : (hostOps0_4 : List (HloOp τ sig (Elt F))).Forall fun op => Proc.devRef .tc b ∉ op.writes := by
  simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact not_arg hb (by decide)
set_option maxHeartbeats 1600000 in
theorem hostOps0_5_keep (b : Ref sig .tc) (hb : b ∈ argRefs) : (hostOps0_5 : List (HloOp τ sig (Elt F))).Forall fun op => Proc.devRef .tc b ∉ op.writes := by
  simp only [hostOps0_5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact not_arg hb (by decide)
set_option maxHeartbeats 1600000 in
theorem hostOps0_6_keep (b : Ref sig .tc) (hb : b ∈ argRefs) : (hostOps0_6 : List (HloOp τ sig (Elt F))).Forall fun op => Proc.devRef .tc b ∉ op.writes := by
  simp only [hostOps0_6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact not_arg hb (by decide)
set_option maxHeartbeats 1600000 in
theorem hostOps0_7_keep (b : Ref sig .tc) (hb : b ∈ argRefs) : (hostOps0_7 : List (HloOp τ sig (Elt F))).Forall fun op => Proc.devRef .tc b ∉ op.writes := by
  simp only [hostOps0_7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact not_arg hb (by decide)
set_option maxHeartbeats 1600000 in
theorem hostOps0_8_keep (b : Ref sig .tc) (hb : b ∈ argRefs) : (hostOps0_8 : List (HloOp τ sig (Elt F))).Forall fun op => Proc.devRef .tc b ∉ op.writes := by
  simp only [hostOps0_8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact not_arg hb (by decide)
set_option maxHeartbeats 1600000 in
theorem hostOps0_9_keep (b : Ref sig .tc) (hb : b ∈ argRefs) : (hostOps0_9 : List (HloOp τ sig (Elt F))).Forall fun op => Proc.devRef .tc b ∉ op.writes := by
  simp only [hostOps0_9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact not_arg hb (by decide)
set_option maxHeartbeats 1600000 in
theorem hostOps0_10_keep (b : Ref sig .tc) (hb : b ∈ argRefs) : (hostOps0_10 : List (HloOp τ sig (Elt F))).Forall fun op => Proc.devRef .tc b ∉ op.writes := by
  simp only [hostOps0_10, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact not_arg hb (by decide)
set_option maxHeartbeats 1600000 in
theorem hostOps0_11_keep (b : Ref sig .tc) (hb : b ∈ argRefs) : (hostOps0_11 : List (HloOp τ sig (Elt F))).Forall fun op => Proc.devRef .tc b ∉ op.writes := by
  simp only [hostOps0_11, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact not_arg hb (by decide)
set_option maxHeartbeats 1600000 in
theorem hostOps0_12_keep (b : Ref sig .tc) (hb : b ∈ argRefs) : (hostOps0_12 : List (HloOp τ sig (Elt F))).Forall fun op => Proc.devRef .tc b ∉ op.writes := by
  simp only [hostOps0_12, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact not_arg hb (by decide)

/-- No host line writes an argument. -/
theorem lines_keep (b : Ref sig .tc) (hb : b ∈ argRefs) (op : HloOp τ sig (Elt F)) (hop : op ∈ List.flatten hostLines) : Proc.devRef .tc b ∉ op.writes := by
  obtain ⟨l, hl, ho⟩ := List.mem_flatten.1 hop
  have h : (hostLines (F := F)).Forall fun l => l.Forall fun op => Proc.devRef .tc b ∉ op.writes := by
    simp only [List.Forall]
    exact ⟨hostOps0_keep b hb, hostOps0_1_keep b hb, hostOps0_2_keep b hb, hostOps0_3_keep b hb, hostOps0_4_keep b hb, hostOps0_5_keep b hb, hostOps0_6_keep b hb, hostOps0_7_keep b hb, hostOps0_8_keep b hb, hostOps0_9_keep b hb, hostOps0_10_keep b hb, hostOps0_11_keep b hb, hostOps0_12_keep b hb⟩
  exact List.forall_iff_forall_mem.1 (List.forall_iff_forall_mem.1 h l hl) op ho

theorem V_arg (c : Dev nD) (b : Ref sig .tc) (hb : b ∈ argRefs) : V m c b = m ((c : Thread nD τ).loc b) :=
  StableHlo.after_of_forall_not_mem (b := Proc.devRef .tc b) _ _ fun op hop => lines_keep b hb op hop

/-! ## The lines after the region -/

theorem tail_fresh (ops : List (HloOp τ sig (Elt F))) (h : ops ∈ tailLines) (op : HloOp τ sig (Elt F)) (ho : op ∈ ops) : op.fresh = ∅ := by
  rw [List.mem_singleton.1 h] at ho
  have hf : (hostOps1 : List (HloOp τ sig (Elt F))).Forall fun op => op.fresh = ∅ := by
    simp only [List.Forall]; repeat' constructor
  exact List.forall_iff_forall_mem.1 hf op ho

/-- They write their two results alone. -/
theorem tail_writes (b : Ref sig .tc) (h3 : b ≠ main_v353) (h4 : b ≠ main_v354) (ops : List (HloOp τ sig (Elt F))) (h : ops ∈ tailLines) (op : HloOp τ sig (Elt F)) (ho : op ∈ ops) :
    Proc.devRef .tc b ∉ op.writes := by
  rw [List.mem_singleton.1 h] at ho
  have hk : (hostOps1 : List (HloOp τ sig (Elt F))).Forall fun op => Proc.devRef .tc b ∉ op.writes := by
    simp only [hostOps1, List.Forall, StableHlo.unary_writes, Finset.mem_singleton]
    exact ⟨StableHlo.devRef_ne_of_ne h3, StableHlo.devRef_ne_of_ne h4⟩
  exact List.forall_iff_forall_mem.1 hk op ho

theorem tail_bufs (ops : List (HloOp τ sig (Elt F))) (h : ops ∈ tailLines) (op : HloOp τ sig (Elt F)) (ho : op ∈ ops) :
    op.bufs ⊆ Pipeline.tailRefs sig (Cfg.toPCfg (Val := Elt F) (cfgs 0)).pre spec0 := by
  rw [List.mem_singleton.1 h] at ho
  exact Pipeline.sub_tailRefs _ _ op (List.forall_iff_forall_mem.1 hostOps1_sub op ho) fun k => k.elim0

/-- What is neither a window's array nor a result of the last lines ends as the region found it. -/
theorem tail_keeps (c : Dev nD) (A : (w : Fin cfg0.W) → Buf (Elt F) ((cfg0.win w).arr.view.loc (c : Thread nD τ))) (b : Ref sig .tc)
    (h3 : b ≠ main_v353) (h4 : b ≠ main_v354) (hw : ∀ w, Pipeline.arrRef spec0 w ≠ b) :
    StableHlo.after (List.flatten tailLines) (Pipeline.withArrays spec0 c (start m c) A) (Proc.devRef .tc b) = V m c b := by
  rw [StableHlo.after_of_forall_not_mem _ _ fun op hop => ?_, Pipeline.withArrays_of_ne spec0 c _ A b hw]
  obtain ⟨ops, hops, hop'⟩ := List.mem_flatten.1 hop
  exact tail_writes b h3 h4 ops hops op hop'

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.MixerHost

end
-- ==== Proof.MixerFrame.lean ====
/- `_mixer_bwd` over its grid: the frame of the run, and what the three windows named hold after each point. -/
module

public import proofs.«01_k».proof.Proof.MixerHost

@[expose] public section

noncomputable section

namespace Cert.MixerFrame

open Cert.MixerIdeal Cert.MixerIdeal.Gen Cert.MixerRun Cert.MixerHost
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body holds beside its windows -/

/-- The two counters of the weights' copies, and the pack they read. -/
abbrev osem0 : Fin 2 → SemLoc sig := fun j => (![SemLoc.dma 48, SemLoc.dma 49] : Fin 2 → SemLoc sig) j
theorem ownSemFacts0 : Pipeline.OwnSemFacts spec0 osem0 := by decide
def H0 : Finset (Ref sig .tc) := {main_v344}
theorem H0_sub : H0 ⊆ Pipeline.restRefs sig spec0 := by
  intro b hb
  rw [Finset.mem_singleton.1 hb]
  exact Pipeline.mem_restRefs_of main_v344 (by decide) (by decide)

theorem counters_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 48) 0 ∗ semVal ((c : Thread nD τ), SemLoc.dma 49) 0) := by
  rw [Pipeline.ownSems0_eq_of_list c osem0 [0, 1] (by decide) (by decide)]; rfl

theorem pack_eq (c : Dev nD) :
    (bigSep H0 (fun b => ((c : Thread nD τ).loc b) ↦{fullShare} V m c b) : sProp 𝕄) = heldW c wpM (V m c main_v344) := by
  rw [BI.bigSep_eq_bigSepL_of_eq [main_v344] (by decide) (by decide)]; rfl

/-- The scratch buffers beside the resident weights, at anything. -/
abbrev scratch (c : Dev nD) : sProp 𝕄 :=
  iprop(anyOf c (Memref.whole cc0_scratch3) ∗ anyOf c (Memref.whole cc0_scratch4) ∗ anyOf c (Memref.whole cc0_scratch5) ∗ anyOf c (Memref.whole cc0_scratch6) ∗ anyOf c (Memref.whole cc0_scratch7) ∗ anyOf c (Memref.whole cc0_scratch8) ∗ anyOf c (Memref.whole cc0_scratch9) ∗ anyOf c (Memref.whole cc0_scratch10) ∗ anyOf c (Memref.whole cc0_scratch11) ∗ anyOf c (Memref.whole cc0_scratch12))

theorem rest_eq (c : Dev nD) :
    (Pipeline.ΦD osem0 spec0 H0 (V m) c : sProp 𝕄)
      = iprop(iprop((∃ f, heldW c wiM f) ∗ (∃ f, heldW c woM f) ∗ scratch c) ∗ (∃ r, prngReg c r)
          ∗ iprop(semVal ((c : Thread nD τ), SemLoc.dma 48) 0 ∗ semVal ((c : Thread nD τ), SemLoc.dma 49) 0)
          ∗ heldW c wpM (V m c main_v344)) := by
  rw [Pipeline.ΦD_eq, scopedRest0_eq, counters_eq, pack_eq]
  simp only [scratch, anyOf, owns_whole]

/-! ## The proof's data -/

/-- What the body reads at a point. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t⟩

/-- Between two points: the pack, the weights and the scratch buffers at anything. -/
def between (c : Dev nD) : sProp 𝕄 :=
  iprop(weights c (V m c main_v344) ∗ scratch c ∗ (∃ r, prngReg c r))

/-- The first point: the sums are cleared there. -/
def isFirst (t : Fin cfg0.N) : Prop := Scalar.cmpi .ne (Scalar.extui (Scalar.cmpi .eq (BitVec.ofNat 32 ((grid0.coords t) 0).val) 0#32) : BitVec 32) 0#32 = 1#1
instance (t : Fin cfg0.N) : Decidable (isFirst t) := by unfold isFirst; infer_instance
/-- The sums a point adds to, of what it finds. -/
def base (t : Fin cfg0.N) (Y : Vec F S16x1024 .f32) : Vec F S16x1024 .f32 := if isFirst t then k0_pay1 else Y
/-- The sums found and left at a point, of whatever window. -/
def Summed (c : Dev nD) (t : Fin cfg0.N) {α : Type} (Y X : α) : Prop :=
  ∃ Y' X' : Vec F S16x1024 .f32, HEq Y Y' ∧ HEq X X' ∧ (insAt m c t).Sums (base t Y') X'
theorem Summed.at {c : Dev nD} {t : Fin cfg0.N} {Y X : Vec F S16x1024 .f32} (h : Summed m c t Y X) : (insAt m c t).Sums (base t Y) X := by
  obtain ⟨Y', X', hY, hX, h⟩ := h
  cases eq_of_heq hY; cases eq_of_heq hX; exact h

/-- What the body may leave in each window at a point, of what it found there. -/
def rdat (c : Dev nD) : RDat τ (Elt F) Unit ℕ (Pipeline.UD sig nD τ) ℕ cfg0 c where
  A w := V m c (Pipeline.arrRef spec0 w)
  after w t := fun Y X => ((cfg0.win w).isOut = false → X = Y) ∧ (w = 25 → Summed m c t Y X) ∧ (w = 26 → HEq X (insAt m c t).hb) ∧ (w = 28 → HEq X (insAt m c t).dmixed)
  Φ _ := between m c
  q := Pipeline.shareOf spec0
  owed _ := 0

theorem A_eq (c : Dev nD) (w : Fin cfg0.W) : (rdat m c).A w = V m c (Pipeline.arrRef spec0 w) := by
  dsimp only [rdat]

/-- An input is left as found; an output at anything but the two named. -/
theorem after_in (c : Dev nD) (w : Fin cfg0.W) (t : Fin cfg0.N) (hin : (cfg0.win w).isOut = false) (Y) : (rdat m c).after w t Y Y := by
  refine ⟨fun _ => rfl, ?_, ?_, ?_⟩
  · rintro rfl; exact absurd (show true = false from hin) (by decide)
  · rintro rfl; exact absurd (show true = false from hin) (by decide)
  · rintro rfl; exact absurd (show true = false from hin) (by decide)
theorem after_out (c : Dev nD) (w : Fin cfg0.W) (t : Fin cfg0.N) (hout : (cfg0.win w).isOut = true) (h0 : w ≠ 25) (h1 : w ≠ 26) (h2 : w ≠ 28) (Y X) :
    (rdat m c).after w t Y X :=
  ⟨fun h => absurd (h.symm.trans hout) (by decide), fun h => absurd h h0, fun h => absurd h h1, fun h => absurd h h2⟩
theorem after_hb (c : Dev nD) (t : Fin cfg0.N) (Y) : (rdat m c).after 26 t Y (insAt m c t).hb :=
  ⟨fun h => absurd (show true = false from h) (by decide), fun h => absurd h (by decide), fun _ => HEq.rfl, fun h => absurd h (by decide)⟩
theorem after_dmixed (c : Dev nD) (t : Fin cfg0.N) (Y) : (rdat m c).after 28 t Y (insAt m c t).dmixed :=
  ⟨fun h => absurd (show true = false from h) (by decide), fun h => absurd h (by decide), fun h => absurd h (by decide), fun _ => HEq.rfl⟩
theorem after_sums (c : Dev nD) (t : Fin cfg0.N) (Y X : Vec F S16x1024 .f32) (h : (insAt m c t).Sums (base t Y) X) : (rdat m c).after 25 t Y X :=
  ⟨fun h => absurd (show true = false from h) (by decide), fun _ => ⟨Y, X, HEq.rfl, HEq.rfl, h⟩, fun h => absurd h (by decide), fun h => absurd h (by decide)⟩

theorem kept (c : Dev nD) (w : Fin cfg0.W) (hin : (cfg0.win w).isOut = false) (t Y X) (h : (rdat m c).after w t Y X) : X = Y := h.1 hin

theorem finds_0 (c : Dev nD) (t : Fin cfg0.N) (Y) (h : (rdat m c).Finds 0 t Y) : Y = (insAt m c t).x :=
  ((rdat m c).finds_in_eq_fetched 0 rfl (fun _ _ _ => rfl) (kept m c 0 rfl) t Y h).elim fun d e =>
    e.trans (by unfold RDat.fetched RDat.blockOf insAt iblk; dsimp only; rw [A_eq]; rfl)
theorem finds_1 (c : Dev nD) (t : Fin cfg0.N) (Y) (h : (rdat m c).Finds 1 t Y) : Y = (insAt m c t).mixed :=
  ((rdat m c).finds_in_eq_fetched 1 rfl (fun _ _ _ => rfl) (kept m c 1 rfl) t Y h).elim fun d e =>
    e.trans (by unfold RDat.fetched RDat.blockOf insAt iblk; dsimp only; rw [A_eq]; rfl)
theorem finds_2 (c : Dev nD) (t : Fin cfg0.N) (Y) (h : (rdat m c).Finds 2 t Y) : Y = (insAt m c t).dh2 :=
  ((rdat m c).finds_in_eq_fetched 2 rfl (fun _ _ _ => rfl) (kept m c 2 rfl) t Y h).elim fun d e =>
    e.trans (by unfold RDat.fetched RDat.blockOf insAt iblk; dsimp only; rw [A_eq]; rfl)
theorem finds_3 (c : Dev nD) (t : Fin cfg0.N) (Y) (h : (rdat m c).Finds 3 t Y) : Y = (insAt m c t).dx2 :=
  ((rdat m c).finds_in_eq_fetched 3 rfl (fun _ _ _ => rfl) (kept m c 3 rfl) t Y h).elim fun d e =>
    e.trans (by unfold RDat.fetched RDat.blockOf insAt iblk; dsimp only; rw [A_eq]; rfl)
theorem finds_4 (c : Dev nD) (t : Fin cfg0.N) (Y) (h : (rdat m c).Finds 4 t Y) : Y = (insAt m c t).proj :=
  ((rdat m c).finds_in_eq_fetched 4 rfl (fun _ _ _ => rfl) (kept m c 4 rfl) t Y h).elim fun d e =>
    e.trans (by unfold RDat.fetched RDat.blockOf insAt iblk; dsimp only; rw [A_eq]; rfl)
theorem finds_5 (c : Dev nD) (t : Fin cfg0.N) (Y) (h : (rdat m c).Finds 5 t Y) : Y = (insAt m c t).projh :=
  ((rdat m c).finds_in_eq_fetched 5 rfl (fun _ _ _ => rfl) (kept m c 5 rfl) t Y h).elim fun d e =>
    e.trans (by unfold RDat.fetched RDat.blockOf insAt iblk; dsimp only; rw [A_eq]; rfl)
theorem finds_6 (c : Dev nD) (t : Fin cfg0.N) (Y) (h : (rdat m c).Finds 6 t Y) : Y = (insAt m c t).hl :=
  ((rdat m c).finds_in_eq_fetched 6 rfl (fun _ _ _ => rfl) (kept m c 6 rfl) t Y h).elim fun d e =>
    e.trans (by unfold RDat.fetched RDat.blockOf insAt iblk; dsimp only; rw [A_eq]; rfl)
theorem finds_7 (c : Dev nD) (t : Fin cfg0.N) (Y) (h : (rdat m c).Finds 7 t Y) : Y = (insAt m c t).hlh :=
  ((rdat m c).finds_in_eq_fetched 7 rfl (fun _ _ _ => rfl) (kept m c 7 rfl) t Y h).elim fun d e =>
    e.trans (by unfold RDat.fetched RDat.blockOf insAt iblk; dsimp only; rw [A_eq]; rfl)
theorem finds_8 (c : Dev nD) (t : Fin cfg0.N) (Y) (h : (rdat m c).Finds 8 t Y) : Y = (insAt m c t).kept :=
  ((rdat m c).finds_in_eq_fetched 8 rfl (fun _ _ _ => rfl) (kept m c 8 rfl) t Y h).elim fun d e =>
    e.trans (by unfold RDat.fetched RDat.blockOf insAt iblk; dsimp only; rw [A_eq]; rfl)
theorem finds_9 (c : Dev nD) (t : Fin cfg0.N) (Y) (h : (rdat m c).Finds 9 t Y) : Y = (insAt m c t).mod :=
  ((rdat m c).finds_in_eq_fetched 9 rfl (fun _ _ _ => rfl) (kept m c 9 rfl) t Y h).elim fun d e =>
    e.trans (by unfold RDat.fetched RDat.blockOf insAt iblk; dsimp only; rw [A_eq]; rfl)
theorem finds_10 (c : Dev nD) (t : Fin cfg0.N) (Y) (h : (rdat m c).Finds 10 t Y) : Y = (insAt m c t).ada :=
  ((rdat m c).finds_in_eq_fetched 10 rfl (fun _ _ _ => rfl) (kept m c 10 rfl) t Y h).elim fun d e =>
    e.trans (by unfold RDat.fetched RDat.blockOf insAt iblk; dsimp only; rw [A_eq]; rfl)
theorem finds_11 (c : Dev nD) (t : Fin cfg0.N) (Y) (h : (rdat m c).Finds 11 t Y) : Y = (insAt m c t).g1 :=
  ((rdat m c).finds_in_eq_fetched 11 rfl (fun _ _ _ => rfl) (kept m c 11 rfl) t Y h).elim fun d e =>
    e.trans (by unfold RDat.fetched RDat.blockOf insAt iblk; dsimp only; rw [A_eq]; rfl)
theorem finds_12 (c : Dev nD) (t : Fin cfg0.N) (Y) (h : (rdat m c).Finds 12 t Y) : Y = (insAt m c t).g2 :=
  ((rdat m c).finds_in_eq_fetched 12 rfl (fun _ _ _ => rfl) (kept m c 12 rfl) t Y h).elim fun d e =>
    e.trans (by unfold RDat.fetched RDat.blockOf insAt iblk; dsimp only; rw [A_eq]; rfl)
theorem finds_13 (c : Dev nD) (t : Fin cfg0.N) (Y) (h : (rdat m c).Finds 13 t Y) : Y = (insAt m c t).wl :=
  ((rdat m c).finds_in_eq_fetched 13 rfl (fun _ _ _ => rfl) (kept m c 13 rfl) t Y h).elim fun d e =>
    e.trans (by unfold RDat.fetched RDat.blockOf insAt iblk; dsimp only; rw [A_eq]; rfl)
theorem finds_14 (c : Dev nD) (t : Fin cfg0.N) (Y) (h : (rdat m c).Finds 14 t Y) : Y = (insAt m c t).bl :=
  ((rdat m c).finds_in_eq_fetched 14 rfl (fun _ _ _ => rfl) (kept m c 14 rfl) t Y h).elim fun d e =>
    e.trans (by unfold RDat.fetched RDat.blockOf insAt iblk; dsimp only; rw [A_eq]; rfl)
theorem finds_15 (c : Dev nD) (t : Fin cfg0.N) (Y) (h : (rdat m c).Finds 15 t Y) : Y = (insAt m c t).bda :=
  ((rdat m c).finds_in_eq_fetched 15 rfl (fun _ _ _ => rfl) (kept m c 15 rfl) t Y h).elim fun d e =>
    e.trans (by unfold RDat.fetched RDat.blockOf insAt iblk; dsimp only; rw [A_eq]; rfl)
theorem finds_16 (c : Dev nD) (t : Fin cfg0.N) (Y) (h : (rdat m c).Finds 16 t Y) : Y = (insAt m c t).bdx :=
  ((rdat m c).finds_in_eq_fetched 16 rfl (fun _ _ _ => rfl) (kept m c 16 rfl) t Y h).elim fun d e =>
    e.trans (by unfold RDat.fetched RDat.blockOf insAt iblk; dsimp only; rw [A_eq]; rfl)
theorem finds_17 (c : Dev nD) (t : Fin cfg0.N) (Y) (h : (rdat m c).Finds 17 t Y) : Y = (insAt m c t).ba :=
  ((rdat m c).finds_in_eq_fetched 17 rfl (fun _ _ _ => rfl) (kept m c 17 rfl) t Y h).elim fun d e =>
    e.trans (by unfold RDat.fetched RDat.blockOf insAt iblk; dsimp only; rw [A_eq]; rfl)
theorem finds_18 (c : Dev nD) (t : Fin cfg0.N) (Y) (h : (rdat m c).Finds 18 t Y) : Y = (insAt m c t).bx :=
  ((rdat m c).finds_in_eq_fetched 18 rfl (fun _ _ _ => rfl) (kept m c 18 rfl) t Y h).elim fun d e =>
    e.trans (by unfold RDat.fetched RDat.blockOf insAt iblk; dsimp only; rw [A_eq]; rfl)
theorem finds_19 (c : Dev nD) (t : Fin cfg0.N) (Y) (h : (rdat m c).Finds 19 t Y) : Y = (insAt m c t).ap :=
  ((rdat m c).finds_in_eq_fetched 19 rfl (fun _ _ _ => rfl) (kept m c 19 rfl) t Y h).elim fun d e =>
    e.trans (by unfold RDat.fetched RDat.blockOf insAt iblk; dsimp only; rw [A_eq]; rfl)
theorem finds_20 (c : Dev nD) (t : Fin cfg0.N) (Y) (h : (rdat m c).Finds 20 t Y) : Y = (insAt m c t).ws :=
  ((rdat m c).finds_in_eq_fetched 20 rfl (fun _ _ _ => rfl) (kept m c 20 rfl) t Y h).elim fun d e =>
    e.trans (by unfold RDat.fetched RDat.blockOf insAt iblk; dsimp only; rw [A_eq]; rfl)
theorem finds_21 (c : Dev nD) (t : Fin cfg0.N) (Y) (h : (rdat m c).Finds 21 t Y) : Y = (insAt m c t).gl :=
  ((rdat m c).finds_in_eq_fetched 21 rfl (fun _ _ _ => rfl) (kept m c 21 rfl) t Y h).elim fun d e =>
    e.trans (by unfold RDat.fetched RDat.blockOf insAt iblk; dsimp only; rw [A_eq]; rfl)
theorem finds_22 (c : Dev nD) (t : Fin cfg0.N) (Y) (h : (rdat m c).Finds 22 t Y) : Y = (insAt m c t).gc :=
  ((rdat m c).finds_in_eq_fetched 22 rfl (fun _ _ _ => rfl) (kept m c 22 rfl) t Y h).elim fun d e =>
    e.trans (by unfold RDat.fetched RDat.blockOf insAt iblk; dsimp only; rw [A_eq]; rfl)
theorem finds_23 (c : Dev nD) (t : Fin cfg0.N) (Y) (h : (rdat m c).Finds 23 t Y) : Y = (insAt m c t).avg :=
  ((rdat m c).finds_in_eq_fetched 23 rfl (fun _ _ _ => rfl) (kept m c 23 rfl) t Y h).elim fun d e =>
    e.trans (by unfold RDat.fetched RDat.blockOf insAt iblk; dsimp only; rw [A_eq]; rfl)

/-- A window's staging left at contents the proof's data allow. -/
theorem leaves (c : Dev nD) (w : Fin cfg0.W) (t : Fin cfg0.N) (Y X : (cfg0.win w).block.Idx → Elt F (cfg0.win w).elt) (h : (rdat m c).after w t Y X) :
    (owns (c : Thread nD τ) ((cfg0.win w).stage (cfg0.slots t w)) fullShare X : sProp 𝕄)
      ⊢ iprop(∃ X, ⌜(rdat m c).after w t Y X⌝ ∗ owns (c : Thread nD τ) ((cfg0.win w).stage (cfg0.slots t w)) fullShare X) := by
  iintro H
  iexists X; isplitr; swap; · iexact H
  ipureintro; exact h

/-! ## The body at a point -/

def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7)
    ∗ owns (c : Thread nD τ) (st0_8 t) fullShare (Y 8)
    ∗ owns (c : Thread nD τ) (st0_9 t) fullShare (Y 9)
    ∗ owns (c : Thread nD τ) (st0_10 t) fullShare (Y 10)
    ∗ owns (c : Thread nD τ) (st0_11 t) fullShare (Y 11)
    ∗ owns (c : Thread nD τ) (st0_12 t) fullShare (Y 12)
    ∗ owns (c : Thread nD τ) (st0_13 t) fullShare (Y 13)
    ∗ owns (c : Thread nD τ) (st0_14 t) fullShare (Y 14)
    ∗ owns (c : Thread nD τ) (st0_15 t) fullShare (Y 15)
    ∗ owns (c : Thread nD τ) (st0_16 t) fullShare (Y 16)
    ∗ owns (c : Thread nD τ) (st0_17 t) fullShare (Y 17)
    ∗ owns (c : Thread nD τ) (st0_18 t) fullShare (Y 18)
    ∗ owns (c : Thread nD τ) (st0_19 t) fullShare (Y 19)
    ∗ owns (c : Thread nD τ) (st0_20 t) fullShare (Y 20)
    ∗ owns (c : Thread nD τ) (st0_21 t) fullShare (Y 21)
    ∗ owns (c : Thread nD τ) (st0_22 t) fullShare (Y 22)
    ∗ owns (c : Thread nD τ) (st0_23 t) fullShare (Y 23)
    ∗ owns (c : Thread nD τ) (st0_24 t) fullShare (Y 24)
    ∗ owns (c : Thread nD τ) (st0_25 t) fullShare (Y 25)
    ∗ owns (c : Thread nD τ) (st0_26 t) fullShare (Y 26)
    ∗ owns (c : Thread nD τ) (st0_27 t) fullShare (Y 27)
    ∗ owns (c : Thread nD τ) (st0_28 t) fullShare (Y 28)
    ∗ owns (c : Thread nD τ) (st0_29 t) fullShare (Y 29)
    ∗ owns (c : Thread nD τ) (st0_30 t) fullShare (Y 30)
    ∗ owns (c : Thread nD τ) (st0_31 t) fullShare (Y 31))
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X)
    ∗ (∃ X, ⌜(rdat m c).after 7 t (Y 7) X⌝ ∗ owns (c : Thread nD τ) (st0_7 t) fullShare X)
    ∗ (∃ X, ⌜(rdat m c).after 8 t (Y 8) X⌝ ∗ owns (c : Thread nD τ) (st0_8 t) fullShare X)
    ∗ (∃ X, ⌜(rdat m c).after 9 t (Y 9) X⌝ ∗ owns (c : Thread nD τ) (st0_9 t) fullShare X)
    ∗ (∃ X, ⌜(rdat m c).after 10 t (Y 10) X⌝ ∗ owns (c : Thread nD τ) (st0_10 t) fullShare X)
    ∗ (∃ X, ⌜(rdat m c).after 11 t (Y 11) X⌝ ∗ owns (c : Thread nD τ) (st0_11 t) fullShare X)
    ∗ (∃ X, ⌜(rdat m c).after 12 t (Y 12) X⌝ ∗ owns (c : Thread nD τ) (st0_12 t) fullShare X)
    ∗ (∃ X, ⌜(rdat m c).after 13 t (Y 13) X⌝ ∗ owns (c : Thread nD τ) (st0_13 t) fullShare X)
    ∗ (∃ X, ⌜(rdat m c).after 14 t (Y 14) X⌝ ∗ owns (c : Thread nD τ) (st0_14 t) fullShare X)
    ∗ (∃ X, ⌜(rdat m c).after 15 t (Y 15) X⌝ ∗ owns (c : Thread nD τ) (st0_15 t) fullShare X)
    ∗ (∃ X, ⌜(rdat m c).after 16 t (Y 16) X⌝ ∗ owns (c : Thread nD τ) (st0_16 t) fullShare X)
    ∗ (∃ X, ⌜(rdat m c).after 17 t (Y 17) X⌝ ∗ owns (c : Thread nD τ) (st0_17 t) fullShare X)
    ∗ (∃ X, ⌜(rdat m c).after 18 t (Y 18) X⌝ ∗ owns (c : Thread nD τ) (st0_18 t) fullShare X)
    ∗ (∃ X, ⌜(rdat m c).after 19 t (Y 19) X⌝ ∗ owns (c : Thread nD τ) (st0_19 t) fullShare X)
    ∗ (∃ X, ⌜(rdat m c).after 20 t (Y 20) X⌝ ∗ owns (c : Thread nD τ) (st0_20 t) fullShare X)
    ∗ (∃ X, ⌜(rdat m c).after 21 t (Y 21) X⌝ ∗ owns (c : Thread nD τ) (st0_21 t) fullShare X)
    ∗ (∃ X, ⌜(rdat m c).after 22 t (Y 22) X⌝ ∗ owns (c : Thread nD τ) (st0_22 t) fullShare X)
    ∗ (∃ X, ⌜(rdat m c).after 23 t (Y 23) X⌝ ∗ owns (c : Thread nD τ) (st0_23 t) fullShare X)
    ∗ (∃ X, ⌜(rdat m c).after 24 t (Y 24) X⌝ ∗ owns (c : Thread nD τ) (st0_24 t) fullShare X)
    ∗ (∃ X, ⌜(rdat m c).after 25 t (Y 25) X⌝ ∗ owns (c : Thread nD τ) (st0_25 t) fullShare X)
    ∗ (∃ X, ⌜(rdat m c).after 26 t (Y 26) X⌝ ∗ owns (c : Thread nD τ) (st0_26 t) fullShare X)
    ∗ (∃ X, ⌜(rdat m c).after 27 t (Y 27) X⌝ ∗ owns (c : Thread nD τ) (st0_27 t) fullShare X)
    ∗ (∃ X, ⌜(rdat m c).after 28 t (Y 28) X⌝ ∗ owns (c : Thread nD τ) (st0_28 t) fullShare X)
    ∗ (∃ X, ⌜(rdat m c).after 29 t (Y 29) X⌝ ∗ owns (c : Thread nD τ) (st0_29 t) fullShare X)
    ∗ (∃ X, ⌜(rdat m c).after 30 t (Y 30) X⌝ ∗ owns (c : Thread nD τ) (st0_30 t) fullShare X)
    ∗ (∃ X, ⌜(rdat m c).after 31 t (Y 31) X⌝ ∗ owns (c : Thread nD τ) (st0_31 t) fullShare X))

/-- The parts of what the body holds at a point. -/
abbrev headInsAt (c : Dev nD) (t : Fin cfg0.N) : sProp 𝕄 := headIns c (st0_0 t) (st0_1 t) (st0_2 t) (st0_9 t) (st0_10 t) (insAt m c t)
abbrev clearedAt (c : Dev nD) (t : Fin cfg0.N) : sProp 𝕄 := cleared (F := F) c (Memref.whole cc0_scratch6) (Memref.whole cc0_scratch7) (Memref.whole cc0_scratch8) (Memref.whole cc0_scratch9)
/-- The head of the body at a point, whichever. -/
theorem head_any (c : Dev nD) (t : Fin cfg0.N) (Y : Vec F S16x1024 .f32) (W : Waits sig Unit) (K : (Σ' (v0 : BitVec 32) (v9 : FVec F S1x1024 .f32) (v10 : FVec F S1x1024 .f32) (v11 : FVec F S1x1024 .f32) (v12 : FVec F S1x1024 .f32) (v14 : FVec F S256x1024 .f32) (v16 : FVec F S256x1024 .f32) (v27 : FVec F S256x1 .f32) (v29 : FVec F S256x1024 .f32) (v31 : FVec F S256x1024 .f32), FVec F S1x1024 .f32) → sProp 𝕄) :
    iprop(iprop(headInsAt m c t ∗ owns (c : Thread nD τ) (st0_25 t) fullShare Y ∗ clearedAt c t ∗ weights c (V m c main_v344) ∗ owes (c : Thread nD τ) 0 W)
        ∗ (iprop(headInsAt m c t ∗ owns (c : Thread nD τ) (st0_25 t) fullShare (base t Y) ∗ clearedAt c t ∗ weights c (V m c main_v344) ∗ (∃ W', owes (c : Thread nD τ) 0 W')) -∗ K (heads (grid0.coords t) (insAt m c t) (View.ld (base t Y) rShift))))
      ⊢ wp frame (wpE (defs₀ (F := F)) Variants.none c none) Set.univ (part8P (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (st0_23 t) (hstage0_23 ((cfg0.slots t 23).cast nbuf0_23)) (st0_24 t) (hstage0_24 ((cfg0.slots t 24).cast nbuf0_24)) (st0_25 t) (hstage0_25 ((cfg0.slots t 25).cast nbuf0_25)) (st0_26 t) (hstage0_26 ((cfg0.slots t 26).cast nbuf0_26)) (st0_27 t) (hstage0_27 ((cfg0.slots t 27).cast nbuf0_27)) (st0_28 t) (hstage0_28 ((cfg0.slots t 28).cast nbuf0_28)) (st0_29 t) (hstage0_29 ((cfg0.slots t 29).cast nbuf0_29)) (st0_30 t) (hstage0_30 ((cfg0.slots t 30).cast nbuf0_30)) (st0_31 t) (hstage0_31 ((cfg0.slots t 31).cast nbuf0_31)) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) K := by
  iintro ⟨⟨HI, HY, HC, HWs, HW⟩, Hk⟩
  by_cases ht : isFirst t
  · rw [show base t Y = k0_pay1 from if_pos ht]
    iapply (head_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (st0_23 t) (hstage0_23 ((cfg0.slots t 23).cast nbuf0_23)) (st0_24 t) (hstage0_24 ((cfg0.slots t 24).cast nbuf0_24)) (st0_25 t) (hstage0_25 ((cfg0.slots t 25).cast nbuf0_25)) (st0_26 t) (hstage0_26 ((cfg0.slots t 26).cast nbuf0_26)) (st0_27 t) (hstage0_27 ((cfg0.slots t 27).cast nbuf0_27)) (st0_28 t) (hstage0_28 ((cfg0.slots t 28).cast nbuf0_28)) (st0_29 t) (hstage0_29 ((cfg0.slots t 29).cast nbuf0_29)) (st0_30 t) (hstage0_30 ((cfg0.slots t 30).cast nbuf0_30)) (st0_31 t) (hstage0_31 ((cfg0.slots t 31).cast nbuf0_31)) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) ht (insAt m c t) (V m c main_v344) Y W K)
    isplitl [HI]; · iexact HI
    isplitl [HY]; · iexact HY
    isplitl [HC]; · iexact HC
    isplitl [HWs]; · iexact HWs
    isplitl [HW]; · iexact HW
    iexact Hk
  · rw [show base t Y = Y from if_neg ht]
    iapply (head_later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (st0_23 t) (hstage0_23 ((cfg0.slots t 23).cast nbuf0_23)) (st0_24 t) (hstage0_24 ((cfg0.slots t 24).cast nbuf0_24)) (st0_25 t) (hstage0_25 ((cfg0.slots t 25).cast nbuf0_25)) (st0_26 t) (hstage0_26 ((cfg0.slots t 26).cast nbuf0_26)) (st0_27 t) (hstage0_27 ((cfg0.slots t 27).cast nbuf0_27)) (st0_28 t) (hstage0_28 ((cfg0.slots t 28).cast nbuf0_28)) (st0_29 t) (hstage0_29 ((cfg0.slots t 29).cast nbuf0_29)) (st0_30 t) (hstage0_30 ((cfg0.slots t 30).cast nbuf0_30)) (st0_31 t) (hstage0_31 ((cfg0.slots t 31).cast nbuf0_31)) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) ht (insAt m c t) (V m c main_v344) Y W K)
    isplitl [HI]; · iexact HI
    isplitl [HY]; · iexact HY
    isplitl [HC]; · iexact HC
    isplitl [HWs]; · iexact HWs
    isplitl [HW]; · iexact HW
    iexact Hk

set_option maxHeartbeats 4000000 in
theorem sound_body (c : Dev nD) (t : Fin cfg0.N) (Y : (w : Fin cfg0.W) → (cfg0.win w).block.Idx → Elt F (cfg0.win w).elt) (hY : ∀ w, (rdat m c).Finds w t (Y w)) :
    bodyPre m c t Y ⊢ wp frame (wpE (defs₀ (F := F)) Variants.none c none) Set.univ (bodyAt0 t) (fun _ => bodyPost m c t Y) := by
  unfold bodyPre bodyPost
  rw [show (rdat m c).Φ t.succ = between m c from rfl, show (rdat m c).Φ t.castSucc = between m c from rfl]
  unfold RDat.owesAt Pipeline.owesWithin between
  rw [show (rdat m c).owed t.castSucc = 0 from rfl, show (rdat m c).owed t.succ = 0 from rfl]
  rw [finds_0 m c t _ (hY 0), finds_1 m c t _ (hY 1), finds_2 m c t _ (hY 2), finds_3 m c t _ (hY 3), finds_4 m c t _ (hY 4), finds_5 m c t _ (hY 5), finds_6 m c t _ (hY 6), finds_7 m c t _ (hY 7), finds_8 m c t _ (hY 8), finds_9 m c t _ (hY 9), finds_10 m c t _ (hY 10), finds_11 m c t _ (hY 11), finds_12 m c t _ (hY 12), finds_13 m c t _ (hY 13), finds_14 m c t _ (hY 14), finds_15 m c t _ (hY 15), finds_16 m c t _ (hY 16), finds_17 m c t _ (hY 17), finds_18 m c t _ (hY 18), finds_19 m c t _ (hY 19), finds_20 m c t _ (hY 20), finds_21 m c t _ (hY 21), finds_22 m c t _ (hY 22), finds_23 m c t _ (hY 23)]
  iintro ⟨⟨HWs, ⟨S37, S38, S39, S40, S41, S42, S43, S44, S45, S46⟩, Hg⟩, ⟨%W, -, HW⟩, H0, H1, H2, H3, H4, H5, H6, H7, H8, H9, H10, H11, H12, H13, H14, H15, H16, H17, H18, H19, H20, H21, H22, H23, H24, H25, H26, H27, H28, H29, H30, H31⟩
  iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (st0_23 t) (hstage0_23 ((cfg0.slots t 23).cast nbuf0_23)) (st0_24 t) (hstage0_24 ((cfg0.slots t 24).cast nbuf0_24)) (st0_25 t) (hstage0_25 ((cfg0.slots t 25).cast nbuf0_25)) (st0_26 t) (hstage0_26 ((cfg0.slots t 26).cast nbuf0_26)) (st0_27 t) (hstage0_27 ((cfg0.slots t 27).cast nbuf0_27)) (st0_28 t) (hstage0_28 ((cfg0.slots t 28).cast nbuf0_28)) (st0_29 t) (hstage0_29 ((cfg0.slots t 29).cast nbuf0_29)) (st0_30 t) (hstage0_30 ((cfg0.slots t 30).cast nbuf0_30)) (st0_31 t) (hstage0_31 ((cfg0.slots t 31).cast nbuf0_31)) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) iprop(headInsAt m c t ∗ owns (c : Thread nD τ) (st0_25 t) fullShare (Y 25) ∗ clearedAt c t ∗ weights c (V m c main_v344) ∗ owes (c : Thread nD τ) 0 W) (insAt m c t) (V m c main_v344) (base t (Y 25)) (fun K => head_any m c t (Y 25) W K) _)
  isplitl [HWs HW H0 H1 H2 H9 H10 H25 S40 S41 S42 S43]
  · isplitl [H0 H1 H2 H9 H10]
    · isplitl [H0]; · iexact H0
      isplitl [H1]; · iexact H1
      isplitl [H2]; · iexact H2
      isplitl [H9]; · iexact H9
      iexact H10
    isplitl [H25]; · iexact H25
    isplitl [S40 S41 S42 S43]
    · isplitl [S40]; · iexact S40
      isplitl [S41]; · iexact S41
      isplitl [S42]; · iexact S42
      iexact S43
    isplitl [HWs]; · iexact HWs
    iexact HW
  isplitl [H3 H4 H5 H6 H7 H8 H11 H12 H13 H14 H15 H16 H17 H18 H19 H20 H21 H22 H23]
  · isplitl [H3]; · iexact H3
    isplitl [H4]; · iexact H4
    isplitl [H5]; · iexact H5
    isplitl [H6]; · iexact H6
    isplitl [H7]; · iexact H7
    isplitl [H8]; · iexact H8
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  isplitl [H24 H26 H27 H28 H29 H30 H31 S37 S38 S39 S44 S45 S46]
  · isplitl [H24]; · iexists _; iexact H24
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [S37]; · iexact S37
    isplitl [S38]; · iexact S38
    isplitl [S39]; · iexact S39
    isplitl [S44]; · iexact S44
    isplitl [S45]; · iexact S45
    iexact S46
  iintro ⟨⟨H0, H1, H2, H9, H10⟩, ⟨H3, H4, H5, H6, H7, H8, H11, H12, H13, H14, H15, H16, H17, H18, H19, H20, H21, H22, H23⟩, ⟨%d25, H25, %h25⟩, ⟨S40, S41, S42, S43⟩, ⟨⟨%d24, H24⟩, H26, ⟨%d27, H27⟩, H28, ⟨%d29, H29⟩, ⟨%d30, H30⟩, ⟨%d31, H31⟩, S37, S38, S39, S44, S45, S46⟩, HWs, ⟨%W', HW'⟩⟩
  isplitl [HWs Hg S37 S38 S39 S40 S41 S42 S43 S44 S45 S46]
  · isplitl [HWs]; · iexact HWs
    isplitr [Hg]
    · isplitl [S37]; · iexact S37
      isplitl [S38]; · iexact S38
      isplitl [S39]; · iexact S39
      isplitl [S40]; · iexact S40
      isplitl [S41]; · iexact S41
      isplitl [S42]; · iexact S42
      isplitl [S43]; · iexact S43
      isplitl [S44]; · iexact S44
      isplitl [S45]; · iexact S45
      iexact S46
    iexact Hg
  isplitl [HW']
  · iexists W'; isplitr; · ipureintro; exact fun _ _ => Or.inl trivial
    iexact HW'
  isplitl [H0]; · iapply (leaves m c 0 t _ _ (after_in m c 0 t rfl _)); iexact H0
  isplitl [H1]; · iapply (leaves m c 1 t _ _ (after_in m c 1 t rfl _)); iexact H1
  isplitl [H2]; · iapply (leaves m c 2 t _ _ (after_in m c 2 t rfl _)); iexact H2
  isplitl [H3]; · iapply (leaves m c 3 t _ _ (after_in m c 3 t rfl _)); iexact H3
  isplitl [H4]; · iapply (leaves m c 4 t _ _ (after_in m c 4 t rfl _)); iexact H4
  isplitl [H5]; · iapply (leaves m c 5 t _ _ (after_in m c 5 t rfl _)); iexact H5
  isplitl [H6]; · iapply (leaves m c 6 t _ _ (after_in m c 6 t rfl _)); iexact H6
  isplitl [H7]; · iapply (leaves m c 7 t _ _ (after_in m c 7 t rfl _)); iexact H7
  isplitl [H8]; · iapply (leaves m c 8 t _ _ (after_in m c 8 t rfl _)); iexact H8
  isplitl [H9]; · iapply (leaves m c 9 t _ _ (after_in m c 9 t rfl _)); iexact H9
  isplitl [H10]; · iapply (leaves m c 10 t _ _ (after_in m c 10 t rfl _)); iexact H10
  isplitl [H11]; · iapply (leaves m c 11 t _ _ (after_in m c 11 t rfl _)); iexact H11
  isplitl [H12]; · iapply (leaves m c 12 t _ _ (after_in m c 12 t rfl _)); iexact H12
  isplitl [H13]; · iapply (leaves m c 13 t _ _ (after_in m c 13 t rfl _)); iexact H13
  isplitl [H14]; · iapply (leaves m c 14 t _ _ (after_in m c 14 t rfl _)); iexact H14
  isplitl [H15]; · iapply (leaves m c 15 t _ _ (after_in m c 15 t rfl _)); iexact H15
  isplitl [H16]; · iapply (leaves m c 16 t _ _ (after_in m c 16 t rfl _)); iexact H16
  isplitl [H17]; · iapply (leaves m c 17 t _ _ (after_in m c 17 t rfl _)); iexact H17
  isplitl [H18]; · iapply (leaves m c 18 t _ _ (after_in m c 18 t rfl _)); iexact H18
  isplitl [H19]; · iapply (leaves m c 19 t _ _ (after_in m c 19 t rfl _)); iexact H19
  isplitl [H20]; · iapply (leaves m c 20 t _ _ (after_in m c 20 t rfl _)); iexact H20
  isplitl [H21]; · iapply (leaves m c 21 t _ _ (after_in m c 21 t rfl _)); iexact H21
  isplitl [H22]; · iapply (leaves m c 22 t _ _ (after_in m c 22 t rfl _)); iexact H22
  isplitl [H23]; · iapply (leaves m c 23 t _ _ (after_in m c 23 t rfl _)); iexact H23
  isplitl [H24]; · iapply (leaves m c 24 t _ _ (after_out m c 24 t rfl (by decide) (by decide) (by decide) _ _)); iexact H24
  isplitl [H25]; · iapply (leaves m c 25 t _ _ (after_sums m c t _ _ h25)); iexact H25
  isplitl [H26]; · iapply (leaves m c 26 t _ _ (after_hb m c t _)); iexact H26
  isplitl [H27]; · iapply (leaves m c 27 t _ _ (after_out m c 27 t rfl (by decide) (by decide) (by decide) _ _)); iexact H27
  isplitl [H28]; · iapply (leaves m c 28 t _ _ (after_dmixed m c t _)); iexact H28
  isplitl [H29]; · iapply (leaves m c 29 t _ _ (after_out m c 29 t rfl (by decide) (by decide) (by decide) _ _)); iexact H29
  isplitl [H30]; · iapply (leaves m c 30 t _ _ (after_out m c 30 t rfl (by decide) (by decide) (by decide) _ _)); iexact H30
  iapply (leaves m c 31 t _ _ (after_out m c 31 t rfl (by decide) (by decide) (by decide) _ _)); iexact H31

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-! ## The run and the frame -/

theorem enter (c : Dev nD) : (Pipeline.ΦD osem0 spec0 H0 (V m) c : sProp 𝕄) ⊢ (rdat m c).Φ 0 := by
  rw [rest_eq, show (rdat m c).Φ 0 = between m c from rfl]; unfold between
  iintro ⟨⟨H1, H2, HS⟩, Hg, ⟨Hc0, Hc1⟩, HP⟩
  ihave HP := (pointsTo_share (PosShare.mem_left_op_right fullShare)).1 $$ HP
  icases HP with ⟨HP, HP'⟩
  isplitr [HS Hg]
  · isplitl [HP]; · iexact HP
    isplitl [HP']; · iexact HP'
    isplitl [H1]; · iexact H1
    isplitl [H2]; · iexact H2
    isplitl [Hc0]; · iexact Hc0
    iexact Hc1
  isplitl [HS]; · iexact HS
  iexact Hg

theorem leave (c : Dev nD) : (rdat m c).Φ (Fin.last cfg0.N) ⊢ (Pipeline.ΦD osem0 spec0 H0 (V m) c : sProp 𝕄) := by
  rw [rest_eq, show (rdat m c).Φ (Fin.last cfg0.N) = between m c from rfl]; unfold between
  iintro ⟨⟨HP, HP', H1, H2, Hc0, Hc1⟩, HS, Hg⟩
  isplitl [H1 H2 HS]
  · isplitl [H1]; · iexact H1
    isplitl [H2]; · iexact H2
    iexact HS
  isplitl [Hg]; · iexact Hg
  isplitl [Hc0 Hc1]
  · isplitl [Hc0]; · iexact Hc0
    iexact Hc1
  iapply (pointsTo_share (PosShare.mem_left_op_right fullShare)).2
  isplitl [HP]; · iexact HP
  iexact HP'

theorem arr_ne : ∀ w : Fin 32, (spec0 w).arr.view.ref ≠ main_v353 ∧ (spec0 w).arr.view.ref ≠ main_v354 := by decide

set_option maxHeartbeats 4000000 in
set_option maxRecDepth 16384 in
set_option backward.isDefEq.respectTransparency.types false in
theorem run_main : θ_run defs (onTc (τ := τ) (main (F := F))) (s₀ m ρ)
    (fun r => (∀ c, TailRun.Left cfgs (0 : Fin 1) (rdat m) (start m) tailLines c r.2.mem) ∧ r.2.sem = fun _ => 0) :=
  TailRun.run cfgs (0 : Fin 1) launch₀0 osem0 defs₀ Variants.none (rdat m) ownSemFacts0 H0 H0_sub m ρ main
    (fun c => body_obligation m c) (fun _ _ _ => rfl) (fun _ _ => rfl) (start m) tailLines tail_bufs tail_fresh
    (fun ops h op ho w => tail_writes _ (arr_ne w).1 (arr_ne w).2 ops h op ho) (host_lines m Variants.none) (A_eq m)
    (fun c => enter m c) (fun c => leave m c)

theorem input_kept (mem : (ℓ : Loc nD τ sig) → Buf (Elt F) ℓ) (c : Dev nD) (h : TailRun.Left cfgs (0 : Fin 1) (rdat m) (start m) tailLines c mem) (w : Fin cfg0.W) (hin : (cfg0.win w).isOut = false) :
    mem ((cfg0.win w).arr.view.loc (c.tc : Thread nD τ)) = V m c (Pipeline.arrRef spec0 w) := by
  have h1 := h.1 w
  rw [(rdat m c).ArrAt_in w hin] at h1
  exact h1.trans (A_eq m c w)

theorem other_kept (mem : (ℓ : Loc nD τ sig) → Buf (Elt F) ℓ) (c : Dev nD) (h : TailRun.Left cfgs (0 : Fin 1) (rdat m) (start m) tailLines c mem) (b : Ref sig .tc)
    (hu : b.isScoped = false) (hw : ∀ w, Pipeline.arrRef spec0 w ≠ b) (h3 : b ≠ main_v353) (h4 : b ≠ main_v354) :
    mem ((c.tc : Thread nD τ).loc b) = V m c b :=
  h.2.elim fun A hA => (hA b (Pipeline.mem_restRefs_of b hu hw)).trans (tail_keeps m c A.1 b h3 h4 hw)

/-- The arguments end as they were. -/
theorem args_kept (mem : (ℓ : Loc nD τ sig) → Buf (Elt F) ℓ) (c : Dev nD) (h : TailRun.Left cfgs (0 : Fin 1) (rdat m) (start m) tailLines c mem) :
      mem ((c.tc : Thread nD τ).loc main_arg0) = m ((c.tc : Thread nD τ).loc main_arg0) ∧
      mem ((c.tc : Thread nD τ).loc main_arg1) = m ((c.tc : Thread nD τ).loc main_arg1) ∧
      mem ((c.tc : Thread nD τ).loc main_arg2) = m ((c.tc : Thread nD τ).loc main_arg2) ∧
      mem ((c.tc : Thread nD τ).loc main_arg3) = m ((c.tc : Thread nD τ).loc main_arg3) ∧
      mem ((c.tc : Thread nD τ).loc main_arg4) = m ((c.tc : Thread nD τ).loc main_arg4) ∧
      mem ((c.tc : Thread nD τ).loc main_arg5) = m ((c.tc : Thread nD τ).loc main_arg5) ∧
      mem ((c.tc : Thread nD τ).loc main_arg6) = m ((c.tc : Thread nD τ).loc main_arg6) ∧
      mem ((c.tc : Thread nD τ).loc main_arg7) = m ((c.tc : Thread nD τ).loc main_arg7) ∧
      mem ((c.tc : Thread nD τ).loc main_arg8) = m ((c.tc : Thread nD τ).loc main_arg8) ∧
      mem ((c.tc : Thread nD τ).loc main_arg9) = m ((c.tc : Thread nD τ).loc main_arg9) ∧
      mem ((c.tc : Thread nD τ).loc main_arg10) = m ((c.tc : Thread nD τ).loc main_arg10) ∧
      mem ((c.tc : Thread nD τ).loc main_arg11) = m ((c.tc : Thread nD τ).loc main_arg11) ∧
      mem ((c.tc : Thread nD τ).loc main_arg12) = m ((c.tc : Thread nD τ).loc main_arg12) ∧
      mem ((c.tc : Thread nD τ).loc main_arg13) = m ((c.tc : Thread nD τ).loc main_arg13) ∧
      mem ((c.tc : Thread nD τ).loc main_arg14) = m ((c.tc : Thread nD τ).loc main_arg14) ∧
      mem ((c.tc : Thread nD τ).loc main_arg15) = m ((c.tc : Thread nD τ).loc main_arg15) ∧
      mem ((c.tc : Thread nD τ).loc main_arg16) = m ((c.tc : Thread nD τ).loc main_arg16) ∧
      mem ((c.tc : Thread nD τ).loc main_arg17) = m ((c.tc : Thread nD τ).loc main_arg17) ∧
      mem ((c.tc : Thread nD τ).loc main_arg18) = m ((c.tc : Thread nD τ).loc main_arg18) ∧
      mem ((c.tc : Thread nD τ).loc main_arg19) = m ((c.tc : Thread nD τ).loc main_arg19) :=
  ⟨(other_kept m mem c h main_arg0 (by decide) (show ∀ w : Fin 32, (spec0 w).arr.view.ref ≠ main_arg0 by decide) (by decide) (by decide)).trans (V_arg m c main_arg0 (by decide)),
      (other_kept m mem c h main_arg1 (by decide) (show ∀ w : Fin 32, (spec0 w).arr.view.ref ≠ main_arg1 by decide) (by decide) (by decide)).trans (V_arg m c main_arg1 (by decide)),
      (other_kept m mem c h main_arg2 (by decide) (show ∀ w : Fin 32, (spec0 w).arr.view.ref ≠ main_arg2 by decide) (by decide) (by decide)).trans (V_arg m c main_arg2 (by decide)),
      (other_kept m mem c h main_arg3 (by decide) (show ∀ w : Fin 32, (spec0 w).arr.view.ref ≠ main_arg3 by decide) (by decide) (by decide)).trans (V_arg m c main_arg3 (by decide)),
      (other_kept m mem c h main_arg4 (by decide) (show ∀ w : Fin 32, (spec0 w).arr.view.ref ≠ main_arg4 by decide) (by decide) (by decide)).trans (V_arg m c main_arg4 (by decide)),
      (other_kept m mem c h main_arg5 (by decide) (show ∀ w : Fin 32, (spec0 w).arr.view.ref ≠ main_arg5 by decide) (by decide) (by decide)).trans (V_arg m c main_arg5 (by decide)),
      (input_kept m mem c h 11 rfl).trans (V_arg m c main_arg6 (by decide)),
      (input_kept m mem c h 12 rfl).trans (V_arg m c main_arg7 (by decide)),
      (other_kept m mem c h main_arg8 (by decide) (show ∀ w : Fin 32, (spec0 w).arr.view.ref ≠ main_arg8 by decide) (by decide) (by decide)).trans (V_arg m c main_arg8 (by decide)),
      (other_kept m mem c h main_arg9 (by decide) (show ∀ w : Fin 32, (spec0 w).arr.view.ref ≠ main_arg9 by decide) (by decide) (by decide)).trans (V_arg m c main_arg9 (by decide)),
      (input_kept m mem c h 14 rfl).trans (V_arg m c main_arg10 (by decide)),
      (other_kept m mem c h main_arg11 (by decide) (show ∀ w : Fin 32, (spec0 w).arr.view.ref ≠ main_arg11 by decide) (by decide) (by decide)).trans (V_arg m c main_arg11 (by decide)),
      (input_kept m mem c h 17 rfl).trans (V_arg m c main_arg12 (by decide)),
      (other_kept m mem c h main_arg13 (by decide) (show ∀ w : Fin 32, (spec0 w).arr.view.ref ≠ main_arg13 by decide) (by decide) (by decide)).trans (V_arg m c main_arg13 (by decide)),
      (input_kept m mem c h 18 rfl).trans (V_arg m c main_arg14 (by decide)),
      (input_kept m mem c h 19 rfl).trans (V_arg m c main_arg15 (by decide)),
      (other_kept m mem c h main_arg16 (by decide) (show ∀ w : Fin 32, (spec0 w).arr.view.ref ≠ main_arg16 by decide) (by decide) (by decide)).trans (V_arg m c main_arg16 (by decide)),
      (input_kept m mem c h 21 rfl).trans (V_arg m c main_arg17 (by decide)),
      (input_kept m mem c h 22 rfl).trans (V_arg m c main_arg18 (by decide)),
      (other_kept m mem c h main_arg19 (by decide) (show ∀ w : Fin 32, (spec0 w).arr.view.ref ≠ main_arg19 by decide) (by decide) (by decide)).trans (V_arg m c main_arg19 (by decide))⟩

/-- THE FRAME, at any floats: it ends without a fault, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19))
      ∧ r.2.sem = fun _ => 0) :=
  (θ_run defs _ _).mono (fun r h => ⟨fun c => args_kept m r.2.mem c (h.1 c), h.2⟩) (run_main m ρ)

end Cert.MixerFrame

end
-- ==== Proof.MixerSpec.lean ====
/- The residual and norm around a layer's mixer, and their gradient, as plain functions of rows and columns over the
   extended reals, and the identity between the two forms the gradient may take. -/
module

public import proofs.«01_k».proof.Proof.MlpSpec

@[expose] public section

set_option maxRecDepth 16384

noncomputable section

namespace Cert.MixerSpec

open Idealize.ShloMosaic Idealize.ShloMosaic.ValueIdx Cert.Reals Cert.MlpSpec
open scoped BigOperators

/-- What the two programs read: the layer's input, the mixer's output, and the cotangents of the two results of the
    residual and norm, by row and column; the modulation's rows with the layer's own table added; the two norms' gains. -/
structure Args where
  x : Fin 2048 → Fin 1024 → EReal
  mixed : Fin 2048 → Fin 1024 → EReal
  ct1 : Fin 2048 → Fin 1024 → EReal
  ct2 : Fin 2048 → Fin 1024 → EReal
  md : Fin 6 → Fin 1024 → EReal
  g1 : Fin 1024 → EReal
  g2 : Fin 1024 → EReal

/-- The gradient of a root-mean-square norm from the gradient of the normed row: `r (a − n · mean (a n))`. -/
def normGrad (v a : Fin 1024 → EReal) (j : Fin 1024) : EReal :=
  rs v * (a j - v j * rs v * Ideal.div (∑ k, a k * (v k * rs v)) ((1024 : ℝ) : EReal))

/-- The same as the product and quotient rules give it: the row's own term, and twice the row times the derivative by
    the mean square. -/
theorem normGrad_eq (v a : Fin 1024 → EReal) (hv : ∀ k, IsReal (v k)) (ha : ∀ k, IsReal (a k)) (b : EReal) (j : Fin 1024) :
    b + a j * rs v
        + v j * Ideal.div ((∑ k, v k * a k) * (((-1 / 2 : ℝ) : EReal) * Ideal.div (rs v) (ms v))) ((1024 : ℝ) : EReal)
        + Ideal.div ((∑ k, v k * a k) * (((-1 / 2 : ℝ) : EReal) * Ideal.div (rs v) (ms v))) ((1024 : ℝ) : EReal) * v j
      = b + normGrad v a j := by
  obtain ⟨q, r, hq, hm, hr, hrr⟩ := rs_real _ hv
  choose x hx using hv
  choose y hy using ha
  unfold normGrad
  rw [add_assoc, add_assoc, hm, hr]
  simp only [hx, hy, Ideal.div_coe hq.ne', Ideal.div_coe (by norm_num : (1024 : ℝ) ≠ 0), ← EReal.coe_mul, coe_sum, ← EReal.coe_add, ← EReal.coe_sub]
  congr 2
  have e : ∑ k, y k * (x k * r) = (∑ k, x k * y k) * r := by
    rw [Finset.sum_mul]; exact Finset.sum_congr rfl fun k _ => by ring
  rw [e, one_div q, ← hrr]
  ring

namespace Args
variable (A : Args)

/-- The residual row. -/
def x1 (s : Fin 2048) (j : Fin 1024) : EReal := A.x s j + A.md 2 j * A.mixed s j
/-- The cotangent of the normed residual row. -/
def a (s : Fin 2048) (j : Fin 1024) : EReal := A.ct2 s j * A.g2 j * (((1 : ℝ) : EReal) + A.md 4 j)
/-- The gradient by the residual row. -/
def dx1 (s : Fin 2048) (j : Fin 1024) : EReal := A.ct1 s j + normGrad (A.x1 s) (A.a s) j
/-- The gradient by the mixer's output. -/
def dmixed (s : Fin 2048) (j : Fin 1024) : EReal := A.md 2 j * A.dx1 s j
/-- The mixer's normed and modulated input. -/
def h (s : Fin 2048) (j : Fin 1024) : EReal := A.x s j * rs (A.x s) * A.g1 j * (((1 : ℝ) : EReal) + A.md 1 j) + A.md 0 j

/-- What a row adds to the gradients of the mixer's gate, of the second shift and of the second scale. -/
def modTerm : Fin 3 → Fin 1024 → Fin 2048 → EReal
  | 0 => fun j s => A.dx1 s j * A.mixed s j
  | 1 => fun j s => A.ct2 s j
  | 2 => fun j s => A.ct2 s j * (A.x1 s j * rs (A.x1 s)) * A.g2 j
/-- The gradients by those three rows of the modulation. -/
def dmod (k : Fin 3) (j : Fin 1024) : EReal := ∑ s, A.modTerm k j s
/-- What a row adds to the gradient of the second norm's gain. -/
def gainTerm (j : Fin 1024) (s : Fin 2048) : EReal := A.ct2 s j * (((1 : ℝ) : EReal) + A.md 4 j) * (A.x1 s j * rs (A.x1 s))
/-- The gradient by the second norm's gain. -/
def dgain (j : Fin 1024) : EReal := ∑ s, A.gainTerm j s

/-- The arguments under the norm's gradient are reals. -/
structure Real : Prop where
  x : ∀ s j, IsReal (A.x s j)
  mixed : ∀ s j, IsReal (A.mixed s j)
  ct2 : ∀ s j, IsReal (A.ct2 s j)
  md : ∀ k j, IsReal (A.md k j)
  g2 : ∀ j, IsReal (A.g2 j)

variable {A} (R : A.Real)
include R

theorem x1_real (s j) : IsReal (A.x1 s j) := (R.x s j).add ((R.md 2 j).mul (R.mixed s j))
theorem a_real (s j) : IsReal (A.a s j) := ((R.ct2 s j).mul (R.g2 j)).mul ((IsReal.coe 1).add (R.md 4 j))

end Args

end Cert.MixerSpec

end
-- ==== Proof.MixerBlock.lean ====
/- One block of rows of the kernel `_mixer_bwd` read at an index: the gradient by the mixer's output and the mixer's normed
   input that the body writes are the functions of rows and columns that `MixerSpec` names. -/
module

public import proofs.«01_k».proof.Proof.MixerSpec
public import proofs.«01_k».proof.Proof.MixerRun
public import Idealize.ShloMosaic.Lib.ValueLayoutCasts

@[expose] public section

set_option maxRecDepth 16384

noncomputable section

namespace Cert.MixerBlock

open Idealize.ShloMosaic Idealize.ShloMosaic.ValueIdx Idealize.ShloMosaic.TcCoe Cert.Reals Cert.MixerSpec
open Cert.MlpSpec hiding Args
open Cert.MixerIdeal Cert.MixerIdeal.Gen Cert.MixerRun
open scoped BigOperators

/-! ## Operations read at an index -/

theorem zz : (![0, 0] : Fin 2 → Nat) = fun _ => 0 := by funext a; match a with | ⟨0, _⟩ => rfl | ⟨1, _⟩ => rfl

/-- The sum of each row of a block. -/
theorem row_sum (X : FVec Ideal S256x1024 .f32) (r : Fin 256) (u : Fin 1) :
    shapeCast S256x1 (multiReduction .add [1] S256 X 0x00000000#32 reduces_S256x1024_S256 (.inl rfl) rfl) shapeCasts_S256_S256x1 (ix2 r u)
      = ∑ k : Fin 1024, X (ix2 r k) := by
  rw [shapeCast_a_a1_apply]
  refine (Ideal.multiReduction_add_single _ _ _ _ _ _).trans ?_
  refine Finset.sum_congr rfl fun k _ => congrArg X (funext fun a => Fin.ext ?_)
  match a with
  | ⟨0, _⟩ => rfl
  | ⟨1, _⟩ => rfl

/-- The sum of each column of a block. -/
theorem col_sum (X : FVec Ideal S256x1024 .f32) (u : Fin 1) (j : Fin 1024) :
    shapeCast S1x1024 (multiReduction .add [0] S1024 X 0x00000000#32 reduces_S256x1024_S1024 (.inl rfl) rfl) shapeCasts_S1024_S1x1024 (ix2 u j)
      = ∑ r : Fin 256, X (ix2 r j) := by
  rw [show u = 0 from Fin.ext (by omega), shapeCast_a_1a_apply]
  refine (Ideal.multiReduction_add_single _ _ _ _ _ _).trans (Finset.sum_congr rfl fun k _ => congrArg X (funext fun a => Fin.ext ?_))
  match a with
  | ⟨0, _⟩ => rfl
  | ⟨1, _⟩ => rfl

/-- A column broadcast over the columns of a block. -/
theorem bcol (X : FVec Ideal S256x1 .f32) (r : Fin 256) (j : Fin 1024) :
    broadcastTo S256x1024 X broadcasts_S256x1_S256x1024 (ix2 r j) = X (ix2 r 0) :=
  broadcastTo_apply X _ _ _ fun a => match a with | ⟨0, _⟩ => rfl | ⟨1, _⟩ => rfl

/-- A row of the sums, read. -/
theorem ld_row (X : Vec Ideal S16x1024 .f32) (k : Fin 16) (h : ∀ a, (![k.val, 0] : Fin 2 → ℕ) a + S1x1024.size a ≤ S16x1024.size a) (j : Fin 1024) :
    (View.ld X (Rect.unit (s := S16x1024) ![k.val, 0] S1x1024.size h) : Vec Ideal S1x1024 .f32) (ix2 0 j) = X (ix2 k j) :=
  congrArg X (funext fun a => Fin.ext (by
    match a with
    | ⟨0, _⟩ => show k.val + 1 * 0 = k.val; omega
    | ⟨1, _⟩ => show 0 + 1 * j.val = j.val; omega))

/-- A row broadcast over the rows of a block. -/
theorem brow (X : FVec Ideal S1x1024 .f32) (r : Fin 256) (j : Fin 1024) :
    broadcastTo S256x1024 X broadcasts_S1x1024_S256x1024 (ix2 r j) = X (ix2 0 j) :=
  broadcastTo_1b_ab_apply (a := 256) (b := 1024) X _ r j

/-- The mean square with ε of each row. -/
theorem ms_row (X : FVec Ideal S256x1024 .f32) (r : Fin 256) (u : Fin 1) :
    addf (divf (shapeCast S256x1 (multiReduction .add [1] S256 (mulf X X) 0x00000000#32 reduces_S256x1024_S256 (.inl rfl) rfl) shapeCasts_S256_S256x1)
      (broadcast S256x1 (Scalar.ofBits (F := Ideal) .f32 0x44800000#32))) (broadcast S256x1 (Scalar.ofBits (F := Ideal) .f32 0x358637BD#32)) (ix2 r u)
      = ms fun k => X (ix2 r k) := by
  rw [addf_apply, divf_apply, row_sum]
  show Ideal.div _ (Ideal.ofBits .f32 0x44800000#32) + Ideal.ofBits .f32 0x358637BD#32 = _
  rw [bits_1024]
  rfl

/-! ## The block -/

/-- The block's operands are the rows `ρ r` of the arguments. -/
structure Matches (B : Ins Ideal) (A : Args) (ρ : Fin 256 → Fin 2048) : Prop where
  x : ∀ (r : Fin 256) (j : Fin 1024), B.x (ix2 r j) = A.x (ρ r) j
  mixed : ∀ (r : Fin 256) (j : Fin 1024), B.mixed (ix2 r j) = A.mixed (ρ r) j
  ct1 : ∀ (r : Fin 256) (j : Fin 1024), B.dx2 (ix2 r j) = A.ct1 (ρ r) j
  ct2 : ∀ (r : Fin 256) (j : Fin 1024), B.dh2 (ix2 r j) = A.ct2 (ρ r) j
  md : ∀ (k : Fin 6) (j : Fin 1024), B.mod (ix2 ⟨k.val, by omega⟩ j) + B.ada (ix2 ⟨k.val, by omega⟩ j) = A.md k j
  g1 : ∀ j : Fin 1024, B.g1 (ix2 0 j) = A.g1 j
  g2 : ∀ j : Fin 1024, B.g2 (ix2 0 j) = A.g2 j

variable {B : Ins Ideal} {A : Args} {ρ : Fin 256 → Fin 2048} (M : Matches B A ρ)
include M

theorem md_row (o : ℕ) (ho : o < 6) (h) (u : Fin 1) (j : Fin 1024) :
    extractStridedSlice S1x1024 ![o, 0] (k0_pay7 (View.ld B.mod rM) (View.ld B.ada rM)) h (ix2 u j) = A.md ⟨o, ho⟩ j := by
  rw [slice2_axis0_apply o _ h u j ⟨o, by omega⟩ (by show o = o + u.val; omega), View.ld_unit_zero zz, View.ld_unit_zero zz]
  unfold k0_pay7
  simp only [shapeCast_self]
  exact M.md ⟨o, ho⟩ j

theorem shift1_apply (u : Fin 1) (j : Fin 1024) : B.shift1 (ix2 u j) = A.md 0 j := by
  unfold Ins.shift1 k0_pay8; exact md_row M 0 (by decide) _ u j
theorem scale1_apply (u : Fin 1) (j : Fin 1024) : B.scale1 (ix2 u j) = A.md 1 j := by
  unfold Ins.scale1 k0_pay9; exact md_row M 1 (by decide) _ u j
theorem gate1_apply (u : Fin 1) (j : Fin 1024) : B.gate1 (ix2 u j) = A.md 2 j := by
  unfold Ins.gate1 k0_pay10; exact md_row M 2 (by decide) _ u j
theorem scale2_apply (u : Fin 1) (j : Fin 1024) : B.scale2 (ix2 u j) = A.md 4 j := by
  unfold Ins.scale2 k0_pay11; exact md_row M 4 (by decide) _ u j

theorem x_apply (r : Fin 256) (j : Fin 1024) : B.x1 (ix2 r j) = A.x (ρ r) j := by
  unfold Ins.x1 k0_pay12
  simp only [shapeCast_self]
  rw [View.ld_unit_zero zz, M.x]

theorem ct2_apply (r : Fin 256) (j : Fin 1024) : B.ct2 (ix2 r j) = A.ct2 (ρ r) j := by
  unfold Ins.ct2 k0_pay17
  simp only [shapeCast_self]
  rw [View.ld_unit_zero zz, M.ct2]

/-- The residual row. -/
theorem res_apply (r : Fin 256) (j : Fin 1024) :
    k0_pay14 (View.ld B.mod rM) (View.ld B.ada rM) (View.ld B.x rX) (View.ld B.mixed rX) (ix2 r j) = A.x1 (ρ r) j := by
  have e : k0_pay12 (View.ld B.x rX) (ix2 r j) = A.x (ρ r) j := x_apply M r j
  have e' : k0_pay10 (View.ld B.mod rM) (View.ld B.ada rM) (ix2 0 j) = A.md 2 j := gate1_apply M 0 j
  unfold k0_pay14 k0_pay13
  simp only [shapeCast_self]
  rw [addf_apply, mulf_apply, brow, e, e', View.ld_unit_zero zz, M.mixed]
  rfl

theorem r2_apply (r : Fin 256) (u : Fin 1) : B.r2 (ix2 r u) = rs (A.x1 (ρ r)) := by
  unfold Ins.r2 k0_pay15
  refine (congrArg Ideal.rsqrt (ms_row _ r u)).trans ?_
  simp only [res_apply M]
  rfl

theorem n2_apply (r : Fin 256) (j : Fin 1024) : B.n2 (ix2 r j) = A.x1 (ρ r) j * rs (A.x1 (ρ r)) := by
  have e : k0_pay15 (View.ld B.mod rM) (View.ld B.ada rM) (View.ld B.x rX) (View.ld B.mixed rX) (ix2 r 0) = rs (A.x1 (ρ r)) := r2_apply M r 0
  unfold Ins.n2 k0_pay16
  rw [mulf_apply, bcol, res_apply M, e]

theorem a_apply (r : Fin 256) (j : Fin 1024) : k0_pay21 B.scale2 B.ct2 (View.ld B.g2 rG) (ix2 r j) = A.a (ρ r) j := by
  unfold k0_pay21
  rw [mulf_apply, mulf_apply, brow, brow, addf_apply, ct2_apply M, scale2_apply M, View.ld_unit_zero zz, M.g2]
  show _ * _ * (Ideal.ofBits .f32 0x3F800000#32 + _) = _
  rw [bits_one]
  rfl

/-- The gradient by the residual row. -/
theorem dx1_apply (r : Fin 256) (j : Fin 1024) :
    k0_pay24 B.r2 B.n2 (k0_pay21 B.scale2 B.ct2 (View.ld B.g2 rG)) (k0_pay22 (View.ld B.dx2 rX)) (k0_pay23 B.scale2 B.n2 B.ct2 (View.ld B.g2 rG)) (ix2 r j)
      = A.dx1 (ρ r) j := by
  unfold k0_pay24 k0_pay23 k0_pay22
  simp only [shapeCast_self]
  rw [addf_apply, mulf_apply, bcol, subf_apply, mulf_apply, bcol, divf_apply, row_sum, r2_apply M, a_apply M, n2_apply M, View.ld_unit_zero zz (X := B.dx2), M.ct1]
  simp only [mulf_apply, a_apply M, n2_apply M]
  show _ + _ * (_ - _ * Ideal.div _ (Ideal.ofBits .f32 0x44800000#32)) = _
  rw [bits_1024]
  rfl

theorem dmixed_apply (r : Fin 256) (j : Fin 1024) : B.dmixed (ix2 r j) = A.dmixed (ρ r) j := by
  unfold Ins.dmixed k0_pay26
  rw [truncf_apply, mulf_apply, brow, gate1_apply M, dx1_apply M]
  rfl

/-! ## What the block adds to the sums -/

theorem gateSum_apply (s : FVec Ideal S1x1024 .f32) (j : Fin 1024) : B.gateSum s (ix2 0 j) = s (ix2 0 j) + ∑ r, A.modTerm 0 j (ρ r) := by
  unfold Ins.gateSum k0_pay25 k0_pay13
  simp only [shapeCast_self]
  refine congrArg (s (ix2 0 j) + ·) ((col_sum _ 0 j).trans (Finset.sum_congr rfl fun r _ => ?_))
  rw [mulf_apply, dx1_apply M, View.ld_unit_zero zz, M.mixed]
  rfl

theorem shiftSum_apply (s : FVec Ideal S1x1024 .f32) (j : Fin 1024) : B.shiftSum s (ix2 0 j) = s (ix2 0 j) + ∑ r, A.modTerm 1 j (ρ r) := by
  unfold Ins.shiftSum k0_pay18
  rw [shapeCast_self]
  exact congrArg (s (ix2 0 j) + ·) ((col_sum _ 0 j).trans (Finset.sum_congr rfl fun r _ => ct2_apply M r j))

theorem scaleSum_apply (s : FVec Ideal S1x1024 .f32) (j : Fin 1024) : B.scaleSum s (ix2 0 j) = s (ix2 0 j) + ∑ r, A.modTerm 2 j (ρ r) := by
  unfold Ins.scaleSum k0_pay19
  rw [shapeCast_self]
  refine congrArg (s (ix2 0 j) + ·) ((col_sum _ 0 j).trans (Finset.sum_congr rfl fun r _ => ?_))
  rw [mulf_apply, mulf_apply, brow, ct2_apply M, n2_apply M, View.ld_unit_zero zz, M.g2]
  rfl

theorem gainSum_apply (s : FVec Ideal S1x1024 .f32) (j : Fin 1024) : B.gainSum s (ix2 0 j) = s (ix2 0 j) + ∑ r, A.gainTerm j (ρ r) := by
  unfold Ins.gainSum k0_pay20
  rw [shapeCast_self]
  refine congrArg (s (ix2 0 j) + ·) ((col_sum _ 0 j).trans (Finset.sum_congr rfl fun r _ => ?_))
  rw [mulf_apply, mulf_apply, brow, addf_apply, ct2_apply M, n2_apply M, scale2_apply M]
  exact congrArg (fun q => A.ct2 (ρ r) j * (q + A.md 4 j) * _) bits_one

theorem hb_apply (r : Fin 256) (j : Fin 1024) : B.hb (ix2 r j) = A.h (ρ r) j := by
  unfold Ins.hb k0_pay112 k0_pay111 k0_pay110 k0_pay109
  simp only []
  rw [truncf_apply, addf_apply, mulf_apply, mulf_apply, mulf_apply, brow, brow, brow, bcol, addf_apply, shift1_apply M, scale1_apply M, x_apply M,
    View.ld_unit_zero zz, M.g1]
  refine (congrArg (fun q => A.x (ρ r) j * Ideal.rsqrt q * A.g1 j * (Ideal.ofBits .f32 0x3F800000#32 + A.md 1 j) + A.md 0 j) (ms_row B.x1 r 0)).trans ?_
  rw [bits_one]
  simp only [x_apply M]
  rfl

end Cert.MixerBlock

end
-- ==== Proof.MixerRef.lean ====
/- The reference of the residual and norm around the mixer, read at an index: each of its four results is the function of
   rows and columns that `MixerSpec` names. -/
module

public import proofs.«01_k».proof.Proof.MixerSpec
public import proofs.«01_k».proof.Proof.Gen.MixerRefIdeal.Run
public import proofs.«01_k».proof.Proof.Gen.MixerRefIdeal.Read

@[expose] public section

set_option maxRecDepth 16384

noncomputable section

namespace Cert.MixerRef

open Idealize.ShloMosaic Idealize.ShloMosaic.ValueIdx Idealize.ShloMosaic.TcCoe Cert.Reals Cert.MixerSpec
open Cert.MlpSpec hiding Args
open Cert.MixerRefIdeal Cert.MixerRefIdeal.Gen Cert.MixerRefIdeal.Read
open scoped BigOperators

/-- A sum over axes of size one keeps the one element its result's index names. -/
theorem unit_sum {s t u : Shape} {axes : List (Fin s.rank)} (x : FVec Ideal s .f32) (init : FVec Ideal u .f32) (h : s.ReducesTo axes t)
    (hu : 0 < u.numel) (j : t.Idx) (e : s.Idx) (he : h.drop e = j) (hj : ∀ i, h.drop i = j → i = e) :
    Host.reduceAdd x init h hu j = init (Shape.Idx.first hu) + x e := by
  simp only [Host.reduceAdd, Ideal.hostReduceAdd_def]
  unfold Ideal.hostReduceAdd
  refine congrArg (_ + ·) (Finset.sum_eq_single e (fun i hi hne => absurd (hj i (Finset.mem_filter.1 hi).2) hne) (fun hn => ?_))
  exact absurd (Finset.mem_filter.2 ⟨Finset.mem_univ e, he⟩) hn

variable (x0 x1 x2 x3 : FVec Ideal S1x2048x1024 .f32) (x4 x5 : FVec Ideal S1x6144 .f32) (x6 x7 : FVec Ideal S1x1024 .f32)

/-- The arguments by row and column. -/
def args : Args where
  x s j := x0 (ix3 0 s j)
  mixed s j := x1 (ix3 0 s j)
  ct1 s j := x2 (ix3 0 s j)
  ct2 s j := x3 (ix3 0 s j)
  md k j := x4 (ix2 0 ⟨k.val * 1024 + j.val, by omega⟩) + x5 (ix2 0 ⟨k.val * 1024 + j.val, by omega⟩)
  g1 j := x6 (ix2 0 j)
  g2 j := x7 (ix2 0 j)

local notation "𝔸" => args x0 x1 x2 x3 x4 x5 x6 x7

/-- An index of an array whose first axis is a unit one. -/
theorem at_row (X : S1x2048x1024.Idx → EReal) (i : S1x2048x1024.Idx) : X i = X (ix3 0 (i 1) (i 2)) :=
  congrArg X (funext fun a => Fin.ext (by
    have h0 : (i 0).val < 1 := (i 0).isLt
    match a with
    | ⟨0, _⟩ => show (i 0).val = 0; omega
    | ⟨1, _⟩ => rfl
    | ⟨2, _⟩ => rfl))

/-- A row of the modulation, read off the sum of the two tables. -/
theorem md_at (k : Fin 6) (i : S1x1x6144.Idx) (j : Fin 1024) (h : (i 2).val = k.val * 1024 + j.val) :
    val_main_v3 (F := Ideal) x4 x5 i = (𝔸).md k j := by
  have hk := k.isLt
  rw [val_main_v3_apply, val_main_v2_apply, val_main_v1_apply, val_main_v0_apply]
  refine congrArg₂ (· + ·) (congrArg x4 (funext fun a => Fin.ext ?_)) (congrArg x5 (funext fun a => Fin.ext ?_))
  · match a with
    | ⟨0, _⟩ => rfl
    | ⟨1, _⟩ => exact h
  · match a with
    | ⟨0, _⟩ => rfl
    | ⟨1, _⟩ => show (i 2).val % 6144 = k.val * 1024 + j.val; omega

theorem r4 (i : S1x1x1024.Idx) : val_main_v4 (F := Ideal) x4 x5 i = (𝔸).md 0 (i 2) := by
  rw [val_main_v4_apply]
  exact md_at x0 x1 x2 x3 x4 x5 x6 x7 0 _ (i 2) (by show (i 2).val = 0 * 1024 + (i 2).val; omega)
theorem r5 (i : S1x1x1024.Idx) : val_main_v5 (F := Ideal) x4 x5 i = (𝔸).md 1 (i 2) := by
  rw [val_main_v5_apply]
  exact md_at x0 x1 x2 x3 x4 x5 x6 x7 1 _ (i 2) (by show 1024 + (i 2).val = 1 * 1024 + (i 2).val; omega)
theorem r6 (i : S1x1x1024.Idx) : val_main_v6 (F := Ideal) x4 x5 i = (𝔸).md 2 (i 2) := by
  rw [val_main_v6_apply]
  exact md_at x0 x1 x2 x3 x4 x5 x6 x7 2 _ (i 2) (by show 2048 + (i 2).val = 2 * 1024 + (i 2).val; omega)
theorem r8 (i : S1x1x1024.Idx) : val_main_v8 (F := Ideal) x4 x5 i = (𝔸).md 4 (i 2) := by
  rw [val_main_v8_apply]
  exact md_at x0 x1 x2 x3 x4 x5 x6 x7 4 _ (i 2) (by show 4096 + (i 2).val = 4 * 1024 + (i 2).val; omega)

/-- A gain, read through its broadcasts. -/
theorem r27 (i : S1x1x1024.Idx) : val_main_v27 (F := Ideal) x7 i = (𝔸).g2 (i 2) := by
  have h2 : (i 2).val < 1024 := (i 2).isLt
  rw [val_main_v27_apply, val_main_v13_apply]
  exact congrArg x7 (funext fun a => Fin.ext (by
    match a with
    | ⟨0, _⟩ => rfl
    | ⟨1, _⟩ => show (i 2).val % 1024 = (i 2).val; omega))
theorem r87 (i : S1x1x1024.Idx) : val_main_v87 (F := Ideal) x6 i = (𝔸).g1 (i 2) := by
  have h2 : (i 2).val < 1024 := (i 2).isLt
  rw [val_main_v87_apply, val_main_v76_apply]
  exact congrArg x6 (funext fun a => Fin.ext (by
    match a with
    | ⟨0, _⟩ => rfl
    | ⟨1, _⟩ => show (i 2).val % 1024 = (i 2).val; omega))

theorem r12 (i : S1x2048x1024.Idx) : val_main_v12 (F := Ideal) x0 x1 x4 x5 i = (𝔸).x1 (i 1) (i 2) := by
  rw [val_main_v12_apply, val_main_v11_apply, val_main_v10_apply, r6 x0 x1 x2 x3 x4 x5 x6 x7]
  show x0 i + (𝔸).md 2 (i 2) * x1 i = _
  rw [at_row x0 i, at_row x1 i]
  rfl

theorem r20 (i : S1x2048x1.Idx) : val_main_v20 (F := Ideal) x0 x1 x4 x5 i = ms ((𝔸).x1 (i 1)) := by
  rw [val_main_v20_apply, val_main_v18_apply, val_main_v17_apply, val_main_v19_apply, val_main_v16_apply, val_main_v15_apply]
  simp only [val_main_v14_apply, r12 x0 x1 x2 x3 x4 x5 x6 x7]
  show Ideal.div (Ideal.ofBits .f32 0x00000000#32 + _) (Ideal.ofBits .f32 0x44800000#32) + Ideal.ofBits .f32 0x358637BD#32 = _
  rw [ofBits_zero, zero_add, bits_1024]
  rfl
theorem r21 (i : S1x2048x1.Idx) : val_main_v21 (F := Ideal) x0 x1 x4 x5 i = rs ((𝔸).x1 (i 1)) := by
  rw [val_main_v21_apply, r20 x0 x1 x2 x3 x4 x5 x6 x7]; rfl

/-- The cotangent of the normed residual. -/
theorem r36 (i : S1x2048x1024.Idx) : val_main_v36 (F := Ideal) x3 i = (𝔸).ct2 (i 1) (i 2) := by
  unfold val_main_v36
  rw [shapeCast_self]
  exact at_row x3 i

theorem r31 (i : S1x1x1024.Idx) : val_main_v31 (F := Ideal) x4 x5 i = ((1 : ℝ) : EReal) + (𝔸).md 4 (i 2) := by
  rw [val_main_v31_apply, r8 x0 x1 x2 x3 x4 x5 x6 x7]
  exact congrArg (· + (𝔸).md 4 (i 2)) bits_one

theorem r26 (i : S1x2048x1024.Idx) : val_main_v26 (F := Ideal) x0 x1 x4 x5 i = (𝔸).x1 (i 1) (i 2) * rs ((𝔸).x1 (i 1)) := by
  rw [val_main_v26_apply, val_main_v25_apply, r12 x0 x1 x2 x3 x4 x5 x6 x7, r21 x0 x1 x2 x3 x4 x5 x6 x7]
  rfl

theorem r48 (i : S1x2048x1024.Idx) : val_main_v48 (F := Ideal) x3 x4 x5 x7 i = (𝔸).a (i 1) (i 2) := by
  rw [val_main_v48_apply, val_main_v43_apply, val_main_v42_apply, val_main_v47_apply, r27 x0 x1 x2 x3 x4 x5 x6 x7,
    r31 x0 x1 x2 x3 x4 x5 x6 x7, r36 x0 x1 x2 x3 x4 x5 x6 x7]
  show (𝔸).ct2 (i 1) (i 2) * (((1 : ℝ) : EReal) + (𝔸).md 4 (i 2)) * (𝔸).g2 (i 2) = _
  rw [mul_right_comm]
  rfl

/-- The derivative by a row's mean square, over the number of columns. -/
theorem r61 (i : S1x2048x1024.Idx) : val_main_v61 (F := Ideal) x0 x1 x3 x4 x5 x7 i
    = Ideal.div ((∑ k, (𝔸).x1 (i 1) k * (𝔸).a (i 1) k) * (((-1 / 2 : ℝ) : EReal) * Ideal.div (rs ((𝔸).x1 (i 1))) (ms ((𝔸).x1 (i 1)))))
        ((1024 : ℝ) : EReal) := by
  rw [val_main_v61_apply, val_main_v60_apply]
  unfold val_main_v59
  have hi : (i 1).val < 2048 := (i 1).isLt
  rw [unit_sum _ _ reducesTo_S1x2048x1_S2048_d0_2 h_S_ _ (ix3 (0 : Fin 1) (i 1 : Fin 2048) (0 : Fin 1)) (funext fun b => by
      match b with
      | ⟨0, _⟩ => rfl) (fun q hq => funext fun a => Fin.ext (by
      have h0 : (q 0).val < 1 := (q 0).isLt
      have h2 : (q 2).val < 1 := (q 2).isLt
      match a with
      | ⟨0, _⟩ => show (q 0).val = 0; omega
      | ⟨1, _⟩ => exact congrArg Fin.val (congrFun hq 0)
      | ⟨2, _⟩ => show (q 2).val = 0; omega))]
  rw [val_main_v58_apply, val_main_v57_apply, val_main_v56_apply, val_main_v24_apply, val_main_v23_apply, val_main_v22_apply,
    r21 x0 x1 x2 x3 x4 x5 x6 x7, r20 x0 x1 x2 x3 x4 x5 x6 x7, val_main_v52_apply, val_main_v51_apply]
  simp only [val_main_v50_apply, r12 x0 x1 x2 x3 x4 x5 x6 x7, r48 x0 x1 x2 x3 x4 x5 x6 x7]
  have e : ∀ k, idx_main_v51 (idx_main_v52 (ix3 (0 : Fin 1) (i 1 : Fin 2048) (0 : Fin 1))) k 1 = (i 1 : Fin 2048) := fun k => Fin.ext (by
    show ((0 * 2048 + (i 1).val) * 1 + 0) % 2048 = (i 1).val; omega)
  simp only [e]
  show Ideal.ofBits .f32 0x00000000#32 + Ideal.div ((Ideal.ofBits .f32 0x00000000#32 + _) * (Ideal.ofBits .f32 0xBF000000#32 * Ideal.div _ _))
    (Ideal.ofBits .f32 0x44800000#32) = _
  rw [ofBits_zero, zero_add, zero_add, bits_neg_half, bits_1024]
  rfl

/-- The gradient by the residual row. -/
theorem r65 (R : (𝔸).Real) (i : S1x2048x1024.Idx) : val_main_v65 (F := Ideal) x0 x1 x2 x3 x4 x5 x7 i = (𝔸).dx1 (i 1) (i 2) := by
  rw [val_main_v65_apply, val_main_v63_apply, val_main_v64_apply, val_main_v62_apply, val_main_v55_apply, val_main_v54_apply, val_main_v53_apply,
    r61 x0 x1 x2 x3 x4 x5 x6 x7, r48 x0 x1 x2 x3 x4 x5 x6 x7, r12 x0 x1 x2 x3 x4 x5 x6 x7, r21 x0 x1 x2 x3 x4 x5 x6 x7, at_row x2 i]
  exact normGrad_eq _ _ (Args.x1_real R (i 1)) (Args.a_real R (i 1)) _ _

theorem v97_eq (R : (𝔸).Real) : val_main_v97 (F := Ideal) x0 x1 x2 x3 x4 x5 x7 = fun i => (𝔸).dmixed (i 0) (i 1) := by
  funext i
  have h0 : (i 0).val < 2048 := (i 0).isLt
  have h1 : (i 1).val < 1024 := (i 1).isLt
  rw [val_main_v97_apply]
  refine (val_main_v96_apply (F := Ideal) x0 x1 x2 x3 x4 x5 x7 i).trans ?_
  rw [val_main_v68_apply, val_main_v67_apply, r6 x0 x1 x2 x3 x4 x5 x6 x7, r65 x0 x1 x2 x3 x4 x5 x6 x7 R]
  have e1 : idx_main_v96 i 1 = (i 0 : Fin 2048) := Fin.ext (by show ((i 0).val * 1024 + (i 1).val) / 1024 % 2048 = (i 0).val; omega)
  have e2 : idx_main_v96 i 2 = (i 1 : Fin 1024) := Fin.ext (by show ((i 0).val * 1024 + (i 1).val) % 1024 = (i 1).val; omega)
  rw [e1, e2]
  exact congrArg (fun k => (𝔸).md 2 k * (𝔸).dx1 (i 0) (i 1)) e2

/-! ## The sums over the rows -/

theorem sum_row (f : Fin 2048 → EReal) : Ideal.ofBits .f32 0x00000000#32 + ∑ k, f k = ∑ k, f k := by rw [ofBits_zero, zero_add]

theorem r72 (R : (𝔸).Real) (u : Fin 1) (j : Fin 1024) : val_main_v72 (F := Ideal) x0 x1 x2 x3 x4 x5 x7 (ix2 u j) = (𝔸).dmod 0 j := by
  rw [val_main_v72_apply, val_main_v71_apply, val_main_v70_apply]
  have e : ∀ k : Fin 2048, val_main_v69 (F := Ideal) x0 x1 x2 x3 x4 x5 x7 (idx_main_v70 (idx_main_v71 (idx_main_v72 (ix2 u j))) k) = (𝔸).modTerm 0 j k := fun k => by
    rw [val_main_v69_apply, r65 x0 x1 x2 x3 x4 x5 x6 x7 R, at_row x1]
    exact congrArg (fun q : Fin 1024 => (𝔸).dx1 k q * (𝔸).mixed k q) (Fin.ext (by show _ % 1024 = j.val; simp only [ix2]; omega))
  simp only [e]
  exact sum_row _

theorem r73 (u : Fin 1) (j : Fin 1024) : val_main_v73 (F := Ideal) x3 (ix2 u j) = (𝔸).dmod 1 j := by
  rw [val_main_v73_apply, val_main_v38_apply, val_main_v37_apply]
  have e : ∀ k : Fin 2048, x3 (idx_main_v37 (idx_main_v38 (idx_main_v73 (ix2 u j))) k) = (𝔸).modTerm 1 j k := fun k => by
    rw [at_row x3]
    exact congrArg (fun q : Fin 1024 => (𝔸).ct2 k q) (Fin.ext (by show _ % 1024 = j.val; simp only [ix2]; omega))
  simp only [e]
  exact sum_row _

theorem r74 (u : Fin 1) (j : Fin 1024) : val_main_v74 (F := Ideal) x0 x1 x3 x4 x5 x7 (ix2 u j) = (𝔸).dmod 2 j := by
  rw [val_main_v74_apply, val_main_v41_apply, val_main_v40_apply]
  have e : ∀ k : Fin 2048, val_main_v39 (F := Ideal) x0 x1 x3 x4 x5 x7 (idx_main_v40 (idx_main_v41 (idx_main_v74 (ix2 u j))) k) = (𝔸).modTerm 2 j k := fun k => by
    rw [val_main_v39_apply, val_main_v29_apply, val_main_v28_apply, r26 x0 x1 x2 x3 x4 x5 x6 x7, r27 x0 x1 x2 x3 x4 x5 x6 x7, r36 x0 x1 x2 x3 x4 x5 x6 x7]
    refine Eq.trans (congrArg (fun q : Fin 1024 => (𝔸).x1 k q * rs ((𝔸).x1 k) * (𝔸).g2 q * (𝔸).ct2 k q) (Fin.ext (by show _ % 1024 = j.val; simp only [ix2]; omega))) ?_
    show _ = (𝔸).ct2 k j * ((𝔸).x1 k j * rs ((𝔸).x1 k)) * (𝔸).g2 j
    rw [mul_comm _ ((𝔸).ct2 k j), mul_assoc ((𝔸).ct2 k j)]
  simp only [e]
  exact sum_row _

/-- The three rows, one under the other. -/
theorem v75_eq (R : (𝔸).Real) : val_main_v75 (F := Ideal) x0 x1 x2 x3 x4 x5 x7 = fun i => (𝔸).dmod (i 0) (i 1) := by
  funext i
  revert i
  refine forall_ix2 fun k j => ?_
  unfold val_main_v75
  have piece := fun (n : ℕ) (hn) (X : S1x1024.Idx → EReal) (hX) (pre : ℕ) (hp) (hk : pre = k.val) =>
    concatenate_apply_piece (t := S3x1024) 0 [⟨S1x1024, val_main_v72 (F := Ideal) x0 x1 x2 x3 x4 x5 x7⟩, ⟨S1x1024, val_main_v73 (F := Ideal) x3⟩,
      ⟨S1x1024, val_main_v74 (F := Ideal) x0 x1 x3 x4 x5 x7⟩] concatenates_S1x1024_S1x1024_S1x1024_S3x1024_d0 (ix2 k j) n hn S1x1024 X hX rfl pre hp (ix2 0 j)
      (fun b hb => by
        match b with
        | ⟨0, _⟩ => exact absurd rfl hb
        | ⟨1, _⟩ => rfl) hk
  match k with
  | ⟨0, _⟩ => exact (piece 0 (by simp) _ rfl 0 rfl rfl).trans (r72 x0 x1 x2 x3 x4 x5 x6 x7 R 0 j)
  | ⟨1, _⟩ => exact (piece 1 (by simp) _ rfl 1 rfl rfl).trans (r73 x0 x1 x2 x3 x4 x5 x6 x7 0 j)
  | ⟨2, _⟩ => exact (piece 2 (by simp) _ rfl 2 rfl rfl).trans (r74 x0 x1 x2 x3 x4 x5 x6 x7 0 j)

theorem v66_eq : val_main_v66 (F := Ideal) x0 x1 x3 x4 x5 = fun i => (𝔸).dgain (i 1) := by
  funext i
  revert i
  refine forall_ix2 fun u j => ?_
  rw [val_main_v66_apply]
  unfold val_main_v49
  rw [unit_sum _ _ reducesTo_S1x1x1024_S1024_d0_1 h_S_ _ (ix3 (0 : Fin 1) (0 : Fin 1) j) (funext fun b => by
      match b with
      | ⟨0, _⟩ => rfl) (fun q hq => funext fun a => Fin.ext (by
      have h0 : (q 0).val < 1 := (q 0).isLt
      have h1 : (q 1).val < 1 := (q 1).isLt
      match a with
      | ⟨0, _⟩ => show (q 0).val = 0; omega
      | ⟨1, _⟩ => show (q 1).val = 0; omega
      | ⟨2, _⟩ => exact congrArg Fin.val (congrFun hq 0)))]
  rw [val_main_v46_apply, val_main_v45_apply]
  have e : ∀ k : Fin 2048, val_main_v44 (F := Ideal) x0 x1 x3 x4 x5 (idx_main_v45 (idx_main_v46 (ix3 (0 : Fin 1) (0 : Fin 1) j)) k) = (𝔸).gainTerm j k := fun k => by
    rw [val_main_v44_apply, val_main_v43_apply, val_main_v42_apply, r26 x0 x1 x2 x3 x4 x5 x6 x7, r31 x0 x1 x2 x3 x4 x5 x6 x7, r36 x0 x1 x2 x3 x4 x5 x6 x7]
    refine Eq.trans (congrArg (fun q : Fin 1024 => (𝔸).x1 k q * rs ((𝔸).x1 k) * ((𝔸).ct2 k q * (((1 : ℝ) : EReal) + (𝔸).md 4 q))) (Fin.ext (by show _ % 1024 = j.val; simp only [ix3]; omega))) ?_
    exact mul_comm _ _
  simp only [e]
  exact (congrArg (Ideal.ofBits .f32 0x00000000#32 + ·) (sum_row _)).trans (sum_row _)

/-! ## The first norm -/

theorem r95 (i : S1x2048x1024.Idx) : val_main_v95 (F := Ideal) x0 x4 x5 x6 i = (𝔸).h (i 1) (i 2) := by
  rw [val_main_v95_apply, val_main_v93_apply, val_main_v94_apply, val_main_v92_apply, val_main_v91_apply, val_main_v89_apply, val_main_v88_apply,
    val_main_v86_apply, val_main_v85_apply, val_main_v84_apply, val_main_v83_apply, val_main_v81_apply, val_main_v82_apply, val_main_v80_apply,
    val_main_v79_apply, val_main_v78_apply, r87 x0 x1 x2 x3 x4 x5 x6 x7, r4 x0 x1 x2 x3 x4 x5 x6 x7, r5 x0 x1 x2 x3 x4 x5 x6 x7]
  simp only [val_main_v77_apply]
  show x0 i * Ideal.rsqrt (Ideal.div (Ideal.ofBits .f32 0x00000000#32 + ∑ k, x0 _ * x0 _) (Ideal.ofBits .f32 0x44800000#32)
    + Ideal.ofBits .f32 0x358637BD#32) * _ * (Ideal.ofBits .f32 0x3F800000#32 + _) + _ = _
  rw [ofBits_zero, zero_add, bits_1024, bits_one, at_row x0 i]
  simp only [at_row x0 (idx_main_v78 _ _)]
  rfl

theorem v99_eq : val_main_v99 (F := Ideal) x0 x4 x5 x6 = fun i => (𝔸).h (i 0) (i 1) := by
  funext i
  have h0 : (i 0).val < 2048 := (i 0).isLt
  have h1 : (i 1).val < 1024 := (i 1).isLt
  rw [val_main_v99_apply]
  refine (val_main_v98_apply (F := Ideal) x0 x4 x5 x6 i).trans ?_
  rw [r95 x0 x1 x2 x3 x4 x5 x6 x7]
  exact congrArg₂ (𝔸).h (Fin.ext (by show ((i 0).val * 1024 + (i 1).val) / 1024 % 2048 = (i 0).val; omega))
    (Fin.ext (by show ((i 0).val * 1024 + (i 1).val) % 1024 = (i 1).val; omega))

end Cert.MixerRef

end
-- ==== Proof.MixerValue.lean ====
/- The value of `_mixer_bwd`: what its run leaves in the gradient by the mixer's output, in the rows of summed gradients of the second
   norm and the residual gate, and in the mixer's normed input is what the reference computes. -/
module

public import proofs.«01_k».proof.Defs
public import proofs.«01_k».proof.Proof.MixerBlock
public import proofs.«01_k».proof.Proof.MixerRef
public import proofs.«01_k».proof.Proof.MixerFrame
public import Idealize.ShloMosaic.Lib.Pipeline.Value
public import Idealize.ShloMosaic.Lib.Pipeline.ArrRel
public import Idealize.ShloMosaic.Lib.Pipeline.ValueKit.Geometry
public import proofs.«01_k».proof.Proof.Gen.Pre_mixer_finite
public import Idealize.ShloMosaic.Lib.KernelVsHost

@[expose] public section

set_option maxRecDepth 16384

noncomputable section

namespace Cert.MixerValue

open Idealize.ShloMosaic Idealize.ShloMosaic.ValueIdx Idealize.ShloMosaic.TcCoe Idealize.SL.Sem Cert.Reals Cert.MixerSpec
open Cert.MlpSpec hiding Args
open Cert.MixerIdeal Cert.MixerIdeal.Gen Cert.MixerRun Cert.MixerHost Cert.MixerFrame
open Idealize.ShloMosaic.Pipeline (Dat RDat Window)
open scoped BigOperators

variable (m : (ℓ : Loc nD τ sig) → Buf (Elt Ideal) ℓ) (c : Dev nD)

/-! ## The host lines before the region -/

/-- The buffers after the first `n` pieces of the host lines. -/
def first (n : ℕ) : Valuation τ sig (Elt Ideal) := StableHlo.after (List.flatten ((hostLines (F := Ideal)).take n)) fun b => m (c, b)

/-- They still hold the arguments. -/
theorem first_arg (n : ℕ) (b : Ref sig .tc) (hb : b ∈ argRefs) : first m c n (Proc.devRef .tc b) = m ((c : Thread nD τ).loc b) :=
  StableHlo.after_of_forall_not_mem (b := Proc.devRef .tc b) _ _ fun op hop => by
    obtain ⟨l, hl, ho⟩ := List.mem_flatten.1 hop
    exact lines_keep b hb op (List.mem_flatten.2 ⟨l, List.mem_of_mem_take hl, ho⟩)

/-- The rest of the lines from there. -/
theorem V_rest (n : ℕ) (b : Ref sig .tc) : V m c b
    = StableHlo.after (List.flatten ((hostLines (F := Ideal)).drop n)) (first m c n) (Proc.devRef .tc b) := by
  unfold first
  rw [← StableHlo.after_append, ← List.flatten_append, List.take_append_drop]

theorem V_v345 : V m c main_v345 = shapeCast S2048x1024 (m ((c.tc : Thread nD τ).loc main_arg0) : FVec Ideal S1x2048x1024 .f32) shapeCasts_S1x2048x1024_S2048x1024 := by
  rw [V_rest m c 12, ← first_arg m c 12 main_arg0 (by decide)]
  generalize first m c 12 = f
  show StableHlo.after (List.flatten [hostOps0_12]) _ _ = _
  simp only [hostOps0_12, List.flatten_cons, List.flatten_nil, List.append_nil]
  after_results <;> rfl

theorem V_v346 : V m c main_v346 = shapeCast S2048x1024 (m ((c.tc : Thread nD τ).loc main_arg1) : FVec Ideal S1x2048x1024 .f32) shapeCasts_S1x2048x1024_S2048x1024 := by
  rw [V_rest m c 12, ← first_arg m c 12 main_arg1 (by decide)]
  generalize first m c 12 = f
  show StableHlo.after (List.flatten [hostOps0_12]) _ _ = _
  simp only [hostOps0_12, List.flatten_cons, List.flatten_nil, List.append_nil]
  after_results <;> rfl

theorem V_v347 : V m c main_v347 = shapeCast S2048x1024 (m ((c.tc : Thread nD τ).loc main_arg3) : FVec Ideal S1x2048x1024 .f32) shapeCasts_S1x2048x1024_S2048x1024 := by
  rw [V_rest m c 12, ← first_arg m c 12 main_arg3 (by decide)]
  generalize first m c 12 = f
  show StableHlo.after (List.flatten [hostOps0_12]) _ _ = _
  simp only [hostOps0_12, List.flatten_cons, List.flatten_nil, List.append_nil]
  after_results <;> rfl

theorem V_v348 : V m c main_v348 = shapeCast S2048x1024 (m ((c.tc : Thread nD τ).loc main_arg2) : FVec Ideal S1x2048x1024 .f32) shapeCasts_S1x2048x1024_S2048x1024 := by
  rw [V_rest m c 12, ← first_arg m c 12 main_arg2 (by decide)]
  generalize first m c 12 = f
  show StableHlo.after (List.flatten [hostOps0_12]) _ _ = _
  simp only [hostOps0_12, List.flatten_cons, List.flatten_nil, List.append_nil]
  after_results <;> rfl

theorem V_v317 : V m c main_v317 = pad S8x1024 ![0, 0] ![2, 0] ![0, 0]
    (shapeCast S6x1024 (m ((c.tc : Thread nD τ).loc main_arg4) : FVec Ideal S1x6144 .f32) shapeCasts_S1x6144_S6x1024)
    (sitofp (F := Ideal) .f32 (constantI S_ 32 0#32)) pads_S6x1024_S8x1024_020_000 h_S_ := by
  rw [V_rest m c 4, ← first_arg m c 4 main_arg4 (by decide)]
  generalize first m c 4 = f
  show StableHlo.after (List.flatten [hostOps0_4, hostOps0_5, hostOps0_6, hostOps0_7, hostOps0_8, hostOps0_9, hostOps0_10, hostOps0_11, hostOps0_12]) _ _ = _
  simp only [hostOps0_4, hostOps0_5, hostOps0_6, hostOps0_7, hostOps0_8, hostOps0_9, hostOps0_10, hostOps0_11, hostOps0_12, List.flatten_cons, List.flatten_nil, List.append_nil, List.cons_append,
    List.nil_append]
  after_results <;> rfl

theorem V_v319 : V m c main_v319 = pad S8x1024 ![0, 0] ![2, 0] ![0, 0]
    (shapeCast S6x1024 (m ((c.tc : Thread nD τ).loc main_arg5) : FVec Ideal S1x6144 .f32) shapeCasts_S1x6144_S6x1024)
    (sitofp (F := Ideal) .f32 (constantI S_ 32 0#32)) pads_S6x1024_S8x1024_020_000 h_S_ := by
  rw [V_rest m c 4, ← first_arg m c 4 main_arg5 (by decide)]
  generalize first m c 4 = f
  show StableHlo.after (List.flatten [hostOps0_4, hostOps0_5, hostOps0_6, hostOps0_7, hostOps0_8, hostOps0_9, hostOps0_10, hostOps0_11, hostOps0_12]) _ _ = _
  simp only [hostOps0_4, hostOps0_5, hostOps0_6, hostOps0_7, hostOps0_8, hostOps0_9, hostOps0_10, hostOps0_11, hostOps0_12, List.flatten_cons, List.flatten_nil, List.append_nil, List.cons_append,
    List.nil_append]
  after_results <;> rfl

/-! ## The blocks the body reads -/

/-- The point's row `r` of the whole: the points go over the blocks from the last to the first. -/
def row (t : Fin cfg0.N) (r : Fin 256) : Fin 2048 := ⟨256 * (7 - t.val) + r.val, by omega⟩

theorem idx0_0 : ∀ t : Fin cfg0.N, win0_0.index t 0 = 7 - t.val ∧ win0_0.index t 1 = 0 :=
  (by decide +kernel : ∀ t : Fin grid0.N, win0_0.index t 0 = 7 - t.val ∧ win0_0.index t 1 = 0)
set_option maxHeartbeats 2000000 in
theorem iblk0 (t : Fin cfg0.N) (r : Fin 256) (j : Fin 1024) : iblk m c 0 t (ix2 r j) = V m c main_v345 (ix2 (row t r) j) := by
  unfold iblk
  show V m c main_v345 ((win0_0.rect t).emb (ix2 r j)) = _
  refine congrArg (V m c main_v345) (funext fun a => Fin.ext ?_)
  rw [Pipeline.Window.rect_emb_val win0_0]
  match a with
  | ⟨0, _⟩ =>
    show win0_0.index t 0 * 256 + r.val = 256 * (7 - t.val) + r.val
    rw [(idx0_0 t).1]; omega
  | ⟨1, _⟩ =>
    show win0_0.index t 1 * 1024 + j.val = j.val
    rw [(idx0_0 t).2]; omega

theorem idx0_1 : ∀ t : Fin cfg0.N, win0_1.index t 0 = 7 - t.val ∧ win0_1.index t 1 = 0 :=
  (by decide +kernel : ∀ t : Fin grid0.N, win0_1.index t 0 = 7 - t.val ∧ win0_1.index t 1 = 0)
set_option maxHeartbeats 2000000 in
theorem iblk1 (t : Fin cfg0.N) (r : Fin 256) (j : Fin 1024) : iblk m c 1 t (ix2 r j) = V m c main_v346 (ix2 (row t r) j) := by
  unfold iblk
  show V m c main_v346 ((win0_1.rect t).emb (ix2 r j)) = _
  refine congrArg (V m c main_v346) (funext fun a => Fin.ext ?_)
  rw [Pipeline.Window.rect_emb_val win0_1]
  match a with
  | ⟨0, _⟩ =>
    show win0_1.index t 0 * 256 + r.val = 256 * (7 - t.val) + r.val
    rw [(idx0_1 t).1]; omega
  | ⟨1, _⟩ =>
    show win0_1.index t 1 * 1024 + j.val = j.val
    rw [(idx0_1 t).2]; omega

theorem idx0_2 : ∀ t : Fin cfg0.N, win0_2.index t 0 = 7 - t.val ∧ win0_2.index t 1 = 0 :=
  (by decide +kernel : ∀ t : Fin grid0.N, win0_2.index t 0 = 7 - t.val ∧ win0_2.index t 1 = 0)
set_option maxHeartbeats 2000000 in
theorem iblk2 (t : Fin cfg0.N) (r : Fin 256) (j : Fin 1024) : iblk m c 2 t (ix2 r j) = V m c main_v347 (ix2 (row t r) j) := by
  unfold iblk
  show V m c main_v347 ((win0_2.rect t).emb (ix2 r j)) = _
  refine congrArg (V m c main_v347) (funext fun a => Fin.ext ?_)
  rw [Pipeline.Window.rect_emb_val win0_2]
  match a with
  | ⟨0, _⟩ =>
    show win0_2.index t 0 * 256 + r.val = 256 * (7 - t.val) + r.val
    rw [(idx0_2 t).1]; omega
  | ⟨1, _⟩ =>
    show win0_2.index t 1 * 1024 + j.val = j.val
    rw [(idx0_2 t).2]; omega

theorem idx0_3 : ∀ t : Fin cfg0.N, win0_3.index t 0 = 7 - t.val ∧ win0_3.index t 1 = 0 :=
  (by decide +kernel : ∀ t : Fin grid0.N, win0_3.index t 0 = 7 - t.val ∧ win0_3.index t 1 = 0)
set_option maxHeartbeats 2000000 in
theorem iblk3 (t : Fin cfg0.N) (r : Fin 256) (j : Fin 1024) : iblk m c 3 t (ix2 r j) = V m c main_v348 (ix2 (row t r) j) := by
  unfold iblk
  show V m c main_v348 ((win0_3.rect t).emb (ix2 r j)) = _
  refine congrArg (V m c main_v348) (funext fun a => Fin.ext ?_)
  rw [Pipeline.Window.rect_emb_val win0_3]
  match a with
  | ⟨0, _⟩ =>
    show win0_3.index t 0 * 256 + r.val = 256 * (7 - t.val) + r.val
    rw [(idx0_3 t).1]; omega
  | ⟨1, _⟩ =>
    show win0_3.index t 1 * 1024 + j.val = j.val
    rw [(idx0_3 t).2]; omega

theorem iblk9 (t : Fin cfg0.N) : iblk m c 9 t = V m c main_v317 :=
  Memref.read_access_unit_zero (Elt Ideal) main_v317
    (show (fun a => (win0_9.index t) a * main_v317.ty.shape.size a) = fun _ => 0 from
      funext fun a => by revert t; fin_cases a <;> decide) (fun a => by revert t; fin_cases a <;> decide) _
theorem iblk10 (t : Fin cfg0.N) : iblk m c 10 t = V m c main_v319 :=
  Memref.read_access_unit_zero (Elt Ideal) main_v319
    (show (fun a => (win0_10.index t) a * main_v319.ty.shape.size a) = fun _ => 0 from
      funext fun a => by revert t; fin_cases a <;> decide) (fun a => by revert t; fin_cases a <;> decide) _
theorem iblk11 (t : Fin cfg0.N) : iblk m c 11 t = V m c main_arg6 :=
  Memref.read_access_unit_zero (Elt Ideal) main_arg6
    (show (fun a => (win0_11.index t) a * main_arg6.ty.shape.size a) = fun _ => 0 from
      funext fun a => by revert t; fin_cases a <;> decide) (fun a => by revert t; fin_cases a <;> decide) _
theorem iblk12 (t : Fin cfg0.N) : iblk m c 12 t = V m c main_arg7 :=
  Memref.read_access_unit_zero (Elt Ideal) main_arg7
    (show (fun a => (win0_12.index t) a * main_arg7.ty.shape.size a) = fun _ => 0 from
      funext fun a => by revert t; fin_cases a <;> decide) (fun a => by revert t; fin_cases a <;> decide) _

/-- The arguments of the run, as the specification takes them. -/
def argsOf : Args := Cert.MixerRef.args (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))

/-- A row of the six modulation rows, padded to eight. -/
theorem pad_row (X : FVec Ideal S1x6144 .f32) (v : FVec Ideal S_ .f32) (k : Fin 6) (j : Fin 1024) :
    pad S8x1024 ![0, 0] ![2, 0] ![0, 0] (shapeCast S6x1024 X shapeCasts_S1x6144_S6x1024) v pads_S6x1024_S8x1024_020_000 h_S_ (ix2 ⟨k.val, by omega⟩ j)
      = X (ix2 0 ⟨k.val * 1024 + j.val, by omega⟩) := by
  refine (pad_apply_of_inside _ _ _ _ _ _ _ _ (ix2 k j) fun a => ?_).trans ?_
  · match a with
    | ⟨0, _⟩ => show k.val = 0 + k.val * (0 + 1); omega
    | ⟨1, _⟩ => show j.val = 0 + j.val * (0 + 1); omega
  · refine shapeCast_apply _ _ _ _ ?_
    rw [Shape.rowMajor_val_two, Shape.rowMajor_val_two]
    show 0 * 6144 + (k.val * 1024 + j.val) = k.val * 1024 + j.val
    omega

theorem x_at (t : Fin cfg0.N) (r : Fin 256) (j : Fin 1024) : (insAt m c t).x (ix2 r j) = V m c main_v345 (ix2 (row t r) j) := by
  unfold insAt; dsimp only; exact iblk0 m c t r j
theorem mixed_at (t : Fin cfg0.N) (r : Fin 256) (j : Fin 1024) : (insAt m c t).mixed (ix2 r j) = V m c main_v346 (ix2 (row t r) j) := by
  unfold insAt; dsimp only; exact iblk1 m c t r j
theorem dh2_at (t : Fin cfg0.N) (r : Fin 256) (j : Fin 1024) : (insAt m c t).dh2 (ix2 r j) = V m c main_v347 (ix2 (row t r) j) := by
  unfold insAt; dsimp only; exact iblk2 m c t r j
theorem dx2_at (t : Fin cfg0.N) (r : Fin 256) (j : Fin 1024) : (insAt m c t).dx2 (ix2 r j) = V m c main_v348 (ix2 (row t r) j) := by
  unfold insAt; dsimp only; exact iblk3 m c t r j
theorem mod_at (t : Fin cfg0.N) : (insAt m c t).mod = V m c main_v317 := by
  unfold insAt; dsimp only; exact iblk9 m c t
theorem ada_at (t : Fin cfg0.N) : (insAt m c t).ada = V m c main_v319 := by
  unfold insAt; dsimp only; exact iblk10 m c t
theorem g1_at (t : Fin cfg0.N) : (insAt m c t).g1 = V m c main_arg6 := by
  unfold insAt; dsimp only; exact iblk11 m c t
theorem g2_at (t : Fin cfg0.N) : (insAt m c t).g2 = V m c main_arg7 := by
  unfold insAt; dsimp only; exact iblk12 m c t

theorem matches_at (t : Fin cfg0.N) : Cert.MixerBlock.Matches (insAt m c t) (argsOf m c) (row t) where
  x r j := by
    refine (x_at m c t r j).trans ?_
    rw [V_v345]
    exact shapeCast_1ab_ab_apply (a := 2048) (b := 1024) _ _ (row t r) j
  mixed r j := by
    refine (mixed_at m c t r j).trans ?_
    rw [V_v346]
    exact shapeCast_1ab_ab_apply (a := 2048) (b := 1024) _ _ (row t r) j
  ct1 r j := by
    refine (dx2_at m c t r j).trans ?_
    rw [V_v348]
    exact shapeCast_1ab_ab_apply (a := 2048) (b := 1024) _ _ (row t r) j
  ct2 r j := by
    refine (dh2_at m c t r j).trans ?_
    rw [V_v347]
    exact shapeCast_1ab_ab_apply (a := 2048) (b := 1024) _ _ (row t r) j
  md k j := by
    refine congrArg₂ (· + ·) ((congrFun (mod_at m c t) _).trans ?_) ((congrFun (ada_at m c t) _).trans ?_)
    · rw [V_v317]; exact pad_row _ _ k j
    · rw [V_v319]; exact pad_row _ _ k j
  g1 j := (congrFun (g1_at m c t) _).trans (congrFun (V_arg m c main_arg6 (by decide)) _)
  g2 j := (congrFun (g2_at m c t) _).trans (congrFun (V_arg m c main_arg7 (by decide)) _)

/-! ## The sums over the points -/

/-- A function of the rows, summed over the rows of the first `n` points. -/
def before (g : Fin 2048 → EReal) (n : ℕ) : EReal := ∑ t : Fin cfg0.N, if t.val < n then ∑ r, g (row t r) else 0

theorem before_zero (g : Fin 2048 → EReal) : before g 0 = 0 := by
  unfold before
  exact Finset.sum_eq_zero fun t _ => if_neg (Nat.not_lt_zero _)

theorem before_succ (g : Fin 2048 → EReal) (t : Fin cfg0.N) : before g (t.val + 1) = before g t.val + ∑ r, g (row t r) := by
  unfold before
  rw [← Finset.sum_ite_eq' Finset.univ t (fun u : Fin cfg0.N => ∑ r, g (row u r)) |>.trans (if_pos (Finset.mem_univ t)), ← Finset.sum_add_distrib]
  refine Finset.sum_congr rfl fun u _ => ?_
  by_cases h : u = t
  · subst h; rw [if_pos (Nat.lt_succ_self _), if_neg (lt_irrefl _), if_pos rfl, zero_add]
  · have hv : u.val ≠ t.val := fun e => h (Fin.ext e)
    rw [if_neg h, add_zero]
    by_cases hl : u.val < t.val
    · rw [if_pos (by omega), if_pos hl]
    · rw [if_neg (by omega), if_neg hl]

theorem before_all (g : Fin 2048 → EReal) : before g 8 = ∑ s, g s := by
  unfold before
  rw [Finset.sum_congr rfl fun (t : Fin cfg0.N) _ => if_pos (lt_of_lt_of_eq t.isLt N_0), ← Finset.sum_product']
  have hN : ∀ t : Fin cfg0.N, t.val < 8 := fun t => lt_of_lt_of_eq t.isLt N_0
  refine Fintype.sum_equiv (ι := Fin cfg0.N × Fin 256) (κ := Fin 2048) ⟨fun p => row p.1 p.2,
    fun k => (⟨7 - k.val / 256, lt_of_lt_of_eq (by omega) N_0.symm⟩, ⟨k.val % 256, by omega⟩), fun p => Prod.ext (Fin.ext ?_) (Fin.ext ?_), fun k => Fin.ext ?_⟩
    _ _ fun p => rfl
  · have := hN p.1
    show 7 - (256 * (7 - p.1.val) + p.2.val) / 256 = p.1.val; omega
  · show (256 * (7 - p.1.val) + p.2.val) % 256 = p.2.val; omega
  · show 256 * (7 - (7 - k.val / 256)) + k.val % 256 = k.val; omega

/-- The four rows of the sums, after the first `n` points. -/
structure Upto (n : ℕ) (X : FVec Ideal S16x1024 .f32) : Prop where
  gate : ∀ j, X (ix2 2 j) = before ((argsOf m c).modTerm 0 j) n
  shift : ∀ j, X (ix2 3 j) = before ((argsOf m c).modTerm 1 j) n
  scale : ∀ j, X (ix2 4 j) = before ((argsOf m c).modTerm 2 j) n
  gain : ∀ j, X (ix2 7 j) = before ((argsOf m c).gainTerm j) n

theorem Upto.zero : Upto m c 0 (k0_pay1 (F := Ideal)) where
  gate j := ofBits_zero.trans (before_zero _).symm
  shift j := ofBits_zero.trans (before_zero _).symm
  scale j := ofBits_zero.trans (before_zero _).symm
  gain j := ofBits_zero.trans (before_zero _).symm

/-- A point adds the terms of its rows. -/
theorem Upto.succ (t : Fin cfg0.N) {Y X : FVec Ideal S16x1024 .f32} (hY : Upto m c t.val Y) (h : (insAt m c t).Sums Y X) : Upto m c (t.val + 1) X where
  gate j := by
    rw [before_succ, ← hY.gate j, ← Cert.MixerBlock.ld_row X 2 inb_S16x1024_S1x1024_2_0 j, ← Cert.MixerBlock.ld_row Y 2 inb_S16x1024_S1x1024_2_0 j]
    exact (congrFun h.gate _).trans (Cert.MixerBlock.gateSum_apply (matches_at m c t) _ j)
  shift j := by
    rw [before_succ, ← hY.shift j, ← Cert.MixerBlock.ld_row X 3 inb_S16x1024_S1x1024_3_0 j, ← Cert.MixerBlock.ld_row Y 3 inb_S16x1024_S1x1024_3_0 j]
    exact (congrFun h.shift _).trans (Cert.MixerBlock.shiftSum_apply (matches_at m c t) _ j)
  scale j := by
    rw [before_succ, ← hY.scale j, ← Cert.MixerBlock.ld_row X 4 inb_S16x1024_S1x1024_4_0 j, ← Cert.MixerBlock.ld_row Y 4 inb_S16x1024_S1x1024_4_0 j]
    exact (congrFun h.scale _).trans (Cert.MixerBlock.scaleSum_apply (matches_at m c t) _ j)
  gain j := by
    rw [before_succ, ← hY.gain j, ← Cert.MixerBlock.ld_row X 7 inb_S16x1024_S1x1024_7_0 j, ← Cert.MixerBlock.ld_row Y 7 inb_S16x1024_S1x1024_7_0 j]
    exact (congrFun h.gain _).trans (Cert.MixerBlock.gainSum_apply (matches_at m c t) _ j)

theorem isFirst_iff : ∀ t : Fin cfg0.N, isFirst t ↔ t.val = 0 := by
  unfold isFirst
  exact (by decide +kernel : ∀ t : Fin grid0.N, (Scalar.cmpi .ne (Scalar.extui (Scalar.cmpi .eq (BitVec.ofNat 32 ((grid0.coords t) 0).val) 0#32) : BitVec 32) 0#32 = 1#1) ↔ t.val = 0)

/-- What a point leaves of the sums. -/
theorem leaves_upto (n : ℕ) : ∀ (t : Fin cfg0.N), t.val = n → ∀ X : FVec Ideal S16x1024 .f32, (rdat m c).Leaves 25 t X → Upto m c (n + 1) X := by
  induction n with
  | zero =>
    intro t ht X hX
    obtain ⟨Y, -, hX⟩ := hX
    have h := Summed.at (m := m) (c := c) (hX.2.1 rfl)
    rw [show base t _ = k0_pay1 from if_pos ((isFirst_iff t).2 ht)] at h
    have hz : Upto m c t.val (k0_pay1 (F := Ideal)) := ht ▸ Upto.zero m c
    exact ht ▸ Upto.succ m c t hz h
  | succ n ih =>
    intro t ht X hX
    obtain ⟨Y, hY, hX⟩ := hX
    have h := Summed.at (m := m) (c := c) (hX.2.1 rfl)
    rw [show base t _ = _ from if_neg fun h' => by have := (isFirst_iff t).1 h'; omega] at h
    rcases ((rdat m c).finds_of_pos ((cfg0.win 25).fetch_out rfl t) (by omega) Y).1 hY with hf | hl
    · have := (flush0_25 _).1 hf
      have := lt_of_lt_of_eq t.isLt N_0
      simp only at *
      omega
    · have hu := ih _ (by simp only; omega) Y hl
      rw [← ht] at hu ⊢
      exact Upto.succ m c t hu h

/-- The sums at the end of the run, whatever contents it ends with. -/
theorem array25 {G : FVec Ideal S16x1024 .f32} (hG : (rdat m c).ArrAt 25 cfg0.N G) : Upto m c 8 G := by
  obtain ⟨X, hX, hj⟩ := RDat.ArrAt.emb_eq_of_wholeAt hG (t₀ := ⟨7, lt_of_lt_of_eq (by decide) N_0.symm⟩) (by decide +kernel)
  have hu := leaves_upto m c 7 _ rfl X hX
  have e : G = X := funext fun i => hj i
  exact e ▸ hu

/-! ## The result arrays -/

section Arrays
variable {m}
variable (after : (w : Fin cfg0.W) → Fin cfg0.N → (cfg0.win w).block.Idx → Elt Ideal (cfg0.win w).elt)
  (h : ∀ (w : Fin cfg0.W) (u : Fin cfg0.N), (cfg0.win w).flush u = true → (rdat m c).Leaves w u (after w u))
include h

omit h in
theorem idx0_26 : ∀ t : Fin cfg0.N, win0_26.index t 0 = 7 - t.val ∧ win0_26.index t 1 = 0 :=
  (by decide +kernel : ∀ t : Fin grid0.N, win0_26.index t 0 = 7 - t.val ∧ win0_26.index t 1 = 0)
theorem after_26 (t : Fin cfg0.N) : after 26 t = (insAt m c t).hb := by
  obtain ⟨Y, -, hX⟩ := h 26 t (flush0_26 t)
  exact eq_of_heq (hX.2.2.1 rfl)
theorem array26 : ((rdat m c).withAfter after).arrAt 26 cfg0.N = fun i : S2048x1024.Idx => (argsOf m c).h (i 0) (i 1) := by
  refine ((rdat m c).withAfter after).arrAt_eq_of_cover 26 _ (fun t _ => ?_) fun i => ?_
  · funext x
    revert x
    refine forall_ix2 fun r j => ?_
    refine (congrFun (after_26 c after h t) (ix2 r j)).trans ((Cert.MixerBlock.hb_apply (matches_at m c t) r j).trans ?_)
    show _ = (fun i : S2048x1024.Idx => (argsOf m c).h (i 0) (i 1)) ((win0_26.rect t).emb (ix2 r j))
    refine congrArg₂ (argsOf m c).h (Fin.ext ?_) (Fin.ext ?_)
    · rw [Pipeline.Window.rect_emb_val win0_26]
      show 256 * (7 - t.val) + r.val = win0_26.index t 0 * 256 + r.val; rw [(idx0_26 t).1]; omega
    · rw [Pipeline.Window.rect_emb_val win0_26]
      show j.val = win0_26.index t 1 * 1024 + j.val; rw [(idx0_26 t).2]; omega
  · have h0 : (i 0).val < 2048 := (i 0).isLt
    have h1 : (i 1).val < 1024 := (i 1).isLt
    let t : Fin cfg0.N := ⟨7 - (i 0).val / 256, lt_of_lt_of_eq (by omega) N_0.symm⟩
    refine ⟨t, flush0_26 t, ?_⟩
    refine (ValueKit.mem_set_slice_whole_iff main_v352_2 (win0_26.rect t) i (Pipeline.Window.mem_rect_iff win0_26 t i)).2 fun a => ?_
    match a with
    | ⟨0, _⟩ =>
      show win0_26.index t 0 * 256 ≤ (i 0).val ∧ (i 0).val < win0_26.index t 0 * 256 + 256
      rw [(idx0_26 t).1]
      show (7 - (7 - (i 0).val / 256)) * 256 ≤ _ ∧ _ < (7 - (7 - (i 0).val / 256)) * 256 + 256
      omega
    | ⟨1, _⟩ =>
      show win0_26.index t 1 * 1024 ≤ (i 1).val ∧ (i 1).val < win0_26.index t 1 * 1024 + 1024
      rw [(idx0_26 t).2]
      omega

omit h in
theorem idx0_28 : ∀ t : Fin cfg0.N, win0_28.index t 0 = 7 - t.val ∧ win0_28.index t 1 = 0 :=
  (by decide +kernel : ∀ t : Fin grid0.N, win0_28.index t 0 = 7 - t.val ∧ win0_28.index t 1 = 0)
theorem after_28 (t : Fin cfg0.N) : after 28 t = (insAt m c t).dmixed := by
  obtain ⟨Y, -, hX⟩ := h 28 t (flush0_28 t)
  exact eq_of_heq (hX.2.2.2 rfl)
theorem array28 : ((rdat m c).withAfter after).arrAt 28 cfg0.N = fun i : S2048x1024.Idx => (argsOf m c).dmixed (i 0) (i 1) := by
  refine ((rdat m c).withAfter after).arrAt_eq_of_cover 28 _ (fun t _ => ?_) fun i => ?_
  · funext x
    revert x
    refine forall_ix2 fun r j => ?_
    refine (congrFun (after_28 c after h t) (ix2 r j)).trans ((Cert.MixerBlock.dmixed_apply (matches_at m c t) r j).trans ?_)
    show _ = (fun i : S2048x1024.Idx => (argsOf m c).dmixed (i 0) (i 1)) ((win0_28.rect t).emb (ix2 r j))
    refine congrArg₂ (argsOf m c).dmixed (Fin.ext ?_) (Fin.ext ?_)
    · rw [Pipeline.Window.rect_emb_val win0_28]
      show 256 * (7 - t.val) + r.val = win0_28.index t 0 * 256 + r.val; rw [(idx0_28 t).1]; omega
    · rw [Pipeline.Window.rect_emb_val win0_28]
      show j.val = win0_28.index t 1 * 1024 + j.val; rw [(idx0_28 t).2]; omega
  · have h0 : (i 0).val < 2048 := (i 0).isLt
    have h1 : (i 1).val < 1024 := (i 1).isLt
    let t : Fin cfg0.N := ⟨7 - (i 0).val / 256, lt_of_lt_of_eq (by omega) N_0.symm⟩
    refine ⟨t, flush0_28 t, ?_⟩
    refine (ValueKit.mem_set_slice_whole_iff main_v352_4 (win0_28.rect t) i (Pipeline.Window.mem_rect_iff win0_28 t i)).2 fun a => ?_
    match a with
    | ⟨0, _⟩ =>
      show win0_28.index t 0 * 256 ≤ (i 0).val ∧ (i 0).val < win0_28.index t 0 * 256 + 256
      rw [(idx0_28 t).1]
      show (7 - (7 - (i 0).val / 256)) * 256 ≤ _ ∧ _ < (7 - (7 - (i 0).val / 256)) * 256 + 256
      omega
    | ⟨1, _⟩ =>
      show win0_28.index t 1 * 1024 ≤ (i 1).val ∧ (i 1).val < win0_28.index t 1 * 1024 + 1024
      rw [(idx0_28 t).2]
      omega

end Arrays

/-! ## The lines after the region -/

/-- What the run ends with in the sums' array. -/
theorem ends_25 (A : TailRun.Ends (rdat m c)) :
    Pipeline.withArrays spec0 c (start m c) A.1 (Proc.devRef .tc main_v352_1) = A.1 25 :=
  Pipeline.withArrays_arr_shared spec0 c (start m c) A.1 ((rdat m c).ArrAt_sharedIn launch₀0.sharedIn (start m c) (A_eq m c) cfg0.N A.1 A.2) 25

theorem tail_v353 (A : TailRun.Ends (rdat m c)) : StableHlo.after (List.flatten tailLines) (Pipeline.withArrays spec0 c (start m c) A.1) (Proc.devRef .tc main_v353)
    = fun i : S3x1024.Idx => (argsOf m c).dmod (i 0) (i 1) := by
  have hu := array25 m c (A.2 25)
  have e := ends_25 m c A
  generalize Pipeline.withArrays spec0 c (start m c) A.1 = f at e ⊢
  simp only [List.flatten_cons, List.flatten_nil, List.append_nil]
  after_results
  funext i
  revert i
  refine forall_ix2 fun k j => ?_
  rw [e]
  refine (slice2_axis0_apply 2 _ slices_S16x1024_S3x1024_2_0 k j ⟨2 + k.val, by omega⟩ rfl).trans ?_
  match k with
  | ⟨0, _⟩ => exact (hu.gate j).trans (before_all _)
  | ⟨1, _⟩ => exact (hu.shift j).trans (before_all _)
  | ⟨2, _⟩ => exact (hu.scale j).trans (before_all _)

theorem tail_v354 (A : TailRun.Ends (rdat m c)) : StableHlo.after (List.flatten tailLines) (Pipeline.withArrays spec0 c (start m c) A.1) (Proc.devRef .tc main_v354)
    = fun i : S1x1024.Idx => (argsOf m c).dgain (i 1) := by
  have hu := array25 m c (A.2 25)
  have e := ends_25 m c A
  generalize Pipeline.withArrays spec0 c (start m c) A.1 = f at e ⊢
  simp only [List.flatten_cons, List.flatten_nil, List.append_nil]
  after_results
  funext i
  revert i
  refine forall_ix2 fun k j => ?_
  rw [e]
  refine (slice2_axis0_apply 7 _ slices_S16x1024_S1x1024_7_0 k j ⟨7, by omega⟩ (by show 7 = 7 + k.val; omega)).trans ?_
  exact (hu.gain j).trans (before_all _)

/-! ## The claim -/

theorem mixer_value : Cert.algebraic_MixerIdeal_MixerRefIdeal_pre_mixer_finite := by
  intro m g m' g' hpre hagree
  have R : ∀ c, (argsOf m c).Real := fun c => by
    have hp : andi (andi (andi (andi (andi (andi _ _) _) _) _) _) _ = fun _ => 1#1 := hpre c
    have hp := congrFun hp ix0
    obtain ⟨hp, h5⟩ := IntOp.andi_eq_one.1 hp
    obtain ⟨hp, h4⟩ := IntOp.andi_eq_one.1 hp
    obtain ⟨hp, h3⟩ := IntOp.andi_eq_one.1 hp
    obtain ⟨hp, h2⟩ := IntOp.andi_eq_one.1 hp
    obtain ⟨hp, h1⟩ := IntOp.andi_eq_one.1 hp
    obtain ⟨-, h0⟩ := IntOp.andi_eq_one.1 hp
    have r0 := real_of_all _ _ _ _ _ _ h0
    have r1 := real_of_all _ _ _ _ _ _ h1
    have r2 := real_of_all _ _ _ _ _ _ h2
    have r3 := real_of_all _ _ _ _ _ _ h3
    have r4 := real_of_all _ _ _ _ _ _ h4
    have r5 := real_of_all _ _ _ _ _ _ h5
    exact ⟨fun s j => r0 _, fun s j => r1 _, fun s j => r2 _, fun k j => (r3 _).add (r4 _), fun j => r5 _⟩
  refine ⟨fun c i => (argsOf m c).dmixed (i 0) (i 1), fun c i => (argsOf m c).dmod (i 0) (i 1), fun c i => (argsOf m c).dgain (i 1),
    fun c i => (argsOf m c).h (i 0) (i 1), ?_, ?_⟩
  · refine (θ_run _ _ _).mono (fun r h c => ?_) (run_main (F := Ideal) m g)
    obtain ⟨after, hL, hA⟩ := RDat.ArrAt.exists_exact_all (h.1 c).1
    have hL' := fun w u hf => hL w u u.isLt hf
    obtain ⟨A, hT⟩ := (h.1 c).2
    refine ⟨(hA 28).trans (array28 c after hL'), ?_, ?_, (hA 26).trans (array26 c after hL'), args_kept m r.2.mem c (h.1 c)⟩
    · exact (hT main_v353 (Pipeline.mem_restRefs_of main_v353 (by decide) fun w => (arr_ne w).1)).trans (tail_v353 m c A)
    · exact (hT main_v354 (Pipeline.mem_restRefs_of main_v354 (by decide) fun w => (arr_ne w).2)).trans (tail_v354 m c A)
  · refine (θ_run _ _ _).mono (fun r h c => ?_) (Cert.MixerRefIdeal.Value.run (F := Ideal) m' g')
    obtain ⟨e0, e1, e2, e3, e4, e5, e6, e7, -⟩ := hagree c
    have E : argsOf m c = Cert.MixerRef.args
        (m' ((c.tc : Thread Cert.MixerRefIdeal.nD Cert.MixerRefIdeal.τ).loc Cert.MixerRefIdeal.main_arg0))
        (m' ((c.tc : Thread Cert.MixerRefIdeal.nD Cert.MixerRefIdeal.τ).loc Cert.MixerRefIdeal.main_arg1))
        (m' ((c.tc : Thread Cert.MixerRefIdeal.nD Cert.MixerRefIdeal.τ).loc Cert.MixerRefIdeal.main_arg2))
        (m' ((c.tc : Thread Cert.MixerRefIdeal.nD Cert.MixerRefIdeal.τ).loc Cert.MixerRefIdeal.main_arg3))
        (m' ((c.tc : Thread Cert.MixerRefIdeal.nD Cert.MixerRefIdeal.τ).loc Cert.MixerRefIdeal.main_arg4))
        (m' ((c.tc : Thread Cert.MixerRefIdeal.nD Cert.MixerRefIdeal.τ).loc Cert.MixerRefIdeal.main_arg5))
        (m' ((c.tc : Thread Cert.MixerRefIdeal.nD Cert.MixerRefIdeal.τ).loc Cert.MixerRefIdeal.main_arg6))
        (m' ((c.tc : Thread Cert.MixerRefIdeal.nD Cert.MixerRefIdeal.τ).loc Cert.MixerRefIdeal.main_arg7)) := by
      rw [e0, e1, e2, e3, e4, e5, e6, e7]; rfl
    have RE := E ▸ R c
    obtain ⟨v0, v1, v2, v3, kept⟩ := h c
    clear e0 e1 e2 e3 e4 e5 e6 e7
    refine ⟨v0.trans ?_, v1.trans ?_, v2.trans ?_, v3.trans ?_, kept⟩
    · exact (Cert.MixerRefIdeal.Read.val_main_v97_eq _ _).trans (Cert.MixerRef.v97_eq _ _ _ _ _ _ _ _ RE |>.trans (congrArg (fun (A : Args) (i : S2048x1024.Idx) => A.dmixed (i 0) (i 1)) E.symm))
    · exact (Cert.MixerRefIdeal.Read.val_main_v75_eq _ _).trans (Cert.MixerRef.v75_eq _ _ _ _ _ _ _ _ RE |>.trans (congrArg (fun (A : Args) (i : S3x1024.Idx) => A.dmod (i 0) (i 1)) E.symm))
    · exact (Cert.MixerRefIdeal.Read.val_main_v66_eq _ _ _ _ _).trans (Cert.MixerRef.v66_eq _ _ _ _ _ _ _ _ |>.trans (congrArg (fun (A : Args) (i : S1x1024.Idx) => A.dgain (i 1)) E.symm))
    · exact (Cert.MixerRefIdeal.Read.val_main_v99_eq _ _ _ _).trans (Cert.MixerRef.v99_eq _ _ _ _ _ _ _ _ |>.trans (congrArg (fun (A : Args) (i : S2048x1024.Idx) => A.h (i 0) (i 1)) E.symm))

end Cert.MixerValue

end
-- ==== Proof.ForeRun.lean ====
/- The body of the kernel `_mixer_fwd` run once at a grid point: the weights copied out of their pack at the first
   point, then the mixer on one block of rows, of which the projection of the normed and modulated input is named. -/
module

public import proofs.«01_k».proof.Proof.Reals
public import proofs.«01_k».proof.Proof.Gen.ForeIdeal.Launch
public import proofs.«01_k».proof.Proof.Gen.ForeIdeal.Skeleton
public import proofs.«01_k».proof.Proof.Gen.ForeIdeal.Points
public import proofs.«01_k».proof.Proof.Gen.ForeIdeal.Loops
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import Idealize.ShloMosaic.Lib.VecWindow
public import Idealize.ShloMosaic.Lib.ValueLayout
public import Idealize.ShloMosaic.Lib.Pipeline.ValueKit.Tiles

@[expose] public section

noncomputable section

namespace Cert.ForeRun

open Cert.ForeIdeal Cert.ForeIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The two resident weights and the pack of both in HBM. -/
abbrev wiM : Memref sig .tc .vmem S2560x1024 .bf16 := Memref.whole cc0_scratch0
abbrev woM : Memref sig .tc .vmem S1024x1024 .bf16 := Memref.whole cc0_scratch1
abbrev wpM : Memref sig .tc .hbm S8x448x1024 .bf16 := Memref.whole main_v56

/-- What a memref's buffer holds on a core, and the buffer held whole, at all of it or at a part. -/
abbrev BufOf (c : Dev nD) {sp : Space} {S : Shape} {e : EltTy} (M : Memref sig .tc sp S e) : Type :=
  Buf (Elt F) (M.view.loc (c : Thread nD τ))
abbrev heldW (c : Dev nD) {sp : Space} {S : Shape} {e : EltTy} (M : Memref sig .tc sp S e) (f : BufOf (F := F) c M) : sProp 𝕄 :=
  M.view.loc (c : Thread nD τ) ↦{fullShare} f
abbrev heldP (c : Dev nD) (q : PosShare TreeShare) {sp : Space} {S : Shape} {e : EltTy} (M : Memref sig .tc sp S e) (f : BufOf (F := F) c M) : sProp 𝕄 :=
  M.view.loc (c : Thread nD τ) ↦{q} f
/-- A buffer owned at some contents. -/
abbrev anyOf (c : Dev nD) {sp : Space} {S : Shape} {e : EltTy} (M : Memref sig .tc sp S e) : sProp 𝕄 :=
  iprop(∃ d, owns (c : Thread nD τ) M fullShare d)

/-! ## The values of one block of rows -/

/-- What the body reads at one grid point, input by input. -/
structure Ins (F : FTy → Type) where
  x : Vec F S256x1024 .f32
  mod : Vec F S8x1024 .f32
  ada : Vec F S8x1024 .f32
  g1 : Vec F S1x1024 .f32
  wl : Vec F S8x512 .f32
  bl : Vec F S1x512 .f32
  bda : Vec F S512x512 .bf16
  bdx : Vec F S512x512 .bf16
  ba : Vec F S1x512 .f32
  bx : Vec F S1x512 .f32
  ap : Vec F S1x512 .f32
  ws : Vec F S8x512 .f32
  gl : Vec F S1x512 .f32
  gc : Vec F S1x512 .f32
  avg : Vec F S512x512 .bf16

abbrev rX : Rect S256x1024 := Rect.unit (s := S256x1024) ![0, 0] S256x1024.size inb_S256x1024_S256x1024_0_0
abbrev rM : Rect S8x1024 := Rect.unit (s := S8x1024) ![0, 0] S8x1024.size inb_S8x1024_S8x1024_0_0
abbrev rG : Rect S1x1024 := Rect.unit (s := S1x1024) ![0, 0] S1x1024.size inb_S1x1024_S1x1024_0_0
abbrev rI : Rect S2560x1024 := Rect.unit (s := S2560x1024) ![0, 0] S2560x1024.size inb_S2560x1024_S2560x1024_0_0

namespace Ins
variable (B : Ins F)

/-- The block's projection by the weight `w` read from the resident buffer. -/
def proj (w : Vec F S2560x1024 .bf16) : FVec F S256x2560 .f32 := k0_pay5 (View.ld B.mod rM) (View.ld B.ada rM) (View.ld B.x rX) (View.ld B.g1 rG) w
end Ins

/-! ## The resident weight filled from the pack -/

/-- The input weight out of the pack: rows 320·k on are the last 320 rows of the pack's `k`-th matrix. -/
def winOf (pk : Vec F S8x448x1024 .bf16) : Vec F S2560x1024 .bf16 := fun y =>
  pk (ix3 ⟨(y 0).val / 320, by have := (y 0).isLt; simp at this; omega⟩ ⟨128 + (y 0).val % 320, by omega⟩ ⟨(y 1).val, (y 1).isLt⟩)

/-- One matrix of the pack's last 320 rows, read through the window a copy takes. -/
theorem pack_read (pk : Vec F S8x448x1024 .bf16) (k : ℕ) (hk : k < 8)
    (inb : ∀ a, (![k, 128, 0] : Fin 3 → ℕ) a + (![1, 320, 1024] : Fin 3 → ℕ) a ≤ S8x448x1024.size a) (hr hq)
    (x : S320x1024.Idx) :
    View.read (Elt F) ((wpM.slice (Rect.unit (s := S8x448x1024) ![k, 128, 0] ![1, 320, 1024] inb) hr).squeeze S320x1024 hq).view pk x
      = pk (ix3 ⟨k, hk⟩ ⟨128 + (x 0).val, by have := (x 0).isLt; simp at this; omega⟩ ⟨(x 1).val, (x 1).isLt⟩) := by
  rw [Memref.read_squeeze_slice wpM _ hr hq (show (⟨3, ![1, 320, 1024]⟩ : Shape).ShapeCasts S320x1024 by decide) pk]
  revert x
  refine Cert.Reals.forall_ix2 fun i j => ?_
  rw [shapeCast_1ab_ab_apply]
  refine congrArg pk (funext fun a => Fin.ext ?_)
  fin_cases a
  · show k + 1 * 0 = k; omega
  · show 128 + 1 * i.val = 128 + i.val; omega
  · show 0 + 1 * j.val = j.val; omega

abbrev piece (k : ℕ) (inb : ∀ a, (![k, 0] : Fin 2 → ℕ) a + (![320, 1024] : Fin 2 → ℕ) a ≤ S2560x1024.size a) (w : Vec F S320x1024 .bf16) :
    View.Piece (Elt F) S2560x1024 .bf16 := ⟨Rect.unit (s := S2560x1024) ![k, 0] ![320, 1024] inb, w⟩

/-- A block of 320 rows holds what the whole has from row `k` on. -/
def Rows (T : Vec F S2560x1024 .bf16) (k : ℕ) (w : Vec F S320x1024 .bf16) : Prop :=
  ∀ (y : S2560x1024.Idx) (x : S320x1024.Idx), (y 0).val = k + (x 0).val → (y 1).val = (x 1).val → w x = T y

theorem Rows.tile {T : Vec F S2560x1024 .bf16} {k : ℕ} {w : Vec F S320x1024 .bf16} (h : Rows T k w) (y : S2560x1024.Idx) :
    View.TileAt y ![k, 0] ![320, 1024] w (T y) := fun x hx =>
  h y x (hx 0) ((hx 1).trans (Nat.zero_add _))

theorem fill_canon (T : Vec F S2560x1024 .bf16) (p0 p1 p2 p3 p4 p5 p6 p7 : Vec F S320x1024 .bf16) (b7 b6 b5 b4 b3 b2 b1 b0)
    (h0 : Rows T 0 p0) (h1 : Rows T 320 p1) (h2 : Rows T 640 p2) (h3 : Rows T 960 p3) (h4 : Rows T 1280 p4) (h5 : Rows T 1600 p5) (h6 : Rows T 1920 p6) (h7 : Rows T 2240 p7) :
    View.canon [piece 2240 b7 p7, piece 1920 b6 p6, piece 1600 b5 p5, piece 1280 b4 p4, piece 960 b3 p3, piece 640 b2 p2, piece 320 b1 p1, piece 0 b0 p0] = T := by
  funext y
  refine View.canon_eq_of_allAt _ y _ (View.cover_of_tiled _ ![320, 1024] (by rfl) y) ?_
  exact View.allAt_cons_unit _ _ _ _ _ (h7.tile y) <| View.allAt_cons_unit _ _ _ _ _ (h6.tile y) <| View.allAt_cons_unit _ _ _ _ _ (h5.tile y) <|
    View.allAt_cons_unit _ _ _ _ _ (h4.tile y) <| View.allAt_cons_unit _ _ _ _ _ (h3.tile y) <| View.allAt_cons_unit _ _ _ _ _ (h2.tile y) <|
    View.allAt_cons_unit _ _ _ _ _ (h1.tile y) <| View.allAt_cons_unit _ _ _ _ _ (h0.tile y) <| View.allAt_nil _ _

/-- The resident weight read whole after pieces that cover it, from whatever stood there. -/
theorem fill_held (T g : Vec F S2560x1024 .bf16) (L : List (View.Piece (Elt F) S2560x1024 .bf16)) (hc : ∀ y, ∃ p ∈ L, y ∈ p.1.set) (h : View.canon L = T) :
    wiM.view.writes (Elt F) g L = T := (View.read_writes_eq_canon wiM.view g L hc).trans h

theorem fill_load (T : Vec F S2560x1024 .bf16) (L : List (View.Piece (Elt F) S2560x1024 .bf16)) (hc : ∀ y, ∃ p ∈ L, y ∈ p.1.set) (h : View.canon L = T) :
    wiM.view.readCov L rI.toLoadRect = View.ld T rI :=
  congrArg (fun Z => View.ld Z rI) ((View.read_writes_eq_canon wiM.view _ L hc).trans h)

/-- A window of the pack is the resident weight's block of rows. -/
theorem pack_win (pk : Vec F S8x448x1024 .bf16) (k : ℕ) (hk : k < 8) (inb) (hr hq) :
    Rows (winOf pk) (320 * k) (View.read (Elt F) ((wpM.slice (Rect.unit (s := S8x448x1024) ![k, 128, 0] ![1, 320, 1024] inb) hr).squeeze S320x1024 hq).view pk) := fun y x h0 h1 => by
  have hx : (x 0).val < 320 := (x 0).isLt
  rw [pack_read pk k hk inb hr hq x]
  unfold winOf
  refine congrArg pk (congr (congr (congrArg ix3 (Fin.ext ?_)) (Fin.ext ?_)) (Fin.ext h1.symm))
  · show k = (y 0).val / 320; omega
  · show 128 + (x 0).val = 128 + (y 0).val % 320; omega

theorem held_at (c : Dev nD) {sp : Space} {S : Shape} {e : EltTy} (M : Memref sig .tc sp S e) {f g : BufOf (F := F) c M} (h : f = g) :
    heldW c M f ⊢ heldW c M g := h ▸ .rfl

/-- A postcondition read at an equal result. -/
theorem post_at {α : Type} {P : sProp 𝕄} {K : α → sProp 𝕄} {a b : α} (h : a = b) (hb : Entails' P (K b)) : Entails' P (K a) := h ▸ hb

section Body
variable (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S8x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S8x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .bf16) (harg15 : arg15.IsWhole) (arg17 : Memref sig .tc .vmem S256x2560 .f32) (harg17 : arg17.IsWhole) (arg18 : Memref sig .tc .vmem S256x512 .f32) (harg18 : arg18.IsWhole) (arg19 : Memref sig .tc .vmem S256x1024 .f32) (harg19 : arg19.IsWhole) (arg20 : Memref sig .tc .vmem S256x3072 .f32) (harg20 : arg20.IsWhole) (arg24 : Memref sig .tc .vmem S264x512 .f32) (harg24 : arg24.IsWhole) (arg25 : Memref sig .tc .vmem S264x512 .f32) (harg25 : arg25.IsWhole) (arg26 : Memref sig .tc .vmem S8x512 .f32) (harg26 : arg26.IsWhole) (arg27 : Memref sig .tc .vmem S256x512 .f32) (harg27 : arg27.IsWhole) (arg28 : Memref sig .tc .vmem S256x512 .f32) (harg28 : arg28.IsWhole)

set_option warn.classDefReducibility false in
/-- The scan's loop, of which only what it writes to is kept: two buffers are read, the third holds anything. -/
@[sl_loop] def scanInv (𝒱 : Variants) (bd : Option 𝒱.V) (E : Set ℕ) (v36 v38 v39 : FVec F S256x512 .f32) (v150 : IVec S8x512 32) (v151 : Vec F S8x512 .f32) (c0_i32_66 : BitVec 32)
    (X27 : BufTy.Contents (Elt F) arg27.view.ty) (X28 : BufTy.Contents (Elt F) arg28.view.ty) (init : Vec F S8x512 .f32) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 wpM (Memref.isWhole_whole _) arg17 harg17 arg18 harg18 arg19 harg19 arg20 harg20 wiM (Memref.isWhole_whole _) woM (Memref.isWhole_whole _) cc0_scratch2 arg24 harg24 arg25 harg25 arg26 harg26 arg27 harg27 arg28 harg28 v36 v38 v39 v150 v151 c0_i32_66 init where
  inv k acc := iprop((arg27.view.loc (c : Thread nD τ) ↦[arg27.view.set]{fullShare} X27) ∗ (arg28.view.loc (c : Thread nD τ) ↦[arg28.view.set]{fullShare} X28)
    ∗ (∃ f, (arg18.view.loc (c : Thread nD τ) ↦[arg18.view.set]{fullShare} f)))
  step k acc := by
    have hk : k.val < 32 := Nat.lt_of_lt_of_le k.isLt k0_t1_abs.2.1
    unfold k0_t1_body
    iintro ⟨HA, HB, ⟨%f, HC⟩⟩
    sl_exec
    sl_step
    isplitl [HA]; · iexact HA
    isplitl [HB]; · iexact HB
    iexists _; iexact HC

/-- What the head of the body returns. -/
abbrev HeadRet (F : FTy → Type) [FloatOps F] : Type := Σ' (arg0 : BitVec 32) (v33 : FVec F S256x2560 .f32) (v35 : FVec F S256x512 .f32) (v36 : FVec F S256x512 .f32), FVec F S256x512 .f32
abbrev part7P : Prog (TpuEff nD τ sig (Elt F) Λ₀ .tc) (HeadRet F) :=
  k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 wpM (Memref.isWhole_whole _) arg17 harg17 arg18 harg18 arg19 harg19 arg20 harg20 wiM (Memref.isWhole_whole _) woM (Memref.isWhole_whole _) cc0_scratch2 arg24 harg24 arg25 harg25 arg26 harg26 arg27 harg27 arg28 harg28
abbrev bodyP : Prog (TpuEff nD τ sig (Elt F) Λ₀ .tc) PUnit :=
  cc0_mixer_fwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 wpM (Memref.isWhole_whole _) arg17 harg17 arg18 harg18 arg19 harg19 arg20 harg20 wiM (Memref.isWhole_whole _) woM (Memref.isWhole_whole _) cc0_scratch2 arg24 harg24 arg25 harg25 arg26 harg26 arg27 harg27 arg28 harg28

abbrev heads (B : Ins F) (w : Vec F S2560x1024 .bf16) : HeadRet F :=
  ⟨BitVec.ofNat 32 (i 0).val, k0_pay5 (View.ld B.mod rM) (View.ld B.ada rM) (View.ld B.x rX) (View.ld B.g1 rG) w, k0_pay6 (View.ld B.mod rM) (View.ld B.ada rM) (View.ld B.x rX) (View.ld B.g1 rG) w,
    k0_pay7 (View.ld B.mod rM) (View.ld B.ada rM) (View.ld B.x rX) (View.ld B.g1 rG) w, k0_pay8 (View.ld B.mod rM) (View.ld B.ada rM) (View.ld B.x rX) (View.ld B.g1 rG) w⟩

/-- The weights' pack, the resident weights — the first named — and the two counters of the copies, nothing in flight. -/
abbrev weights (pk : Vec F S8x448x1024 .bf16) (W1 : Vec F S2560x1024 .bf16) : sProp 𝕄 :=
  iprop(heldP c fullShare.left wpM pk ∗ heldP c fullShare.right wpM pk ∗ heldW c wiM W1 ∗ (∃ f, heldW c woM f)
    ∗ semVal ((c : Thread nD τ), SemLoc.dma 24) 0 ∗ semVal ((c : Thread nD τ), SemLoc.dma 25) 0)

/-- What the head of the body reads, the other inputs, the buffers the head clears, the other outputs and scratch at anything. -/
abbrev headIns (B : Ins F) : sProp 𝕄 :=
  iprop(owns (c : Thread nD τ) arg1 fullShare B.x ∗ owns (c : Thread nD τ) arg2 fullShare B.mod ∗ owns (c : Thread nD τ) arg3 fullShare B.ada ∗ owns (c : Thread nD τ) arg4 fullShare B.g1)
abbrev restIns (B : Ins F) : sProp 𝕄 :=
  iprop(owns (c : Thread nD τ) arg5 fullShare B.wl ∗ owns (c : Thread nD τ) arg6 fullShare B.bl ∗ owns (c : Thread nD τ) arg7 fullShare B.bda ∗ owns (c : Thread nD τ) arg8 fullShare B.bdx ∗ owns (c : Thread nD τ) arg9 fullShare B.ba ∗ owns (c : Thread nD τ) arg10 fullShare B.bx ∗ owns (c : Thread nD τ) arg11 fullShare B.ap ∗ owns (c : Thread nD τ) arg12 fullShare B.ws ∗ owns (c : Thread nD τ) arg13 fullShare B.gl ∗ owns (c : Thread nD τ) arg14 fullShare B.gc ∗ owns (c : Thread nD τ) arg15 fullShare B.avg)
abbrev cleared : sProp 𝕄 :=
  iprop(anyOf c arg24 ∗ anyOf c arg25 ∗ anyOf c arg26)
abbrev restAny : sProp 𝕄 :=
  iprop(anyOf c arg18 ∗ anyOf c arg19 ∗ anyOf c arg20 ∗ anyOf c arg27 ∗ anyOf c arg28)

set_option maxHeartbeats 4000000 in
/-- The head at the first point: the weights copied in, the carries cleared, the projection stored. -/
theorem head_first (hi : Scalar.cmpi .ne (Scalar.extui (Scalar.cmpi .eq (BitVec.ofNat 32 (i 0).val) 0#32) : BitVec 32) 0#32 = 1#1)
    (B : Ins F) (pk : Vec F S8x448x1024 .bf16) (g1 : Vec F S2560x1024 .bf16) (W : Waits sig Unit) (K : HeadRet F → sProp 𝕄) :
    iprop(headIns c arg1 arg2 arg3 arg4 B ∗ anyOf c arg17 ∗ cleared c arg24 arg25 arg26 ∗ weights c pk g1 ∗ owes (c : Thread nD τ) 0 W
        ∗ (iprop(headIns c arg1 arg2 arg3 arg4 B ∗ owns (c : Thread nD τ) arg17 fullShare (B.proj (View.ld (winOf pk) rI)) ∗ cleared c arg24 arg25 arg26 ∗ weights c pk (winOf pk) ∗ (∃ W', owes (c : Thread nD τ) 0 W')) -∗ K (heads i B (View.ld (winOf pk) rI))))
      ⊢ wp frame (wpE (defs₀ (F := F)) Variants.none c none) Set.univ (part7P i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg24 harg24 arg25 harg25 arg26 harg26 arg27 harg27 arg28 harg28) K := by
  have _plan1 : Transfers.BatchOf (c : Thread nD τ) (SemLoc.dma (sig := sig) 24) 8 (windows := true) := trivial
  have _plan2 : Transfers.BatchOf (c : Thread nD τ) (SemLoc.dma (sig := sig) 25) 8 (windows := true) := trivial
  rcases B with ⟨b1, b2, b3, b4, b5, b6, b7, b8, b9, b10, b11, b12, b13, b14, b15⟩
  unfold part7P headIns cleared weights anyOf owns Ins.proj
  dsimp only
  iintro ⟨⟨⟨%f1, %h1, H1⟩, ⟨%f2, %h2, H2⟩, ⟨%f3, %h3, H3⟩, ⟨%f4, %h4, H4⟩⟩, ⟨%d17, %f17, -, H17⟩, ⟨⟨%d24, %f24, -, H24⟩, ⟨%d25, %f25, -, H25⟩, ⟨%d26, %f26, -, H26⟩⟩, ⟨HP, HP', HA, ⟨%fb, HB⟩, Hc0, Hc1⟩, HW, Hk⟩
  subst h1 h2 h3 h4
  simp only [k0_part7_eq_skeleton, k0_part7_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel]
  sl_exec
  sl_step
  have e : head_first.sl.v32 (F := F) pk = View.ld (winOf pk) rI := by
    unfold head_first.sl.v32
    refine fill_load (winOf pk) _ (View.cover_of_tiled _ ![320, 1024] (by rfl)) ?_
    exact fill_canon (winOf pk) _ _ _ _ _ _ _ _ _ _ _ _ _ _ _ _
        (pack_win pk 0 (by decide) _ _ _) (pack_win pk 1 (by decide) _ _ _) (pack_win pk 2 (by decide) _ _ _) (pack_win pk 3 (by decide) _ _ _)
        (pack_win pk 4 (by decide) _ _ _) (pack_win pk 5 (by decide) _ _ _) (pack_win pk 6 (by decide) _ _ _) (pack_win pk 7 (by decide) _ _ _)
  refine post_at (b := heads i ⟨arg1.view.read (Elt F) f1, arg2.view.read (Elt F) f2, arg3.view.read (Elt F) f3, arg4.view.read (Elt F) f4, b5, b6, b7, b8, b9, b10, b11, b12, b13, b14, b15⟩ (View.ld (winOf pk) rI)) ?_ ?_
  · exact congrArg (heads i ⟨arg1.view.read (Elt F) f1, arg2.view.read (Elt F) f2, arg3.view.read (Elt F) f3, arg4.view.read (Elt F) f4, b5, b6, b7, b8, b9, b10, b11, b12, b13, b14, b15⟩) e
  iapply Hk
  isplitl [H1 H2 H3 H4]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  isplitl [H17]
  · iexists _; isplitr; swap; · iexact H17
    ipureintro; exact (View.read_writes_full _ _ _ _ _).trans (congrArg (k0_pay5 _ _ _ _) e)
  isplitl [H24 H25 H26]
  · isplitl [H24]
    · iexists _; iexists _; isplitr; swap; · iexact H24
      ipureintro; rfl
    isplitl [H25]
    · iexists _; iexists _; isplitr; swap; · iexact H25
      ipureintro; rfl
    iexists _; iexists _; isplitr; swap; · iexact H26
    ipureintro; rfl
  isplitr [HW]
  · isplitl [HP]; · iexact HP
    isplitl [HP']; · iexact HP'
    isplitl [HA]
    · iapply (held_at c wiM (fill_held (winOf pk) g1 _ (View.cover_of_tiled _ ![320, 1024] (by rfl)) (fill_canon (winOf pk) _ _ _ _ _ _ _ _ _ _ _ _ _ _ _ _
        (pack_win pk 0 (by decide) _ _ _) (pack_win pk 1 (by decide) _ _ _) (pack_win pk 2 (by decide) _ _ _) (pack_win pk 3 (by decide) _ _ _)
        (pack_win pk 4 (by decide) _ _ _) (pack_win pk 5 (by decide) _ _ _) (pack_win pk 6 (by decide) _ _ _) (pack_win pk 7 (by decide) _ _ _))))
      iexact HA
    isplitl [HB]; · iexists _; iexact HB
    isplitl [Hc0]; · iexact Hc0
    iexact Hc1
  iexists _; iexact HW

set_option maxHeartbeats 4000000 in
/-- The head at a later point: the projection stored. -/
theorem head_later (hi : ¬ Scalar.cmpi .ne (Scalar.extui (Scalar.cmpi .eq (BitVec.ofNat 32 (i 0).val) 0#32) : BitVec 32) 0#32 = 1#1)
    (B : Ins F) (pk : Vec F S8x448x1024 .bf16) (W1 : Vec F S2560x1024 .bf16) (W : Waits sig Unit) (K : HeadRet F → sProp 𝕄) :
    iprop(headIns c arg1 arg2 arg3 arg4 B ∗ anyOf c arg17 ∗ cleared c arg24 arg25 arg26 ∗ weights c pk W1 ∗ owes (c : Thread nD τ) 0 W
        ∗ (iprop(headIns c arg1 arg2 arg3 arg4 B ∗ owns (c : Thread nD τ) arg17 fullShare (B.proj (View.ld W1 rI)) ∗ cleared c arg24 arg25 arg26 ∗ weights c pk W1 ∗ (∃ W', owes (c : Thread nD τ) 0 W')) -∗ K (heads i B (View.ld W1 rI))))
      ⊢ wp frame (wpE (defs₀ (F := F)) Variants.none c none) Set.univ (part7P i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg24 harg24 arg25 harg25 arg26 harg26 arg27 harg27 arg28 harg28) K := by
  rcases B with ⟨b1, b2, b3, b4, b5, b6, b7, b8, b9, b10, b11, b12, b13, b14, b15⟩
  unfold part7P headIns cleared weights anyOf owns Ins.proj
  dsimp only
  iintro ⟨⟨⟨%f1, %h1, H1⟩, ⟨%f2, %h2, H2⟩, ⟨%f3, %h3, H3⟩, ⟨%f4, %h4, H4⟩⟩, ⟨%d17, %f17, -, H17⟩, ⟨⟨%d24, %f24, -, H24⟩, ⟨%d25, %f25, -, H25⟩, ⟨%d26, %f26, -, H26⟩⟩, ⟨HP, HP', HA, ⟨%fb, HB⟩, Hc0, Hc1⟩, HW, Hk⟩
  subst h1 h2 h3 h4
  simp only [k0_part7_eq_skeleton, k0_part7_skel]
  sl_exec
  sl_step
  refine post_at (b := heads i ⟨arg1.view.read (Elt F) f1, arg2.view.read (Elt F) f2, arg3.view.read (Elt F) f3, arg4.view.read (Elt F) f4, b5, b6, b7, b8, b9, b10, b11, b12, b13, b14, b15⟩ (View.ld W1 rI)) rfl ?_
  iapply Hk
  isplitl [H1 H2 H3 H4]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  isplitl [H17]
  · iexists _; isplitr; swap; · iexact H17
    ipureintro; exact View.read_writes_full _ _ _ _ _
  isplitl [H24 H25 H26]
  · isplitl [H24]
    · iexists _; iexists _; isplitr; swap; · iexact H24
      ipureintro; rfl
    isplitl [H25]
    · iexists _; iexists _; isplitr; swap; · iexact H25
      ipureintro; rfl
    iexists _; iexists _; isplitr; swap; · iexact H26
    ipureintro; rfl
  isplitr [HW]
  · isplitl [HP]; · iexact HP
    isplitl [HP']; · iexact HP'
    isplitl [HA]; · iexact HA
    isplitl [HB]; · iexists _; iexact HB
    isplitl [Hc0]; · iexact Hc0
    iexact Hc1
  iexists _; iexact HW

set_option maxHeartbeats 16000000 in
/-- The body, its head specified: from the head's own resources `R` and the rest's, to every output written. -/
theorem body_run (R : sProp 𝕄) (B : Ins F) (pk : Vec F S8x448x1024 .bf16) (W1 : Vec F S2560x1024 .bf16)
    (hcut : ∀ K : HeadRet F → sProp 𝕄,
      iprop(R ∗ (iprop(headIns c arg1 arg2 arg3 arg4 B ∗ owns (c : Thread nD τ) arg17 fullShare (B.proj (View.ld W1 rI)) ∗ cleared c arg24 arg25 arg26 ∗ weights c pk W1 ∗ (∃ W', owes (c : Thread nD τ) 0 W')) -∗ K (heads i B (View.ld W1 rI))))
      ⊢ wp frame (wpE (defs₀ (F := F)) Variants.none c none) Set.univ (part7P i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg24 harg24 arg25 harg25 arg26 harg26 arg27 harg27 arg28 harg28) K)
    (K : PUnit → sProp 𝕄) :
    iprop(R ∗ restIns c arg5 arg6 arg7 arg8 arg9 arg10 arg11 arg12 arg13 arg14 arg15 B ∗ restAny c arg18 arg19 arg20 arg27 arg28
        ∗ (iprop(headIns c arg1 arg2 arg3 arg4 B ∗ restIns c arg5 arg6 arg7 arg8 arg9 arg10 arg11 arg12 arg13 arg14 arg15 B ∗ owns (c : Thread nD τ) arg17 fullShare (B.proj (View.ld W1 rI)) ∗ cleared c arg24 arg25 arg26 ∗ restAny c arg18 arg19 arg20 arg27 arg28 ∗ weights c pk W1 ∗ (∃ W', owes (c : Thread nD τ) 0 W')) -∗ K ⟨⟩))
      ⊢ wp frame (wpE (defs₀ (F := F)) Variants.none c none) Set.univ (bodyP i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg24 harg24 arg25 harg25 arg26 harg26 arg27 harg27 arg28 harg28) K := by
  rcases B with ⟨b1, b2, b3, b4, b5, b6, b7, b8, b9, b10, b11, b12, b13, b14, b15⟩
  unfold bodyP
  simp only [cc0_mixer_fwd_eq_skeleton]; unfold cc0_mixer_fwd_skel
  rw [wp_bind]
  iintro ⟨HR, HI, HO, Hk⟩
  iapply hcut
  isplitl [HR]; · iexact HR
  unfold restIns restAny cleared anyOf
  iintro ⟨Hh, Hproj, HC, ⟨HP, HP', HA, ⟨%fb, HB⟩, Hc0, Hc1⟩, ⟨%W', HW⟩⟩
  unfold owns
  icases HI with ⟨⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩⟩
  icases HO with ⟨⟨%d18, %f18, -, H18⟩, ⟨%d19, %f19, -, H19⟩, ⟨%d20, %f20, -, H20⟩, ⟨%d27, %f27, -, H27⟩, ⟨%d28, %f28, -, H28⟩⟩
  icases HC with ⟨⟨%d24, %f24, -, H24⟩, ⟨%d25, %f25, -, H25⟩, ⟨%d26, %f26, -, H26⟩⟩
  dsimp only at h5 h6 h7 h8 h9 h10 h11 h12 h13 h14 h15
  subst h5 h6 h7 h8 h9 h10 h11 h12 h13 h14 h15
  simp only [k0_part8_eq_skeleton, k0_part8_skel, k0_part9_eq_skeleton, k0_part9_skel, k0_part10_eq_skeleton, k0_part10_skel, k0_part11_eq_skeleton, k0_part11_skel, k0_part12_eq_skeleton, k0_part12_skel]
  sl_exec
  rw [bind_assoc]
  sl_exec
  sl_step
  iapply Hk
  isplitl [Hh]; · iexact Hh
  isplitl [H5 H6 H7 H8 H9 H10 H11 H12 H13 H14 H15]
  · isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    iexists f15; isplitr; · ipureintro; rfl
    iexact H15
  isplitl [Hproj]; · iexact Hproj
  isplitl [H24 H25 H26]
  · isplitl [H24]
    · iexists _; iexists _; isplitr; swap; · iexact H24
      ipureintro; rfl
    isplitl [H25]
    · iexists _; iexists _; isplitr; swap; · iexact H25
      ipureintro; rfl
    iexists _; iexists _; isplitr; swap; · iexact H26
    ipureintro; rfl
  isplitl [H18 H19 H20 H27 H28]
  · isplitl [H18]
    · iexists _; iexists _; isplitr; swap; · iexact H18
      ipureintro; rfl
    isplitl [H19]
    · iexists _; iexists _; isplitr; swap; · iexact H19
      ipureintro; rfl
    isplitl [H20]
    · iexists _; iexists _; isplitr; swap; · iexact H20
      ipureintro; rfl
    isplitl [H27]
    · iexists _; iexists _; isplitr; swap; · iexact H27
      ipureintro; rfl
    iexists _; iexists _; isplitr; swap; · iexact H28
    ipureintro; rfl
  isplitr [HW]
  · isplitl [HP]; · iexact HP
    isplitl [HP']; · iexact HP'
    isplitl [HA]; · iexact HA
    isplitl [HB]; · iexists _; iexact HB
    isplitl [Hc0]; · iexact Hc0
    iexact Hc1
  iexists _; iexact HW

end Body

end Cert.ForeRun
-- ==== Proof.ForeHost.lean ====
/- The host lines of `_mixer_fwd`: the arrays its windows are cut from, and the arguments left as they were. -/
module

public import proofs.«01_k».proof.Proof.ForeRun

@[expose] public section

set_option maxRecDepth 16384

noncomputable section

namespace Cert.ForeHost

open Cert.ForeIdeal Cert.ForeIdeal.Gen
open Idealize.ShloMosaic Idealize.ShloMosaic.TcCoe Idealize.ShloMosaic.Tactic
open Idealize.SL.Sem
open Idealize.ShloMosaic.Pipeline (Cfg)

variable {F : FTy → Type} [FloatOps F]
variable (m : (ℓ : Loc nD τ sig) → Buf (Elt F) ℓ)

/-- The host lines before the region, in their printed pieces. -/
abbrev hostLines : List (List (HloOp τ sig (Elt F))) := [hostOps0, hostOps0_1, hostOps0_2, hostOps0_3, hostOps0_4, hostOps0_5, hostOps0_6, hostOps0_7, hostOps0_8]
/-- A core's buffers as the region finds them. -/
abbrev start (c : Dev nD) : Valuation τ sig (Elt F) := StableHlo.after (List.flatten hostLines) (fun b => m (c, b))
abbrev V (c : Dev nD) (b : Ref sig .tc) : Buf (Elt F) ((c : Thread nD τ).loc b) :=
  start m c b

/-- No line makes a buffer of its own. -/
theorem lines_fresh : (hostLines (F := F)).Forall fun l => l.Forall fun op => op.fresh = ∅ := by
  simp only [List.Forall]; repeat' constructor

set_option maxHeartbeats 1600000 in
theorem host_lines (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    lines_fresh main_chain

/-! ## The arguments -/

def argRefs : List (Ref sig .tc) := [main_arg0, main_arg1, main_arg2, main_arg3, main_arg4, main_arg5, main_arg6, main_arg7, main_arg8, main_arg9, main_arg10, main_arg11, main_arg12, main_arg13, main_arg14, main_arg15]

theorem not_arg {b v : Ref sig .tc} (hb : b ∈ argRefs) (hv : v ∉ argRefs) : (Proc.devRef .tc b : DevRef τ sig) ≠ Proc.devRef .tc v :=
  StableHlo.devRef_ne_of_ne fun e => hv (e ▸ hb)

set_option maxHeartbeats 6400000 in
/-- No host line writes an argument. -/
theorem lines_keep (b : Ref sig .tc) (hb : b ∈ argRefs) : (hostLines (F := F)).Forall fun l => l.Forall fun op => Proc.devRef .tc b ∉ op.writes := by
  simp only [hostOps0, hostOps0_1, hostOps0_2, hostOps0_3, hostOps0_4, hostOps0_5, hostOps0_6, hostOps0_7, hostOps0_8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact not_arg hb (by decide)

theorem V_arg (c : Dev nD) (b : Ref sig .tc) (hb : b ∈ argRefs) : V m c b = m ((c : Thread nD τ).loc b) :=
  StableHlo.after_of_forall_not_mem (b := Proc.devRef .tc b) _ _ fun op hop => by
    obtain ⟨l, hl, ho⟩ := List.mem_flatten.1 hop
    exact List.forall_iff_forall_mem.1 (List.forall_iff_forall_mem.1 (lines_keep b hb) l hl) op ho

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.ForeHost

end
-- ==== Proof.ForeFrame.lean ====
/- `_mixer_fwd` over its grid: the frame of the run, and what the projection's window holds after each point. -/
module

public import proofs.«01_k».proof.Proof.ForeHost

@[expose] public section

noncomputable section

namespace Cert.ForeFrame

open Cert.ForeIdeal Cert.ForeIdeal.Gen Cert.ForeRun Cert.ForeHost
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body holds beside its windows -/

/-- The two counters of the weights' copies, and the pack they read. -/
abbrev osem0 : Fin 2 → SemLoc sig := fun j => (![SemLoc.dma 24, SemLoc.dma 25] : Fin 2 → SemLoc sig) j
theorem ownSemFacts0 : Pipeline.OwnSemFacts spec0 osem0 := by decide
def H0 : Finset (Ref sig .tc) := {main_v56}
theorem H0_sub : H0 ⊆ Pipeline.restRefs sig spec0 := by
  intro b hb
  rw [Finset.mem_singleton.1 hb]
  exact Pipeline.mem_restRefs_of main_v56 (by decide) (by decide)

theorem counters_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 24) 0 ∗ semVal ((c : Thread nD τ), SemLoc.dma 25) 0) := by
  rw [Pipeline.ownSems0_eq_of_list c osem0 [0, 1] (by decide) (by decide)]; rfl

theorem pack_eq (c : Dev nD) :
    (bigSep H0 (fun b => ((c : Thread nD τ).loc b) ↦{fullShare} V m c b) : sProp 𝕄) = heldW c wpM (V m c main_v56) := by
  rw [BI.bigSep_eq_bigSepL_of_eq [main_v56] (by decide) (by decide)]; rfl

/-- The scratch buffers beside the resident weights, at anything. -/
abbrev scratch (c : Dev nD) : sProp 𝕄 :=
  iprop(anyOf c (Memref.whole cc0_scratch3) ∗ anyOf c (Memref.whole cc0_scratch4) ∗ anyOf c (Memref.whole cc0_scratch5) ∗ anyOf c (Memref.whole cc0_scratch6) ∗ anyOf c (Memref.whole cc0_scratch7))

theorem rest_eq (c : Dev nD) :
    (Pipeline.ΦD osem0 spec0 H0 (V m) c : sProp 𝕄)
      = iprop(iprop((∃ f, heldW c wiM f) ∗ (∃ f, heldW c woM f) ∗ scratch c) ∗ (∃ r, prngReg c r)
          ∗ iprop(semVal ((c : Thread nD τ), SemLoc.dma 24) 0 ∗ semVal ((c : Thread nD τ), SemLoc.dma 25) 0)
          ∗ heldW c wpM (V m c main_v56)) := by
  rw [Pipeline.ΦD_eq, scopedRest0_eq, counters_eq, pack_eq]
  simp only [scratch, anyOf, owns_whole]

/-! ## The proof's data -/

/-- What the body reads at a point. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

/-- The projection's block at a point. -/
def projAt (c : Dev nD) (t : Fin cfg0.N) : FVec F S256x2560 .f32 := (insAt m c t).proj (View.ld (winOf (V m c main_v56)) rI)

/-- The weights between two points: from the second on the resident input weight holds the pack's rows. -/
abbrev filled (c : Dev nD) (n : ℕ) : sProp 𝕄 :=
  iprop(∃ g1, ⌜n ≠ 0 → g1 = winOf (V m c main_v56)⌝ ∗ weights c (V m c main_v56) g1)
/-- Between two points: the weights, and the scratch buffers at anything. -/
def between (c : Dev nD) (t : Fin (cfg0.N + 1)) : sProp 𝕄 :=
  iprop(filled m c t.val ∗ scratch c ∗ (∃ r, prngReg c r))

/-- What the body may leave in each window at a point, of what it found there. -/
def rdat (c : Dev nD) : RDat τ (Elt F) Unit ℕ (Pipeline.UD sig nD τ) ℕ cfg0 c where
  A w := V m c (Pipeline.arrRef spec0 w)
  after w t := fun Y X => ((cfg0.win w).isOut = false → X = Y) ∧ (w = 15 → HEq X (projAt m c t))
  Φ t := between m c t
  q _ := fullShare
  owed _ := 0

theorem A_eq (c : Dev nD) (w : Fin cfg0.W) : (rdat m c).A w = V m c (Pipeline.arrRef spec0 w) := by
  dsimp only [rdat]

/-- An input is left as found; an output at anything but the one named. -/
theorem after_in (c : Dev nD) (w : Fin cfg0.W) (t : Fin cfg0.N) (hin : (cfg0.win w).isOut = false) (Y) : (rdat m c).after w t Y Y := by
  refine ⟨fun _ => rfl, ?_⟩
  rintro rfl; exact absurd (show true = false from hin) (by decide)
theorem after_out (c : Dev nD) (w : Fin cfg0.W) (t : Fin cfg0.N) (hout : (cfg0.win w).isOut = true) (h : w ≠ 15) (Y X) :
    (rdat m c).after w t Y X :=
  ⟨fun h' => absurd (h'.symm.trans hout) (by decide), fun h' => absurd h' h⟩
theorem after_proj (c : Dev nD) (t : Fin cfg0.N) (Y) : (rdat m c).after 15 t Y (projAt m c t) :=
  ⟨fun h => absurd (show true = false from h) (by decide), fun _ => HEq.rfl⟩

theorem kept (c : Dev nD) (w : Fin cfg0.W) (hin : (cfg0.win w).isOut = false) (t Y X) (h : (rdat m c).after w t Y X) : X = Y := h.1 hin

theorem finds_0 (c : Dev nD) (t : Fin cfg0.N) (Y) (h : (rdat m c).Finds 0 t Y) : Y = (insAt m c t).x :=
  ((rdat m c).finds_in_eq_fetched 0 rfl (fun _ _ _ => rfl) (kept m c 0 rfl) t Y h).elim fun d e =>
    e.trans (by unfold RDat.fetched RDat.blockOf insAt iblk; dsimp only; rw [A_eq]; rfl)
theorem finds_1 (c : Dev nD) (t : Fin cfg0.N) (Y) (h : (rdat m c).Finds 1 t Y) : Y = (insAt m c t).mod :=
  ((rdat m c).finds_in_eq_fetched 1 rfl (fun _ _ _ => rfl) (kept m c 1 rfl) t Y h).elim fun d e =>
    e.trans (by unfold RDat.fetched RDat.blockOf insAt iblk; dsimp only; rw [A_eq]; rfl)
theorem finds_2 (c : Dev nD) (t : Fin cfg0.N) (Y) (h : (rdat m c).Finds 2 t Y) : Y = (insAt m c t).ada :=
  ((rdat m c).finds_in_eq_fetched 2 rfl (fun _ _ _ => rfl) (kept m c 2 rfl) t Y h).elim fun d e =>
    e.trans (by unfold RDat.fetched RDat.blockOf insAt iblk; dsimp only; rw [A_eq]; rfl)
theorem finds_3 (c : Dev nD) (t : Fin cfg0.N) (Y) (h : (rdat m c).Finds 3 t Y) : Y = (insAt m c t).g1 :=
  ((rdat m c).finds_in_eq_fetched 3 rfl (fun _ _ _ => rfl) (kept m c 3 rfl) t Y h).elim fun d e =>
    e.trans (by unfold RDat.fetched RDat.blockOf insAt iblk; dsimp only; rw [A_eq]; rfl)
theorem finds_4 (c : Dev nD) (t : Fin cfg0.N) (Y) (h : (rdat m c).Finds 4 t Y) : Y = (insAt m c t).wl :=
  ((rdat m c).finds_in_eq_fetched 4 rfl (fun _ _ _ => rfl) (kept m c 4 rfl) t Y h).elim fun d e =>
    e.trans (by unfold RDat.fetched RDat.blockOf insAt iblk; dsimp only; rw [A_eq]; rfl)
theorem finds_5 (c : Dev nD) (t : Fin cfg0.N) (Y) (h : (rdat m c).Finds 5 t Y) : Y = (insAt m c t).bl :=
  ((rdat m c).finds_in_eq_fetched 5 rfl (fun _ _ _ => rfl) (kept m c 5 rfl) t Y h).elim fun d e =>
    e.trans (by unfold RDat.fetched RDat.blockOf insAt iblk; dsimp only; rw [A_eq]; rfl)
theorem finds_6 (c : Dev nD) (t : Fin cfg0.N) (Y) (h : (rdat m c).Finds 6 t Y) : Y = (insAt m c t).bda :=
  ((rdat m c).finds_in_eq_fetched 6 rfl (fun _ _ _ => rfl) (kept m c 6 rfl) t Y h).elim fun d e =>
    e.trans (by unfold RDat.fetched RDat.blockOf insAt iblk; dsimp only; rw [A_eq]; rfl)
theorem finds_7 (c : Dev nD) (t : Fin cfg0.N) (Y) (h : (rdat m c).Finds 7 t Y) : Y = (insAt m c t).bdx :=
  ((rdat m c).finds_in_eq_fetched 7 rfl (fun _ _ _ => rfl) (kept m c 7 rfl) t Y h).elim fun d e =>
    e.trans (by unfold RDat.fetched RDat.blockOf insAt iblk; dsimp only; rw [A_eq]; rfl)
theorem finds_8 (c : Dev nD) (t : Fin cfg0.N) (Y) (h : (rdat m c).Finds 8 t Y) : Y = (insAt m c t).ba :=
  ((rdat m c).finds_in_eq_fetched 8 rfl (fun _ _ _ => rfl) (kept m c 8 rfl) t Y h).elim fun d e =>
    e.trans (by unfold RDat.fetched RDat.blockOf insAt iblk; dsimp only; rw [A_eq]; rfl)
theorem finds_9 (c : Dev nD) (t : Fin cfg0.N) (Y) (h : (rdat m c).Finds 9 t Y) : Y = (insAt m c t).bx :=
  ((rdat m c).finds_in_eq_fetched 9 rfl (fun _ _ _ => rfl) (kept m c 9 rfl) t Y h).elim fun d e =>
    e.trans (by unfold RDat.fetched RDat.blockOf insAt iblk; dsimp only; rw [A_eq]; rfl)
theorem finds_10 (c : Dev nD) (t : Fin cfg0.N) (Y) (h : (rdat m c).Finds 10 t Y) : Y = (insAt m c t).ap :=
  ((rdat m c).finds_in_eq_fetched 10 rfl (fun _ _ _ => rfl) (kept m c 10 rfl) t Y h).elim fun d e =>
    e.trans (by unfold RDat.fetched RDat.blockOf insAt iblk; dsimp only; rw [A_eq]; rfl)
theorem finds_11 (c : Dev nD) (t : Fin cfg0.N) (Y) (h : (rdat m c).Finds 11 t Y) : Y = (insAt m c t).ws :=
  ((rdat m c).finds_in_eq_fetched 11 rfl (fun _ _ _ => rfl) (kept m c 11 rfl) t Y h).elim fun d e =>
    e.trans (by unfold RDat.fetched RDat.blockOf insAt iblk; dsimp only; rw [A_eq]; rfl)
theorem finds_12 (c : Dev nD) (t : Fin cfg0.N) (Y) (h : (rdat m c).Finds 12 t Y) : Y = (insAt m c t).gl :=
  ((rdat m c).finds_in_eq_fetched 12 rfl (fun _ _ _ => rfl) (kept m c 12 rfl) t Y h).elim fun d e =>
    e.trans (by unfold RDat.fetched RDat.blockOf insAt iblk; dsimp only; rw [A_eq]; rfl)
theorem finds_13 (c : Dev nD) (t : Fin cfg0.N) (Y) (h : (rdat m c).Finds 13 t Y) : Y = (insAt m c t).gc :=
  ((rdat m c).finds_in_eq_fetched 13 rfl (fun _ _ _ => rfl) (kept m c 13 rfl) t Y h).elim fun d e =>
    e.trans (by unfold RDat.fetched RDat.blockOf insAt iblk; dsimp only; rw [A_eq]; rfl)
theorem finds_14 (c : Dev nD) (t : Fin cfg0.N) (Y) (h : (rdat m c).Finds 14 t Y) : Y = (insAt m c t).avg :=
  ((rdat m c).finds_in_eq_fetched 14 rfl (fun _ _ _ => rfl) (kept m c 14 rfl) t Y h).elim fun d e =>
    e.trans (by unfold RDat.fetched RDat.blockOf insAt iblk; dsimp only; rw [A_eq]; rfl)

/-- A window's staging left at contents the proof's data allow. -/
theorem leaves (c : Dev nD) (w : Fin cfg0.W) (t : Fin cfg0.N) (Y X : (cfg0.win w).block.Idx → Elt F (cfg0.win w).elt) (h : (rdat m c).after w t Y X) :
    (owns (c : Thread nD τ) ((cfg0.win w).stage (cfg0.slots t w)) fullShare X : sProp 𝕄)
      ⊢ iprop(∃ X, ⌜(rdat m c).after w t Y X⌝ ∗ owns (c : Thread nD τ) ((cfg0.win w).stage (cfg0.slots t w)) fullShare X) := by
  iintro H
  iexists X; isplitr; swap; · iexact H
  ipureintro; exact h

/-! ## The body at a point -/

def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7)
    ∗ owns (c : Thread nD τ) (st0_8 t) fullShare (Y 8)
    ∗ owns (c : Thread nD τ) (st0_9 t) fullShare (Y 9)
    ∗ owns (c : Thread nD τ) (st0_10 t) fullShare (Y 10)
    ∗ owns (c : Thread nD τ) (st0_11 t) fullShare (Y 11)
    ∗ owns (c : Thread nD τ) (st0_12 t) fullShare (Y 12)
    ∗ owns (c : Thread nD τ) (st0_13 t) fullShare (Y 13)
    ∗ owns (c : Thread nD τ) (st0_14 t) fullShare (Y 14)
    ∗ owns (c : Thread nD τ) (st0_15 t) fullShare (Y 15)
    ∗ owns (c : Thread nD τ) (st0_16 t) fullShare (Y 16)
    ∗ owns (c : Thread nD τ) (st0_17 t) fullShare (Y 17)
    ∗ owns (c : Thread nD τ) (st0_18 t) fullShare (Y 18))
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X)
    ∗ (∃ X, ⌜(rdat m c).after 7 t (Y 7) X⌝ ∗ owns (c : Thread nD τ) (st0_7 t) fullShare X)
    ∗ (∃ X, ⌜(rdat m c).after 8 t (Y 8) X⌝ ∗ owns (c : Thread nD τ) (st0_8 t) fullShare X)
    ∗ (∃ X, ⌜(rdat m c).after 9 t (Y 9) X⌝ ∗ owns (c : Thread nD τ) (st0_9 t) fullShare X)
    ∗ (∃ X, ⌜(rdat m c).after 10 t (Y 10) X⌝ ∗ owns (c : Thread nD τ) (st0_10 t) fullShare X)
    ∗ (∃ X, ⌜(rdat m c).after 11 t (Y 11) X⌝ ∗ owns (c : Thread nD τ) (st0_11 t) fullShare X)
    ∗ (∃ X, ⌜(rdat m c).after 12 t (Y 12) X⌝ ∗ owns (c : Thread nD τ) (st0_12 t) fullShare X)
    ∗ (∃ X, ⌜(rdat m c).after 13 t (Y 13) X⌝ ∗ owns (c : Thread nD τ) (st0_13 t) fullShare X)
    ∗ (∃ X, ⌜(rdat m c).after 14 t (Y 14) X⌝ ∗ owns (c : Thread nD τ) (st0_14 t) fullShare X)
    ∗ (∃ X, ⌜(rdat m c).after 15 t (Y 15) X⌝ ∗ owns (c : Thread nD τ) (st0_15 t) fullShare X)
    ∗ (∃ X, ⌜(rdat m c).after 16 t (Y 16) X⌝ ∗ owns (c : Thread nD τ) (st0_16 t) fullShare X)
    ∗ (∃ X, ⌜(rdat m c).after 17 t (Y 17) X⌝ ∗ owns (c : Thread nD τ) (st0_17 t) fullShare X)
    ∗ (∃ X, ⌜(rdat m c).after 18 t (Y 18) X⌝ ∗ owns (c : Thread nD τ) (st0_18 t) fullShare X))

/-- The first point is the one the body tests for. -/
theorem first_iff : ∀ t : Fin cfg0.N, (Scalar.cmpi .ne (Scalar.extui (Scalar.cmpi .eq (BitVec.ofNat 32 ((grid0.coords t) 0).val) 0#32) : BitVec 32) 0#32 = 1#1) ↔ t.val = 0 :=
  (by decide : ∀ t : Fin grid0.N, (Scalar.cmpi .ne (Scalar.extui (Scalar.cmpi .eq (BitVec.ofNat 32 ((grid0.coords t) 0).val) 0#32) : BitVec 32) 0#32 = 1#1) ↔ t.val = 0)

/-- The parts of what the body holds at a point. -/
abbrev headInsAt (c : Dev nD) (t : Fin cfg0.N) : sProp 𝕄 := headIns c (st0_0 t) (st0_1 t) (st0_2 t) (st0_3 t) (insAt m c t)
abbrev clearedAt (c : Dev nD) : sProp 𝕄 := cleared (F := F) c (Memref.whole cc0_scratch3) (Memref.whole cc0_scratch4) (Memref.whole cc0_scratch5)
abbrev headRes (c : Dev nD) (t : Fin cfg0.N) (W : Waits sig Unit) : sProp 𝕄 :=
  iprop(headInsAt m c t ∗ anyOf c (st0_15 t) ∗ clearedAt c ∗ filled m c t.val ∗ owes (c : Thread nD τ) 0 W)

/-- The head of the body at a point, whichever. -/
theorem head_any (c : Dev nD) (t : Fin cfg0.N) (W : Waits sig Unit) (K : HeadRet F → sProp 𝕄) :
    iprop(headRes m c t W
        ∗ (iprop(headInsAt m c t ∗ owns (c : Thread nD τ) (st0_15 t) fullShare ((insAt m c t).proj (View.ld (winOf (V m c main_v56)) rI)) ∗ clearedAt c ∗ weights c (V m c main_v56) (winOf (V m c main_v56))
            ∗ (∃ W', owes (c : Thread nD τ) 0 W')) -∗ K (heads (grid0.coords t) (insAt m c t) (View.ld (winOf (V m c main_v56)) rI))))
      ⊢ wp frame (wpE (defs₀ (F := F)) Variants.none c none) Set.univ (part7P (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)) K := by
  iintro ⟨⟨HI, HP, HC, ⟨%g1, %hg, HWs⟩, HW⟩, Hk⟩
  by_cases ht : t.val = 0
  · iapply (head_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) ((first_iff t).2 ht) (insAt m c t) (V m c main_v56) g1 W K)
    isplitl [HI]; · iexact HI
    isplitl [HP]; · iexact HP
    isplitl [HC]; · iexact HC
    isplitl [HWs]; · iexact HWs
    isplitl [HW]; · iexact HW
    iexact Hk
  · obtain rfl := hg ht
    iapply (head_later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun h => ht ((first_iff t).1 h)) (insAt m c t) (V m c main_v56) (winOf (V m c main_v56)) W K)
    isplitl [HI]; · iexact HI
    isplitl [HP]; · iexact HP
    isplitl [HC]; · iexact HC
    isplitl [HWs]; · iexact HWs
    isplitl [HW]; · iexact HW
    iexact Hk

set_option maxHeartbeats 4000000 in
theorem sound_body (c : Dev nD) (t : Fin cfg0.N) (Y : (w : Fin cfg0.W) → (cfg0.win w).block.Idx → Elt F (cfg0.win w).elt) (hY : ∀ w, (rdat m c).Finds w t (Y w)) :
    bodyPre m c t Y ⊢ wp frame (wpE (defs₀ (F := F)) Variants.none c none) Set.univ (bodyAt0 t) (fun _ => bodyPost m c t Y) := by
  unfold bodyPre bodyPost
  rw [show (rdat m c).Φ t.succ = between m c t.succ from rfl, show (rdat m c).Φ t.castSucc = between m c t.castSucc from rfl]
  unfold RDat.owesAt Pipeline.owesWithin between
  rw [show (rdat m c).owed t.castSucc = 0 from rfl, show (rdat m c).owed t.succ = 0 from rfl]
  rw [finds_0 m c t _ (hY 0), finds_1 m c t _ (hY 1), finds_2 m c t _ (hY 2), finds_3 m c t _ (hY 3), finds_4 m c t _ (hY 4), finds_5 m c t _ (hY 5), finds_6 m c t _ (hY 6), finds_7 m c t _ (hY 7), finds_8 m c t _ (hY 8), finds_9 m c t _ (hY 9), finds_10 m c t _ (hY 10), finds_11 m c t _ (hY 11), finds_12 m c t _ (hY 12), finds_13 m c t _ (hY 13), finds_14 m c t _ (hY 14)]
  iintro ⟨⟨HWs, ⟨S3, S4, S5, S6, S7⟩, Hg⟩, ⟨%W, -, HW⟩, H0, H1, H2, H3, H4, H5, H6, H7, H8, H9, H10, H11, H12, H13, H14, H15, H16, H17, H18⟩
  iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (headRes m c t W) (insAt m c t) (V m c main_v56) (winOf (V m c main_v56)) (head_any m c t W) _)
  isplitl [HWs HW H0 H1 H2 H3 H15 S3 S4 S5]
  · isplitl [H0 H1 H2 H3]
    · isplitl [H0]; · iexact H0
      isplitl [H1]; · iexact H1
      isplitl [H2]; · iexact H2
      iexact H3
    isplitl [H15]; · iexists _; iexact H15
    isplitl [S3 S4 S5]
    · isplitl [S3]; · iexact S3
      isplitl [S4]; · iexact S4
      iexact S5
    isplitl [HWs]; · iexact HWs
    iexact HW
  isplitl [H4 H5 H6 H7 H8 H9 H10 H11 H12 H13 H14]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H16 H17 H18 S6 S7]
  · isplitl [H16]; · iexists _; iexact H16
    isplitl [H17]; · iexists _; iexact H17
    isplitl [H18]; · iexists _; iexact H18
    isplitl [S6]; · iexact S6
    iexact S7
  iintro ⟨⟨H0, H1, H2, H3⟩, ⟨H4, H5, H6, H7, H8, H9, H10, H11, H12, H13, H14⟩, H15, ⟨S3, S4, S5⟩, ⟨⟨%d16, H16⟩, ⟨%d17, H17⟩, ⟨%d18, H18⟩, S6, S7⟩, HWs, ⟨%W', HW'⟩⟩
  isplitl [HWs Hg S3 S4 S5 S6 S7]
  · isplitl [HWs]
    · iexists _; isplitr; swap; · iexact HWs
      ipureintro; exact fun _ => rfl
    isplitr [Hg]
    · isplitl [S3]; · iexact S3
      isplitl [S4]; · iexact S4
      isplitl [S5]; · iexact S5
      isplitl [S6]; · iexact S6
      iexact S7
    iexact Hg
  isplitl [HW']
  · iexists W'; isplitr; · ipureintro; exact fun _ _ => Or.inl trivial
    iexact HW'
  isplitl [H0]; · iapply (leaves m c 0 t _ _ (after_in m c 0 t rfl _)); iexact H0
  isplitl [H1]; · iapply (leaves m c 1 t _ _ (after_in m c 1 t rfl _)); iexact H1
  isplitl [H2]; · iapply (leaves m c 2 t _ _ (after_in m c 2 t rfl _)); iexact H2
  isplitl [H3]; · iapply (leaves m c 3 t _ _ (after_in m c 3 t rfl _)); iexact H3
  isplitl [H4]; · iapply (leaves m c 4 t _ _ (after_in m c 4 t rfl _)); iexact H4
  isplitl [H5]; · iapply (leaves m c 5 t _ _ (after_in m c 5 t rfl _)); iexact H5
  isplitl [H6]; · iapply (leaves m c 6 t _ _ (after_in m c 6 t rfl _)); iexact H6
  isplitl [H7]; · iapply (leaves m c 7 t _ _ (after_in m c 7 t rfl _)); iexact H7
  isplitl [H8]; · iapply (leaves m c 8 t _ _ (after_in m c 8 t rfl _)); iexact H8
  isplitl [H9]; · iapply (leaves m c 9 t _ _ (after_in m c 9 t rfl _)); iexact H9
  isplitl [H10]; · iapply (leaves m c 10 t _ _ (after_in m c 10 t rfl _)); iexact H10
  isplitl [H11]; · iapply (leaves m c 11 t _ _ (after_in m c 11 t rfl _)); iexact H11
  isplitl [H12]; · iapply (leaves m c 12 t _ _ (after_in m c 12 t rfl _)); iexact H12
  isplitl [H13]; · iapply (leaves m c 13 t _ _ (after_in m c 13 t rfl _)); iexact H13
  isplitl [H14]; · iapply (leaves m c 14 t _ _ (after_in m c 14 t rfl _)); iexact H14
  isplitl [H15]; · iapply (leaves m c 15 t _ _ (after_proj m c t _)); iexact H15
  isplitl [H16]; · iapply (leaves m c 16 t _ _ (after_out m c 16 t rfl (by decide) _ _)); iexact H16
  isplitl [H17]; · iapply (leaves m c 17 t _ _ (after_out m c 17 t rfl (by decide) _ _)); iexact H17
  iapply (leaves m c 18 t _ _ (after_out m c 18 t rfl (by decide) _ _)); iexact H18

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-! ## The run and the frame -/

theorem enter (c : Dev nD) : (Pipeline.ΦD osem0 spec0 H0 (V m) c : sProp 𝕄) ⊢ (rdat m c).Φ 0 := by
  rw [rest_eq, show (rdat m c).Φ 0 = between m c 0 from rfl]; unfold between
  iintro ⟨⟨⟨%f1, H1⟩, H2, HS⟩, Hg, ⟨Hc0, Hc1⟩, HP⟩
  ihave HP := (pointsTo_share (PosShare.mem_left_op_right fullShare)).1 $$ HP
  icases HP with ⟨HP, HP'⟩
  isplitr [HS Hg]
  · iexists f1
    isplitr; · ipureintro; exact fun h => absurd rfl h
    isplitl [HP]; · iexact HP
    isplitl [HP']; · iexact HP'
    isplitl [H1]; · iexact H1
    isplitl [H2]; · iexact H2
    isplitl [Hc0]; · iexact Hc0
    iexact Hc1
  isplitl [HS]; · iexact HS
  iexact Hg

theorem leave (c : Dev nD) : (rdat m c).Φ (Fin.last cfg0.N) ⊢ (Pipeline.ΦD osem0 spec0 H0 (V m) c : sProp 𝕄) := by
  rw [rest_eq, show (rdat m c).Φ (Fin.last cfg0.N) = between m c (Fin.last cfg0.N) from rfl]; unfold between
  iintro ⟨⟨%f1, -, HP, HP', H1, H2, Hc0, Hc1⟩, HS, Hg⟩
  isplitl [H1 H2 HS]
  · isplitl [H1]; · iexists f1; iexact H1
    isplitl [H2]; · iexact H2
    iexact HS
  isplitl [Hg]; · iexact Hg
  isplitl [Hc0 Hc1]
  · isplitl [Hc0]; · iexact Hc0
    iexact Hc1
  iapply (pointsTo_share (PosShare.mem_left_op_right fullShare)).2
  isplitl [HP]; · iexact HP
  iexact HP'

set_option backward.isDefEq.respectTransparency.types false in
theorem run_main : θ_run defs (onTc (τ := τ) (main (F := F))) (s₀ m ρ) (fun r => RDat.FramePost cfg0 (rdat m) (V m) r ∧ r.2.sem = fun _ => 0) :=
  RDat.θ_run_frame_dma (Q' := _) cfgs (0 : Fin 1) launch0 osem0 defs₀ Variants.none (rdat m) ownSemFacts0 H0 H0_sub m ρ main
    (fun c => body_obligation m c) (fun c w => (rdat m c).share_full (fun _ => rfl) w) (fun _ _ => rfl) (V m) (host_lines m Variants.none) (A_eq m)
    (fun c => enter m c) (fun c => leave m c) (fun _ h => h)

theorem input_kept (r : PUnit × MemSt nD τ sig (Elt F)) (h : RDat.FramePost cfg0 (rdat m) (V m) r) (c : Dev nD) (w : Fin cfg0.W) (hin : (cfg0.win w).isOut = false) :
    r.2.mem ((cfg0.win w).arr.view.loc (c.tc : Thread nD τ)) = V m c (Pipeline.arrRef spec0 w) := by
  have h1 := (h c).1 w
  rw [(rdat m c).ArrAt_in w hin] at h1
  exact h1.trans (A_eq m c w)
/-- An argument no window is cut from. -/
theorem beside_kept (r : PUnit × MemSt nD τ sig (Elt F)) (h : RDat.FramePost cfg0 (rdat m) (V m) r) (c : Dev nD) (b : Ref sig .tc) (hb : b ∈ argRefs)
    (hr : b ∈ Pipeline.restRefs sig spec0) : r.2.mem ((c.tc : Thread nD τ).loc b) = m ((c.tc : Thread nD τ).loc b) :=
  ((h c).2 b hr).trans (V_arg m c b hb)

/-- The arguments end as they were. -/
theorem args_kept (r : PUnit × MemSt nD τ sig (Elt F)) (h : RDat.FramePost cfg0 (rdat m) (V m) r) (c : Dev nD) :
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) :=
  ⟨beside_kept m r h c main_arg0 (by decide) (Pipeline.mem_restRefs_of main_arg0 (by decide) (show ∀ w : Fin 19, (spec0 w).arr.view.ref ≠ main_arg0 by decide)),
    beside_kept m r h c main_arg1 (by decide) (Pipeline.mem_restRefs_of main_arg1 (by decide) (show ∀ w : Fin 19, (spec0 w).arr.view.ref ≠ main_arg1 by decide)),
    beside_kept m r h c main_arg2 (by decide) (Pipeline.mem_restRefs_of main_arg2 (by decide) (show ∀ w : Fin 19, (spec0 w).arr.view.ref ≠ main_arg2 by decide)),
    (input_kept m r h c 3 rfl).trans (V_arg m c main_arg3 (by decide)),
    beside_kept m r h c main_arg4 (by decide) (Pipeline.mem_restRefs_of main_arg4 (by decide) (show ∀ w : Fin 19, (spec0 w).arr.view.ref ≠ main_arg4 by decide)),
    beside_kept m r h c main_arg5 (by decide) (Pipeline.mem_restRefs_of main_arg5 (by decide) (show ∀ w : Fin 19, (spec0 w).arr.view.ref ≠ main_arg5 by decide)),
    (input_kept m r h c 5 rfl).trans (V_arg m c main_arg6 (by decide)),
    beside_kept m r h c main_arg7 (by decide) (Pipeline.mem_restRefs_of main_arg7 (by decide) (show ∀ w : Fin 19, (spec0 w).arr.view.ref ≠ main_arg7 by decide)),
    (input_kept m r h c 8 rfl).trans (V_arg m c main_arg8 (by decide)),
    beside_kept m r h c main_arg9 (by decide) (Pipeline.mem_restRefs_of main_arg9 (by decide) (show ∀ w : Fin 19, (spec0 w).arr.view.ref ≠ main_arg9 by decide)),
    (input_kept m r h c 9 rfl).trans (V_arg m c main_arg10 (by decide)),
    (input_kept m r h c 10 rfl).trans (V_arg m c main_arg11 (by decide)),
    beside_kept m r h c main_arg12 (by decide) (Pipeline.mem_restRefs_of main_arg12 (by decide) (show ∀ w : Fin 19, (spec0 w).arr.view.ref ≠ main_arg12 by decide)),
    (input_kept m r h c 12 rfl).trans (V_arg m c main_arg13 (by decide)),
    (input_kept m r h c 13 rfl).trans (V_arg m c main_arg14 (by decide)),
    beside_kept m r h c main_arg15 (by decide) (Pipeline.mem_restRefs_of main_arg15 (by decide) (show ∀ w : Fin 19, (spec0 w).arr.view.ref ≠ main_arg15 by decide))⟩

/-- THE FRAME, at any floats: it ends without a fault, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15))
      ∧ r.2.sem = fun _ => 0) :=
  (θ_run defs _ _).mono (fun r h => ⟨args_kept m r h.1, h.2⟩) (run_main m ρ)

end Cert.ForeFrame

end
-- ==== Proof.ForeRef.lean ====
/- The normed rows of a layer's input and their projection as plain functions of rows and columns over the extended reals, and
   the reference of the projection read at an index: it is that function. -/
module

public import proofs.«01_k».proof.Proof.MlpSpec
public import proofs.«01_k».proof.Proof.Gen.ForeRefIdeal.Run
public import proofs.«01_k».proof.Proof.Gen.ForeRefIdeal.Read

@[expose] public section

set_option maxRecDepth 16384

noncomputable section

namespace Cert.ForeRef

open Idealize.ShloMosaic Idealize.ShloMosaic.ValueIdx Idealize.ShloMosaic.TcCoe Cert.Reals
open Cert.MlpSpec hiding Args
open Cert.ForeRefIdeal Cert.ForeRefIdeal.Gen Cert.ForeRefIdeal.Read
open scoped BigOperators

/-- What the projection is made of: the layer's input by row and column, the modulation's rows with the layer's own table added,
    the norm's gain, and the weight. -/
structure Args where
  x : Fin 2048 → Fin 1024 → EReal
  md : Fin 6 → Fin 1024 → EReal
  g1 : Fin 1024 → EReal
  w : Fin 1024 → Fin 2560 → EReal

namespace Args
variable (A : Args)

/-- The normed and modulated row. -/
def h (s : Fin 2048) (j : Fin 1024) : EReal := A.x s j * rs (A.x s) * A.g1 j * (((1 : ℝ) : EReal) + A.md 1 j) + A.md 0 j
/-- Its product with the weight. -/
def proj (s : Fin 2048) (k : Fin 2560) : EReal := ∑ j, A.h s j * A.w j k

end Args

variable (x0 : FVec Ideal S1x2048x1024 .f32) (x1 x2 : FVec Ideal S1x6144 .f32) (x3 : FVec Ideal S1x1024 .f32) (x4 : FVec Ideal S1x1024x2560 .f32)

/-- The arguments by row and column. -/
def args : Args where
  x s j := x0 (ix3 0 s j)
  md k j := x1 (ix2 0 ⟨k.val * 1024 + j.val, by omega⟩) + x2 (ix2 0 ⟨k.val * 1024 + j.val, by omega⟩)
  g1 j := x3 (ix2 0 j)
  w j k := x4 (ix3 0 j k)

local notation "𝔸" => args x0 x1 x2 x3 x4

theorem at_row (i : S1x2048x1024.Idx) : x0 i = x0 (ix3 0 (i 1) (i 2)) :=
  congrArg x0 (funext fun a => Fin.ext (by
    have h0 : (i 0).val < 1 := (i 0).isLt
    match a with
    | ⟨0, _⟩ => show (i 0).val = 0; omega
    | ⟨1, _⟩ => rfl
    | ⟨2, _⟩ => rfl))

theorem md_at (k : Fin 6) (i : S1x1x6144.Idx) (j : Fin 1024) (h : (i 2).val = k.val * 1024 + j.val) :
    val_main_v3 (F := Ideal) x1 x2 i = (𝔸).md k j := by
  have hk := k.isLt
  rw [val_main_v3_apply, val_main_v2_apply, val_main_v1_apply, val_main_v0_apply]
  refine congrArg₂ (· + ·) (congrArg x1 (funext fun a => Fin.ext ?_)) (congrArg x2 (funext fun a => Fin.ext ?_))
  · match a with
    | ⟨0, _⟩ => rfl
    | ⟨1, _⟩ => exact h
  · match a with
    | ⟨0, _⟩ => rfl
    | ⟨1, _⟩ => show (i 2).val % 6144 = k.val * 1024 + j.val; omega

theorem r4 (i : S1x1x1024.Idx) : val_main_v4 (F := Ideal) x1 x2 i = (𝔸).md 0 (i 2) := by
  rw [val_main_v4_apply]
  exact md_at x0 x1 x2 x3 x4 0 _ (i 2) (by show (i 2).val = 0 * 1024 + (i 2).val; omega)
theorem r5 (i : S1x1x1024.Idx) : val_main_v5 (F := Ideal) x1 x2 i = (𝔸).md 1 (i 2) := by
  rw [val_main_v5_apply]
  exact md_at x0 x1 x2 x3 x4 1 _ (i 2) (by show 1024 + (i 2).val = 1 * 1024 + (i 2).val; omega)

theorem r21 (i : S1x1x1024.Idx) : val_main_v21 (F := Ideal) x3 i = (𝔸).g1 (i 2) := by
  have h2 : (i 2).val < 1024 := (i 2).isLt
  rw [val_main_v21_apply, val_main_v10_apply]
  exact congrArg x3 (funext fun a => Fin.ext (by
    match a with
    | ⟨0, _⟩ => rfl
    | ⟨1, _⟩ => show (i 2).val % 1024 = (i 2).val; omega))

theorem r29 (i : S1x2048x1024.Idx) : val_main_v29 (F := Ideal) x0 x1 x2 x3 i = (𝔸).h (i 1) (i 2) := by
  rw [val_main_v29_apply, val_main_v27_apply, val_main_v28_apply, val_main_v26_apply, val_main_v25_apply, val_main_v24_apply, val_main_v23_apply,
    val_main_v22_apply, val_main_v20_apply, val_main_v19_apply, val_main_v18_apply, val_main_v17_apply, val_main_v16_apply, val_main_v15_apply,
    val_main_v14_apply, val_main_v13_apply, val_main_v12_apply, r21 x0 x1 x2 x3 x4, r4 x0 x1 x2 x3 x4, r5 x0 x1 x2 x3 x4]
  simp only [val_main_v11_apply]
  show x0 i * Ideal.rsqrt (Ideal.div (Ideal.ofBits .f32 0x00000000#32 + ∑ k, x0 _ * x0 _) (Ideal.ofBits .f32 0x44800000#32)
    + Ideal.ofBits .f32 0x358637BD#32) * _ * (Ideal.ofBits .f32 0x3F800000#32 + _) + _ = _
  rw [ofBits_zero, zero_add, bits_1024, bits_one, at_row x0 i]
  simp only [at_row x0 (idx_main_v12 _ _)]
  rfl

theorem r30 (i : S1024x2560.Idx) : val_main_v30 (F := Ideal) x4 i = (𝔸).w (i 0) (i 1) := by
  have h0 : (i 0).val < 1024 := (i 0).isLt
  have h1 : (i 1).val < 2560 := (i 1).isLt
  rw [val_main_v30_apply]
  exact congrArg x4 (funext fun a => Fin.ext (by
    match a with
    | ⟨0, _⟩ => rfl
    | ⟨1, _⟩ => show ((i 0).val * 2560 + (i 1).val) / 2560 % 1024 = (i 0).val; omega
    | ⟨2, _⟩ => show ((i 0).val * 2560 + (i 1).val) % 2560 = (i 1).val; omega))

theorem v32_eq : val_main_v32 (F := Ideal) x0 x1 x2 x3 x4 = fun i => (𝔸).proj (i 0) (i 1) := by
  funext i
  have h0 : (i 0).val < 2048 := (i 0).isLt
  have h1 : (i 1).val < 2560 := (i 1).isLt
  rw [val_main_v32_apply, val_main_v31_apply]
  refine Finset.sum_congr rfl fun j _ => ?_
  rw [r29 x0 x1 x2 x3 x4, r30 x0 x1 x2 x3 x4]
  exact congrArg₂ (· * ·)
    (congrArg₂ (𝔸).h (Fin.ext (by show ((i 0).val * 2560 + (i 1).val) / 2560 % 2048 = (i 0).val; omega)) rfl)
    (congrArg₂ (𝔸).w rfl (Fin.ext (by show ((i 0).val * 2560 + (i 1).val) % 2560 = (i 1).val; omega)))

end Cert.ForeRef

end
-- ==== Proof.ForeBlock.lean ====
/- One block of rows of `_mixer_fwd` read at an index: the projection that the body stores is the function of rows and columns
   that `ForeRef` names. -/
module

public import proofs.«01_k».proof.Proof.ForeRef
public import proofs.«01_k».proof.Proof.ForeRun
public import Idealize.ShloMosaic.Lib.ValueLayoutCasts

@[expose] public section

set_option maxRecDepth 16384

noncomputable section

namespace Cert.ForeBlock

open Idealize.ShloMosaic Idealize.ShloMosaic.ValueIdx Idealize.ShloMosaic.TcCoe Cert.Reals Cert.ForeRef
open Cert.MlpSpec hiding Args
open Cert.ForeIdeal Cert.ForeIdeal.Gen Cert.ForeRun
open scoped BigOperators

/-! ## One block of rows read at an index -/

theorem zz : (![0, 0] : Fin 2 → Nat) = fun _ => 0 := by funext a; match a with | ⟨0, _⟩ => rfl | ⟨1, _⟩ => rfl

/-- A column broadcast over the columns of a block, and a row over its rows. -/
theorem bcol (X : FVec Ideal S256x1 .f32) (r : Fin 256) (j : Fin 1024) :
    broadcastTo S256x1024 X broadcasts_S256x1_S256x1024 (ix2 r j) = X (ix2 r 0) :=
  broadcastTo_apply X _ _ _ fun a => match a with | ⟨0, _⟩ => rfl | ⟨1, _⟩ => rfl
theorem brow (X : FVec Ideal S1x1024 .f32) (r : Fin 256) (j : Fin 1024) :
    broadcastTo S256x1024 X broadcasts_S1x1024_S256x1024 (ix2 r j) = X (ix2 0 j) :=
  broadcastTo_1b_ab_apply (a := 256) (b := 1024) X _ r j

/-- The mean square with ε of each row. -/
theorem ms_row (X : FVec Ideal S256x1024 .f32) (r : Fin 256) :
    addf (divf (shapeCast S256x1 (multiReduction .add [1] S256 (mulf X X) 0x00000000#32 reduces_S256x1024_S256 (.inl rfl) rfl) shapeCasts_S256_S256x1)
      (broadcast S256x1 (Scalar.ofBits (F := Ideal) .f32 0x44800000#32))) (broadcast S256x1 (Scalar.ofBits (F := Ideal) .f32 0x358637BD#32)) (ix2 r 0)
      = ms fun k => X (ix2 r k) := by
  rw [addf_apply, divf_apply, shapeCast_a_a1_apply]
  refine (congrArg (fun q => Ideal.div q (Ideal.ofBits .f32 0x44800000#32) + Ideal.ofBits .f32 0x358637BD#32)
    (Ideal.multiReduction_add_single _ _ _ _ _ _)).trans ?_
  rw [bits_1024]
  refine congrArg (fun q => Ideal.div q ((1024 : ℝ) : EReal) + eps) (Finset.sum_congr rfl fun k _ => ?_)
  refine congrArg (mulf X X) (funext fun a => Fin.ext ?_)
  match a with
  | ⟨0, _⟩ => rfl
  | ⟨1, _⟩ => rfl

/-- The block's operands are the rows `ρ r` of the arguments. -/
structure Matches (B : Ins Ideal) (A : Args) (ρ : Fin 256 → Fin 2048) : Prop where
  x : ∀ (r : Fin 256) (j : Fin 1024), B.x (ix2 r j) = A.x (ρ r) j
  md : ∀ (k : Fin 6) (j : Fin 1024), B.mod (ix2 ⟨k.val, by omega⟩ j) + B.ada (ix2 ⟨k.val, by omega⟩ j) = A.md k j
  g1 : ∀ j : Fin 1024, B.g1 (ix2 0 j) = A.g1 j

theorem md_row {B : Ins Ideal} {A : Args} {ρ : Fin 256 → Fin 2048} (M : Matches B A ρ) (o : ℕ) (ho : o < 6) (h) (j : Fin 1024) :
    extractStridedSlice S1x1024 ![o, 0] (addf (F := Ideal) (s := S8x1024) (φ := .f32) B.mod B.ada) h (ix2 0 j) = A.md ⟨o, ho⟩ j := by
  rw [slice2_axis0_apply o _ h 0 j ⟨o, by omega⟩ rfl]
  exact M.md ⟨o, ho⟩ j

set_option maxHeartbeats 2000000 in
/-- The block the body stores: the normed rows times the weight. -/
theorem proj_apply {B : Ins Ideal} {A : Args} {ρ : Fin 256 → Fin 2048} (M : Matches B A ρ) (w : Vec Ideal S2560x1024 .bf16)
    (hw : ∀ (k : Fin 2560) (j : Fin 1024), w (ix2 k j) = A.w j k) (r : Fin 256) (k : Fin 2560) : B.proj w (ix2 r k) = A.proj (ρ r) k := by
  unfold Ins.proj k0_pay5
  simp only [shapeCast_self]
  refine Eq.trans (Ideal.matmul_transposedRhs_apply (M := 256) (K := 1024) (N := 2560) none _ w (constant (F := Ideal) S256x2560 .f32 0x00000000#32) r k) ?_
  rw [constant_apply, ofBits_zero, zero_add]
  refine Finset.sum_congr rfl fun j _ => congrArg₂ (· * ·) ?_ (hw k j)
  rw [View.ld_unit_zero zz, View.ld_unit_zero zz, View.ld_unit_zero zz, View.ld_unit_zero zz]
  rw [truncf_apply, addf_apply, mulf_apply, mulf_apply, mulf_apply, brow, brow, brow, bcol, addf_apply, md_row M 0 (by decide), md_row M 1 (by decide), M.x, M.g1]
  refine (congrArg (fun q => A.x (ρ r) j * Ideal.rsqrt q * A.g1 j * (Ideal.ofBits .f32 0x3F800000#32 + A.md 1 j) + A.md 0 j) (ms_row B.x r)).trans ?_
  rw [bits_one]
  simp only [M.x]
  rfl

end Cert.ForeBlock

end
-- ==== Proof.ForeValue.lean ====
/- The value of `_mixer_fwd`: what its run leaves in the projection of the normed rows is what the reference computes. -/
module

public import proofs.«01_k».proof.Defs
public import proofs.«01_k».proof.Proof.ForeBlock
public import proofs.«01_k».proof.Proof.ForeFrame
public import Idealize.ShloMosaic.Lib.Pipeline.Value
public import Idealize.ShloMosaic.Lib.Pipeline.ArrRel
public import Idealize.ShloMosaic.Lib.Pipeline.ValueKit.Geometry
public import Idealize.ShloMosaic.Lib.ValueLayoutCasts
public import Idealize.ShloMosaic.Lib.KernelVsHost

@[expose] public section

set_option maxRecDepth 16384

noncomputable section

namespace Cert.ForeValue

open Idealize.ShloMosaic Idealize.ShloMosaic.ValueIdx Idealize.ShloMosaic.TcCoe Idealize.SL.Sem Cert.Reals Cert.ForeRef
open Cert.MlpSpec hiding Args
open Cert.ForeIdeal Cert.ForeIdeal.Gen Cert.ForeRun Cert.ForeHost Cert.ForeFrame Cert.ForeBlock
open Idealize.ShloMosaic.Pipeline (Dat RDat Window)
open scoped BigOperators

variable (m : (ℓ : Loc nD τ sig) → Buf (Elt Ideal) ℓ) (c : Dev nD)

/-! ## The host lines before the region -/

/-- The buffers after the first `n` pieces of the host lines. -/
def first (n : ℕ) : Valuation τ sig (Elt Ideal) := StableHlo.after (List.flatten ((hostLines (F := Ideal)).take n)) fun b => m (c, b)

/-- They still hold the arguments. -/
theorem first_arg (n : ℕ) (b : Ref sig .tc) (hb : b ∈ argRefs) : first m c n (Proc.devRef .tc b) = m ((c : Thread nD τ).loc b) :=
  StableHlo.after_of_forall_not_mem (b := Proc.devRef .tc b) _ _ fun op hop => by
    obtain ⟨l, hl, ho⟩ := List.mem_flatten.1 hop
    exact List.forall_iff_forall_mem.1 (List.forall_iff_forall_mem.1 (lines_keep b hb) l (List.mem_of_mem_take hl)) op ho

/-- The rest of the lines from there. -/
theorem V_rest (n : ℕ) (b : Ref sig .tc) : V m c b
    = StableHlo.after (List.flatten ((hostLines (F := Ideal)).drop n)) (first m c n) (Proc.devRef .tc b) := by
  unfold first
  rw [← StableHlo.after_append, ← List.flatten_append, List.take_append_drop]

theorem V_v57 : V m c main_v57 = shapeCast S2048x1024 (m ((c.tc : Thread nD τ).loc main_arg0) : FVec Ideal S1x2048x1024 .f32) shapeCasts_S1x2048x1024_S2048x1024 := by
  rw [V_rest m c 8, ← first_arg m c 8 main_arg0 (by decide)]
  generalize first m c 8 = f
  show StableHlo.after (List.flatten [hostOps0_8]) _ _ = _
  simp only [hostOps0_8, List.flatten_cons, List.flatten_nil, List.append_nil]
  after_results <;> rfl

theorem V_v56 : V m c main_v56 = truncf (F := Ideal) (φ := .f32) .bf16 (concatenate S8x448x1024 1
    [⟨S8x128x1024, shapeCast S8x128x1024
        (shapeCast S1024x1024 (m ((c.tc : Thread nD τ).loc main_arg15) : FVec Ideal S1x1024x1024 .f32) shapeCasts_S1x1024x1024_S1024x1024)
        shapeCasts_S1024x1024_S8x128x1024⟩,
     ⟨S8x320x1024, shapeCast S8x320x1024 (transpose S2560x1024 [1, 0]
        (shapeCast S1024x2560 (m ((c.tc : Thread nD τ).loc main_arg4) : FVec Ideal S1x1024x2560 .f32) shapeCasts_S1x1024x2560_S1024x2560)
        transposes_S1024x2560_S2560x1024_1_0) shapeCasts_S2560x1024_S8x320x1024⟩]
    concatenates_S8x128x1024_S8x320x1024_S8x448x1024_d1) bitsLt_bf16_f32 := by
  rw [V_rest m c 8, ← first_arg m c 8 main_arg15 (by decide), ← first_arg m c 8 main_arg4 (by decide)]
  generalize first m c 8 = f
  show StableHlo.after (List.flatten [hostOps0_8]) _ _ = _
  simp only [hostOps0_8, List.flatten_cons, List.flatten_nil, List.append_nil]
  after_results <;> rfl

theorem V_v1 : V m c main_v1 = pad S8x1024 ![0, 0] ![2, 0] ![0, 0]
    (shapeCast S6x1024 (m ((c.tc : Thread nD τ).loc main_arg1) : FVec Ideal S1x6144 .f32) shapeCasts_S1x6144_S6x1024)
    (sitofp (F := Ideal) .f32 (constantI S_ 32 0#32)) pads_S6x1024_S8x1024_020_000 h_S_ := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append,
    List.nil_append]
  after_results <;> rfl

theorem V_v3 : V m c main_v3 = pad S8x1024 ![0, 0] ![2, 0] ![0, 0]
    (shapeCast S6x1024 (m ((c.tc : Thread nD τ).loc main_arg2) : FVec Ideal S1x6144 .f32) shapeCasts_S1x6144_S6x1024)
    (sitofp (F := Ideal) .f32 (constantI S_ 32 0#32)) pads_S6x1024_S8x1024_020_000 h_S_ := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append,
    List.nil_append]
  after_results <;> rfl

/-! ## The blocks the body reads -/

/-- The point's row `r` of the whole. -/
def row (t : Fin cfg0.N) (r : Fin 256) : Fin 2048 := ⟨256 * t.val + r.val, by have := lt_of_lt_of_eq t.isLt N_0; omega⟩

theorem idx0_0 : ∀ t : Fin cfg0.N, win0_0.index t 0 = t.val ∧ win0_0.index t 1 = 0 :=
  (by decide +kernel : ∀ t : Fin grid0.N, win0_0.index t 0 = t.val ∧ win0_0.index t 1 = 0)
set_option maxHeartbeats 2000000 in
theorem iblk0 (t : Fin cfg0.N) (r : Fin 256) (j : Fin 1024) : iblk m c 0 t (ix2 r j) = V m c main_v57 (ix2 (row t r) j) := by
  unfold iblk
  show V m c main_v57 ((win0_0.rect t).emb (ix2 r j)) = _
  refine congrArg (V m c main_v57) (funext fun a => Fin.ext ?_)
  rw [Pipeline.Window.rect_emb_val win0_0]
  match a with
  | ⟨0, _⟩ =>
    show win0_0.index t 0 * 256 + r.val = 256 * t.val + r.val
    rw [(idx0_0 t).1]; omega
  | ⟨1, _⟩ =>
    show win0_0.index t 1 * 1024 + j.val = j.val
    rw [(idx0_0 t).2]; omega

theorem iblk1 (t : Fin cfg0.N) : iblk m c 1 t = V m c main_v1 :=
  Memref.read_access_unit_zero (Elt Ideal) main_v1
    (show (fun a => (win0_1.index t) a * main_v1.ty.shape.size a) = fun _ => 0 from
      funext fun a => by revert t; fin_cases a <;> decide) (fun a => by revert t; fin_cases a <;> decide) _
theorem iblk2 (t : Fin cfg0.N) : iblk m c 2 t = V m c main_v3 :=
  Memref.read_access_unit_zero (Elt Ideal) main_v3
    (show (fun a => (win0_2.index t) a * main_v3.ty.shape.size a) = fun _ => 0 from
      funext fun a => by revert t; fin_cases a <;> decide) (fun a => by revert t; fin_cases a <;> decide) _
theorem iblk3 (t : Fin cfg0.N) : iblk m c 3 t = V m c main_arg3 :=
  Memref.read_access_unit_zero (Elt Ideal) main_arg3
    (show (fun a => (win0_3.index t) a * main_arg3.ty.shape.size a) = fun _ => 0 from
      funext fun a => by revert t; fin_cases a <;> decide) (fun a => by revert t; fin_cases a <;> decide) _

/-- The arguments of the run, as the specification takes them. -/
def argsOf : Args := Cert.ForeRef.args (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))

/-- A row of the six modulation rows, padded to eight. -/
theorem pad_row (X : FVec Ideal S1x6144 .f32) (v : FVec Ideal S_ .f32) (k : Fin 6) (j : Fin 1024) :
    pad S8x1024 ![0, 0] ![2, 0] ![0, 0] (shapeCast S6x1024 X shapeCasts_S1x6144_S6x1024) v pads_S6x1024_S8x1024_020_000 h_S_ (ix2 ⟨k.val, by omega⟩ j)
      = X (ix2 0 ⟨k.val * 1024 + j.val, by omega⟩) := by
  refine (pad_apply_of_inside _ _ _ _ _ _ _ _ (ix2 k j) fun a => ?_).trans ?_
  · match a with
    | ⟨0, _⟩ => show k.val = 0 + k.val * (0 + 1); omega
    | ⟨1, _⟩ => show j.val = 0 + j.val * (0 + 1); omega
  · refine shapeCast_apply _ _ _ _ ?_
    rw [Shape.rowMajor_val_two, Shape.rowMajor_val_two]
    show 0 * 6144 + (k.val * 1024 + j.val) = k.val * 1024 + j.val
    omega

theorem matches_at (t : Fin cfg0.N) : Matches (insAt m c t) (argsOf m c) (row t) where
  x r j := by
    unfold insAt; dsimp only
    refine (iblk0 m c t r j).trans ?_
    rw [V_v57]
    exact shapeCast_1ab_ab_apply (a := 2048) (b := 1024) _ _ (row t r) j
  md k j := by
    unfold insAt; dsimp only
    refine congrArg₂ (· + ·) ((congrFun (iblk1 m c t) _).trans ?_) ((congrFun (iblk2 m c t) _).trans ?_)
    · rw [V_v1]; exact pad_row _ _ k j
    · rw [V_v3]; exact pad_row _ _ k j
  g1 j := by
    unfold insAt; dsimp only
    exact (congrFun (iblk3 m c t) _).trans (congrFun (V_arg m c main_arg3 (by decide)) _)

/-- The pack's second part: the weight transposed. -/
theorem w_apply (k : Fin 2560) (j : Fin 1024) : winOf (V m c main_v56) (ix2 k j) = (argsOf m c).w j k := by
  show V m c main_v56 (ix3 ⟨k.val / 320, _⟩ ⟨128 + k.val % 320, _⟩ j) = _
  rw [V_v56, truncf_apply]
  refine (concatenate_pair_apply_right (t := S8x448x1024) (s₁ := S8x128x1024) (s₂ := S8x320x1024) 1 _ _ _ _ rfl rfl
    (ix3 ⟨k.val / 320, by omega⟩ ⟨k.val % 320, by omega⟩ j)
    (fun b hb => match b, hb with | ⟨0, _⟩, _ => rfl | ⟨1, _⟩, hb => absurd rfl hb | ⟨2, _⟩, _ => rfl)
    (by show k.val % 320 + 128 = 128 + k.val % 320; omega)).trans ?_
  refine (shapeCast_apply _ _ _ (ix2 k j) ?_).trans ?_
  · rw [Shape.rowMajor_val_two, Shape.rowMajor_val_three]
    show k.val * 1024 + j.val = ((k.val / 320) * 320 + k.val % 320) * 1024 + j.val
    omega
  · refine (transpose_ix2_apply (a := 1024) (b := 2560) _ _ k j).trans ?_
    exact shapeCast_1ab_ab_apply (a := 1024) (b := 2560) _ _ j k

theorem projAt_apply (t : Fin cfg0.N) (r : Fin 256) (k : Fin 2560) : projAt m c t (ix2 r k) = (argsOf m c).proj (row t r) k := by
  unfold projAt
  rw [View.ld_unit_zero zz]
  exact proj_apply (matches_at m c t) _ (w_apply m c) r k

/-! ## The result array -/

section Arrays
variable {m}
variable (after : (w : Fin cfg0.W) → Fin cfg0.N → (cfg0.win w).block.Idx → Elt Ideal (cfg0.win w).elt)
  (h : ∀ (w : Fin cfg0.W) (u : Fin cfg0.N), (cfg0.win w).flush u = true → (rdat m c).Leaves w u (after w u))
include h

omit h in
theorem idx0_15 : ∀ t : Fin cfg0.N, win0_15.index t 0 = t.val ∧ win0_15.index t 1 = 0 :=
  (by decide +kernel : ∀ t : Fin grid0.N, win0_15.index t 0 = t.val ∧ win0_15.index t 1 = 0)
theorem after_15 (t : Fin cfg0.N) : after 15 t = projAt m c t := by
  obtain ⟨Y, -, hX⟩ := h 15 t (flush0_15 t)
  exact eq_of_heq (hX.2 rfl)
theorem array15 : ((rdat m c).withAfter after).arrAt 15 cfg0.N = fun i : S2048x2560.Idx => (argsOf m c).proj (i 0) (i 1) := by
  refine ((rdat m c).withAfter after).arrAt_eq_of_cover 15 _ (fun t _ => ?_) fun i => ?_
  · funext x
    revert x
    refine forall_ix2 fun r k => ?_
    refine (congrFun (after_15 c after h t) (ix2 r k)).trans ((projAt_apply m c t r k).trans ?_)
    show _ = (fun i : S2048x2560.Idx => (argsOf m c).proj (i 0) (i 1)) ((win0_15.rect t).emb (ix2 r k))
    refine congrArg₂ (argsOf m c).proj (Fin.ext ?_) (Fin.ext ?_)
    · rw [Pipeline.Window.rect_emb_val win0_15]
      show 256 * t.val + r.val = win0_15.index t 0 * 256 + r.val; rw [(idx0_15 t).1]; omega
    · rw [Pipeline.Window.rect_emb_val win0_15]
      show k.val = win0_15.index t 1 * 2560 + k.val; rw [(idx0_15 t).2]; omega
  · have h0 : (i 0).val < 2048 := (i 0).isLt
    have h1 : (i 1).val < 2560 := (i 1).isLt
    let t : Fin cfg0.N := ⟨(i 0).val / 256, lt_of_lt_of_eq (by omega) N_0.symm⟩
    refine ⟨t, flush0_15 t, ?_⟩
    refine (ValueKit.mem_set_slice_whole_iff main_v58_0 (win0_15.rect t) i (Pipeline.Window.mem_rect_iff win0_15 t i)).2 fun a => ?_
    match a with
    | ⟨0, _⟩ =>
      show win0_15.index t 0 * 256 ≤ (i 0).val ∧ (i 0).val < win0_15.index t 0 * 256 + 256
      rw [(idx0_15 t).1]
      show (i 0).val / 256 * 256 ≤ _ ∧ _ < (i 0).val / 256 * 256 + 256
      omega
    | ⟨1, _⟩ =>
      show win0_15.index t 1 * 2560 ≤ (i 1).val ∧ (i 1).val < win0_15.index t 1 * 2560 + 2560
      rw [(idx0_15 t).2]
      omega

end Arrays

/-! ## The claim -/

theorem fore_value : Cert.algebraic_ForeIdeal_ForeRefIdeal := by
  intro m g m' g' _ hagree
  refine ⟨fun c i => (argsOf m c).proj (i 0) (i 1), ?_, ?_⟩
  · refine (θ_run _ _ _).mono (fun r h c => ?_) (run_main (F := Ideal) m g)
    obtain ⟨after, hL, hA⟩ := RDat.ArrAt.exists_exact_all (h.1 c).1
    exact ⟨(hA 15).trans (array15 c after fun w u hf => hL w u u.isLt hf), args_kept m r h.1 c⟩
  · refine (θ_run _ _ _).mono (fun r h c => ?_) (Cert.ForeRefIdeal.Value.run (F := Ideal) m' g')
    obtain ⟨e0, e1, e2, e3, e4, -⟩ := hagree c
    have E : argsOf m c = Cert.ForeRef.args
        (m' ((c.tc : Thread Cert.ForeRefIdeal.nD Cert.ForeRefIdeal.τ).loc Cert.ForeRefIdeal.main_arg0))
        (m' ((c.tc : Thread Cert.ForeRefIdeal.nD Cert.ForeRefIdeal.τ).loc Cert.ForeRefIdeal.main_arg1))
        (m' ((c.tc : Thread Cert.ForeRefIdeal.nD Cert.ForeRefIdeal.τ).loc Cert.ForeRefIdeal.main_arg2))
        (m' ((c.tc : Thread Cert.ForeRefIdeal.nD Cert.ForeRefIdeal.τ).loc Cert.ForeRefIdeal.main_arg3))
        (m' ((c.tc : Thread Cert.ForeRefIdeal.nD Cert.ForeRefIdeal.τ).loc Cert.ForeRefIdeal.main_arg4)) := by
      rw [e0, e1, e2, e3, e4]; rfl
    obtain ⟨v, kept⟩ := h c
    clear e0 e1 e2 e3 e4
    refine ⟨v.trans ?_, kept⟩
    exact (Cert.ForeRefIdeal.Read.val_main_v32_eq _ _ _ _ _).trans
      ((Cert.ForeRef.v32_eq _ _ _ _ _).trans (congrArg (fun (A : Args) (i : S2048x2560.Idx) => A.proj (i 0) (i 1)) E.symm))

end Cert.ForeValue

end
-- ==== Proof.ProdValue.lean ====
/- The value of a plain product: the gradient of `w_in`, by blocks of 512 rows of the transposed result. -/
module

public import proofs.«01_k».proof.Defs
public import proofs.«01_k».proof.Proof.Reals
public import proofs.«01_k».proof.Proof.Gen.ProdIdeal.Value
public import proofs.«01_k».proof.Proof.Gen.ProdIdeal.Points
public import proofs.«01_k».proof.Proof.Gen.ProdRefIdeal.Run
public import proofs.«01_k».proof.Proof.Gen.ProdRefIdeal.Read
public import Idealize.ShloMosaic.Lib.Pipeline.Value
public import Idealize.ShloMosaic.Lib.Pipeline.ValueKit.Geometry
public import Idealize.ShloMosaic.Lib.KernelVsHost

@[expose] public section

set_option maxRecDepth 16384

noncomputable section

namespace Cert.ProdValue

open Idealize.ShloMosaic Idealize.ShloMosaic.ValueIdx Idealize.ShloMosaic.TcCoe Idealize.SL.Sem Cert.Reals
open Idealize.ShloMosaic.Pipeline (Dat)
open scoped BigOperators

/-- The gradient of the weight at an output column and an input column: the sum over the rows. -/
def grad (h : FVec Ideal Cert.ProdIdeal.S1x2048x1024 .f32) (d : FVec Ideal Cert.ProdIdeal.S1x2048x2560 .f32) :
    Cert.ProdIdeal.S2560x1024.Idx → EReal :=
  fun i => ∑ s : Fin 2048, d (ix3 0 s (i 0)) * h (ix3 0 s (i 1))

section Ref
open Cert.ProdRefIdeal Cert.ProdRefIdeal.Gen Cert.ProdRefIdeal.Read

theorem dot_apply (d : FVec Ideal S1x2048x2560 .f32) (h : FVec Ideal S1x2048x1024 .f32) (q : Fin 2560) (j : Fin 1024) :
    Host.dotGeneral dot_S1x2048x2560_S1x2048x1024_S2560x1024_01_01_2_2_n_n none d h (ix2 q j)
      = ∑ s : Fin 2048, d (ix3 0 s q) * h (ix3 0 s j) := by
  simp only [Host.dotGeneral]
  rw [Ideal.dotGeneral_apply, sum_contr2 _ 1 2048 rfl rfl rfl]
  rw [Fin.sum_univ_one]
  refine Finset.sum_congr rfl fun s _ => ?_
  have h0 := contrEquiv2_symm_val0 dot_S1x2048x2560_S1x2048x1024_S2560x1024_01_01_2_2_n_n 1 2048 rfl rfl rfl (0, s)
  have h1 := contrEquiv2_symm_val1 dot_S1x2048x2560_S1x2048x1024_S2560x1024_01_01_2_2_n_n 1 2048 rfl rfl rfl (0, s)
  generalize (contrEquiv2 dot_S1x2048x2560_S1x2048x1024_S2560x1024_01_01_2_2_n_n 1 2048 rfl rfl rfl).symm (0, s) = k at h0 h1 ⊢
  congr 1
  · refine congrArg d (funext fun a => Fin.ext ?_)
    match a with
    | ⟨0, _⟩ => exact h0
    | ⟨1, _⟩ => exact h1
    | ⟨2, _⟩ => rfl
  · refine congrArg h (funext fun a => Fin.ext ?_)
    match a with
    | ⟨0, _⟩ => exact h0
    | ⟨1, _⟩ => exact h1
    | ⟨2, _⟩ => rfl

theorem ref_apply (h : FVec Ideal S1x2048x1024 .f32) (d : FVec Ideal S1x2048x2560 .f32) : val_main_v6 (F := Ideal) h d = grad h d := by
  funext i
  revert i
  refine forall_ix2 fun q j => ?_
  rw [val_main_v6_apply, val_main_v5_apply, val_main_v4_apply, val_main_v3_apply]
  unfold val_main_v2
  rw [show idx_main_v3 (idx_main_v4 (idx_main_v5 (idx_main_v6 (ix2 q j)))) = ix2 q j from funext fun a => Fin.ext (by
    match a with
    | ⟨0, _⟩ => show (j.val * 2560 + q.val) % 2560 = q.val; omega
    | ⟨1, _⟩ => show (j.val * 2560 + q.val) / 2560 % 1024 = j.val; omega)]
  exact dot_apply d h q j

end Ref

section Kernel
open Cert.ProdIdeal Cert.ProdIdeal.Gen

variable (m : (ℓ : Loc nD τ sig) → Buf (Elt Ideal) ℓ) (c : Dev nD)

theorem V_v2 : V m c main_v2 = truncf (F := Ideal) (φ := .f32) .bf16 (transpose S2560x2048 [1, 0]
    (shapeCast S2048x2560 (m ((c.tc : Thread nD τ).loc main_arg2) : FVec Ideal S1x2048x2560 .f32) shapeCasts_S1x2048x2560_S2048x2560)
    transposes_S2048x2560_S2560x2048_1_0) bitsLt_bf16_f32 := by
  show StableHlo.after hostOps0 _ _ = _
  after_results <;> rfl

theorem V_v4 : V m c main_v4 = truncf (F := Ideal) (φ := .f32) .bf16
    (shapeCast S2048x1024 (m ((c.tc : Thread nD τ).loc main_arg0) : FVec Ideal S1x2048x1024 .f32) shapeCasts_S1x2048x1024_S2048x1024) bitsLt_bf16_f32 := by
  show StableHlo.after hostOps0 _ _ = _
  after_results <;> rfl

theorem D_apply (q : Fin 2560) (s : Fin 2048) : V m c main_v2 (ix2 q s) = m ((c : Thread nD τ).loc main_arg2) (ix3 0 s q) := by
  rw [V_v2, truncf_apply]
  refine (transpose_ix2_apply (a := 2048) (b := 2560) _ _ q s).trans ?_
  exact shapeCast_1ab_ab_apply (a := 2048) (b := 2560) _ _ s q

theorem H_apply (s : Fin 2048) (j : Fin 1024) : V m c main_v4 (ix2 s j) = m ((c : Thread nD τ).loc main_arg0) (ix3 0 s j) := by
  rw [V_v4, truncf_apply]
  exact shapeCast_1ab_ab_apply (a := 2048) (b := 1024) _ _ s j

theorem zz : (![0, 0] : Fin 2 → Nat) = fun _ => 0 := by funext a; match a with | ⟨0, _⟩ => rfl | ⟨1, _⟩ => rfl

/-- The block of a point: its rows of the product. -/
theorem out_apply (X : FVec Ideal S512x2048 .bf16) (Y : FVec Ideal S2048x1024 .bf16) (r : Fin 512) (j : Fin 1024) :
    out0_2 (F := Ideal) X Y (ix2 r j) = ∑ s : Fin 2048, X (ix2 r s) * Y (ix2 s j) := by
  unfold out0_2 k0_pay1
  rw [View.ld_unit_zero zz, View.ld_unit_zero zz]
  refine (congrFun (View.canon_cons_unit_zero zz _ _ _) _).trans ?_
  simp only [shapeCast_self]
  refine (Ideal.matmul_plain_apply (M := 512) (K := 2048) (N := 1024) none X Y (constant (F := Ideal) S512x1024 .f32 0x00000000#32) r j).trans ?_
  rw [constant_apply, ofBits_zero, zero_add]

/-- The point's row `r` of the whole. -/
def row (t : Fin cfg0.N) (r : Fin 512) : Fin 2560 := ⟨512 * t.val + r.val, by have := lt_of_lt_of_eq t.isLt N_0; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

theorem read0 (t : Fin cfg0.N) (r : Fin 512) (s : Fin 2048) : iblk m c 0 t (ix2 r s) = V m c main_v2 (ix2 (row t r) s) := by
  show V m c main_v2 ((win0_0.rect t).emb (ix2 r s)) = _
  refine congrArg (V m c main_v2) (funext fun a => Fin.ext ?_)
  rw [Pipeline.Window.rect_emb_val win0_0]
  match a with
  | ⟨0, _⟩ => show win0_0.index t 0 * 512 + r.val = 512 * t.val + r.val; rw [(index0 t).1]; omega
  | ⟨1, _⟩ => show win0_0.index t 1 * 2048 + s.val = s.val; rw [(index0 t).2]; omega

theorem read1 (t : Fin cfg0.N) : iblk m c 1 t = V m c main_v4 :=
  Memref.read_access_unit_zero (Elt Ideal) main_v4
    (show (fun a => (win0_1.index t) a * main_v4.ty.shape.size a) = fun _ => 0 from
      funext fun a => by revert t; fin_cases a <;> decide) (fun a => by revert t; fin_cases a <;> decide) _

theorem array2 : (dats m 0 c).arrAt 2 cfg0.N
    = grad (m ((c : Thread nD τ).loc main_arg0)) (m ((c : Thread nD τ).loc main_arg2)) := by
  refine (dats m 0 c).arrAt_eq_of_cover 2 _ (fun t _ => ?_) fun i => ?_
  · funext x
    revert x
    refine forall_ix2 fun r j => ?_
    refine ((congrFun (after0_2 m c t) (ix2 r j)).trans (out_apply _ _ r j)).trans ?_
    rw [read1]
    have e : (win0_2.rect t).emb (ix2 r j) = ix2 (row t r) j := funext fun a => Fin.ext (by
      rw [Pipeline.Window.rect_emb_val win0_2]
      match a with
      | ⟨0, _⟩ => show win0_2.index t 0 * 512 + r.val = 512 * t.val + r.val; rw [(index2 t).1]; omega
      | ⟨1, _⟩ => show win0_2.index t 1 * 1024 + j.val = j.val; rw [(index2 t).2]; omega)
    refine Eq.trans ?_ (congrArg (grad (m ((c : Thread nD τ).loc main_arg0)) (m ((c : Thread nD τ).loc main_arg2))) e).symm
    refine (Finset.sum_congr rfl fun s _ => ?_ : (∑ s : Fin 2048, id (α := EReal) (iblk m c 0 t (ix2 r s)) * id (α := EReal) (V m c main_v4 (ix2 s j)))
      = grad (m ((c : Thread nD τ).loc main_arg0)) (m ((c : Thread nD τ).loc main_arg2)) (ix2 (row t r) j))
    rw [read0, D_apply, H_apply]
    rfl
  · have h0 : (i 0).val < 2560 := (i 0).isLt
    have h1 : (i 1).val < 1024 := (i 1).isLt
    let t : Fin cfg0.N := ⟨(i 0).val / 512, lt_of_lt_of_eq (by omega) N_0.symm⟩
    refine ⟨t, flush0_2 t, ?_⟩
    refine (ValueKit.mem_set_slice_whole_iff main_v5 (win0_2.rect t) i (Pipeline.Window.mem_rect_iff win0_2 t i)).2 fun a => ?_
    match a with
    | ⟨0, _⟩ =>
      show win0_2.index t 0 * 512 ≤ (i 0).val ∧ (i 0).val < win0_2.index t 0 * 512 + 512
      rw [(index2 t).1]
      show (i 0).val / 512 * 512 ≤ _ ∧ _ < (i 0).val / 512 * 512 + 512
      omega
    | ⟨1, _⟩ =>
      show win0_2.index t 1 * 1024 ≤ (i 1).val ∧ (i 1).val < win0_2.index t 1 * 1024 + 1024
      rw [(index2 t).2]
      omega

end Kernel

/-- The kernel's product and the reference's gradient are equal. -/
theorem prod_value : Cert.algebraic_ProdIdeal_ProdRefIdeal := by
  intro m g m' g' _ hagree
  refine ⟨fun c => (Cert.ProdIdeal.Gen.dats m 0 c).arrAt 2 Cert.ProdIdeal.cfg0.N, Cert.ProdIdeal.Value.run_blocks m g, ?_⟩
  refine (θ_run _ _ _).mono (fun r h c => ?_) (Cert.ProdRefIdeal.Value.run (F := Ideal) m' g')
  obtain ⟨e0, e1, e2⟩ := hagree c
  refine ⟨(h c).1.trans ?_, (h c).2⟩
  rw [Cert.ProdRefIdeal.Read.val_main_v6_eq, e0, e2]
  exact (ref_apply _ _).trans (array2 m c).symm

end Cert.ProdValue

end
-- ==== Proof.AdamValue.lean ====
/- The value of the optimiser's step: four arrays taken block by block of 256 rows, each entry of the results a function
   of the four entries at its place. -/
module

public import proofs.«01_k».proof.Defs
public import proofs.«01_k».proof.Proof.Gen.AdamIdeal.Value
public import proofs.«01_k».proof.Proof.Gen.AdamIdeal.Points
public import proofs.«01_k».proof.Proof.Gen.AdamRefIdeal.Run
public import proofs.«01_k».proof.Proof.Gen.AdamRefIdeal.Read
public import proofs.«01_k».proof.Proof.Reals
public import Idealize.ShloMosaic.Lib.Pipeline.Value
public import Idealize.ShloMosaic.Lib.Pipeline.ValueKit.Geometry
public import Idealize.ShloMosaic.Lib.KernelVsHost

@[expose] public section

set_option maxRecDepth 16384

noncomputable section

namespace Cert.AdamValue

open Idealize.ShloMosaic Idealize.ShloMosaic.ValueIdx Idealize.ShloMosaic.TcCoe Idealize.SL.Sem Cert.Reals
open Cert.AdamIdeal Cert.AdamIdeal.Gen
open Idealize.ShloMosaic.Pipeline (Dat)

/-! ## One entry -/

/-- The new first moment, from the gradient and the old one. -/
def mom (g v : EReal) : EReal := Ideal.ofBits .f32 0x3F666666#32 * v + Ideal.ofBits .f32 0x3DCCCCCD#32 * g

/-- The new second moment. -/
def var (g v : EReal) : EReal := Ideal.ofBits .f32 0x3F7FBE77#32 * v + Ideal.ofBits .f32 0x3A83126F#32 * (g * g)

/-- The step of the weight. -/
def delta (w g a b : EReal) : EReal := Ideal.ofBits .f32 0xBA83126F#32 *
  (Ideal.div (Ideal.div (mom g a) (Ideal.ofBits .f32 0x3F26BD02#32))
      (FloatOps.sqrt (F := Ideal) (φ := .f32) (Ideal.div (var g b) (Ideal.ofBits .f32 0x3C231ACC#32)) + Ideal.ofBits .f32 0x322BCC77#32)
    + Ideal.ofBits .f32 0x3C23D70A#32 * w)

variable (x0 x1 x2 x3 : FVec Ideal S256x320 .f32) (y : S256x320.Idx)

theorem zz : (![0, 0] : Fin 2 → Nat) = fun _ => 0 := by funext a; match a with | ⟨0, _⟩ => rfl | ⟨1, _⟩ => rfl

theorem out5 : out0_5 (F := Ideal) x0 x1 x2 x3 y = mom (x1 y) (x2 y) := by
  unfold out0_5 k0_pay1
  rw [View.ld_unit_zero zz, View.ld_unit_zero zz]
  refine (congrFun (View.canon_cons_unit_zero zz _ _ _) y).trans ?_
  simp only [shapeCast_self]
  rfl

theorem out6 : out0_6 (F := Ideal) x0 x1 x2 x3 y = var (x1 y) (x3 y) := by
  unfold out0_6 k0_pay2
  rw [View.ld_unit_zero zz, View.ld_unit_zero zz]
  refine (congrFun (View.canon_cons_unit_zero zz _ _ _) y).trans ?_
  simp only [shapeCast_self]
  rfl

theorem out4 : out0_4 (F := Ideal) x0 x1 x2 x3 y = delta (x0 y) (x1 y) (x2 y) (x3 y) := by
  unfold out0_4 k0_pay3 k0_pay1 k0_pay2
  rw [View.ld_unit_zero zz, View.ld_unit_zero zz, View.ld_unit_zero zz, View.ld_unit_zero zz]
  refine (congrFun (View.canon_cons_unit_zero zz _ _ _) y).trans ?_
  simp only [shapeCast_self]
  rfl

/-! ## The arrays -/

variable (m : (ℓ : Loc nD τ sig) → Buf (Elt Ideal) ℓ) (c : Dev nD)

theorem index : ∀ t : Fin cfg0.N, win0_0.index t 0 = t.val ∧ win0_0.index t 1 = 0 :=
  (by decide +kernel : ∀ t : Fin grid0.N, win0_0.index t 0 = t.val ∧ win0_0.index t 1 = 0)

/-- Every entry of the whole lies in the block of its row's point. -/
theorem found (i : S1024x320.Idx) : ∃ t : Fin cfg0.N, ∀ a, win0_0.index t a * S256x320.size a ≤ (i a).val
    ∧ (i a).val < win0_0.index t a * S256x320.size a + S256x320.size a := by
  have h0 : (i 0).val < 1024 := (i 0).isLt
  have h1 : (i 1).val < 320 := (i 1).isLt
  let t : Fin cfg0.N := ⟨(i 0).val / 256, lt_of_lt_of_eq (by omega) N_0.symm⟩
  refine ⟨t, fun a => ?_⟩
  match a with
  | ⟨0, _⟩ =>
    show win0_0.index t 0 * 256 ≤ (i 0).val ∧ (i 0).val < win0_0.index t 0 * 256 + 256
    rw [(index t).1]
    show (i 0).val / 256 * 256 ≤ _ ∧ _ < (i 0).val / 256 * 256 + 256
    omega
  | ⟨1, _⟩ =>
    show win0_0.index t 1 * 320 ≤ (i 1).val ∧ (i 1).val < win0_0.index t 1 * 320 + 320
    rw [(index t).2]
    omega

/-- The three results as whole arrays. -/
def steps : S1024x320.Idx → EReal := fun i => delta (V m c main_v0 i) (V m c main_arg1 i) (V m c main_v1 i) (V m c main_v2 i)
def moms : S1024x320.Idx → EReal := fun i => mom (V m c main_arg1 i) (V m c main_v1 i)
def vars : S1024x320.Idx → EReal := fun i => var (V m c main_arg1 i) (V m c main_v2 i)

/-! Every operand and result is cut alike, so that a block's entry and the array's at its place are functions of the same four. -/

theorem array4 : (dats m 0 c).arrAt 4 cfg0.N = steps m c :=
  (dats m 0 c).arrAt_eq_of_cover 4 _ (fun t _ => funext fun x => (congrFun (after0_4 m c t) x).trans (out4 _ _ _ _ x)) fun i =>
    let ⟨t, h⟩ := found i
    ⟨t, flush0_4 t, (ValueKit.mem_set_slice_whole_iff main_v3_0 (win0_4.rect t) i (Pipeline.Window.mem_rect_iff win0_4 t i)).2 h⟩

theorem array5 : (dats m 0 c).arrAt 5 cfg0.N = moms m c :=
  (dats m 0 c).arrAt_eq_of_cover 5 _ (fun t _ => funext fun x => (congrFun (after0_5 m c t) x).trans (out5 _ _ _ _ x)) fun i =>
    let ⟨t, h⟩ := found i
    ⟨t, flush0_5 t, (ValueKit.mem_set_slice_whole_iff main_v3_1 (win0_5.rect t) i (Pipeline.Window.mem_rect_iff win0_5 t i)).2 h⟩

theorem array6 : (dats m 0 c).arrAt 6 cfg0.N = vars m c :=
  (dats m 0 c).arrAt_eq_of_cover 6 _ (fun t _ => funext fun x => (congrFun (after0_6 m c t) x).trans (out6 _ _ _ _ x)) fun i =>
    let ⟨t, h⟩ := found i
    ⟨t, flush0_6 t, (ValueKit.mem_set_slice_whole_iff main_v3_2 (win0_6.rect t) i (Pipeline.Window.mem_rect_iff win0_6 t i)).2 h⟩

/-! ## The host lines, and the reference -/

theorem V_v0 : V m c main_v0 = shapeCast S1024x320 (m ((c.tc : Thread nD τ).loc main_arg0) : FVec Ideal S1x1024x320 .f32) shapeCasts_S1x1024x320_S1024x320 := by
  show StableHlo.after hostOps0 _ _ = _
  after_results <;> rfl
theorem V_v1 : V m c main_v1 = shapeCast S1024x320 (m ((c.tc : Thread nD τ).loc main_arg2) : FVec Ideal S1x1024x320 .f32) shapeCasts_S1x1024x320_S1024x320 := by
  show StableHlo.after hostOps0 _ _ = _
  after_results <;> rfl
theorem V_v2 : V m c main_v2 = shapeCast S1024x320 (m ((c.tc : Thread nD τ).loc main_arg3) : FVec Ideal S1x1024x320 .f32) shapeCasts_S1x1024x320_S1024x320 := by
  show StableHlo.after hostOps0 _ _ = _
  after_results <;> rfl

section Ref
open Cert.AdamRefIdeal.Read

variable (w a b : FVec Ideal S1x1024x320 .f32) (g : FVec Ideal S1024x320 .f32) (i : S1024x320.Idx)

theorem ref_mom : val_main_v5 (F := Ideal) g a i = mom (g i) (val_main_v0 (F := Ideal) a i) := by
  rw [val_main_v5_apply, val_main_v2_apply, val_main_v4_apply, val_main_v1_apply, val_main_v3_apply]
  rfl

theorem ref_var : val_main_v12 (F := Ideal) g b i = var (g i) (val_main_v6 (F := Ideal) b i) := by
  rw [val_main_v12_apply, val_main_v8_apply, val_main_v11_apply, val_main_v9_apply, val_main_v7_apply, val_main_v10_apply]
  rfl

theorem ref_delta : val_main_v26 (F := Ideal) w g a b i
    = delta (val_main_v21 (F := Ideal) w i) (g i) (val_main_v0 (F := Ideal) a i) (val_main_v6 (F := Ideal) b i) := by
  rw [val_main_v26_apply, val_main_v24_apply, val_main_v20_apply, val_main_v14_apply, val_main_v19_apply, val_main_v17_apply, val_main_v16_apply,
    val_main_v23_apply, val_main_v25_apply, val_main_v13_apply, val_main_v18_apply, val_main_v15_apply, val_main_v22_apply, ref_mom, ref_var]
  rfl

end Ref

/-- The kernel's step and moments and the reference's are equal, entry by entry. -/
theorem adam_value : Cert.algebraic_AdamIdeal_AdamRefIdeal := by
  intro m g m' g' _ hagree
  refine ⟨fun c => (dats m 0 c).arrAt 4 cfg0.N, fun c => (dats m 0 c).arrAt 5 cfg0.N, fun c => (dats m 0 c).arrAt 6 cfg0.N,
    Cert.AdamIdeal.Value.run_blocks m g, ?_⟩
  refine (θ_run _ _ _).mono (fun r h c => ?_) (Cert.AdamRefIdeal.Value.run (F := Ideal) m' g')
  obtain ⟨e0, e1, e2, e3⟩ := hagree c
  obtain ⟨h0, h1, h2, h3⟩ := h c
  refine ⟨h0.trans ?_, h1.trans ?_, h2.trans ?_, h3⟩
  · rw [Cert.AdamRefIdeal.Read.val_main_v26_eq, e0, e1, e2, e3]
    refine Eq.trans ?_ (array4 m c).symm
    funext i
    unfold steps
    rw [V_v0, V_v1, V_v2, V_main_arg1]
    exact ref_delta _ _ _ _ i
  · rw [Cert.AdamRefIdeal.Read.val_main_v5_eq, e1, e2]
    refine Eq.trans ?_ (array5 m c).symm
    funext i
    unfold moms
    rw [V_v1, V_main_arg1]
    exact ref_mom _ _ i
  · rw [Cert.AdamRefIdeal.Read.val_main_v12_eq, e1, e3]
    refine Eq.trans ?_ (array6 m c).symm
    funext i
    unfold vars
    rw [V_v2, V_main_arg1]
    exact ref_var _ _ i

end Cert.AdamValue

end
-- ==== Proof.lean ====
module

public import proofs.«01_k».proof.Defs
public import proofs.«01_k».proof.Proof.Gen.Gate.Points
public import proofs.«01_k».proof.Proof.Gen.Gate.Frame
public import proofs.«01_k».proof.Proof.Gen.GateIdeal.Points
public import proofs.«01_k».proof.Proof.Gen.GateIdeal.Frame
public import proofs.«01_k».proof.Proof.GateValue
public import proofs.«01_k».proof.Proof.MlpFrame
public import proofs.«01_k».proof.Proof.MlpValue
public import proofs.«01_k».proof.Proof.OddValue
public import proofs.«01_k».proof.Proof.EvenValue
public import proofs.«01_k».proof.Proof.MixerFrame
public import proofs.«01_k».proof.Proof.MixerValue
public import proofs.«01_k».proof.Proof.ForeFrame
public import proofs.«01_k».proof.Proof.ForeValue
public import proofs.«01_k».proof.Proof.ProdValue
public import proofs.«01_k».proof.Proof.AdamValue
public import proofs.«01_k».proof.Proof.Gen.Mlp
public import proofs.«01_k».proof.Proof.Gen.Odd
public import proofs.«01_k».proof.Proof.Gen.Even
public import proofs.«01_k».proof.Proof.Gen.Mixer
public import proofs.«01_k».proof.Proof.Gen.Fore
public import proofs.«01_k».proof.Proof.Gen.Prod.Frame
public import proofs.«01_k».proof.Proof.Gen.ProdIdeal.Frame
public import proofs.«01_k».proof.Proof.Gen.Adam.Frame
public import proofs.«01_k».proof.Proof.Gen.AdamIdeal.Frame
public import Idealize.ShloMosaic.Adequacy
public import Idealize.ShloMosaic.Init

@[expose] public section

noncomputable section

namespace Cert.Proof

open Idealize.ShloMosaic Idealize.SL.Sem Cert.Gate

/-- The reference is host code alone: its run keeps the arguments, and it declares no counter. -/
theorem frame_gateRef : Cert.quiescent_GateRefIdeal := fun m ρ _ =>
  (θ_run Cert.GateRefIdeal.defs _ _).mono
    (fun r h => ⟨fun c => (h c).2, sem_eq_zero_of_no_sems (by decide) r.2⟩) (Cert.GateRefIdeal.Value.run (F := Ideal) m ρ)

theorem frame_mlpRef : Cert.quiescent_MlpRefIdeal := fun m ρ _ =>
  (θ_run Cert.MlpRefIdeal.defs _ _).mono
    (fun r h => ⟨fun c => (h c).2.2.2.2.2.2, sem_eq_zero_of_no_sems (by decide) r.2⟩) (Cert.MlpRefIdeal.Value.run (F := Ideal) m ρ)

/-- The run over machine floats: its text is the idealized program's, over another interpretation. -/
theorem frame_mlp : Cert.quiescent_Mlp := fun m ρ _ =>
  cast (by sl_kernel_rfl) (Cert.MlpFrame.frame (F := Bits) m ρ)

theorem frame_oddRef : Cert.quiescent_OddRefIdeal := fun m ρ _ =>
  (θ_run Cert.OddRefIdeal.defs _ _).mono
    (fun r h => ⟨fun c => (h c).2.2.2, sem_eq_zero_of_no_sems (by decide) r.2⟩) (Cert.OddRefIdeal.Value.run (F := Ideal) m ρ)

theorem frame_evenRef : Cert.quiescent_EvenRefIdeal := fun m ρ _ =>
  (θ_run Cert.EvenRefIdeal.defs _ _).mono
    (fun r h => ⟨fun c => (h c).2.2.2, sem_eq_zero_of_no_sems (by decide) r.2⟩) (Cert.EvenRefIdeal.Value.run (F := Ideal) m ρ)

theorem frame_odd : Cert.quiescent_Odd := fun m ρ _ =>
  cast (by sl_kernel_rfl) (Cert.OddFrame.frame (F := Bits) m ρ)

theorem frame_even : Cert.quiescent_Even := fun m ρ _ =>
  cast (by sl_kernel_rfl) (Cert.EvenFrame.frame (F := Bits) m ρ)

theorem frame_mixer : Cert.quiescent_Mixer := fun m ρ _ =>
  cast (by sl_kernel_rfl) (Cert.MixerFrame.frame (F := Bits) m ρ)

theorem frame_mixerRef : Cert.quiescent_MixerRefIdeal := fun m ρ _ =>
  (θ_run Cert.MixerRefIdeal.defs _ _).mono
    (fun r h => ⟨fun c => (h c).2.2.2.2, sem_eq_zero_of_no_sems (by decide) r.2⟩) (Cert.MixerRefIdeal.Value.run (F := Ideal) m ρ)

theorem frame_fore : Cert.quiescent_Fore := fun m ρ _ =>
  cast (by sl_kernel_rfl) (Cert.ForeFrame.frame (F := Bits) m ρ)

theorem frame_foreRef : Cert.quiescent_ForeRefIdeal := fun m ρ _ =>
  (θ_run Cert.ForeRefIdeal.defs _ _).mono
    (fun r h => ⟨fun c => (h c).2, sem_eq_zero_of_no_sems (by decide) r.2⟩) (Cert.ForeRefIdeal.Value.run (F := Ideal) m ρ)

theorem frame_prodRef : Cert.quiescent_ProdRefIdeal := fun m ρ _ =>
  (θ_run Cert.ProdRefIdeal.defs _ _).mono
    (fun r h => ⟨fun c => (h c).2, sem_eq_zero_of_no_sems (by decide) r.2⟩) (Cert.ProdRefIdeal.Value.run (F := Ideal) m ρ)

theorem frame_adamRef : Cert.quiescent_AdamRefIdeal := fun m ρ _ =>
  (θ_run Cert.AdamRefIdeal.defs _ _).mono
    (fun r h => ⟨fun c => (h c).2.2.2, sem_eq_zero_of_no_sems (by decide) r.2⟩) (Cert.AdamRefIdeal.Value.run (F := Ideal) m ρ)

theorem claim : Cert.Claim := ⟨Cert.Gate.Gen.facts, Cert.GateIdeal.Gen.facts, Cert.GateRefIdeal.Gen.facts, Cert.Mlp.Gen.facts,
  Cert.MlpIdeal.Gen.facts, Cert.MlpRefIdeal.Gen.facts, Cert.Odd.Gen.facts, Cert.OddIdeal.Gen.facts, Cert.OddRefIdeal.Gen.facts,
  Cert.Even.Gen.facts, Cert.EvenIdeal.Gen.facts, Cert.EvenRefIdeal.Gen.facts, Cert.Mixer.Gen.facts,
  Cert.MixerIdeal.Gen.facts, Cert.MixerRefIdeal.Gen.facts, Cert.Fore.Gen.facts, Cert.ForeIdeal.Gen.facts, Cert.ForeRefIdeal.Gen.facts,
  Cert.Prod.Gen.facts, Cert.ProdIdeal.Gen.facts, Cert.ProdRefIdeal.Gen.facts, Cert.Adam.Gen.facts, Cert.AdamIdeal.Gen.facts, Cert.AdamRefIdeal.Gen.facts,
  Cert.Pre_gate_finite.Gen.facts, Cert.Pre_mlp_finite.Gen.facts,
  Cert.Pre_mixer_finite.Gen.facts,
  fun m ρ _ => Cert.Gate.Gen.frame m ρ, fun m ρ _ => Cert.GateIdeal.Gen.frame m ρ, fun m ρ _ => Cert.GateIdeal.Gen.frame m ρ,
  frame_gateRef, fun m ρ _ => frame_gateRef m ρ trivial,
  frame_mlp, fun m ρ _ => Cert.MlpFrame.frame m ρ, fun m ρ _ => Cert.MlpFrame.frame m ρ,
  frame_mlpRef, fun m ρ _ => frame_mlpRef m ρ trivial,
  frame_odd, fun m ρ _ => Cert.OddFrame.frame m ρ, frame_oddRef,
  frame_even, fun m ρ _ => Cert.EvenFrame.frame m ρ, frame_evenRef,
  frame_mixer, fun m ρ _ => Cert.MixerFrame.frame m ρ, fun m ρ _ => Cert.MixerFrame.frame m ρ,
  frame_mixerRef, fun m ρ _ => frame_mixerRef m ρ trivial,
  frame_fore, fun m ρ _ => Cert.ForeFrame.frame m ρ, frame_foreRef,
  fun m ρ _ => Cert.Prod.Gen.frame m ρ, fun m ρ _ => Cert.ProdIdeal.Gen.frame m ρ, frame_prodRef,
  fun m ρ _ => Cert.Adam.Gen.frame m ρ, fun m ρ _ => Cert.AdamIdeal.Gen.frame m ρ, frame_adamRef,
  trivial, Cert.GateValue.gate_value, trivial, Cert.MlpValue.mlp_value,
  trivial, Cert.OddValue.odd_value, trivial, Cert.EvenValue.even_value, trivial, Cert.MixerValue.mixer_value,
  trivial, Cert.ForeValue.fore_value, trivial, Cert.ProdValue.prod_value, trivial, Cert.AdamValue.adam_value⟩

end Cert.Proof

end
